-- ==== Defs.lean ====
def Pre_SbGate (m : (ℓ : Loc Cert.SbGate.nD Cert.SbGate.τ Cert.SbGate.sig) → Buf (Elt Bits) ℓ) : Prop :=
  True

def Pre_SbGateIdeal (m : (ℓ : Loc Cert.SbGateIdeal.nD Cert.SbGateIdeal.τ Cert.SbGateIdeal.sig) → Buf (Elt Ideal) ℓ) : Prop :=
  True

def Pre_SbGateIdeal_gate_finite [hPre_gate_finite : Cert.Pre_gate_finite.Facts] (m : (ℓ : Loc Cert.SbGateIdeal.nD Cert.SbGateIdeal.τ Cert.SbGateIdeal.sig) → Buf (Elt Ideal) ℓ) : Prop :=
  ∀ c : Dev Cert.SbGateIdeal.nD,
    (Cert.Pre_gate_finite.fn (F := Ideal) (m ((c.tc : Thread Cert.SbGateIdeal.nD Cert.SbGateIdeal.τ).loc Cert.SbGateIdeal.main_arg0)) (m ((c.tc : Thread Cert.SbGateIdeal.nD Cert.SbGateIdeal.τ).loc Cert.SbGateIdeal.main_arg1)) (m ((c.tc : Thread Cert.SbGateIdeal.nD Cert.SbGateIdeal.τ).loc Cert.SbGateIdeal.main_arg2)) (m ((c.tc : Thread Cert.SbGateIdeal.nD Cert.SbGateIdeal.τ).loc Cert.SbGateIdeal.main_arg3))) = (fun _ => 1#1)

def Pre_SbGateRefIdeal (m : (ℓ : Loc Cert.SbGateRefIdeal.nD Cert.SbGateRefIdeal.τ Cert.SbGateRefIdeal.sig) → Buf (Elt Ideal) ℓ) : Prop :=
  True

def Pre_SbGateRefIdeal_gate_finite [hPre_gate_finite : Cert.Pre_gate_finite.Facts] (m : (ℓ : Loc Cert.SbGateRefIdeal.nD Cert.SbGateRefIdeal.τ Cert.SbGateRefIdeal.sig) → Buf (Elt Ideal) ℓ) : Prop :=
  ∀ c : Dev Cert.SbGateRefIdeal.nD,
    (Cert.Pre_gate_finite.fn (F := Ideal) (m ((c.tc : Thread Cert.SbGateRefIdeal.nD Cert.SbGateRefIdeal.τ).loc Cert.SbGateRefIdeal.main_arg0)) (m ((c.tc : Thread Cert.SbGateRefIdeal.nD Cert.SbGateRefIdeal.τ).loc Cert.SbGateRefIdeal.main_arg1)) (m ((c.tc : Thread Cert.SbGateRefIdeal.nD Cert.SbGateRefIdeal.τ).loc Cert.SbGateRefIdeal.main_arg2)) (m ((c.tc : Thread Cert.SbGateRefIdeal.nD Cert.SbGateRefIdeal.τ).loc Cert.SbGateRefIdeal.main_arg3))) = (fun _ => 1#1)

def Pre_SbGrad (m : (ℓ : Loc Cert.SbGrad.nD Cert.SbGrad.τ Cert.SbGrad.sig) → Buf (Elt Bits) ℓ) : Prop :=
  True

def Pre_SbGradIdeal (m : (ℓ : Loc Cert.SbGradIdeal.nD Cert.SbGradIdeal.τ Cert.SbGradIdeal.sig) → Buf (Elt Ideal) ℓ) : Prop :=
  True

def Pre_SbGradIdeal_attn_finite [hPre_attn_finite : Cert.Pre_attn_finite.Facts] (m : (ℓ : Loc Cert.SbGradIdeal.nD Cert.SbGradIdeal.τ Cert.SbGradIdeal.sig) → Buf (Elt Ideal) ℓ) : Prop :=
  ∀ c : Dev Cert.SbGradIdeal.nD,
    (Cert.Pre_attn_finite.fn (F := Ideal) (m ((c.tc : Thread Cert.SbGradIdeal.nD Cert.SbGradIdeal.τ).loc Cert.SbGradIdeal.main_arg0)) (m ((c.tc : Thread Cert.SbGradIdeal.nD Cert.SbGradIdeal.τ).loc Cert.SbGradIdeal.main_arg1)) (m ((c.tc : Thread Cert.SbGradIdeal.nD Cert.SbGradIdeal.τ).loc Cert.SbGradIdeal.main_arg2))) = (fun _ => 1#1)

def Pre_SbGradRefIdeal (m : (ℓ : Loc Cert.SbGradRefIdeal.nD Cert.SbGradRefIdeal.τ Cert.SbGradRefIdeal.sig) → Buf (Elt Ideal) ℓ) : Prop :=
  True

def Pre_SbGradRefIdeal_attn_finite [hPre_attn_finite : Cert.Pre_attn_finite.Facts] (m : (ℓ : Loc Cert.SbGradRefIdeal.nD Cert.SbGradRefIdeal.τ Cert.SbGradRefIdeal.sig) → Buf (Elt Ideal) ℓ) : Prop :=
  ∀ c : Dev Cert.SbGradRefIdeal.nD,
    (Cert.Pre_attn_finite.fn (F := Ideal) (m ((c.tc : Thread Cert.SbGradRefIdeal.nD Cert.SbGradRefIdeal.τ).loc Cert.SbGradRefIdeal.main_arg0)) (m ((c.tc : Thread Cert.SbGradRefIdeal.nD Cert.SbGradRefIdeal.τ).loc Cert.SbGradRefIdeal.main_arg1)) (m ((c.tc : Thread Cert.SbGradRefIdeal.nD Cert.SbGradRefIdeal.τ).loc Cert.SbGradRefIdeal.main_arg2))) = (fun _ => 1#1)

def Pre_PoolGate (m : (ℓ : Loc Cert.PoolGate.nD Cert.PoolGate.τ Cert.PoolGate.sig) → Buf (Elt Bits) ℓ) : Prop :=
  True

def Pre_PoolGateIdeal (m : (ℓ : Loc Cert.PoolGateIdeal.nD Cert.PoolGateIdeal.τ Cert.PoolGateIdeal.sig) → Buf (Elt Ideal) ℓ) : Prop :=
  True

def Pre_PoolGateIdeal_pgate_finite [hPre_pgate_finite : Cert.Pre_pgate_finite.Facts] (m : (ℓ : Loc Cert.PoolGateIdeal.nD Cert.PoolGateIdeal.τ Cert.PoolGateIdeal.sig) → Buf (Elt Ideal) ℓ) : Prop :=
  ∀ c : Dev Cert.PoolGateIdeal.nD,
    (Cert.Pre_pgate_finite.fn (F := Ideal) (m ((c.tc : Thread Cert.PoolGateIdeal.nD Cert.PoolGateIdeal.τ).loc Cert.PoolGateIdeal.main_arg0)) (m ((c.tc : Thread Cert.PoolGateIdeal.nD Cert.PoolGateIdeal.τ).loc Cert.PoolGateIdeal.main_arg1)) (m ((c.tc : Thread Cert.PoolGateIdeal.nD Cert.PoolGateIdeal.τ).loc Cert.PoolGateIdeal.main_arg2)) (m ((c.tc : Thread Cert.PoolGateIdeal.nD Cert.PoolGateIdeal.τ).loc Cert.PoolGateIdeal.main_arg3)) (m ((c.tc : Thread Cert.PoolGateIdeal.nD Cert.PoolGateIdeal.τ).loc Cert.PoolGateIdeal.main_arg4))) = (fun _ => 1#1)

def Pre_PoolGateRefIdeal (m : (ℓ : Loc Cert.PoolGateRefIdeal.nD Cert.PoolGateRefIdeal.τ Cert.PoolGateRefIdeal.sig) → Buf (Elt Ideal) ℓ) : Prop :=
  True

def Pre_PoolGateRefIdeal_pgate_finite [hPre_pgate_finite : Cert.Pre_pgate_finite.Facts] (m : (ℓ : Loc Cert.PoolGateRefIdeal.nD Cert.PoolGateRefIdeal.τ Cert.PoolGateRefIdeal.sig) → Buf (Elt Ideal) ℓ) : Prop :=
  ∀ c : Dev Cert.PoolGateRefIdeal.nD,
    (Cert.Pre_pgate_finite.fn (F := Ideal) (m ((c.tc : Thread Cert.PoolGateRefIdeal.nD Cert.PoolGateRefIdeal.τ).loc Cert.PoolGateRefIdeal.main_arg0)) (m ((c.tc : Thread Cert.PoolGateRefIdeal.nD Cert.PoolGateRefIdeal.τ).loc Cert.PoolGateRefIdeal.main_arg1)) (m ((c.tc : Thread Cert.PoolGateRefIdeal.nD Cert.PoolGateRefIdeal.τ).loc Cert.PoolGateRefIdeal.main_arg2)) (m ((c.tc : Thread Cert.PoolGateRefIdeal.nD Cert.PoolGateRefIdeal.τ).loc Cert.PoolGateRefIdeal.main_arg3)) (m ((c.tc : Thread Cert.PoolGateRefIdeal.nD Cert.PoolGateRefIdeal.τ).loc Cert.PoolGateRefIdeal.main_arg4))) = (fun _ => 1#1)

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadIdeal_loss_finite [hPre_loss_finite : Cert.Pre_loss_finite.Facts] (m : (ℓ : Loc Cert.LossHeadIdeal.nD Cert.LossHeadIdeal.τ Cert.LossHeadIdeal.sig) → Buf (Elt Ideal) ℓ) : Prop :=
  ∀ c : Dev Cert.LossHeadIdeal.nD,
    (Cert.Pre_loss_finite.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2)) (m ((c.tc : Thread Cert.LossHeadIdeal.nD Cert.LossHeadIdeal.τ).loc Cert.LossHeadIdeal.main_arg3)) (m ((c.tc : Thread Cert.LossHeadIdeal.nD Cert.LossHeadIdeal.τ).loc Cert.LossHeadIdeal.main_arg4))) = (fun _ => 1#1)

def Pre_LossHeadRefIdeal (m : (ℓ : Loc Cert.LossHeadRefIdeal.nD Cert.LossHeadRefIdeal.τ Cert.LossHeadRefIdeal.sig) → Buf (Elt Ideal) ℓ) : Prop :=
  True

def Pre_LossHeadRefIdeal_loss_finite [hPre_loss_finite : Cert.Pre_loss_finite.Facts] (m : (ℓ : Loc Cert.LossHeadRefIdeal.nD Cert.LossHeadRefIdeal.τ Cert.LossHeadRefIdeal.sig) → Buf (Elt Ideal) ℓ) : Prop :=
  ∀ c : Dev Cert.LossHeadRefIdeal.nD,
    (Cert.Pre_loss_finite.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2)) (m ((c.tc : Thread Cert.LossHeadRefIdeal.nD Cert.LossHeadRefIdeal.τ).loc Cert.LossHeadRefIdeal.main_arg3)) (m ((c.tc : Thread Cert.LossHeadRefIdeal.nD Cert.LossHeadRefIdeal.τ).loc Cert.LossHeadRefIdeal.main_arg4))) = (fun _ => 1#1)

def Pre_PoolGrad (m : (ℓ : Loc Cert.PoolGrad.nD Cert.PoolGrad.τ Cert.PoolGrad.sig) → Buf (Elt Bits) ℓ) : Prop :=
  True

def Pre_PoolGradIdeal (m : (ℓ : Loc Cert.PoolGradIdeal.nD Cert.PoolGradIdeal.τ Cert.PoolGradIdeal.sig) → Buf (Elt Ideal) ℓ) : Prop :=
  True

def Pre_PoolGradIdeal_poolb_finite [hPre_poolb_finite : Cert.Pre_poolb_finite.Facts] (m : (ℓ : Loc Cert.PoolGradIdeal.nD Cert.PoolGradIdeal.τ Cert.PoolGradIdeal.sig) → Buf (Elt Ideal) ℓ) : Prop :=
  ∀ c : Dev Cert.PoolGradIdeal.nD,
    (Cert.Pre_poolb_finite.fn (F := Ideal) (m ((c.tc : Thread Cert.PoolGradIdeal.nD Cert.PoolGradIdeal.τ).loc Cert.PoolGradIdeal.main_arg0)) (m ((c.tc : Thread Cert.PoolGradIdeal.nD Cert.PoolGradIdeal.τ).loc Cert.PoolGradIdeal.main_arg1)) (m ((c.tc : Thread Cert.PoolGradIdeal.nD Cert.PoolGradIdeal.τ).loc Cert.PoolGradIdeal.main_arg2)) (m ((c.tc : Thread Cert.PoolGradIdeal.nD Cert.PoolGradIdeal.τ).loc Cert.PoolGradIdeal.main_arg3))) = (fun _ => 1#1)

def Pre_PoolGradRefIdeal (m : (ℓ : Loc Cert.PoolGradRefIdeal.nD Cert.PoolGradRefIdeal.τ Cert.PoolGradRefIdeal.sig) → Buf (Elt Ideal) ℓ) : Prop :=
  True

def Pre_PoolGradRefIdeal_poolb_finite [hPre_poolb_finite : Cert.Pre_poolb_finite.Facts] (m : (ℓ : Loc Cert.PoolGradRefIdeal.nD Cert.PoolGradRefIdeal.τ Cert.PoolGradRefIdeal.sig) → Buf (Elt Ideal) ℓ) : Prop :=
  ∀ c : Dev Cert.PoolGradRefIdeal.nD,
    (Cert.Pre_poolb_finite.fn (F := Ideal) (m ((c.tc : Thread Cert.PoolGradRefIdeal.nD Cert.PoolGradRefIdeal.τ).loc Cert.PoolGradRefIdeal.main_arg0)) (m ((c.tc : Thread Cert.PoolGradRefIdeal.nD Cert.PoolGradRefIdeal.τ).loc Cert.PoolGradRefIdeal.main_arg1)) (m ((c.tc : Thread Cert.PoolGradRefIdeal.nD Cert.PoolGradRefIdeal.τ).loc Cert.PoolGradRefIdeal.main_arg2)) (m ((c.tc : Thread Cert.PoolGradRefIdeal.nD Cert.PoolGradRefIdeal.τ).loc Cert.PoolGradRefIdeal.main_arg3))) = (fun _ => 1#1)

def Pre_NormGrad (m : (ℓ : Loc Cert.NormGrad.nD Cert.NormGrad.τ Cert.NormGrad.sig) → Buf (Elt Bits) ℓ) : Prop :=
  True

def Pre_NormGradIdeal (m : (ℓ : Loc Cert.NormGradIdeal.nD Cert.NormGradIdeal.τ Cert.NormGradIdeal.sig) → Buf (Elt Ideal) ℓ) : Prop :=
  True

def Pre_NormGradIdeal_rmsb_finite [hPre_rmsb_finite : Cert.Pre_rmsb_finite.Facts] (m : (ℓ : Loc Cert.NormGradIdeal.nD Cert.NormGradIdeal.τ Cert.NormGradIdeal.sig) → Buf (Elt Ideal) ℓ) : Prop :=
  ∀ c : Dev Cert.NormGradIdeal.nD,
    (Cert.Pre_rmsb_finite.fn (F := Ideal) (m ((c.tc : Thread Cert.NormGradIdeal.nD Cert.NormGradIdeal.τ).loc Cert.NormGradIdeal.main_arg0)) (m ((c.tc : Thread Cert.NormGradIdeal.nD Cert.NormGradIdeal.τ).loc Cert.NormGradIdeal.main_arg1)) (m ((c.tc : Thread Cert.NormGradIdeal.nD Cert.NormGradIdeal.τ).loc Cert.NormGradIdeal.main_arg2)) (m ((c.tc : Thread Cert.NormGradIdeal.nD Cert.NormGradIdeal.τ).loc Cert.NormGradIdeal.main_arg3)) (m ((c.tc : Thread Cert.NormGradIdeal.nD Cert.NormGradIdeal.τ).loc Cert.NormGradIdeal.main_arg4))) = (fun _ => 1#1)

def Pre_NormGradRefIdeal (m : (ℓ : Loc Cert.NormGradRefIdeal.nD Cert.NormGradRefIdeal.τ Cert.NormGradRefIdeal.sig) → Buf (Elt Ideal) ℓ) : Prop :=
  True

def Pre_NormGradRefIdeal_rmsb_finite [hPre_rmsb_finite : Cert.Pre_rmsb_finite.Facts] (m : (ℓ : Loc Cert.NormGradRefIdeal.nD Cert.NormGradRefIdeal.τ Cert.NormGradRefIdeal.sig) → Buf (Elt Ideal) ℓ) : Prop :=
  ∀ c : Dev Cert.NormGradRefIdeal.nD,
    (Cert.Pre_rmsb_finite.fn (F := Ideal) (m ((c.tc : Thread Cert.NormGradRefIdeal.nD Cert.NormGradRefIdeal.τ).loc Cert.NormGradRefIdeal.main_arg0)) (m ((c.tc : Thread Cert.NormGradRefIdeal.nD Cert.NormGradRefIdeal.τ).loc Cert.NormGradRefIdeal.main_arg1)) (m ((c.tc : Thread Cert.NormGradRefIdeal.nD Cert.NormGradRefIdeal.τ).loc Cert.NormGradRefIdeal.main_arg2)) (m ((c.tc : Thread Cert.NormGradRefIdeal.nD Cert.NormGradRefIdeal.τ).loc Cert.NormGradRefIdeal.main_arg3)) (m ((c.tc : Thread Cert.NormGradRefIdeal.nD Cert.NormGradRefIdeal.τ).loc Cert.NormGradRefIdeal.main_arg4))) = (fun _ => 1#1)

def Pre_SbForward (m : (ℓ : Loc Cert.SbForward.nD Cert.SbForward.τ Cert.SbForward.sig) → Buf (Elt Bits) ℓ) : Prop :=
  True

def Pre_SbForwardIdeal (m : (ℓ : Loc Cert.SbForwardIdeal.nD Cert.SbForwardIdeal.τ Cert.SbForwardIdeal.sig) → Buf (Elt Ideal) ℓ) : Prop :=
  True

def Pre_SbForwardIdeal_afwd_finite [hPre_afwd_finite : Cert.Pre_afwd_finite.Facts] (m : (ℓ : Loc Cert.SbForwardIdeal.nD Cert.SbForwardIdeal.τ Cert.SbForwardIdeal.sig) → Buf (Elt Ideal) ℓ) : Prop :=
  ∀ c : Dev Cert.SbForwardIdeal.nD,
    (Cert.Pre_afwd_finite.fn (F := Ideal) (m ((c.tc : Thread Cert.SbForwardIdeal.nD Cert.SbForwardIdeal.τ).loc Cert.SbForwardIdeal.main_arg0))) = (fun _ => 1#1)

def Pre_SbForwardRefIdeal (m : (ℓ : Loc Cert.SbForwardRefIdeal.nD Cert.SbForwardRefIdeal.τ Cert.SbForwardRefIdeal.sig) → Buf (Elt Ideal) ℓ) : Prop :=
  True

def Pre_SbForwardRefIdeal_afwd_finite [hPre_afwd_finite : Cert.Pre_afwd_finite.Facts] (m : (ℓ : Loc Cert.SbForwardRefIdeal.nD Cert.SbForwardRefIdeal.τ Cert.SbForwardRefIdeal.sig) → Buf (Elt Ideal) ℓ) : Prop :=
  ∀ c : Dev Cert.SbForwardRefIdeal.nD,
    (Cert.Pre_afwd_finite.fn (F := Ideal) (m ((c.tc : Thread Cert.SbForwardRefIdeal.nD Cert.SbForwardRefIdeal.τ).loc Cert.SbForwardRefIdeal.main_arg0))) = (fun _ => 1#1)

def Pre_PoolForward (m : (ℓ : Loc Cert.PoolForward.nD Cert.PoolForward.τ Cert.PoolForward.sig) → Buf (Elt Bits) ℓ) : Prop :=
  True

def Pre_PoolForwardIdeal (m : (ℓ : Loc Cert.PoolForwardIdeal.nD Cert.PoolForwardIdeal.τ Cert.PoolForwardIdeal.sig) → Buf (Elt Ideal) ℓ) : Prop :=
  True

def Pre_PoolForwardIdeal_pfwd_finite [hPre_pfwd_finite : Cert.Pre_pfwd_finite.Facts] (m : (ℓ : Loc Cert.PoolForwardIdeal.nD Cert.PoolForwardIdeal.τ Cert.PoolForwardIdeal.sig) → Buf (Elt Ideal) ℓ) : Prop :=
  ∀ c : Dev Cert.PoolForwardIdeal.nD,
    (Cert.Pre_pfwd_finite.fn (F := Ideal) (m ((c.tc : Thread Cert.PoolForwardIdeal.nD Cert.PoolForwardIdeal.τ).loc Cert.PoolForwardIdeal.main_arg0)) (m ((c.tc : Thread Cert.PoolForwardIdeal.nD Cert.PoolForwardIdeal.τ).loc Cert.PoolForwardIdeal.main_arg1)) (m ((c.tc : Thread Cert.PoolForwardIdeal.nD Cert.PoolForwardIdeal.τ).loc Cert.PoolForwardIdeal.main_arg2))) = (fun _ => 1#1)

def Pre_PoolForwardRefIdeal (m : (ℓ : Loc Cert.PoolForwardRefIdeal.nD Cert.PoolForwardRefIdeal.τ Cert.PoolForwardRefIdeal.sig) → Buf (Elt Ideal) ℓ) : Prop :=
  True

def Pre_PoolForwardRefIdeal_pfwd_finite [hPre_pfwd_finite : Cert.Pre_pfwd_finite.Facts] (m : (ℓ : Loc Cert.PoolForwardRefIdeal.nD Cert.PoolForwardRefIdeal.τ Cert.PoolForwardRefIdeal.sig) → Buf (Elt Ideal) ℓ) : Prop :=
  ∀ c : Dev Cert.PoolForwardRefIdeal.nD,
    (Cert.Pre_pfwd_finite.fn (F := Ideal) (m ((c.tc : Thread Cert.PoolForwardRefIdeal.nD Cert.PoolForwardRefIdeal.τ).loc Cert.PoolForwardRefIdeal.main_arg0)) (m ((c.tc : Thread Cert.PoolForwardRefIdeal.nD Cert.PoolForwardRefIdeal.τ).loc Cert.PoolForwardRefIdeal.main_arg1)) (m ((c.tc : Thread Cert.PoolForwardRefIdeal.nD Cert.PoolForwardRefIdeal.τ).loc Cert.PoolForwardRefIdeal.main_arg2))) = (fun _ => 1#1)

def Pre_NormForward (m : (ℓ : Loc Cert.NormForward.nD Cert.NormForward.τ Cert.NormForward.sig) → Buf (Elt Bits) ℓ) : Prop :=
  True

def Pre_NormForwardIdeal (m : (ℓ : Loc Cert.NormForwardIdeal.nD Cert.NormForwardIdeal.τ Cert.NormForwardIdeal.sig) → Buf (Elt Ideal) ℓ) : Prop :=
  True

def Pre_NormForwardRefIdeal (m : (ℓ : Loc Cert.NormForwardRefIdeal.nD Cert.NormForwardRefIdeal.τ Cert.NormForwardRefIdeal.sig) → Buf (Elt Ideal) ℓ) : Prop :=
  True

def quiescent_SbGate [hSbGate : Cert.SbGate.Facts] : Prop :=
  ∀ (m : (ℓ : Loc Cert.SbGate.nD Cert.SbGate.τ Cert.SbGate.sig) → Buf (Elt Bits) ℓ) (g : Dev Cert.SbGate.nD → PrngReg), Pre_SbGate m →
    θ_run (Cert.SbGate.defs (F := Bits)) (onTc (τ := Cert.SbGate.τ) (Cert.SbGate.main (F := Bits))) ⟨m, fun _ => 0, g⟩ (fun r => (∀ c : Dev Cert.SbGate.nD,
      r.2.mem ((c.tc : Thread Cert.SbGate.nD Cert.SbGate.τ).loc Cert.SbGate.main_arg0) = m ((c.tc : Thread Cert.SbGate.nD Cert.SbGate.τ).loc Cert.SbGate.main_arg0)
      ∧ r.2.mem ((c.tc : Thread Cert.SbGate.nD Cert.SbGate.τ).loc Cert.SbGate.main_arg1) = m ((c.tc : Thread Cert.SbGate.nD Cert.SbGate.τ).loc Cert.SbGate.main_arg1)
      ∧ r.2.mem ((c.tc : Thread Cert.SbGate.nD Cert.SbGate.τ).loc Cert.SbGate.main_arg2) = m ((c.tc : Thread Cert.SbGate.nD Cert.SbGate.τ).loc Cert.SbGate.main_arg2)
      ∧ r.2.mem ((c.tc : Thread Cert.SbGate.nD Cert.SbGate.τ).loc Cert.SbGate.main_arg3) = m ((c.tc : Thread Cert.SbGate.nD Cert.SbGate.τ).loc Cert.SbGate.main_arg3))
      ∧ r.2.sem = fun _ => 0)

def quiescent_SbGateIdeal [hSbGateIdeal : Cert.SbGateIdeal.Facts] : Prop :=
  ∀ (m : (ℓ : Loc Cert.SbGateIdeal.nD Cert.SbGateIdeal.τ Cert.SbGateIdeal.sig) → Buf (Elt Ideal) ℓ) (g : Dev Cert.SbGateIdeal.nD → PrngReg), Pre_SbGateIdeal m →
    θ_run (Cert.SbGateIdeal.defs (F := Ideal)) (onTc (τ := Cert.SbGateIdeal.τ) (Cert.SbGateIdeal.main (F := Ideal))) ⟨m, fun _ => 0, g⟩ (fun r => (∀ c : Dev Cert.SbGateIdeal.nD,
      r.2.mem ((c.tc : Thread Cert.SbGateIdeal.nD Cert.SbGateIdeal.τ).loc Cert.SbGateIdeal.main_arg0) = m ((c.tc : Thread Cert.SbGateIdeal.nD Cert.SbGateIdeal.τ).loc Cert.SbGateIdeal.main_arg0)
      ∧ r.2.mem ((c.tc : Thread Cert.SbGateIdeal.nD Cert.SbGateIdeal.τ).loc Cert.SbGateIdeal.main_arg1) = m ((c.tc : Thread Cert.SbGateIdeal.nD Cert.SbGateIdeal.τ).loc Cert.SbGateIdeal.main_arg1)
      ∧ r.2.mem ((c.tc : Thread Cert.SbGateIdeal.nD Cert.SbGateIdeal.τ).loc Cert.SbGateIdeal.main_arg2) = m ((c.tc : Thread Cert.SbGateIdeal.nD Cert.SbGateIdeal.τ).loc Cert.SbGateIdeal.main_arg2)
      ∧ r.2.mem ((c.tc : Thread Cert.SbGateIdeal.nD Cert.SbGateIdeal.τ).loc Cert.SbGateIdeal.main_arg3) = m ((c.tc : Thread Cert.SbGateIdeal.nD Cert.SbGateIdeal.τ).loc Cert.SbGateIdeal.main_arg3))
      ∧ r.2.sem = fun _ => 0)

def quiescent_SbGateIdeal_pre_gate_finite [hSbGateIdeal : Cert.SbGateIdeal.Facts] [hPre_gate_finite : Cert.Pre_gate_finite.Facts] : Prop :=
  ∀ (m : (ℓ : Loc Cert.SbGateIdeal.nD Cert.SbGateIdeal.τ Cert.SbGateIdeal.sig) → Buf (Elt Ideal) ℓ) (g : Dev Cert.SbGateIdeal.nD → PrngReg), Pre_SbGateIdeal_gate_finite m →
    θ_run (Cert.SbGateIdeal.defs (F := Ideal)) (onTc (τ := Cert.SbGateIdeal.τ) (Cert.SbGateIdeal.main (F := Ideal))) ⟨m, fun _ => 0, g⟩ (fun r => (∀ c : Dev Cert.SbGateIdeal.nD,
      r.2.mem ((c.tc : Thread Cert.SbGateIdeal.nD Cert.SbGateIdeal.τ).loc Cert.SbGateIdeal.main_arg0) = m ((c.tc : Thread Cert.SbGateIdeal.nD Cert.SbGateIdeal.τ).loc Cert.SbGateIdeal.main_arg0)
      ∧ r.2.mem ((c.tc : Thread Cert.SbGateIdeal.nD Cert.SbGateIdeal.τ).loc Cert.SbGateIdeal.main_arg1) = m ((c.tc : Thread Cert.SbGateIdeal.nD Cert.SbGateIdeal.τ).loc Cert.SbGateIdeal.main_arg1)
      ∧ r.2.mem ((c.tc : Thread Cert.SbGateIdeal.nD Cert.SbGateIdeal.τ).loc Cert.SbGateIdeal.main_arg2) = m ((c.tc : Thread Cert.SbGateIdeal.nD Cert.SbGateIdeal.τ).loc Cert.SbGateIdeal.main_arg2)
      ∧ r.2.mem ((c.tc : Thread Cert.SbGateIdeal.nD Cert.SbGateIdeal.τ).loc Cert.SbGateIdeal.main_arg3) = m ((c.tc : Thread Cert.SbGateIdeal.nD Cert.SbGateIdeal.τ).loc Cert.SbGateIdeal.main_arg3))
      ∧ r.2.sem = fun _ => 0)

def quiescent_SbGateRefIdeal [hSbGateRefIdeal : Cert.SbGateRefIdeal.Facts] : Prop :=
  ∀ (m : (ℓ : Loc Cert.SbGateRefIdeal.nD Cert.SbGateRefIdeal.τ Cert.SbGateRefIdeal.sig) → Buf (Elt Ideal) ℓ) (g : Dev Cert.SbGateRefIdeal.nD → PrngReg), Pre_SbGateRefIdeal m →
    θ_run (Cert.SbGateRefIdeal.defs (F := Ideal)) (onTc (τ := Cert.SbGateRefIdeal.τ) (Cert.SbGateRefIdeal.main (F := Ideal))) ⟨m, fun _ => 0, g⟩ (fun r => (∀ c : Dev Cert.SbGateRefIdeal.nD,
      r.2.mem ((c.tc : Thread Cert.SbGateRefIdeal.nD Cert.SbGateRefIdeal.τ).loc Cert.SbGateRefIdeal.main_arg0) = m ((c.tc : Thread Cert.SbGateRefIdeal.nD Cert.SbGateRefIdeal.τ).loc Cert.SbGateRefIdeal.main_arg0)
      ∧ r.2.mem ((c.tc : Thread Cert.SbGateRefIdeal.nD Cert.SbGateRefIdeal.τ).loc Cert.SbGateRefIdeal.main_arg1) = m ((c.tc : Thread Cert.SbGateRefIdeal.nD Cert.SbGateRefIdeal.τ).loc Cert.SbGateRefIdeal.main_arg1)
      ∧ r.2.mem ((c.tc : Thread Cert.SbGateRefIdeal.nD Cert.SbGateRefIdeal.τ).loc Cert.SbGateRefIdeal.main_arg2) = m ((c.tc : Thread Cert.SbGateRefIdeal.nD Cert.SbGateRefIdeal.τ).loc Cert.SbGateRefIdeal.main_arg2)
      ∧ r.2.mem ((c.tc : Thread Cert.SbGateRefIdeal.nD Cert.SbGateRefIdeal.τ).loc Cert.SbGateRefIdeal.main_arg3) = m ((c.tc : Thread Cert.SbGateRefIdeal.nD Cert.SbGateRefIdeal.τ).loc Cert.SbGateRefIdeal.main_arg3))
      ∧ r.2.sem = fun _ => 0)

def quiescent_SbGateRefIdeal_pre_gate_finite [hSbGateRefIdeal : Cert.SbGateRefIdeal.Facts] [hPre_gate_finite : Cert.Pre_gate_finite.Facts] : Prop :=
  ∀ (m : (ℓ : Loc Cert.SbGateRefIdeal.nD Cert.SbGateRefIdeal.τ Cert.SbGateRefIdeal.sig) → Buf (Elt Ideal) ℓ) (g : Dev Cert.SbGateRefIdeal.nD → PrngReg), Pre_SbGateRefIdeal_gate_finite m →
    θ_run (Cert.SbGateRefIdeal.defs (F := Ideal)) (onTc (τ := Cert.SbGateRefIdeal.τ) (Cert.SbGateRefIdeal.main (F := Ideal))) ⟨m, fun _ => 0, g⟩ (fun r => (∀ c : Dev Cert.SbGateRefIdeal.nD,
      r.2.mem ((c.tc : Thread Cert.SbGateRefIdeal.nD Cert.SbGateRefIdeal.τ).loc Cert.SbGateRefIdeal.main_arg0) = m ((c.tc : Thread Cert.SbGateRefIdeal.nD Cert.SbGateRefIdeal.τ).loc Cert.SbGateRefIdeal.main_arg0)
      ∧ r.2.mem ((c.tc : Thread Cert.SbGateRefIdeal.nD Cert.SbGateRefIdeal.τ).loc Cert.SbGateRefIdeal.main_arg1) = m ((c.tc : Thread Cert.SbGateRefIdeal.nD Cert.SbGateRefIdeal.τ).loc Cert.SbGateRefIdeal.main_arg1)
      ∧ r.2.mem ((c.tc : Thread Cert.SbGateRefIdeal.nD Cert.SbGateRefIdeal.τ).loc Cert.SbGateRefIdeal.main_arg2) = m ((c.tc : Thread Cert.SbGateRefIdeal.nD Cert.SbGateRefIdeal.τ).loc Cert.SbGateRefIdeal.main_arg2)
      ∧ r.2.mem ((c.tc : Thread Cert.SbGateRefIdeal.nD Cert.SbGateRefIdeal.τ).loc Cert.SbGateRefIdeal.main_arg3) = m ((c.tc : Thread Cert.SbGateRefIdeal.nD Cert.SbGateRefIdeal.τ).loc Cert.SbGateRefIdeal.main_arg3))
      ∧ r.2.sem = fun _ => 0)

def quiescent_SbGrad [hSbGrad : Cert.SbGrad.Facts] : Prop :=
  ∀ (m : (ℓ : Loc Cert.SbGrad.nD Cert.SbGrad.τ Cert.SbGrad.sig) → Buf (Elt Bits) ℓ) (g : Dev Cert.SbGrad.nD → PrngReg), Pre_SbGrad m →
    θ_run (Cert.SbGrad.defs (F := Bits)) (onTc (τ := Cert.SbGrad.τ) (Cert.SbGrad.main (F := Bits))) ⟨m, fun _ => 0, g⟩ (fun r => (∀ c : Dev Cert.SbGrad.nD,
      r.2.mem ((c.tc : Thread Cert.SbGrad.nD Cert.SbGrad.τ).loc Cert.SbGrad.main_arg0) = m ((c.tc : Thread Cert.SbGrad.nD Cert.SbGrad.τ).loc Cert.SbGrad.main_arg0)
      ∧ r.2.mem ((c.tc : Thread Cert.SbGrad.nD Cert.SbGrad.τ).loc Cert.SbGrad.main_arg1) = m ((c.tc : Thread Cert.SbGrad.nD Cert.SbGrad.τ).loc Cert.SbGrad.main_arg1)
      ∧ r.2.mem ((c.tc : Thread Cert.SbGrad.nD Cert.SbGrad.τ).loc Cert.SbGrad.main_arg2) = m ((c.tc : Thread Cert.SbGrad.nD Cert.SbGrad.τ).loc Cert.SbGrad.main_arg2))
      ∧ r.2.sem = fun _ => 0)

def quiescent_SbGradIdeal [hSbGradIdeal : Cert.SbGradIdeal.Facts] : Prop :=
  ∀ (m : (ℓ : Loc Cert.SbGradIdeal.nD Cert.SbGradIdeal.τ Cert.SbGradIdeal.sig) → Buf (Elt Ideal) ℓ) (g : Dev Cert.SbGradIdeal.nD → PrngReg), Pre_SbGradIdeal m →
    θ_run (Cert.SbGradIdeal.defs (F := Ideal)) (onTc (τ := Cert.SbGradIdeal.τ) (Cert.SbGradIdeal.main (F := Ideal))) ⟨m, fun _ => 0, g⟩ (fun r => (∀ c : Dev Cert.SbGradIdeal.nD,
      r.2.mem ((c.tc : Thread Cert.SbGradIdeal.nD Cert.SbGradIdeal.τ).loc Cert.SbGradIdeal.main_arg0) = m ((c.tc : Thread Cert.SbGradIdeal.nD Cert.SbGradIdeal.τ).loc Cert.SbGradIdeal.main_arg0)
      ∧ r.2.mem ((c.tc : Thread Cert.SbGradIdeal.nD Cert.SbGradIdeal.τ).loc Cert.SbGradIdeal.main_arg1) = m ((c.tc : Thread Cert.SbGradIdeal.nD Cert.SbGradIdeal.τ).loc Cert.SbGradIdeal.main_arg1)
      ∧ r.2.mem ((c.tc : Thread Cert.SbGradIdeal.nD Cert.SbGradIdeal.τ).loc Cert.SbGradIdeal.main_arg2) = m ((c.tc : Thread Cert.SbGradIdeal.nD Cert.SbGradIdeal.τ).loc Cert.SbGradIdeal.main_arg2))
      ∧ r.2.sem = fun _ => 0)

def quiescent_SbGradIdeal_pre_attn_finite [hSbGradIdeal : Cert.SbGradIdeal.Facts] [hPre_attn_finite : Cert.Pre_attn_finite.Facts] : Prop :=
  ∀ (m : (ℓ : Loc Cert.SbGradIdeal.nD Cert.SbGradIdeal.τ Cert.SbGradIdeal.sig) → Buf (Elt Ideal) ℓ) (g : Dev Cert.SbGradIdeal.nD → PrngReg), Pre_SbGradIdeal_attn_finite m →
    θ_run (Cert.SbGradIdeal.defs (F := Ideal)) (onTc (τ := Cert.SbGradIdeal.τ) (Cert.SbGradIdeal.main (F := Ideal))) ⟨m, fun _ => 0, g⟩ (fun r => (∀ c : Dev Cert.SbGradIdeal.nD,
      r.2.mem ((c.tc : Thread Cert.SbGradIdeal.nD Cert.SbGradIdeal.τ).loc Cert.SbGradIdeal.main_arg0) = m ((c.tc : Thread Cert.SbGradIdeal.nD Cert.SbGradIdeal.τ).loc Cert.SbGradIdeal.main_arg0)
      ∧ r.2.mem ((c.tc : Thread Cert.SbGradIdeal.nD Cert.SbGradIdeal.τ).loc Cert.SbGradIdeal.main_arg1) = m ((c.tc : Thread Cert.SbGradIdeal.nD Cert.SbGradIdeal.τ).loc Cert.SbGradIdeal.main_arg1)
      ∧ r.2.mem ((c.tc : Thread Cert.SbGradIdeal.nD Cert.SbGradIdeal.τ).loc Cert.SbGradIdeal.main_arg2) = m ((c.tc : Thread Cert.SbGradIdeal.nD Cert.SbGradIdeal.τ).loc Cert.SbGradIdeal.main_arg2))
      ∧ r.2.sem = fun _ => 0)

def quiescent_SbGradRefIdeal [hSbGradRefIdeal : Cert.SbGradRefIdeal.Facts] : Prop :=
  ∀ (m : (ℓ : Loc Cert.SbGradRefIdeal.nD Cert.SbGradRefIdeal.τ Cert.SbGradRefIdeal.sig) → Buf (Elt Ideal) ℓ) (g : Dev Cert.SbGradRefIdeal.nD → PrngReg), Pre_SbGradRefIdeal m →
    θ_run (Cert.SbGradRefIdeal.defs (F := Ideal)) (onTc (τ := Cert.SbGradRefIdeal.τ) (Cert.SbGradRefIdeal.main (F := Ideal))) ⟨m, fun _ => 0, g⟩ (fun r => (∀ c : Dev Cert.SbGradRefIdeal.nD,
      r.2.mem ((c.tc : Thread Cert.SbGradRefIdeal.nD Cert.SbGradRefIdeal.τ).loc Cert.SbGradRefIdeal.main_arg0) = m ((c.tc : Thread Cert.SbGradRefIdeal.nD Cert.SbGradRefIdeal.τ).loc Cert.SbGradRefIdeal.main_arg0)
      ∧ r.2.mem ((c.tc : Thread Cert.SbGradRefIdeal.nD Cert.SbGradRefIdeal.τ).loc Cert.SbGradRefIdeal.main_arg1) = m ((c.tc : Thread Cert.SbGradRefIdeal.nD Cert.SbGradRefIdeal.τ).loc Cert.SbGradRefIdeal.main_arg1)
      ∧ r.2.mem ((c.tc : Thread Cert.SbGradRefIdeal.nD Cert.SbGradRefIdeal.τ).loc Cert.SbGradRefIdeal.main_arg2) = m ((c.tc : Thread Cert.SbGradRefIdeal.nD Cert.SbGradRefIdeal.τ).loc Cert.SbGradRefIdeal.main_arg2))
      ∧ r.2.sem = fun _ => 0)

def quiescent_SbGradRefIdeal_pre_attn_finite [hSbGradRefIdeal : Cert.SbGradRefIdeal.Facts] [hPre_attn_finite : Cert.Pre_attn_finite.Facts] : Prop :=
  ∀ (m : (ℓ : Loc Cert.SbGradRefIdeal.nD Cert.SbGradRefIdeal.τ Cert.SbGradRefIdeal.sig) → Buf (Elt Ideal) ℓ) (g : Dev Cert.SbGradRefIdeal.nD → PrngReg), Pre_SbGradRefIdeal_attn_finite m →
    θ_run (Cert.SbGradRefIdeal.defs (F := Ideal)) (onTc (τ := Cert.SbGradRefIdeal.τ) (Cert.SbGradRefIdeal.main (F := Ideal))) ⟨m, fun _ => 0, g⟩ (fun r => (∀ c : Dev Cert.SbGradRefIdeal.nD,
      r.2.mem ((c.tc : Thread Cert.SbGradRefIdeal.nD Cert.SbGradRefIdeal.τ).loc Cert.SbGradRefIdeal.main_arg0) = m ((c.tc : Thread Cert.SbGradRefIdeal.nD Cert.SbGradRefIdeal.τ).loc Cert.SbGradRefIdeal.main_arg0)
      ∧ r.2.mem ((c.tc : Thread Cert.SbGradRefIdeal.nD Cert.SbGradRefIdeal.τ).loc Cert.SbGradRefIdeal.main_arg1) = m ((c.tc : Thread Cert.SbGradRefIdeal.nD Cert.SbGradRefIdeal.τ).loc Cert.SbGradRefIdeal.main_arg1)
      ∧ r.2.mem ((c.tc : Thread Cert.SbGradRefIdeal.nD Cert.SbGradRefIdeal.τ).loc Cert.SbGradRefIdeal.main_arg2) = m ((c.tc : Thread Cert.SbGradRefIdeal.nD Cert.SbGradRefIdeal.τ).loc Cert.SbGradRefIdeal.main_arg2))
      ∧ r.2.sem = fun _ => 0)

def quiescent_PoolGate [hPoolGate : Cert.PoolGate.Facts] : Prop :=
  ∀ (m : (ℓ : Loc Cert.PoolGate.nD Cert.PoolGate.τ Cert.PoolGate.sig) → Buf (Elt Bits) ℓ) (g : Dev Cert.PoolGate.nD → PrngReg), Pre_PoolGate m →
    θ_run (Cert.PoolGate.defs (F := Bits)) (onTc (τ := Cert.PoolGate.τ) (Cert.PoolGate.main (F := Bits))) ⟨m, fun _ => 0, g⟩ (fun r => (∀ c : Dev Cert.PoolGate.nD,
      r.2.mem ((c.tc : Thread Cert.PoolGate.nD Cert.PoolGate.τ).loc Cert.PoolGate.main_arg0) = m ((c.tc : Thread Cert.PoolGate.nD Cert.PoolGate.τ).loc Cert.PoolGate.main_arg0)
      ∧ r.2.mem ((c.tc : Thread Cert.PoolGate.nD Cert.PoolGate.τ).loc Cert.PoolGate.main_arg1) = m ((c.tc : Thread Cert.PoolGate.nD Cert.PoolGate.τ).loc Cert.PoolGate.main_arg1)
      ∧ r.2.mem ((c.tc : Thread Cert.PoolGate.nD Cert.PoolGate.τ).loc Cert.PoolGate.main_arg2) = m ((c.tc : Thread Cert.PoolGate.nD Cert.PoolGate.τ).loc Cert.PoolGate.main_arg2)
      ∧ r.2.mem ((c.tc : Thread Cert.PoolGate.nD Cert.PoolGate.τ).loc Cert.PoolGate.main_arg3) = m ((c.tc : Thread Cert.PoolGate.nD Cert.PoolGate.τ).loc Cert.PoolGate.main_arg3)
      ∧ r.2.mem ((c.tc : Thread Cert.PoolGate.nD Cert.PoolGate.τ).loc Cert.PoolGate.main_arg4) = m ((c.tc : Thread Cert.PoolGate.nD Cert.PoolGate.τ).loc Cert.PoolGate.main_arg4))
      ∧ r.2.sem = fun _ => 0)

def quiescent_PoolGateIdeal [hPoolGateIdeal : Cert.PoolGateIdeal.Facts] : Prop :=
  ∀ (m : (ℓ : Loc Cert.PoolGateIdeal.nD Cert.PoolGateIdeal.τ Cert.PoolGateIdeal.sig) → Buf (Elt Ideal) ℓ) (g : Dev Cert.PoolGateIdeal.nD → PrngReg), Pre_PoolGateIdeal m →
    θ_run (Cert.PoolGateIdeal.defs (F := Ideal)) (onTc (τ := Cert.PoolGateIdeal.τ) (Cert.PoolGateIdeal.main (F := Ideal))) ⟨m, fun _ => 0, g⟩ (fun r => (∀ c : Dev Cert.PoolGateIdeal.nD,
      r.2.mem ((c.tc : Thread Cert.PoolGateIdeal.nD Cert.PoolGateIdeal.τ).loc Cert.PoolGateIdeal.main_arg0) = m ((c.tc : Thread Cert.PoolGateIdeal.nD Cert.PoolGateIdeal.τ).loc Cert.PoolGateIdeal.main_arg0)
      ∧ r.2.mem ((c.tc : Thread Cert.PoolGateIdeal.nD Cert.PoolGateIdeal.τ).loc Cert.PoolGateIdeal.main_arg1) = m ((c.tc : Thread Cert.PoolGateIdeal.nD Cert.PoolGateIdeal.τ).loc Cert.PoolGateIdeal.main_arg1)
      ∧ r.2.mem ((c.tc : Thread Cert.PoolGateIdeal.nD Cert.PoolGateIdeal.τ).loc Cert.PoolGateIdeal.main_arg2) = m ((c.tc : Thread Cert.PoolGateIdeal.nD Cert.PoolGateIdeal.τ).loc Cert.PoolGateIdeal.main_arg2)
      ∧ r.2.mem ((c.tc : Thread Cert.PoolGateIdeal.nD Cert.PoolGateIdeal.τ).loc Cert.PoolGateIdeal.main_arg3) = m ((c.tc : Thread Cert.PoolGateIdeal.nD Cert.PoolGateIdeal.τ).loc Cert.PoolGateIdeal.main_arg3)
      ∧ r.2.mem ((c.tc : Thread Cert.PoolGateIdeal.nD Cert.PoolGateIdeal.τ).loc Cert.PoolGateIdeal.main_arg4) = m ((c.tc : Thread Cert.PoolGateIdeal.nD Cert.PoolGateIdeal.τ).loc Cert.PoolGateIdeal.main_arg4))
      ∧ r.2.sem = fun _ => 0)

def quiescent_PoolGateIdeal_pre_pgate_finite [hPoolGateIdeal : Cert.PoolGateIdeal.Facts] [hPre_pgate_finite : Cert.Pre_pgate_finite.Facts] : Prop :=
  ∀ (m : (ℓ : Loc Cert.PoolGateIdeal.nD Cert.PoolGateIdeal.τ Cert.PoolGateIdeal.sig) → Buf (Elt Ideal) ℓ) (g : Dev Cert.PoolGateIdeal.nD → PrngReg), Pre_PoolGateIdeal_pgate_finite m →
    θ_run (Cert.PoolGateIdeal.defs (F := Ideal)) (onTc (τ := Cert.PoolGateIdeal.τ) (Cert.PoolGateIdeal.main (F := Ideal))) ⟨m, fun _ => 0, g⟩ (fun r => (∀ c : Dev Cert.PoolGateIdeal.nD,
      r.2.mem ((c.tc : Thread Cert.PoolGateIdeal.nD Cert.PoolGateIdeal.τ).loc Cert.PoolGateIdeal.main_arg0) = m ((c.tc : Thread Cert.PoolGateIdeal.nD Cert.PoolGateIdeal.τ).loc Cert.PoolGateIdeal.main_arg0)
      ∧ r.2.mem ((c.tc : Thread Cert.PoolGateIdeal.nD Cert.PoolGateIdeal.τ).loc Cert.PoolGateIdeal.main_arg1) = m ((c.tc : Thread Cert.PoolGateIdeal.nD Cert.PoolGateIdeal.τ).loc Cert.PoolGateIdeal.main_arg1)
      ∧ r.2.mem ((c.tc : Thread Cert.PoolGateIdeal.nD Cert.PoolGateIdeal.τ).loc Cert.PoolGateIdeal.main_arg2) = m ((c.tc : Thread Cert.PoolGateIdeal.nD Cert.PoolGateIdeal.τ).loc Cert.PoolGateIdeal.main_arg2)
      ∧ r.2.mem ((c.tc : Thread Cert.PoolGateIdeal.nD Cert.PoolGateIdeal.τ).loc Cert.PoolGateIdeal.main_arg3) = m ((c.tc : Thread Cert.PoolGateIdeal.nD Cert.PoolGateIdeal.τ).loc Cert.PoolGateIdeal.main_arg3)
      ∧ r.2.mem ((c.tc : Thread Cert.PoolGateIdeal.nD Cert.PoolGateIdeal.τ).loc Cert.PoolGateIdeal.main_arg4) = m ((c.tc : Thread Cert.PoolGateIdeal.nD Cert.PoolGateIdeal.τ).loc Cert.PoolGateIdeal.main_arg4))
      ∧ r.2.sem = fun _ => 0)

def quiescent_PoolGateRefIdeal [hPoolGateRefIdeal : Cert.PoolGateRefIdeal.Facts] : Prop :=
  ∀ (m : (ℓ : Loc Cert.PoolGateRefIdeal.nD Cert.PoolGateRefIdeal.τ Cert.PoolGateRefIdeal.sig) → Buf (Elt Ideal) ℓ) (g : Dev Cert.PoolGateRefIdeal.nD → PrngReg), Pre_PoolGateRefIdeal m →
    θ_run (Cert.PoolGateRefIdeal.defs (F := Ideal)) (onTc (τ := Cert.PoolGateRefIdeal.τ) (Cert.PoolGateRefIdeal.main (F := Ideal))) ⟨m, fun _ => 0, g⟩ (fun r => (∀ c : Dev Cert.PoolGateRefIdeal.nD,
      r.2.mem ((c.tc : Thread Cert.PoolGateRefIdeal.nD Cert.PoolGateRefIdeal.τ).loc Cert.PoolGateRefIdeal.main_arg0) = m ((c.tc : Thread Cert.PoolGateRefIdeal.nD Cert.PoolGateRefIdeal.τ).loc Cert.PoolGateRefIdeal.main_arg0)
      ∧ r.2.mem ((c.tc : Thread Cert.PoolGateRefIdeal.nD Cert.PoolGateRefIdeal.τ).loc Cert.PoolGateRefIdeal.main_arg1) = m ((c.tc : Thread Cert.PoolGateRefIdeal.nD Cert.PoolGateRefIdeal.τ).loc Cert.PoolGateRefIdeal.main_arg1)
      ∧ r.2.mem ((c.tc : Thread Cert.PoolGateRefIdeal.nD Cert.PoolGateRefIdeal.τ).loc Cert.PoolGateRefIdeal.main_arg2) = m ((c.tc : Thread Cert.PoolGateRefIdeal.nD Cert.PoolGateRefIdeal.τ).loc Cert.PoolGateRefIdeal.main_arg2)
      ∧ r.2.mem ((c.tc : Thread Cert.PoolGateRefIdeal.nD Cert.PoolGateRefIdeal.τ).loc Cert.PoolGateRefIdeal.main_arg3) = m ((c.tc : Thread Cert.PoolGateRefIdeal.nD Cert.PoolGateRefIdeal.τ).loc Cert.PoolGateRefIdeal.main_arg3)
      ∧ r.2.mem ((c.tc : Thread Cert.PoolGateRefIdeal.nD Cert.PoolGateRefIdeal.τ).loc Cert.PoolGateRefIdeal.main_arg4) = m ((c.tc : Thread Cert.PoolGateRefIdeal.nD Cert.PoolGateRefIdeal.τ).loc Cert.PoolGateRefIdeal.main_arg4))
      ∧ r.2.sem = fun _ => 0)

def quiescent_PoolGateRefIdeal_pre_pgate_finite [hPoolGateRefIdeal : Cert.PoolGateRefIdeal.Facts] [hPre_pgate_finite : Cert.Pre_pgate_finite.Facts] : Prop :=
  ∀ (m : (ℓ : Loc Cert.PoolGateRefIdeal.nD Cert.PoolGateRefIdeal.τ Cert.PoolGateRefIdeal.sig) → Buf (Elt Ideal) ℓ) (g : Dev Cert.PoolGateRefIdeal.nD → PrngReg), Pre_PoolGateRefIdeal_pgate_finite m →
    θ_run (Cert.PoolGateRefIdeal.defs (F := Ideal)) (onTc (τ := Cert.PoolGateRefIdeal.τ) (Cert.PoolGateRefIdeal.main (F := Ideal))) ⟨m, fun _ => 0, g⟩ (fun r => (∀ c : Dev Cert.PoolGateRefIdeal.nD,
      r.2.mem ((c.tc : Thread Cert.PoolGateRefIdeal.nD Cert.PoolGateRefIdeal.τ).loc Cert.PoolGateRefIdeal.main_arg0) = m ((c.tc : Thread Cert.PoolGateRefIdeal.nD Cert.PoolGateRefIdeal.τ).loc Cert.PoolGateRefIdeal.main_arg0)
      ∧ r.2.mem ((c.tc : Thread Cert.PoolGateRefIdeal.nD Cert.PoolGateRefIdeal.τ).loc Cert.PoolGateRefIdeal.main_arg1) = m ((c.tc : Thread Cert.PoolGateRefIdeal.nD Cert.PoolGateRefIdeal.τ).loc Cert.PoolGateRefIdeal.main_arg1)
      ∧ r.2.mem ((c.tc : Thread Cert.PoolGateRefIdeal.nD Cert.PoolGateRefIdeal.τ).loc Cert.PoolGateRefIdeal.main_arg2) = m ((c.tc : Thread Cert.PoolGateRefIdeal.nD Cert.PoolGateRefIdeal.τ).loc Cert.PoolGateRefIdeal.main_arg2)
      ∧ r.2.mem ((c.tc : Thread Cert.PoolGateRefIdeal.nD Cert.PoolGateRefIdeal.τ).loc Cert.PoolGateRefIdeal.main_arg3) = m ((c.tc : Thread Cert.PoolGateRefIdeal.nD Cert.PoolGateRefIdeal.τ).loc Cert.PoolGateRefIdeal.main_arg3)
      ∧ r.2.mem ((c.tc : Thread Cert.PoolGateRefIdeal.nD Cert.PoolGateRefIdeal.τ).loc Cert.PoolGateRefIdeal.main_arg4) = m ((c.tc : Thread Cert.PoolGateRefIdeal.nD Cert.PoolGateRefIdeal.τ).loc Cert.PoolGateRefIdeal.main_arg4))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2)
      ∧ r.2.mem ((c.tc : Thread Cert.LossHead.nD Cert.LossHead.τ).loc Cert.LossHead.main_arg3) = m ((c.tc : Thread Cert.LossHead.nD Cert.LossHead.τ).loc Cert.LossHead.main_arg3)
      ∧ r.2.mem ((c.tc : Thread Cert.LossHead.nD Cert.LossHead.τ).loc Cert.LossHead.main_arg4) = m ((c.tc : Thread Cert.LossHead.nD Cert.LossHead.τ).loc Cert.LossHead.main_arg4))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2)
      ∧ r.2.mem ((c.tc : Thread Cert.LossHeadIdeal.nD Cert.LossHeadIdeal.τ).loc Cert.LossHeadIdeal.main_arg3) = m ((c.tc : Thread Cert.LossHeadIdeal.nD Cert.LossHeadIdeal.τ).loc Cert.LossHeadIdeal.main_arg3)
      ∧ r.2.mem ((c.tc : Thread Cert.LossHeadIdeal.nD Cert.LossHeadIdeal.τ).loc Cert.LossHeadIdeal.main_arg4) = m ((c.tc : Thread Cert.LossHeadIdeal.nD Cert.LossHeadIdeal.τ).loc Cert.LossHeadIdeal.main_arg4))
      ∧ r.2.sem = fun _ => 0)

def quiescent_LossHeadIdeal_pre_loss_finite [hLossHeadIdeal : Cert.LossHeadIdeal.Facts] [hPre_loss_finite : Cert.Pre_loss_finite.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal_loss_finite m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2)
      ∧ r.2.mem ((c.tc : Thread Cert.LossHeadIdeal.nD Cert.LossHeadIdeal.τ).loc Cert.LossHeadIdeal.main_arg3) = m ((c.tc : Thread Cert.LossHeadIdeal.nD Cert.LossHeadIdeal.τ).loc Cert.LossHeadIdeal.main_arg3)
      ∧ r.2.mem ((c.tc : Thread Cert.LossHeadIdeal.nD Cert.LossHeadIdeal.τ).loc Cert.LossHeadIdeal.main_arg4) = m ((c.tc : Thread Cert.LossHeadIdeal.nD Cert.LossHeadIdeal.τ).loc Cert.LossHeadIdeal.main_arg4))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2)
      ∧ r.2.mem ((c.tc : Thread Cert.LossHeadRefIdeal.nD Cert.LossHeadRefIdeal.τ).loc Cert.LossHeadRefIdeal.main_arg3) = m ((c.tc : Thread Cert.LossHeadRefIdeal.nD Cert.LossHeadRefIdeal.τ).loc Cert.LossHeadRefIdeal.main_arg3)
      ∧ r.2.mem ((c.tc : Thread Cert.LossHeadRefIdeal.nD Cert.LossHeadRefIdeal.τ).loc Cert.LossHeadRefIdeal.main_arg4) = m ((c.tc : Thread Cert.LossHeadRefIdeal.nD Cert.LossHeadRefIdeal.τ).loc Cert.LossHeadRefIdeal.main_arg4))
      ∧ r.2.sem = fun _ => 0)

def quiescent_LossHeadRefIdeal_pre_loss_finite [hLossHeadRefIdeal : Cert.LossHeadRefIdeal.Facts] [hPre_loss_finite : Cert.Pre_loss_finite.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal_loss_finite m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2)
      ∧ r.2.mem ((c.tc : Thread Cert.LossHeadRefIdeal.nD Cert.LossHeadRefIdeal.τ).loc Cert.LossHeadRefIdeal.main_arg3) = m ((c.tc : Thread Cert.LossHeadRefIdeal.nD Cert.LossHeadRefIdeal.τ).loc Cert.LossHeadRefIdeal.main_arg3)
      ∧ r.2.mem ((c.tc : Thread Cert.LossHeadRefIdeal.nD Cert.LossHeadRefIdeal.τ).loc Cert.LossHeadRefIdeal.main_arg4) = m ((c.tc : Thread Cert.LossHeadRefIdeal.nD Cert.LossHeadRefIdeal.τ).loc Cert.LossHeadRefIdeal.main_arg4))
      ∧ r.2.sem = fun _ => 0)

def quiescent_PoolGrad [hPoolGrad : Cert.PoolGrad.Facts] : Prop :=
  ∀ (m : (ℓ : Loc Cert.PoolGrad.nD Cert.PoolGrad.τ Cert.PoolGrad.sig) → Buf (Elt Bits) ℓ) (g : Dev Cert.PoolGrad.nD → PrngReg), Pre_PoolGrad m →
    θ_run (Cert.PoolGrad.defs (F := Bits)) (onTc (τ := Cert.PoolGrad.τ) (Cert.PoolGrad.main (F := Bits))) ⟨m, fun _ => 0, g⟩ (fun r => (∀ c : Dev Cert.PoolGrad.nD,
      r.2.mem ((c.tc : Thread Cert.PoolGrad.nD Cert.PoolGrad.τ).loc Cert.PoolGrad.main_arg0) = m ((c.tc : Thread Cert.PoolGrad.nD Cert.PoolGrad.τ).loc Cert.PoolGrad.main_arg0)
      ∧ r.2.mem ((c.tc : Thread Cert.PoolGrad.nD Cert.PoolGrad.τ).loc Cert.PoolGrad.main_arg1) = m ((c.tc : Thread Cert.PoolGrad.nD Cert.PoolGrad.τ).loc Cert.PoolGrad.main_arg1)
      ∧ r.2.mem ((c.tc : Thread Cert.PoolGrad.nD Cert.PoolGrad.τ).loc Cert.PoolGrad.main_arg2) = m ((c.tc : Thread Cert.PoolGrad.nD Cert.PoolGrad.τ).loc Cert.PoolGrad.main_arg2)
      ∧ r.2.mem ((c.tc : Thread Cert.PoolGrad.nD Cert.PoolGrad.τ).loc Cert.PoolGrad.main_arg3) = m ((c.tc : Thread Cert.PoolGrad.nD Cert.PoolGrad.τ).loc Cert.PoolGrad.main_arg3))
      ∧ r.2.sem = fun _ => 0)

def quiescent_PoolGradIdeal [hPoolGradIdeal : Cert.PoolGradIdeal.Facts] : Prop :=
  ∀ (m : (ℓ : Loc Cert.PoolGradIdeal.nD Cert.PoolGradIdeal.τ Cert.PoolGradIdeal.sig) → Buf (Elt Ideal) ℓ) (g : Dev Cert.PoolGradIdeal.nD → PrngReg), Pre_PoolGradIdeal m →
    θ_run (Cert.PoolGradIdeal.defs (F := Ideal)) (onTc (τ := Cert.PoolGradIdeal.τ) (Cert.PoolGradIdeal.main (F := Ideal))) ⟨m, fun _ => 0, g⟩ (fun r => (∀ c : Dev Cert.PoolGradIdeal.nD,
      r.2.mem ((c.tc : Thread Cert.PoolGradIdeal.nD Cert.PoolGradIdeal.τ).loc Cert.PoolGradIdeal.main_arg0) = m ((c.tc : Thread Cert.PoolGradIdeal.nD Cert.PoolGradIdeal.τ).loc Cert.PoolGradIdeal.main_arg0)
      ∧ r.2.mem ((c.tc : Thread Cert.PoolGradIdeal.nD Cert.PoolGradIdeal.τ).loc Cert.PoolGradIdeal.main_arg1) = m ((c.tc : Thread Cert.PoolGradIdeal.nD Cert.PoolGradIdeal.τ).loc Cert.PoolGradIdeal.main_arg1)
      ∧ r.2.mem ((c.tc : Thread Cert.PoolGradIdeal.nD Cert.PoolGradIdeal.τ).loc Cert.PoolGradIdeal.main_arg2) = m ((c.tc : Thread Cert.PoolGradIdeal.nD Cert.PoolGradIdeal.τ).loc Cert.PoolGradIdeal.main_arg2)
      ∧ r.2.mem ((c.tc : Thread Cert.PoolGradIdeal.nD Cert.PoolGradIdeal.τ).loc Cert.PoolGradIdeal.main_arg3) = m ((c.tc : Thread Cert.PoolGradIdeal.nD Cert.PoolGradIdeal.τ).loc Cert.PoolGradIdeal.main_arg3))
      ∧ r.2.sem = fun _ => 0)

def quiescent_PoolGradIdeal_pre_poolb_finite [hPoolGradIdeal : Cert.PoolGradIdeal.Facts] [hPre_poolb_finite : Cert.Pre_poolb_finite.Facts] : Prop :=
  ∀ (m : (ℓ : Loc Cert.PoolGradIdeal.nD Cert.PoolGradIdeal.τ Cert.PoolGradIdeal.sig) → Buf (Elt Ideal) ℓ) (g : Dev Cert.PoolGradIdeal.nD → PrngReg), Pre_PoolGradIdeal_poolb_finite m →
    θ_run (Cert.PoolGradIdeal.defs (F := Ideal)) (onTc (τ := Cert.PoolGradIdeal.τ) (Cert.PoolGradIdeal.main (F := Ideal))) ⟨m, fun _ => 0, g⟩ (fun r => (∀ c : Dev Cert.PoolGradIdeal.nD,
      r.2.mem ((c.tc : Thread Cert.PoolGradIdeal.nD Cert.PoolGradIdeal.τ).loc Cert.PoolGradIdeal.main_arg0) = m ((c.tc : Thread Cert.PoolGradIdeal.nD Cert.PoolGradIdeal.τ).loc Cert.PoolGradIdeal.main_arg0)
      ∧ r.2.mem ((c.tc : Thread Cert.PoolGradIdeal.nD Cert.PoolGradIdeal.τ).loc Cert.PoolGradIdeal.main_arg1) = m ((c.tc : Thread Cert.PoolGradIdeal.nD Cert.PoolGradIdeal.τ).loc Cert.PoolGradIdeal.main_arg1)
      ∧ r.2.mem ((c.tc : Thread Cert.PoolGradIdeal.nD Cert.PoolGradIdeal.τ).loc Cert.PoolGradIdeal.main_arg2) = m ((c.tc : Thread Cert.PoolGradIdeal.nD Cert.PoolGradIdeal.τ).loc Cert.PoolGradIdeal.main_arg2)
      ∧ r.2.mem ((c.tc : Thread Cert.PoolGradIdeal.nD Cert.PoolGradIdeal.τ).loc Cert.PoolGradIdeal.main_arg3) = m ((c.tc : Thread Cert.PoolGradIdeal.nD Cert.PoolGradIdeal.τ).loc Cert.PoolGradIdeal.main_arg3))
      ∧ r.2.sem = fun _ => 0)

def quiescent_PoolGradRefIdeal [hPoolGradRefIdeal : Cert.PoolGradRefIdeal.Facts] : Prop :=
  ∀ (m : (ℓ : Loc Cert.PoolGradRefIdeal.nD Cert.PoolGradRefIdeal.τ Cert.PoolGradRefIdeal.sig) → Buf (Elt Ideal) ℓ) (g : Dev Cert.PoolGradRefIdeal.nD → PrngReg), Pre_PoolGradRefIdeal m →
    θ_run (Cert.PoolGradRefIdeal.defs (F := Ideal)) (onTc (τ := Cert.PoolGradRefIdeal.τ) (Cert.PoolGradRefIdeal.main (F := Ideal))) ⟨m, fun _ => 0, g⟩ (fun r => (∀ c : Dev Cert.PoolGradRefIdeal.nD,
      r.2.mem ((c.tc : Thread Cert.PoolGradRefIdeal.nD Cert.PoolGradRefIdeal.τ).loc Cert.PoolGradRefIdeal.main_arg0) = m ((c.tc : Thread Cert.PoolGradRefIdeal.nD Cert.PoolGradRefIdeal.τ).loc Cert.PoolGradRefIdeal.main_arg0)
      ∧ r.2.mem ((c.tc : Thread Cert.PoolGradRefIdeal.nD Cert.PoolGradRefIdeal.τ).loc Cert.PoolGradRefIdeal.main_arg1) = m ((c.tc : Thread Cert.PoolGradRefIdeal.nD Cert.PoolGradRefIdeal.τ).loc Cert.PoolGradRefIdeal.main_arg1)
      ∧ r.2.mem ((c.tc : Thread Cert.PoolGradRefIdeal.nD Cert.PoolGradRefIdeal.τ).loc Cert.PoolGradRefIdeal.main_arg2) = m ((c.tc : Thread Cert.PoolGradRefIdeal.nD Cert.PoolGradRefIdeal.τ).loc Cert.PoolGradRefIdeal.main_arg2)
      ∧ r.2.mem ((c.tc : Thread Cert.PoolGradRefIdeal.nD Cert.PoolGradRefIdeal.τ).loc Cert.PoolGradRefIdeal.main_arg3) = m ((c.tc : Thread Cert.PoolGradRefIdeal.nD Cert.PoolGradRefIdeal.τ).loc Cert.PoolGradRefIdeal.main_arg3))
      ∧ r.2.sem = fun _ => 0)

def quiescent_PoolGradRefIdeal_pre_poolb_finite [hPoolGradRefIdeal : Cert.PoolGradRefIdeal.Facts] [hPre_poolb_finite : Cert.Pre_poolb_finite.Facts] : Prop :=
  ∀ (m : (ℓ : Loc Cert.PoolGradRefIdeal.nD Cert.PoolGradRefIdeal.τ Cert.PoolGradRefIdeal.sig) → Buf (Elt Ideal) ℓ) (g : Dev Cert.PoolGradRefIdeal.nD → PrngReg), Pre_PoolGradRefIdeal_poolb_finite m →
    θ_run (Cert.PoolGradRefIdeal.defs (F := Ideal)) (onTc (τ := Cert.PoolGradRefIdeal.τ) (Cert.PoolGradRefIdeal.main (F := Ideal))) ⟨m, fun _ => 0, g⟩ (fun r => (∀ c : Dev Cert.PoolGradRefIdeal.nD,
      r.2.mem ((c.tc : Thread Cert.PoolGradRefIdeal.nD Cert.PoolGradRefIdeal.τ).loc Cert.PoolGradRefIdeal.main_arg0) = m ((c.tc : Thread Cert.PoolGradRefIdeal.nD Cert.PoolGradRefIdeal.τ).loc Cert.PoolGradRefIdeal.main_arg0)
      ∧ r.2.mem ((c.tc : Thread Cert.PoolGradRefIdeal.nD Cert.PoolGradRefIdeal.τ).loc Cert.PoolGradRefIdeal.main_arg1) = m ((c.tc : Thread Cert.PoolGradRefIdeal.nD Cert.PoolGradRefIdeal.τ).loc Cert.PoolGradRefIdeal.main_arg1)
      ∧ r.2.mem ((c.tc : Thread Cert.PoolGradRefIdeal.nD Cert.PoolGradRefIdeal.τ).loc Cert.PoolGradRefIdeal.main_arg2) = m ((c.tc : Thread Cert.PoolGradRefIdeal.nD Cert.PoolGradRefIdeal.τ).loc Cert.PoolGradRefIdeal.main_arg2)
      ∧ r.2.mem ((c.tc : Thread Cert.PoolGradRefIdeal.nD Cert.PoolGradRefIdeal.τ).loc Cert.PoolGradRefIdeal.main_arg3) = m ((c.tc : Thread Cert.PoolGradRefIdeal.nD Cert.PoolGradRefIdeal.τ).loc Cert.PoolGradRefIdeal.main_arg3))
      ∧ r.2.sem = fun _ => 0)

def quiescent_NormGrad [hNormGrad : Cert.NormGrad.Facts] : Prop :=
  ∀ (m : (ℓ : Loc Cert.NormGrad.nD Cert.NormGrad.τ Cert.NormGrad.sig) → Buf (Elt Bits) ℓ) (g : Dev Cert.NormGrad.nD → PrngReg), Pre_NormGrad m →
    θ_run (Cert.NormGrad.defs (F := Bits)) (onTc (τ := Cert.NormGrad.τ) (Cert.NormGrad.main (F := Bits))) ⟨m, fun _ => 0, g⟩ (fun r => (∀ c : Dev Cert.NormGrad.nD,
      r.2.mem ((c.tc : Thread Cert.NormGrad.nD Cert.NormGrad.τ).loc Cert.NormGrad.main_arg0) = m ((c.tc : Thread Cert.NormGrad.nD Cert.NormGrad.τ).loc Cert.NormGrad.main_arg0)
      ∧ r.2.mem ((c.tc : Thread Cert.NormGrad.nD Cert.NormGrad.τ).loc Cert.NormGrad.main_arg1) = m ((c.tc : Thread Cert.NormGrad.nD Cert.NormGrad.τ).loc Cert.NormGrad.main_arg1)
      ∧ r.2.mem ((c.tc : Thread Cert.NormGrad.nD Cert.NormGrad.τ).loc Cert.NormGrad.main_arg2) = m ((c.tc : Thread Cert.NormGrad.nD Cert.NormGrad.τ).loc Cert.NormGrad.main_arg2)
      ∧ r.2.mem ((c.tc : Thread Cert.NormGrad.nD Cert.NormGrad.τ).loc Cert.NormGrad.main_arg3) = m ((c.tc : Thread Cert.NormGrad.nD Cert.NormGrad.τ).loc Cert.NormGrad.main_arg3)
      ∧ r.2.mem ((c.tc : Thread Cert.NormGrad.nD Cert.NormGrad.τ).loc Cert.NormGrad.main_arg4) = m ((c.tc : Thread Cert.NormGrad.nD Cert.NormGrad.τ).loc Cert.NormGrad.main_arg4))
      ∧ r.2.sem = fun _ => 0)

def quiescent_NormGradIdeal [hNormGradIdeal : Cert.NormGradIdeal.Facts] : Prop :=
  ∀ (m : (ℓ : Loc Cert.NormGradIdeal.nD Cert.NormGradIdeal.τ Cert.NormGradIdeal.sig) → Buf (Elt Ideal) ℓ) (g : Dev Cert.NormGradIdeal.nD → PrngReg), Pre_NormGradIdeal m →
    θ_run (Cert.NormGradIdeal.defs (F := Ideal)) (onTc (τ := Cert.NormGradIdeal.τ) (Cert.NormGradIdeal.main (F := Ideal))) ⟨m, fun _ => 0, g⟩ (fun r => (∀ c : Dev Cert.NormGradIdeal.nD,
      r.2.mem ((c.tc : Thread Cert.NormGradIdeal.nD Cert.NormGradIdeal.τ).loc Cert.NormGradIdeal.main_arg0) = m ((c.tc : Thread Cert.NormGradIdeal.nD Cert.NormGradIdeal.τ).loc Cert.NormGradIdeal.main_arg0)
      ∧ r.2.mem ((c.tc : Thread Cert.NormGradIdeal.nD Cert.NormGradIdeal.τ).loc Cert.NormGradIdeal.main_arg1) = m ((c.tc : Thread Cert.NormGradIdeal.nD Cert.NormGradIdeal.τ).loc Cert.NormGradIdeal.main_arg1)
      ∧ r.2.mem ((c.tc : Thread Cert.NormGradIdeal.nD Cert.NormGradIdeal.τ).loc Cert.NormGradIdeal.main_arg2) = m ((c.tc : Thread Cert.NormGradIdeal.nD Cert.NormGradIdeal.τ).loc Cert.NormGradIdeal.main_arg2)
      ∧ r.2.mem ((c.tc : Thread Cert.NormGradIdeal.nD Cert.NormGradIdeal.τ).loc Cert.NormGradIdeal.main_arg3) = m ((c.tc : Thread Cert.NormGradIdeal.nD Cert.NormGradIdeal.τ).loc Cert.NormGradIdeal.main_arg3)
      ∧ r.2.mem ((c.tc : Thread Cert.NormGradIdeal.nD Cert.NormGradIdeal.τ).loc Cert.NormGradIdeal.main_arg4) = m ((c.tc : Thread Cert.NormGradIdeal.nD Cert.NormGradIdeal.τ).loc Cert.NormGradIdeal.main_arg4))
      ∧ r.2.sem = fun _ => 0)

def quiescent_NormGradIdeal_pre_rmsb_finite [hNormGradIdeal : Cert.NormGradIdeal.Facts] [hPre_rmsb_finite : Cert.Pre_rmsb_finite.Facts] : Prop :=
  ∀ (m : (ℓ : Loc Cert.NormGradIdeal.nD Cert.NormGradIdeal.τ Cert.NormGradIdeal.sig) → Buf (Elt Ideal) ℓ) (g : Dev Cert.NormGradIdeal.nD → PrngReg), Pre_NormGradIdeal_rmsb_finite m →
    θ_run (Cert.NormGradIdeal.defs (F := Ideal)) (onTc (τ := Cert.NormGradIdeal.τ) (Cert.NormGradIdeal.main (F := Ideal))) ⟨m, fun _ => 0, g⟩ (fun r => (∀ c : Dev Cert.NormGradIdeal.nD,
      r.2.mem ((c.tc : Thread Cert.NormGradIdeal.nD Cert.NormGradIdeal.τ).loc Cert.NormGradIdeal.main_arg0) = m ((c.tc : Thread Cert.NormGradIdeal.nD Cert.NormGradIdeal.τ).loc Cert.NormGradIdeal.main_arg0)
      ∧ r.2.mem ((c.tc : Thread Cert.NormGradIdeal.nD Cert.NormGradIdeal.τ).loc Cert.NormGradIdeal.main_arg1) = m ((c.tc : Thread Cert.NormGradIdeal.nD Cert.NormGradIdeal.τ).loc Cert.NormGradIdeal.main_arg1)
      ∧ r.2.mem ((c.tc : Thread Cert.NormGradIdeal.nD Cert.NormGradIdeal.τ).loc Cert.NormGradIdeal.main_arg2) = m ((c.tc : Thread Cert.NormGradIdeal.nD Cert.NormGradIdeal.τ).loc Cert.NormGradIdeal.main_arg2)
      ∧ r.2.mem ((c.tc : Thread Cert.NormGradIdeal.nD Cert.NormGradIdeal.τ).loc Cert.NormGradIdeal.main_arg3) = m ((c.tc : Thread Cert.NormGradIdeal.nD Cert.NormGradIdeal.τ).loc Cert.NormGradIdeal.main_arg3)
      ∧ r.2.mem ((c.tc : Thread Cert.NormGradIdeal.nD Cert.NormGradIdeal.τ).loc Cert.NormGradIdeal.main_arg4) = m ((c.tc : Thread Cert.NormGradIdeal.nD Cert.NormGradIdeal.τ).loc Cert.NormGradIdeal.main_arg4))
      ∧ r.2.sem = fun _ => 0)

def quiescent_NormGradRefIdeal [hNormGradRefIdeal : Cert.NormGradRefIdeal.Facts] : Prop :=
  ∀ (m : (ℓ : Loc Cert.NormGradRefIdeal.nD Cert.NormGradRefIdeal.τ Cert.NormGradRefIdeal.sig) → Buf (Elt Ideal) ℓ) (g : Dev Cert.NormGradRefIdeal.nD → PrngReg), Pre_NormGradRefIdeal m →
    θ_run (Cert.NormGradRefIdeal.defs (F := Ideal)) (onTc (τ := Cert.NormGradRefIdeal.τ) (Cert.NormGradRefIdeal.main (F := Ideal))) ⟨m, fun _ => 0, g⟩ (fun r => (∀ c : Dev Cert.NormGradRefIdeal.nD,
      r.2.mem ((c.tc : Thread Cert.NormGradRefIdeal.nD Cert.NormGradRefIdeal.τ).loc Cert.NormGradRefIdeal.main_arg0) = m ((c.tc : Thread Cert.NormGradRefIdeal.nD Cert.NormGradRefIdeal.τ).loc Cert.NormGradRefIdeal.main_arg0)
      ∧ r.2.mem ((c.tc : Thread Cert.NormGradRefIdeal.nD Cert.NormGradRefIdeal.τ).loc Cert.NormGradRefIdeal.main_arg1) = m ((c.tc : Thread Cert.NormGradRefIdeal.nD Cert.NormGradRefIdeal.τ).loc Cert.NormGradRefIdeal.main_arg1)
      ∧ r.2.mem ((c.tc : Thread Cert.NormGradRefIdeal.nD Cert.NormGradRefIdeal.τ).loc Cert.NormGradRefIdeal.main_arg2) = m ((c.tc : Thread Cert.NormGradRefIdeal.nD Cert.NormGradRefIdeal.τ).loc Cert.NormGradRefIdeal.main_arg2)
      ∧ r.2.mem ((c.tc : Thread Cert.NormGradRefIdeal.nD Cert.NormGradRefIdeal.τ).loc Cert.NormGradRefIdeal.main_arg3) = m ((c.tc : Thread Cert.NormGradRefIdeal.nD Cert.NormGradRefIdeal.τ).loc Cert.NormGradRefIdeal.main_arg3)
      ∧ r.2.mem ((c.tc : Thread Cert.NormGradRefIdeal.nD Cert.NormGradRefIdeal.τ).loc Cert.NormGradRefIdeal.main_arg4) = m ((c.tc : Thread Cert.NormGradRefIdeal.nD Cert.NormGradRefIdeal.τ).loc Cert.NormGradRefIdeal.main_arg4))
      ∧ r.2.sem = fun _ => 0)

def quiescent_NormGradRefIdeal_pre_rmsb_finite [hNormGradRefIdeal : Cert.NormGradRefIdeal.Facts] [hPre_rmsb_finite : Cert.Pre_rmsb_finite.Facts] : Prop :=
  ∀ (m : (ℓ : Loc Cert.NormGradRefIdeal.nD Cert.NormGradRefIdeal.τ Cert.NormGradRefIdeal.sig) → Buf (Elt Ideal) ℓ) (g : Dev Cert.NormGradRefIdeal.nD → PrngReg), Pre_NormGradRefIdeal_rmsb_finite m →
    θ_run (Cert.NormGradRefIdeal.defs (F := Ideal)) (onTc (τ := Cert.NormGradRefIdeal.τ) (Cert.NormGradRefIdeal.main (F := Ideal))) ⟨m, fun _ => 0, g⟩ (fun r => (∀ c : Dev Cert.NormGradRefIdeal.nD,
      r.2.mem ((c.tc : Thread Cert.NormGradRefIdeal.nD Cert.NormGradRefIdeal.τ).loc Cert.NormGradRefIdeal.main_arg0) = m ((c.tc : Thread Cert.NormGradRefIdeal.nD Cert.NormGradRefIdeal.τ).loc Cert.NormGradRefIdeal.main_arg0)
      ∧ r.2.mem ((c.tc : Thread Cert.NormGradRefIdeal.nD Cert.NormGradRefIdeal.τ).loc Cert.NormGradRefIdeal.main_arg1) = m ((c.tc : Thread Cert.NormGradRefIdeal.nD Cert.NormGradRefIdeal.τ).loc Cert.NormGradRefIdeal.main_arg1)
      ∧ r.2.mem ((c.tc : Thread Cert.NormGradRefIdeal.nD Cert.NormGradRefIdeal.τ).loc Cert.NormGradRefIdeal.main_arg2) = m ((c.tc : Thread Cert.NormGradRefIdeal.nD Cert.NormGradRefIdeal.τ).loc Cert.NormGradRefIdeal.main_arg2)
      ∧ r.2.mem ((c.tc : Thread Cert.NormGradRefIdeal.nD Cert.NormGradRefIdeal.τ).loc Cert.NormGradRefIdeal.main_arg3) = m ((c.tc : Thread Cert.NormGradRefIdeal.nD Cert.NormGradRefIdeal.τ).loc Cert.NormGradRefIdeal.main_arg3)
      ∧ r.2.mem ((c.tc : Thread Cert.NormGradRefIdeal.nD Cert.NormGradRefIdeal.τ).loc Cert.NormGradRefIdeal.main_arg4) = m ((c.tc : Thread Cert.NormGradRefIdeal.nD Cert.NormGradRefIdeal.τ).loc Cert.NormGradRefIdeal.main_arg4))
      ∧ r.2.sem = fun _ => 0)

def quiescent_SbForward [hSbForward : Cert.SbForward.Facts] : Prop :=
  ∀ (m : (ℓ : Loc Cert.SbForward.nD Cert.SbForward.τ Cert.SbForward.sig) → Buf (Elt Bits) ℓ) (g : Dev Cert.SbForward.nD → PrngReg), Pre_SbForward m →
    θ_run (Cert.SbForward.defs (F := Bits)) (onTc (τ := Cert.SbForward.τ) (Cert.SbForward.main (F := Bits))) ⟨m, fun _ => 0, g⟩ (fun r => (∀ c : Dev Cert.SbForward.nD,
      r.2.mem ((c.tc : Thread Cert.SbForward.nD Cert.SbForward.τ).loc Cert.SbForward.main_arg0) = m ((c.tc : Thread Cert.SbForward.nD Cert.SbForward.τ).loc Cert.SbForward.main_arg0))
      ∧ r.2.sem = fun _ => 0)

def quiescent_SbForwardIdeal [hSbForwardIdeal : Cert.SbForwardIdeal.Facts] : Prop :=
  ∀ (m : (ℓ : Loc Cert.SbForwardIdeal.nD Cert.SbForwardIdeal.τ Cert.SbForwardIdeal.sig) → Buf (Elt Ideal) ℓ) (g : Dev Cert.SbForwardIdeal.nD → PrngReg), Pre_SbForwardIdeal m →
    θ_run (Cert.SbForwardIdeal.defs (F := Ideal)) (onTc (τ := Cert.SbForwardIdeal.τ) (Cert.SbForwardIdeal.main (F := Ideal))) ⟨m, fun _ => 0, g⟩ (fun r => (∀ c : Dev Cert.SbForwardIdeal.nD,
      r.2.mem ((c.tc : Thread Cert.SbForwardIdeal.nD Cert.SbForwardIdeal.τ).loc Cert.SbForwardIdeal.main_arg0) = m ((c.tc : Thread Cert.SbForwardIdeal.nD Cert.SbForwardIdeal.τ).loc Cert.SbForwardIdeal.main_arg0))
      ∧ r.2.sem = fun _ => 0)

def quiescent_SbForwardIdeal_pre_afwd_finite [hSbForwardIdeal : Cert.SbForwardIdeal.Facts] [hPre_afwd_finite : Cert.Pre_afwd_finite.Facts] : Prop :=
  ∀ (m : (ℓ : Loc Cert.SbForwardIdeal.nD Cert.SbForwardIdeal.τ Cert.SbForwardIdeal.sig) → Buf (Elt Ideal) ℓ) (g : Dev Cert.SbForwardIdeal.nD → PrngReg), Pre_SbForwardIdeal_afwd_finite m →
    θ_run (Cert.SbForwardIdeal.defs (F := Ideal)) (onTc (τ := Cert.SbForwardIdeal.τ) (Cert.SbForwardIdeal.main (F := Ideal))) ⟨m, fun _ => 0, g⟩ (fun r => (∀ c : Dev Cert.SbForwardIdeal.nD,
      r.2.mem ((c.tc : Thread Cert.SbForwardIdeal.nD Cert.SbForwardIdeal.τ).loc Cert.SbForwardIdeal.main_arg0) = m ((c.tc : Thread Cert.SbForwardIdeal.nD Cert.SbForwardIdeal.τ).loc Cert.SbForwardIdeal.main_arg0))
      ∧ r.2.sem = fun _ => 0)

def quiescent_SbForwardRefIdeal [hSbForwardRefIdeal : Cert.SbForwardRefIdeal.Facts] : Prop :=
  ∀ (m : (ℓ : Loc Cert.SbForwardRefIdeal.nD Cert.SbForwardRefIdeal.τ Cert.SbForwardRefIdeal.sig) → Buf (Elt Ideal) ℓ) (g : Dev Cert.SbForwardRefIdeal.nD → PrngReg), Pre_SbForwardRefIdeal m →
    θ_run (Cert.SbForwardRefIdeal.defs (F := Ideal)) (onTc (τ := Cert.SbForwardRefIdeal.τ) (Cert.SbForwardRefIdeal.main (F := Ideal))) ⟨m, fun _ => 0, g⟩ (fun r => (∀ c : Dev Cert.SbForwardRefIdeal.nD,
      r.2.mem ((c.tc : Thread Cert.SbForwardRefIdeal.nD Cert.SbForwardRefIdeal.τ).loc Cert.SbForwardRefIdeal.main_arg0) = m ((c.tc : Thread Cert.SbForwardRefIdeal.nD Cert.SbForwardRefIdeal.τ).loc Cert.SbForwardRefIdeal.main_arg0))
      ∧ r.2.sem = fun _ => 0)

def quiescent_SbForwardRefIdeal_pre_afwd_finite [hSbForwardRefIdeal : Cert.SbForwardRefIdeal.Facts] [hPre_afwd_finite : Cert.Pre_afwd_finite.Facts] : Prop :=
  ∀ (m : (ℓ : Loc Cert.SbForwardRefIdeal.nD Cert.SbForwardRefIdeal.τ Cert.SbForwardRefIdeal.sig) → Buf (Elt Ideal) ℓ) (g : Dev Cert.SbForwardRefIdeal.nD → PrngReg), Pre_SbForwardRefIdeal_afwd_finite m →
    θ_run (Cert.SbForwardRefIdeal.defs (F := Ideal)) (onTc (τ := Cert.SbForwardRefIdeal.τ) (Cert.SbForwardRefIdeal.main (F := Ideal))) ⟨m, fun _ => 0, g⟩ (fun r => (∀ c : Dev Cert.SbForwardRefIdeal.nD,
      r.2.mem ((c.tc : Thread Cert.SbForwardRefIdeal.nD Cert.SbForwardRefIdeal.τ).loc Cert.SbForwardRefIdeal.main_arg0) = m ((c.tc : Thread Cert.SbForwardRefIdeal.nD Cert.SbForwardRefIdeal.τ).loc Cert.SbForwardRefIdeal.main_arg0))
      ∧ r.2.sem = fun _ => 0)

def quiescent_PoolForward [hPoolForward : Cert.PoolForward.Facts] : Prop :=
  ∀ (m : (ℓ : Loc Cert.PoolForward.nD Cert.PoolForward.τ Cert.PoolForward.sig) → Buf (Elt Bits) ℓ) (g : Dev Cert.PoolForward.nD → PrngReg), Pre_PoolForward m →
    θ_run (Cert.PoolForward.defs (F := Bits)) (onTc (τ := Cert.PoolForward.τ) (Cert.PoolForward.main (F := Bits))) ⟨m, fun _ => 0, g⟩ (fun r => (∀ c : Dev Cert.PoolForward.nD,
      r.2.mem ((c.tc : Thread Cert.PoolForward.nD Cert.PoolForward.τ).loc Cert.PoolForward.main_arg0) = m ((c.tc : Thread Cert.PoolForward.nD Cert.PoolForward.τ).loc Cert.PoolForward.main_arg0)
      ∧ r.2.mem ((c.tc : Thread Cert.PoolForward.nD Cert.PoolForward.τ).loc Cert.PoolForward.main_arg1) = m ((c.tc : Thread Cert.PoolForward.nD Cert.PoolForward.τ).loc Cert.PoolForward.main_arg1)
      ∧ r.2.mem ((c.tc : Thread Cert.PoolForward.nD Cert.PoolForward.τ).loc Cert.PoolForward.main_arg2) = m ((c.tc : Thread Cert.PoolForward.nD Cert.PoolForward.τ).loc Cert.PoolForward.main_arg2))
      ∧ r.2.sem = fun _ => 0)

def quiescent_PoolForwardIdeal [hPoolForwardIdeal : Cert.PoolForwardIdeal.Facts] : Prop :=
  ∀ (m : (ℓ : Loc Cert.PoolForwardIdeal.nD Cert.PoolForwardIdeal.τ Cert.PoolForwardIdeal.sig) → Buf (Elt Ideal) ℓ) (g : Dev Cert.PoolForwardIdeal.nD → PrngReg), Pre_PoolForwardIdeal m →
    θ_run (Cert.PoolForwardIdeal.defs (F := Ideal)) (onTc (τ := Cert.PoolForwardIdeal.τ) (Cert.PoolForwardIdeal.main (F := Ideal))) ⟨m, fun _ => 0, g⟩ (fun r => (∀ c : Dev Cert.PoolForwardIdeal.nD,
      r.2.mem ((c.tc : Thread Cert.PoolForwardIdeal.nD Cert.PoolForwardIdeal.τ).loc Cert.PoolForwardIdeal.main_arg0) = m ((c.tc : Thread Cert.PoolForwardIdeal.nD Cert.PoolForwardIdeal.τ).loc Cert.PoolForwardIdeal.main_arg0)
      ∧ r.2.mem ((c.tc : Thread Cert.PoolForwardIdeal.nD Cert.PoolForwardIdeal.τ).loc Cert.PoolForwardIdeal.main_arg1) = m ((c.tc : Thread Cert.PoolForwardIdeal.nD Cert.PoolForwardIdeal.τ).loc Cert.PoolForwardIdeal.main_arg1)
      ∧ r.2.mem ((c.tc : Thread Cert.PoolForwardIdeal.nD Cert.PoolForwardIdeal.τ).loc Cert.PoolForwardIdeal.main_arg2) = m ((c.tc : Thread Cert.PoolForwardIdeal.nD Cert.PoolForwardIdeal.τ).loc Cert.PoolForwardIdeal.main_arg2))
      ∧ r.2.sem = fun _ => 0)

def quiescent_PoolForwardIdeal_pre_pfwd_finite [hPoolForwardIdeal : Cert.PoolForwardIdeal.Facts] [hPre_pfwd_finite : Cert.Pre_pfwd_finite.Facts] : Prop :=
  ∀ (m : (ℓ : Loc Cert.PoolForwardIdeal.nD Cert.PoolForwardIdeal.τ Cert.PoolForwardIdeal.sig) → Buf (Elt Ideal) ℓ) (g : Dev Cert.PoolForwardIdeal.nD → PrngReg), Pre_PoolForwardIdeal_pfwd_finite m →
    θ_run (Cert.PoolForwardIdeal.defs (F := Ideal)) (onTc (τ := Cert.PoolForwardIdeal.τ) (Cert.PoolForwardIdeal.main (F := Ideal))) ⟨m, fun _ => 0, g⟩ (fun r => (∀ c : Dev Cert.PoolForwardIdeal.nD,
      r.2.mem ((c.tc : Thread Cert.PoolForwardIdeal.nD Cert.PoolForwardIdeal.τ).loc Cert.PoolForwardIdeal.main_arg0) = m ((c.tc : Thread Cert.PoolForwardIdeal.nD Cert.PoolForwardIdeal.τ).loc Cert.PoolForwardIdeal.main_arg0)
      ∧ r.2.mem ((c.tc : Thread Cert.PoolForwardIdeal.nD Cert.PoolForwardIdeal.τ).loc Cert.PoolForwardIdeal.main_arg1) = m ((c.tc : Thread Cert.PoolForwardIdeal.nD Cert.PoolForwardIdeal.τ).loc Cert.PoolForwardIdeal.main_arg1)
      ∧ r.2.mem ((c.tc : Thread Cert.PoolForwardIdeal.nD Cert.PoolForwardIdeal.τ).loc Cert.PoolForwardIdeal.main_arg2) = m ((c.tc : Thread Cert.PoolForwardIdeal.nD Cert.PoolForwardIdeal.τ).loc Cert.PoolForwardIdeal.main_arg2))
      ∧ r.2.sem = fun _ => 0)

def quiescent_PoolForwardRefIdeal [hPoolForwardRefIdeal : Cert.PoolForwardRefIdeal.Facts] : Prop :=
  ∀ (m : (ℓ : Loc Cert.PoolForwardRefIdeal.nD Cert.PoolForwardRefIdeal.τ Cert.PoolForwardRefIdeal.sig) → Buf (Elt Ideal) ℓ) (g : Dev Cert.PoolForwardRefIdeal.nD → PrngReg), Pre_PoolForwardRefIdeal m →
    θ_run (Cert.PoolForwardRefIdeal.defs (F := Ideal)) (onTc (τ := Cert.PoolForwardRefIdeal.τ) (Cert.PoolForwardRefIdeal.main (F := Ideal))) ⟨m, fun _ => 0, g⟩ (fun r => (∀ c : Dev Cert.PoolForwardRefIdeal.nD,
      r.2.mem ((c.tc : Thread Cert.PoolForwardRefIdeal.nD Cert.PoolForwardRefIdeal.τ).loc Cert.PoolForwardRefIdeal.main_arg0) = m ((c.tc : Thread Cert.PoolForwardRefIdeal.nD Cert.PoolForwardRefIdeal.τ).loc Cert.PoolForwardRefIdeal.main_arg0)
      ∧ r.2.mem ((c.tc : Thread Cert.PoolForwardRefIdeal.nD Cert.PoolForwardRefIdeal.τ).loc Cert.PoolForwardRefIdeal.main_arg1) = m ((c.tc : Thread Cert.PoolForwardRefIdeal.nD Cert.PoolForwardRefIdeal.τ).loc Cert.PoolForwardRefIdeal.main_arg1)
      ∧ r.2.mem ((c.tc : Thread Cert.PoolForwardRefIdeal.nD Cert.PoolForwardRefIdeal.τ).loc Cert.PoolForwardRefIdeal.main_arg2) = m ((c.tc : Thread Cert.PoolForwardRefIdeal.nD Cert.PoolForwardRefIdeal.τ).loc Cert.PoolForwardRefIdeal.main_arg2))
      ∧ r.2.sem = fun _ => 0)

def quiescent_PoolForwardRefIdeal_pre_pfwd_finite [hPoolForwardRefIdeal : Cert.PoolForwardRefIdeal.Facts] [hPre_pfwd_finite : Cert.Pre_pfwd_finite.Facts] : Prop :=
  ∀ (m : (ℓ : Loc Cert.PoolForwardRefIdeal.nD Cert.PoolForwardRefIdeal.τ Cert.PoolForwardRefIdeal.sig) → Buf (Elt Ideal) ℓ) (g : Dev Cert.PoolForwardRefIdeal.nD → PrngReg), Pre_PoolForwardRefIdeal_pfwd_finite m →
    θ_run (Cert.PoolForwardRefIdeal.defs (F := Ideal)) (onTc (τ := Cert.PoolForwardRefIdeal.τ) (Cert.PoolForwardRefIdeal.main (F := Ideal))) ⟨m, fun _ => 0, g⟩ (fun r => (∀ c : Dev Cert.PoolForwardRefIdeal.nD,
      r.2.mem ((c.tc : Thread Cert.PoolForwardRefIdeal.nD Cert.PoolForwardRefIdeal.τ).loc Cert.PoolForwardRefIdeal.main_arg0) = m ((c.tc : Thread Cert.PoolForwardRefIdeal.nD Cert.PoolForwardRefIdeal.τ).loc Cert.PoolForwardRefIdeal.main_arg0)
      ∧ r.2.mem ((c.tc : Thread Cert.PoolForwardRefIdeal.nD Cert.PoolForwardRefIdeal.τ).loc Cert.PoolForwardRefIdeal.main_arg1) = m ((c.tc : Thread Cert.PoolForwardRefIdeal.nD Cert.PoolForwardRefIdeal.τ).loc Cert.PoolForwardRefIdeal.main_arg1)
      ∧ r.2.mem ((c.tc : Thread Cert.PoolForwardRefIdeal.nD Cert.PoolForwardRefIdeal.τ).loc Cert.PoolForwardRefIdeal.main_arg2) = m ((c.tc : Thread Cert.PoolForwardRefIdeal.nD Cert.PoolForwardRefIdeal.τ).loc Cert.PoolForwardRefIdeal.main_arg2))
      ∧ r.2.sem = fun _ => 0)

def quiescent_NormForward [hNormForward : Cert.NormForward.Facts] : Prop :=
  ∀ (m : (ℓ : Loc Cert.NormForward.nD Cert.NormForward.τ Cert.NormForward.sig) → Buf (Elt Bits) ℓ) (g : Dev Cert.NormForward.nD → PrngReg), Pre_NormForward m →
    θ_run (Cert.NormForward.defs (F := Bits)) (onTc (τ := Cert.NormForward.τ) (Cert.NormForward.main (F := Bits))) ⟨m, fun _ => 0, g⟩ (fun r => (∀ c : Dev Cert.NormForward.nD,
      r.2.mem ((c.tc : Thread Cert.NormForward.nD Cert.NormForward.τ).loc Cert.NormForward.main_arg0) = m ((c.tc : Thread Cert.NormForward.nD Cert.NormForward.τ).loc Cert.NormForward.main_arg0)
      ∧ r.2.mem ((c.tc : Thread Cert.NormForward.nD Cert.NormForward.τ).loc Cert.NormForward.main_arg1) = m ((c.tc : Thread Cert.NormForward.nD Cert.NormForward.τ).loc Cert.NormForward.main_arg1)
      ∧ r.2.mem ((c.tc : Thread Cert.NormForward.nD Cert.NormForward.τ).loc Cert.NormForward.main_arg2) = m ((c.tc : Thread Cert.NormForward.nD Cert.NormForward.τ).loc Cert.NormForward.main_arg2))
      ∧ r.2.sem = fun _ => 0)

def quiescent_NormForwardIdeal [hNormForwardIdeal : Cert.NormForwardIdeal.Facts] : Prop :=
  ∀ (m : (ℓ : Loc Cert.NormForwardIdeal.nD Cert.NormForwardIdeal.τ Cert.NormForwardIdeal.sig) → Buf (Elt Ideal) ℓ) (g : Dev Cert.NormForwardIdeal.nD → PrngReg), Pre_NormForwardIdeal m →
    θ_run (Cert.NormForwardIdeal.defs (F := Ideal)) (onTc (τ := Cert.NormForwardIdeal.τ) (Cert.NormForwardIdeal.main (F := Ideal))) ⟨m, fun _ => 0, g⟩ (fun r => (∀ c : Dev Cert.NormForwardIdeal.nD,
      r.2.mem ((c.tc : Thread Cert.NormForwardIdeal.nD Cert.NormForwardIdeal.τ).loc Cert.NormForwardIdeal.main_arg0) = m ((c.tc : Thread Cert.NormForwardIdeal.nD Cert.NormForwardIdeal.τ).loc Cert.NormForwardIdeal.main_arg0)
      ∧ r.2.mem ((c.tc : Thread Cert.NormForwardIdeal.nD Cert.NormForwardIdeal.τ).loc Cert.NormForwardIdeal.main_arg1) = m ((c.tc : Thread Cert.NormForwardIdeal.nD Cert.NormForwardIdeal.τ).loc Cert.NormForwardIdeal.main_arg1)
      ∧ r.2.mem ((c.tc : Thread Cert.NormForwardIdeal.nD Cert.NormForwardIdeal.τ).loc Cert.NormForwardIdeal.main_arg2) = m ((c.tc : Thread Cert.NormForwardIdeal.nD Cert.NormForwardIdeal.τ).loc Cert.NormForwardIdeal.main_arg2))
      ∧ r.2.sem = fun _ => 0)

def quiescent_NormForwardRefIdeal [hNormForwardRefIdeal : Cert.NormForwardRefIdeal.Facts] : Prop :=
  ∀ (m : (ℓ : Loc Cert.NormForwardRefIdeal.nD Cert.NormForwardRefIdeal.τ Cert.NormForwardRefIdeal.sig) → Buf (Elt Ideal) ℓ) (g : Dev Cert.NormForwardRefIdeal.nD → PrngReg), Pre_NormForwardRefIdeal m →
    θ_run (Cert.NormForwardRefIdeal.defs (F := Ideal)) (onTc (τ := Cert.NormForwardRefIdeal.τ) (Cert.NormForwardRefIdeal.main (F := Ideal))) ⟨m, fun _ => 0, g⟩ (fun r => (∀ c : Dev Cert.NormForwardRefIdeal.nD,
      r.2.mem ((c.tc : Thread Cert.NormForwardRefIdeal.nD Cert.NormForwardRefIdeal.τ).loc Cert.NormForwardRefIdeal.main_arg0) = m ((c.tc : Thread Cert.NormForwardRefIdeal.nD Cert.NormForwardRefIdeal.τ).loc Cert.NormForwardRefIdeal.main_arg0)
      ∧ r.2.mem ((c.tc : Thread Cert.NormForwardRefIdeal.nD Cert.NormForwardRefIdeal.τ).loc Cert.NormForwardRefIdeal.main_arg1) = m ((c.tc : Thread Cert.NormForwardRefIdeal.nD Cert.NormForwardRefIdeal.τ).loc Cert.NormForwardRefIdeal.main_arg1)
      ∧ r.2.mem ((c.tc : Thread Cert.NormForwardRefIdeal.nD Cert.NormForwardRefIdeal.τ).loc Cert.NormForwardRefIdeal.main_arg2) = m ((c.tc : Thread Cert.NormForwardRefIdeal.nD Cert.NormForwardRefIdeal.τ).loc Cert.NormForwardRefIdeal.main_arg2))
      ∧ r.2.sem = fun _ => 0)

def preserves_SbGate_SbGateIdeal : Prop :=
  True

def algebraic_SbGateIdeal_SbGateRefIdeal_on_gate_written_pre_gate_finite [hSbGateIdeal : Cert.SbGateIdeal.Facts] [hSbGateRefIdeal : Cert.SbGateRefIdeal.Facts] [hPre_gate_finite : Cert.Pre_gate_finite.Facts] [hOn_gate_written : Cert.On_gate_written.Facts] : Prop :=
  ∀ (m : (ℓ : Loc Cert.SbGateIdeal.nD Cert.SbGateIdeal.τ Cert.SbGateIdeal.sig) → Buf (Elt Ideal) ℓ) (g : Dev Cert.SbGateIdeal.nD → PrngReg)
    (m' : (ℓ : Loc Cert.SbGateRefIdeal.nD Cert.SbGateRefIdeal.τ Cert.SbGateRefIdeal.sig) → Buf (Elt Ideal) ℓ) (g' : Dev Cert.SbGateRefIdeal.nD → PrngReg), Pre_SbGateIdeal_gate_finite m →
    (∀ c : Dev Cert.SbGateIdeal.nD,
      m' ((c.tc : Thread Cert.SbGateRefIdeal.nD Cert.SbGateRefIdeal.τ).loc Cert.SbGateRefIdeal.main_arg0) = m ((c.tc : Thread Cert.SbGateIdeal.nD Cert.SbGateIdeal.τ).loc Cert.SbGateIdeal.main_arg0)
      ∧ m' ((c.tc : Thread Cert.SbGateRefIdeal.nD Cert.SbGateRefIdeal.τ).loc Cert.SbGateRefIdeal.main_arg1) = m ((c.tc : Thread Cert.SbGateIdeal.nD Cert.SbGateIdeal.τ).loc Cert.SbGateIdeal.main_arg1)
      ∧ m' ((c.tc : Thread Cert.SbGateRefIdeal.nD Cert.SbGateRefIdeal.τ).loc Cert.SbGateRefIdeal.main_arg2) = m ((c.tc : Thread Cert.SbGateIdeal.nD Cert.SbGateIdeal.τ).loc Cert.SbGateIdeal.main_arg2)
      ∧ m' ((c.tc : Thread Cert.SbGateRefIdeal.nD Cert.SbGateRefIdeal.τ).loc Cert.SbGateRefIdeal.main_arg3) = m ((c.tc : Thread Cert.SbGateIdeal.nD Cert.SbGateIdeal.τ).loc Cert.SbGateIdeal.main_arg3)) →
    ∃ (v0 : (c : Dev Cert.SbGateIdeal.nD) → Buf (Elt Ideal) ((c.tc : Thread Cert.SbGateIdeal.nD Cert.SbGateIdeal.τ).loc Cert.SbGateIdeal.main_v1_0)) (v1 : (c : Dev Cert.SbGateIdeal.nD) → Buf (Elt Ideal) ((c.tc : Thread Cert.SbGateIdeal.nD Cert.SbGateIdeal.τ).loc Cert.SbGateIdeal.main_v1_1)),
      θ_run (Cert.SbGateIdeal.defs (F := Ideal)) (onTc (τ := Cert.SbGateIdeal.τ) (Cert.SbGateIdeal.main (F := Ideal))) ⟨m, fun _ => 0, g⟩ (fun r => ∀ c : Dev Cert.SbGateIdeal.nD,
          (∀ i : (⟨2, ![4096, 2048]⟩ : Shape).Idx, (Cert.On_gate_written.fn (F := Ideal) (m ((c.tc : Thread Cert.SbGateIdeal.nD Cert.SbGateIdeal.τ).loc Cert.SbGateIdeal.main_arg0)) (m ((c.tc : Thread Cert.SbGateIdeal.nD Cert.SbGateIdeal.τ).loc Cert.SbGateIdeal.main_arg1)) (m ((c.tc : Thread Cert.SbGateIdeal.nD Cert.SbGateIdeal.τ).loc Cert.SbGateIdeal.main_arg2)) (m ((c.tc : Thread Cert.SbGateIdeal.nD Cert.SbGateIdeal.τ).loc Cert.SbGateIdeal.main_arg3))).1 i = 1#1 → r.2.mem ((c.tc : Thread Cert.SbGateIdeal.nD Cert.SbGateIdeal.τ).loc Cert.SbGateIdeal.main_v1_0) i = v0 c i)
          ∧ (∀ i : (⟨2, ![4096, 6144]⟩ : Shape).Idx, (Cert.On_gate_written.fn (F := Ideal) (m ((c.tc : Thread Cert.SbGateIdeal.nD Cert.SbGateIdeal.τ).loc Cert.SbGateIdeal.main_arg0)) (m ((c.tc : Thread Cert.SbGateIdeal.nD Cert.SbGateIdeal.τ).loc Cert.SbGateIdeal.main_arg1)) (m ((c.tc : Thread Cert.SbGateIdeal.nD Cert.SbGateIdeal.τ).loc Cert.SbGateIdeal.main_arg2)) (m ((c.tc : Thread Cert.SbGateIdeal.nD Cert.SbGateIdeal.τ).loc Cert.SbGateIdeal.main_arg3))).2 i = 1#1 → r.2.mem ((c.tc : Thread Cert.SbGateIdeal.nD Cert.SbGateIdeal.τ).loc Cert.SbGateIdeal.main_v1_1) i = v1 c i)
          ∧ r.2.mem ((c.tc : Thread Cert.SbGateIdeal.nD Cert.SbGateIdeal.τ).loc Cert.SbGateIdeal.main_arg0) = m ((c.tc : Thread Cert.SbGateIdeal.nD Cert.SbGateIdeal.τ).loc Cert.SbGateIdeal.main_arg0)
          ∧ r.2.mem ((c.tc : Thread Cert.SbGateIdeal.nD Cert.SbGateIdeal.τ).loc Cert.SbGateIdeal.main_arg1) = m ((c.tc : Thread Cert.SbGateIdeal.nD Cert.SbGateIdeal.τ).loc Cert.SbGateIdeal.main_arg1)
          ∧ r.2.mem ((c.tc : Thread Cert.SbGateIdeal.nD Cert.SbGateIdeal.τ).loc Cert.SbGateIdeal.main_arg2) = m ((c.tc : Thread Cert.SbGateIdeal.nD Cert.SbGateIdeal.τ).loc Cert.SbGateIdeal.main_arg2)
          ∧ r.2.mem ((c.tc : Thread Cert.SbGateIdeal.nD Cert.SbGateIdeal.τ).loc Cert.SbGateIdeal.main_arg3) = m ((c.tc : Thread Cert.SbGateIdeal.nD Cert.SbGateIdeal.τ).loc Cert.SbGateIdeal.main_arg3))
      ∧ θ_run (Cert.SbGateRefIdeal.defs (F := Ideal)) (onTc (τ := Cert.SbGateRefIdeal.τ) (Cert.SbGateRefIdeal.main (F := Ideal))) ⟨m', fun _ => 0, g'⟩ (fun r => ∀ c : Dev Cert.SbGateRefIdeal.nD,
          (∀ i : (⟨2, ![4096, 2048]⟩ : Shape).Idx, (Cert.On_gate_written.fn (F := Ideal) (m ((c.tc : Thread Cert.SbGateIdeal.nD Cert.SbGateIdeal.τ).loc Cert.SbGateIdeal.main_arg0)) (m ((c.tc : Thread Cert.SbGateIdeal.nD Cert.SbGateIdeal.τ).loc Cert.SbGateIdeal.main_arg1)) (m ((c.tc : Thread Cert.SbGateIdeal.nD Cert.SbGateIdeal.τ).loc Cert.SbGateIdeal.main_arg2)) (m ((c.tc : Thread Cert.SbGateIdeal.nD Cert.SbGateIdeal.τ).loc Cert.SbGateIdeal.main_arg3))).1 i = 1#1 → r.2.mem ((c.tc : Thread Cert.SbGateRefIdeal.nD Cert.SbGateRefIdeal.τ).loc Cert.SbGateRefIdeal.main_v12) i = v0 c i)
          ∧ (∀ i : (⟨2, ![4096, 6144]⟩ : Shape).Idx, (Cert.On_gate_written.fn (F := Ideal) (m ((c.tc : Thread Cert.SbGateIdeal.nD Cert.SbGateIdeal.τ).loc Cert.SbGateIdeal.main_arg0)) (m ((c.tc : Thread Cert.SbGateIdeal.nD Cert.SbGateIdeal.τ).loc Cert.SbGateIdeal.main_arg1)) (m ((c.tc : Thread Cert.SbGateIdeal.nD Cert.SbGateIdeal.τ).loc Cert.SbGateIdeal.main_arg2)) (m ((c.tc : Thread Cert.SbGateIdeal.nD Cert.SbGateIdeal.τ).loc Cert.SbGateIdeal.main_arg3))).2 i = 1#1 → r.2.mem ((c.tc : Thread Cert.SbGateRefIdeal.nD Cert.SbGateRefIdeal.τ).loc Cert.SbGateRefIdeal.main_v13) i = v1 c i)
          ∧ r.2.mem ((c.tc : Thread Cert.SbGateRefIdeal.nD Cert.SbGateRefIdeal.τ).loc Cert.SbGateRefIdeal.main_arg0) = m' ((c.tc : Thread Cert.SbGateRefIdeal.nD Cert.SbGateRefIdeal.τ).loc Cert.SbGateRefIdeal.main_arg0)
          ∧ r.2.mem ((c.tc : Thread Cert.SbGateRefIdeal.nD Cert.SbGateRefIdeal.τ).loc Cert.SbGateRefIdeal.main_arg1) = m' ((c.tc : Thread Cert.SbGateRefIdeal.nD Cert.SbGateRefIdeal.τ).loc Cert.SbGateRefIdeal.main_arg1)
          ∧ r.2.mem ((c.tc : Thread Cert.SbGateRefIdeal.nD Cert.SbGateRefIdeal.τ).loc Cert.SbGateRefIdeal.main_arg2) = m' ((c.tc : Thread Cert.SbGateRefIdeal.nD Cert.SbGateRefIdeal.τ).loc Cert.SbGateRefIdeal.main_arg2)
          ∧ r.2.mem ((c.tc : Thread Cert.SbGateRefIdeal.nD Cert.SbGateRefIdeal.τ).loc Cert.SbGateRefIdeal.main_arg3) = m' ((c.tc : Thread Cert.SbGateRefIdeal.nD Cert.SbGateRefIdeal.τ).loc Cert.SbGateRefIdeal.main_arg3))

def preserves_SbGrad_SbGradIdeal : Prop :=
  IdealRules.named_const.Statement Cert.SbGradIdeal.κ "neg_log2e" .f32 0xBFB8AA3B#32 ((-((Real.log 2)⁻¹) : ℝ) : EReal)

def algebraic_SbGradIdeal_SbGradRefIdeal_pre_attn_finite [hSbGradIdeal : Cert.SbGradIdeal.Facts] [hSbGradRefIdeal : Cert.SbGradRefIdeal.Facts] [hPre_attn_finite : Cert.Pre_attn_finite.Facts] : Prop :=
  ∀ (m : (ℓ : Loc Cert.SbGradIdeal.nD Cert.SbGradIdeal.τ Cert.SbGradIdeal.sig) → Buf (Elt Ideal) ℓ) (g : Dev Cert.SbGradIdeal.nD → PrngReg)
    (m' : (ℓ : Loc Cert.SbGradRefIdeal.nD Cert.SbGradRefIdeal.τ Cert.SbGradRefIdeal.sig) → Buf (Elt Ideal) ℓ) (g' : Dev Cert.SbGradRefIdeal.nD → PrngReg), Pre_SbGradIdeal_attn_finite m →
    (∀ c : Dev Cert.SbGradIdeal.nD,
      m' ((c.tc : Thread Cert.SbGradRefIdeal.nD Cert.SbGradRefIdeal.τ).loc Cert.SbGradRefIdeal.main_arg0) = m ((c.tc : Thread Cert.SbGradIdeal.nD Cert.SbGradIdeal.τ).loc Cert.SbGradIdeal.main_arg0)
      ∧ m' ((c.tc : Thread Cert.SbGradRefIdeal.nD Cert.SbGradRefIdeal.τ).loc Cert.SbGradRefIdeal.main_arg1) = m ((c.tc : Thread Cert.SbGradIdeal.nD Cert.SbGradIdeal.τ).loc Cert.SbGradIdeal.main_arg1)
      ∧ m' ((c.tc : Thread Cert.SbGradRefIdeal.nD Cert.SbGradRefIdeal.τ).loc Cert.SbGradRefIdeal.main_arg2) = m ((c.tc : Thread Cert.SbGradIdeal.nD Cert.SbGradIdeal.τ).loc Cert.SbGradIdeal.main_arg2)) →
    ∃ (v0 : (c : Dev Cert.SbGradIdeal.nD) → Buf (Elt Ideal) ((c.tc : Thread Cert.SbGradIdeal.nD Cert.SbGradIdeal.τ).loc Cert.SbGradIdeal.main_v28)),
      θ_run (Cert.SbGradIdeal.defs (F := Ideal)) (onTc (τ := Cert.SbGradIdeal.τ) (Cert.SbGradIdeal.main (F := Ideal))) ⟨m, fun _ => 0, g⟩ (fun r => ∀ c : Dev Cert.SbGradIdeal.nD,
          r.2.mem ((c.tc : Thread Cert.SbGradIdeal.nD Cert.SbGradIdeal.τ).loc Cert.SbGradIdeal.main_v28) = v0 c
          ∧ r.2.mem ((c.tc : Thread Cert.SbGradIdeal.nD Cert.SbGradIdeal.τ).loc Cert.SbGradIdeal.main_arg0) = m ((c.tc : Thread Cert.SbGradIdeal.nD Cert.SbGradIdeal.τ).loc Cert.SbGradIdeal.main_arg0)
          ∧ r.2.mem ((c.tc : Thread Cert.SbGradIdeal.nD Cert.SbGradIdeal.τ).loc Cert.SbGradIdeal.main_arg1) = m ((c.tc : Thread Cert.SbGradIdeal.nD Cert.SbGradIdeal.τ).loc Cert.SbGradIdeal.main_arg1)
          ∧ r.2.mem ((c.tc : Thread Cert.SbGradIdeal.nD Cert.SbGradIdeal.τ).loc Cert.SbGradIdeal.main_arg2) = m ((c.tc : Thread Cert.SbGradIdeal.nD Cert.SbGradIdeal.τ).loc Cert.SbGradIdeal.main_arg2))
      ∧ θ_run (Cert.SbGradRefIdeal.defs (F := Ideal)) (onTc (τ := Cert.SbGradRefIdeal.τ) (Cert.SbGradRefIdeal.main (F := Ideal))) ⟨m', fun _ => 0, g'⟩ (fun r => ∀ c : Dev Cert.SbGradRefIdeal.nD,
          r.2.mem ((c.tc : Thread Cert.SbGradRefIdeal.nD Cert.SbGradRefIdeal.τ).loc Cert.SbGradRefIdeal.main_v64) = v0 c
          ∧ r.2.mem ((c.tc : Thread Cert.SbGradRefIdeal.nD Cert.SbGradRefIdeal.τ).loc Cert.SbGradRefIdeal.main_arg0) = m' ((c.tc : Thread Cert.SbGradRefIdeal.nD Cert.SbGradRefIdeal.τ).loc Cert.SbGradRefIdeal.main_arg0)
          ∧ r.2.mem ((c.tc : Thread Cert.SbGradRefIdeal.nD Cert.SbGradRefIdeal.τ).loc Cert.SbGradRefIdeal.main_arg1) = m' ((c.tc : Thread Cert.SbGradRefIdeal.nD Cert.SbGradRefIdeal.τ).loc Cert.SbGradRefIdeal.main_arg1)
          ∧ r.2.mem ((c.tc : Thread Cert.SbGradRefIdeal.nD Cert.SbGradRefIdeal.τ).loc Cert.SbGradRefIdeal.main_arg2) = m' ((c.tc : Thread Cert.SbGradRefIdeal.nD Cert.SbGradRefIdeal.τ).loc Cert.SbGradRefIdeal.main_arg2))

def preserves_PoolGate_PoolGateIdeal : Prop :=
  True

def algebraic_PoolGateIdeal_PoolGateRefIdeal_on_pgate_written_pre_pgate_finite [hPoolGateIdeal : Cert.PoolGateIdeal.Facts] [hPoolGateRefIdeal : Cert.PoolGateRefIdeal.Facts] [hPre_pgate_finite : Cert.Pre_pgate_finite.Facts] [hOn_pgate_written : Cert.On_pgate_written.Facts] : Prop :=
  ∀ (m : (ℓ : Loc Cert.PoolGateIdeal.nD Cert.PoolGateIdeal.τ Cert.PoolGateIdeal.sig) → Buf (Elt Ideal) ℓ) (g : Dev Cert.PoolGateIdeal.nD → PrngReg)
    (m' : (ℓ : Loc Cert.PoolGateRefIdeal.nD Cert.PoolGateRefIdeal.τ Cert.PoolGateRefIdeal.sig) → Buf (Elt Ideal) ℓ) (g' : Dev Cert.PoolGateRefIdeal.nD → PrngReg), Pre_PoolGateIdeal_pgate_finite m →
    (∀ c : Dev Cert.PoolGateIdeal.nD,
      m' ((c.tc : Thread Cert.PoolGateRefIdeal.nD Cert.PoolGateRefIdeal.τ).loc Cert.PoolGateRefIdeal.main_arg0) = m ((c.tc : Thread Cert.PoolGateIdeal.nD Cert.PoolGateIdeal.τ).loc Cert.PoolGateIdeal.main_arg0)
      ∧ m' ((c.tc : Thread Cert.PoolGateRefIdeal.nD Cert.PoolGateRefIdeal.τ).loc Cert.PoolGateRefIdeal.main_arg1) = m ((c.tc : Thread Cert.PoolGateIdeal.nD Cert.PoolGateIdeal.τ).loc Cert.PoolGateIdeal.main_arg1)
      ∧ m' ((c.tc : Thread Cert.PoolGateRefIdeal.nD Cert.PoolGateRefIdeal.τ).loc Cert.PoolGateRefIdeal.main_arg2) = m ((c.tc : Thread Cert.PoolGateIdeal.nD Cert.PoolGateIdeal.τ).loc Cert.PoolGateIdeal.main_arg2)
      ∧ m' ((c.tc : Thread Cert.PoolGateRefIdeal.nD Cert.PoolGateRefIdeal.τ).loc Cert.PoolGateRefIdeal.main_arg3) = m ((c.tc : Thread Cert.PoolGateIdeal.nD Cert.PoolGateIdeal.τ).loc Cert.PoolGateIdeal.main_arg3)
      ∧ m' ((c.tc : Thread Cert.PoolGateRefIdeal.nD Cert.PoolGateRefIdeal.τ).loc Cert.PoolGateRefIdeal.main_arg4) = m ((c.tc : Thread Cert.PoolGateIdeal.nD Cert.PoolGateIdeal.τ).loc Cert.PoolGateIdeal.main_arg4)) →
    ∃ (v0 : (c : Dev Cert.PoolGateIdeal.nD) → Buf (Elt Ideal) ((c.tc : Thread Cert.PoolGateIdeal.nD Cert.PoolGateIdeal.τ).loc Cert.PoolGateIdeal.main_v1_0)) (v1 : (c : Dev Cert.PoolGateIdeal.nD) → Buf (Elt Ideal) ((c.tc : Thread Cert.PoolGateIdeal.nD Cert.PoolGateIdeal.τ).loc Cert.PoolGateIdeal.main_v1_1)) (v2 : (c : Dev Cert.PoolGateIdeal.nD) → Buf (Elt Ideal) ((c.tc : Thread Cert.PoolGateIdeal.nD Cert.PoolGateIdeal.τ).loc Cert.PoolGateIdeal.main_v1_2)),
      θ_run (Cert.PoolGateIdeal.defs (F := Ideal)) (onTc (τ := Cert.PoolGateIdeal.τ) (Cert.PoolGateIdeal.main (F := Ideal))) ⟨m, fun _ => 0, g⟩ (fun r => ∀ c : Dev Cert.PoolGateIdeal.nD,
          (∀ i : (⟨2, ![4096, 2048]⟩ : Shape).Idx, (Cert.On_pgate_written.fn (F := Ideal) (m ((c.tc : Thread Cert.PoolGateIdeal.nD Cert.PoolGateIdeal.τ).loc Cert.PoolGateIdeal.main_arg0)) (m ((c.tc : Thread Cert.PoolGateIdeal.nD Cert.PoolGateIdeal.τ).loc Cert.PoolGateIdeal.main_arg1)) (m ((c.tc : Thread Cert.PoolGateIdeal.nD Cert.PoolGateIdeal.τ).loc Cert.PoolGateIdeal.main_arg2)) (m ((c.tc : Thread Cert.PoolGateIdeal.nD Cert.PoolGateIdeal.τ).loc Cert.PoolGateIdeal.main_arg3)) (m ((c.tc : Thread Cert.PoolGateIdeal.nD Cert.PoolGateIdeal.τ).loc Cert.PoolGateIdeal.main_arg4))).1 i = 1#1 → r.2.mem ((c.tc : Thread Cert.PoolGateIdeal.nD Cert.PoolGateIdeal.τ).loc Cert.PoolGateIdeal.main_v1_0) i = v0 c i)
          ∧ (∀ i : (⟨2, ![4096, 4096]⟩ : Shape).Idx, (Cert.On_pgate_written.fn (F := Ideal) (m ((c.tc : Thread Cert.PoolGateIdeal.nD Cert.PoolGateIdeal.τ).loc Cert.PoolGateIdeal.main_arg0)) (m ((c.tc : Thread Cert.PoolGateIdeal.nD Cert.PoolGateIdeal.τ).loc Cert.PoolGateIdeal.main_arg1)) (m ((c.tc : Thread Cert.PoolGateIdeal.nD Cert.PoolGateIdeal.τ).loc Cert.PoolGateIdeal.main_arg2)) (m ((c.tc : Thread Cert.PoolGateIdeal.nD Cert.PoolGateIdeal.τ).loc Cert.PoolGateIdeal.main_arg3)) (m ((c.tc : Thread Cert.PoolGateIdeal.nD Cert.PoolGateIdeal.τ).loc Cert.PoolGateIdeal.main_arg4))).2.1 i = 1#1 → r.2.mem ((c.tc : Thread Cert.PoolGateIdeal.nD Cert.PoolGateIdeal.τ).loc Cert.PoolGateIdeal.main_v1_1) i = v1 c i)
          ∧ (∀ i : (⟨2, ![1, 2048]⟩ : Shape).Idx, (Cert.On_pgate_written.fn (F := Ideal) (m ((c.tc : Thread Cert.PoolGateIdeal.nD Cert.PoolGateIdeal.τ).loc Cert.PoolGateIdeal.main_arg0)) (m ((c.tc : Thread Cert.PoolGateIdeal.nD Cert.PoolGateIdeal.τ).loc Cert.PoolGateIdeal.main_arg1)) (m ((c.tc : Thread Cert.PoolGateIdeal.nD Cert.PoolGateIdeal.τ).loc Cert.PoolGateIdeal.main_arg2)) (m ((c.tc : Thread Cert.PoolGateIdeal.nD Cert.PoolGateIdeal.τ).loc Cert.PoolGateIdeal.main_arg3)) (m ((c.tc : Thread Cert.PoolGateIdeal.nD Cert.PoolGateIdeal.τ).loc Cert.PoolGateIdeal.main_arg4))).2.2 i = 1#1 → r.2.mem ((c.tc : Thread Cert.PoolGateIdeal.nD Cert.PoolGateIdeal.τ).loc Cert.PoolGateIdeal.main_v1_2) i = v2 c i)
          ∧ r.2.mem ((c.tc : Thread Cert.PoolGateIdeal.nD Cert.PoolGateIdeal.τ).loc Cert.PoolGateIdeal.main_arg0) = m ((c.tc : Thread Cert.PoolGateIdeal.nD Cert.PoolGateIdeal.τ).loc Cert.PoolGateIdeal.main_arg0)
          ∧ r.2.mem ((c.tc : Thread Cert.PoolGateIdeal.nD Cert.PoolGateIdeal.τ).loc Cert.PoolGateIdeal.main_arg1) = m ((c.tc : Thread Cert.PoolGateIdeal.nD Cert.PoolGateIdeal.τ).loc Cert.PoolGateIdeal.main_arg1)
          ∧ r.2.mem ((c.tc : Thread Cert.PoolGateIdeal.nD Cert.PoolGateIdeal.τ).loc Cert.PoolGateIdeal.main_arg2) = m ((c.tc : Thread Cert.PoolGateIdeal.nD Cert.PoolGateIdeal.τ).loc Cert.PoolGateIdeal.main_arg2)
          ∧ r.2.mem ((c.tc : Thread Cert.PoolGateIdeal.nD Cert.PoolGateIdeal.τ).loc Cert.PoolGateIdeal.main_arg3) = m ((c.tc : Thread Cert.PoolGateIdeal.nD Cert.PoolGateIdeal.τ).loc Cert.PoolGateIdeal.main_arg3)
          ∧ r.2.mem ((c.tc : Thread Cert.PoolGateIdeal.nD Cert.PoolGateIdeal.τ).loc Cert.PoolGateIdeal.main_arg4) = m ((c.tc : Thread Cert.PoolGateIdeal.nD Cert.PoolGateIdeal.τ).loc Cert.PoolGateIdeal.main_arg4))
      ∧ θ_run (Cert.PoolGateRefIdeal.defs (F := Ideal)) (onTc (τ := Cert.PoolGateRefIdeal.τ) (Cert.PoolGateRefIdeal.main (F := Ideal))) ⟨m', fun _ => 0, g'⟩ (fun r => ∀ c : Dev Cert.PoolGateRefIdeal.nD,
          (∀ i : (⟨2, ![4096, 2048]⟩ : Shape).Idx, (Cert.On_pgate_written.fn (F := Ideal) (m ((c.tc : Thread Cert.PoolGateIdeal.nD Cert.PoolGateIdeal.τ).loc Cert.PoolGateIdeal.main_arg0)) (m ((c.tc : Thread Cert.PoolGateIdeal.nD Cert.PoolGateIdeal.τ).loc Cert.PoolGateIdeal.main_arg1)) (m ((c.tc : Thread Cert.PoolGateIdeal.nD Cert.PoolGateIdeal.τ).loc Cert.PoolGateIdeal.main_arg2)) (m ((c.tc : Thread Cert.PoolGateIdeal.nD Cert.PoolGateIdeal.τ).loc Cert.PoolGateIdeal.main_arg3)) (m ((c.tc : Thread Cert.PoolGateIdeal.nD Cert.PoolGateIdeal.τ).loc Cert.PoolGateIdeal.main_arg4))).1 i = 1#1 → r.2.mem ((c.tc : Thread Cert.PoolGateRefIdeal.nD Cert.PoolGateRefIdeal.τ).loc Cert.PoolGateRefIdeal.main_v19) i = v0 c i)
          ∧ (∀ i : (⟨2, ![4096, 4096]⟩ : Shape).Idx, (Cert.On_pgate_written.fn (F := Ideal) (m ((c.tc : Thread Cert.PoolGateIdeal.nD Cert.PoolGateIdeal.τ).loc Cert.PoolGateIdeal.main_arg0)) (m ((c.tc : Thread Cert.PoolGateIdeal.nD Cert.PoolGateIdeal.τ).loc Cert.PoolGateIdeal.main_arg1)) (m ((c.tc : Thread Cert.PoolGateIdeal.nD Cert.PoolGateIdeal.τ).loc Cert.PoolGateIdeal.main_arg2)) (m ((c.tc : Thread Cert.PoolGateIdeal.nD Cert.PoolGateIdeal.τ).loc Cert.PoolGateIdeal.main_arg3)) (m ((c.tc : Thread Cert.PoolGateIdeal.nD Cert.PoolGateIdeal.τ).loc Cert.PoolGateIdeal.main_arg4))).2.1 i = 1#1 → r.2.mem ((c.tc : Thread Cert.PoolGateRefIdeal.nD Cert.PoolGateRefIdeal.τ).loc Cert.PoolGateRefIdeal.main_v20) i = v1 c i)
          ∧ (∀ i : (⟨2, ![1, 2048]⟩ : Shape).Idx, (Cert.On_pgate_written.fn (F := Ideal) (m ((c.tc : Thread Cert.PoolGateIdeal.nD Cert.PoolGateIdeal.τ).loc Cert.PoolGateIdeal.main_arg0)) (m ((c.tc : Thread Cert.PoolGateIdeal.nD Cert.PoolGateIdeal.τ).loc Cert.PoolGateIdeal.main_arg1)) (m ((c.tc : Thread Cert.PoolGateIdeal.nD Cert.PoolGateIdeal.τ).loc Cert.PoolGateIdeal.main_arg2)) (m ((c.tc : Thread Cert.PoolGateIdeal.nD Cert.PoolGateIdeal.τ).loc Cert.PoolGateIdeal.main_arg3)) (m ((c.tc : Thread Cert.PoolGateIdeal.nD Cert.PoolGateIdeal.τ).loc Cert.PoolGateIdeal.main_arg4))).2.2 i = 1#1 → r.2.mem ((c.tc : Thread Cert.PoolGateRefIdeal.nD Cert.PoolGateRefIdeal.τ).loc Cert.PoolGateRefIdeal.main_v15) i = v2 c i)
          ∧ r.2.mem ((c.tc : Thread Cert.PoolGateRefIdeal.nD Cert.PoolGateRefIdeal.τ).loc Cert.PoolGateRefIdeal.main_arg0) = m' ((c.tc : Thread Cert.PoolGateRefIdeal.nD Cert.PoolGateRefIdeal.τ).loc Cert.PoolGateRefIdeal.main_arg0)
          ∧ r.2.mem ((c.tc : Thread Cert.PoolGateRefIdeal.nD Cert.PoolGateRefIdeal.τ).loc Cert.PoolGateRefIdeal.main_arg1) = m' ((c.tc : Thread Cert.PoolGateRefIdeal.nD Cert.PoolGateRefIdeal.τ).loc Cert.PoolGateRefIdeal.main_arg1)
          ∧ r.2.mem ((c.tc : Thread Cert.PoolGateRefIdeal.nD Cert.PoolGateRefIdeal.τ).loc Cert.PoolGateRefIdeal.main_arg2) = m' ((c.tc : Thread Cert.PoolGateRefIdeal.nD Cert.PoolGateRefIdeal.τ).loc Cert.PoolGateRefIdeal.main_arg2)
          ∧ r.2.mem ((c.tc : Thread Cert.PoolGateRefIdeal.nD Cert.PoolGateRefIdeal.τ).loc Cert.PoolGateRefIdeal.main_arg3) = m' ((c.tc : Thread Cert.PoolGateRefIdeal.nD Cert.PoolGateRefIdeal.τ).loc Cert.PoolGateRefIdeal.main_arg3)
          ∧ r.2.mem ((c.tc : Thread Cert.PoolGateRefIdeal.nD Cert.PoolGateRefIdeal.τ).loc Cert.PoolGateRefIdeal.main_arg4) = m' ((c.tc : Thread Cert.PoolGateRefIdeal.nD Cert.PoolGateRefIdeal.τ).loc Cert.PoolGateRefIdeal.main_arg4))

def preserves_LossHead_LossHeadIdeal : Prop :=
  True

def algebraic_LossHeadIdeal_LossHeadRefIdeal_pre_loss_finite [hLossHeadIdeal : Cert.LossHeadIdeal.Facts] [hLossHeadRefIdeal : Cert.LossHeadRefIdeal.Facts] [hPre_loss_finite : Cert.Pre_loss_finite.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal_loss_finite m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)
      ∧ m' ((c.tc : Thread Cert.LossHeadRefIdeal.nD Cert.LossHeadRefIdeal.τ).loc Cert.LossHeadRefIdeal.main_arg3) = m ((c.tc : Thread Cert.LossHeadIdeal.nD Cert.LossHeadIdeal.τ).loc Cert.LossHeadIdeal.main_arg3)
      ∧ m' ((c.tc : Thread Cert.LossHeadRefIdeal.nD Cert.LossHeadRefIdeal.τ).loc Cert.LossHeadRefIdeal.main_arg4) = m ((c.tc : Thread Cert.LossHeadIdeal.nD Cert.LossHeadIdeal.τ).loc Cert.LossHeadIdeal.main_arg4)) →
    ∃ (v0 : (c : Dev Cert.LossHeadIdeal.nD) → Buf (Elt Ideal) ((c.tc : Thread Cert.LossHeadIdeal.nD Cert.LossHeadIdeal.τ).loc Cert.LossHeadIdeal.main_v1_0)) (v1 : (c : Dev Cert.LossHeadIdeal.nD) → Buf (Elt Ideal) ((c.tc : Thread Cert.LossHeadIdeal.nD Cert.LossHeadIdeal.τ).loc Cert.LossHeadIdeal.main_v1_1)) (v2 : (c : Dev Cert.LossHeadIdeal.nD) → Buf (Elt Ideal) ((c.tc : Thread Cert.LossHeadIdeal.nD Cert.LossHeadIdeal.τ).loc Cert.LossHeadIdeal.main_v1_2)) (v3 : (c : Dev Cert.LossHeadIdeal.nD) → Buf (Elt Ideal) ((c.tc : Thread Cert.LossHeadIdeal.nD Cert.LossHeadIdeal.τ).loc Cert.LossHeadIdeal.main_v1_3)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v1_0) = v0 c
          ∧ r.2.mem ((c.tc : Thread Cert.LossHeadIdeal.nD Cert.LossHeadIdeal.τ).loc Cert.LossHeadIdeal.main_v1_1) = v1 c
          ∧ r.2.mem ((c.tc : Thread Cert.LossHeadIdeal.nD Cert.LossHeadIdeal.τ).loc Cert.LossHeadIdeal.main_v1_2) = v2 c
          ∧ r.2.mem ((c.tc : Thread Cert.LossHeadIdeal.nD Cert.LossHeadIdeal.τ).loc Cert.LossHeadIdeal.main_v1_3) = v3 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2)
          ∧ r.2.mem ((c.tc : Thread Cert.LossHeadIdeal.nD Cert.LossHeadIdeal.τ).loc Cert.LossHeadIdeal.main_arg3) = m ((c.tc : Thread Cert.LossHeadIdeal.nD Cert.LossHeadIdeal.τ).loc Cert.LossHeadIdeal.main_arg3)
          ∧ r.2.mem ((c.tc : Thread Cert.LossHeadIdeal.nD Cert.LossHeadIdeal.τ).loc Cert.LossHeadIdeal.main_arg4) = m ((c.tc : Thread Cert.LossHeadIdeal.nD Cert.LossHeadIdeal.τ).loc Cert.LossHeadIdeal.main_arg4))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v51) = v0 c
          ∧ r.2.mem ((c.tc : Thread Cert.LossHeadRefIdeal.nD Cert.LossHeadRefIdeal.τ).loc Cert.LossHeadRefIdeal.main_v35) = v1 c
          ∧ r.2.mem ((c.tc : Thread Cert.LossHeadRefIdeal.nD Cert.LossHeadRefIdeal.τ).loc Cert.LossHeadRefIdeal.main_v52) = v2 c
          ∧ r.2.mem ((c.tc : Thread Cert.LossHeadRefIdeal.nD Cert.LossHeadRefIdeal.τ).loc Cert.LossHeadRefIdeal.main_v53) = v3 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2)
          ∧ r.2.mem ((c.tc : Thread Cert.LossHeadRefIdeal.nD Cert.LossHeadRefIdeal.τ).loc Cert.LossHeadRefIdeal.main_arg3) = m' ((c.tc : Thread Cert.LossHeadRefIdeal.nD Cert.LossHeadRefIdeal.τ).loc Cert.LossHeadRefIdeal.main_arg3)
          ∧ r.2.mem ((c.tc : Thread Cert.LossHeadRefIdeal.nD Cert.LossHeadRefIdeal.τ).loc Cert.LossHeadRefIdeal.main_arg4) = m' ((c.tc : Thread Cert.LossHeadRefIdeal.nD Cert.LossHeadRefIdeal.τ).loc Cert.LossHeadRefIdeal.main_arg4))

def preserves_PoolGrad_PoolGradIdeal : Prop :=
  True

def algebraic_PoolGradIdeal_PoolGradRefIdeal_pre_poolb_finite [hPoolGradIdeal : Cert.PoolGradIdeal.Facts] [hPoolGradRefIdeal : Cert.PoolGradRefIdeal.Facts] [hPre_poolb_finite : Cert.Pre_poolb_finite.Facts] : Prop :=
  ∀ (m : (ℓ : Loc Cert.PoolGradIdeal.nD Cert.PoolGradIdeal.τ Cert.PoolGradIdeal.sig) → Buf (Elt Ideal) ℓ) (g : Dev Cert.PoolGradIdeal.nD → PrngReg)
    (m' : (ℓ : Loc Cert.PoolGradRefIdeal.nD Cert.PoolGradRefIdeal.τ Cert.PoolGradRefIdeal.sig) → Buf (Elt Ideal) ℓ) (g' : Dev Cert.PoolGradRefIdeal.nD → PrngReg), Pre_PoolGradIdeal_poolb_finite m →
    (∀ c : Dev Cert.PoolGradIdeal.nD,
      m' ((c.tc : Thread Cert.PoolGradRefIdeal.nD Cert.PoolGradRefIdeal.τ).loc Cert.PoolGradRefIdeal.main_arg0) = m ((c.tc : Thread Cert.PoolGradIdeal.nD Cert.PoolGradIdeal.τ).loc Cert.PoolGradIdeal.main_arg0)
      ∧ m' ((c.tc : Thread Cert.PoolGradRefIdeal.nD Cert.PoolGradRefIdeal.τ).loc Cert.PoolGradRefIdeal.main_arg1) = m ((c.tc : Thread Cert.PoolGradIdeal.nD Cert.PoolGradIdeal.τ).loc Cert.PoolGradIdeal.main_arg1)
      ∧ m' ((c.tc : Thread Cert.PoolGradRefIdeal.nD Cert.PoolGradRefIdeal.τ).loc Cert.PoolGradRefIdeal.main_arg2) = m ((c.tc : Thread Cert.PoolGradIdeal.nD Cert.PoolGradIdeal.τ).loc Cert.PoolGradIdeal.main_arg2)
      ∧ m' ((c.tc : Thread Cert.PoolGradRefIdeal.nD Cert.PoolGradRefIdeal.τ).loc Cert.PoolGradRefIdeal.main_arg3) = m ((c.tc : Thread Cert.PoolGradIdeal.nD Cert.PoolGradIdeal.τ).loc Cert.PoolGradIdeal.main_arg3)) →
    ∃ (v0 : (c : Dev Cert.PoolGradIdeal.nD) → Buf (Elt Ideal) ((c.tc : Thread Cert.PoolGradIdeal.nD Cert.PoolGradIdeal.τ).loc Cert.PoolGradIdeal.main_v4)),
      θ_run (Cert.PoolGradIdeal.defs (F := Ideal)) (onTc (τ := Cert.PoolGradIdeal.τ) (Cert.PoolGradIdeal.main (F := Ideal))) ⟨m, fun _ => 0, g⟩ (fun r => ∀ c : Dev Cert.PoolGradIdeal.nD,
          r.2.mem ((c.tc : Thread Cert.PoolGradIdeal.nD Cert.PoolGradIdeal.τ).loc Cert.PoolGradIdeal.main_v4) = v0 c
          ∧ r.2.mem ((c.tc : Thread Cert.PoolGradIdeal.nD Cert.PoolGradIdeal.τ).loc Cert.PoolGradIdeal.main_arg0) = m ((c.tc : Thread Cert.PoolGradIdeal.nD Cert.PoolGradIdeal.τ).loc Cert.PoolGradIdeal.main_arg0)
          ∧ r.2.mem ((c.tc : Thread Cert.PoolGradIdeal.nD Cert.PoolGradIdeal.τ).loc Cert.PoolGradIdeal.main_arg1) = m ((c.tc : Thread Cert.PoolGradIdeal.nD Cert.PoolGradIdeal.τ).loc Cert.PoolGradIdeal.main_arg1)
          ∧ r.2.mem ((c.tc : Thread Cert.PoolGradIdeal.nD Cert.PoolGradIdeal.τ).loc Cert.PoolGradIdeal.main_arg2) = m ((c.tc : Thread Cert.PoolGradIdeal.nD Cert.PoolGradIdeal.τ).loc Cert.PoolGradIdeal.main_arg2)
          ∧ r.2.mem ((c.tc : Thread Cert.PoolGradIdeal.nD Cert.PoolGradIdeal.τ).loc Cert.PoolGradIdeal.main_arg3) = m ((c.tc : Thread Cert.PoolGradIdeal.nD Cert.PoolGradIdeal.τ).loc Cert.PoolGradIdeal.main_arg3))
      ∧ θ_run (Cert.PoolGradRefIdeal.defs (F := Ideal)) (onTc (τ := Cert.PoolGradRefIdeal.τ) (Cert.PoolGradRefIdeal.main (F := Ideal))) ⟨m', fun _ => 0, g'⟩ (fun r => ∀ c : Dev Cert.PoolGradRefIdeal.nD,
          r.2.mem ((c.tc : Thread Cert.PoolGradRefIdeal.nD Cert.PoolGradRefIdeal.τ).loc Cert.PoolGradRefIdeal.main_v155) = v0 c
          ∧ r.2.mem ((c.tc : Thread Cert.PoolGradRefIdeal.nD Cert.PoolGradRefIdeal.τ).loc Cert.PoolGradRefIdeal.main_arg0) = m' ((c.tc : Thread Cert.PoolGradRefIdeal.nD Cert.PoolGradRefIdeal.τ).loc Cert.PoolGradRefIdeal.main_arg0)
          ∧ r.2.mem ((c.tc : Thread Cert.PoolGradRefIdeal.nD Cert.PoolGradRefIdeal.τ).loc Cert.PoolGradRefIdeal.main_arg1) = m' ((c.tc : Thread Cert.PoolGradRefIdeal.nD Cert.PoolGradRefIdeal.τ).loc Cert.PoolGradRefIdeal.main_arg1)
          ∧ r.2.mem ((c.tc : Thread Cert.PoolGradRefIdeal.nD Cert.PoolGradRefIdeal.τ).loc Cert.PoolGradRefIdeal.main_arg2) = m' ((c.tc : Thread Cert.PoolGradRefIdeal.nD Cert.PoolGradRefIdeal.τ).loc Cert.PoolGradRefIdeal.main_arg2)
          ∧ r.2.mem ((c.tc : Thread Cert.PoolGradRefIdeal.nD Cert.PoolGradRefIdeal.τ).loc Cert.PoolGradRefIdeal.main_arg3) = m' ((c.tc : Thread Cert.PoolGradRefIdeal.nD Cert.PoolGradRefIdeal.τ).loc Cert.PoolGradRefIdeal.main_arg3))

def preserves_NormGrad_NormGradIdeal : Prop :=
  True

def algebraic_NormGradIdeal_NormGradRefIdeal_pre_rmsb_finite [hNormGradIdeal : Cert.NormGradIdeal.Facts] [hNormGradRefIdeal : Cert.NormGradRefIdeal.Facts] [hPre_rmsb_finite : Cert.Pre_rmsb_finite.Facts] : Prop :=
  ∀ (m : (ℓ : Loc Cert.NormGradIdeal.nD Cert.NormGradIdeal.τ Cert.NormGradIdeal.sig) → Buf (Elt Ideal) ℓ) (g : Dev Cert.NormGradIdeal.nD → PrngReg)
    (m' : (ℓ : Loc Cert.NormGradRefIdeal.nD Cert.NormGradRefIdeal.τ Cert.NormGradRefIdeal.sig) → Buf (Elt Ideal) ℓ) (g' : Dev Cert.NormGradRefIdeal.nD → PrngReg), Pre_NormGradIdeal_rmsb_finite m →
    (∀ c : Dev Cert.NormGradIdeal.nD,
      m' ((c.tc : Thread Cert.NormGradRefIdeal.nD Cert.NormGradRefIdeal.τ).loc Cert.NormGradRefIdeal.main_arg0) = m ((c.tc : Thread Cert.NormGradIdeal.nD Cert.NormGradIdeal.τ).loc Cert.NormGradIdeal.main_arg0)
      ∧ m' ((c.tc : Thread Cert.NormGradRefIdeal.nD Cert.NormGradRefIdeal.τ).loc Cert.NormGradRefIdeal.main_arg1) = m ((c.tc : Thread Cert.NormGradIdeal.nD Cert.NormGradIdeal.τ).loc Cert.NormGradIdeal.main_arg1)
      ∧ m' ((c.tc : Thread Cert.NormGradRefIdeal.nD Cert.NormGradRefIdeal.τ).loc Cert.NormGradRefIdeal.main_arg2) = m ((c.tc : Thread Cert.NormGradIdeal.nD Cert.NormGradIdeal.τ).loc Cert.NormGradIdeal.main_arg2)
      ∧ m' ((c.tc : Thread Cert.NormGradRefIdeal.nD Cert.NormGradRefIdeal.τ).loc Cert.NormGradRefIdeal.main_arg3) = m ((c.tc : Thread Cert.NormGradIdeal.nD Cert.NormGradIdeal.τ).loc Cert.NormGradIdeal.main_arg3)
      ∧ m' ((c.tc : Thread Cert.NormGradRefIdeal.nD Cert.NormGradRefIdeal.τ).loc Cert.NormGradRefIdeal.main_arg4) = m ((c.tc : Thread Cert.NormGradIdeal.nD Cert.NormGradIdeal.τ).loc Cert.NormGradIdeal.main_arg4)) →
    ∃ (v0 : (c : Dev Cert.NormGradIdeal.nD) → Buf (Elt Ideal) ((c.tc : Thread Cert.NormGradIdeal.nD Cert.NormGradIdeal.τ).loc Cert.NormGradIdeal.main_v3_0)) (v1 : (c : Dev Cert.NormGradIdeal.nD) → Buf (Elt Ideal) ((c.tc : Thread Cert.NormGradIdeal.nD Cert.NormGradIdeal.τ).loc Cert.NormGradIdeal.main_v3_1)) (v2 : (c : Dev Cert.NormGradIdeal.nD) → Buf (Elt Ideal) ((c.tc : Thread Cert.NormGradIdeal.nD Cert.NormGradIdeal.τ).loc Cert.NormGradIdeal.main_v3_2)),
      θ_run (Cert.NormGradIdeal.defs (F := Ideal)) (onTc (τ := Cert.NormGradIdeal.τ) (Cert.NormGradIdeal.main (F := Ideal))) ⟨m, fun _ => 0, g⟩ (fun r => ∀ c : Dev Cert.NormGradIdeal.nD,
          r.2.mem ((c.tc : Thread Cert.NormGradIdeal.nD Cert.NormGradIdeal.τ).loc Cert.NormGradIdeal.main_v3_0) = v0 c
          ∧ r.2.mem ((c.tc : Thread Cert.NormGradIdeal.nD Cert.NormGradIdeal.τ).loc Cert.NormGradIdeal.main_v3_1) = v1 c
          ∧ r.2.mem ((c.tc : Thread Cert.NormGradIdeal.nD Cert.NormGradIdeal.τ).loc Cert.NormGradIdeal.main_v3_2) = v2 c
          ∧ r.2.mem ((c.tc : Thread Cert.NormGradIdeal.nD Cert.NormGradIdeal.τ).loc Cert.NormGradIdeal.main_arg0) = m ((c.tc : Thread Cert.NormGradIdeal.nD Cert.NormGradIdeal.τ).loc Cert.NormGradIdeal.main_arg0)
          ∧ r.2.mem ((c.tc : Thread Cert.NormGradIdeal.nD Cert.NormGradIdeal.τ).loc Cert.NormGradIdeal.main_arg1) = m ((c.tc : Thread Cert.NormGradIdeal.nD Cert.NormGradIdeal.τ).loc Cert.NormGradIdeal.main_arg1)
          ∧ r.2.mem ((c.tc : Thread Cert.NormGradIdeal.nD Cert.NormGradIdeal.τ).loc Cert.NormGradIdeal.main_arg2) = m ((c.tc : Thread Cert.NormGradIdeal.nD Cert.NormGradIdeal.τ).loc Cert.NormGradIdeal.main_arg2)
          ∧ r.2.mem ((c.tc : Thread Cert.NormGradIdeal.nD Cert.NormGradIdeal.τ).loc Cert.NormGradIdeal.main_arg3) = m ((c.tc : Thread Cert.NormGradIdeal.nD Cert.NormGradIdeal.τ).loc Cert.NormGradIdeal.main_arg3)
          ∧ r.2.mem ((c.tc : Thread Cert.NormGradIdeal.nD Cert.NormGradIdeal.τ).loc Cert.NormGradIdeal.main_arg4) = m ((c.tc : Thread Cert.NormGradIdeal.nD Cert.NormGradIdeal.τ).loc Cert.NormGradIdeal.main_arg4))
      ∧ θ_run (Cert.NormGradRefIdeal.defs (F := Ideal)) (onTc (τ := Cert.NormGradRefIdeal.τ) (Cert.NormGradRefIdeal.main (F := Ideal))) ⟨m', fun _ => 0, g'⟩ (fun r => ∀ c : Dev Cert.NormGradRefIdeal.nD,
          r.2.mem ((c.tc : Thread Cert.NormGradRefIdeal.nD Cert.NormGradRefIdeal.τ).loc Cert.NormGradRefIdeal.main_v37) = v0 c
          ∧ r.2.mem ((c.tc : Thread Cert.NormGradRefIdeal.nD Cert.NormGradRefIdeal.τ).loc Cert.NormGradRefIdeal.main_v20) = v1 c
          ∧ r.2.mem ((c.tc : Thread Cert.NormGradRefIdeal.nD Cert.NormGradRefIdeal.τ).loc Cert.NormGradRefIdeal.main_v38) = v2 c
          ∧ r.2.mem ((c.tc : Thread Cert.NormGradRefIdeal.nD Cert.NormGradRefIdeal.τ).loc Cert.NormGradRefIdeal.main_arg0) = m' ((c.tc : Thread Cert.NormGradRefIdeal.nD Cert.NormGradRefIdeal.τ).loc Cert.NormGradRefIdeal.main_arg0)
          ∧ r.2.mem ((c.tc : Thread Cert.NormGradRefIdeal.nD Cert.NormGradRefIdeal.τ).loc Cert.NormGradRefIdeal.main_arg1) = m' ((c.tc : Thread Cert.NormGradRefIdeal.nD Cert.NormGradRefIdeal.τ).loc Cert.NormGradRefIdeal.main_arg1)
          ∧ r.2.mem ((c.tc : Thread Cert.NormGradRefIdeal.nD Cert.NormGradRefIdeal.τ).loc Cert.NormGradRefIdeal.main_arg2) = m' ((c.tc : Thread Cert.NormGradRefIdeal.nD Cert.NormGradRefIdeal.τ).loc Cert.NormGradRefIdeal.main_arg2)
          ∧ r.2.mem ((c.tc : Thread Cert.NormGradRefIdeal.nD Cert.NormGradRefIdeal.τ).loc Cert.NormGradRefIdeal.main_arg3) = m' ((c.tc : Thread Cert.NormGradRefIdeal.nD Cert.NormGradRefIdeal.τ).loc Cert.NormGradRefIdeal.main_arg3)
          ∧ r.2.mem ((c.tc : Thread Cert.NormGradRefIdeal.nD Cert.NormGradRefIdeal.τ).loc Cert.NormGradRefIdeal.main_arg4) = m' ((c.tc : Thread Cert.NormGradRefIdeal.nD Cert.NormGradRefIdeal.τ).loc Cert.NormGradRefIdeal.main_arg4))

def preserves_SbForward_SbForwardIdeal : Prop :=
  IdealRules.named_const.Statement Cert.SbForwardIdeal.κ "neg_log2e" .f32 0xBFB8AA3B#32 ((-((Real.log 2)⁻¹) : ℝ) : EReal)

def algebraic_SbForwardIdeal_SbForwardRefIdeal_pre_afwd_finite [hSbForwardIdeal : Cert.SbForwardIdeal.Facts] [hSbForwardRefIdeal : Cert.SbForwardRefIdeal.Facts] [hPre_afwd_finite : Cert.Pre_afwd_finite.Facts] : Prop :=
  ∀ (m : (ℓ : Loc Cert.SbForwardIdeal.nD Cert.SbForwardIdeal.τ Cert.SbForwardIdeal.sig) → Buf (Elt Ideal) ℓ) (g : Dev Cert.SbForwardIdeal.nD → PrngReg)
    (m' : (ℓ : Loc Cert.SbForwardRefIdeal.nD Cert.SbForwardRefIdeal.τ Cert.SbForwardRefIdeal.sig) → Buf (Elt Ideal) ℓ) (g' : Dev Cert.SbForwardRefIdeal.nD → PrngReg), Pre_SbForwardIdeal_afwd_finite m →
    (∀ c : Dev Cert.SbForwardIdeal.nD,
      m' ((c.tc : Thread Cert.SbForwardRefIdeal.nD Cert.SbForwardRefIdeal.τ).loc Cert.SbForwardRefIdeal.main_arg0) = m ((c.tc : Thread Cert.SbForwardIdeal.nD Cert.SbForwardIdeal.τ).loc Cert.SbForwardIdeal.main_arg0)) →
    ∃ (v0 : (c : Dev Cert.SbForwardIdeal.nD) → Buf (Elt Ideal) ((c.tc : Thread Cert.SbForwardIdeal.nD Cert.SbForwardIdeal.τ).loc Cert.SbForwardIdeal.main_v0_0)) (v1 : (c : Dev Cert.SbForwardIdeal.nD) → Buf (Elt Ideal) ((c.tc : Thread Cert.SbForwardIdeal.nD Cert.SbForwardIdeal.τ).loc Cert.SbForwardIdeal.main_v0_1)) (v2 : (c : Dev Cert.SbForwardIdeal.nD) → Buf (Elt Ideal) ((c.tc : Thread Cert.SbForwardIdeal.nD Cert.SbForwardIdeal.τ).loc Cert.SbForwardIdeal.main_v0_2)),
      θ_run (Cert.SbForwardIdeal.defs (F := Ideal)) (onTc (τ := Cert.SbForwardIdeal.τ) (Cert.SbForwardIdeal.main (F := Ideal))) ⟨m, fun _ => 0, g⟩ (fun r => ∀ c : Dev Cert.SbForwardIdeal.nD,
          r.2.mem ((c.tc : Thread Cert.SbForwardIdeal.nD Cert.SbForwardIdeal.τ).loc Cert.SbForwardIdeal.main_v0_0) = v0 c
          ∧ r.2.mem ((c.tc : Thread Cert.SbForwardIdeal.nD Cert.SbForwardIdeal.τ).loc Cert.SbForwardIdeal.main_v0_1) = v1 c
          ∧ r.2.mem ((c.tc : Thread Cert.SbForwardIdeal.nD Cert.SbForwardIdeal.τ).loc Cert.SbForwardIdeal.main_v0_2) = v2 c
          ∧ r.2.mem ((c.tc : Thread Cert.SbForwardIdeal.nD Cert.SbForwardIdeal.τ).loc Cert.SbForwardIdeal.main_arg0) = m ((c.tc : Thread Cert.SbForwardIdeal.nD Cert.SbForwardIdeal.τ).loc Cert.SbForwardIdeal.main_arg0))
      ∧ θ_run (Cert.SbForwardRefIdeal.defs (F := Ideal)) (onTc (τ := Cert.SbForwardRefIdeal.τ) (Cert.SbForwardRefIdeal.main (F := Ideal))) ⟨m', fun _ => 0, g'⟩ (fun r => ∀ c : Dev Cert.SbForwardRefIdeal.nD,
          r.2.mem ((c.tc : Thread Cert.SbForwardRefIdeal.nD Cert.SbForwardRefIdeal.τ).loc Cert.SbForwardRefIdeal.main_v63) = v0 c
          ∧ r.2.mem ((c.tc : Thread Cert.SbForwardRefIdeal.nD Cert.SbForwardRefIdeal.τ).loc Cert.SbForwardRefIdeal.main_v65) = v1 c
          ∧ r.2.mem ((c.tc : Thread Cert.SbForwardRefIdeal.nD Cert.SbForwardRefIdeal.τ).loc Cert.SbForwardRefIdeal.main_v27) = v2 c
          ∧ r.2.mem ((c.tc : Thread Cert.SbForwardRefIdeal.nD Cert.SbForwardRefIdeal.τ).loc Cert.SbForwardRefIdeal.main_arg0) = m' ((c.tc : Thread Cert.SbForwardRefIdeal.nD Cert.SbForwardRefIdeal.τ).loc Cert.SbForwardRefIdeal.main_arg0))

def preserves_PoolForward_PoolForwardIdeal : Prop :=
  True

def algebraic_PoolForwardIdeal_PoolForwardRefIdeal_pre_pfwd_finite [hPoolForwardIdeal : Cert.PoolForwardIdeal.Facts] [hPoolForwardRefIdeal : Cert.PoolForwardRefIdeal.Facts] [hPre_pfwd_finite : Cert.Pre_pfwd_finite.Facts] : Prop :=
  ∀ (m : (ℓ : Loc Cert.PoolForwardIdeal.nD Cert.PoolForwardIdeal.τ Cert.PoolForwardIdeal.sig) → Buf (Elt Ideal) ℓ) (g : Dev Cert.PoolForwardIdeal.nD → PrngReg)
    (m' : (ℓ : Loc Cert.PoolForwardRefIdeal.nD Cert.PoolForwardRefIdeal.τ Cert.PoolForwardRefIdeal.sig) → Buf (Elt Ideal) ℓ) (g' : Dev Cert.PoolForwardRefIdeal.nD → PrngReg), Pre_PoolForwardIdeal_pfwd_finite m →
    (∀ c : Dev Cert.PoolForwardIdeal.nD,
      m' ((c.tc : Thread Cert.PoolForwardRefIdeal.nD Cert.PoolForwardRefIdeal.τ).loc Cert.PoolForwardRefIdeal.main_arg0) = m ((c.tc : Thread Cert.PoolForwardIdeal.nD Cert.PoolForwardIdeal.τ).loc Cert.PoolForwardIdeal.main_arg0)
      ∧ m' ((c.tc : Thread Cert.PoolForwardRefIdeal.nD Cert.PoolForwardRefIdeal.τ).loc Cert.PoolForwardRefIdeal.main_arg1) = m ((c.tc : Thread Cert.PoolForwardIdeal.nD Cert.PoolForwardIdeal.τ).loc Cert.PoolForwardIdeal.main_arg1)
      ∧ m' ((c.tc : Thread Cert.PoolForwardRefIdeal.nD Cert.PoolForwardRefIdeal.τ).loc Cert.PoolForwardRefIdeal.main_arg2) = m ((c.tc : Thread Cert.PoolForwardIdeal.nD Cert.PoolForwardIdeal.τ).loc Cert.PoolForwardIdeal.main_arg2)) →
    ∃ (v0 : (c : Dev Cert.PoolForwardIdeal.nD) → Buf (Elt Ideal) ((c.tc : Thread Cert.PoolForwardIdeal.nD Cert.PoolForwardIdeal.τ).loc Cert.PoolForwardIdeal.main_v4_0)) (v1 : (c : Dev Cert.PoolForwardIdeal.nD) → Buf (Elt Ideal) ((c.tc : Thread Cert.PoolForwardIdeal.nD Cert.PoolForwardIdeal.τ).loc Cert.PoolForwardIdeal.main_v4_1)) (v2 : (c : Dev Cert.PoolForwardIdeal.nD) → Buf (Elt Ideal) ((c.tc : Thread Cert.PoolForwardIdeal.nD Cert.PoolForwardIdeal.τ).loc Cert.PoolForwardIdeal.main_v4_2)),
      θ_run (Cert.PoolForwardIdeal.defs (F := Ideal)) (onTc (τ := Cert.PoolForwardIdeal.τ) (Cert.PoolForwardIdeal.main (F := Ideal))) ⟨m, fun _ => 0, g⟩ (fun r => ∀ c : Dev Cert.PoolForwardIdeal.nD,
          r.2.mem ((c.tc : Thread Cert.PoolForwardIdeal.nD Cert.PoolForwardIdeal.τ).loc Cert.PoolForwardIdeal.main_v4_0) = v0 c
          ∧ r.2.mem ((c.tc : Thread Cert.PoolForwardIdeal.nD Cert.PoolForwardIdeal.τ).loc Cert.PoolForwardIdeal.main_v4_1) = v1 c
          ∧ r.2.mem ((c.tc : Thread Cert.PoolForwardIdeal.nD Cert.PoolForwardIdeal.τ).loc Cert.PoolForwardIdeal.main_v4_2) = v2 c
          ∧ r.2.mem ((c.tc : Thread Cert.PoolForwardIdeal.nD Cert.PoolForwardIdeal.τ).loc Cert.PoolForwardIdeal.main_arg0) = m ((c.tc : Thread Cert.PoolForwardIdeal.nD Cert.PoolForwardIdeal.τ).loc Cert.PoolForwardIdeal.main_arg0)
          ∧ r.2.mem ((c.tc : Thread Cert.PoolForwardIdeal.nD Cert.PoolForwardIdeal.τ).loc Cert.PoolForwardIdeal.main_arg1) = m ((c.tc : Thread Cert.PoolForwardIdeal.nD Cert.PoolForwardIdeal.τ).loc Cert.PoolForwardIdeal.main_arg1)
          ∧ r.2.mem ((c.tc : Thread Cert.PoolForwardIdeal.nD Cert.PoolForwardIdeal.τ).loc Cert.PoolForwardIdeal.main_arg2) = m ((c.tc : Thread Cert.PoolForwardIdeal.nD Cert.PoolForwardIdeal.τ).loc Cert.PoolForwardIdeal.main_arg2))
      ∧ θ_run (Cert.PoolForwardRefIdeal.defs (F := Ideal)) (onTc (τ := Cert.PoolForwardRefIdeal.τ) (Cert.PoolForwardRefIdeal.main (F := Ideal))) ⟨m', fun _ => 0, g'⟩ (fun r => ∀ c : Dev Cert.PoolForwardRefIdeal.nD,
          r.2.mem ((c.tc : Thread Cert.PoolForwardRefIdeal.nD Cert.PoolForwardRefIdeal.τ).loc Cert.PoolForwardRefIdeal.main_v91) = v0 c
          ∧ r.2.mem ((c.tc : Thread Cert.PoolForwardRefIdeal.nD Cert.PoolForwardRefIdeal.τ).loc Cert.PoolForwardRefIdeal.main_v93) = v1 c
          ∧ r.2.mem ((c.tc : Thread Cert.PoolForwardRefIdeal.nD Cert.PoolForwardRefIdeal.τ).loc Cert.PoolForwardRefIdeal.main_v95) = v2 c
          ∧ r.2.mem ((c.tc : Thread Cert.PoolForwardRefIdeal.nD Cert.PoolForwardRefIdeal.τ).loc Cert.PoolForwardRefIdeal.main_arg0) = m' ((c.tc : Thread Cert.PoolForwardRefIdeal.nD Cert.PoolForwardRefIdeal.τ).loc Cert.PoolForwardRefIdeal.main_arg0)
          ∧ r.2.mem ((c.tc : Thread Cert.PoolForwardRefIdeal.nD Cert.PoolForwardRefIdeal.τ).loc Cert.PoolForwardRefIdeal.main_arg1) = m' ((c.tc : Thread Cert.PoolForwardRefIdeal.nD Cert.PoolForwardRefIdeal.τ).loc Cert.PoolForwardRefIdeal.main_arg1)
          ∧ r.2.mem ((c.tc : Thread Cert.PoolForwardRefIdeal.nD Cert.PoolForwardRefIdeal.τ).loc Cert.PoolForwardRefIdeal.main_arg2) = m' ((c.tc : Thread Cert.PoolForwardRefIdeal.nD Cert.PoolForwardRefIdeal.τ).loc Cert.PoolForwardRefIdeal.main_arg2))

def preserves_NormForward_NormForwardIdeal : Prop :=
  True

def algebraic_NormForwardIdeal_NormForwardRefIdeal [hNormForwardIdeal : Cert.NormForwardIdeal.Facts] [hNormForwardRefIdeal : Cert.NormForwardRefIdeal.Facts] : Prop :=
  ∀ (m : (ℓ : Loc Cert.NormForwardIdeal.nD Cert.NormForwardIdeal.τ Cert.NormForwardIdeal.sig) → Buf (Elt Ideal) ℓ) (g : Dev Cert.NormForwardIdeal.nD → PrngReg)
    (m' : (ℓ : Loc Cert.NormForwardRefIdeal.nD Cert.NormForwardRefIdeal.τ Cert.NormForwardRefIdeal.sig) → Buf (Elt Ideal) ℓ) (g' : Dev Cert.NormForwardRefIdeal.nD → PrngReg), Pre_NormForwardIdeal m →
    (∀ c : Dev Cert.NormForwardIdeal.nD,
      m' ((c.tc : Thread Cert.NormForwardRefIdeal.nD Cert.NormForwardRefIdeal.τ).loc Cert.NormForwardRefIdeal.main_arg0) = m ((c.tc : Thread Cert.NormForwardIdeal.nD Cert.NormForwardIdeal.τ).loc Cert.NormForwardIdeal.main_arg0)
      ∧ m' ((c.tc : Thread Cert.NormForwardRefIdeal.nD Cert.NormForwardRefIdeal.τ).loc Cert.NormForwardRefIdeal.main_arg1) = m ((c.tc : Thread Cert.NormForwardIdeal.nD Cert.NormForwardIdeal.τ).loc Cert.NormForwardIdeal.main_arg1)
      ∧ m' ((c.tc : Thread Cert.NormForwardRefIdeal.nD Cert.NormForwardRefIdeal.τ).loc Cert.NormForwardRefIdeal.main_arg2) = m ((c.tc : Thread Cert.NormForwardIdeal.nD Cert.NormForwardIdeal.τ).loc Cert.NormForwardIdeal.main_arg2)) →
    ∃ (v0 : (c : Dev Cert.NormForwardIdeal.nD) → Buf (Elt Ideal) ((c.tc : Thread Cert.NormForwardIdeal.nD Cert.NormForwardIdeal.τ).loc Cert.NormForwardIdeal.main_v3_0)) (v1 : (c : Dev Cert.NormForwardIdeal.nD) → Buf (Elt Ideal) ((c.tc : Thread Cert.NormForwardIdeal.nD Cert.NormForwardIdeal.τ).loc Cert.NormForwardIdeal.main_v3_1)),
      θ_run (Cert.NormForwardIdeal.defs (F := Ideal)) (onTc (τ := Cert.NormForwardIdeal.τ) (Cert.NormForwardIdeal.main (F := Ideal))) ⟨m, fun _ => 0, g⟩ (fun r => ∀ c : Dev Cert.NormForwardIdeal.nD,
          r.2.mem ((c.tc : Thread Cert.NormForwardIdeal.nD Cert.NormForwardIdeal.τ).loc Cert.NormForwardIdeal.main_v3_0) = v0 c
          ∧ r.2.mem ((c.tc : Thread Cert.NormForwardIdeal.nD Cert.NormForwardIdeal.τ).loc Cert.NormForwardIdeal.main_v3_1) = v1 c
          ∧ r.2.mem ((c.tc : Thread Cert.NormForwardIdeal.nD Cert.NormForwardIdeal.τ).loc Cert.NormForwardIdeal.main_arg0) = m ((c.tc : Thread Cert.NormForwardIdeal.nD Cert.NormForwardIdeal.τ).loc Cert.NormForwardIdeal.main_arg0)
          ∧ r.2.mem ((c.tc : Thread Cert.NormForwardIdeal.nD Cert.NormForwardIdeal.τ).loc Cert.NormForwardIdeal.main_arg1) = m ((c.tc : Thread Cert.NormForwardIdeal.nD Cert.NormForwardIdeal.τ).loc Cert.NormForwardIdeal.main_arg1)
          ∧ r.2.mem ((c.tc : Thread Cert.NormForwardIdeal.nD Cert.NormForwardIdeal.τ).loc Cert.NormForwardIdeal.main_arg2) = m ((c.tc : Thread Cert.NormForwardIdeal.nD Cert.NormForwardIdeal.τ).loc Cert.NormForwardIdeal.main_arg2))
      ∧ θ_run (Cert.NormForwardRefIdeal.defs (F := Ideal)) (onTc (τ := Cert.NormForwardRefIdeal.τ) (Cert.NormForwardRefIdeal.main (F := Ideal))) ⟨m', fun _ => 0, g'⟩ (fun r => ∀ c : Dev Cert.NormForwardRefIdeal.nD,
          r.2.mem ((c.tc : Thread Cert.NormForwardRefIdeal.nD Cert.NormForwardRefIdeal.τ).loc Cert.NormForwardRefIdeal.main_v13) = v0 c
          ∧ r.2.mem ((c.tc : Thread Cert.NormForwardRefIdeal.nD Cert.NormForwardRefIdeal.τ).loc Cert.NormForwardRefIdeal.main_v14) = v1 c
          ∧ r.2.mem ((c.tc : Thread Cert.NormForwardRefIdeal.nD Cert.NormForwardRefIdeal.τ).loc Cert.NormForwardRefIdeal.main_arg0) = m' ((c.tc : Thread Cert.NormForwardRefIdeal.nD Cert.NormForwardRefIdeal.τ).loc Cert.NormForwardRefIdeal.main_arg0)
          ∧ r.2.mem ((c.tc : Thread Cert.NormForwardRefIdeal.nD Cert.NormForwardRefIdeal.τ).loc Cert.NormForwardRefIdeal.main_arg1) = m' ((c.tc : Thread Cert.NormForwardRefIdeal.nD Cert.NormForwardRefIdeal.τ).loc Cert.NormForwardRefIdeal.main_arg1)
          ∧ r.2.mem ((c.tc : Thread Cert.NormForwardRefIdeal.nD Cert.NormForwardRefIdeal.τ).loc Cert.NormForwardRefIdeal.main_arg2) = m' ((c.tc : Thread Cert.NormForwardRefIdeal.nD Cert.NormForwardRefIdeal.τ).loc Cert.NormForwardRefIdeal.main_arg2))

def Claim : Prop :=
  ∃ (hSbGate : Cert.SbGate.Facts) (hSbGateIdeal : Cert.SbGateIdeal.Facts) (hSbGateRefIdeal : Cert.SbGateRefIdeal.Facts) (hSbGrad : Cert.SbGrad.Facts) (hSbGradIdeal : Cert.SbGradIdeal.Facts) (hSbGradRefIdeal : Cert.SbGradRefIdeal.Facts) (hPoolGate : Cert.PoolGate.Facts) (hPoolGateIdeal : Cert.PoolGateIdeal.Facts) (hPoolGateRefIdeal : Cert.PoolGateRefIdeal.Facts) (hLossHead : Cert.LossHead.Facts) (hLossHeadIdeal : Cert.LossHeadIdeal.Facts) (hLossHeadRefIdeal : Cert.LossHeadRefIdeal.Facts) (hPoolGrad : Cert.PoolGrad.Facts) (hPoolGradIdeal : Cert.PoolGradIdeal.Facts) (hPoolGradRefIdeal : Cert.PoolGradRefIdeal.Facts) (hNormGrad : Cert.NormGrad.Facts) (hNormGradIdeal : Cert.NormGradIdeal.Facts) (hNormGradRefIdeal : Cert.NormGradRefIdeal.Facts) (hSbForward : Cert.SbForward.Facts) (hSbForwardIdeal : Cert.SbForwardIdeal.Facts) (hSbForwardRefIdeal : Cert.SbForwardRefIdeal.Facts) (hPoolForward : Cert.PoolForward.Facts) (hPoolForwardIdeal : Cert.PoolForwardIdeal.Facts) (hPoolForwardRefIdeal : Cert.PoolForwardRefIdeal.Facts) (hNormForward : Cert.NormForward.Facts) (hNormForwardIdeal : Cert.NormForwardIdeal.Facts) (hNormForwardRefIdeal : Cert.NormForwardRefIdeal.Facts) (hPre_gate_finite : Cert.Pre_gate_finite.Facts) (hPre_attn_finite : Cert.Pre_attn_finite.Facts) (hPre_pgate_finite : Cert.Pre_pgate_finite.Facts) (hPre_loss_finite : Cert.Pre_loss_finite.Facts) (hPre_poolb_finite : Cert.Pre_poolb_finite.Facts) (hPre_rmsb_finite : Cert.Pre_rmsb_finite.Facts) (hPre_afwd_finite : Cert.Pre_afwd_finite.Facts) (hPre_pfwd_finite : Cert.Pre_pfwd_finite.Facts) (hOn_gate_written : Cert.On_gate_written.Facts) (hOn_pgate_written : Cert.On_pgate_written.Facts),
    quiescent_SbGate (hSbGate := hSbGate)
    ∧ quiescent_SbGateIdeal (hSbGateIdeal := hSbGateIdeal)
    ∧ quiescent_SbGateIdeal_pre_gate_finite (hSbGateIdeal := hSbGateIdeal) (hPre_gate_finite := hPre_gate_finite)
    ∧ quiescent_SbGateRefIdeal (hSbGateRefIdeal := hSbGateRefIdeal)
    ∧ quiescent_SbGateRefIdeal_pre_gate_finite (hSbGateRefIdeal := hSbGateRefIdeal) (hPre_gate_finite := hPre_gate_finite)
    ∧ quiescent_SbGrad (hSbGrad := hSbGrad)
    ∧ quiescent_SbGradIdeal (hSbGradIdeal := hSbGradIdeal)
    ∧ quiescent_SbGradIdeal_pre_attn_finite (hSbGradIdeal := hSbGradIdeal) (hPre_attn_finite := hPre_attn_finite)
    ∧ quiescent_SbGradRefIdeal (hSbGradRefIdeal := hSbGradRefIdeal)
    ∧ quiescent_SbGradRefIdeal_pre_attn_finite (hSbGradRefIdeal := hSbGradRefIdeal) (hPre_attn_finite := hPre_attn_finite)
    ∧ quiescent_PoolGate (hPoolGate := hPoolGate)
    ∧ quiescent_PoolGateIdeal (hPoolGateIdeal := hPoolGateIdeal)
    ∧ quiescent_PoolGateIdeal_pre_pgate_finite (hPoolGateIdeal := hPoolGateIdeal) (hPre_pgate_finite := hPre_pgate_finite)
    ∧ quiescent_PoolGateRefIdeal (hPoolGateRefIdeal := hPoolGateRefIdeal)
    ∧ quiescent_PoolGateRefIdeal_pre_pgate_finite (hPoolGateRefIdeal := hPoolGateRefIdeal) (hPre_pgate_finite := hPre_pgate_finite)
    ∧ quiescent_LossHead (hLossHead := hLossHead)
    ∧ quiescent_LossHeadIdeal (hLossHeadIdeal := hLossHeadIdeal)
    ∧ quiescent_LossHeadIdeal_pre_loss_finite (hLossHeadIdeal := hLossHeadIdeal) (hPre_loss_finite := hPre_loss_finite)
    ∧ quiescent_LossHeadRefIdeal (hLossHeadRefIdeal := hLossHeadRefIdeal)
    ∧ quiescent_LossHeadRefIdeal_pre_loss_finite (hLossHeadRefIdeal := hLossHeadRefIdeal) (hPre_loss_finite := hPre_loss_finite)
    ∧ quiescent_PoolGrad (hPoolGrad := hPoolGrad)
    ∧ quiescent_PoolGradIdeal (hPoolGradIdeal := hPoolGradIdeal)
    ∧ quiescent_PoolGradIdeal_pre_poolb_finite (hPoolGradIdeal := hPoolGradIdeal) (hPre_poolb_finite := hPre_poolb_finite)
    ∧ quiescent_PoolGradRefIdeal (hPoolGradRefIdeal := hPoolGradRefIdeal)
    ∧ quiescent_PoolGradRefIdeal_pre_poolb_finite (hPoolGradRefIdeal := hPoolGradRefIdeal) (hPre_poolb_finite := hPre_poolb_finite)
    ∧ quiescent_NormGrad (hNormGrad := hNormGrad)
    ∧ quiescent_NormGradIdeal (hNormGradIdeal := hNormGradIdeal)
    ∧ quiescent_NormGradIdeal_pre_rmsb_finite (hNormGradIdeal := hNormGradIdeal) (hPre_rmsb_finite := hPre_rmsb_finite)
    ∧ quiescent_NormGradRefIdeal (hNormGradRefIdeal := hNormGradRefIdeal)
    ∧ quiescent_NormGradRefIdeal_pre_rmsb_finite (hNormGradRefIdeal := hNormGradRefIdeal) (hPre_rmsb_finite := hPre_rmsb_finite)
    ∧ quiescent_SbForward (hSbForward := hSbForward)
    ∧ quiescent_SbForwardIdeal (hSbForwardIdeal := hSbForwardIdeal)
    ∧ quiescent_SbForwardIdeal_pre_afwd_finite (hSbForwardIdeal := hSbForwardIdeal) (hPre_afwd_finite := hPre_afwd_finite)
    ∧ quiescent_SbForwardRefIdeal (hSbForwardRefIdeal := hSbForwardRefIdeal)
    ∧ quiescent_SbForwardRefIdeal_pre_afwd_finite (hSbForwardRefIdeal := hSbForwardRefIdeal) (hPre_afwd_finite := hPre_afwd_finite)
    ∧ quiescent_PoolForward (hPoolForward := hPoolForward)
    ∧ quiescent_PoolForwardIdeal (hPoolForwardIdeal := hPoolForwardIdeal)
    ∧ quiescent_PoolForwardIdeal_pre_pfwd_finite (hPoolForwardIdeal := hPoolForwardIdeal) (hPre_pfwd_finite := hPre_pfwd_finite)
    ∧ quiescent_PoolForwardRefIdeal (hPoolForwardRefIdeal := hPoolForwardRefIdeal)
    ∧ quiescent_PoolForwardRefIdeal_pre_pfwd_finite (hPoolForwardRefIdeal := hPoolForwardRefIdeal) (hPre_pfwd_finite := hPre_pfwd_finite)
    ∧ quiescent_NormForward (hNormForward := hNormForward)
    ∧ quiescent_NormForwardIdeal (hNormForwardIdeal := hNormForwardIdeal)
    ∧ quiescent_NormForwardRefIdeal (hNormForwardRefIdeal := hNormForwardRefIdeal)
    ∧ preserves_SbGate_SbGateIdeal
    ∧ algebraic_SbGateIdeal_SbGateRefIdeal_on_gate_written_pre_gate_finite (hSbGateIdeal := hSbGateIdeal) (hSbGateRefIdeal := hSbGateRefIdeal) (hPre_gate_finite := hPre_gate_finite) (hOn_gate_written := hOn_gate_written)
    ∧ preserves_SbGrad_SbGradIdeal
    ∧ algebraic_SbGradIdeal_SbGradRefIdeal_pre_attn_finite (hSbGradIdeal := hSbGradIdeal) (hSbGradRefIdeal := hSbGradRefIdeal) (hPre_attn_finite := hPre_attn_finite)
    ∧ preserves_PoolGate_PoolGateIdeal
    ∧ algebraic_PoolGateIdeal_PoolGateRefIdeal_on_pgate_written_pre_pgate_finite (hPoolGateIdeal := hPoolGateIdeal) (hPoolGateRefIdeal := hPoolGateRefIdeal) (hPre_pgate_finite := hPre_pgate_finite) (hOn_pgate_written := hOn_pgate_written)
    ∧ preserves_LossHead_LossHeadIdeal
    ∧ algebraic_LossHeadIdeal_LossHeadRefIdeal_pre_loss_finite (hLossHeadIdeal := hLossHeadIdeal) (hLossHeadRefIdeal := hLossHeadRefIdeal) (hPre_loss_finite := hPre_loss_finite)
    ∧ preserves_PoolGrad_PoolGradIdeal
    ∧ algebraic_PoolGradIdeal_PoolGradRefIdeal_pre_poolb_finite (hPoolGradIdeal := hPoolGradIdeal) (hPoolGradRefIdeal := hPoolGradRefIdeal) (hPre_poolb_finite := hPre_poolb_finite)
    ∧ preserves_NormGrad_NormGradIdeal
    ∧ algebraic_NormGradIdeal_NormGradRefIdeal_pre_rmsb_finite (hNormGradIdeal := hNormGradIdeal) (hNormGradRefIdeal := hNormGradRefIdeal) (hPre_rmsb_finite := hPre_rmsb_finite)
    ∧ preserves_SbForward_SbForwardIdeal
    ∧ algebraic_SbForwardIdeal_SbForwardRefIdeal_pre_afwd_finite (hSbForwardIdeal := hSbForwardIdeal) (hSbForwardRefIdeal := hSbForwardRefIdeal) (hPre_afwd_finite := hPre_afwd_finite)
    ∧ preserves_PoolForward_PoolForwardIdeal
    ∧ algebraic_PoolForwardIdeal_PoolForwardRefIdeal_pre_pfwd_finite (hPoolForwardIdeal := hPoolForwardIdeal) (hPoolForwardRefIdeal := hPoolForwardRefIdeal) (hPre_pfwd_finite := hPre_pfwd_finite)
    ∧ preserves_NormForward_NormForwardIdeal
    ∧ algebraic_NormForwardIdeal_NormForwardRefIdeal (hNormForwardIdeal := hNormForwardIdeal) (hNormForwardRefIdeal := hNormForwardRefIdeal)
-- ==== On_gate_written.lean ====
abbrev S4096x1024 : Shape := ⟨2, ![4096, 1024]⟩
abbrev S2048x1024 : Shape := ⟨2, ![2048, 1024]⟩
abbrev S4096x6144 : Shape := ⟨2, ![4096, 6144]⟩
abbrev S4096x2048 : Shape := ⟨2, ![4096, 2048]⟩
abbrev S_ : Shape := ⟨0, ![]⟩

class Facts : Prop where
  bcast_S_S4096x2048 : S_.BroadcastsInDim S4096x2048 (![] : Fin 0 → Fin S4096x2048.rank)
  bcast_S_S4096x6144 : S_.BroadcastsInDim S4096x6144 (![] : Fin 0 → Fin S4096x6144.rank)

variable [Facts]

def fn {F : FTy → Type} [FloatOps F] (main_arg0 : FVec F S4096x1024 .bf16) (main_arg1 : FVec F S2048x1024 .f32) (main_arg2 : FVec F S4096x6144 .bf16) (main_arg3 : FVec F S4096x2048 .bf16) : IVec S4096x2048 1 × IVec S4096x6144 1 :=
  let main_v0 : IVec S4096x2048 32 := iotaInDim S4096x2048 32 0
  let main_c : IVec S_ 32 := constantI S_ 32 0#32
  let main_v1 : IVec S4096x2048 32 := broadcastInDim S4096x2048 ![] bcast_S_S4096x2048 main_c
  let main_v2 : IVec S4096x2048 1 := cmpi .sge main_v0 main_v1
  let main_v3 : IVec S4096x6144 32 := iotaInDim S4096x6144 32 1
  let main_c_0 : IVec S_ 32 := constantI S_ 32 4096#32
  let main_v4 : IVec S4096x6144 32 := broadcastInDim S4096x6144 ![] bcast_S_S4096x6144 main_c_0
  let main_v5 : IVec S4096x6144 1 := cmpi .sge main_v3 main_v4
  (main_v2, main_v5)
-- ==== On_pgate_written.lean ====
abbrev S4096x1024 : Shape := ⟨2, ![4096, 1024]⟩
abbrev S2048x1024 : Shape := ⟨2, ![2048, 1024]⟩
abbrev S4096x4096 : Shape := ⟨2, ![4096, 4096]⟩
abbrev S4096x2048 : Shape := ⟨2, ![4096, 2048]⟩
abbrev S1x2048 : Shape := ⟨2, ![1, 2048]⟩
abbrev S_ : Shape := ⟨0, ![]⟩

class Facts : Prop where
  bcast_S_S4096x2048 : S_.BroadcastsInDim S4096x2048 (![] : Fin 0 → Fin S4096x2048.rank)
  bcast_S_S4096x4096 : S_.BroadcastsInDim S4096x4096 (![] : Fin 0 → Fin S4096x4096.rank)
  bcast_S_S1x2048 : S_.BroadcastsInDim S1x2048 (![] : Fin 0 → Fin S1x2048.rank)

variable [Facts]

def fn {F : FTy → Type} [FloatOps F] (main_arg0 : FVec F S4096x1024 .bf16) (main_arg1 : FVec F S2048x1024 .f32) (main_arg2 : FVec F S4096x4096 .bf16) (main_arg3 : FVec F S4096x2048 .bf16) (main_arg4 : FVec F S1x2048 .f32) : IVec S4096x2048 1 × IVec S4096x4096 1 × IVec S1x2048 1 :=
  let main_v0 : IVec S4096x2048 32 := iotaInDim S4096x2048 32 0
  let main_c : IVec S_ 32 := constantI S_ 32 0#32
  let main_v1 : IVec S4096x2048 32 := broadcastInDim S4096x2048 ![] bcast_S_S4096x2048 main_c
  let main_v2 : IVec S4096x2048 1 := cmpi .sge main_v0 main_v1
  let main_v3 : IVec S4096x4096 32 := iotaInDim S4096x4096 32 1
  let main_c_0 : IVec S_ 32 := constantI S_ 32 2048#32
  let main_v4 : IVec S4096x4096 32 := broadcastInDim S4096x4096 ![] bcast_S_S4096x4096 main_c_0
  let main_v5 : IVec S4096x4096 1 := cmpi .sge main_v3 main_v4
  let main_v6 : IVec S1x2048 32 := iotaInDim S1x2048 32 1
  let main_c_1 : IVec S_ 32 := constantI S_ 32 0#32
  let main_v7 : IVec S1x2048 32 := broadcastInDim S1x2048 ![] bcast_S_S1x2048 main_c_1
  let main_v8 : IVec S1x2048 1 := cmpi .sge main_v6 main_v7
  (main_v2, main_v5, main_v8)
-- ==== Pre_afwd_finite.lean ====
abbrev S4096x6144 : Shape := ⟨2, ![4096, 6144]⟩
abbrev S_ : Shape := ⟨0, ![]⟩

class Facts : Prop where
  bitsLt_bf16_f32 : FTy.bits .bf16 < FTy.bits .f32
  bcast_S_S4096x6144 : S_.BroadcastsInDim S4096x6144 (![] : Fin 0 → Fin S4096x6144.rank)
  reducesTo_S4096x6144_S_d0_1 : S4096x6144.ReducesTo [0, 1] S_
  h_S_ : 0 < S_.numel

variable [Facts]

def fn {F : FTy → Type} [FloatOps F] (main_arg0 : FVec F S4096x6144 .bf16) : IVec S_ 1 :=
  let main_v0 : FVec F S4096x6144 .f32 := (extf .f32 · bitsLt_bf16_f32) main_arg0
  let main_v1 : FVec F S4096x6144 .f32 := Host.absf main_v0
  let main_cst : FVec F S_ .f32 := constant S_ .f32 0x7F800000#32
  let main_v2 : FVec F S4096x6144 .f32 := broadcastInDim S4096x6144 ![] bcast_S_S4096x6144 main_cst
  let main_v3 : IVec S4096x6144 1 := cmpf .olt main_v1 main_v2
  let main_c : IVec S_ 1 := constantI S_ 1 1#1
  let main_v4 : IVec S_ 1 := (fun x v => Host.reduce IntOp.andi x v reducesTo_S4096x6144_S_d0_1 h_S_) main_v3 main_c
  main_v4
-- ==== Pre_attn_finite.lean ====
abbrev S4096x6144 : Shape := ⟨2, ![4096, 6144]⟩
abbrev S4096x2048 : Shape := ⟨2, ![4096, 2048]⟩
abbrev S4096x4096 : Shape := ⟨2, ![4096, 4096]⟩
abbrev S_ : Shape := ⟨0, ![]⟩

class Facts : Prop where
  slices_S4096x6144_S4096x4096_0_0 : S4096x6144.Slices ![0, 0] S4096x4096
  bitsLt_bf16_f32 : FTy.bits .bf16 < FTy.bits .f32
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_

variable [Facts]

def fn {F : FTy → Type} [FloatOps F] (main_arg0 : FVec F S4096x6144 .bf16) (main_arg1 : FVec F S4096x2048 .bf16) (main_arg2 : FVec F S4096x6144 .bf16) : IVec S_ 1 :=
  let main_v0 : FVec F S4096x4096 .bf16 := (extractStridedSlice S4096x4096 ![0, 0] · slices_S4096x6144_S4096x4096_0_0) main_arg0
  let main_v1 : FVec F S4096x4096 .f32 := (extf .f32 · bitsLt_bf16_f32) main_v0
  let main_v2 : FVec F S4096x4096 .f32 := Host.absf main_v1
  let main_cst : FVec F S_ .f32 := constant S_ .f32 0x7F800000#32
  let main_v3 : FVec F S4096x4096 .f32 := broadcastInDim S4096x4096 ![] bcast_S_S4096x4096 main_cst
  let main_v4 : IVec S4096x4096 1 := cmpf .olt main_v2 main_v3
  let main_c : IVec S_ 1 := constantI S_ 1 1#1
  let main_v5 : IVec S_ 1 := (fun x v => Host.reduce IntOp.andi x v reducesTo_S4096x4096_S_d0_1 h_S_) main_v4 main_c
  let main_v6 : FVec F S4096x2048 .f32 := (extf .f32 · bitsLt_bf16_f32) main_arg1
  let main_v7 : FVec F S4096x2048 .f32 := Host.absf main_v6
  let main_cst_0 : FVec F S_ .f32 := constant S_ .f32 0x7F800000#32
  let main_v8 : FVec F S4096x2048 .f32 := broadcastInDim S4096x2048 ![] bcast_S_S4096x2048 main_cst_0
  let main_v9 : IVec S4096x2048 1 := cmpf .olt main_v7 main_v8
  let main_c_1 : IVec S_ 1 := constantI S_ 1 1#1
  let main_v10 : IVec S_ 1 := (fun x v => Host.reduce IntOp.andi x v reducesTo_S4096x2048_S_d0_1 h_S_) main_v9 main_c_1
  let main_v11 : IVec S_ 1 := andi main_v5 main_v10
  main_v11
-- ==== Pre_gate_finite.lean ====
abbrev S4096x1024 : Shape := ⟨2, ![4096, 1024]⟩
abbrev S2048x1024 : Shape := ⟨2, ![2048, 1024]⟩
abbrev S4096x6144 : Shape := ⟨2, ![4096, 6144]⟩
abbrev S4096x2048 : Shape := ⟨2, ![4096, 2048]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S4096x6144 : S_.BroadcastsInDim S4096x6144 (![] : Fin 0 → Fin S4096x6144.rank)
  reducesTo_S4096x6144_S_d0_1 : S4096x6144.ReducesTo [0, 1] S_
  bcast_S_S4096x2048 : S_.BroadcastsInDim S4096x2048 (![] : Fin 0 → Fin S4096x2048.rank)
  reducesTo_S4096x2048_S_d0_1 : S4096x2048.ReducesTo [0, 1] S_

variable [Facts]

def fn_part1 {F : FTy → Type} [FloatOps F] (main_v15 : IVec S_ 1) (main_v17 : FVec F S4096x2048 .f32) : IVec S_ 1 :=
  let main_cst_4 : FVec F S_ .f32 := constant S_ .f32 0x7F800000#32
  let main_v18 : FVec F S4096x2048 .f32 := broadcastInDim S4096x2048 ![] bcast_S_S4096x2048 main_cst_4
  let main_v19 : IVec S4096x2048 1 := cmpf .olt main_v17 main_v18
  let main_c_5 : IVec S_ 1 := constantI S_ 1 1#1
  let main_v20 : IVec S_ 1 := (fun x v => Host.reduce IntOp.andi x v reducesTo_S4096x2048_S_d0_1 h_S_) main_v19 main_c_5
  let main_v21 : IVec S_ 1 := andi main_v15 main_v20
  main_v21

def fn {F : FTy → Type} [FloatOps F] (main_arg0 : FVec F S4096x1024 .bf16) (main_arg1 : FVec F S2048x1024 .f32) (main_arg2 : FVec F S4096x6144 .bf16) (main_arg3 : FVec F S4096x2048 .bf16) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S2048x1024 .f32 := Host.absf main_arg1
  let main_cst_0 : FVec F S_ .f32 := constant S_ .f32 0x7F800000#32
  let main_v6 : FVec F S2048x1024 .f32 := broadcastInDim S2048x1024 ![] bcast_S_S2048x1024 main_cst_0
  let main_v7 : IVec S2048x1024 1 := cmpf .olt main_v5 main_v6
  let main_c_1 : IVec S_ 1 := constantI S_ 1 1#1
  let main_v8 : IVec S_ 1 := (fun x v => Host.reduce IntOp.andi x v reducesTo_S2048x1024_S_d0_1 h_S_) main_v7 main_c_1
  let main_v9 : IVec S_ 1 := andi main_v4 main_v8
  let main_v10 : FVec F S4096x6144 .f32 := (extf .f32 · bitsLt_bf16_f32) main_arg2
  let main_v11 : FVec F S4096x6144 .f32 := Host.absf main_v10
  let main_cst_2 : FVec F S_ .f32 := constant S_ .f32 0x7F800000#32
  let main_v12 : FVec F S4096x6144 .f32 := broadcastInDim S4096x6144 ![] bcast_S_S4096x6144 main_cst_2
  let main_v13 : IVec S4096x6144 1 := cmpf .olt main_v11 main_v12
  let main_c_3 : IVec S_ 1 := constantI S_ 1 1#1
  let main_v14 : IVec S_ 1 := (fun x v => Host.reduce IntOp.andi x v reducesTo_S4096x6144_S_d0_1 h_S_) main_v13 main_c_3
  let main_v15 : IVec S_ 1 := andi main_v9 main_v14
  let main_v16 : FVec F S4096x2048 .f32 := (extf .f32 · bitsLt_bf16_f32) main_arg3
  let main_v17 : FVec F S4096x2048 .f32 := Host.absf main_v16
  fn_part1 (F := F) main_v15 main_v17
-- ==== Pre_loss_finite.lean ====
abbrev S4096x2048 : Shape := ⟨2, ![4096, 2048]⟩
abbrev S2048x1024 : Shape := ⟨2, ![2048, 1024]⟩
abbrev S4096x1024 : Shape := ⟨2, ![4096, 1024]⟩
abbrev S1x1024 : Shape := ⟨2, ![1, 1024]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S4096x1024 .f32) (main_v14 : IVec S_ 1) (main_v15 : FVec F S1x1024 .f32) (main_v16 : FVec F S1x1024 .f32) : IVec S_ 1 :=
  let main_v17 : IVec S1x1024 1 := cmpf .olt main_v15 main_v16
  let main_c_5 : IVec S_ 1 := constantI S_ 1 1#1
  let main_v18 : IVec S_ 1 := (fun x v => Host.reduce IntOp.andi x v reducesTo_S1x1024_S_d0_1 h_S_) main_v17 main_c_5
  let main_v19 : IVec S_ 1 := andi main_v14 main_v18
  let main_v20 : FVec F S4096x1024 .f32 := Host.absf main_arg4
  let main_cst_6 : FVec F S_ .f32 := constant S_ .f32 0x7F800000#32
  let main_v21 : FVec F S4096x1024 .f32 := broadcastInDim S4096x1024 ![] bcast_S_S4096x1024 main_cst_6
  let main_v22 : IVec S4096x1024 1 := cmpf .olt main_v20 main_v21
  let main_c_7 : IVec S_ 1 := constantI S_ 1 1#1
  let main_v23 : IVec S_ 1 := (fun x v => Host.reduce IntOp.andi x v reducesTo_S4096x1024_S_d0_1 h_S_) main_v22 main_c_7
  let main_v24 : IVec S_ 1 := andi main_v19 main_v23
  main_v24

def fn {F : FTy → Type} [FloatOps F] (main_arg0 : FVec F S4096x2048 .bf16) (main_arg1 : FVec F S2048x1024 .f32) (main_arg2 : FVec F S4096x1024 .f32) (main_arg3 : FVec F S1x1024 .f32) (main_arg4 : FVec F S4096x1024 .f32) : IVec S_ 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_c : IVec S_ 1 := constantI S_ 1 1#1
  let main_v4 : IVec S_ 1 := (fun x v => Host.reduce IntOp.andi x v reducesTo_S4096x2048_S_d0_1 h_S_) main_v3 main_c
  let main_v5 : FVec F S2048x1024 .f32 := Host.absf main_arg1
  let main_cst_0 : FVec F S_ .f32 := constant S_ .f32 0x7F800000#32
  let main_v6 : FVec F S2048x1024 .f32 := broadcastInDim S2048x1024 ![] bcast_S_S2048x1024 main_cst_0
  let main_v7 : IVec S2048x1024 1 := cmpf .olt main_v5 main_v6
  let main_c_1 : IVec S_ 1 := constantI S_ 1 1#1
  let main_v8 : IVec S_ 1 := (fun x v => Host.reduce IntOp.andi x v reducesTo_S2048x1024_S_d0_1 h_S_) main_v7 main_c_1
  let main_v9 : IVec S_ 1 := andi main_v4 main_v8
  let main_v10 : FVec F S4096x1024 .f32 := Host.absf main_arg2
  let main_cst_2 : FVec F S_ .f32 := constant S_ .f32 0x7F800000#32
  let main_v11 : FVec F S4096x1024 .f32 := broadcastInDim S4096x1024 ![] bcast_S_S4096x1024 main_cst_2
  let main_v12 : IVec S4096x1024 1 := cmpf .olt main_v10 main_v11
  let main_c_3 : IVec S_ 1 := constantI S_ 1 1#1
  let main_v13 : IVec S_ 1 := (fun x v => Host.reduce IntOp.andi x v reducesTo_S4096x1024_S_d0_1 h_S_) main_v12 main_c_3
  let main_v14 : IVec S_ 1 := andi main_v9 main_v13
  let main_v15 : FVec F S1x1024 .f32 := Host.absf main_arg3
  let main_cst_4 : FVec F S_ .f32 := constant S_ .f32 0x7F800000#32
  let main_v16 : FVec F S1x1024 .f32 := broadcastInDim S1x1024 ![] bcast_S_S1x1024 main_cst_4
  fn_part1 (F := F) main_arg4 main_v14 main_v15 main_v16
-- ==== Pre_pfwd_finite.lean ====
abbrev S4096x4096 : Shape := ⟨2, ![4096, 4096]⟩
abbrev S4x512x512 : Shape := ⟨3, ![4, 512, 512]⟩
abbrev S1x2048 : Shape := ⟨2, ![1, 2048]⟩
abbrev S4096x2048 : Shape := ⟨2, ![4096, 2048]⟩
abbrev S_ : Shape := ⟨0, ![]⟩

class Facts : Prop where
  slices_S4096x4096_S4096x2048_0_0 : S4096x4096.Slices ![0, 0] S4096x2048
  bitsLt_bf16_f32 : FTy.bits .bf16 < FTy.bits .f32
  bcast_S_S4096x2048 : S_.BroadcastsInDim S4096x2048 (![] : Fin 0 → Fin S4096x2048.rank)
  reducesTo_S4096x2048_S_d0_1 : S4096x2048.ReducesTo [0, 1] S_
  h_S_ : 0 < S_.numel

variable [Facts]

def fn {F : FTy → Type} [FloatOps F] (main_arg0 : FVec F S4096x4096 .bf16) (main_arg1 : FVec F S4x512x512 .f32) (main_arg2 : FVec F S1x2048 .f32) : IVec S_ 1 :=
  let main_v0 : FVec F S4096x2048 .bf16 := (extractStridedSlice S4096x2048 ![0, 0] · slices_S4096x4096_S4096x2048_0_0) main_arg0
  let main_v1 : FVec F S4096x2048 .f32 := (extf .f32 · bitsLt_bf16_f32) main_v0
  let main_v2 : FVec F S4096x2048 .f32 := Host.absf main_v1
  let main_cst : FVec F S_ .f32 := constant S_ .f32 0x7F800000#32
  let main_v3 : FVec F S4096x2048 .f32 := broadcastInDim S4096x2048 ![] bcast_S_S4096x2048 main_cst
  let main_v4 : IVec S4096x2048 1 := cmpf .olt main_v2 main_v3
  let main_c : IVec S_ 1 := constantI S_ 1 1#1
  let main_v5 : IVec S_ 1 := (fun x v => Host.reduce IntOp.andi x v reducesTo_S4096x2048_S_d0_1 h_S_) main_v4 main_c
  main_v5
-- ==== Pre_pgate_finite.lean ====
abbrev S4096x1024 : Shape := ⟨2, ![4096, 1024]⟩
abbrev S2048x1024 : Shape := ⟨2, ![2048, 1024]⟩
abbrev S4096x4096 : Shape := ⟨2, ![4096, 4096]⟩
abbrev S4096x2048 : Shape := ⟨2, ![4096, 2048]⟩
abbrev S1x2048 : Shape := ⟨2, ![1, 2048]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S4096x4096 : S_.BroadcastsInDim S4096x4096 (![] : Fin 0 → Fin S4096x4096.rank)
  reducesTo_S4096x4096_S_d0_1 : S4096x4096.ReducesTo [0, 1] S_
  bcast_S_S4096x2048 : S_.BroadcastsInDim S4096x2048 (![] : Fin 0 → Fin S4096x2048.rank)
  reducesTo_S4096x2048_S_d0_1 : S4096x2048.ReducesTo [0, 1] S_
  bcast_S_S1x2048 : S_.BroadcastsInDim S1x2048 (![] : Fin 0 → Fin S1x2048.rank)
  reducesTo_S1x2048_S_d0_1 : S1x2048.ReducesTo [0, 1] S_

variable [Facts]

def fn_part1 {F : FTy → Type} [FloatOps F] (main_arg4 : FVec F S1x2048 .f32) (main_v15 : IVec S_ 1) (main_v17 : FVec F S4096x2048 .f32) : IVec S_ 1 :=
  let main_cst_4 : FVec F S_ .f32 := constant S_ .f32 0x7F800000#32
  let main_v18 : FVec F S4096x2048 .f32 := broadcastInDim S4096x2048 ![] bcast_S_S4096x2048 main_cst_4
  let main_v19 : IVec S4096x2048 1 := cmpf .olt main_v17 main_v18
  let main_c_5 : IVec S_ 1 := constantI S_ 1 1#1
  let main_v20 : IVec S_ 1 := (fun x v => Host.reduce IntOp.andi x v reducesTo_S4096x2048_S_d0_1 h_S_) main_v19 main_c_5
  let main_v21 : IVec S_ 1 := andi main_v15 main_v20
  let main_v22 : FVec F S1x2048 .f32 := Host.absf main_arg4
  let main_cst_6 : FVec F S_ .f32 := constant S_ .f32 0x7F800000#32
  let main_v23 : FVec F S1x2048 .f32 := broadcastInDim S1x2048 ![] bcast_S_S1x2048 main_cst_6
  let main_v24 : IVec S1x2048 1 := cmpf .olt main_v22 main_v23
  let main_c_7 : IVec S_ 1 := constantI S_ 1 1#1
  let main_v25 : IVec S_ 1 := (fun x v => Host.reduce IntOp.andi x v reducesTo_S1x2048_S_d0_1 h_S_) main_v24 main_c_7
  let main_v26 : IVec S_ 1 := andi main_v21 main_v25
  main_v26

def fn {F : FTy → Type} [FloatOps F] (main_arg0 : FVec F S4096x1024 .bf16) (main_arg1 : FVec F S2048x1024 .f32) (main_arg2 : FVec F S4096x4096 .bf16) (main_arg3 : FVec F S4096x2048 .bf16) (main_arg4 : FVec F S1x2048 .f32) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S2048x1024 .f32 := Host.absf main_arg1
  let main_cst_0 : FVec F S_ .f32 := constant S_ .f32 0x7F800000#32
  let main_v6 : FVec F S2048x1024 .f32 := broadcastInDim S2048x1024 ![] bcast_S_S2048x1024 main_cst_0
  let main_v7 : IVec S2048x1024 1 := cmpf .olt main_v5 main_v6
  let main_c_1 : IVec S_ 1 := constantI S_ 1 1#1
  let main_v8 : IVec S_ 1 := (fun x v => Host.reduce IntOp.andi x v reducesTo_S2048x1024_S_d0_1 h_S_) main_v7 main_c_1
  let main_v9 : IVec S_ 1 := andi main_v4 main_v8
  let main_v10 : FVec F S4096x4096 .f32 := (extf .f32 · bitsLt_bf16_f32) main_arg2
  let main_v11 : FVec F S4096x4096 .f32 := Host.absf main_v10
  let main_cst_2 : FVec F S_ .f32 := constant S_ .f32 0x7F800000#32
  let main_v12 : FVec F S4096x4096 .f32 := broadcastInDim S4096x4096 ![] bcast_S_S4096x4096 main_cst_2
  let main_v13 : IVec S4096x4096 1 := cmpf .olt main_v11 main_v12
  let main_c_3 : IVec S_ 1 := constantI S_ 1 1#1
  let main_v14 : IVec S_ 1 := (fun x v => Host.reduce IntOp.andi x v reducesTo_S4096x4096_S_d0_1 h_S_) main_v13 main_c_3
  let main_v15 : IVec S_ 1 := andi main_v9 main_v14
  let main_v16 : FVec F S4096x2048 .f32 := (extf .f32 · bitsLt_bf16_f32) main_arg3
  let main_v17 : FVec F S4096x2048 .f32 := Host.absf main_v16
  fn_part1 (F := F) main_arg4 main_v15 main_v17
-- ==== Pre_poolb_finite.lean ====
abbrev S4096x2048 : Shape := ⟨2, ![4096, 2048]⟩
abbrev S4x512x512 : Shape := ⟨3, ![4, 512, 512]⟩
abbrev S4096x4096 : Shape := ⟨2, ![4096, 4096]⟩
abbrev S1x1 : Shape := ⟨2, ![1, 1]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S4x512x512 : S_.BroadcastsInDim S4x512x512 (![] : Fin 0 → Fin S4x512x512.rank)
  reducesTo_S4x512x512_S_d0_1_2 : S4x512x512.ReducesTo [0, 1, 2] S_

variable [Facts]

def fn {F : FTy → Type} [FloatOps F] (main_arg0 : FVec F S4096x2048 .bf16) (main_arg1 : FVec F S4x512x512 .f32) (main_arg2 : FVec F S4096x4096 .bf16) (main_arg3 : FVec F S1x1 .f32) : IVec S_ 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_c : IVec S_ 1 := constantI S_ 1 1#1
  let main_v4 : IVec S_ 1 := (fun x v => Host.reduce IntOp.andi x v reducesTo_S4096x2048_S_d0_1 h_S_) main_v3 main_c
  let main_v5 : FVec F S4x512x512 .f32 := Host.absf main_arg1
  let main_cst_0 : FVec F S_ .f32 := constant S_ .f32 0x7F800000#32
  let main_v6 : FVec F S4x512x512 .f32 := broadcastInDim S4x512x512 ![] bcast_S_S4x512x512 main_cst_0
  let main_v7 : IVec S4x512x512 1 := cmpf .olt main_v5 main_v6
  let main_c_1 : IVec S_ 1 := constantI S_ 1 1#1
  let main_v8 : IVec S_ 1 := (fun x v => Host.reduce IntOp.andi x v reducesTo_S4x512x512_S_d0_1_2 h_S_) main_v7 main_c_1
  let main_v9 : IVec S_ 1 := andi main_v4 main_v8
  main_v9
-- ==== Pre_rmsb_finite.lean ====
abbrev S4096x6144 : Shape := ⟨2, ![4096, 6144]⟩
abbrev S1024x6144 : Shape := ⟨2, ![1024, 6144]⟩
abbrev S4096x1024 : Shape := ⟨2, ![4096, 1024]⟩
abbrev S1x1024 : Shape := ⟨2, ![1, 1024]⟩
abbrev S_ : Shape := ⟨0, ![]⟩

class Facts : Prop where
  bitsLt_bf16_f32 : FTy.bits .bf16 < FTy.bits .f32
  bcast_S_S4096x6144 : S_.BroadcastsInDim S4096x6144 (![] : Fin 0 → Fin S4096x6144.rank)
  reducesTo_S4096x6144_S_d0_1 : S4096x6144.ReducesTo [0, 1] S_
  h_S_ : 0 < S_.numel
  bcast_S_S1024x6144 : S_.BroadcastsInDim S1024x6144 (![] : Fin 0 → Fin S1024x6144.rank)
  reducesTo_S1024x6144_S_d0_1 : S1024x6144.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S4096x1024 .f32) (main_v14 : IVec S_ 1) (main_v15 : FVec F S1x1024 .f32) (main_v16 : FVec F S1x1024 .f32) : IVec S_ 1 :=
  let main_v17 : IVec S1x1024 1 := cmpf .olt main_v15 main_v16
  let main_c_5 : IVec S_ 1 := constantI S_ 1 1#1
  let main_v18 : IVec S_ 1 := (fun x v => Host.reduce IntOp.andi x v reducesTo_S1x1024_S_d0_1 h_S_) main_v17 main_c_5
  let main_v19 : IVec S_ 1 := andi main_v14 main_v18
  let main_v20 : FVec F S4096x1024 .f32 := Host.absf main_arg4
  let main_cst_6 : FVec F S_ .f32 := constant S_ .f32 0x7F800000#32
  let main_v21 : FVec F S4096x1024 .f32 := broadcastInDim S4096x1024 ![] bcast_S_S4096x1024 main_cst_6
  let main_v22 : IVec S4096x1024 1 := cmpf .olt main_v20 main_v21
  let main_c_7 : IVec S_ 1 := constantI S_ 1 1#1
  let main_v23 : IVec S_ 1 := (fun x v => Host.reduce IntOp.andi x v reducesTo_S4096x1024_S_d0_1 h_S_) main_v22 main_c_7
  let main_v24 : IVec S_ 1 := andi main_v19 main_v23
  main_v24

def fn {F : FTy → Type} [FloatOps F] (main_arg0 : FVec F S4096x6144 .bf16) (main_arg1 : FVec F S1024x6144 .f32) (main_arg2 : FVec F S4096x1024 .f32) (main_arg3 : FVec F S1x1024 .f32) (main_arg4 : FVec F S4096x1024 .f32) : IVec S_ 1 :=
  let main_v0 : FVec F S4096x6144 .f32 := (extf .f32 · bitsLt_bf16_f32) main_arg0
  let main_v1 : FVec F S4096x6144 .f32 := Host.absf main_v0
  let main_cst : FVec F S_ .f32 := constant S_ .f32 0x7F800000#32
  let main_v2 : FVec F S4096x6144 .f32 := broadcastInDim S4096x6144 ![] bcast_S_S4096x6144 main_cst
  let main_v3 : IVec S4096x6144 1 := cmpf .olt main_v1 main_v2
  let main_c : IVec S_ 1 := constantI S_ 1 1#1
  let main_v4 : IVec S_ 1 := (fun x v => Host.reduce IntOp.andi x v reducesTo_S4096x6144_S_d0_1 h_S_) main_v3 main_c
  let main_v5 : FVec F S1024x6144 .f32 := Host.absf main_arg1
  let main_cst_0 : FVec F S_ .f32 := constant S_ .f32 0x7F800000#32
  let main_v6 : FVec F S1024x6144 .f32 := broadcastInDim S1024x6144 ![] bcast_S_S1024x6144 main_cst_0
  let main_v7 : IVec S1024x6144 1 := cmpf .olt main_v5 main_v6
  let main_c_1 : IVec S_ 1 := constantI S_ 1 1#1
  let main_v8 : IVec S_ 1 := (fun x v => Host.reduce IntOp.andi x v reducesTo_S1024x6144_S_d0_1 h_S_) main_v7 main_c_1
  let main_v9 : IVec S_ 1 := andi main_v4 main_v8
  let main_v10 : FVec F S4096x1024 .f32 := Host.absf main_arg2
  let main_cst_2 : FVec F S_ .f32 := constant S_ .f32 0x7F800000#32
  let main_v11 : FVec F S4096x1024 .f32 := broadcastInDim S4096x1024 ![] bcast_S_S4096x1024 main_cst_2
  let main_v12 : IVec S4096x1024 1 := cmpf .olt main_v10 main_v11
  let main_c_3 : IVec S_ 1 := constantI S_ 1 1#1
  let main_v13 : IVec S_ 1 := (fun x v => Host.reduce IntOp.andi x v reducesTo_S4096x1024_S_d0_1 h_S_) main_v12 main_c_3
  let main_v14 : IVec S_ 1 := andi main_v9 main_v13
  let main_v15 : FVec F S1x1024 .f32 := Host.absf main_arg3
  let main_cst_4 : FVec F S_ .f32 := constant S_ .f32 0x7F800000#32
  let main_v16 : FVec F S1x1024 .f32 := broadcastInDim S1x1024 ![] bcast_S_S1x1024 main_cst_4
  fn_part1 (F := F) main_arg4 main_v14 main_v15 main_v16
-- ==== SbGate.lean ====
abbrev S4096x1024 : Shape := ⟨2, ![4096, 1024]⟩
abbrev S2048x1024 : Shape := ⟨2, ![2048, 1024]⟩
abbrev S4096x6144 : Shape := ⟨2, ![4096, 6144]⟩
abbrev S4096x2048 : Shape := ⟨2, ![4096, 2048]⟩
abbrev S1024x1024 : Shape := ⟨2, ![1024, 1024]⟩
abbrev S256x1024 : Shape := ⟨2, ![256, 1024]⟩

abbrev nBuf : Space → Nat
  | .hbm => 7
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S2048x1024, .f32⟩
  | .hbm, ⟨2, _⟩ => ⟨S4096x6144, .bf16⟩
  | .hbm, ⟨3, _⟩ => ⟨S4096x2048, .bf16⟩
  | .hbm, ⟨4, _⟩ => ⟨S2048x1024, .bf16⟩
  | .hbm, ⟨5, _⟩ => ⟨S4096x2048, .bf16⟩
  | .hbm, ⟨6, _⟩ => ⟨S4096x6144, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== SbGateRefIdeal.lean ====
abbrev S4096x1024 : Shape := ⟨2, ![4096, 1024]⟩
abbrev S2048x1024 : Shape := ⟨2, ![2048, 1024]⟩
abbrev S4096x6144 : Shape := ⟨2, ![4096, 6144]⟩
abbrev S4096x2048 : Shape := ⟨2, ![4096, 2048]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2048x1024, .f32⟩
  | .hbm, ⟨2, _⟩ => ⟨S4096x6144, .bf16⟩
  | .hbm, ⟨3, _⟩ => ⟨S4096x2048, .bf16⟩
  | .hbm, ⟨4, _⟩ => ⟨S4096x2048, .f32⟩
  | .hbm, ⟨5, _⟩ => ⟨S4096x6144, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x1024, .f32⟩
  | .hbm, ⟨22, _⟩ => ⟨S4096x1024, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096x6144, .f32⟩
  | .hbm, ⟨32, _⟩ => ⟨S4096x2048, .bf16⟩
  | .hbm, ⟨33, _⟩ => ⟨S4096x6144, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩

abbrev nD : Nat := 1
abbrev τ : Topo := Topo.v7x

variable {F : FTy → Type} [FloatOps F]
-- ==== SbGrad.lean ====
abbrev S4096x6144 : Shape := ⟨2, ![4096, 6144]⟩
abbrev S4096x2048 : Shape := ⟨2, ![4096, 2048]⟩
abbrev S4096x4096 : Shape := ⟨2, ![4096, 4096]⟩
abbrev S2x2048x4096 : Shape := ⟨3, ![2, 2048, 4096]⟩
abbrev S2x2048x1024 : Shape := ⟨3, ![2, 2048, 1024]⟩
abbrev S2x2048x2048 : Shape := ⟨3, ![2, 2048, 2048]⟩
abbrev S2x2048x16x64 : Shape := ⟨4, ![2, 2048, 16, 64]⟩
abbrev S2x16x2048x64 : Shape := ⟨4, ![2, 16, 2048, 64]⟩
abbrev S2x2048x16x128 : Shape := ⟨4, ![2, 2048, 16, 128]⟩
abbrev S2x16x2048x128 : Shape := ⟨4, ![2, 16, 2048, 128]⟩
abbrev S2x16x2048x2048 : Shape := ⟨4, ![2, 16, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S2x16x2048 : Shape := ⟨3, ![2, 16, 2048]⟩
abbrev S2x4x4x2048 : Shape := ⟨4, ![2, 4, 4, 2048]⟩
abbrev S4x2x2048x4 : Shape := ⟨4, ![4, 2, 2048, 4]⟩
abbrev S4x4096x4 : Shape := ⟨3, ![4, 4096, 4]⟩
abbrev S2048x256 : Shape := ⟨2, ![2048, 256]⟩
abbrev S2048x512 : Shape := ⟨2, ![2048, 512]⟩
abbrev S1x2048x4 : Shape := ⟨3, ![1, 2048, 4]⟩
abbrev S3 : Shape := ⟨1, ![3]⟩
abbrev S256x256 : Shape := ⟨2, ![256, 256]⟩
abbrev S1 : Shape := ⟨1, ![1]⟩
abbrev S1x128 : Shape := ⟨2, ![1, 128]⟩
abbrev S256x128 : Shape := ⟨2, ![256, 128]⟩
abbrev S1x256x1 : Shape := ⟨3, ![1, 256, 1]⟩
abbrev S256x1 : Shape := ⟨2, ![256, 1]⟩
abbrev S256 : Shape := ⟨1, ![256]⟩
abbrev S256x512 : Shape := ⟨2, ![256, 512]⟩
abbrev S512x128 : Shape := ⟨2, ![512, 128]⟩
abbrev S512x256 : Shape := ⟨2, ![512, 256]⟩

abbrev nBuf : Space → Nat
  | .hbm => 53
  | .vmem => 15
  | .smem => 0
  | _ => 0

abbrev bufTy : (tb : Table) → Fin (tcTables nBuf tb) → BufTy
  | .hbm, ⟨0, _⟩ => ⟨S4096x6144, .bf16⟩
  | .hbm, ⟨1, _⟩ => ⟨S4096x2048, .bf16⟩
  | .hbm, ⟨2, _⟩ => ⟨S4096x6144, .bf16⟩
  | .hbm, ⟨3, _⟩ => ⟨S4096x4096, .bf16⟩
  | .hbm, ⟨4, _⟩ => ⟨S4096x4096, .f32⟩
  | .hbm, ⟨5, _⟩ => ⟨S2x2048x4096, .f32⟩
  | .hbm, ⟨6, _⟩ => ⟨S2x2048x1024, .f32⟩
  | .hbm, ⟨7, _⟩ => ⟨S2x2048x1024, .f32⟩
  | .hbm, ⟨8, _⟩ => ⟨S2x2048x2048, .f32⟩
  | .hbm, ⟨9, _⟩ => ⟨S2x2048x16x64, .f32⟩
  | .hbm, ⟨10, _⟩ => ⟨S2x16x2048x64, .f32⟩
  | .hbm, ⟨11, _⟩ => ⟨S2x2048x16x64, .f32⟩
  | .hbm, ⟨12, _⟩ => ⟨S2x16x2048x64, .f32⟩
  | .hbm, ⟨13, _⟩ => ⟨S2x2048x16x128, .f32⟩
  | .hbm, ⟨14, _⟩ => ⟨S2x16x2048x128, .f32⟩
  | .hbm, ⟨15, _⟩ => ⟨S2x16x2048x2048, .f32⟩
  | .hbm, ⟨16, _⟩ => ⟨S_, .f32⟩
  | .hbm, ⟨17, _⟩ => ⟨S2x16x2048x2048, .f32⟩
  | .hbm, ⟨18, _⟩ => ⟨S2x16x2048x2048, .f32⟩
  | .hbm, ⟨19, _⟩ => ⟨S2048, .i32⟩
  | .hbm, ⟨20, _⟩ => ⟨S1x2048, .i32⟩
  | .hbm, ⟨21, _⟩ => ⟨S2048x1, .i32⟩
  | .hbm, ⟨22, _⟩ => ⟨S2048x2048, .i32⟩
  | .hbm, ⟨23, _⟩ => ⟨S2048x2048, .i32⟩
  | .hbm, ⟨24, _⟩ => ⟨S2048x2048, .i1⟩
  | .hbm, ⟨25, _⟩ => ⟨S2x16x2048x2048, .f32⟩
  | .hbm, ⟨26, _⟩ => ⟨S2x16x2048x2048, .f32⟩
  | .hbm, ⟨27, _⟩ => ⟨S_, .f32⟩
  | .hbm, ⟨28, _⟩ => ⟨S2x16x2048x2048, .f32⟩
  | .hbm, ⟨29, _⟩ => ⟨S2x16x2048x2048, .f32⟩
  | .hbm, ⟨30, _⟩ => ⟨S2x16x2048x2048, .f32⟩
  | .hbm, ⟨31, _⟩ => ⟨S2x16x2048x2048, .f32⟩
  | .hbm, ⟨32, _⟩ => ⟨S2x16x2048x2048, .i1⟩
  | .hbm, ⟨33, _⟩ => ⟨S2x16x2048x2048, .f32⟩
  | .hbm, ⟨34, _⟩ => ⟨S2x16x2048x2048, .f32⟩
  | .hbm, ⟨35, _⟩ => ⟨S2x16x2048x2048, .f32⟩
  | .hbm, ⟨36, _⟩ => ⟨S2x16x2048x2048, .f32⟩
  | .hbm, ⟨37, _⟩ => ⟨S2x16x2048x2048, .f32⟩
  | .hbm, ⟨38, _⟩ => ⟨S2x16x2048x2048, .f32⟩
  | .hbm, ⟨39, _⟩ => ⟨S2x16x2048x2048, .f32⟩
  | .hbm, ⟨40, _⟩ => ⟨S2x16x2048x2048, .f32⟩
  | .hbm, ⟨41, _⟩ => ⟨S2x16x2048x2048, .f32⟩
  | .hbm, ⟨42, _⟩ => ⟨S_, .f32⟩
  | .hbm, ⟨43, _⟩ => ⟨S_, .f32⟩
  | .hbm, ⟨44, _⟩ => ⟨S2x16x2048x2048, .i1⟩
  | .hbm, ⟨45, _⟩ => ⟨S2x16x2048x2048, .f32⟩
  | .hbm, ⟨46, _⟩ => ⟨S2x16x2048x2048, .f32⟩
  | .hbm, ⟨47, _⟩ => ⟨S_, .f32⟩
  | .hbm, ⟨48, _⟩ => ⟨S2x16x2048, .f32⟩
  | .hbm, ⟨49, _⟩ => ⟨S2x4x4x2048, .f32⟩
  | .hbm, ⟨50, _⟩ => ⟨S4x2x2048x4, .f32⟩
  | .hbm, ⟨51, _⟩ => ⟨S4x4096x4, .f32⟩
  | .hbm, ⟨52, _⟩ => ⟨S4096x6144, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S1x2048x4, .f32⟩
  | .local _ .vmem, ⟨9, _⟩ => ⟨S1x2048x4, .f32⟩
  | .local _ .vmem, ⟨10, _⟩ => ⟨S2048x256, .bf16⟩
  | .local _ .vmem, ⟨11, _⟩ => ⟨S2048x256, .f32⟩
  | .local _ .vmem, ⟨12, _⟩ => ⟨S2048x512, .f32⟩
  | .local _ .vmem, ⟨13, _⟩ => ⟨S2048x256, .bf16⟩
  | .local _ .vmem, ⟨14, _⟩ => ⟨S2048x512, .bf16⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_call0_v0 : Ref sig .tc := ⟨.hbm, 26, rfl⟩
abbrev main_call0_call0_cst : Ref sig .tc := ⟨.hbm, 27, rfl⟩
abbrev main_call0_call0_v0 : Ref sig .tc := ⟨.hbm, 28, rfl⟩
abbrev main_call0_call0_v1 : Ref sig .tc := ⟨.hbm, 29, rfl⟩
abbrev main_call0_call0_v2 : Ref sig .tc := ⟨.hbm, 30, rfl⟩
abbrev main_call0_call0_v3 : Ref sig .tc := ⟨.hbm, 31, rfl⟩
abbrev main_call0_call0_v4 : Ref sig .tc := ⟨.hbm, 32, rfl⟩
abbrev main_call0_call0_v5 : Ref sig .tc := ⟨.hbm, 33, rfl⟩
abbrev main_call0_call0_v6 : Ref sig .tc := ⟨.hbm, 34, rfl⟩
abbrev main_call0_call0_v7 : Ref sig .tc := ⟨.hbm, 35, rfl⟩
abbrev main_call0_call0_v8 : Ref sig .tc := ⟨.hbm, 36, rfl⟩
abbrev main_call0_call0_v9 : Ref sig .tc := ⟨.hbm, 37, rfl⟩
abbrev main_call0_call0_v10 : Ref sig .tc := ⟨.hbm, 38, rfl⟩
abbrev main_call0_call0_v11 : Ref sig .tc := ⟨.hbm, 39, rfl⟩
abbrev main_call0_v1 : Ref sig .tc := ⟨.hbm, 40, rfl⟩
abbrev main_v22 : Ref sig .tc := ⟨.hbm, 41, rfl⟩
abbrev main_cst_0 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v23 : Ref sig .tc := ⟨.hbm, 46, rfl⟩
abbrev main_cst_1 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 4], ![false, false]⟩

def k0_mult1 (i : grid0.Coords) : BitVec 32 :=
  let arg0 : BitVec 32 := BitVec.ofNat 32 (i 0).val
  let c2048_i32 : BitVec 32 := 2048#32
  let v19 : BitVec 32 := Scalar.muli arg0 c2048_i32
  v19
def k0_mult2 (i : grid0.Coords) : BitVec 32 :=
  let arg1 : BitVec 32 := BitVec.ofNat 32 (i 1).val
  let c256_i32 : BitVec 32 := 256#32
  let v21 : BitVec 32 := Scalar.muli arg1 c256_i32
  v21
def k0_mult3 (i : grid0.Coords) : BitVec 32 :=
  let c1024_i32 : BitVec 32 := 1024#32
  let arg1 : BitVec 32 := BitVec.ofNat 32 (i 1).val
  let c256_i32_4 : BitVec 32 := 256#32
  let v23 : BitVec 32 := Scalar.muli arg1 c256_i32_4
  let v24 : BitVec 32 := Scalar.addi c1024_i32 v23
  v24
def k0_mult4 (i : grid0.Coords) : BitVec 32 :=
  let c2048_i32_5 : BitVec 32 := 2048#32
  let arg1 : BitVec 32 := BitVec.ofNat 32 (i 1).val
  let c512_i32 : BitVec 32 := 512#32
  let v26 : BitVec 32 := Scalar.muli arg1 c512_i32
  let v27 : BitVec 32 := Scalar.addi c2048_i32_5 v26
  v27
def k0_cond1 (i : grid0.Coords) : BitVec 1 :=
  let arg0 : BitVec 32 := BitVec.ofNat 32 (i 0).val
  let c4_i32 : BitVec 32 := 4#32
  let v29 : BitVec 32 := Scalar.muli arg0 c4_i32
  let arg1 : BitVec 32 := BitVec.ofNat 32 (i 1).val
  let v30 : BitVec 32 := Scalar.addi v29 arg1
  let c0_i32 : BitVec 32 := 0#32
  let v31 : BitVec 1 := Scalar.cmpi .sgt v30 c0_i32
  let v32 : BitVec 32 := Scalar.extui v31
  let c0_i32_7 : BitVec 32 := 0#32
  let v33 : BitVec 1 := Scalar.cmpi .ne v32 c0_i32_7
  v33

def k0_off1 (i : grid0.Coords) : Fin 2 → Nat :=
  let arg0 : BitVec 32 := BitVec.ofNat 32 (i 0).val
  let c2048_i32 : BitVec 32 := 2048#32
  let v19 : BitVec 32 := Scalar.muli arg0 c2048_i32
  let v20 : BitVec 32 := v19
  let arg1 : BitVec 32 := BitVec.ofNat 32 (i 1).val
  let c256_i32 : BitVec 32 := 256#32
  let v21 : BitVec 32 := Scalar.muli arg1 c256_i32
  let v22 : BitVec 32 := v21
  ![v20.toNat, v22.toNat]
def k0_off2 (i : grid0.Coords) : Fin 2 → Nat :=
  let arg0 : BitVec 32 := BitVec.ofNat 32 (i 0).val
  let c2048_i32 : BitVec 32 := 2048#32
  let v19 : BitVec 32 := Scalar.muli arg0 c2048_i32
  let v20 : BitVec 32 := v19
  let c1024_i32 : BitVec 32 := 1024#32
  let arg1 : BitVec 32 := BitVec.ofNat 32 (i 1).val
  let c256_i32_4 : BitVec 32 := 256#32
  let v23 : BitVec 32 := Scalar.muli arg1 c256_i32_4
  let v24 : BitVec 32 := Scalar.addi c1024_i32 v23
  let v25 : BitVec 32 := v24
  ![v20.toNat, v25.toNat]
def k0_off3 (i : grid0.Coords) : Fin 2 → Nat :=
  let arg0 : BitVec 32 := BitVec.ofNat 32 (i 0).val
  let c2048_i32 : BitVec 32 := 2048#32
  let v19 : BitVec 32 := Scalar.muli arg0 c2048_i32
  let v20 : BitVec 32 := v19
  let c2048_i32_5 : BitVec 32 := 2048#32
  let arg1 : BitVec 32 := BitVec.ofNat 32 (i 1).val
  let c512_i32 : BitVec 32 := 512#32
  let v26 : BitVec 32 := Scalar.muli arg1 c512_i32
  let v27 : BitVec 32 := Scalar.addi c2048_i32_5 v26
  let v28 : BitVec 32 := v27
  ![v20.toNat, v28.toNat]
@[reducible] def k0_t1_loop : Scf.Loop 32 :=
  let c0_i32_8 : BitVec 32 := 0#32
  let c8_i32 : BitVec 32 := 8#32
  let v34 : BitVec 32 := Scalar.addi c0_i32_8 c8_i32
  let c1_i32_9 : BitVec 32 := 1#32
  ⟨c0_i32_8, v34, c1_i32_9⟩
def k0_mult5 (k0_t1 : Fin k0_t1_loop.trips) : BitVec 32 :=
  let c0_i32_8 : BitVec 32 := 0#32
  let c1_i32_9 : BitVec 32 := 1#32
  let arg15 : BitVec 32 := Scf.iv c0_i32_8 c1_i32_9 k0_t1
  let c256_i32_26 : BitVec 32 := 256#32
  let v57 : BitVec 32 := Scalar.muli arg15 c256_i32_26
  v57
def k0_off4 (k0_t1 : Fin k0_t1_loop.trips) : Fin 2 → Nat :=
  let c0_i32_8 : BitVec 32 := 0#32
  let c1_i32_9 : BitVec 32 := 1#32
  let arg15 : BitVec 32 := Scf.iv c0_i32_8 c1_i32_9 k0_t1
  let c256_i32_26 : BitVec 32 := 256#32
  let v57 : BitVec 32 := Scalar.muli arg15 c256_i32_26
  let v58 : BitVec 32 := v57
  let v59 : Index := Scalar.indexCast v58
  let c0_27 : Index := 0#32
  ![v59.toNat, 0]
def k0_off5 (k0_t1 : Fin k0_t1_loop.trips) : Fin 2 → Nat :=
  let c0_i32_8 : BitVec 32 := 0#32
  let c1_i32_9 : BitVec 32 := 1#32
  let arg15 : BitVec 32 := Scf.iv c0_i32_8 c1_i32_9 k0_t1
  let c256_i32_26 : BitVec 32 := 256#32
  let v57 : BitVec 32 := Scalar.muli arg15 c256_i32_26
  let v58 : BitVec 32 := v57
  let v194 : Index := Scalar.indexCast v58
  let c0_67 : Index := 0#32
  ![v194.toNat, 0]
def k0_off6 (k0_t1 : Fin k0_t1_loop.trips) : Fin 2 → Nat :=
  let c0_i32_8 : BitVec 32 := 0#32
  let c1_i32_9 : BitVec 32 := 1#32
  let arg15 : BitVec 32 := Scf.iv c0_i32_8 c1_i32_9 k0_t1
  let c256_i32_26 : BitVec 32 := 256#32
  let v57 : BitVec 32 := Scalar.muli arg15 c256_i32_26
  let v58 : BitVec 32 := v57
  let v196 : Index := Scalar.indexCast v58
  let c128 : Index := 128#32
  ![v196.toNat, 128]
def k0_off7 (k0_t1 : Fin k0_t1_loop.trips) : Fin 2 → Nat :=
  let c0_i32_8 : BitVec 32 := 0#32
  let c1_i32_9 : BitVec 32 := 1#32
  let arg15 : BitVec 32 := Scf.iv c0_i32_8 c1_i32_9 k0_t1
  let c256_i32_26 : BitVec 32 := 256#32
  let v57 : BitVec 32 := Scalar.muli arg15 c256_i32_26
  let v58 : BitVec 32 := v57
  let v198 : Index := Scalar.indexCast v58
  let c256 : Index := 256#32
  ![v198.toNat, 256]
def k0_off8 (k0_t1 : Fin k0_t1_loop.trips) : Fin 2 → Nat :=
  let c0_i32_8 : BitVec 32 := 0#32
  let c1_i32_9 : BitVec 32 := 1#32
  let arg15 : BitVec 32 := Scf.iv c0_i32_8 c1_i32_9 k0_t1
  let c256_i32_26 : BitVec 32 := 256#32
  let v57 : BitVec 32 := Scalar.muli arg15 c256_i32_26
  let v58 : BitVec 32 := v57
  let v200 : Index := Scalar.indexCast v58
  let c384 : Index := 384#32
  ![v200.toNat, 384]
def k0_off9 (k0_t1 : Fin k0_t1_loop.trips) : Fin 3 → Nat :=
  let c0_68 : Index := 0#32
  let c0_i32_8 : BitVec 32 := 0#32
  let c1_i32_9 : BitVec 32 := 1#32
  let arg15 : BitVec 32 := Scf.iv c0_i32_8 c1_i32_9 k0_t1
  let c256_i32_26 : BitVec 32 := 256#32
  let v57 : BitVec 32 := Scalar.muli arg15 c256_i32_26
  let v58 : BitVec 32 := v57
  let v202 : Index := Scalar.indexCast v58
  let c0_69 : Index := 0#32
  ![0, v202.toNat, 0]
def k0_off10 (k0_t1 : Fin k0_t1_loop.trips) : Fin 3 → Nat :=
  let c0_70 : Index := 0#32
  let c0_i32_8 : BitVec 32 := 0#32
  let c1_i32_9 : BitVec 32 := 1#32
  let arg15 : BitVec 32 := Scf.iv c0_i32_8 c1_i32_9 k0_t1
  let c256_i32_26 : BitVec 32 := 256#32
  let v57 : BitVec 32 := Scalar.muli arg15 c256_i32_26
  let v58 : BitVec 32 := v57
  let v205 : Index := Scalar.indexCast v58
  let c1 : Index := 1#32
  ![0, v205.toNat, 1]
def k0_off11 (k0_t1 : Fin k0_t1_loop.trips) : Fin 3 → Nat :=
  let c0_71 : Index := 0#32
  let c0_i32_8 : BitVec 32 := 0#32
  let c1_i32_9 : BitVec 32 := 1#32
  let arg15 : BitVec 32 := Scf.iv c0_i32_8 c1_i32_9 k0_t1
  let c256_i32_26 : BitVec 32 := 256#32
  let v57 : BitVec 32 := Scalar.muli arg15 c256_i32_26
  let v58 : BitVec 32 := v57
  let v208 : Index := Scalar.indexCast v58
  let c2 : Index := 2#32
  ![0, v208.toNat, 2]
def k0_off12 (k0_t1 : Fin k0_t1_loop.trips) : Fin 3 → Nat :=
  let c0_72 : Index := 0#32
  let c0_i32_8 : BitVec 32 := 0#32
  let c1_i32_9 : BitVec 32 := 1#32
  let arg15 : BitVec 32 := Scf.iv c0_i32_8 c1_i32_9 k0_t1
  let c256_i32_26 : BitVec 32 := 256#32
  let v57 : BitVec 32 := Scalar.muli arg15 c256_i32_26
  let v58 : BitVec 32 := v57
  let v211 : Index := Scalar.indexCast v58
  let c3 : Index := 3#32
  ![0, v211.toNat, 3]
@[reducible] def k0_t2_loop (k0_t1 : Fin k0_t1_loop.trips) : Scf.Loop 32 :=
  let c0_i32_75 : BitVec 32 := 0#32
  let c0_i32_8 : BitVec 32 := 0#32
  let c1_i32_9 : BitVec 32 := 1#32
  let arg15 : BitVec 32 := Scf.iv c0_i32_8 c1_i32_9 k0_t1
  let v216 : BitVec 32 := Scalar.subi arg15 c0_i32_75
  let c1_i32_76 : BitVec 32 := 1#32
  let v218 : BitVec 32 := Scalar.divsi v216 c1_i32_76
  let v219 : BitVec 32 := Scalar.muli v218 c1_i32_76
  let v220 : BitVec 32 := Scalar.addi c0_i32_75 v219
  let c1_i32_77 : BitVec 32 := 1#32
  ⟨c0_i32_75, v220, c1_i32_77⟩
def k0_mult6 (k0_t1 : Fin k0_t1_loop.trips) (k0_t2 : Fin (k0_t2_loop k0_t1).trips) : BitVec 32 :=
  let c0_i32_75 : BitVec 32 := 0#32
  let c1_i32_77 : BitVec 32 := 1#32
  let arg16 : BitVec 32 := Scf.iv c0_i32_75 c1_i32_77 k0_t2
  let c256_i32_193 : BitVec 32 := 256#32
  let v610 : BitVec 32 := Scalar.muli arg16 c256_i32_193
  v610
def k0_off13 (k0_t1 : Fin k0_t1_loop.trips) (k0_t2 : Fin (k0_t2_loop k0_t1).trips) : Fin 2 → Nat :=
  let c0_i32_75 : BitVec 32 := 0#32
  let c1_i32_77 : BitVec 32 := 1#32
  let arg16 : BitVec 32 := Scf.iv c0_i32_75 c1_i32_77 k0_t2
  let c256_i32_193 : BitVec 32 := 256#32
  let v610 : BitVec 32 := Scalar.muli arg16 c256_i32_193
  let v611 : BitVec 32 := v610
  let v612 : Index := Scalar.indexCast v611
  let c0_194 : Index := 0#32
  ![v612.toNat, 0]
def k0_off14 (k0_t1 : Fin k0_t1_loop.trips) (k0_t2 : Fin (k0_t2_loop k0_t1).trips) : Fin 2 → Nat :=
  let c0_i32_75 : BitVec 32 := 0#32
  let c1_i32_77 : BitVec 32 := 1#32
  let arg16 : BitVec 32 := Scf.iv c0_i32_75 c1_i32_77 k0_t2
  let c256_i32_193 : BitVec 32 := 256#32
  let v610 : BitVec 32 := Scalar.muli arg16 c256_i32_193
  let v611 : BitVec 32 := v610
  let v743 : Index := Scalar.indexCast v611
  let c0_235 : Index := 0#32
  ![v743.toNat, 0]
def k0_off15 (k0_t1 : Fin k0_t1_loop.trips) (k0_t2 : Fin (k0_t2_loop k0_t1).trips) : Fin 2 → Nat :=
  let c0_i32_75 : BitVec 32 := 0#32
  let c1_i32_77 : BitVec 32 := 1#32
  let arg16 : BitVec 32 := Scf.iv c0_i32_75 c1_i32_77 k0_t2
  let c256_i32_193 : BitVec 32 := 256#32
  let v610 : BitVec 32 := Scalar.muli arg16 c256_i32_193
  let v611 : BitVec 32 := v610
  let v746 : Index := Scalar.indexCast v611
  let c128_237 : Index := 128#32
  ![v746.toNat, 128]
def k0_off16 (k0_t1 : Fin k0_t1_loop.trips) (k0_t2 : Fin (k0_t2_loop k0_t1).trips) : Fin 2 → Nat :=
  let c0_i32_75 : BitVec 32 := 0#32
  let c1_i32_77 : BitVec 32 := 1#32
  let arg16 : BitVec 32 := Scf.iv c0_i32_75 c1_i32_77 k0_t2
  let c256_i32_193 : BitVec 32 := 256#32
  let v610 : BitVec 32 := Scalar.muli arg16 c256_i32_193
  let v611 : BitVec 32 := v610
  let v749 : Index := Scalar.indexCast v611
  let c256_239 : Index := 256#32
  ![v749.toNat, 256]
def k0_off17 (k0_t1 : Fin k0_t1_loop.trips) (k0_t2 : Fin (k0_t2_loop k0_t1).trips) : Fin 2 → Nat :=
  let c0_i32_75 : BitVec 32 := 0#32
  let c1_i32_77 : BitVec 32 := 1#32
  let arg16 : BitVec 32 := Scf.iv c0_i32_75 c1_i32_77 k0_t2
  let c256_i32_193 : BitVec 32 := 256#32
  let v610 : BitVec 32 := Scalar.muli arg16 c256_i32_193
  let v611 : BitVec 32 := v610
  let v752 : Index := Scalar.indexCast v611
  let c384_241 : Index := 384#32
  ![v752.toNat, 384]
def k0_off18 (k0_t1 : Fin k0_t1_loop.trips) (k0_t2 : Fin (k0_t2_loop k0_t1).trips) : Fin 2 → Nat :=
  let c0_i32_75 : BitVec 32 := 0#32
  let c1_i32_77 : BitVec 32 := 1#32
  let arg16 : BitVec 32 := Scf.iv c0_i32_75 c1_i32_77 k0_t2
  let c256_i32_193 : BitVec 32 := 256#32
  let v610 : BitVec 32 := Scalar.muli arg16 c256_i32_193
  let v611 : BitVec 32 := v610
  let v959 : Index := Scalar.indexCast v611
  let c0_292 : Index := 0#32
  ![v959.toNat, 0]
def k0_off19 (k0_t1 : Fin k0_t1_loop.trips) (k0_t2 : Fin (k0_t2_loop k0_t1).trips) : Fin 2 → Nat :=
  let c0_i32_75 : BitVec 32 := 0#32
  let c1_i32_77 : BitVec 32 := 1#32
  let arg16 : BitVec 32 := Scf.iv c0_i32_75 c1_i32_77 k0_t2
  let c256_i32_193 : BitVec 32 := 256#32
  let v610 : BitVec 32 := Scalar.muli arg16 c256_i32_193
  let v611 : BitVec 32 := v610
  let v973 : Index := Scalar.indexCast v611
  let c128_296 : Index := 128#32
  ![v973.toNat, 128]
@[reducible] def k0_t3_loop (k0_t1 : Fin k0_t1_loop.trips) : Scf.Loop 32 :=
  let c0_i32_75 : BitVec 32 := 0#32
  let c0_i32_8 : BitVec 32 := 0#32
  let c1_i32_9 : BitVec 32 := 1#32
  let arg15 : BitVec 32 := Scf.iv c0_i32_8 c1_i32_9 k0_t1
  let v216 : BitVec 32 := Scalar.subi arg15 c0_i32_75
  let c1_i32_76 : BitVec 32 := 1#32
  let v218 : BitVec 32 := Scalar.divsi v216 c1_i32_76
  let v219 : BitVec 32 := Scalar.muli v218 c1_i32_76
  let v220 : BitVec 32 := Scalar.addi c0_i32_75 v219
  let v217 : BitVec 32 := Scalar.addi c0_i32_75 v216
  let c1_i32_78 : BitVec 32 := 1#32
  ⟨v220, v217, c1_i32_78⟩
def k0_mult7 (k0_t1 : Fin k0_t1_loop.trips) (k0_t3 : Fin (k0_t3_loop k0_t1).trips) : BitVec 32 :=
  let c0_i32_75 : BitVec 32 := 0#32
  let c0_i32_8 : BitVec 32 := 0#32
  let c1_i32_9 : BitVec 32 := 1#32
  let arg15 : BitVec 32 := Scf.iv c0_i32_8 c1_i32_9 k0_t1
  let v216 : BitVec 32 := Scalar.subi arg15 c0_i32_75
  let c1_i32_76 : BitVec 32 := 1#32
  let v218 : BitVec 32 := Scalar.divsi v216 c1_i32_76
  let v219 : BitVec 32 := Scalar.muli v218 c1_i32_76
  let v220 : BitVec 32 := Scalar.addi c0_i32_75 v219
  let c1_i32_78 : BitVec 32 := 1#32
  let arg16 : BitVec 32 := Scf.iv v220 c1_i32_78 k0_t3
  let c256_i32_193 : BitVec 32 := 256#32
  let v610 : BitVec 32 := Scalar.muli arg16 c256_i32_193
  v610
def k0_off20 (k0_t1 : Fin k0_t1_loop.trips) (k0_t3 : Fin (k0_t3_loop k0_t1).trips) : Fin 2 → Nat :=
  let c0_i32_75 : BitVec 32 := 0#32
  let c0_i32_8 : BitVec 32 := 0#32
  let c1_i32_9 : BitVec 32 := 1#32
  let arg15 : BitVec 32 := Scf.iv c0_i32_8 c1_i32_9 k0_t1
  let v216 : BitVec 32 := Scalar.subi arg15 c0_i32_75
  let c1_i32_76 : BitVec 32 := 1#32
  let v218 : BitVec 32 := Scalar.divsi v216 c1_i32_76
  let v219 : BitVec 32 := Scalar.muli v218 c1_i32_76
  let v220 : BitVec 32 := Scalar.addi c0_i32_75 v219
  let c1_i32_78 : BitVec 32 := 1#32
  let arg16 : BitVec 32 := Scf.iv v220 c1_i32_78 k0_t3
  let c256_i32_193 : BitVec 32 := 256#32
  let v610 : BitVec 32 := Scalar.muli arg16 c256_i32_193
  let v611 : BitVec 32 := v610
  let v612 : Index := Scalar.indexCast v611
  let c0_194 : Index := 0#32
  ![v612.toNat, 0]
def k0_off21 (k0_t1 : Fin k0_t1_loop.trips) (k0_t3 : Fin (k0_t3_loop k0_t1).trips) : Fin 2 → Nat :=
  let c0_i32_75 : BitVec 32 := 0#32
  let c0_i32_8 : BitVec 32 := 0#32
  let c1_i32_9 : BitVec 32 := 1#32
  let arg15 : BitVec 32 := Scf.iv c0_i32_8 c1_i32_9 k0_t1
  let v216 : BitVec 32 := Scalar.subi arg15 c0_i32_75
  let c1_i32_76 : BitVec 32 := 1#32
  let v218 : BitVec 32 := Scalar.divsi v216 c1_i32_76
  let v219 : BitVec 32 := Scalar.muli v218 c1_i32_76
  let v220 : BitVec 32 := Scalar.addi c0_i32_75 v219
  let c1_i32_78 : BitVec 32 := 1#32
  let arg16 : BitVec 32 := Scf.iv v220 c1_i32_78 k0_t3
  let c256_i32_193 : BitVec 32 := 256#32
  let v610 : BitVec 32 := Scalar.muli arg16 c256_i32_193
  let v611 : BitVec 32 := v610
  let v743 : Index := Scalar.indexCast v611
  let c0_235 : Index := 0#32
  ![v743.toNat, 0]
def k0_off22 (k0_t1 : Fin k0_t1_loop.trips) (k0_t3 : Fin (k0_t3_loop k0_t1).trips) : Fin 2 → Nat :=
  let c0_i32_75 : BitVec 32 := 0#32
  let c0_i32_8 : BitVec 32 := 0#32
  let c1_i32_9 : BitVec 32 := 1#32
  let arg15 : BitVec 32 := Scf.iv c0_i32_8 c1_i32_9 k0_t1
  let v216 : BitVec 32 := Scalar.subi arg15 c0_i32_75
  let c1_i32_76 : BitVec 32 := 1#32
  let v218 : BitVec 32 := Scalar.divsi v216 c1_i32_76
  let v219 : BitVec 32 := Scalar.muli v218 c1_i32_76
  let v220 : BitVec 32 := Scalar.addi c0_i32_75 v219
  let c1_i32_78 : BitVec 32 := 1#32
  let arg16 : BitVec 32 := Scf.iv v220 c1_i32_78 k0_t3
  let c256_i32_193 : BitVec 32 := 256#32
  let v610 : BitVec 32 := Scalar.muli arg16 c256_i32_193
  let v611 : BitVec 32 := v610
  let v746 : Index := Scalar.indexCast v611
  let c128_237 : Index := 128#32
  ![v746.toNat, 128]
def k0_off23 (k0_t1 : Fin k0_t1_loop.trips) (k0_t3 : Fin (k0_t3_loop k0_t1).trips) : Fin 2 → Nat :=
  let c0_i32_75 : BitVec 32 := 0#32
  let c0_i32_8 : BitVec 32 := 0#32
  let c1_i32_9 : BitVec 32 := 1#32
  let arg15 : BitVec 32 := Scf.iv c0_i32_8 c1_i32_9 k0_t1
  let v216 : BitVec 32 := Scalar.subi arg15 c0_i32_75
  let c1_i32_76 : BitVec 32 := 1#32
  let v218 : BitVec 32 := Scalar.divsi v216 c1_i32_76
  let v219 : BitVec 32 := Scalar.muli v218 c1_i32_76
  let v220 : BitVec 32 := Scalar.addi c0_i32_75 v219
  let c1_i32_78 : BitVec 32 := 1#32
  let arg16 : BitVec 32 := Scf.iv v220 c1_i32_78 k0_t3
  let c256_i32_193 : BitVec 32 := 256#32
  let v610 : BitVec 32 := Scalar.muli arg16 c256_i32_193
  let v611 : BitVec 32 := v610
  let v749 : Index := Scalar.indexCast v611
  let c256_239 : Index := 256#32
  ![v749.toNat, 256]
def k0_off24 (k0_t1 : Fin k0_t1_loop.trips) (k0_t3 : Fin (k0_t3_loop k0_t1).trips) : Fin 2 → Nat :=
  let c0_i32_75 : BitVec 32 := 0#32
  let c0_i32_8 : BitVec 32 := 0#32
  let c1_i32_9 : BitVec 32 := 1#32
  let arg15 : BitVec 32 := Scf.iv c0_i32_8 c1_i32_9 k0_t1
  let v216 : BitVec 32 := Scalar.subi arg15 c0_i32_75
  let c1_i32_76 : BitVec 32 := 1#32
  let v218 : BitVec 32 := Scalar.divsi v216 c1_i32_76
  let v219 : BitVec 32 := Scalar.muli v218 c1_i32_76
  let v220 : BitVec 32 := Scalar.addi c0_i32_75 v219
  let c1_i32_78 : BitVec 32 := 1#32
  let arg16 : BitVec 32 := Scf.iv v220 c1_i32_78 k0_t3
  let c256_i32_193 : BitVec 32 := 256#32
  let v610 : BitVec 32 := Scalar.muli arg16 c256_i32_193
  let v611 : BitVec 32 := v610
  let v752 : Index := Scalar.indexCast v611
  let c384_241 : Index := 384#32
  ![v752.toNat, 384]
def k0_off25 (k0_t1 : Fin k0_t1_loop.trips) (k0_t3 : Fin (k0_t3_loop k0_t1).trips) : Fin 2 → Nat :=
  let c0_i32_75 : BitVec 32 := 0#32
  let c0_i32_8 : BitVec 32 := 0#32
  let c1_i32_9 : BitVec 32 := 1#32
  let arg15 : BitVec 32 := Scf.iv c0_i32_8 c1_i32_9 k0_t1
  let v216 : BitVec 32 := Scalar.subi arg15 c0_i32_75
  let c1_i32_76 : BitVec 32 := 1#32
  let v218 : BitVec 32 := Scalar.divsi v216 c1_i32_76
  let v219 : BitVec 32 := Scalar.muli v218 c1_i32_76
  let v220 : BitVec 32 := Scalar.addi c0_i32_75 v219
  let c1_i32_78 : BitVec 32 := 1#32
  let arg16 : BitVec 32 := Scf.iv v220 c1_i32_78 k0_t3
  let c256_i32_193 : BitVec 32 := 256#32
  let v610 : BitVec 32 := Scalar.muli arg16 c256_i32_193
  let v611 : BitVec 32 := v610
  let v959 : Index := Scalar.indexCast v611
  let c0_292 : Index := 0#32
  ![v959.toNat, 0]
def k0_off26 (k0_t1 : Fin k0_t1_loop.trips) (k0_t3 : Fin (k0_t3_loop k0_t1).trips) : Fin 2 → Nat :=
  let c0_i32_75 : BitVec 32 := 0#32
  let c0_i32_8 : BitVec 32 := 0#32
  let c1_i32_9 : BitVec 32 := 1#32
  let arg15 : BitVec 32 := Scf.iv c0_i32_8 c1_i32_9 k0_t1
  let v216 : BitVec 32 := Scalar.subi arg15 c0_i32_75
  let c1_i32_76 : BitVec 32 := 1#32
  let v218 : BitVec 32 := Scalar.divsi v216 c1_i32_76
  let v219 : BitVec 32 := Scalar.muli v218 c1_i32_76
  let v220 : BitVec 32 := Scalar.addi c0_i32_75 v219
  let c1_i32_78 : BitVec 32 := 1#32
  let arg16 : BitVec 32 := Scf.iv v220 c1_i32_78 k0_t3
  let c256_i32_193 : BitVec 32 := 256#32
  let v610 : BitVec 32 := Scalar.muli arg16 c256_i32_193
  let v611 : BitVec 32 := v610
  let v973 : Index := Scalar.indexCast v611
  let c128_296 : Index := 128#32
  ![v973.toNat, 128]
def k0_mult8 (k0_t1 : Fin k0_t1_loop.trips) : BitVec 32 :=
  let c0_i32_8 : BitVec 32 := 0#32
  let c1_i32_9 : BitVec 32 := 1#32
  let arg15 : BitVec 32 := Scf.iv c0_i32_8 c1_i32_9 k0_t1
  let c256_i32_79 : BitVec 32 := 256#32
  let v223 : BitVec 32 := Scalar.muli arg15 c256_i32_79
  v223
def k0_off27 (k0_t1 : Fin k0_t1_loop.trips) : Fin 2 → Nat :=
  let c0_i32_8 : BitVec 32 := 0#32
  let c1_i32_9 : BitVec 32 := 1#32
  let arg15 : BitVec 32 := Scf.iv c0_i32_8 c1_i32_9 k0_t1
  let c256_i32_79 : BitVec 32 := 256#32
  let v223 : BitVec 32 := Scalar.muli arg15 c256_i32_79
  let v224 : BitVec 32 := v223
  let v572 : Index := Scalar.indexCast v224
  let c0_182 : Index := 0#32
  ![v572.toNat, 0]
def k0_off28 (k0_t1 : Fin k0_t1_loop.trips) : Fin 2 → Nat :=
  let c0_i32_8 : BitVec 32 := 0#32
  let c1_i32_9 : BitVec 32 := 1#32
  let arg15 : BitVec 32 := Scf.iv c0_i32_8 c1_i32_9 k0_t1
  let c256_i32_79 : BitVec 32 := 256#32
  let v223 : BitVec 32 := Scalar.muli arg15 c256_i32_79
  let v224 : BitVec 32 := v223
  let v586 : Index := Scalar.indexCast v224
  let c128_186 : Index := 128#32
  ![v586.toNat, 128]
def k0_off29 (i : grid0.Coords) : Fin 2 → Nat :=
  let arg0 : BitVec 32 := BitVec.ofNat 32 (i 0).val
  let c2048_i32 : BitVec 32 := 2048#32
  let v19 : BitVec 32 := Scalar.muli arg0 c2048_i32
  let v20 : BitVec 32 := v19
  let arg1 : BitVec 32 := BitVec.ofNat 32 (i 1).val
  let c256_i32 : BitVec 32 := 256#32
  let v21 : BitVec 32 := Scalar.muli arg1 c256_i32
  let v22 : BitVec 32 := v21
  ![v20.toNat, v22.toNat]
def k0_off30 (i : grid0.Coords) : Fin 2 → Nat :=
  let arg0 : BitVec 32 := BitVec.ofNat 32 (i 0).val
  let c2048_i32 : BitVec 32 := 2048#32
  let v19 : BitVec 32 := Scalar.muli arg0 c2048_i32
  let v20 : BitVec 32 := v19
  let c1024_i32 : BitVec 32 := 1024#32
  let arg1 : BitVec 32 := BitVec.ofNat 32 (i 1).val
  let c256_i32_4 : BitVec 32 := 256#32
  let v23 : BitVec 32 := Scalar.muli arg1 c256_i32_4
  let v24 : BitVec 32 := Scalar.addi c1024_i32 v23
  let v25 : BitVec 32 := v24
  ![v20.toNat, v25.toNat]
def k0_off31 (i : grid0.Coords) : Fin 2 → Nat :=
  let arg0 : BitVec 32 := BitVec.ofNat 32 (i 0).val
  let c2048_i32 : BitVec 32 := 2048#32
  let v19 : BitVec 32 := Scalar.muli arg0 c2048_i32
  let v20 : BitVec 32 := v19
  let c2048_i32_5 : BitVec 32 := 2048#32
  let arg1 : BitVec 32 := BitVec.ofNat 32 (i 1).val
  let c512_i32 : BitVec 32 := 512#32
  let v26 : BitVec 32 := Scalar.muli arg1 c512_i32
  let v27 : BitVec 32 := Scalar.addi c2048_i32_5 v26
  let v28 : BitVec 32 := v27
  ![v20.toNat, v28.toNat]
def k0_cond2 (i : grid0.Coords) : BitVec 1 :=
  let arg0 : BitVec 32 := BitVec.ofNat 32 (i 0).val
  let c4_i32 : BitVec 32 := 4#32
  let v29 : BitVec 32 := Scalar.muli arg0 c4_i32
  let arg1 : BitVec 32 := BitVec.ofNat 32 (i 1).val
  let v30 : BitVec 32 := Scalar.addi v29 arg1
  let c7_i32 : BitVec 32 := 7#32
  let v54 : BitVec 1 := Scalar.cmpi .eq v30 c7_i32
  let v55 : BitVec 32 := Scalar.extui v54
  let c0_i32_25 : BitVec 32 := 0#32
  let v56 : BitVec 1 := Scalar.cmpi .ne v55 c0_i32_25
  v56

def k0_off32 (i : grid0.Coords) : Fin 2 → Nat :=
  let arg0 : BitVec 32 := BitVec.ofNat 32 (i 0).val
  let c2048_i32 : BitVec 32 := 2048#32
  let v19 : BitVec 32 := Scalar.muli arg0 c2048_i32
  let v20 : BitVec 32 := v19
  let arg1 : BitVec 32 := BitVec.ofNat 32 (i 1).val
  let c256_i32 : BitVec 32 := 256#32
  let v21 : BitVec 32 := Scalar.muli arg1 c256_i32
  let v22 : BitVec 32 := v21
  ![v20.toNat, v22.toNat]
def k0_off33 (i : grid0.Coords) : Fin 2 → Nat :=
  let arg0 : BitVec 32 := BitVec.ofNat 32 (i 0).val
  let c2048_i32 : BitVec 32 := 2048#32
  let v19 : BitVec 32 := Scalar.muli arg0 c2048_i32
  let v20 : BitVec 32 := v19
  let c1024_i32 : BitVec 32 := 1024#32
  let arg1 : BitVec 32 := BitVec.ofNat 32 (i 1).val
  let c256_i32_4 : BitVec 32 := 256#32
  let v23 : BitVec 32 := Scalar.muli arg1 c256_i32_4
  let v24 : BitVec 32 := Scalar.addi c1024_i32 v23
  let v25 : BitVec 32 := v24
  ![v20.toNat, v25.toNat]
def k0_off34 (i : grid0.Coords) : Fin 2 → Nat :=
  let arg0 : BitVec 32 := BitVec.ofNat 32 (i 0).val
  let c2048_i32 : BitVec 32 := 2048#32
  let v19 : BitVec 32 := Scalar.muli arg0 c2048_i32
  let v20 : BitVec 32 := v19
  let c2048_i32_5 : BitVec 32 := 2048#32
  let arg1 : BitVec 32 := BitVec.ofNat 32 (i 1).val
  let c512_i32 : BitVec 32 := 512#32
  let v26 : BitVec 32 := Scalar.muli arg1 c512_i32
  let v27 : BitVec 32 := Scalar.addi c2048_i32_5 v26
  let v28 : BitVec 32 := v27
  ![v20.toNat, v28.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x4 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== SbGradIdeal.lean ====
variable {F : FTy → Type} [FloatOps F] [Named F]
def κ : String → Option EReal := fun
  | "neg_log2e" => some ((-((Real.log 2)⁻¹) : ℝ) : EReal)
  | _ => none
-- ==== SbGradRefIdeal.lean ====
abbrev S4096x6144 : Shape := ⟨2, ![4096, 6144]⟩
abbrev S4096x2048 : Shape := ⟨2, ![4096, 2048]⟩
abbrev S4096x4096 : Shape := ⟨2, ![4096, 4096]⟩
abbrev S2x2048x4096 : Shape := ⟨3, ![2, 2048, 4096]⟩
abbrev S2x2048x1024 : Shape := ⟨3, ![2, 2048, 1024]⟩
abbrev S2x2048x2048 : Shape := ⟨3, ![2, 2048, 2048]⟩
abbrev S2x2048x16x64 : Shape := ⟨4, ![2, 2048, 16, 64]⟩
abbrev S2x16x2048x64 : Shape := ⟨4, ![2, 16, 2048, 64]⟩
abbrev S2x2048x16x128 : Shape := ⟨4, ![2, 2048, 16, 128]⟩
abbrev S2x16x2048x128 : Shape := ⟨4, ![2, 16, 2048, 128]⟩
abbrev S2x16x2048x2048 : Shape := ⟨4, ![2, 16, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S2x16x128x2048 : Shape := ⟨4, ![2, 16, 128, 2048]⟩

abbrev nBuf : Space → Nat
  | .hbm => 188
  | .vmem => 0
  | .smem => 0
  | _ => 0

abbrev hbmTy0_0 (i : Nat) : BufTy := match i % 128 with
  | 0 => ⟨S4096x6144, .bf16⟩
  | 1 => ⟨S4096x2048, .bf16⟩
  | 2 => ⟨S4096x6144, .bf16⟩
  | 3 => ⟨S4096x4096, .bf16⟩
  | 4 => ⟨S4096x4096, .f32⟩
  | 5 => ⟨S2x2048x4096, .f32⟩
  | 6 => ⟨S2x2048x1024, .f32⟩
  | 7 => ⟨S2x2048x1024, .f32⟩
  | 8 => ⟨S2x2048x2048, .f32⟩
  | 9 => ⟨S2x2048x16x64, .f32⟩
  | 10 => ⟨S2x16x2048x64, .f32⟩
  | 11 => ⟨S2x2048x16x64, .f32⟩
  | 12 => ⟨S2x16x2048x64, .f32⟩
  | 13 => ⟨S2x2048x16x128, .f32⟩
  | 14 => ⟨S2x16x2048x128, .f32⟩
  | 15 => ⟨S2x16x2048x2048, .f32⟩
  | 16 => ⟨S_, .f32⟩
  | 17 => ⟨S2x16x2048x2048, .f32⟩
  | 18 => ⟨S2x16x2048x2048, .f32⟩
  | 19 => ⟨S2048, .i32⟩
  | 20 => ⟨S1x2048, .i32⟩
  | 21 => ⟨S2048x1, .i32⟩
  | 22 => ⟨S2048x2048, .i32⟩
  | 23 => ⟨S2048x2048, .i32⟩
  | 24 => ⟨S2048x2048, .i1⟩
  | 25 => ⟨S2x16x2048x2048, .f32⟩
  | 26 => ⟨S2x16x2048x2048, .f32⟩
  | 27 => ⟨S_, .f32⟩
  | 28 => ⟨S2x16x2048x2048, .f32⟩
  | 29 => ⟨S2x16x2048x2048, .f32⟩
  | 30 => ⟨S2x16x2048x2048, .f32⟩
  | 31 => ⟨S2x16x2048x2048, .f32⟩
  | 32 => ⟨S2x16x2048x2048, .i1⟩
  | 33 => ⟨S2x16x2048x2048, .f32⟩
  | 34 => ⟨S2x16x2048x2048, .f32⟩
  | 35 => ⟨S2x16x2048x2048, .f32⟩
  | 36 => ⟨S2x16x2048x2048, .f32⟩
  | 37 => ⟨S2x16x2048x2048, .f32⟩
  | 38 => ⟨S2x16x2048x2048, .f32⟩
  | 39 => ⟨S2x16x2048x2048, .f32⟩
  | 40 => ⟨S2x16x2048x2048, .f32⟩
  | 41 => ⟨S_, .f32⟩
  | 42 => ⟨S2x16x2048x2048, .f32⟩
  | 43 => ⟨S2x16x2048x2048, .i1⟩
  | 44 => ⟨S_, .f32⟩
  | 45 => ⟨S2x16x2048x2048, .f32⟩
  | 46 => ⟨S2x16x2048x2048, .f32⟩
  | 47 => ⟨S_, .f32⟩
  | 48 => ⟨S2x16x2048x2048, .f32⟩
  | 49 => ⟨S2x16x2048x2048, .i1⟩
  | 50 => ⟨S_, .f32⟩
  | 51 => ⟨S2x16x2048x2048, .f32⟩
  | 52 => ⟨S2x16x2048x2048, .f32⟩
  | 53 => ⟨S2x16x2048x2048, .f32⟩
  | 54 => ⟨S2x16x2048x2048, .f32⟩
  | 55 => ⟨S_, .f32⟩
  | 56 => ⟨S_, .f32⟩
  | 57 => ⟨S_, .i1⟩
  | 58 => ⟨S_, .f32⟩
  | 59 => ⟨S_, .f32⟩
  | 60 => ⟨S_, .f32⟩
  | 61 => ⟨S_, .f32⟩
  | 62 => ⟨S2x16x2048x2048, .f32⟩
  | 63 => ⟨S2x16x2048x2048, .i1⟩
  | 64 => ⟨S_, .f32⟩
  | 65 => ⟨S2x16x2048x2048, .f32⟩
  | 66 => ⟨S2x16x2048x2048, .f32⟩
  | 67 => ⟨S2x16x2048x2048, .f32⟩
  | 68 => ⟨S2x16x2048x2048, .f32⟩
  | 69 => ⟨S2x16x2048x2048, .f32⟩
  | 70 => ⟨S_, .f32⟩
  | 71 => ⟨S2x16x2048x2048, .f32⟩
  | 72 => ⟨S2x16x2048x2048, .f32⟩
  | 73 => ⟨S2x16x2048x2048, .f32⟩
  | 74 => ⟨S_, .f32⟩
  | 75 => ⟨S_, .f32⟩
  | 76 => ⟨S2x16x2048x2048, .i1⟩
  | 77 => ⟨S2x16x2048x2048, .f32⟩
  | 78 => ⟨S2x16x2048x2048, .f32⟩
  | 79 => ⟨S_, .f32⟩
  | 80 => ⟨S2x16x2048x2048, .f32⟩
  | 81 => ⟨S_, .f32⟩
  | 82 => ⟨S_, .f32⟩
  | 83 => ⟨S2x16x2048x2048, .f32⟩
  | 84 => ⟨S2x16x2048x2048, .f32⟩
  | 85 => ⟨S2x16x2048x2048, .f32⟩
  | 86 => ⟨S_, .f32⟩
  | 87 => ⟨S2x16x2048x2048, .f32⟩
  | 88 => ⟨S2x16x2048x2048, .f32⟩
  | 89 => ⟨S2x16x2048x2048, .f32⟩
  | 90 => ⟨S2x16x2048x2048, .f32⟩
  | 91 => ⟨S2x16x2048x2048, .i1⟩
  | 92 => ⟨S2x16x2048x2048, .f32⟩
  | 93 => ⟨S2x16x2048x2048, .f32⟩
  | 94 => ⟨S2x16x2048x2048, .f32⟩
  | 95 => ⟨S2x16x2048x2048, .f32⟩
  | 96 => ⟨S2x16x2048x2048, .f32⟩
  | 97 => ⟨S2x16x2048x2048, .f32⟩
  | 98 => ⟨S2x16x2048x2048, .f32⟩
  | 99 => ⟨S2x16x2048x2048, .f32⟩
  | 100 => ⟨S_, .f32⟩
  | 101 => ⟨S2x16x2048x2048, .f32⟩
  | 102 => ⟨S2x16x2048x2048, .i1⟩
  | 103 => ⟨S_, .f32⟩
  | 104 => ⟨S2x16x2048x2048, .f32⟩
  | 105 => ⟨S2x16x2048x2048, .f32⟩
  | 106 => ⟨S_, .f32⟩
  | 107 => ⟨S2x16x2048x2048, .f32⟩
  | 108 => ⟨S2x16x2048x2048, .i1⟩
  | 109 => ⟨S_, .f32⟩
  | 110 => ⟨S2x16x2048x2048, .f32⟩
  | 111 => ⟨S2x16x2048x2048, .f32⟩
  | 112 => ⟨S2x16x2048x2048, .f32⟩
  | 113 => ⟨S2x16x2048x2048, .f32⟩
  | 114 => ⟨S_, .f32⟩
  | 115 => ⟨S_, .f32⟩
  | 116 => ⟨S_, .i1⟩
  | 117 => ⟨S_, .f32⟩
  | 118 => ⟨S_, .f32⟩
  | 119 => ⟨S_, .f32⟩
  | 120 => ⟨S_, .f32⟩
  | 121 => ⟨S2x16x2048x2048, .f32⟩
  | 122 => ⟨S2x16x2048x2048, .i1⟩
  | 123 => ⟨S_, .f32⟩
  | 124 => ⟨S2x16x2048x2048, .f32⟩
  | 125 => ⟨S2x16x2048x2048, .f32⟩
  | 126 => ⟨S2x16x2048x2048, .f32⟩
  | 127 => ⟨S2x16x2048x2048, .f32⟩
  | _ => ⟨S4096x6144, .bf16⟩

abbrev hbmTy0_1 (i : Nat) : BufTy := match i % 128 with
  | 0 => ⟨S2x16x2048x2048, .f32⟩
  | 1 => ⟨S_, .f32⟩
  | 2 => ⟨S2x16x2048x2048, .f32⟩
  | 3 => ⟨S2x16x2048x2048, .f32⟩
  | 4 => ⟨S2x16x2048x2048, .f32⟩
  | 5 => ⟨S2x16x2048x2048, .f32⟩
  | 6 => ⟨S2x16x2048x2048, .f32⟩
  | 7 => ⟨S_, .f32⟩
  | 8 => ⟨S_, .f32⟩
  | 9 => ⟨S2x16x2048x2048, .i1⟩
  | 10 => ⟨S2x16x2048x2048, .f32⟩
  | 11 => ⟨S2x16x2048x2048, .f32⟩
  | 12 => ⟨S_, .f32⟩
  | 13 => ⟨S2x16x2048x2048, .f32⟩
  | 14 => ⟨S2x16x2048x128, .f32⟩
  | 15 => ⟨S2x2048x16x128, .f32⟩
  | 16 => ⟨S2x2048x2048, .f32⟩
  | 17 => ⟨S4096x2048, .f32⟩
  | 18 => ⟨S2x2048x2048, .f32⟩
  | 19 => ⟨S2x2048x16x128, .f32⟩
  | 20 => ⟨S2x16x2048x128, .f32⟩
  | 21 => ⟨S2x16x128x2048, .f32⟩
  | 22 => ⟨S2x16x2048x128, .f32⟩
  | 23 => ⟨S2x16x2048x2048, .f32⟩
  | 24 => ⟨S_, .f32⟩
  | 25 => ⟨S2x16x2048x2048, .f32⟩
  | 26 => ⟨S2x16x2048x2048, .f32⟩
  | 27 => ⟨S2x16x2048x2048, .f32⟩
  | 28 => ⟨S2x16x2048x2048, .f32⟩
  | 29 => ⟨S2x16x2048x2048, .f32⟩
  | 30 => ⟨S2x16x2048x2048, .f32⟩
  | 31 => ⟨S2x16x2048x2048, .f32⟩
  | 32 => ⟨S_, .f32⟩
  | 33 => ⟨S_, .f32⟩
  | 34 => ⟨S2x16x2048x2048, .f32⟩
  | 35 => ⟨S2x16x2048x2048, .f32⟩
  | 36 => ⟨S_, .f32⟩
  | 37 => ⟨S2x16x2048x2048, .f32⟩
  | 38 => ⟨S2x16x2048x2048, .f32⟩
  | 39 => ⟨S2x16x2048x2048, .f32⟩
  | 40 => ⟨S2x16x2048x2048, .f32⟩
  | 41 => ⟨S2x16x2048x2048, .f32⟩
  | 42 => ⟨S2x16x2048x2048, .f32⟩
  | 43 => ⟨S2x16x2048x2048, .f32⟩
  | 44 => ⟨S_, .f32⟩
  | 45 => ⟨S2x16x2048x2048, .f32⟩
  | 46 => ⟨S2x16x2048x2048, .f32⟩
  | 47 => ⟨S2x16x2048x64, .f32⟩
  | 48 => ⟨S2x16x2048x64, .f32⟩
  | 49 => ⟨S2x2048x16x128, .f32⟩
  | 50 => ⟨S2x2048x2048, .f32⟩
  | 51 => ⟨S2x2048x16x64, .f32⟩
  | 52 => ⟨S2x2048x1024, .f32⟩
  | 53 => ⟨S2x2048x16x64, .f32⟩
  | 54 => ⟨S2x2048x1024, .f32⟩
  | 55 => ⟨S2x2048x4096, .f32⟩
  | 56 => ⟨S4096x4096, .f32⟩
  | 57 => ⟨S4096x4096, .bf16⟩
  | 58 => ⟨S4096x2048, .bf16⟩
  | 59 => ⟨S4096x6144, .bf16⟩
  | _ => ⟨S4096x6144, .bf16⟩

abbrev hbmTy (i : Nat) : BufTy := match i / 128 with
  | 0 => hbmTy0_0 i
  | 1 => hbmTy0_1 i
  | _ => ⟨S4096x6144, .bf16⟩

abbrev bufTy : (tb : Table) → Fin (tcTables nBuf tb) → BufTy
  | .hbm, ⟨i, _⟩ => hbmTy i
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_call0_v0 : Ref sig .tc := ⟨.hbm, 26, rfl⟩
abbrev main_call0_call0_cst : Ref sig .tc := ⟨.hbm, 27, rfl⟩
abbrev main_call0_call0_v0 : Ref sig .tc := ⟨.hbm, 28, rfl⟩
abbrev main_call0_call0_v1 : Ref sig .tc := ⟨.hbm, 29, rfl⟩
abbrev main_call0_call0_v2 : Ref sig .tc := ⟨.hbm, 30, rfl⟩
abbrev main_call0_call0_v3 : Ref sig .tc := ⟨.hbm, 31, rfl⟩
abbrev main_call0_call0_v4 : Ref sig .tc := ⟨.hbm, 32, rfl⟩
abbrev main_call0_call0_v5 : Ref sig .tc := ⟨.hbm, 33, rfl⟩
abbrev main_call0_call0_v6 : Ref sig .tc := ⟨.hbm, 34, rfl⟩
abbrev main_call0_call0_v7 : Ref sig .tc := ⟨.hbm, 35, rfl⟩
abbrev main_call0_call0_v8 : Ref sig .tc := ⟨.hbm, 36, rfl⟩
abbrev main_call0_call0_v9 : Ref sig .tc := ⟨.hbm, 37, rfl⟩
abbrev main_call0_call0_v10 : Ref sig .tc := ⟨.hbm, 38, rfl⟩
abbrev main_call0_call0_v11 : Ref sig .tc := ⟨.hbm, 39, rfl⟩
abbrev main_call0_v1_0 : Ref sig .tc := ⟨.hbm, 40, rfl⟩
abbrev main_call0_call0_cst_0 : Ref sig .tc := ⟨.hbm, 41, rfl⟩
abbrev main_call0_call0_v13 : Ref sig .tc := ⟨.hbm, 42, rfl⟩
abbrev main_call0_call0_v14 : Ref sig .tc := ⟨.hbm, 43, rfl⟩
abbrev main_call0_call0_cst_1 : Ref sig .tc := ⟨.hbm, 44, rfl⟩
abbrev main_call0_call0_v15 : Ref sig .tc := ⟨.hbm, 45, rfl⟩
abbrev main_call0_call0_v16 : Ref sig .tc := ⟨.hbm, 46, rfl⟩
abbrev main_call0_call0_cst_2 : Ref sig .tc := ⟨.hbm, 47, rfl⟩
abbrev main_call0_call0_v17 : Ref sig .tc := ⟨.hbm, 48, rfl⟩
abbrev main_call0_call0_v18 : Ref sig .tc := ⟨.hbm, 49, rfl⟩
abbrev main_call0_call0_cst_3 : Ref sig .tc := ⟨.hbm, 50, rfl⟩
abbrev main_call0_call0_v19 : Ref sig .tc := ⟨.hbm, 51, rfl⟩
abbrev main_call0_call0_v20 : Ref sig .tc := ⟨.hbm, 52, rfl⟩
abbrev main_call0_call0_v21 : Ref sig .tc := ⟨.hbm, 53, rfl⟩
abbrev main_v22_1 : Ref sig .tc := ⟨.hbm, 54, rfl⟩
abbrev main_call0_call0_cst_4 : Ref sig .tc := ⟨.hbm, 55, rfl⟩
abbrev main_call0_call0_cst_5 : Ref sig .tc := ⟨.hbm, 56, rfl⟩
abbrev main_call0_call0_v23 : Ref sig .tc := ⟨.hbm, 57, rfl⟩
abbrev main_call0_call0_cst_6 : Ref sig .tc := ⟨.hbm, 58, rfl⟩
abbrev main_call0_call0_cst_7 : Ref sig .tc := ⟨.hbm, 59, rfl⟩
abbrev main_call0_call0_v24 : Ref sig .tc := ⟨.hbm, 60, rfl⟩
abbrev main_call0_call0_cst_8 : Ref sig .tc := ⟨.hbm, 61, rfl⟩
abbrev main_call0_call0_v25 : Ref sig .tc := ⟨.hbm, 62, rfl⟩
abbrev main_call0_call0_v26 : Ref sig .tc := ⟨.hbm, 63, rfl⟩
abbrev main_call0_call0_cst_9 : Ref sig .tc := ⟨.hbm, 64, rfl⟩
abbrev main_call0_call0_v27 : Ref sig .tc := ⟨.hbm, 65, rfl⟩
abbrev main_call0_call0_v28 : Ref sig .tc := ⟨.hbm, 66, rfl⟩
abbrev main_call0_call0_v29 : Ref sig .tc := ⟨.hbm, 67, rfl⟩
abbrev main_call0_call0_v30 : Ref sig .tc := ⟨.hbm, 68, rfl⟩
abbrev main_call0_call0_v31 : Ref sig .tc := ⟨.hbm, 69, rfl⟩
abbrev main_call0_call0_cst_10 : Ref sig .tc := ⟨.hbm, 70, rfl⟩
abbrev main_call0_call0_v32 : Ref sig .tc := ⟨.hbm, 71, rfl⟩
abbrev main_v22_2 : Ref sig .tc := ⟨.hbm, 72, rfl⟩
abbrev main_v22_0 : Ref sig .tc := ⟨.hbm, 73, rfl⟩
abbrev main_cst_0 : Ref sig .tc := ⟨.hbm, 74, rfl⟩
abbrev main_call1_v0 : Ref sig .tc := ⟨.hbm, 75, rfl⟩
abbrev main_v23_1 : Ref sig .tc := ⟨.hbm, 76, rfl⟩
abbrev main_call1_v2 : Ref sig .tc := ⟨.hbm, 77, rfl⟩
abbrev main_v23_0 : Ref sig .tc := ⟨.hbm, 78, rfl⟩
abbrev main_call1_cst : Ref sig .tc := ⟨.hbm, 79, rfl⟩
abbrev main_v23_2 : Ref sig .tc := ⟨.hbm, 80, rfl⟩
abbrev main_call2_cst : Ref sig .tc := ⟨.hbm, 81, rfl⟩
abbrev main_call2_v0 : Ref sig .tc := ⟨.hbm, 82, rfl⟩
abbrev main_v24 : Ref sig .tc := ⟨.hbm, 83, rfl⟩
abbrev main_v25 : Ref sig .tc := ⟨.hbm, 84, rfl⟩
abbrev main_call3_v0 : Ref sig .tc := ⟨.hbm, 85, rfl⟩
abbrev main_call3_call0_cst : Ref sig .tc := ⟨.hbm, 86, rfl⟩
abbrev main_call3_call0_v0 : Ref sig .tc := ⟨.hbm, 87, rfl⟩
abbrev main_call3_call0_v1 : Ref sig .tc := ⟨.hbm, 88, rfl⟩
abbrev main_call3_call0_v2 : Ref sig .tc := ⟨.hbm, 89, rfl⟩
abbrev main_call3_call0_v3 : Ref sig .tc := ⟨.hbm, 90, rfl⟩
abbrev main_call3_call0_v4 : Ref sig .tc := ⟨.hbm, 91, rfl⟩
abbrev main_call3_call0_v5 : Ref sig .tc := ⟨.hbm, 92, rfl⟩
abbrev main_call3_call0_v6 : Ref sig .tc := ⟨.hbm, 93, rfl⟩
abbrev main_call3_call0_v7 : Ref sig .tc := ⟨.hbm, 94, rfl⟩
abbrev main_call3_call0_v8 : Ref sig .tc := ⟨.hbm, 95, rfl⟩
abbrev main_call3_call0_v9 : Ref sig .tc := ⟨.hbm, 96, rfl⟩
abbrev main_call3_call0_v10 : Ref sig .tc := ⟨.hbm, 97, rfl⟩
abbrev main_call3_call0_v11 : Ref sig .tc := ⟨.hbm, 98, rfl⟩
abbrev main_call3_v1_0 : Ref sig .tc := ⟨.hbm, 99, rfl⟩
abbrev main_call3_call0_cst_0 : Ref sig .tc := ⟨.hbm, 100, rfl⟩
abbrev main_call3_call0_v13 : Ref sig .tc := ⟨.hbm, 101, rfl⟩
abbrev main_call3_call0_v14 : Ref sig .tc := ⟨.hbm, 102, rfl⟩
abbrev main_call3_call0_cst_1 : Ref sig .tc := ⟨.hbm, 103, rfl⟩
abbrev main_call3_call0_v15 : Ref sig .tc := ⟨.hbm, 104, rfl⟩
abbrev main_call3_call0_v16 : Ref sig .tc := ⟨.hbm, 105, rfl⟩
abbrev main_call3_call0_cst_2 : Ref sig .tc := ⟨.hbm, 106, rfl⟩
abbrev main_call3_call0_v17 : Ref sig .tc := ⟨.hbm, 107, rfl⟩
abbrev main_call3_call0_v18 : Ref sig .tc := ⟨.hbm, 108, rfl⟩
abbrev main_call3_call0_cst_3 : Ref sig .tc := ⟨.hbm, 109, rfl⟩
abbrev main_call3_call0_v19 : Ref sig .tc := ⟨.hbm, 110, rfl⟩
abbrev main_call3_call0_v20 : Ref sig .tc := ⟨.hbm, 111, rfl⟩
abbrev main_call3_call0_v21 : Ref sig .tc := ⟨.hbm, 112, rfl⟩
abbrev main_v26_1 : Ref sig .tc := ⟨.hbm, 113, rfl⟩
abbrev main_call3_call0_cst_4 : Ref sig .tc := ⟨.hbm, 114, rfl⟩
abbrev main_call3_call0_cst_5 : Ref sig .tc := ⟨.hbm, 115, rfl⟩
abbrev main_call3_call0_v23 : Ref sig .tc := ⟨.hbm, 116, rfl⟩
abbrev main_call3_call0_cst_6 : Ref sig .tc := ⟨.hbm, 117, rfl⟩
abbrev main_call3_call0_cst_7 : Ref sig .tc := ⟨.hbm, 118, rfl⟩
abbrev main_call3_call0_v24 : Ref sig .tc := ⟨.hbm, 119, rfl⟩
abbrev main_call3_call0_cst_8 : Ref sig .tc := ⟨.hbm, 120, rfl⟩
abbrev main_call3_call0_v25 : Ref sig .tc := ⟨.hbm, 121, rfl⟩
abbrev main_call3_call0_v26 : Ref sig .tc := ⟨.hbm, 122, rfl⟩
abbrev main_call3_call0_cst_9 : Ref sig .tc := ⟨.hbm, 123, rfl⟩
abbrev main_call3_call0_v27 : Ref sig .tc := ⟨.hbm, 124, rfl⟩
abbrev main_call3_call0_v28 : Ref sig .tc := ⟨.hbm, 125, rfl⟩
abbrev main_call3_call0_v29 : Ref sig .tc := ⟨.hbm, 126, rfl⟩
abbrev main_call3_call0_v30 : Ref sig .tc := ⟨.hbm, 127, rfl⟩
abbrev main_call3_call0_v31 : Ref sig .tc := ⟨.hbm, 128, rfl⟩
abbrev main_call3_call0_cst_10 : Ref sig .tc := ⟨.hbm, 129, rfl⟩
abbrev main_call3_call0_v32 : Ref sig .tc := ⟨.hbm, 130, rfl⟩
abbrev main_v26_2 : Ref sig .tc := ⟨.hbm, 131, rfl⟩
abbrev main_v26_0 : Ref sig .tc := ⟨.hbm, 132, rfl⟩
abbrev main_v27 : Ref sig .tc := ⟨.hbm, 133, rfl⟩
abbrev main_v28 : Ref sig .tc := ⟨.hbm, 134, rfl⟩
abbrev main_cst_1 : Ref sig .tc := ⟨.hbm, 135, rfl⟩
abbrev main_call4_v0 : Ref sig .tc := ⟨.hbm, 136, rfl⟩
abbrev main_v29_1 : Ref sig .tc := ⟨.hbm, 137, rfl⟩
abbrev main_call4_v2 : Ref sig .tc := ⟨.hbm, 138, rfl⟩
abbrev main_v29_0 : Ref sig .tc := ⟨.hbm, 139, rfl⟩
abbrev main_call4_cst : Ref sig .tc := ⟨.hbm, 140, rfl⟩
abbrev main_v29_2 : Ref sig .tc := ⟨.hbm, 141, rfl⟩
abbrev main_v30 : Ref sig .tc := ⟨.hbm, 142, rfl⟩
abbrev main_v31 : Ref sig .tc := ⟨.hbm, 143, rfl⟩
abbrev main_v32 : Ref sig .tc := ⟨.hbm, 144, rfl⟩
abbrev main_v33 : Ref sig .tc := ⟨.hbm, 145, rfl⟩
abbrev main_v34 : Ref sig .tc := ⟨.hbm, 146, rfl⟩
abbrev main_v35 : Ref sig .tc := ⟨.hbm, 147, rfl⟩
abbrev main_v36 : Ref sig .tc := ⟨.hbm, 148, rfl⟩
abbrev main_v37 : Ref sig .tc := ⟨.hbm, 149, rfl⟩
abbrev main_v38 : Ref sig .tc := ⟨.hbm, 150, rfl⟩
abbrev main_v39 : Ref sig .tc := ⟨.hbm, 151, rfl⟩
abbrev main_call5_cst : Ref sig .tc := ⟨.hbm, 152, rfl⟩
abbrev main_call5_v0 : Ref sig .tc := ⟨.hbm, 153, rfl⟩
abbrev main_v40 : Ref sig .tc := ⟨.hbm, 154, rfl⟩
abbrev main_v41 : Ref sig .tc := ⟨.hbm, 155, rfl⟩
abbrev main_call6_v0 : Ref sig .tc := ⟨.hbm, 156, rfl⟩
abbrev main_call6_v1 : Ref sig .tc := ⟨.hbm, 157, rfl⟩
abbrev main_v42 : Ref sig .tc := ⟨.hbm, 158, rfl⟩
abbrev main_v43 : Ref sig .tc := ⟨.hbm, 159, rfl⟩
abbrev main_call7_cst : Ref sig .tc := ⟨.hbm, 160, rfl⟩
abbrev main_call7_v0 : Ref sig .tc := ⟨.hbm, 161, rfl⟩
abbrev main_v44 : Ref sig .tc := ⟨.hbm, 162, rfl⟩
abbrev main_v45 : Ref sig .tc := ⟨.hbm, 163, rfl⟩
abbrev main_call8_cst : Ref sig .tc := ⟨.hbm, 164, rfl⟩
abbrev main_call8_v0 : Ref sig .tc := ⟨.hbm, 165, rfl⟩
abbrev main_v46 : Ref sig .tc := ⟨.hbm, 166, rfl⟩
abbrev main_call9_v0 : Ref sig .tc := ⟨.hbm, 167, rfl⟩
abbrev main_call9_v1 : Ref sig .tc := ⟨.hbm, 168, rfl⟩
abbrev main_v47 : Ref sig .tc := ⟨.hbm, 169, rfl⟩
abbrev main_v48 : Ref sig .tc := ⟨.hbm, 170, rfl⟩
abbrev main_v49 : Ref sig .tc := ⟨.hbm, 171, rfl⟩
abbrev main_cst_2 : Ref sig .tc := ⟨.hbm, 172, rfl⟩
abbrev main_v50 : Ref sig .tc := ⟨.hbm, 173, rfl⟩
abbrev main_v51 : Ref sig .tc := ⟨.hbm, 174, rfl⟩
abbrev main_v52 : Ref sig .tc := ⟨.hbm, 175, rfl⟩
abbrev main_v53 : Ref sig .tc := ⟨.hbm, 176, rfl⟩
abbrev main_v54 : Ref sig .tc := ⟨.hbm, 177, rfl⟩
abbrev main_v55 : Ref sig .tc := ⟨.hbm, 178, rfl⟩
abbrev main_v56 : Ref sig .tc := ⟨.hbm, 179, rfl⟩
abbrev main_v57 : Ref sig .tc := ⟨.hbm, 180, rfl⟩
abbrev main_v58 : Ref sig .tc := ⟨.hbm, 181, rfl⟩
abbrev main_v59 : Ref sig .tc := ⟨.hbm, 182, rfl⟩
abbrev main_v60 : Ref sig .tc := ⟨.hbm, 183, rfl⟩
abbrev main_v61 : Ref sig .tc := ⟨.hbm, 184, rfl⟩
abbrev main_v62 : Ref sig .tc := ⟨.hbm, 185, rfl⟩
abbrev main_v63 : Ref sig .tc := ⟨.hbm, 186, rfl⟩
abbrev main_v64 : Ref sig .tc := ⟨.hbm, 187, rfl⟩

abbrev nD : Nat := 1
abbrev τ : Topo := Topo.v7x

variable {F : FTy → Type} [FloatOps F]
-- ==== PoolGate.lean ====
abbrev S4096x1024 : Shape := ⟨2, ![4096, 1024]⟩
abbrev S2048x1024 : Shape := ⟨2, ![2048, 1024]⟩
abbrev S4096x4096 : Shape := ⟨2, ![4096, 4096]⟩
abbrev S4096x2048 : Shape := ⟨2, ![4096, 2048]⟩
abbrev S1x2048 : Shape := ⟨2, ![1, 2048]⟩
abbrev S1024x1024 : Shape := ⟨2, ![1024, 1024]⟩
abbrev S1x1024 : Shape := ⟨2, ![1, 1024]⟩
abbrev S256x1024 : Shape := ⟨2, ![256, 1024]⟩
abbrev S1024 : Shape := ⟨1, ![1024]⟩

abbrev nBuf : Space → Nat
  | .hbm => 9
  | .vmem => 15
  | .smem => 0
  | _ => 0

abbrev bufTy : (tb : Table) → Fin (tcTables nBuf tb) → BufTy
  | .hbm, ⟨0, _⟩ => ⟨S4096x1024, .bf16⟩
  | .hbm, ⟨1, _⟩ => ⟨S2048x1024, .f32⟩
  | .hbm, ⟨2, _⟩ => ⟨S4096x4096, .bf16⟩
  | .hbm, ⟨3, _⟩ => ⟨S4096x2048, .bf16⟩
  | .hbm, ⟨4, _⟩ => ⟨S1x2048, .f32⟩
  | .hbm, ⟨5, _⟩ => ⟨S2048x1024, .bf16⟩
  | .hbm, ⟨6, _⟩ => ⟨S4096x2048, .bf16⟩
  | .hbm, ⟨7, _⟩ => ⟨S4096x4096, .bf16⟩
  | .hbm, ⟨8, _⟩ => ⟨S1x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1x1024, .f32⟩
  | .local _ .vmem, ⟨9, _⟩ => ⟨S1x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1x2048, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14

abbrev nD : Nat := 1
abbrev τ : Topo := Topo.v7x

variable {F : FTy → Type} [FloatOps F]

abbrev grid0 : Pipeline.Grid := ⟨2, ![4, 2], ![false, false]⟩

def k0_mult1 (i : grid0.Coords) : BitVec 32 :=
  let arg1 : BitVec 32 := BitVec.ofNat 32 (i 1).val
  let c1024_i32 : BitVec 32 := 1024#32
  let v5 : BitVec 32 := Scalar.muli arg1 c1024_i32
  v5
def k0_off1 (i : grid0.Coords) : Fin 2 → Nat :=
  let c0_3 : Index := 0#32
  let arg1 : BitVec 32 := BitVec.ofNat 32 (i 1).val
  let c1024_i32 : BitVec 32 := 1024#32
  let v5 : BitVec 32 := Scalar.muli arg1 c1024_i32
  let v6 : BitVec 32 := v5
  let v8 : Index := Scalar.indexCast v6
  ![0, v8.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== PoolGateRefIdeal.lean ====
abbrev S4096x1024 : Shape := ⟨2, ![4096, 1024]⟩
abbrev S2048x1024 : Shape := ⟨2, ![2048, 1024]⟩
abbrev S4096x4096 : Shape := ⟨2, ![4096, 4096]⟩
abbrev S4096x2048 : Shape := ⟨2, ![4096, 2048]⟩
abbrev S1x2048 : Shape := ⟨2, ![1, 2048]⟩
abbrev S_ : Shape := ⟨0, ![]⟩
abbrev S2048 : Shape := ⟨1, ![2048]⟩

abbrev nBuf : Space → Nat
  | .hbm => 43
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2048x1024, .f32⟩
  | .hbm, ⟨2, _⟩ => ⟨S4096x4096, .bf16⟩
  | .hbm, ⟨3, _⟩ => ⟨S4096x2048, .bf16⟩
  | .hbm, ⟨4, _⟩ => ⟨S1x2048, .f32⟩
  | .hbm, ⟨5, _⟩ => ⟨S4096x2048, .f32⟩
  | .hbm, ⟨6, _⟩ => ⟨S4096x4096, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x1024, .f32⟩
  | .hbm, ⟨25, _⟩ => ⟨S4096x1024, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S_, .f32⟩
  | .hbm, ⟨35, _⟩ => ⟨S2048, .f32⟩
  | .hbm, ⟨36, _⟩ => ⟨S1x2048, .f32⟩
  | .hbm, ⟨37, _⟩ => ⟨S4096x2048, .f32⟩
  | .hbm, ⟨38, _⟩ => ⟨S4096x2048, .f32⟩
  | .hbm, ⟨39, _⟩ => ⟨S_, .f32⟩
  | .hbm, ⟨40, _⟩ => ⟨S4096x4096, .f32⟩
  | .hbm, ⟨41, _⟩ => ⟨S4096x2048, .bf16⟩
  | .hbm, ⟨42, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_v5_2 : Ref sig .tc := ⟨.hbm, 17, rfl⟩
abbrev main_call0_cst_1 : Ref sig .tc := ⟨.hbm, 18, rfl⟩
abbrev main_call0_v6 : Ref sig .tc := ⟨.hbm, 19, rfl⟩
abbrev main_call0_v7 : Ref sig .tc := ⟨.hbm, 20, rfl⟩
abbrev main_v5_1 : Ref sig .tc := ⟨.hbm, 21, rfl⟩
abbrev main_v5_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v12 : Ref sig .tc := ⟨.hbm, 32, rfl⟩
abbrev main_v13 : Ref sig .tc := ⟨.hbm, 33, rfl⟩
abbrev main_cst : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_0 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩

abbrev nD : Nat := 1
abbrev τ : Topo := Topo.v7x

variable {F : FTy → Type} [FloatOps F]
-- ==== LossHead.lean ====
abbrev S4096x2048 : Shape := ⟨2, ![4096, 2048]⟩
abbrev S2048x1024 : Shape := ⟨2, ![2048, 1024]⟩
abbrev S4096x1024 : Shape := ⟨2, ![4096, 1024]⟩
abbrev S1x1024 : Shape := ⟨2, ![1, 1024]⟩
abbrev S1x128 : Shape := ⟨2, ![1, 128]⟩
abbrev S512x2048 : Shape := ⟨2, ![512, 2048]⟩
abbrev S512x1024 : Shape := ⟨2, ![512, 1024]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩
abbrev S1024 : Shape := ⟨1, ![1024]⟩

abbrev nBuf : Space → Nat
  | .hbm => 10
  | .vmem => 14
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S2048x1024, .bf16⟩
  | .hbm, ⟨6, _⟩ => ⟨S4096x1024, .f32⟩
  | .hbm, ⟨7, _⟩ => ⟨S1x1024, .f32⟩
  | .hbm, ⟨8, _⟩ => ⟨S1x128, .f32⟩
  | .hbm, ⟨9, _⟩ => ⟨S4096x1024, .bf16⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x128, .f32⟩
  | .local _ .vmem, ⟨12, _⟩ => ⟨S512x1024, .bf16⟩
  | .local _ .vmem, ⟨13, _⟩ => ⟨S512x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== LossHeadRefIdeal.lean ====
abbrev S4096x2048 : Shape := ⟨2, ![4096, 2048]⟩
abbrev S2048x1024 : Shape := ⟨2, ![2048, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S1x128 : Shape := ⟨2, ![1, 128]⟩

abbrev nBuf : Space → Nat
  | .hbm => 75
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x2048, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096, .f32⟩
  | .hbm, ⟨34, _⟩ => ⟨S_, .f32⟩
  | .hbm, ⟨35, _⟩ => ⟨S4096, .f32⟩
  | .hbm, ⟨36, _⟩ => ⟨S4096, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S4096, .f32⟩
  | .hbm, ⟨45, _⟩ => ⟨S_, .f32⟩
  | .hbm, ⟨46, _⟩ => ⟨S4096, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S4096, .f32⟩
  | .hbm, ⟨59, _⟩ => ⟨S4096x1, .f32⟩
  | .hbm, ⟨60, _⟩ => ⟨S4096x1024, .f32⟩
  | .hbm, ⟨61, _⟩ => ⟨S4096x1024, .f32⟩
  | .hbm, ⟨62, _⟩ => ⟨S4096x1, .f32⟩
  | .hbm, ⟨63, _⟩ => ⟨S_, .f32⟩
  | .hbm, ⟨64, _⟩ => ⟨S4096x1, .f32⟩
  | .hbm, ⟨65, _⟩ => ⟨S4096x1, .f32⟩
  | .hbm, ⟨66, _⟩ => ⟨S_, .f32⟩
  | .hbm, ⟨67, _⟩ => ⟨S4096, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S1x128, .f32⟩
  | .hbm, ⟨74, _⟩ => ⟨S4096x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_cst_8 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩
abbrev main_cst_10 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_11 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_12 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_13 : Ref sig .tc := ⟨.hbm, 63, rfl⟩
abbrev main_v44 : Ref sig .tc := ⟨.hbm, 64, rfl⟩
abbrev main_v45 : Ref sig .tc := ⟨.hbm, 65, rfl⟩
abbrev main_cst_14 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩

abbrev nD : Nat := 1
abbrev τ : Topo := Topo.v7x

variable {F : FTy → Type} [FloatOps F]
-- ==== PoolGrad.lean ====
abbrev S4096x2048 : Shape := ⟨2, ![4096, 2048]⟩
abbrev S4x512x512 : Shape := ⟨3, ![4, 512, 512]⟩
abbrev S4096x4096 : Shape := ⟨2, ![4096, 4096]⟩
abbrev S1x1 : Shape := ⟨2, ![1, 1]⟩
abbrev S4x4x128x512 : Shape := ⟨4, ![4, 4, 128, 512]⟩
abbrev S2048x512 : Shape := ⟨2, ![2048, 512]⟩
abbrev S16x512 : Shape := ⟨2, ![16, 512]⟩
abbrev S4x128x512 : Shape := ⟨3, ![4, 128, 512]⟩
abbrev S2064x512 : Shape := ⟨2, ![2064, 512]⟩
abbrev S512x512 : Shape := ⟨2, ![512, 512]⟩
abbrev S2064x1 : Shape := ⟨2, ![2064, 1]⟩

abbrev nBuf : Space → Nat
  | .hbm => 9
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S4x512x512, .f32⟩
  | .hbm, ⟨2, _⟩ => ⟨S4096x4096, .bf16⟩
  | .hbm, ⟨3, _⟩ => ⟨S1x1, .f32⟩
  | .hbm, ⟨4, _⟩ => ⟨S4x4x128x512, .f32⟩
  | .hbm, ⟨5, _⟩ => ⟨S4x4x128x512, .f32⟩
  | .hbm, ⟨6, _⟩ => ⟨S4x512x512, .f32⟩
  | .hbm, ⟨7, _⟩ => ⟨S4x512x512, .bf16⟩
  | .hbm, ⟨8, _⟩ => ⟨S4096x4096, .bf16⟩
  | .local _ .vmem, ⟨0, _⟩ => ⟨S2048x512, .bf16⟩
  | .local _ .vmem, ⟨1, _⟩ => ⟨S2048x512, .bf16⟩
  | .local _ .vmem, ⟨2, _⟩ => ⟨S16x512, .bf16⟩
  | .local _ .vmem, ⟨3, _⟩ => ⟨S16x512, .bf16⟩
  | .local _ .vmem, ⟨4, _⟩ => ⟨S4x128x512, .bf16⟩
  | .local _ .vmem, ⟨5, _⟩ => ⟨S4x128x512, .bf16⟩
  | .local _ .vmem, ⟨6, _⟩ => ⟨S2048x512, .bf16⟩
  | .local _ .vmem, ⟨7, _⟩ => ⟨S2048x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c128_i32 : BitVec 32 := 128#32
  let v1 : BitVec 32 := Scalar.muli v0 c128_i32
  let c255_i32 : BitVec 32 := 255#32
  let v2 : BitVec 32 := Scalar.minsi v1 c255_i32
  let c0_i32 : BitVec 32 := 0#32
  ![v2.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== PoolGradRefIdeal.lean ====
abbrev S4096x2048 : Shape := ⟨2, ![4096, 2048]⟩
abbrev S4x512x512 : Shape := ⟨3, ![4, 512, 512]⟩
abbrev S4096x4096 : Shape := ⟨2, ![4096, 4096]⟩
abbrev S1x1 : Shape := ⟨2, ![1, 1]⟩
abbrev S2x2048x2048 : Shape := ⟨3, ![2, 2048, 2048]⟩
abbrev S_ : Shape := ⟨0, ![]⟩
abbrev S2x2048x4x512 : Shape := ⟨4, ![2, 2048, 4, 512]⟩
abbrev S2x2048x1x512 : Shape := ⟨4, ![2, 2048, 1, 512]⟩
abbrev S2x2048x512 : Shape := ⟨3, ![2, 2048, 512]⟩
abbrev S2x2x512 : Shape := ⟨3, ![2, 2, 512]⟩
abbrev S2x2046x512 : Shape := ⟨3, ![2, 2046, 512]⟩
abbrev S2048 : Shape := ⟨1, ![2048]⟩
abbrev S1x2048x1 : Shape := ⟨3, ![1, 2048, 1]⟩
abbrev S2x4x512 : Shape := ⟨3, ![2, 4, 512]⟩
abbrev S2x2044x512 : Shape := ⟨3, ![2, 2044, 512]⟩
abbrev S2x8x512 : Shape := ⟨3, ![2, 8, 512]⟩
abbrev S2x2040x512 : Shape := ⟨3, ![2, 2040, 512]⟩
abbrev S2x16x512 : Shape := ⟨3, ![2, 16, 512]⟩
abbrev S2x2032x512 : Shape := ⟨3, ![2, 2032, 512]⟩
abbrev S4x512x2x2048 : Shape := ⟨4, ![4, 512, 2, 2048]⟩
abbrev S4x2x2048x512 : Shape := ⟨4, ![4, 2, 2048, 512]⟩

abbrev nBuf : Space → Nat
  | .hbm => 201
  | .vmem => 0
  | .smem => 0
  | _ => 0

abbrev hbmTy0_0 (i : Nat) : BufTy := match i % 128 with
  | 0 => ⟨S4096x2048, .bf16⟩
  | 1 => ⟨S4x512x512, .f32⟩
  | 2 => ⟨S4096x4096, .bf16⟩
  | 3 => ⟨S1x1, .f32⟩
  | 4 => ⟨S4096x2048, .f32⟩
  | 5 => ⟨S2x2048x2048, .f32⟩
  | 6 => ⟨S_, .f32⟩
  | 7 => ⟨S2x2048x2048, .f32⟩
  | 8 => ⟨S2x2048x4x512, .f32⟩
  | 9 => ⟨S2x2048x1x512, .f32⟩
  | 10 => ⟨S2x2048x512, .f32⟩
  | 11 => ⟨S_, .f32⟩
  | 12 => ⟨S_, .f32⟩
  | 13 => ⟨S2x2048x512, .f32⟩
  | 14 => ⟨S2x2x512, .f32⟩
  | 15 => ⟨S_, .f32⟩
  | 16 => ⟨S2x2x512, .f32⟩
  | 17 => ⟨S2x2046x512, .f32⟩
  | 18 => ⟨S2x2048x512, .f32⟩
  | 19 => ⟨S_, .f32⟩
  | 20 => ⟨S2x2x512, .f32⟩
  | 21 => ⟨S2048, .i32⟩
  | 22 => ⟨S_, .i32⟩
  | 23 => ⟨S2048, .i32⟩
  | 24 => ⟨S2048, .i32⟩
  | 25 => ⟨S_, .i32⟩
  | 26 => ⟨S2048, .i32⟩
  | 27 => ⟨S2048, .i32⟩
  | 28 => ⟨S2048, .f32⟩
  | 29 => ⟨S2x2048x512, .f32⟩
  | 30 => ⟨S1x2048x1, .f32⟩
  | 31 => ⟨S2x2048x512, .f32⟩
  | 32 => ⟨S2x2048x512, .f32⟩
  | 33 => ⟨S2x2048x512, .f32⟩
  | 34 => ⟨S2x2048x1x512, .f32⟩
  | 35 => ⟨S2x2048x512, .f32⟩
  | 36 => ⟨S_, .f32⟩
  | 37 => ⟨S_, .f32⟩
  | 38 => ⟨S2x2048x512, .f32⟩
  | 39 => ⟨S2x4x512, .f32⟩
  | 40 => ⟨S_, .f32⟩
  | 41 => ⟨S2x4x512, .f32⟩
  | 42 => ⟨S2x2044x512, .f32⟩
  | 43 => ⟨S2x2048x512, .f32⟩
  | 44 => ⟨S_, .f32⟩
  | 45 => ⟨S2x4x512, .f32⟩
  | 46 => ⟨S2048, .i32⟩
  | 47 => ⟨S_, .i32⟩
  | 48 => ⟨S2048, .i32⟩
  | 49 => ⟨S2048, .i32⟩
  | 50 => ⟨S_, .i32⟩
  | 51 => ⟨S2048, .i32⟩
  | 52 => ⟨S2048, .i32⟩
  | 53 => ⟨S2048, .f32⟩
  | 54 => ⟨S2x2048x512, .f32⟩
  | 55 => ⟨S1x2048x1, .f32⟩
  | 56 => ⟨S2x2048x512, .f32⟩
  | 57 => ⟨S2x2048x512, .f32⟩
  | 58 => ⟨S2x2048x512, .f32⟩
  | 59 => ⟨S2x2048x1x512, .f32⟩
  | 60 => ⟨S2x2048x512, .f32⟩
  | 61 => ⟨S_, .f32⟩
  | 62 => ⟨S_, .f32⟩
  | 63 => ⟨S2x2048x512, .f32⟩
  | 64 => ⟨S2x8x512, .f32⟩
  | 65 => ⟨S_, .f32⟩
  | 66 => ⟨S2x8x512, .f32⟩
  | 67 => ⟨S2x2040x512, .f32⟩
  | 68 => ⟨S2x2048x512, .f32⟩
  | 69 => ⟨S_, .f32⟩
  | 70 => ⟨S2x8x512, .f32⟩
  | 71 => ⟨S2048, .i32⟩
  | 72 => ⟨S_, .i32⟩
  | 73 => ⟨S2048, .i32⟩
  | 74 => ⟨S2048, .i32⟩
  | 75 => ⟨S_, .i32⟩
  | 76 => ⟨S2048, .i32⟩
  | 77 => ⟨S2048, .i32⟩
  | 78 => ⟨S2048, .f32⟩
  | 79 => ⟨S2x2048x512, .f32⟩
  | 80 => ⟨S1x2048x1, .f32⟩
  | 81 => ⟨S2x2048x512, .f32⟩
  | 82 => ⟨S2x2048x512, .f32⟩
  | 83 => ⟨S2x2048x512, .f32⟩
  | 84 => ⟨S2x2048x1x512, .f32⟩
  | 85 => ⟨S2x2048x512, .f32⟩
  | 86 => ⟨S_, .f32⟩
  | 87 => ⟨S_, .f32⟩
  | 88 => ⟨S2x2048x512, .f32⟩
  | 89 => ⟨S2x16x512, .f32⟩
  | 90 => ⟨S_, .f32⟩
  | 91 => ⟨S2x16x512, .f32⟩
  | 92 => ⟨S2x2032x512, .f32⟩
  | 93 => ⟨S2x2048x512, .f32⟩
  | 94 => ⟨S_, .f32⟩
  | 95 => ⟨S2x16x512, .f32⟩
  | 96 => ⟨S2048, .i32⟩
  | 97 => ⟨S_, .i32⟩
  | 98 => ⟨S2048, .i32⟩
  | 99 => ⟨S2048, .i32⟩
  | 100 => ⟨S_, .i32⟩
  | 101 => ⟨S2048, .i32⟩
  | 102 => ⟨S2048, .i32⟩
  | 103 => ⟨S2048, .f32⟩
  | 104 => ⟨S2x2048x512, .f32⟩
  | 105 => ⟨S1x2048x1, .f32⟩
  | 106 => ⟨S2x2048x512, .f32⟩
  | 107 => ⟨S2x2048x512, .f32⟩
  | 108 => ⟨S2x2048x512, .f32⟩
  | 109 => ⟨S2x2048x1x512, .f32⟩
  | 110 => ⟨S2x2048x1x512, .f32⟩
  | 111 => ⟨S2x2048x1x512, .f32⟩
  | 112 => ⟨S2x2048x1x512, .f32⟩
  | 113 => ⟨S2x2048x4x512, .f32⟩
  | 114 => ⟨S4x512x2x2048, .f32⟩
  | 115 => ⟨S2x2048x4x512, .f32⟩
  | 116 => ⟨S2x2048x2048, .f32⟩
  | 117 => ⟨S2x2048x4x512, .f32⟩
  | 118 => ⟨S4x512x2x2048, .f32⟩
  | 119 => ⟨S4x2x2048x512, .f32⟩
  | 120 => ⟨S2x2048x4x512, .f32⟩
  | 121 => ⟨S2x2048x1x512, .f32⟩
  | 122 => ⟨S2x2048x512, .f32⟩
  | 123 => ⟨S2x2048x1x512, .f32⟩
  | 124 => ⟨S2x2048x512, .f32⟩
  | 125 => ⟨S2x2048x1x512, .f32⟩
  | 126 => ⟨S2x2048x512, .f32⟩
  | 127 => ⟨S2x2048x1x512, .f32⟩
  | _ => ⟨S4096x2048, .bf16⟩

abbrev hbmTy0_1 (i : Nat) : BufTy := match i % 128 with
  | 0 => ⟨S2x2048x512, .f32⟩
  | 1 => ⟨S2x2048x512, .f32⟩
  | 2 => ⟨S2x2048x512, .f32⟩
  | 3 => ⟨S2x2048x512, .f32⟩
  | 4 => ⟨S2x2048x512, .f32⟩
  | 5 => ⟨S2x16x512, .f32⟩
  | 6 => ⟨S2x2032x512, .f32⟩
  | 7 => ⟨S_, .f32⟩
  | 8 => ⟨S2x2048x512, .f32⟩
  | 9 => ⟨S2x2048x512, .f32⟩
  | 10 => ⟨S_, .f32⟩
  | 11 => ⟨S_, .f32⟩
  | 12 => ⟨S2x2048x512, .f32⟩
  | 13 => ⟨S2x2048x512, .f32⟩
  | 14 => ⟨S2x2048x1x512, .f32⟩
  | 15 => ⟨S_, .f32⟩
  | 16 => ⟨S2x2048x4x512, .f32⟩
  | 17 => ⟨S2x2048x512, .f32⟩
  | 18 => ⟨S2x2048x512, .f32⟩
  | 19 => ⟨S2x2048x512, .f32⟩
  | 20 => ⟨S2x2048x512, .f32⟩
  | 21 => ⟨S2x8x512, .f32⟩
  | 22 => ⟨S2x2040x512, .f32⟩
  | 23 => ⟨S_, .f32⟩
  | 24 => ⟨S2x2048x512, .f32⟩
  | 25 => ⟨S2x2048x512, .f32⟩
  | 26 => ⟨S_, .f32⟩
  | 27 => ⟨S_, .f32⟩
  | 28 => ⟨S2x2048x512, .f32⟩
  | 29 => ⟨S2x2048x512, .f32⟩
  | 30 => ⟨S2x2048x1x512, .f32⟩
  | 31 => ⟨S_, .f32⟩
  | 32 => ⟨S2x2048x4x512, .f32⟩
  | 33 => ⟨S2x2048x4x512, .f32⟩
  | 34 => ⟨S2x2048x512, .f32⟩
  | 35 => ⟨S2x2048x512, .f32⟩
  | 36 => ⟨S2x2048x512, .f32⟩
  | 37 => ⟨S2x2048x512, .f32⟩
  | 38 => ⟨S2x4x512, .f32⟩
  | 39 => ⟨S2x2044x512, .f32⟩
  | 40 => ⟨S_, .f32⟩
  | 41 => ⟨S2x2048x512, .f32⟩
  | 42 => ⟨S2x2048x512, .f32⟩
  | 43 => ⟨S_, .f32⟩
  | 44 => ⟨S_, .f32⟩
  | 45 => ⟨S2x2048x512, .f32⟩
  | 46 => ⟨S2x2048x512, .f32⟩
  | 47 => ⟨S2x2048x1x512, .f32⟩
  | 48 => ⟨S_, .f32⟩
  | 49 => ⟨S2x2048x4x512, .f32⟩
  | 50 => ⟨S2x2048x4x512, .f32⟩
  | 51 => ⟨S2x2048x512, .f32⟩
  | 52 => ⟨S2x2048x512, .f32⟩
  | 53 => ⟨S2x2048x512, .f32⟩
  | 54 => ⟨S2x2048x512, .f32⟩
  | 55 => ⟨S2x2x512, .f32⟩
  | 56 => ⟨S2x2046x512, .f32⟩
  | 57 => ⟨S_, .f32⟩
  | 58 => ⟨S2x2048x512, .f32⟩
  | 59 => ⟨S2x2048x512, .f32⟩
  | 60 => ⟨S_, .f32⟩
  | 61 => ⟨S_, .f32⟩
  | 62 => ⟨S2x2048x512, .f32⟩
  | 63 => ⟨S2x2048x512, .f32⟩
  | 64 => ⟨S2x2048x1x512, .f32⟩
  | 65 => ⟨S_, .f32⟩
  | 66 => ⟨S2x2048x4x512, .f32⟩
  | 67 => ⟨S2x2048x4x512, .f32⟩
  | 68 => ⟨S2x2048x2048, .f32⟩
  | 69 => ⟨S4096x2048, .f32⟩
  | 70 => ⟨S4096x2048, .bf16⟩
  | 71 => ⟨S4096x2048, .bf16⟩
  | 72 => ⟨S4096x4096, .bf16⟩
  | _ => ⟨S4096x2048, .bf16⟩

abbrev hbmTy (i : Nat) : BufTy := match i / 128 with
  | 0 => hbmTy0_0 i
  | 1 => hbmTy0_1 i
  | _ => ⟨S4096x2048, .bf16⟩

abbrev bufTy : (tb : Table) → Fin (tcTables nBuf tb) → BufTy
  | .hbm, ⟨i, _⟩ => hbmTy i
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_call0_cst : Ref sig .tc := ⟨.hbm, 11, rfl⟩
abbrev main_call0_call0_v0 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_c : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_call1_call0_cst : Ref sig .tc := ⟨.hbm, 36, rfl⟩
abbrev main_call1_call0_v0 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_c_5 : Ref sig .tc := ⟨.hbm, 47, rfl⟩
abbrev main_v32 : Ref sig .tc := ⟨.hbm, 48, rfl⟩
abbrev main_v33 : Ref sig .tc := ⟨.hbm, 49, rfl⟩
abbrev main_c_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_call2_call0_cst : Ref sig .tc := ⟨.hbm, 61, rfl⟩
abbrev main_call2_call0_v0 : Ref sig .tc := ⟨.hbm, 62, rfl⟩
abbrev main_v44 : Ref sig .tc := ⟨.hbm, 63, rfl⟩
abbrev main_v45 : Ref sig .tc := ⟨.hbm, 64, rfl⟩
abbrev main_cst_7 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_8 : Ref sig .tc := ⟨.hbm, 69, rfl⟩
abbrev main_v49 : Ref sig .tc := ⟨.hbm, 70, rfl⟩
abbrev main_v50 : Ref sig .tc := ⟨.hbm, 71, rfl⟩
abbrev main_c_9 : Ref sig .tc := ⟨.hbm, 72, rfl⟩
abbrev main_v51 : Ref sig .tc := ⟨.hbm, 73, rfl⟩
abbrev main_v52 : Ref sig .tc := ⟨.hbm, 74, rfl⟩
abbrev main_c_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_call3_call0_cst : Ref sig .tc := ⟨.hbm, 86, rfl⟩
abbrev main_call3_call0_v0 : Ref sig .tc := ⟨.hbm, 87, rfl⟩
abbrev main_v63 : Ref sig .tc := ⟨.hbm, 88, rfl⟩
abbrev main_v64 : Ref sig .tc := ⟨.hbm, 89, rfl⟩
abbrev main_cst_11 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_12 : Ref sig .tc := ⟨.hbm, 94, rfl⟩
abbrev main_v68 : Ref sig .tc := ⟨.hbm, 95, rfl⟩
abbrev main_v69 : Ref sig .tc := ⟨.hbm, 96, rfl⟩
abbrev main_c_13 : Ref sig .tc := ⟨.hbm, 97, rfl⟩
abbrev main_v70 : Ref sig .tc := ⟨.hbm, 98, rfl⟩
abbrev main_v71 : Ref sig .tc := ⟨.hbm, 99, rfl⟩
abbrev main_c_14 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_cst_15 : Ref sig .tc := ⟨.hbm, 135, rfl⟩
abbrev main_v106 : Ref sig .tc := ⟨.hbm, 136, rfl⟩
abbrev main_v107 : Ref sig .tc := ⟨.hbm, 137, rfl⟩
abbrev main_call4_call0_cst : Ref sig .tc := ⟨.hbm, 138, rfl⟩
abbrev main_call4_call0_v0 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_cst_16 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_cst_17 : Ref sig .tc := ⟨.hbm, 151, rfl⟩
abbrev main_v118 : Ref sig .tc := ⟨.hbm, 152, rfl⟩
abbrev main_v119 : Ref sig .tc := ⟨.hbm, 153, rfl⟩
abbrev main_call5_call0_cst : Ref sig .tc := ⟨.hbm, 154, rfl⟩
abbrev main_call5_call0_v0 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_cst_18 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_cst_19 : Ref sig .tc := ⟨.hbm, 168, rfl⟩
abbrev main_v131 : Ref sig .tc := ⟨.hbm, 169, rfl⟩
abbrev main_v132 : Ref sig .tc := ⟨.hbm, 170, rfl⟩
abbrev main_call6_call0_cst : Ref sig .tc := ⟨.hbm, 171, rfl⟩
abbrev main_call6_call0_v0 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_cst_20 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_cst_21 : Ref sig .tc := ⟨.hbm, 185, rfl⟩
abbrev main_v144 : Ref sig .tc := ⟨.hbm, 186, rfl⟩
abbrev main_v145 : Ref sig .tc := ⟨.hbm, 187, rfl⟩
abbrev main_call7_call0_cst : Ref sig .tc := ⟨.hbm, 188, rfl⟩
abbrev main_call7_call0_v0 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_cst_22 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩

abbrev nD : Nat := 1
abbrev τ : Topo := Topo.v7x

variable {F : FTy → Type} [FloatOps F]
-- ==== NormGrad.lean ====
abbrev S4096x6144 : Shape := ⟨2, ![4096, 6144]⟩
abbrev S1024x6144 : Shape := ⟨2, ![1024, 6144]⟩
abbrev S4096x1024 : Shape := ⟨2, ![4096, 1024]⟩
abbrev S1x1024 : Shape := ⟨2, ![1, 1024]⟩
abbrev S1024x4x1536 : Shape := ⟨3, ![1024, 4, 1536]⟩
abbrev S4x1024x1536 : Shape := ⟨3, ![4, 1024, 1536]⟩
abbrev S512x1536 : Shape := ⟨2, ![512, 1536]⟩
abbrev S1x1024x1536 : Shape := ⟨3, ![1, 1024, 1536]⟩
abbrev S512x1024 : Shape := ⟨2, ![512, 1024]⟩
abbrev S1024x1536 : Shape := ⟨2, ![1024, 1536]⟩
abbrev S512 : Shape := ⟨1, ![512]⟩
abbrev S512x1 : Shape := ⟨2, ![512, 1]⟩
abbrev S1024 : Shape := ⟨1, ![1024]⟩

abbrev nBuf : Space → Nat
  | .hbm => 11
  | .vmem => 15
  | .smem => 0
  | _ => 0

abbrev bufTy : (tb : Table) → Fin (tcTables nBuf tb) → BufTy
  | .hbm, ⟨0, _⟩ => ⟨S4096x6144, .bf16⟩
  | .hbm, ⟨1, _⟩ => ⟨S1024x6144, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024x4x1536, .f32⟩
  | .hbm, ⟨6, _⟩ => ⟨S4x1024x1536, .f32⟩
  | .hbm, ⟨7, _⟩ => ⟨S4x1024x1536, .bf16⟩
  | .hbm, ⟨8, _⟩ => ⟨S4096x1024, .f32⟩
  | .hbm, ⟨9, _⟩ => ⟨S1x1024, .f32⟩
  | .hbm, ⟨10, _⟩ => ⟨S4096x1024, .bf16⟩
  | .local _ .vmem, ⟨0, _⟩ => ⟨S512x1536, .bf16⟩
  | .local _ .vmem, ⟨1, _⟩ => ⟨S512x1536, .bf16⟩
  | .local _ .vmem, ⟨2, _⟩ => ⟨S1x1024x1536, .bf16⟩
  | .local _ .vmem, ⟨3, _⟩ => ⟨S1x1024x1536, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .bf16⟩
  | .local _ .vmem, ⟨13, _⟩ => ⟨S512x1024, .bf16⟩
  | .local _ .vmem, ⟨14, _⟩ => ⟨S4096x1024, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

def k0_off1 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v25 : Index := Scalar.indexCast v1
  let c0_12 : Index := 0#32
  ![v25.toNat, 0]
def k0_off2 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v10 : Index := Scalar.indexCast v1
  let c0 : Index := 0#32
  ![v10.toNat, 0]
def k0_cond3 (i : grid0.Coords) : BitVec 1 :=
  let arg0 : BitVec 32 := BitVec.ofNat 32 (i 0).val
  let c3_i32 : BitVec 32 := 3#32
  let v21 : BitVec 1 := Scalar.cmpi .eq arg0 c3_i32
  let v22 : BitVec 32 := Scalar.extui v21
  let c0_i32_10 : BitVec 32 := 0#32
  let v23 : BitVec 1 := Scalar.cmpi .ne v22 c0_i32_10
  v23

def k0_off3 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v24 : Index := Scalar.indexCast v1
  let c0_11 : Index := 0#32
  ![v24.toNat, 0]
def k0_cond2 (i : grid0.Coords) : BitVec 1 :=
  let arg0 : BitVec 32 := BitVec.ofNat 32 (i 0).val
  let c0_i32_1 : BitVec 32 := 0#32
  let v5 : BitVec 1 := Scalar.cmpi .eq arg0 c0_i32_1
  let arg1 : BitVec 32 := BitVec.ofNat 32 (i 1).val
  let c0_i32_2 : BitVec 32 := 0#32
  let v6 : BitVec 1 := Scalar.cmpi .eq arg1 c0_i32_2
  let v7 : BitVec 1 := Scalar.andi v5 v6
  let v8 : BitVec 32 := Scalar.extui v7
  let c0_i32_3 : BitVec 32 := 0#32
  let v9 : BitVec 1 := Scalar.cmpi .ne v8 c0_i32_3
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== NormGradRefIdeal.lean ====
abbrev S4096x6144 : Shape := ⟨2, ![4096, 6144]⟩
abbrev S1024x6144 : Shape := ⟨2, ![1024, 6144]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S1024x6144, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x6144, .f32⟩
  | .hbm, ⟨25, _⟩ => ⟨S4096x6144, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .bf16⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== SbForward.lean ====
abbrev S4096x6144 : Shape := ⟨2, ![4096, 6144]⟩
abbrev S4096x2048 : Shape := ⟨2, ![4096, 2048]⟩
abbrev S4x4096x4 : Shape := ⟨3, ![4, 4096, 4]⟩
abbrev S2048x256 : Shape := ⟨2, ![2048, 256]⟩
abbrev S2048x512 : Shape := ⟨2, ![2048, 512]⟩
abbrev S1x2048x4 : Shape := ⟨3, ![1, 2048, 4]⟩
abbrev S256x256 : Shape := ⟨2, ![256, 256]⟩
abbrev S1x128 : Shape := ⟨2, ![1, 128]⟩
abbrev S256x128 : Shape := ⟨2, ![256, 128]⟩
abbrev S256x1 : Shape := ⟨2, ![256, 1]⟩
abbrev S256 : Shape := ⟨1, ![256]⟩
abbrev S1x256x1 : Shape := ⟨3, ![1, 256, 1]⟩

abbrev nBuf : Space → Nat
  | .hbm => 4
  | .vmem => 14
  | .smem => 0
  | _ => 0

abbrev bufTy : (tb : Table) → Fin (tcTables nBuf tb) → BufTy
  | .hbm, ⟨0, _⟩ => ⟨S4096x6144, .bf16⟩
  | .hbm, ⟨1, _⟩ => ⟨S4096x2048, .bf16⟩
  | .hbm, ⟨2, _⟩ => ⟨S4096x2048, .bf16⟩
  | .hbm, ⟨3, _⟩ => ⟨S4x4096x4, .f32⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S1x2048x4, .f32⟩
  | .local _ .vmem, ⟨13, _⟩ => ⟨S1x2048x4, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 4], ![false, false]⟩

@[reducible] def k0_t1_loop : Scf.Loop 32 :=
  let c0_i32 : BitVec 32 := 0#32
  let c8_i32 : BitVec 32 := 8#32
  let v7 : BitVec 32 := Scalar.addi c0_i32 c8_i32
  let c1_i32 : BitVec 32 := 1#32
  ⟨c0_i32, v7, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32 : BitVec 32 := 256#32
  let v8 : BitVec 32 := Scalar.muli arg9 c256_i32
  v8
def k0_off1 (k0_t1 : Fin k0_t1_loop.trips) : Fin 2 → Nat :=
  let c0_i32 : BitVec 32 := 0#32
  let c1_i32 : BitVec 32 := 1#32
  let arg9 : BitVec 32 := Scf.iv c0_i32 c1_i32 k0_t1
  let c256_i32 : BitVec 32 := 256#32
  let v8 : BitVec 32 := Scalar.muli arg9 c256_i32
  let v9 : BitVec 32 := v8
  let v10 : Index := Scalar.indexCast v9
  let c0 : Index := 0#32
  ![v10.toNat, 0]
def k0_mult2 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_41 : BitVec 32 := 256#32
  let v147 : BitVec 32 := Scalar.muli arg9 c256_i32_41
  v147
def k0_off2 (k0_t1 : Fin k0_t1_loop.trips) : Fin 2 → Nat :=
  let c0_i32 : BitVec 32 := 0#32
  let c1_i32 : BitVec 32 := 1#32
  let arg9 : BitVec 32 := Scf.iv c0_i32 c1_i32 k0_t1
  let c256_i32_41 : BitVec 32 := 256#32
  let v147 : BitVec 32 := Scalar.muli arg9 c256_i32_41
  let v148 : BitVec 32 := v147
  let v149 : Index := Scalar.indexCast v148
  let c0_42 : Index := 0#32
  ![v149.toNat, 0]
def k0_off3 (k0_t1 : Fin k0_t1_loop.trips) : Fin 2 → Nat :=
  let c0_i32 : BitVec 32 := 0#32
  let c1_i32 : BitVec 32 := 1#32
  let arg9 : BitVec 32 := Scf.iv c0_i32 c1_i32 k0_t1
  let c256_i32_41 : BitVec 32 := 256#32
  let v147 : BitVec 32 := Scalar.muli arg9 c256_i32_41
  let v148 : BitVec 32 := v147
  let v151 : Index := Scalar.indexCast v148
  let c128 : Index := 128#32
  ![v151.toNat, 128]
def k0_off4 (k0_t1 : Fin k0_t1_loop.trips) : Fin 2 → Nat :=
  let c0_i32 : BitVec 32 := 0#32
  let c1_i32 : BitVec 32 := 1#32
  let arg9 : BitVec 32 := Scf.iv c0_i32 c1_i32 k0_t1
  let c256_i32_41 : BitVec 32 := 256#32
  let v147 : BitVec 32 := Scalar.muli arg9 c256_i32_41
  let v148 : BitVec 32 := v147
  let v261 : Index := Scalar.indexCast v148
  let c0_75 : Index := 0#32
  ![v261.toNat, 0]
def k0_off5 (k0_t1 : Fin k0_t1_loop.trips) : Fin 2 → Nat :=
  let c0_i32 : BitVec 32 := 0#32
  let c1_i32 : BitVec 32 := 1#32
  let arg9 : BitVec 32 := Scf.iv c0_i32 c1_i32 k0_t1
  let c256_i32_41 : BitVec 32 := 256#32
  let v147 : BitVec 32 := Scalar.muli arg9 c256_i32_41
  let v148 : BitVec 32 := v147
  let v269 : Index := Scalar.indexCast v148
  let c128_78 : Index := 128#32
  ![v269.toNat, 128]
def k0_off6 (k0_t1 : Fin k0_t1_loop.trips) : Fin 2 → Nat :=
  let c0_i32 : BitVec 32 := 0#32
  let c1_i32 : BitVec 32 := 1#32
  let arg9 : BitVec 32 := Scf.iv c0_i32 c1_i32 k0_t1
  let c256_i32_41 : BitVec 32 := 256#32
  let v147 : BitVec 32 := Scalar.muli arg9 c256_i32_41
  let v148 : BitVec 32 := v147
  let v277 : Index := Scalar.indexCast v148
  let c256 : Index := 256#32
  ![v277.toNat, 256]
def k0_off7 (k0_t1 : Fin k0_t1_loop.trips) : Fin 2 → Nat :=
  let c0_i32 : BitVec 32 := 0#32
  let c1_i32 : BitVec 32 := 1#32
  let arg9 : BitVec 32 := Scf.iv c0_i32 c1_i32 k0_t1
  let c256_i32_41 : BitVec 32 := 256#32
  let v147 : BitVec 32 := Scalar.muli arg9 c256_i32_41
  let v148 : BitVec 32 := v147
  let v285 : Index := Scalar.indexCast v148
  let c384 : Index := 384#32
  ![v285.toNat, 384]
@[reducible] def k0_t2_loop (k0_t1 : Fin k0_t1_loop.trips) : Scf.Loop 32 :=
  let c0_i32_85 : BitVec 32 := 0#32
  let c0_i32 : BitVec 32 := 0#32
  let c1_i32 : BitVec 32 := 1#32
  let arg9 : BitVec 32 := Scf.iv c0_i32 c1_i32 k0_t1
  let v293 : BitVec 32 := Scalar.subi arg9 c0_i32_85
  let c1_i32_86 : BitVec 32 := 1#32
  let v295 : BitVec 32 := Scalar.divsi v293 c1_i32_86
  let v296 : BitVec 32 := Scalar.muli v295 c1_i32_86
  let v297 : BitVec 32 := Scalar.addi c0_i32_85 v296
  let c1_i32_87 : BitVec 32 := 1#32
  ⟨c0_i32_85, v297, c1_i32_87⟩
def k0_mult3 (k0_t1 : Fin k0_t1_loop.trips) (k0_t2 : Fin (k0_t2_loop k0_t1).trips) : BitVec 32 :=
  let c0_i32 : BitVec 32 := 0#32
  let c1_i32 : BitVec 32 := 1#32
  let arg9 : BitVec 32 := Scf.iv c0_i32 c1_i32 k0_t1
  let c1_i32_118 : BitVec 32 := 1#32
  let v388 : BitVec 32 := Scalar.subi arg9 c1_i32_118
  let c0_i32_85 : BitVec 32 := 0#32
  let c1_i32_87 : BitVec 32 := 1#32
  let arg10 : BitVec 32 := Scf.iv c0_i32_85 c1_i32_87 k0_t2
  let v389 : BitVec 32 := Scalar.subi v388 arg10
  let c256_i32_119 : BitVec 32 := 256#32
  let v390 : BitVec 32 := Scalar.muli v389 c256_i32_119
  v390
def k0_off8 (k0_t1 : Fin k0_t1_loop.trips) (k0_t2 : Fin (k0_t2_loop k0_t1).trips) : Fin 2 → Nat :=
  let c0_i32 : BitVec 32 := 0#32
  let c1_i32 : BitVec 32 := 1#32
  let arg9 : BitVec 32 := Scf.iv c0_i32 c1_i32 k0_t1
  let c1_i32_118 : BitVec 32 := 1#32
  let v388 : BitVec 32 := Scalar.subi arg9 c1_i32_118
  let c0_i32_85 : BitVec 32 := 0#32
  let c1_i32_87 : BitVec 32 := 1#32
  let arg10 : BitVec 32 := Scf.iv c0_i32_85 c1_i32_87 k0_t2
  let v389 : BitVec 32 := Scalar.subi v388 arg10
  let c256_i32_119 : BitVec 32 := 256#32
  let v390 : BitVec 32 := Scalar.muli v389 c256_i32_119
  let v391 : BitVec 32 := v390
  let v392 : Index := Scalar.indexCast v391
  let c0_120 : Index := 0#32
  ![v392.toNat, 0]
def k0_off9 (k0_t1 : Fin k0_t1_loop.trips) (k0_t2 : Fin (k0_t2_loop k0_t1).trips) : Fin 2 → Nat :=
  let c0_i32 : BitVec 32 := 0#32
  let c1_i32 : BitVec 32 := 1#32
  let arg9 : BitVec 32 := Scf.iv c0_i32 c1_i32 k0_t1
  let c1_i32_118 : BitVec 32 := 1#32
  let v388 : BitVec 32 := Scalar.subi arg9 c1_i32_118
  let c0_i32_85 : BitVec 32 := 0#32
  let c1_i32_87 : BitVec 32 := 1#32
  let arg10 : BitVec 32 := Scf.iv c0_i32_85 c1_i32_87 k0_t2
  let v389 : BitVec 32 := Scalar.subi v388 arg10
  let c256_i32_119 : BitVec 32 := 256#32
  let v390 : BitVec 32 := Scalar.muli v389 c256_i32_119
  let v391 : BitVec 32 := v390
  let v394 : Index := Scalar.indexCast v391
  let c128_121 : Index := 128#32
  ![v394.toNat, 128]
def k0_off10 (k0_t1 : Fin k0_t1_loop.trips) (k0_t2 : Fin (k0_t2_loop k0_t1).trips) : Fin 2 → Nat :=
  let c0_i32 : BitVec 32 := 0#32
  let c1_i32 : BitVec 32 := 1#32
  let arg9 : BitVec 32 := Scf.iv c0_i32 c1_i32 k0_t1
  let c1_i32_118 : BitVec 32 := 1#32
  let v388 : BitVec 32 := Scalar.subi arg9 c1_i32_118
  let c0_i32_85 : BitVec 32 := 0#32
  let c1_i32_87 : BitVec 32 := 1#32
  let arg10 : BitVec 32 := Scf.iv c0_i32_85 c1_i32_87 k0_t2
  let v389 : BitVec 32 := Scalar.subi v388 arg10
  let c256_i32_119 : BitVec 32 := 256#32
  let v390 : BitVec 32 := Scalar.muli v389 c256_i32_119
  let v391 : BitVec 32 := v390
  let v488 : Index := Scalar.indexCast v391
  let c0_146 : Index := 0#32
  ![v488.toNat, 0]
def k0_off11 (k0_t1 : Fin k0_t1_loop.trips) (k0_t2 : Fin (k0_t2_loop k0_t1).trips) : Fin 2 → Nat :=
  let c0_i32 : BitVec 32 := 0#32
  let c1_i32 : BitVec 32 := 1#32
  let arg9 : BitVec 32 := Scf.iv c0_i32 c1_i32 k0_t1
  let c1_i32_118 : BitVec 32 := 1#32
  let v388 : BitVec 32 := Scalar.subi arg9 c1_i32_118
  let c0_i32_85 : BitVec 32 := 0#32
  let c1_i32_87 : BitVec 32 := 1#32
  let arg10 : BitVec 32 := Scf.iv c0_i32_85 c1_i32_87 k0_t2
  let v389 : BitVec 32 := Scalar.subi v388 arg10
  let c256_i32_119 : BitVec 32 := 256#32
  let v390 : BitVec 32 := Scalar.muli v389 c256_i32_119
  let v391 : BitVec 32 := v390
  let v496 : Index := Scalar.indexCast v391
  let c128_149 : Index := 128#32
  ![v496.toNat, 128]
def k0_off12 (k0_t1 : Fin k0_t1_loop.trips) (k0_t2 : Fin (k0_t2_loop k0_t1).trips) : Fin 2 → Nat :=
  let c0_i32 : BitVec 32 := 0#32
  let c1_i32 : BitVec 32 := 1#32
  let arg9 : BitVec 32 := Scf.iv c0_i32 c1_i32 k0_t1
  let c1_i32_118 : BitVec 32 := 1#32
  let v388 : BitVec 32 := Scalar.subi arg9 c1_i32_118
  let c0_i32_85 : BitVec 32 := 0#32
  let c1_i32_87 : BitVec 32 := 1#32
  let arg10 : BitVec 32 := Scf.iv c0_i32_85 c1_i32_87 k0_t2
  let v389 : BitVec 32 := Scalar.subi v388 arg10
  let c256_i32_119 : BitVec 32 := 256#32
  let v390 : BitVec 32 := Scalar.muli v389 c256_i32_119
  let v391 : BitVec 32 := v390
  let v504 : Index := Scalar.indexCast v391
  let c256_152 : Index := 256#32
  ![v504.toNat, 256]
def k0_off13 (k0_t1 : Fin k0_t1_loop.trips) (k0_t2 : Fin (k0_t2_loop k0_t1).trips) : Fin 2 → Nat :=
  let c0_i32 : BitVec 32 := 0#32
  let c1_i32 : BitVec 32 := 1#32
  let arg9 : BitVec 32 := Scf.iv c0_i32 c1_i32 k0_t1
  let c1_i32_118 : BitVec 32 := 1#32
  let v388 : BitVec 32 := Scalar.subi arg9 c1_i32_118
  let c0_i32_85 : BitVec 32 := 0#32
  let c1_i32_87 : BitVec 32 := 1#32
  let arg10 : BitVec 32 := Scf.iv c0_i32_85 c1_i32_87 k0_t2
  let v389 : BitVec 32 := Scalar.subi v388 arg10
  let c256_i32_119 : BitVec 32 := 256#32
  let v390 : BitVec 32 := Scalar.muli v389 c256_i32_119
  let v391 : BitVec 32 := v390
  let v512 : Index := Scalar.indexCast v391
  let c384_155 : Index := 384#32
  ![v512.toNat, 384]
@[reducible] def k0_t3_loop (k0_t1 : Fin k0_t1_loop.trips) : Scf.Loop 32 :=
  let c0_i32_85 : BitVec 32 := 0#32
  let c0_i32 : BitVec 32 := 0#32
  let c1_i32 : BitVec 32 := 1#32
  let arg9 : BitVec 32 := Scf.iv c0_i32 c1_i32 k0_t1
  let v293 : BitVec 32 := Scalar.subi arg9 c0_i32_85
  let c1_i32_86 : BitVec 32 := 1#32
  let v295 : BitVec 32 := Scalar.divsi v293 c1_i32_86
  let v296 : BitVec 32 := Scalar.muli v295 c1_i32_86
  let v297 : BitVec 32 := Scalar.addi c0_i32_85 v296
  let v294 : BitVec 32 := Scalar.addi c0_i32_85 v293
  let c1_i32_88 : BitVec 32 := 1#32
  ⟨v297, v294, c1_i32_88⟩
def k0_mult4 (k0_t1 : Fin k0_t1_loop.trips) (k0_t3 : Fin (k0_t3_loop k0_t1).trips) : BitVec 32 :=
  let c0_i32 : BitVec 32 := 0#32
  let c1_i32 : BitVec 32 := 1#32
  let arg9 : BitVec 32 := Scf.iv c0_i32 c1_i32 k0_t1
  let c1_i32_118 : BitVec 32 := 1#32
  let v388 : BitVec 32 := Scalar.subi arg9 c1_i32_118
  let c0_i32_85 : BitVec 32 := 0#32
  let v293 : BitVec 32 := Scalar.subi arg9 c0_i32_85
  let c1_i32_86 : BitVec 32 := 1#32
  let v295 : BitVec 32 := Scalar.divsi v293 c1_i32_86
  let v296 : BitVec 32 := Scalar.muli v295 c1_i32_86
  let v297 : BitVec 32 := Scalar.addi c0_i32_85 v296
  let c1_i32_88 : BitVec 32 := 1#32
  let arg10 : BitVec 32 := Scf.iv v297 c1_i32_88 k0_t3
  let v389 : BitVec 32 := Scalar.subi v388 arg10
  let c256_i32_119 : BitVec 32 := 256#32
  let v390 : BitVec 32 := Scalar.muli v389 c256_i32_119
  v390
def k0_off14 (k0_t1 : Fin k0_t1_loop.trips) (k0_t3 : Fin (k0_t3_loop k0_t1).trips) : Fin 2 → Nat :=
  let c0_i32 : BitVec 32 := 0#32
  let c1_i32 : BitVec 32 := 1#32
  let arg9 : BitVec 32 := Scf.iv c0_i32 c1_i32 k0_t1
  let c1_i32_118 : BitVec 32 := 1#32
  let v388 : BitVec 32 := Scalar.subi arg9 c1_i32_118
  let c0_i32_85 : BitVec 32 := 0#32
  let v293 : BitVec 32 := Scalar.subi arg9 c0_i32_85
  let c1_i32_86 : BitVec 32 := 1#32
  let v295 : BitVec 32 := Scalar.divsi v293 c1_i32_86
  let v296 : BitVec 32 := Scalar.muli v295 c1_i32_86
  let v297 : BitVec 32 := Scalar.addi c0_i32_85 v296
  let c1_i32_88 : BitVec 32 := 1#32
  let arg10 : BitVec 32 := Scf.iv v297 c1_i32_88 k0_t3
  let v389 : BitVec 32 := Scalar.subi v388 arg10
  let c256_i32_119 : BitVec 32 := 256#32
  let v390 : BitVec 32 := Scalar.muli v389 c256_i32_119
  let v391 : BitVec 32 := v390
  let v392 : Index := Scalar.indexCast v391
  let c0_120 : Index := 0#32
  ![v392.toNat, 0]
def k0_off15 (k0_t1 : Fin k0_t1_loop.trips) (k0_t3 : Fin (k0_t3_loop k0_t1).trips) : Fin 2 → Nat :=
  let c0_i32 : BitVec 32 := 0#32
  let c1_i32 : BitVec 32 := 1#32
  let arg9 : BitVec 32 := Scf.iv c0_i32 c1_i32 k0_t1
  let c1_i32_118 : BitVec 32 := 1#32
  let v388 : BitVec 32 := Scalar.subi arg9 c1_i32_118
  let c0_i32_85 : BitVec 32 := 0#32
  let v293 : BitVec 32 := Scalar.subi arg9 c0_i32_85
  let c1_i32_86 : BitVec 32 := 1#32
  let v295 : BitVec 32 := Scalar.divsi v293 c1_i32_86
  let v296 : BitVec 32 := Scalar.muli v295 c1_i32_86
  let v297 : BitVec 32 := Scalar.addi c0_i32_85 v296
  let c1_i32_88 : BitVec 32 := 1#32
  let arg10 : BitVec 32 := Scf.iv v297 c1_i32_88 k0_t3
  let v389 : BitVec 32 := Scalar.subi v388 arg10
  let c256_i32_119 : BitVec 32 := 256#32
  let v390 : BitVec 32 := Scalar.muli v389 c256_i32_119
  let v391 : BitVec 32 := v390
  let v394 : Index := Scalar.indexCast v391
  let c128_121 : Index := 128#32
  ![v394.toNat, 128]
def k0_off16 (k0_t1 : Fin k0_t1_loop.trips) (k0_t3 : Fin (k0_t3_loop k0_t1).trips) : Fin 2 → Nat :=
  let c0_i32 : BitVec 32 := 0#32
  let c1_i32 : BitVec 32 := 1#32
  let arg9 : BitVec 32 := Scf.iv c0_i32 c1_i32 k0_t1
  let c1_i32_118 : BitVec 32 := 1#32
  let v388 : BitVec 32 := Scalar.subi arg9 c1_i32_118
  let c0_i32_85 : BitVec 32 := 0#32
  let v293 : BitVec 32 := Scalar.subi arg9 c0_i32_85
  let c1_i32_86 : BitVec 32 := 1#32
  let v295 : BitVec 32 := Scalar.divsi v293 c1_i32_86
  let v296 : BitVec 32 := Scalar.muli v295 c1_i32_86
  let v297 : BitVec 32 := Scalar.addi c0_i32_85 v296
  let c1_i32_88 : BitVec 32 := 1#32
  let arg10 : BitVec 32 := Scf.iv v297 c1_i32_88 k0_t3
  let v389 : BitVec 32 := Scalar.subi v388 arg10
  let c256_i32_119 : BitVec 32 := 256#32
  let v390 : BitVec 32 := Scalar.muli v389 c256_i32_119
  let v391 : BitVec 32 := v390
  let v488 : Index := Scalar.indexCast v391
  let c0_146 : Index := 0#32
  ![v488.toNat, 0]
def k0_off17 (k0_t1 : Fin k0_t1_loop.trips) (k0_t3 : Fin (k0_t3_loop k0_t1).trips) : Fin 2 → Nat :=
  let c0_i32 : BitVec 32 := 0#32
  let c1_i32 : BitVec 32 := 1#32
  let arg9 : BitVec 32 := Scf.iv c0_i32 c1_i32 k0_t1
  let c1_i32_118 : BitVec 32 := 1#32
  let v388 : BitVec 32 := Scalar.subi arg9 c1_i32_118
  let c0_i32_85 : BitVec 32 := 0#32
  let v293 : BitVec 32 := Scalar.subi arg9 c0_i32_85
  let c1_i32_86 : BitVec 32 := 1#32
  let v295 : BitVec 32 := Scalar.divsi v293 c1_i32_86
  let v296 : BitVec 32 := Scalar.muli v295 c1_i32_86
  let v297 : BitVec 32 := Scalar.addi c0_i32_85 v296
  let c1_i32_88 : BitVec 32 := 1#32
  let arg10 : BitVec 32 := Scf.iv v297 c1_i32_88 k0_t3
  let v389 : BitVec 32 := Scalar.subi v388 arg10
  let c256_i32_119 : BitVec 32 := 256#32
  let v390 : BitVec 32 := Scalar.muli v389 c256_i32_119
  let v391 : BitVec 32 := v390
  let v496 : Index := Scalar.indexCast v391
  let c128_149 : Index := 128#32
  ![v496.toNat, 128]
def k0_off18 (k0_t1 : Fin k0_t1_loop.trips) (k0_t3 : Fin (k0_t3_loop k0_t1).trips) : Fin 2 → Nat :=
  let c0_i32 : BitVec 32 := 0#32
  let c1_i32 : BitVec 32 := 1#32
  let arg9 : BitVec 32 := Scf.iv c0_i32 c1_i32 k0_t1
  let c1_i32_118 : BitVec 32 := 1#32
  let v388 : BitVec 32 := Scalar.subi arg9 c1_i32_118
  let c0_i32_85 : BitVec 32 := 0#32
  let v293 : BitVec 32 := Scalar.subi arg9 c0_i32_85
  let c1_i32_86 : BitVec 32 := 1#32
  let v295 : BitVec 32 := Scalar.divsi v293 c1_i32_86
  let v296 : BitVec 32 := Scalar.muli v295 c1_i32_86
  let v297 : BitVec 32 := Scalar.addi c0_i32_85 v296
  let c1_i32_88 : BitVec 32 := 1#32
  let arg10 : BitVec 32 := Scf.iv v297 c1_i32_88 k0_t3
  let v389 : BitVec 32 := Scalar.subi v388 arg10
  let c256_i32_119 : BitVec 32 := 256#32
  let v390 : BitVec 32 := Scalar.muli v389 c256_i32_119
  let v391 : BitVec 32 := v390
  let v504 : Index := Scalar.indexCast v391
  let c256_152 : Index := 256#32
  ![v504.toNat, 256]
def k0_off19 (k0_t1 : Fin k0_t1_loop.trips) (k0_t3 : Fin (k0_t3_loop k0_t1).trips) : Fin 2 → Nat :=
  let c0_i32 : BitVec 32 := 0#32
  let c1_i32 : BitVec 32 := 1#32
  let arg9 : BitVec 32 := Scf.iv c0_i32 c1_i32 k0_t1
  let c1_i32_118 : BitVec 32 := 1#32
  let v388 : BitVec 32 := Scalar.subi arg9 c1_i32_118
  let c0_i32_85 : BitVec 32 := 0#32
  let v293 : BitVec 32 := Scalar.subi arg9 c0_i32_85
  let c1_i32_86 : BitVec 32 := 1#32
  let v295 : BitVec 32 := Scalar.divsi v293 c1_i32_86
  let v296 : BitVec 32 := Scalar.muli v295 c1_i32_86
  let v297 : BitVec 32 := Scalar.addi c0_i32_85 v296
  let c1_i32_88 : BitVec 32 := 1#32
  let arg10 : BitVec 32 := Scf.iv v297 c1_i32_88 k0_t3
  let v389 : BitVec 32 := Scalar.subi v388 arg10
  let c256_i32_119 : BitVec 32 := 256#32
  let v390 : BitVec 32 := Scalar.muli v389 c256_i32_119
  let v391 : BitVec 32 := v390
  let v512 : Index := Scalar.indexCast v391
  let c384_155 : Index := 384#32
  ![v512.toNat, 384]
def k0_off20 (k0_t1 : Fin k0_t1_loop.trips) : Fin 3 → Nat :=
  let c0_95 : Index := 0#32
  let c0_i32 : BitVec 32 := 0#32
  let c1_i32 : BitVec 32 := 1#32
  let arg9 : BitVec 32 := Scf.iv c0_i32 c1_i32 k0_t1
  let c256_i32 : BitVec 32 := 256#32
  let v8 : BitVec 32 := Scalar.muli arg9 c256_i32
  let v9 : BitVec 32 := v8
  let v318 : Index := Scalar.indexCast v9
  let c0_96 : Index := 0#32
  ![0, v318.toNat, 0]
def k0_off21 (k0_t1 : Fin k0_t1_loop.trips) : Fin 3 → Nat :=
  let c0_103 : Index := 0#32
  let c0_i32 : BitVec 32 := 0#32
  let c1_i32 : BitVec 32 := 1#32
  let arg9 : BitVec 32 := Scf.iv c0_i32 c1_i32 k0_t1
  let c256_i32 : BitVec 32 := 256#32
  let v8 : BitVec 32 := Scalar.muli arg9 c256_i32
  let v9 : BitVec 32 := v8
  let v340 : Index := Scalar.indexCast v9
  let c1 : Index := 1#32
  ![0, v340.toNat, 1]
def k0_off22 (k0_t1 : Fin k0_t1_loop.trips) : Fin 3 → Nat :=
  let c0_110 : Index := 0#32
  let c0_i32 : BitVec 32 := 0#32
  let c1_i32 : BitVec 32 := 1#32
  let arg9 : BitVec 32 := Scf.iv c0_i32 c1_i32 k0_t1
  let c256_i32 : BitVec 32 := 256#32
  let v8 : BitVec 32 := Scalar.muli arg9 c256_i32
  let v9 : BitVec 32 := v8
  let v362 : Index := Scalar.indexCast v9
  let c2 : Index := 2#32
  ![0, v362.toNat, 2]
def k0_off23 (k0_t1 : Fin k0_t1_loop.trips) : Fin 3 → Nat :=
  let c0_117 : Index := 0#32
  let c0_i32 : BitVec 32 := 0#32
  let c1_i32 : BitVec 32 := 1#32
  let arg9 : BitVec 32 := Scf.iv c0_i32 c1_i32 k0_t1
  let c256_i32 : BitVec 32 := 256#32
  let v8 : BitVec 32 := Scalar.muli arg9 c256_i32
  let v9 : BitVec 32 := v8
  let v384 : Index := Scalar.indexCast v9
  let c3 : Index := 3#32
  ![0, v384.toNat, 3]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x4 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== SbForwardIdeal.lean ====
variable {F : FTy → Type} [FloatOps F] [Named F]
def κ : String → Option EReal := fun
  | "neg_log2e" => some ((-((Real.log 2)⁻¹) : ℝ) : EReal)
  | _ => none
-- ==== SbForwardRefIdeal.lean ====
abbrev S4096x6144 : Shape := ⟨2, ![4096, 6144]⟩
abbrev S2x2048x6144 : Shape := ⟨3, ![2, 2048, 6144]⟩
abbrev S2x2048x4096 : Shape := ⟨3, ![2, 2048, 4096]⟩
abbrev S2x2048x1024 : Shape := ⟨3, ![2, 2048, 1024]⟩
abbrev S2x2048x2048 : Shape := ⟨3, ![2, 2048, 2048]⟩
abbrev S2x2048x16x64 : Shape := ⟨4, ![2, 2048, 16, 64]⟩
abbrev S2x16x2048x64 : Shape := ⟨4, ![2, 16, 2048, 64]⟩
abbrev S2x2048x16x128 : Shape := ⟨4, ![2, 2048, 16, 128]⟩
abbrev S2x16x2048x128 : Shape := ⟨4, ![2, 16, 2048, 128]⟩
abbrev S2x16x2048x2048 : Shape := ⟨4, ![2, 16, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S2x16x2048 : Shape := ⟨3, ![2, 16, 2048]⟩
abbrev S2x4x4x2048 : Shape := ⟨4, ![2, 4, 4, 2048]⟩
abbrev S4x2x2048x4 : Shape := ⟨4, ![4, 2, 2048, 4]⟩
abbrev S4x4096x4 : Shape := ⟨3, ![4, 4096, 4]⟩
abbrev S4096x2048 : Shape := ⟨2, ![4096, 2048]⟩

abbrev nBuf : Space → Nat
  | .hbm => 137
  | .vmem => 0
  | .smem => 0
  | _ => 0

abbrev hbmTy0_0 (i : Nat) : BufTy := match i % 128 with
  | 0 => ⟨S4096x6144, .bf16⟩
  | 1 => ⟨S4096x6144, .f32⟩
  | 2 => ⟨S2x2048x6144, .f32⟩
  | 3 => ⟨S2x2048x4096, .f32⟩
  | 4 => ⟨S2x2048x1024, .f32⟩
  | 5 => ⟨S2x2048x1024, .f32⟩
  | 6 => ⟨S2x2048x2048, .f32⟩
  | 7 => ⟨S2x2048x16x64, .f32⟩
  | 8 => ⟨S2x16x2048x64, .f32⟩
  | 9 => ⟨S2x2048x16x64, .f32⟩
  | 10 => ⟨S2x16x2048x64, .f32⟩
  | 11 => ⟨S2x2048x16x128, .f32⟩
  | 12 => ⟨S2x16x2048x128, .f32⟩
  | 13 => ⟨S2x16x2048x2048, .f32⟩
  | 14 => ⟨S_, .f32⟩
  | 15 => ⟨S2x16x2048x2048, .f32⟩
  | 16 => ⟨S2x16x2048x2048, .f32⟩
  | 17 => ⟨S2048, .i32⟩
  | 18 => ⟨S1x2048, .i32⟩
  | 19 => ⟨S2048x1, .i32⟩
  | 20 => ⟨S2048x2048, .i32⟩
  | 21 => ⟨S2048x2048, .i32⟩
  | 22 => ⟨S2048x2048, .i1⟩
  | 23 => ⟨S2x16x2048x2048, .f32⟩
  | 24 => ⟨S2x16x2048x2048, .f32⟩
  | 25 => ⟨S_, .f32⟩
  | 26 => ⟨S2x16x2048x2048, .f32⟩
  | 27 => ⟨S2x16x2048x2048, .f32⟩
  | 28 => ⟨S2x16x2048x2048, .f32⟩
  | 29 => ⟨S2x16x2048x2048, .f32⟩
  | 30 => ⟨S2x16x2048x2048, .i1⟩
  | 31 => ⟨S2x16x2048x2048, .f32⟩
  | 32 => ⟨S2x16x2048x2048, .f32⟩
  | 33 => ⟨S2x16x2048x2048, .f32⟩
  | 34 => ⟨S2x16x2048x2048, .f32⟩
  | 35 => ⟨S2x16x2048x2048, .f32⟩
  | 36 => ⟨S2x16x2048x2048, .f32⟩
  | 37 => ⟨S2x16x2048x2048, .f32⟩
  | 38 => ⟨S2x16x2048x2048, .f32⟩
  | 39 => ⟨S2x16x2048x2048, .f32⟩
  | 40 => ⟨S_, .f32⟩
  | 41 => ⟨S_, .f32⟩
  | 42 => ⟨S2x16x2048x2048, .i1⟩
  | 43 => ⟨S2x16x2048x2048, .f32⟩
  | 44 => ⟨S2x16x2048x2048, .f32⟩
  | 45 => ⟨S_, .f32⟩
  | 46 => ⟨S2x16x2048, .f32⟩
  | 47 => ⟨S2x4x4x2048, .f32⟩
  | 48 => ⟨S4x2x2048x4, .f32⟩
  | 49 => ⟨S4x4096x4, .f32⟩
  | 50 => ⟨S2x2048x4096, .f32⟩
  | 51 => ⟨S2x2048x1024, .f32⟩
  | 52 => ⟨S2x2048x1024, .f32⟩
  | 53 => ⟨S2x2048x2048, .f32⟩
  | 54 => ⟨S2x2048x16x64, .f32⟩
  | 55 => ⟨S2x16x2048x64, .f32⟩
  | 56 => ⟨S2x2048x16x64, .f32⟩
  | 57 => ⟨S2x16x2048x64, .f32⟩
  | 58 => ⟨S2x2048x16x128, .f32⟩
  | 59 => ⟨S2x16x2048x128, .f32⟩
  | 60 => ⟨S2x16x2048x2048, .f32⟩
  | 61 => ⟨S_, .f32⟩
  | 62 => ⟨S2x16x2048x2048, .f32⟩
  | 63 => ⟨S2x16x2048x2048, .f32⟩
  | 64 => ⟨S2048, .i32⟩
  | 65 => ⟨S1x2048, .i32⟩
  | 66 => ⟨S2048x1, .i32⟩
  | 67 => ⟨S2048x2048, .i32⟩
  | 68 => ⟨S2048x2048, .i32⟩
  | 69 => ⟨S2048x2048, .i1⟩
  | 70 => ⟨S2x16x2048x2048, .f32⟩
  | 71 => ⟨S2x16x2048x2048, .f32⟩
  | 72 => ⟨S_, .f32⟩
  | 73 => ⟨S2x16x2048x2048, .f32⟩
  | 74 => ⟨S2x16x2048x2048, .f32⟩
  | 75 => ⟨S2x16x2048x2048, .f32⟩
  | 76 => ⟨S2x16x2048x2048, .f32⟩
  | 77 => ⟨S2x16x2048x2048, .i1⟩
  | 78 => ⟨S2x16x2048x2048, .f32⟩
  | 79 => ⟨S2x16x2048x2048, .f32⟩
  | 80 => ⟨S2x16x2048x2048, .f32⟩
  | 81 => ⟨S2x16x2048x2048, .f32⟩
  | 82 => ⟨S2x16x2048x2048, .f32⟩
  | 83 => ⟨S2x16x2048x2048, .f32⟩
  | 84 => ⟨S2x16x2048x2048, .f32⟩
  | 85 => ⟨S2x16x2048x2048, .f32⟩
  | 86 => ⟨S2x16x2048x2048, .f32⟩
  | 87 => ⟨S_, .f32⟩
  | 88 => ⟨S_, .f32⟩
  | 89 => ⟨S2x16x2048x2048, .i1⟩
  | 90 => ⟨S2x16x2048x2048, .f32⟩
  | 91 => ⟨S2x16x2048x2048, .f32⟩
  | 92 => ⟨S_, .f32⟩
  | 93 => ⟨S_, .f32⟩
  | 94 => ⟨S2x16x2048x2048, .f32⟩
  | 95 => ⟨S2x16x2048x2048, .f32⟩
  | 96 => ⟨S2x16x2048x2048, .f32⟩
  | 97 => ⟨S_, .f32⟩
  | 98 => ⟨S2x16x2048x2048, .f32⟩
  | 99 => ⟨S2x16x2048x2048, .f32⟩
  | 100 => ⟨S2x16x2048x2048, .f32⟩
  | 101 => ⟨S2x16x2048x2048, .f32⟩
  | 102 => ⟨S2x16x2048x2048, .i1⟩
  | 103 => ⟨S2x16x2048x2048, .f32⟩
  | 104 => ⟨S2x16x2048x2048, .f32⟩
  | 105 => ⟨S2x16x2048x2048, .f32⟩
  | 106 => ⟨S2x16x2048x2048, .f32⟩
  | 107 => ⟨S2x16x2048x2048, .f32⟩
  | 108 => ⟨S2x16x2048x2048, .f32⟩
  | 109 => ⟨S2x16x2048x2048, .f32⟩
  | 110 => ⟨S2x16x2048x2048, .f32⟩
  | 111 => ⟨S2x16x2048x2048, .f32⟩
  | 112 => ⟨S2x16x2048x2048, .f32⟩
  | 113 => ⟨S2x16x2048x2048, .f32⟩
  | 114 => ⟨S_, .f32⟩
  | 115 => ⟨S_, .f32⟩
  | 116 => ⟨S2x16x2048x2048, .i1⟩
  | 117 => ⟨S2x16x2048x2048, .f32⟩
  | 118 => ⟨S2x16x2048x2048, .f32⟩
  | 119 => ⟨S2x16x2048x128, .f32⟩
  | 120 => ⟨S2x2048x16x128, .f32⟩
  | 121 => ⟨S2x2048x2048, .f32⟩
  | 122 => ⟨S2x2048x2048, .f32⟩
  | 123 => ⟨S2x2048x2048, .f32⟩
  | 124 => ⟨S2x2048x2048, .f32⟩
  | 125 => ⟨S_, .f32⟩
  | 126 => ⟨S2x2048x2048, .f32⟩
  | 127 => ⟨S2x2048x2048, .f32⟩
  | _ => ⟨S4096x6144, .bf16⟩

abbrev hbmTy0_1 (i : Nat) : BufTy := match i % 128 with
  | 0 => ⟨S_, .f32⟩
  | 1 => ⟨S2x2048x2048, .f32⟩
  | 2 => ⟨S2x2048x2048, .f32⟩
  | 3 => ⟨S2x2048x2048, .f32⟩
  | 4 => ⟨S2x2048x2048, .f32⟩
  | 5 => ⟨S4096x2048, .f32⟩
  | 6 => ⟨S4096x2048, .bf16⟩
  | 7 => ⟨S4096x2048, .f32⟩
  | 8 => ⟨S4096x2048, .bf16⟩
  | _ => ⟨S4096x6144, .bf16⟩

abbrev hbmTy (i : Nat) : BufTy := match i / 128 with
  | 0 => hbmTy0_0 i
  | 1 => hbmTy0_1 i
  | _ => ⟨S4096x6144, .bf16⟩

abbrev bufTy : (tb : Table) → Fin (tcTables nBuf tb) → BufTy
  | .hbm, ⟨i, _⟩ => hbmTy i
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_cst : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_call0_v0 : Ref sig .tc := ⟨.hbm, 24, rfl⟩
abbrev main_call0_call0_cst : Ref sig .tc := ⟨.hbm, 25, rfl⟩
abbrev main_call0_call0_v0 : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_v9 : Ref sig .tc := ⟨.hbm, 35, rfl⟩
abbrev main_call0_call0_v10 : Ref sig .tc := ⟨.hbm, 36, rfl⟩
abbrev main_call0_call0_v11 : Ref sig .tc := ⟨.hbm, 37, rfl⟩
abbrev main_call0_v1 : Ref sig .tc := ⟨.hbm, 38, rfl⟩
abbrev main_v22 : Ref sig .tc := ⟨.hbm, 39, rfl⟩
abbrev main_cst_0 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v23 : Ref sig .tc := ⟨.hbm, 44, rfl⟩
abbrev main_cst_1 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_2 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_call2_v0 : Ref sig .tc := ⟨.hbm, 71, rfl⟩
abbrev main_call2_call0_cst : Ref sig .tc := ⟨.hbm, 72, rfl⟩
abbrev main_call2_call0_v0 : Ref sig .tc := ⟨.hbm, 73, rfl⟩
abbrev main_call2_call0_v1 : Ref sig .tc := ⟨.hbm, 74, rfl⟩
abbrev main_call2_call0_v2 : Ref sig .tc := ⟨.hbm, 75, rfl⟩
abbrev main_call2_call0_v3 : Ref sig .tc := ⟨.hbm, 76, rfl⟩
abbrev main_call2_call0_v4 : Ref sig .tc := ⟨.hbm, 77, rfl⟩
abbrev main_call2_call0_v5 : Ref sig .tc := ⟨.hbm, 78, rfl⟩
abbrev main_call2_call0_v6 : Ref sig .tc := ⟨.hbm, 79, rfl⟩
abbrev main_call2_call0_v7 : Ref sig .tc := ⟨.hbm, 80, rfl⟩
abbrev main_call2_call0_v8 : Ref sig .tc := ⟨.hbm, 81, rfl⟩
abbrev main_call2_call0_v9 : Ref sig .tc := ⟨.hbm, 82, rfl⟩
abbrev main_call2_call0_v10 : Ref sig .tc := ⟨.hbm, 83, rfl⟩
abbrev main_call2_call0_v11 : Ref sig .tc := ⟨.hbm, 84, rfl⟩
abbrev main_call2_v1 : Ref sig .tc := ⟨.hbm, 85, rfl⟩
abbrev main_v48 : Ref sig .tc := ⟨.hbm, 86, rfl⟩
abbrev main_cst_3 : Ref sig .tc := ⟨.hbm, 87, rfl⟩
abbrev main_call3_v0 : Ref sig .tc := ⟨.hbm, 88, rfl⟩
abbrev main_call3_v1 : Ref sig .tc := ⟨.hbm, 89, rfl⟩
abbrev main_call3_v2 : Ref sig .tc := ⟨.hbm, 90, rfl⟩
abbrev main_v49 : Ref sig .tc := ⟨.hbm, 91, rfl⟩
abbrev main_call4_cst : Ref sig .tc := ⟨.hbm, 92, rfl⟩
abbrev main_call4_v0 : Ref sig .tc := ⟨.hbm, 93, rfl⟩
abbrev main_v50 : Ref sig .tc := ⟨.hbm, 94, rfl⟩
abbrev main_v51 : Ref sig .tc := ⟨.hbm, 95, rfl⟩
abbrev main_call5_v0 : Ref sig .tc := ⟨.hbm, 96, rfl⟩
abbrev main_call5_call0_cst : Ref sig .tc := ⟨.hbm, 97, rfl⟩
abbrev main_call5_call0_v0 : Ref sig .tc := ⟨.hbm, 98, rfl⟩
abbrev main_call5_call0_v1 : Ref sig .tc := ⟨.hbm, 99, rfl⟩
abbrev main_call5_call0_v2 : Ref sig .tc := ⟨.hbm, 100, rfl⟩
abbrev main_call5_call0_v3 : Ref sig .tc := ⟨.hbm, 101, rfl⟩
abbrev main_call5_call0_v4 : Ref sig .tc := ⟨.hbm, 102, rfl⟩
abbrev main_call5_call0_v5 : Ref sig .tc := ⟨.hbm, 103, rfl⟩
abbrev main_call5_call0_v6 : Ref sig .tc := ⟨.hbm, 104, rfl⟩
abbrev main_call5_call0_v7 : Ref sig .tc := ⟨.hbm, 105, rfl⟩
abbrev main_call5_call0_v8 : Ref sig .tc := ⟨.hbm, 106, rfl⟩
abbrev main_call5_call0_v9 : Ref sig .tc := ⟨.hbm, 107, rfl⟩
abbrev main_call5_call0_v10 : Ref sig .tc := ⟨.hbm, 108, rfl⟩
abbrev main_call5_call0_v11 : Ref sig .tc := ⟨.hbm, 109, rfl⟩
abbrev main_call5_v1 : Ref sig .tc := ⟨.hbm, 110, rfl⟩
abbrev main_v52 : Ref sig .tc := ⟨.hbm, 111, rfl⟩
abbrev main_v53 : Ref sig .tc := ⟨.hbm, 112, rfl⟩
abbrev main_v54 : Ref sig .tc := ⟨.hbm, 113, rfl⟩
abbrev main_cst_4 : Ref sig .tc := ⟨.hbm, 114, rfl⟩
abbrev main_call6_v0 : Ref sig .tc := ⟨.hbm, 115, rfl⟩
abbrev main_call6_v1 : Ref sig .tc := ⟨.hbm, 116, rfl⟩
abbrev main_call6_v2 : Ref sig .tc := ⟨.hbm, 117, rfl⟩
abbrev main_v55 : Ref sig .tc := ⟨.hbm, 118, rfl⟩
abbrev main_v56 : Ref sig .tc := ⟨.hbm, 119, rfl⟩
abbrev main_v57 : Ref sig .tc := ⟨.hbm, 120, rfl⟩
abbrev main_v58 : Ref sig .tc := ⟨.hbm, 121, rfl⟩
abbrev main_v59 : Ref sig .tc := ⟨.hbm, 122, rfl⟩
abbrev main_call7_v0 : Ref sig .tc := ⟨.hbm, 123, rfl⟩
abbrev main_call7_v1 : Ref sig .tc := ⟨.hbm, 124, rfl⟩
abbrev main_call7_cst : Ref sig .tc := ⟨.hbm, 125, rfl⟩
abbrev main_call7_v2 : Ref sig .tc := ⟨.hbm, 126, rfl⟩
abbrev main_call7_v3 : Ref sig .tc := ⟨.hbm, 127, rfl⟩
abbrev main_call7_cst_0 : Ref sig .tc := ⟨.hbm, 128, rfl⟩
abbrev main_call7_v4 : Ref sig .tc := ⟨.hbm, 129, rfl⟩
abbrev main_call7_v5 : Ref sig .tc := ⟨.hbm, 130, rfl⟩
abbrev main_v60 : Ref sig .tc := ⟨.hbm, 131, rfl⟩
abbrev main_v61 : Ref sig .tc := ⟨.hbm, 132, rfl⟩
abbrev main_v62 : Ref sig .tc := ⟨.hbm, 133, rfl⟩
abbrev main_v63 : Ref sig .tc := ⟨.hbm, 134, rfl⟩
abbrev main_v64 : Ref sig .tc := ⟨.hbm, 135, rfl⟩
abbrev main_v65 : Ref sig .tc := ⟨.hbm, 136, rfl⟩

abbrev nD : Nat := 1
abbrev τ : Topo := Topo.v7x

variable {F : FTy → Type} [FloatOps F]
-- ==== PoolForward.lean ====
abbrev S4096x4096 : Shape := ⟨2, ![4096, 4096]⟩
abbrev S4x512x512 : Shape := ⟨3, ![4, 512, 512]⟩
abbrev S1x2048 : Shape := ⟨2, ![1, 2048]⟩
abbrev S4x4x128x512 : Shape := ⟨4, ![4, 4, 128, 512]⟩
abbrev S4096x2048 : Shape := ⟨2, ![4096, 2048]⟩
abbrev S2048x512 : Shape := ⟨2, ![2048, 512]⟩
abbrev S16x512 : Shape := ⟨2, ![16, 512]⟩
abbrev S4x128x512 : Shape := ⟨3, ![4, 128, 512]⟩
abbrev S1x512 : Shape := ⟨2, ![1, 512]⟩
abbrev S2064x512 : Shape := ⟨2, ![2064, 512]⟩
abbrev S2048x1 : Shape := ⟨2, ![2048, 1]⟩
abbrev S512x512 : Shape := ⟨2, ![512, 512]⟩
abbrev S256x512 : Shape := ⟨2, ![256, 512]⟩

abbrev nBuf : Space → Nat
  | .hbm => 10
  | .vmem => 16
  | .smem => 0
  | _ => 0

abbrev bufTy : (tb : Table) → Fin (tcTables nBuf tb) → BufTy
  | .hbm, ⟨0, _⟩ => ⟨S4096x4096, .bf16⟩
  | .hbm, ⟨1, _⟩ => ⟨S4x512x512, .f32⟩
  | .hbm, ⟨2, _⟩ => ⟨S1x2048, .f32⟩
  | .hbm, ⟨3, _⟩ => ⟨S4x4x128x512, .f32⟩
  | .hbm, ⟨4, _⟩ => ⟨S4x4x128x512, .f32⟩
  | .hbm, ⟨5, _⟩ => ⟨S4x512x512, .f32⟩
  | .hbm, ⟨6, _⟩ => ⟨S4x512x512, .bf16⟩
  | .hbm, ⟨7, _⟩ => ⟨S4096x2048, .bf16⟩
  | .hbm, ⟨8, _⟩ => ⟨S4096x2048, .bf16⟩
  | .hbm, ⟨9, _⟩ => ⟨S4096x2048, .bf16⟩
  | .local _ .vmem, ⟨0, _⟩ => ⟨S2048x512, .bf16⟩
  | .local _ .vmem, ⟨1, _⟩ => ⟨S2048x512, .bf16⟩
  | .local _ .vmem, ⟨2, _⟩ => ⟨S16x512, .bf16⟩
  | .local _ .vmem, ⟨3, _⟩ => ⟨S16x512, .bf16⟩
  | .local _ .vmem, ⟨4, _⟩ => ⟨S2048x512, .bf16⟩
  | .local _ .vmem, ⟨5, _⟩ => ⟨S2048x512, .bf16⟩
  | .local _ .vmem, ⟨6, _⟩ => ⟨S4x128x512, .bf16⟩
  | .local _ .vmem, ⟨7, _⟩ => ⟨S4x128x512, .bf16⟩
  | .local _ .vmem, ⟨8, _⟩ => ⟨S1x512, .f32⟩
  | .local _ .vmem, ⟨9, _⟩ => ⟨S1x512, .f32⟩
  | .local _ .vmem, ⟨10, _⟩ => ⟨S2048x512, .bf16⟩
  | .local _ .vmem, ⟨11, _⟩ => ⟨S2048x512, .bf16⟩
  | .local _ .vmem, ⟨12, _⟩ => ⟨S2048x512, .bf16⟩
  | .local _ .vmem, ⟨13, _⟩ => ⟨S2048x512, .bf16⟩
  | .local _ .vmem, ⟨14, _⟩ => ⟨S2048x512, .bf16⟩
  | .local _ .vmem, ⟨15, _⟩ => ⟨S2048x512, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== PoolForwardRefIdeal.lean ====
abbrev S4096x4096 : Shape := ⟨2, ![4096, 4096]⟩
abbrev S4x512x512 : Shape := ⟨3, ![4, 512, 512]⟩
abbrev S1x2048 : Shape := ⟨2, ![1, 2048]⟩
abbrev S2x2048x4096 : Shape := ⟨3, ![2, 2048, 4096]⟩
abbrev S2x2048x2048 : Shape := ⟨3, ![2, 2048, 2048]⟩
abbrev S2x2048x4x512 : Shape := ⟨4, ![2, 2048, 4, 512]⟩
abbrev S2x2048x1x512 : Shape := ⟨4, ![2, 2048, 1, 512]⟩
abbrev S2x2048x512 : Shape := ⟨3, ![2, 2048, 512]⟩
abbrev S_ : Shape := ⟨0, ![]⟩
abbrev S2x2x512 : Shape := ⟨3, ![2, 2, 512]⟩
abbrev S2x2046x512 : Shape := ⟨3, ![2, 2046, 512]⟩
abbrev S2048 : Shape := ⟨1, ![2048]⟩
abbrev S1x2048x1 : Shape := ⟨3, ![1, 2048, 1]⟩
abbrev S2x4x512 : Shape := ⟨3, ![2, 4, 512]⟩
abbrev S2x2044x512 : Shape := ⟨3, ![2, 2044, 512]⟩
abbrev S2x8x512 : Shape := ⟨3, ![2, 8, 512]⟩
abbrev S2x2040x512 : Shape := ⟨3, ![2, 2040, 512]⟩
abbrev S2x16x512 : Shape := ⟨3, ![2, 16, 512]⟩
abbrev S2x2032x512 : Shape := ⟨3, ![2, 2032, 512]⟩
abbrev S4x512x2x2048 : Shape := ⟨4, ![4, 512, 2, 2048]⟩
abbrev S1x1x2048 : Shape := ⟨3, ![1, 1, 2048]⟩
abbrev S4096x2048 : Shape := ⟨2, ![4096, 2048]⟩

abbrev nBuf : Space → Nat
  | .hbm => 127
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4x512x512, .f32⟩
  | .hbm, ⟨2, _⟩ => ⟨S1x2048, .f32⟩
  | .hbm, ⟨3, _⟩ => ⟨S4096x4096, .f32⟩
  | .hbm, ⟨4, _⟩ => ⟨S2x2048x4096, .f32⟩
  | .hbm, ⟨5, _⟩ => ⟨S2x2048x2048, .f32⟩
  | .hbm, ⟨6, _⟩ => ⟨S2x2048x2048, .f32⟩
  | .hbm, ⟨7, _⟩ => ⟨S2x2048x4x512, .f32⟩
  | .hbm, ⟨8, _⟩ => ⟨S2x2048x1x512, .f32⟩
  | .hbm, ⟨9, _⟩ => ⟨S2x2048x512, .f32⟩
  | .hbm, ⟨10, _⟩ => ⟨S_, .f32⟩
  | .hbm, ⟨11, _⟩ => ⟨S_, .f32⟩
  | .hbm, ⟨12, _⟩ => ⟨S2x2048x512, .f32⟩
  | .hbm, ⟨13, _⟩ => ⟨S2x2x512, .f32⟩
  | .hbm, ⟨14, _⟩ => ⟨S_, .f32⟩
  | .hbm, ⟨15, _⟩ => ⟨S2x2x512, .f32⟩
  | .hbm, ⟨16, _⟩ => ⟨S2x2046x512, .f32⟩
  | .hbm, ⟨17, _⟩ => ⟨S2x2048x512, .f32⟩
  | .hbm, ⟨18, _⟩ => ⟨S2048, .i32⟩
  | .hbm, ⟨19, _⟩ => ⟨S_, .i32⟩
  | .hbm, ⟨20, _⟩ => ⟨S2048, .i32⟩
  | .hbm, ⟨21, _⟩ => ⟨S2048, .i32⟩
  | .hbm, ⟨22, _⟩ => ⟨S_, .i32⟩
  | .hbm, ⟨23, _⟩ => ⟨S2048, .i32⟩
  | .hbm, ⟨24, _⟩ => ⟨S2048, .i32⟩
  | .hbm, ⟨25, _⟩ => ⟨S2048, .f32⟩
  | .hbm, ⟨26, _⟩ => ⟨S2x2048x512, .f32⟩
  | .hbm, ⟨27, _⟩ => ⟨S1x2048x1, .f32⟩
  | .hbm, ⟨28, _⟩ => ⟨S2x2048x512, .f32⟩
  | .hbm, ⟨29, _⟩ => ⟨S2x2048x512, .f32⟩
  | .hbm, ⟨30, _⟩ => ⟨S2x2048x512, .f32⟩
  | .hbm, ⟨31, _⟩ => ⟨S2x2048x1x512, .f32⟩
  | .hbm, ⟨32, _⟩ => ⟨S2x2048x512, .f32⟩
  | .hbm, ⟨33, _⟩ => ⟨S_, .f32⟩
  | .hbm, ⟨34, _⟩ => ⟨S_, .f32⟩
  | .hbm, ⟨35, _⟩ => ⟨S2x2048x512, .f32⟩
  | .hbm, ⟨36, _⟩ => ⟨S2x4x512, .f32⟩
  | .hbm, ⟨37, _⟩ => ⟨S_, .f32⟩
  | .hbm, ⟨38, _⟩ => ⟨S2x4x512, .f32⟩
  | .hbm, ⟨39, _⟩ => ⟨S2x2044x512, .f32⟩
  | .hbm, ⟨40, _⟩ => ⟨S2x2048x512, .f32⟩
  | .hbm, ⟨41, _⟩ => ⟨S2048, .i32⟩
  | .hbm, ⟨42, _⟩ => ⟨S_, .i32⟩
  | .hbm, ⟨43, _⟩ => ⟨S2048, .i32⟩
  | .hbm, ⟨44, _⟩ => ⟨S2048, .i32⟩
  | .hbm, ⟨45, _⟩ => ⟨S_, .i32⟩
  | .hbm, ⟨46, _⟩ => ⟨S2048, .i32⟩
  | .hbm, ⟨47, _⟩ => ⟨S2048, .i32⟩
  | .hbm, ⟨48, _⟩ => ⟨S2048, .f32⟩
  | .hbm, ⟨49, _⟩ => ⟨S2x2048x512, .f32⟩
  | .hbm, ⟨50, _⟩ => ⟨S1x2048x1, .f32⟩
  | .hbm, ⟨51, _⟩ => ⟨S2x2048x512, .f32⟩
  | .hbm, ⟨52, _⟩ => ⟨S2x2048x512, .f32⟩
  | .hbm, ⟨53, _⟩ => ⟨S2x2048x512, .f32⟩
  | .hbm, ⟨54, _⟩ => ⟨S2x2048x1x512, .f32⟩
  | .hbm, ⟨55, _⟩ => ⟨S2x2048x512, .f32⟩
  | .hbm, ⟨56, _⟩ => ⟨S_, .f32⟩
  | .hbm, ⟨57, _⟩ => ⟨S_, .f32⟩
  | .hbm, ⟨58, _⟩ => ⟨S2x2048x512, .f32⟩
  | .hbm, ⟨59, _⟩ => ⟨S2x8x512, .f32⟩
  | .hbm, ⟨60, _⟩ => ⟨S_, .f32⟩
  | .hbm, ⟨61, _⟩ => ⟨S2x8x512, .f32⟩
  | .hbm, ⟨62, _⟩ => ⟨S2x2040x512, .f32⟩
  | .hbm, ⟨63, _⟩ => ⟨S2x2048x512, .f32⟩
  | .hbm, ⟨64, _⟩ => ⟨S2048, .i32⟩
  | .hbm, ⟨65, _⟩ => ⟨S_, .i32⟩
  | .hbm, ⟨66, _⟩ => ⟨S2048, .i32⟩
  | .hbm, ⟨67, _⟩ => ⟨S2048, .i32⟩
  | .hbm, ⟨68, _⟩ => ⟨S_, .i32⟩
  | .hbm, ⟨69, _⟩ => ⟨S2048, .i32⟩
  | .hbm, ⟨70, _⟩ => ⟨S2048, .i32⟩
  | .hbm, ⟨71, _⟩ => ⟨S2048, .f32⟩
  | .hbm, ⟨72, _⟩ => ⟨S2x2048x512, .f32⟩
  | .hbm, ⟨73, _⟩ => ⟨S1x2048x1, .f32⟩
  | .hbm, ⟨74, _⟩ => ⟨S2x2048x512, .f32⟩
  | .hbm, ⟨75, _⟩ => ⟨S2x2048x512, .f32⟩
  | .hbm, ⟨76, _⟩ => ⟨S2x2048x512, .f32⟩
  | .hbm, ⟨77, _⟩ => ⟨S2x2048x1x512, .f32⟩
  | .hbm, ⟨78, _⟩ => ⟨S2x2048x512, .f32⟩
  | .hbm, ⟨79, _⟩ => ⟨S_, .f32⟩
  | .hbm, ⟨80, _⟩ => ⟨S_, .f32⟩
  | .hbm, ⟨81, _⟩ => ⟨S2x2048x512, .f32⟩
  | .hbm, ⟨82, _⟩ => ⟨S2x16x512, .f32⟩
  | .hbm, ⟨83, _⟩ => ⟨S_, .f32⟩
  | .hbm, ⟨84, _⟩ => ⟨S2x16x512, .f32⟩
  | .hbm, ⟨85, _⟩ => ⟨S2x2032x512, .f32⟩
  | .hbm, ⟨86, _⟩ => ⟨S2x2048x512, .f32⟩
  | .hbm, ⟨87, _⟩ => ⟨S2048, .i32⟩
  | .hbm, ⟨88, _⟩ => ⟨S_, .i32⟩
  | .hbm, ⟨89, _⟩ => ⟨S2048, .i32⟩
  | .hbm, ⟨90, _⟩ => ⟨S2048, .i32⟩
  | .hbm, ⟨91, _⟩ => ⟨S_, .i32⟩
  | .hbm, ⟨92, _⟩ => ⟨S2048, .i32⟩
  | .hbm, ⟨93, _⟩ => ⟨S2048, .i32⟩
  | .hbm, ⟨94, _⟩ => ⟨S2048, .f32⟩
  | .hbm, ⟨95, _⟩ => ⟨S2x2048x512, .f32⟩
  | .hbm, ⟨96, _⟩ => ⟨S1x2048x1, .f32⟩
  | .hbm, ⟨97, _⟩ => ⟨S2x2048x512, .f32⟩
  | .hbm, ⟨98, _⟩ => ⟨S2x2048x512, .f32⟩
  | .hbm, ⟨99, _⟩ => ⟨S2x2048x512, .f32⟩
  | .hbm, ⟨100, _⟩ => ⟨S2x2048x1x512, .f32⟩
  | .hbm, ⟨101, _⟩ => ⟨S2x2048x1x512, .f32⟩
  | .hbm, ⟨102, _⟩ => ⟨S2x2048x1x512, .f32⟩
  | .hbm, ⟨103, _⟩ => ⟨S2x2048x1x512, .f32⟩
  | .hbm, ⟨104, _⟩ => ⟨S2x2048x4x512, .f32⟩
  | .hbm, ⟨105, _⟩ => ⟨S4x512x2x2048, .f32⟩
  | .hbm, ⟨106, _⟩ => ⟨S2x2048x4x512, .f32⟩
  | .hbm, ⟨107, _⟩ => ⟨S2x2048x2048, .f32⟩
  | .hbm, ⟨108, _⟩ => ⟨S1x1x2048, .f32⟩
  | .hbm, ⟨109, _⟩ => ⟨S2x2048x2048, .f32⟩
  | .hbm, ⟨110, _⟩ => ⟨S2x2048x2048, .f32⟩
  | .hbm, ⟨111, _⟩ => ⟨S2x2048x2048, .f32⟩
  | .hbm, ⟨112, _⟩ => ⟨S2x2048x2048, .f32⟩
  | .hbm, ⟨113, _⟩ => ⟨S_, .f32⟩
  | .hbm, ⟨114, _⟩ => ⟨S2x2048x2048, .f32⟩
  | .hbm, ⟨115, _⟩ => ⟨S2x2048x2048, .f32⟩
  | .hbm, ⟨116, _⟩ => ⟨S_, .f32⟩
  | .hbm, ⟨117, _⟩ => ⟨S2x2048x2048, .f32⟩
  | .hbm, ⟨118, _⟩ => ⟨S2x2048x2048, .f32⟩
  | .hbm, ⟨119, _⟩ => ⟨S2x2048x2048, .f32⟩
  | .hbm, ⟨120, _⟩ => ⟨S2x2048x2048, .f32⟩
  | .hbm, ⟨121, _⟩ => ⟨S4096x2048, .f32⟩
  | .hbm, ⟨122, _⟩ => ⟨S4096x2048, .bf16⟩
  | .hbm, ⟨123, _⟩ => ⟨S4096x2048, .f32⟩
  | .hbm, ⟨124, _⟩ => ⟨S4096x2048, .bf16⟩
  | .hbm, ⟨125, _⟩ => ⟨S4096x2048, .f32⟩
  | .hbm, ⟨126, _⟩ => ⟨S4096x2048, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_call0_cst : Ref sig .tc := ⟨.hbm, 10, rfl⟩
abbrev main_call0_call0_v0 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c : Ref sig .tc := ⟨.hbm, 19, rfl⟩
abbrev main_v13 : Ref sig .tc := ⟨.hbm, 20, rfl⟩
abbrev main_v14 : Ref sig .tc := ⟨.hbm, 21, rfl⟩
abbrev main_c_0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_call1_call0_cst : Ref sig .tc := ⟨.hbm, 33, rfl⟩
abbrev main_call1_call0_v0 : Ref sig .tc := ⟨.hbm, 34, rfl⟩
abbrev main_v25 : Ref sig .tc := ⟨.hbm, 35, rfl⟩
abbrev main_v26 : Ref sig .tc := ⟨.hbm, 36, rfl⟩
abbrev main_cst_1 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c_2 : Ref sig .tc := ⟨.hbm, 42, rfl⟩
abbrev main_v31 : Ref sig .tc := ⟨.hbm, 43, rfl⟩
abbrev main_v32 : Ref sig .tc := ⟨.hbm, 44, rfl⟩
abbrev main_c_3 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_call2_call0_cst : Ref sig .tc := ⟨.hbm, 56, rfl⟩
abbrev main_call2_call0_v0 : Ref sig .tc := ⟨.hbm, 57, rfl⟩
abbrev main_v43 : Ref sig .tc := ⟨.hbm, 58, rfl⟩
abbrev main_v44 : Ref sig .tc := ⟨.hbm, 59, rfl⟩
abbrev main_cst_4 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_c_5 : Ref sig .tc := ⟨.hbm, 65, rfl⟩
abbrev main_v49 : Ref sig .tc := ⟨.hbm, 66, rfl⟩
abbrev main_v50 : Ref sig .tc := ⟨.hbm, 67, rfl⟩
abbrev main_c_6 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_call3_call0_cst : Ref sig .tc := ⟨.hbm, 79, rfl⟩
abbrev main_call3_call0_v0 : Ref sig .tc := ⟨.hbm, 80, rfl⟩
abbrev main_v61 : Ref sig .tc := ⟨.hbm, 81, rfl⟩
abbrev main_v62 : Ref sig .tc := ⟨.hbm, 82, rfl⟩
abbrev main_cst_7 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_c_8 : Ref sig .tc := ⟨.hbm, 88, rfl⟩
abbrev main_v67 : Ref sig .tc := ⟨.hbm, 89, rfl⟩
abbrev main_v68 : Ref sig .tc := ⟨.hbm, 90, rfl⟩
abbrev main_c_9 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_call4_v0 : Ref sig .tc := ⟨.hbm, 111, rfl⟩
abbrev main_call4_v1 : Ref sig .tc := ⟨.hbm, 112, rfl⟩
abbrev main_call4_cst : Ref sig .tc := ⟨.hbm, 113, rfl⟩
abbrev main_call4_v2 : Ref sig .tc := ⟨.hbm, 114, rfl⟩
abbrev main_call4_v3 : Ref sig .tc := ⟨.hbm, 115, rfl⟩
abbrev main_call4_cst_0 : Ref sig .tc := ⟨.hbm, 116, rfl⟩
abbrev main_call4_v4 : Ref sig .tc := ⟨.hbm, 117, rfl⟩
abbrev main_call4_v5 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩

abbrev nD : Nat := 1
abbrev τ : Topo := Topo.v7x

variable {F : FTy → Type} [FloatOps F]
-- ==== NormForward.lean ====
abbrev S4096x1024 : Shape := ⟨2, ![4096, 1024]⟩
abbrev S1x1024 : Shape := ⟨2, ![1, 1024]⟩
abbrev S1024x6144 : Shape := ⟨2, ![1024, 6144]⟩
abbrev S1024x4x1536 : Shape := ⟨3, ![1024, 4, 1536]⟩
abbrev S4x1024x1536 : Shape := ⟨3, ![4, 1024, 1536]⟩
abbrev S4096x6144 : Shape := ⟨2, ![4096, 6144]⟩
abbrev S1024x1024 : Shape := ⟨2, ![1024, 1024]⟩
abbrev S1x1024x1536 : Shape := ⟨3, ![1, 1024, 1536]⟩
abbrev S1024x1536 : Shape := ⟨2, ![1024, 1536]⟩
abbrev S1024 : Shape := ⟨1, ![1024]⟩
abbrev S1024x1 : Shape := ⟨2, ![1024, 1]⟩

abbrev nBuf : Space → Nat
  | .hbm => 8
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x6144, .f32⟩
  | .hbm, ⟨3, _⟩ => ⟨S1024x4x1536, .f32⟩
  | .hbm, ⟨4, _⟩ => ⟨S4x1024x1536, .f32⟩
  | .hbm, ⟨5, _⟩ => ⟨S4x1024x1536, .bf16⟩
  | .hbm, ⟨6, _⟩ => ⟨S4096x6144, .bf16⟩
  | .hbm, ⟨7, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x1536, .bf16⟩
  | .local _ .vmem, ⟨4, _⟩ => ⟨S1x1024x1536, .bf16⟩
  | .local _ .vmem, ⟨5, _⟩ => ⟨S1024x1536, .bf16⟩
  | .local _ .vmem, ⟨6, _⟩ => ⟨S1024x1536, .bf16⟩
  | .local _ .vmem, ⟨7, _⟩ => ⟨S1024x1024, .bf16⟩
  | .local _ .vmem, ⟨8, _⟩ => ⟨S1024x1024, .bf16⟩
  | .local _ .vmem, ⟨9, _⟩ => ⟨S4096x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let arg1 : BitVec 32 := BitVec.ofNat 32 (i 1).val
  let c1024_i32 : BitVec 32 := 1024#32
  let v0 : BitVec 32 := Scalar.muli arg1 c1024_i32
  v0
def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

def k0_off1 (i : grid0.Coords) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v27 : Index := Scalar.indexCast v1
  let c0_13 : Index := 0#32
  ![v27.toNat, 0]
def k0_off2 (i : grid0.Coords) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v5 : Index := Scalar.indexCast v1
  let c0 : Index := 0#32
  ![v5.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 32 := Scalar.select v0 arg1 c3_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 32 := Scalar.select v0 arg1 c3_i32
  let c0_i32_0 : BitVec 32 := 0#32
  let c0_i32_1 : BitVec 32 := 0#32
  ![v1.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== NormForwardRefIdeal.lean ====
abbrev S4096x1024 : Shape := ⟨2, ![4096, 1024]⟩
abbrev S1x1024 : Shape := ⟨2, ![1, 1024]⟩
abbrev S1024x6144 : Shape := ⟨2, ![1024, 6144]⟩
abbrev S_ : Shape := ⟨0, ![]⟩
abbrev S4096 : Shape := ⟨1, ![4096]⟩
abbrev S4096x1 : Shape := ⟨2, ![4096, 1]⟩
abbrev S4096x6144 : Shape := ⟨2, ![4096, 6144]⟩

abbrev nBuf : Space → Nat
  | .hbm => 21
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x6144, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x6144, .f32⟩
  | .hbm, ⟨19, _⟩ => ⟨S4096x6144, .bf16⟩
  | .hbm, ⟨20, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Proof.Finite.lean ====
module

public import Idealize.ShloMosaic.PureOps.Ideal
public import Idealize.ShloMosaic.PureOps.Ideal.Laws
public import Idealize.ShloMosaic.Lib.Pointwise

/-! Finite extended reals: an array whose every absolute value is below plus infinity is an array of reals, and the
    ideal operations on reals. -/

@[expose] public section

noncomputable section

namespace Cert.Finite

open Idealize.ShloMosaic

/-- Every element of the array is a real number. -/
def AllReal {ι : Type} (x : ι → EReal) : Prop := ∀ i, ∃ r : ℝ, x i = (r : EReal)

/-- An array of real numbers is the array of some real function. -/
theorem AllReal.exists {ι : Type} {x : ι → EReal} (h : AllReal x) : ∃ f : ι → ℝ, x = fun i => (f i : EReal) := by
  choose f hf using h
  exact ⟨f, funext hf⟩

theorem lt_top_iff_real (a : EReal) (h : max a (-a) < ⊤) : ∃ r : ℝ, a = (r : EReal) := by
  induction a using EReal.rec with
  | bot => simp at h
  | top => simp at h
  | coe r => exact ⟨r, rfl⟩

theorem ofBits_inf : Ideal.ofBits .f32 0x7F800000#32 = ⊤ := by simp [Ideal.ofBits, Ideal.ieee]

/-- A comparison "absolute value below plus infinity" that answers yes says the element is real. -/
theorem real_of_olt (a : EReal) (h : Ideal.cmp .olt (max a (-a)) (Ideal.ofBits .f32 0x7F800000#32) = 1#1) :
    ∃ r : ℝ, a = (r : EReal) := by
  rw [ofBits_inf] at h
  refine lt_top_iff_real a ?_
  by_contra hn
  simp [Ideal.cmp, hn] at h

theorem andi_eq_one {c d : BitVec 1} (h : IntOp.andi c d = 1#1) : c = 1#1 ∧ d = 1#1 := by revert c d; decide

/-- A conjunction over a whole array that answers yes answers yes at every element. -/
theorem all_of_reduce {s t u : Shape} {axes : List (Fin s.rank)} (x : s.Idx → BitVec 1) (init : u.Idx → BitVec 1)
    (h : s.ReducesTo axes t) (hu : 0 < u.numel) (j : t.Idx) (ht : t.rank = 0)
    (e : Host.reduce IntOp.andi x init h hu j = 1#1) : ∀ i, x i = 1#1 := by
  intro i
  have hj : h.drop i = j := by funext b; exact absurd b.isLt (by omega)
  have key : ∀ (l : List (Fin s.numel)) (a : BitVec 1), l.foldl (fun r n => IntOp.andi r (x (s.rowMajor.symm n))) a = 1#1 →
      a = 1#1 ∧ ∀ n ∈ l, x (s.rowMajor.symm n) = 1#1 := by
    intro l
    induction l with
    | nil => intro a ha; exact ⟨ha, by simp⟩
    | cons n l ih =>
      intro a ha
      obtain ⟨h1, h2⟩ := ih _ ha
      have h3 := andi_eq_one h1
      refine ⟨h3.1, fun k hk => ?_⟩
      rcases List.mem_cons.mp hk with rfl | hk
      · exact h3.2
      · exact h2 k hk
  have h2 := (key _ _ e).2 (s.rowMajor i) (by
    simp only [List.mem_filter, List.mem_finRange, true_and, Equiv.symm_apply_apply, decide_eq_true_eq]; exact hj)
  simpa using h2

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem div_coe (x y : ℝ) (hy : y ≠ 0) : Ideal.div (x : EReal) (y : EReal) = ((x / y : ℝ) : EReal) := by
  have : (y : EReal) ≠ 0 := by exact_mod_cast hy
  rw [Ideal.div, if_neg this, ← EReal.coe_inv, ← EReal.coe_mul, div_eq_mul_inv]

theorem exp_coe (x : ℝ) : Ideal.exp (x : EReal) = ((Real.exp x : ℝ) : EReal) := rfl

/-- The logistic function as the kernels write it. -/
def sigm (z : EReal) : EReal := Ideal.div 1 (1 + Ideal.exp (0 - z))

/-- The real logistic function. -/
def sg (z : ℝ) : ℝ := 1 / (1 + Real.exp (-z))

theorem sigm_coe (z : ℝ) : sigm (z : EReal) = ((sg z : ℝ) : EReal) := by
  have h : (1 : ℝ) + Real.exp (-z) ≠ 0 := by positivity
  have e : (1 : EReal) + Ideal.exp (0 - (z : EReal)) = ((1 + Real.exp (-z) : ℝ) : EReal) := by
    rw [zero_sub, ← EReal.coe_neg, exp_coe, EReal.coe_add, EReal.coe_one]
  rw [sigm, e, ← EReal.coe_one, div_coe _ _ h, sg]

end Cert.Finite
-- ==== Proof.SbGate.Blocks.lean ====
module

public import proofs.«01_k».proof.Proof.Gen.SbGateIdeal.Value
public import Idealize.ShloMosaic.Lib.Pipeline.ValueKit
public import Idealize.ShloMosaic.Lib.Pointwise
public import proofs.«01_k».proof.Proof.Finite

/-! What the gate's gradient kernel stores at each grid point, and what its two result arrays hold after the grid. -/

@[expose] public section

set_option maxRecDepth 16384

noncomputable section

namespace Cert.SbGateIdeal.Hand

open Cert.SbGateIdeal Cert.SbGateIdeal.Gen Idealize.ShloMosaic Idealize.ShloMosaic.TcCoe Idealize.SL.Sem
open Idealize.ShloMosaic.Pipeline (Dat)
open Cert.Finite (sigm)

variable (m : (ℓ : Loc nD τ sig) → Buf (Elt Ideal) ℓ)

/-- The gradient of the attention's output: the cotangent of `y` times `silu z`. -/
def dO (dh : FVec Ideal S4096x1024 .bf16) (w : FVec Ideal S2048x1024 .f32) (q : FVec Ideal S4096x6144 .bf16)
    (r : Fin 4096) (s : Fin 2048) : EReal :=
  (∑ k : Fin 1024, dh (ix2 r k) * w (ix2 s k)) * (q (ix2 r ⟨4096 + s, by omega⟩) * sigm (q (ix2 r ⟨4096 + s, by omega⟩)))

/-- The gradient of the gate's pre-activation: the cotangent of `y` times `o`, times the derivative of `silu` at `z`. -/
def dZ (dh : FVec Ideal S4096x1024 .bf16) (w : FVec Ideal S2048x1024 .f32) (q : FVec Ideal S4096x6144 .bf16)
    (o : FVec Ideal S4096x2048 .bf16) (r : Fin 4096) (s : Fin 2048) : EReal :=
  ((∑ k : Fin 1024, dh (ix2 r k) * w (ix2 s k)) * o (ix2 r s))
    * (sigm (q (ix2 r ⟨4096 + s, by omega⟩)) * (1 + q (ix2 r ⟨4096 + s, by omega⟩) * (1 - sigm (q (ix2 r ⟨4096 + s, by omega⟩)))))

/-- Which block each window takes at each grid point. -/
theorem idx : ∀ t : Fin cfg0.N, win0_0.index t = ![t.val / 2, 0] ∧ win0_1.index t = ![t.val % 2, 0] ∧ win0_2.index t = ![t.val / 2, 4 + t.val % 2]
   ∧ win0_3.index t = ![t.val / 2, t.val % 2] ∧ win0_4.index t = ![t.val / 2, t.val % 2] ∧ win0_5.index t = ![t.val / 2, 4 + t.val % 2] :=
  (by decide +kernel : ∀ t : Fin grid0.N, _)

/-- The block of the first result at one grid point. -/
theorem point4 (c : Dev nD) (t : Fin cfg0.N) (y : S1024x1024.Idx) (r : Fin 4096) (s : Fin 2048)
    (hr : r.val = t.val / 2 * 1024 + y 0) (hs : s.val = t.val % 2 * 1024 + y 1) :
    out0_4 (iblk m c 0 t) (iblk m c 1 t) (iblk m c 2 t) (iblk m c 3 t) y
      = dO (m ((c : Thread nD τ).loc main_arg0)) (m ((c : Thread nD τ).loc main_arg1)) (m ((c : Thread nD τ).loc main_arg2)) r s := by
  unfold_out out0_4
  canon_tiles x h
  all_goals (open_payloads; pointwise [dO, sigm]; blk_point [iblk, V, idx t])

/-- The block of the second result at one grid point. -/
theorem point5 (c : Dev nD) (t : Fin cfg0.N) (y : S1024x1024.Idx) (r : Fin 4096) (s : Fin 2048)
    (hr : r.val = t.val / 2 * 1024 + y 0) (hs : s.val = t.val % 2 * 1024 + y 1) :
    out0_5 (iblk m c 0 t) (iblk m c 1 t) (iblk m c 2 t) (iblk m c 3 t) y
      = dZ (m ((c : Thread nD τ).loc main_arg0)) (m ((c : Thread nD τ).loc main_arg1)) (m ((c : Thread nD τ).loc main_arg2)) (m ((c : Thread nD τ).loc main_arg3)) r s := by
  unfold_out out0_5
  canon_tiles x h
  all_goals (open_payloads; pointwise [dZ, sigm]; blk_point [iblk, V, idx t])

/-- The first result after the grid, everywhere. -/
theorem final4 (c : Dev nD) : (dats m 0 c).arrAt 4 (cfgs 0).N
    = fun i => dO (m ((c : Thread nD τ).loc main_arg0)) (m ((c : Thread nD τ).loc main_arg1)) (m ((c : Thread nD τ).loc main_arg2)) (i 0) (i 1) := by
  refine (dats m 0 c).arrAt_eq_of_covers 4 _ (by decide +kernel) fun t _ y => ?_
  blk_simp
  rw [after0_4]
  refine point4 m c t _ _ _ ?_ ?_ <;> (blk_simp [idx t]; try omega)

/-- The second result after the grid, in the gate's columns. -/
theorem final5 (c : Dev nD) (i : S4096x6144.Idx) (s : Fin 2048) (h : (i 1 : ℕ) = 4096 + s) : (dats m 0 c).arrAt 5 (cfgs 0).N i
    = dZ (m ((c : Thread nD τ).loc main_arg0)) (m ((c : Thread nD τ).loc main_arg1)) (m ((c : Thread nD τ).loc main_arg2)) (m ((c : Thread nD τ).loc main_arg3)) (i 0) s := by
  have key : (dats m 0 c).arrAt 5 (cfgs 0).N = fun i : S4096x6144.Idx => if 4096 ≤ (i 1 : ℕ) then
      dZ (m ((c : Thread nD τ).loc main_arg0)) (m ((c : Thread nD τ).loc main_arg1)) (m ((c : Thread nD τ).loc main_arg2)) (m ((c : Thread nD τ).loc main_arg3)) (i 0)
        ⟨(i 1 : ℕ) - 4096, by have : (i 1 : ℕ) < 6144 := (i 1).isLt; omega⟩ else V m c main_v1_1 i := by
    refine (dats m 0 c).arrAt_eq_of_coversWhere 5 _ (fun β => 4 ≤ β 1) (by decide +kernel) (fun t hf y => ?_)
      (fun j => by blk_simp [Pipeline.Window.cell_apply]; omega)
    blk_simp
    rw [after0_5]
    refine point5 m c t _ _ _ ?_ ?_ <;> (blk_simp [idx t]; try simp only []; try omega)
  rw [key]
  have hs : (⟨(i 1 : ℕ) - 4096, by have : (i 1 : ℕ) < 6144 := (i 1).isLt; omega⟩ : Fin 2048) = s := Fin.ext (by simp; omega)
  simp only [show 4096 ≤ (i 1 : ℕ) by omega, if_true, hs]

end Cert.SbGateIdeal.Hand
-- ==== Proof.SbGate.Ref.lean ====
module

public import proofs.«01_k».proof.Proof.Gen.SbGateRefIdeal.Read
public import proofs.«01_k».proof.Proof.SbGate.Blocks

/-! What the reference of the gate's gradient computes at each index, and that it is the kernel's value. -/

@[expose] public section

set_option maxRecDepth 16384

noncomputable section

namespace Cert.SbGateRefIdeal.Hand

open Cert.SbGateRefIdeal Cert.SbGateRefIdeal.Gen Cert.SbGateRefIdeal.Read Idealize.ShloMosaic
open Cert.Finite
open Cert.SbGateIdeal.Hand (dO dZ)

/-- The reference's gradient of the attention's output is the kernel's, whatever the arguments hold. -/
theorem ref0 (x0 : FVec Ideal S4096x1024 .bf16) (x1 : FVec Ideal S2048x1024 .f32) (x2 : FVec Ideal S4096x6144 .bf16) (i : S4096x2048.Idx) :
    val_main_v12 (F := Ideal) x0 x1 x2 i = dO x0 x1 x2 (i 0) (i 1) := by
  pointwise [val_main_v12, val_main_v9, val_main_v7, val_main_v6, val_main_v3_0, val_main_v3_2, val_main_v2, val_main_v1,
    val_main_call0_v4, val_main_call0_cst_0, val_main_call0_v3, val_main_call0_v2,val_main_call0_v1, val_main_call0_cst, val_main_call0_v0, dO, sigm, zero_sub]

/-- The derivative of the gate, as the reference adds its two parts and as the kernel factors them. -/
theorem silu_deriv (y o z : ℝ) :
    (o : EReal) * y * sigm z + z * ((o : EReal) * y) * (sigm z * (1 - sigm z)) = (y : EReal) * o * (sigm z * (1 + z * (1 - sigm z))) := by
  rw [sigm_coe]
  simp only [← EReal.coe_mul, ← EReal.coe_add, ← EReal.coe_sub, ← EReal.coe_one]
  congr 1
  ring

/-- The reference's gradient of the gate before it is placed in the projection's columns. -/
theorem ref1_at (x0 : FVec Ideal S4096x1024 .bf16) (x1 : FVec Ideal S2048x1024 .f32) (x2 : FVec Ideal S4096x6144 .bf16) (x3 : FVec Ideal S4096x2048 .bf16)
    (h0 : AllReal x0) (h1 : AllReal x1) (h2 : AllReal x2) (h3 : AllReal x3) (r : Fin 4096) (s : Fin 2048) :
    val_main_v10 (F := Ideal) x0 x1 x2 x3 (ix2 r s) = dZ x0 x1 x2 x3 r s := by
  obtain ⟨f0, rfl⟩ := h0.exists
  obtain ⟨f1, rfl⟩ := h1.exists
  obtain ⟨f2, rfl⟩ := h2.exists
  obtain ⟨f3, rfl⟩ := h3.exists
  refine Eq.trans ?_ ((silu_deriv (∑ k : Fin 1024, f0 (ix2 r k) * f1 (ix2 s k)) (f3 (ix2 r s)) (f2 (ix2 r ⟨4096 + s, by omega⟩))).trans ?_)
  · pointwise [val_main_v10, val_main_call1_v2, val_main_call1_v1, val_main_call1_v0, val_main_v8, val_main_v0, val_main_v3_1,
      val_main_call0_v7, val_main_call0_v6, val_main_call0_cst_1, val_main_v7, val_main_v6, val_main_v3_2, val_main_v2, val_main_v1,
      val_main_call0_v4, val_main_call0_cst_0, val_main_call0_v3, val_main_call0_v2,val_main_call0_v1, val_main_call0_cst, val_main_call0_v0, sigm,
      zero_sub, coe_sum, EReal.coe_mul]
  · simp only [dZ, coe_sum, EReal.coe_mul]

/-- The reference's gradient of the gate's columns, at real arguments, is the kernel's. -/
theorem ref1 (x0 : FVec Ideal S4096x1024 .bf16) (x1 : FVec Ideal S2048x1024 .f32) (x2 : FVec Ideal S4096x6144 .bf16) (x3 : FVec Ideal S4096x2048 .bf16)
    (h0 : AllReal x0) (h1 : AllReal x1) (h2 : AllReal x2) (h3 : AllReal x3) (i : S4096x6144.Idx) (s : Fin 2048) (hi : (i 1 : ℕ) = 4096 + s) :
    val_main_v13 (F := Ideal) x0 x1 x2 x3 i = dZ x0 x1 x2 x3 (i 0) s := by
  refine Eq.trans ?_ (ref1_at x0 x1 x2 x3 h0 h1 h2 h3 (i 0) s)
  unfold val_main_v13 val_main_v11
  generalize val_main_v10 (F := Ideal) x0 x1 x2 x3 = v
  pointwise
  rw [dif_pos ⟨by omega, by have := s.isLt; omega⟩]
  exact congrArg v (congrArg (ix2 (i 0)) (Fin.ext (by simp only []; omega)))

end Cert.SbGateRefIdeal.Hand
-- ==== Proof.SbGate.Claim.lean ====
module

public import proofs.«01_k».proof.Defs
public import proofs.«01_k».proof.Proof.Gen.SbGate
public import proofs.«01_k».proof.Proof.Gen.Pre_gate_finite
public import proofs.«01_k».proof.Proof.Gen.On_gate_written
public import proofs.«01_k».proof.Proof.SbGate.Ref
public import Idealize.ShloMosaic.Lib.Claim

/-! The gate's gradient: the precondition and the written columns read, the equation of the two programs, the frames. -/

@[expose] public section

set_option maxRecDepth 16384

noncomputable section

namespace Cert.SbGateIdeal.Hand

open Idealize.ShloMosaic Idealize.ShloMosaic.TcCoe
open Cert.Finite

/-- What the precondition says: all four arguments are arrays of real numbers. -/
theorem real_of_pre [Cert.Pre_gate_finite.Facts] (x0 : FVec Ideal S4096x1024 .bf16) (x1 : FVec Ideal S2048x1024 .f32) (x2 : FVec Ideal S4096x6144 .bf16) (x3 : FVec Ideal S4096x2048 .bf16)
    (h : Cert.Pre_gate_finite.fn (F := Ideal) x0 x1 x2 x3 = fun _ => 1#1) :
    AllReal x0 ∧ AllReal x1 ∧ AllReal x2 ∧ AllReal x3 := by
  have h' := congrFun h (Shape.Idx.first (by decide))
  unfold Cert.Pre_gate_finite.fn Cert.Pre_gate_finite.fn_part1 at h'
  obtain ⟨h', h3⟩ := andi_eq_one h'
  obtain ⟨h', h2⟩ := andi_eq_one h'
  obtain ⟨h0, h1⟩ := andi_eq_one h'
  exact ⟨fun i => real_of_olt _ (all_of_reduce _ _ _ _ _ rfl h0 i), fun i => real_of_olt _ (all_of_reduce _ _ _ _ _ rfl h1 i),
    fun i => real_of_olt _ (all_of_reduce _ _ _ _ _ rfl h2 i), fun i => real_of_olt _ (all_of_reduce _ _ _ _ _ rfl h3 i)⟩

/-- A column the kernel writes is one of the gate's: the columns from 4096 on. -/
theorem column_of_written (n : ℕ) (hn : n < 6144) (h : IntOp.cmpi .sge (BitVec.ofNat 32 n) 4096#32 = 1#1) : 4096 ≤ n := by
  by_contra hlt
  have h1 : (BitVec.ofNat 32 n).toInt = n := by
    rw [BitVec.toInt_eq_toNat_of_lt] <;> simp only [BitVec.toNat_ofNat] <;> omega
  have h2 : (4096#32).sle (BitVec.ofNat 32 n) = false := by
    rw [BitVec.sle_eq_decide, h1]
    exact decide_eq_false (by have : (4096#32 : BitVec 32).toInt = 4096 := by decide
                              omega)
  simp [IntOp.cmpi, h2] at h

/-- The kernel's two results are the reference's: everywhere the gradient of the attention's output, and in the gate's
    columns the gradient of the projections. -/
theorem algebraic : Cert.algebraic_SbGateIdeal_SbGateRefIdeal_on_gate_written_pre_gate_finite
    (hSbGateIdeal := Cert.SbGateIdeal.Gen.facts) (hSbGateRefIdeal := Cert.SbGateRefIdeal.Gen.facts)
    (hPre_gate_finite := Cert.Pre_gate_finite.Gen.facts) (hOn_gate_written := Cert.On_gate_written.Gen.facts) := by
  letI := Cert.Pre_gate_finite.Gen.facts
  intro m g m' g' hpre hagree
  refine ⟨_, _, ?_, θ_run_mono (Cert.SbGateRefIdeal.Value.run m' g') fun r h c => ⟨fun i _ => congrFun (h c).1 i, fun i _ => congrFun (h c).2.1 i, (h c).2.2⟩⟩
  refine θ_run_mono (Cert.SbGateIdeal.Value.run_blocks m g) fun r h c => ?_
  obtain ⟨e0, e1, kept⟩ := h c
  obtain ⟨a0, a1, a2, a3⟩ := hagree c
  obtain ⟨p0, p1, p2, p3⟩ := real_of_pre _ _ _ _ (hpre c)
  refine ⟨fun i _ => ?_, fun i hi => ?_, kept⟩
  · rw [e0, final4, a0, a1, a2]
    exact (Cert.SbGateRefIdeal.Hand.ref0 _ _ _ i).symm
  · have hn : (i 1 : ℕ) < 6144 := (i 1).isLt
    have hi := column_of_written (i 1) hn hi
    rw [e1, final5 m c i ⟨(i 1 : ℕ) - 4096, by omega⟩ (by simp only []; omega), a0, a1, a2, a3]
    exact (Cert.SbGateRefIdeal.Hand.ref1 _ _ _ _ p0 p1 p2 p3 i _ (by simp only []; omega)).symm

/-- The program as compiled and its ideal reading have one body table: their texts agree. -/
theorem defs_eq : Cert.SbGate.defs (F := Bits) = Cert.SbGateIdeal.defs (F := Bits) := by sl_kernel_rfl

/-- The frame of the program as compiled is the ideal program's run, at the bit patterns. -/
theorem frame_kernel : Cert.quiescent_SbGate (hSbGate := Cert.SbGate.Gen.facts) := fun m ρ _ => by
  have h := Cert.SbGateIdeal.Gen.frame (F := Bits) m ρ
  rw [← defs_eq] at h
  exact h

/-- The reference's frame: host operations only, none of which writes an argument, and no semaphore. -/
theorem frame_reference : Cert.quiescent_SbGateRefIdeal (hSbGateRefIdeal := Cert.SbGateRefIdeal.Gen.facts) := fun m ρ _ =>
  θ_run_mono (Cert.SbGateRefIdeal.Value.run m ρ) fun r h => ⟨fun c => (h c).2.2, sem_eq_zero_of_no_sems (by decide) r.2⟩

end Cert.SbGateIdeal.Hand
-- ==== Proof.SbGrad.Trips.lean ====
/-
  The two loops of the attention's backward kernel that a run goes through, at the algebra that a run with transfers of its own needs.
  The inner loop walks the key blocks before the query block: one trip (`trip2`), the state before trip `k` (`st2`), the loop's invariant (`loop2`).
  The outer loop walks the query blocks: `trip1`, `st1`, `loop1`. The state of a loop is what it carries and the contents of the scratch that it writes.
-/
module

public import proofs.«01_k».proof.Proof.Gen.SbGradIdeal.Loops
public import Idealize.ShloMosaic.Lib.LoopRemainder
public import Idealize.ShloMosaic.Lib.Pipeline.Routed

@[expose] public section

set_option maxRecDepth 16384
set_option maxHeartbeats 4000000

noncomputable section

namespace Cert.SbGradIdeal.Hand

open Cert.SbGradIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F] [Named F]

local notation "𝕄" => MT nD τ sig Unit (Elt F) ℕ (UC sig nD τ) ℕ

/-- What the inner loop carries: the four sums of `g` over the key blocks so far, the four sums of the logarithms, the two halves of `dq`. -/
abbrev Carry (F : FTy → Type) : Type :=
  FVec F S256x1 .f32 × FVec F S256x1 .f32 × FVec F S256x1 .f32 × FVec F S256x1 .f32 × FVec F S256x1 .f32 × FVec F S256x1 .f32
    × FVec F S256x1 .f32 × FVec F S256x1 .f32 × FVec F S256x128 .f32 × FVec F S256x128 .f32

variable (c : Dev nD) (i : grid0.Coords)
  (arg2 : Memref sig .tc .vmem S2048x256 .bf16) (harg2 : arg2.IsWhole) (arg3 : Memref sig .tc .vmem S2048x256 .bf16) (harg3 : arg3.IsWhole)
  (arg4 : Memref sig .tc .vmem S2048x512 .bf16) (harg4 : arg4.IsWhole) (arg5 : Memref sig .tc .vmem S2048x512 .bf16) (harg5 : arg5.IsWhole)
  (arg6 : Memref sig .tc .vmem S1x2048x4 .f32) (harg6 : arg6.IsWhole) (arg7 : Memref sig .tc .hbm S4096x6144 .bf16) (harg7 : arg7.IsWhole)
  (arg8 : Memref sig .tc .hbm S4096x6144 .bf16) (harg8 : arg8.IsWhole) (arg9 : Memref sig .tc .vmem S2048x256 .bf16) (harg9 : arg9.IsWhole)
  (arg10 : Memref sig .tc .vmem S2048x256 .f32) (harg10 : arg10.IsWhole) (arg11 : Memref sig .tc .vmem S2048x512 .f32) (harg11 : arg11.IsWhole)
  (arg12 : Memref sig .tc .vmem S2048x256 .bf16) (harg12 : arg12.IsWhole) (arg13 : Memref sig .tc .vmem S2048x512 .bf16) (harg13 : arg13.IsWhole)
  (arg14 : DmaSems sig S3)

set_option quotPrecheck false in
local notation:max "⟪" f "⟫" => f c i arg2 harg2 arg3 harg3 arg4 harg4 arg5 harg5 arg6 harg6 arg7 harg7 arg8 harg8 arg9 harg9 arg10 harg10 arg11 harg11 arg12 harg12 arg13 harg13 arg14

section Inner

variable (v6 v10 : FVec F S256x256 .bf16) (q : Fin k0_t1_loop.trips) (arg15 v58 : BitVec 32)
  (v187 v189 v191 v193 : FVec F S256x128 .bf16) (v195 v197 v199 v201 : Vec F S256x128 .bf16) (v203 v206 v209 v212 : Vec F S1x256x1 .f32)
  (X3 : BufTy.Contents (Elt F) arg3.view.ty) (X4 : BufTy.Contents (Elt F) arg4.view.ty)

/-- The blocks that a trip of the inner loop reads, and the two sums that it adds to. -/
abbrev Held2 (f10 : BufTy.Contents (Elt F) arg10.view.ty) (f11 : BufTy.Contents (Elt F) arg11.view.ty) : sProp 𝕄 :=
  iprop((arg3.view.loc c ↦[arg3.view.set]{fullShare} X3) ∗ (arg4.view.loc c ↦[arg4.view.set]{fullShare} X4)
    ∗ (arg10.view.loc c ↦[arg10.view.set]{fullShare} f10) ∗ (arg11.view.loc c ↦[arg11.view.set]{fullShare} f11))

/-- One trip of the inner loop: what it yields and what it writes, as the run finds them. -/
def trip2 (k : Fin (k0_t2_loop q).trips) :
    Σ' (R : Carry F → BufTy.Contents (Elt F) arg10.view.ty → BufTy.Contents (Elt F) arg11.view.ty → Carry F)
       (L10 : Carry F → BufTy.Contents (Elt F) arg10.view.ty → BufTy.Contents (Elt F) arg11.view.ty → List (View.Piece (Elt F) S2048x256 .f32)),
      { L11 : Carry F → BufTy.Contents (Elt F) arg10.view.ty → BufTy.Contents (Elt F) arg11.view.ty → List (View.Piece (Elt F) S2048x512 .f32) //
        ∀ (E : Set ℕ) (acc : Carry F) (f10 : BufTy.Contents (Elt F) arg10.view.ty) (f11 : BufTy.Contents (Elt F) arg11.view.ty),
          Held2 c arg3 arg4 arg10 arg11 X3 X4 f10 f11
          ⊢ wp frame (wpE (defs₀ (F := F)) Variants.none c none) E
              (k0_t2_body (F := F) i arg2 harg2 arg3 harg3 arg4 harg4 arg5 harg5 arg6 harg6 arg7 harg7 arg8 harg8 arg9 harg9 arg10 harg10 arg11 harg11 arg12 harg12 arg13 harg13 arg14 v6 v10 q arg15 v58 v187 v189 v191 v193 v195 v197 v199 v201 v203 v206 v209 v212 k acc)
              (fun y => iprop(⌜y = R acc f10 f11⌝ ∗ Held2 c arg3 arg4 arg10 arg11 X3 X4
                (arg10.view.writes (Elt F) f10 (L10 acc f10 f11)) (arg11.view.writes (Elt F) f11 (L11 acc f10 f11)))) } := by
  refine ⟨?_, ?_, ?_, fun E acc f10 f11 => ?run⟩
  case run =>
    unfold k0_t2_body
    iintro ⟨H3, H4, H10, H11⟩
    sl_exec
    sl_step
    sl_close

/-- A state of the inner loop. -/
abbrev S2 : Type := Carry F × BufTy.Contents (Elt F) arg10.view.ty × BufTy.Contents (Elt F) arg11.view.ty

/-- Trip `k` on a state; past the last trip the state stays. -/
@[irreducible] def step2 (k : ℕ) (s : S2 (F := F) arg10 arg11) : S2 (F := F) arg10 arg11 :=
  if h : k < (k0_t2_loop q).trips then
    let t := ⟪trip2 (F := F)⟫ v6 v10 q arg15 v58 v187 v189 v191 v193 v195 v197 v199 v201 v203 v206 v209 v212 X3 X4 ⟨k, h⟩
    (t.1 s.1 s.2.1 s.2.2, arg10.view.writes (Elt F) s.2.1 (t.2.1 s.1 s.2.1 s.2.2), arg11.view.writes (Elt F) s.2.2 (t.2.2.1 s.1 s.2.1 s.2.2))
  else s

/-- The state before trip `k`, from the state at the loop's entry. -/
def st2 (s : S2 (F := F) arg10 arg11) : ℕ → S2 (F := F) arg10 arg11
  | 0 => s
  | k + 1 => ⟪step2⟫ v6 v10 q arg15 v58 v187 v189 v191 v193 v195 v197 v199 v201 v203 v206 v209 v212 X3 X4 k (st2 s k)

/-- The inner loop's invariant. -/
abbrev inv2 (init : Carry F) (G10 : BufTy.Contents (Elt F) arg10.view.ty) (G11 : BufTy.Contents (Elt F) arg11.view.ty) (k : ℕ) (acc : Carry F) : sProp 𝕄 :=
  iprop((arg3.view.loc c ↦[arg3.view.set]{fullShare} X3) ∗ (arg4.view.loc c ↦[arg4.view.set]{fullShare} X4)
    ∗ (∃ f, (arg10.view.loc c ↦[arg10.view.set]{fullShare} f) ∗ ⌜f = (⟪st2 (F := F)⟫ v6 v10 q arg15 v58 v187 v189 v191 v193 v195 v197 v199 v201 v203 v206 v209 v212 X3 X4 (init, G10, G11) k).2.1⌝)
    ∗ (∃ f, (arg11.view.loc c ↦[arg11.view.set]{fullShare} f) ∗ ⌜f = (⟪st2 (F := F)⟫ v6 v10 q arg15 v58 v187 v189 v191 v193 v195 v197 v199 v201 v203 v206 v209 v212 X3 X4 (init, G10, G11) k).2.2⌝)
    ∗ ⌜acc = (⟪st2 (F := F)⟫ v6 v10 q arg15 v58 v187 v189 v191 v193 v195 v197 v199 v201 v203 v206 v209 v212 X3 X4 (init, G10, G11) k).1⌝)

set_option warn.classDefReducibility false in
/-- The inner loop by its invariant. -/
@[sl_loop] def loop2 (E : Set ℕ) (init : Carry F) (G10 : BufTy.Contents (Elt F) arg10.view.ty) (G11 : BufTy.Contents (Elt F) arg11.view.ty) :
    LoopInvTy_k0_t2 (F := F) Unit ℕ (UC sig nD τ) ℕ Variants.none c none E i arg2 harg2 arg3 harg3 arg4 harg4 arg5 harg5 arg6 harg6 arg7 harg7 arg8 harg8 arg9 harg9 arg10 harg10 arg11 harg11 arg12 harg12 arg13 harg13 arg14 v6 v10 q arg15 v58 v187 v189 v191 v193 v195 v197 v199 v201 v203 v206 v209 v212 init where
  inv := ⟪inv2 (F := F)⟫ v6 v10 q arg15 v58 v187 v189 v191 v193 v195 v197 v199 v201 v203 v206 v209 v212 X3 X4 init G10 G11
  step k acc := by
    iintro ⟨H3, H4, ⟨%f10, H10, %h10⟩, ⟨%f11, H11, %h11⟩, %hacc⟩
    have hs : ⟪st2 (F := F)⟫ v6 v10 q arg15 v58 v187 v189 v191 v193 v195 v197 v199 v201 v203 v206 v209 v212 X3 X4 (init, G10, G11) (k.val + 1)
        = ⟪step2⟫ v6 v10 q arg15 v58 v187 v189 v191 v193 v195 v197 v199 v201 v203 v206 v209 v212 X3 X4 k.val (acc, f10, f11) := by
      rw [h10, h11, hacc, st2]
    unfold step2 at hs
    rw [dif_pos k.isLt] at hs
    iapply (wp_wand_r Idealize.ShloMosaic.frame (wpE (defs₀ (F := F)) Variants.none c none) E)
    isplitl [H3 H4 H10 H11]
    · iapply ((⟪trip2 (F := F)⟫ v6 v10 q arg15 v58 v187 v189 v191 v193 v195 v197 v199 v201 v203 v206 v209 v212 X3 X4 k).2.2.2 E acc f10 f11)
      iframe H3 H4 H10 H11
    · iintro %y ⟨%hy, H3, H4, H10, H11⟩
      iframe H3 H4
      isplitl [H10]
      · iexists _; isplitl [H10]; · iexact H10
        ipureintro; rw [hs]
      isplitl [H11]
      · iexists _; isplitl [H11]; · iexact H11
        ipureintro; rw [hs]
      ipureintro; rw [hs]; exact hy

end Inner

section Outer

variable (v2 : IVec S256x256 1) (v6 v10 : FVec F S256x256 .bf16) (lb : BitVec 32)
  (X2 : BufTy.Contents (Elt F) arg2.view.ty) (X3 : BufTy.Contents (Elt F) arg3.view.ty) (X4 : BufTy.Contents (Elt F) arg4.view.ty)
  (X5 : BufTy.Contents (Elt F) arg5.view.ty) (X6 : BufTy.Contents (Elt F) arg6.view.ty)

/-- A state of the outer loop: the contents of the three scratches that it writes. -/
abbrev S1' : Type := BufTy.Contents (Elt F) arg9.view.ty × BufTy.Contents (Elt F) arg10.view.ty × BufTy.Contents (Elt F) arg11.view.ty

/-- The blocks that a trip of the outer loop reads, and the scratches that it writes. -/
abbrev Held1 (f9 : BufTy.Contents (Elt F) arg9.view.ty) (f10 : BufTy.Contents (Elt F) arg10.view.ty) (f11 : BufTy.Contents (Elt F) arg11.view.ty) : sProp 𝕄 :=
  iprop((arg2.view.loc c ↦[arg2.view.set]{fullShare} X2) ∗ (arg3.view.loc c ↦[arg3.view.set]{fullShare} X3)
    ∗ (arg4.view.loc c ↦[arg4.view.set]{fullShare} X4) ∗ (arg5.view.loc c ↦[arg5.view.set]{fullShare} X5)
    ∗ (arg6.view.loc c ↦[arg6.view.set]{fullShare} X6) ∗ (arg9.view.loc c ↦[arg9.view.set]{fullShare} f9)
    ∗ (arg10.view.loc c ↦[arg10.view.set]{fullShare} f10) ∗ (arg11.view.loc c ↦[arg11.view.set]{fullShare} f11))

/-- One trip of the outer loop: the pieces of `dq` that it stores and the two sums that it leaves, as the run finds them. -/
def trip1 (k : Fin k0_t1_loop.trips) :
    Σ' (L9 : BufTy.Contents (Elt F) arg10.view.ty → BufTy.Contents (Elt F) arg11.view.ty → List (View.Piece (Elt F) S2048x256 .bf16))
       (T10 : BufTy.Contents (Elt F) arg10.view.ty → BufTy.Contents (Elt F) arg11.view.ty → BufTy.Contents (Elt F) arg10.view.ty),
    { T11 : BufTy.Contents (Elt F) arg10.view.ty → BufTy.Contents (Elt F) arg11.view.ty → BufTy.Contents (Elt F) arg11.view.ty //
        ∀ f10 f11 f9,
          Held1 c arg2 arg3 arg4 arg5 arg6 arg9 arg10 arg11 X2 X3 X4 X5 X6 f9 f10 f11
          ⊢ wp frame (wpE (defs₀ (F := F)) Variants.none c none) Set.univ
              (k0_t1_body (F := F) i arg2 harg2 arg3 harg3 arg4 harg4 arg5 harg5 arg6 harg6 arg7 harg7 arg8 harg8 arg9 harg9 arg10 harg10 arg11 harg11 arg12 harg12 arg13 harg13 arg14 v2 v6 v10 lb k ⟨⟩)
              (fun _ => Held1 c arg2 arg3 arg4 arg5 arg6 arg9 arg10 arg11 X2 X3 X4 X5 X6 (arg9.view.writes (Elt F) f9 (L9 f10 f11)) (T10 f10 f11) (T11 f10 f11)) } := by
  refine ⟨?_, ?_, ?_, fun f10 f11 f9 => ?run⟩
  case run =>
    unfold k0_t1_body
    iintro ⟨H2, H3, H4, H5, H6, H9, H10, H11⟩
    sl_exec
    sl_step
    sl_close

/-- The state before trip `k`, from the state at the loop's entry. -/
def st1 (s : S1' (F := F) arg9 arg10 arg11) : ℕ → S1' (F := F) arg9 arg10 arg11
  | 0 => s
  | k + 1 => if h : k < k0_t1_loop.trips then
      let t := ⟪trip1 (F := F)⟫ v2 v6 v10 lb X2 X3 X4 X5 X6 ⟨k, h⟩
      let u := st1 s k
      (arg9.view.writes (Elt F) u.1 (t.1 u.2.1 u.2.2), t.2.1 u.2.1 u.2.2, t.2.2.1 u.2.1 u.2.2)
    else st1 s k

/-- The outer loop's invariant. -/
abbrev inv1 (G : S1' (F := F) arg9 arg10 arg11) (k : ℕ) (_ : Unit) : sProp 𝕄 :=
  iprop((arg2.view.loc c ↦[arg2.view.set]{fullShare} X2) ∗ (arg3.view.loc c ↦[arg3.view.set]{fullShare} X3)
    ∗ (arg4.view.loc c ↦[arg4.view.set]{fullShare} X4) ∗ (arg5.view.loc c ↦[arg5.view.set]{fullShare} X5)
    ∗ (arg6.view.loc c ↦[arg6.view.set]{fullShare} X6)
    ∗ (∃ f, (arg9.view.loc c ↦[arg9.view.set]{fullShare} f) ∗ ⌜f = (⟪st1 (F := F)⟫ v2 v6 v10 lb X2 X3 X4 X5 X6 G k).1⌝)
    ∗ (∃ f, (arg10.view.loc c ↦[arg10.view.set]{fullShare} f) ∗ ⌜f = (⟪st1 (F := F)⟫ v2 v6 v10 lb X2 X3 X4 X5 X6 G k).2.1⌝)
    ∗ (∃ f, (arg11.view.loc c ↦[arg11.view.set]{fullShare} f) ∗ ⌜f = (⟪st1 (F := F)⟫ v2 v6 v10 lb X2 X3 X4 X5 X6 G k).2.2⌝))

set_option warn.classDefReducibility false in
/-- The outer loop by its invariant. -/
@[sl_loop] def loop1 (G9 : BufTy.Contents (Elt F) arg9.view.ty) (G10 : BufTy.Contents (Elt F) arg10.view.ty) (G11 : BufTy.Contents (Elt F) arg11.view.ty) :
    LoopInvTy_k0_t1 (F := F) Unit ℕ (UC sig nD τ) ℕ Variants.none c none Set.univ i arg2 harg2 arg3 harg3 arg4 harg4 arg5 harg5 arg6 harg6 arg7 harg7 arg8 harg8 arg9 harg9 arg10 harg10 arg11 harg11 arg12 harg12 arg13 harg13 arg14 v2 v6 v10 lb where
  inv := ⟪inv1 (F := F)⟫ v2 v6 v10 lb X2 X3 X4 X5 X6 (G9, G10, G11)
  step k acc := by
    iintro ⟨H2, H3, H4, H5, H6, ⟨%f9, H9, %h9⟩, ⟨%f10, H10, %h10⟩, ⟨%f11, H11, %h11⟩⟩
    have hs : ⟪st1 (F := F)⟫ v2 v6 v10 lb X2 X3 X4 X5 X6 (G9, G10, G11) (k.val + 1)
        = (let t := ⟪trip1 (F := F)⟫ v2 v6 v10 lb X2 X3 X4 X5 X6 k
           (arg9.view.writes (Elt F) f9 (t.1 f10 f11), t.2.1 f10 f11, t.2.2.1 f10 f11)) := by
      rw [h9, h10, h11, st1, dif_pos k.isLt]
    iapply (wp_wand_r Idealize.ShloMosaic.frame (wpE (defs₀ (F := F)) Variants.none c none) Set.univ)
    isplitl [H2 H3 H4 H5 H6 H9 H10 H11]
    · iapply ((⟪trip1 (F := F)⟫ v2 v6 v10 lb X2 X3 X4 X5 X6 k).2.2.2 f10 f11 f9)
      iframe H2 H3 H4 H5 H6 H9 H10 H11
    · iintro %y ⟨H2, H3, H4, H5, H6, H9, H10, H11⟩
      iframe H2 H3 H4 H5 H6
      isplitl [H9]
      · iexists _; isplitl [H9]; · iexact H9
        ipureintro; rw [hs]
      isplitl [H10]
      · iexists _; isplitl [H10]; · iexact H10
        ipureintro; rw [hs]
      iexists _; isplitl [H11]; · iexact H11
      ipureintro; rw [hs]

end Outer

end Cert.SbGradIdeal.Hand

end
-- ==== Proof.SbGrad.Run.lean ====
/-
  One run of the attention's backward kernel body, in its three cases: the first grid point, a point between, the last one.
  The body ends by sending its three results to their windows of the array in HBM; the next point's body waits for them before it writes the
  scratches again, and the last point's body waits for its own.
-/
module

public import proofs.«01_k».proof.Proof.SbGrad.Trips
public import Idealize.ShloMosaic.Lib.VecWindow

@[expose] public section

set_option maxRecDepth 16384
set_option maxHeartbeats 4000000

noncomputable section

namespace Cert.SbGradIdeal.Hand

open Cert.SbGradIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F] [Named F]

local notation "𝕄" => MT nD τ sig Unit (Elt F) ℕ (UC sig nD τ) ℕ

/-- The result in HBM and the five scratches. -/
abbrev out : Memref sig .tc .hbm S4096x6144 .bf16 := Memref.whole main_v28
abbrev sc0 : Memref sig .tc .vmem S2048x256 .bf16 := Memref.whole cc0_scratch0
abbrev sc1 : Memref sig .tc .vmem S2048x256 .f32 := Memref.whole cc0_scratch1
abbrev sc2 : Memref sig .tc .vmem S2048x512 .f32 := Memref.whole cc0_scratch2
abbrev sc3 : Memref sig .tc .vmem S2048x256 .bf16 := Memref.whole cc0_scratch3
abbrev sc4 : Memref sig .tc .vmem S2048x512 .bf16 := Memref.whole cc0_scratch4

/-- The windows of the result that a point sends `dq`, `dk` and `dv` to. -/
abbrev winQ (i : grid0.Coords) : Memref sig .tc .hbm S2048x256 .bf16 := out.slice (Rect.unit (s := S4096x6144) (k0_off29 i) S2048x256.size (k0_off29_inb i)) (fun _ => rfl)
abbrev winK (i : grid0.Coords) : Memref sig .tc .hbm S2048x256 .bf16 := out.slice (Rect.unit (s := S4096x6144) (k0_off30 i) S2048x256.size (k0_off30_inb i)) (fun _ => rfl)
abbrev winV (i : grid0.Coords) : Memref sig .tc .hbm S2048x512 .bf16 := out.slice (Rect.unit (s := S4096x6144) (k0_off31 i) S2048x512.size (k0_off31_inb i)) (fun _ => rfl)

/-- A view held by its own elements. -/
abbrev own (c : Dev nD) {sp : Space} {S : Shape} {e : EltTy} (M : Memref sig .tc sp S e) (f : BufTy.Contents (Elt F) M.view.ty) : sProp 𝕄 :=
  M.view.loc c ↦[M.view.set]{fullShare} f

/-- A copy of a scratch at `s` in flight to a window, on semaphore `n`, that will leave the window's elements at `g`. -/
abbrev flight (c : Dev nD) (n : DmaSem sig) {S : Shape} (src : Memref sig .tc .vmem S .bf16) (dst : Memref sig .tc .hbm S .bf16)
    (s : BufTy.Contents (Elt F) src.view.ty) (g : BufTy.Contents (Elt F) dst.view.ty) : sProp 𝕄 :=
  Transfers.Flight (countersEmb (U := UC sig nD τ)) c (.dma n) () (dst.view.amount (SemLoc.dma (sig := sig) n)) iprop(own c dst g ∗ own c src s)

/-- What a copy leaves in its window. -/
abbrev landed {S : Shape} (src : Memref sig .tc .vmem S .bf16) (dst : Memref sig .tc .hbm S .bf16)
    (s : BufTy.Contents (Elt F) src.view.ty) (g : BufTy.Contents (Elt F) dst.view.ty) : BufTy.Contents (Elt F) dst.view.ty :=
  dst.view.writes (Elt F) g [⟨Rect.whole S, ReadAs.same.apply (src.view.read (Elt F) s)⟩]

variable (c : Dev nD) (i : grid0.Coords)
  (arg2 : Memref sig .tc .vmem S2048x256 .bf16) (harg2 : arg2.IsWhole) (arg3 : Memref sig .tc .vmem S2048x256 .bf16) (harg3 : arg3.IsWhole)
  (arg4 : Memref sig .tc .vmem S2048x512 .bf16) (harg4 : arg4.IsWhole) (arg5 : Memref sig .tc .vmem S2048x512 .bf16) (harg5 : arg5.IsWhole)
  (arg6 : Memref sig .tc .vmem S1x2048x4 .f32) (harg6 : arg6.IsWhole)
  (X2 : BufTy.Contents (Elt F) arg2.view.ty) (X3 : BufTy.Contents (Elt F) arg3.view.ty) (X4 : BufTy.Contents (Elt F) arg4.view.ty)
  (X5 : BufTy.Contents (Elt F) arg5.view.ty) (X6 : BufTy.Contents (Elt F) arg6.view.ty)

set_option quotPrecheck false in
local notation:max "⟪" f "⟫" => f c i arg2 harg2 arg3 harg3 arg4 harg4 arg5 harg5 arg6 harg6

/-- The five input blocks. -/
abbrev Ins : sProp 𝕄 := iprop(own c arg2 X2 ∗ own c arg3 X3 ∗ own c arg4 X4 ∗ own c arg5 X5 ∗ own c arg6 X6)

/-- The body at a point. -/
abbrev body : Prog (TpuEff nD τ sig (Elt F) Λ₀ .tc) PUnit :=
  cc0_sb_attention_bwd i arg2 harg2 arg3 harg3 arg4 harg4 arg5 harg5 arg6 harg6 out (Memref.isWhole_whole _) out (Memref.isWhole_whole _)
    sc0 (Memref.isWhole_whole _) sc1 (Memref.isWhole_whole _) sc2 (Memref.isWhole_whole _) sc3 (Memref.isWhole_whole _) sc4 (Memref.isWhole_whole _) cc0_scratch5

/-- The state after the outer loop, entered with `dk`'s and `dv`'s sums at zero. -/
abbrev after1 (f9 : BufTy.Contents (Elt F) sc0.view.ty) : S1' (F := F) sc0 sc1 sc2 :=
  ⟪st1⟫ out (Memref.isWhole_whole _) out (Memref.isWhole_whole _)
    sc0 (Memref.isWhole_whole _) sc1 (Memref.isWhole_whole _) sc2 (Memref.isWhole_whole _) sc3 (Memref.isWhole_whole _) sc4 (Memref.isWhole_whole _) cc0_scratch5
    k0_pay204 k0_pay205 k0_pay206 0#32 X2 X3 X4 X5 X6
    (f9, sc1.view.writes (Elt F) sc1.view.junk [⟨Rect.unit (s := S2048x256) ![0, 0] S2048x256.size inb_S2048x256_S2048x256_0_0, k0_pay207⟩],
      sc2.view.writes (Elt F) sc2.view.junk [⟨Rect.unit (s := S2048x512) ![0, 0] S2048x512.size inb_S2048x512_S2048x512_0_0, k0_pay208⟩]) k0_t1_loop.trips

/-- What is known of the scratches after the body: the three sums, and what is sent of the last two. -/
abbrev Left (f9 s0 : BufTy.Contents (Elt F) sc0.view.ty) (s1 : BufTy.Contents (Elt F) sc1.view.ty) (s2 : BufTy.Contents (Elt F) sc2.view.ty)
    (s3 : BufTy.Contents (Elt F) sc3.view.ty) (s4 : BufTy.Contents (Elt F) sc4.view.ty) : Prop :=
  (s0, s1, s2) = ⟪after1⟫ X2 X3 X4 X5 X6 f9
    ∧ sc3.view.read (Elt F) s3 = k0_pay3 (sc1.view.read (Elt F) s1) ∧ sc4.view.read (Elt F) s4 = k0_pay4 (sc2.view.read (Elt F) s2)

/-- The first point: nothing is in flight before, the three copies are in flight after. -/
theorem run_first (h1 : ¬ k0_cond1 i = 1#1) (h2 : ¬ k0_cond2 i = 1#1) (f9 f10 f11 f12 f13) (vQ vK vV) (W : Waits sig Unit) (K : PUnit → sProp 𝕄) :
    iprop(Ins c arg2 arg3 arg4 arg5 arg6 X2 X3 X4 X5 X6 ∗ own c sc0 f9 ∗ own c sc1 f10 ∗ own c sc2 f11 ∗ own c sc3 f12 ∗ own c sc4 f13
        ∗ own c (winQ i) vQ ∗ own c (winK i) vK ∗ own c (winV i) vV
        ∗ semVal (c, SemLoc.dma 10) 0 ∗ semVal (c, SemLoc.dma 11) 0 ∗ semVal (c, SemLoc.dma 12) 0
        ∗ owes c 0 W
        ∗ (iprop(Ins c arg2 arg3 arg4 arg5 arg6 X2 X3 X4 X5 X6 ∗ (∃ s0 s1 s2 s3 s4, ⌜⟪Left⟫ X2 X3 X4 X5 X6 f9 s0 s1 s2 s3 s4⌝ ∗ own c sc1 s1 ∗ own c sc2 s2
            ∗ flight c 10 sc0 (winQ i) s0 (landed sc0 (winQ i) s0 vQ) ∗ flight c 11 sc3 (winK i) s3 (landed sc3 (winK i) s3 vK) ∗ flight c 12 sc4 (winV i) s4 (landed sc4 (winV i) s4 vV))
            ∗ ∃ W', owes c 0 W') -∗ K ⟨⟩))
      ⊢ wp frame (wpE (defs₀ (F := F)) Variants.none c none) Set.univ
          (body (F := F) i arg2 harg2 arg3 harg3 arg4 harg4 arg5 harg5 arg6 harg6) K := by
  unfold body
  rw [cc0_sb_attention_bwd_eq_skeleton]
  unfold cc0_sb_attention_bwd_skel
  iintro ⟨⟨H2, H3, H4, H5, H6⟩, H9, H10, H11, H12, H13, HQ, HK, HV, D0, D1, D2, HW, Hk⟩
  sl_exec
  generalize hz10 : sc1.view.writes (Elt F) sc1.view.junk _ = z10
  generalize hz11 : sc2.view.writes (Elt F) sc2.view.junk _ = z11
  sl_exec
  sl_step
  iapply Hk
  isplitl [H2 H3 H4 H5 H6]
  · iframe H2 H3 H4 H5 H6
  isplitl [H10 H11 D0 D1 D2]
  · iexists _, _, _, _, _
    isplitr
    rotate_left
    · iframe H10 H11 D0 D1 D2
    ipureintro
    subst hz10 hz11
    refine ⟨rfl, ?_, ?_⟩
    · exact (View.read_writes_full sc3.view _ _ _ _).trans (congrArg k0_pay3 (View.readAt_full sc1.view _ _))
    · exact (View.read_writes_full sc4.view _ _ _ _).trans (congrArg k0_pay4 (View.readAt_full sc2.view _ _))
  iexists _; iexact HW

/-- A point between: the copies of the point before land, the three of this one are in flight after. -/
theorem run_mid (i' : grid0.Coords) (h1 : k0_cond1 i = 1#1) (h2 : ¬ k0_cond2 i = 1#1) (f9 f10 f11 f12 f13) (gQ gK gV) (vQ vK vV) (W : Waits sig Unit) (K : PUnit → sProp 𝕄) :
    iprop(Ins c arg2 arg3 arg4 arg5 arg6 X2 X3 X4 X5 X6 ∗ own c sc1 f10 ∗ own c sc2 f11
        ∗ own c (winQ i) vQ ∗ own c (winK i) vK ∗ own c (winV i) vV
        ∗ flight c 10 sc0 (winQ i') f9 gQ ∗ flight c 11 sc3 (winK i') f12 gK ∗ flight c 12 sc4 (winV i') f13 gV
        ∗ owes c 0 W
        ∗ (iprop(Ins c arg2 arg3 arg4 arg5 arg6 X2 X3 X4 X5 X6 ∗ own c (winQ i') gQ ∗ own c (winK i') gK ∗ own c (winV i') gV
            ∗ (∃ s0 s1 s2 s3 s4, ⌜⟪Left⟫ X2 X3 X4 X5 X6 f9 s0 s1 s2 s3 s4⌝ ∗ own c sc1 s1 ∗ own c sc2 s2
            ∗ flight c 10 sc0 (winQ i) s0 (landed sc0 (winQ i) s0 vQ) ∗ flight c 11 sc3 (winK i) s3 (landed sc3 (winK i) s3 vK) ∗ flight c 12 sc4 (winV i) s4 (landed sc4 (winV i) s4 vV))
            ∗ ∃ W', owes c 0 W') -∗ K ⟨⟩))
      ⊢ wp frame (wpE (defs₀ (F := F)) Variants.none c none) Set.univ
          (body (F := F) i arg2 harg2 arg3 harg3 arg4 harg4 arg5 harg5 arg6 harg6) K := by
  unfold body
  rw [cc0_sb_attention_bwd_eq_skeleton]
  unfold cc0_sb_attention_bwd_skel
  iintro ⟨⟨H2, H3, H4, H5, H6⟩, H10, H11, HQ, HK, HV, D0, D1, D2, HW, Hk⟩
  sl_exec
  generalize hz10 : sc1.view.writes (Elt F) sc1.view.junk _ = z10
  generalize hz11 : sc2.view.writes (Elt F) sc2.view.junk _ = z11
  sl_exec
  sl_step
  iapply Hk
  isplitl [H2 H3 H4 H5 H6]
  · iframe H2 H3 H4 H5 H6
  iframe D0_dst D1_dst D2_dst
  isplitl [H10 H11 D0 D1 D2]
  · iexists _, _, _, _, _
    isplitr
    rotate_left
    · iframe H10 H11 D0 D1 D2
    ipureintro
    subst hz10 hz11
    refine ⟨rfl, ?_, ?_⟩
    · exact (View.read_writes_full sc3.view _ _ _ _).trans (congrArg k0_pay3 (View.readAt_full sc1.view _ _))
    · exact (View.read_writes_full sc4.view _ _ _ _).trans (congrArg k0_pay4 (View.readAt_full sc2.view _ _))
  iexists _; iexact HW

/-- The last point: the copies of the point before land, and so do its own. -/
theorem run_last (i' : grid0.Coords) (h1 : k0_cond1 i = 1#1) (h2 : k0_cond2 i = 1#1) (f9 f10 f11 f12 f13) (gQ gK gV) (vQ vK vV) (W : Waits sig Unit) (K : PUnit → sProp 𝕄) :
    iprop(Ins c arg2 arg3 arg4 arg5 arg6 X2 X3 X4 X5 X6 ∗ own c sc1 f10 ∗ own c sc2 f11
        ∗ own c (winQ i) vQ ∗ own c (winK i) vK ∗ own c (winV i) vV
        ∗ flight c 10 sc0 (winQ i') f9 gQ ∗ flight c 11 sc3 (winK i') f12 gK ∗ flight c 12 sc4 (winV i') f13 gV
        ∗ owes c 0 W
        ∗ (iprop(Ins c arg2 arg3 arg4 arg5 arg6 X2 X3 X4 X5 X6 ∗ own c (winQ i') gQ ∗ own c (winK i') gK ∗ own c (winV i') gV
            ∗ (∃ s0 s1 s2 s3 s4, ⌜⟪Left⟫ X2 X3 X4 X5 X6 f9 s0 s1 s2 s3 s4⌝ ∗ own c sc0 s0 ∗ own c sc1 s1 ∗ own c sc2 s2 ∗ own c sc3 s3 ∗ own c sc4 s4
              ∗ own c (winQ i) (landed sc0 (winQ i) s0 vQ) ∗ own c (winK i) (landed sc3 (winK i) s3 vK) ∗ own c (winV i) (landed sc4 (winV i) s4 vV))
            ∗ semVal (c, SemLoc.dma 10) 0 ∗ semVal (c, SemLoc.dma 11) 0 ∗ semVal (c, SemLoc.dma 12) 0
            ∗ ∃ W', owes c 0 W') -∗ K ⟨⟩))
      ⊢ wp frame (wpE (defs₀ (F := F)) Variants.none c none) Set.univ
          (body (F := F) i arg2 harg2 arg3 harg3 arg4 harg4 arg5 harg5 arg6 harg6) K := by
  unfold body
  rw [cc0_sb_attention_bwd_eq_skeleton]
  unfold cc0_sb_attention_bwd_skel
  iintro ⟨⟨H2, H3, H4, H5, H6⟩, H10, H11, HQ, HK, HV, D0, D1, D2, HW, Hk⟩
  sl_exec
  generalize hz10 : sc1.view.writes (Elt F) sc1.view.junk _ = z10
  generalize hz11 : sc2.view.writes (Elt F) sc2.view.junk _ = z11
  sl_exec
  sl_step
  iapply Hk
  isplitl [H2 H3 H4 H5 H6]
  · iframe H2 H3 H4 H5 H6
  iframe D0_dst D1_dst D2_dst
  isplitl [H10 H11 D0_src D1_src D2_src HQ HK HV]
  · iexists _, _, _, _, _
    isplitr
    rotate_left
    · iframe D0_src H10 H11 D1_src D2_src HQ HK HV
    ipureintro
    subst hz10 hz11
    refine ⟨rfl, ?_, ?_⟩
    · exact (View.read_writes_full sc3.view _ _ _ _).trans (congrArg k0_pay3 (View.readAt_full sc1.view _ _))
    · exact (View.read_writes_full sc4.view _ _ _ _).trans (congrArg k0_pay4 (View.readAt_full sc2.view _ _))
  iframe D0 D1 D2
  iexists _; iexact HW

end Cert.SbGradIdeal.Hand

end
-- ==== Proof.SbGrad.Det.lean ====
/-
  What the body leaves in its scratches does not depend on what they held before: the two sums start at zero, and the eight trips of the
  outer loop store every row of `dq`'s scratch.
-/
module

public import proofs.«01_k».proof.Proof.SbGrad.Run
public import Idealize.ShloMosaic.Lib.Pipeline.ValueKit

@[expose] public section

set_option maxRecDepth 16384

noncomputable section

namespace Cert.SbGradIdeal.Hand

open Cert.SbGradIdeal.Gen
open Idealize.ShloMosaic Idealize.ShloMosaic.TcCoe Idealize.ShloMosaic.Tactic
open Idealize.SL Idealize.SL.Sem

variable {F : FTy → Type} [FloatOps F] [Named F]

theorem off27 (k : Fin k0_t1_loop.trips) : k0_off27 k = ![256 * k.val, 0] := by
  have h : ∀ k : Fin 8, k0_off27 k 0 = 256 * k.val ∧ k0_off27 k 1 = 0 := by decide +kernel
  exact funext fun a => by fin_cases a <;> [exact (h k).1; exact (h k).2]
theorem off28 (k : Fin k0_t1_loop.trips) : k0_off28 k = ![256 * k.val, 128] := by
  have h : ∀ k : Fin 8, k0_off28 k 0 = 256 * k.val ∧ k0_off28 k 1 = 128 := by decide +kernel
  exact funext fun a => by fin_cases a <;> [exact (h k).1; exact (h k).2]

/-- Two stores of the two halves of a block of rows, over contents that agree on the rows before the block. -/
theorem halves_agree {κ : Kind} {sp : Space} {e : EltTy} {Val : EltTy → Type} (v : View sig κ sp S2048x256 e) (f f' : v.ty.Contents Val) (k : ℕ)
    {o o' : Fin 2 → ℕ} (ho : o = ![256 * k, 128]) (ho' : o' = ![256 * k, 0]) (hi hi' p q) (y : S2048x256.Idx) (hy : (y 0).val < 256 * (k + 1))
    (h : (y 0).val < 256 * k → v.read Val f y = v.read Val f' y) :
    v.read Val (v.writes Val f [⟨Rect.unit (s := S2048x256) o S256x128.size hi, p⟩, ⟨Rect.unit (s := S2048x256) o' S256x128.size hi', q⟩]) y
      = v.read Val (v.writes Val f' [⟨Rect.unit (s := S2048x256) o S256x128.size hi, p⟩, ⟨Rect.unit (s := S2048x256) o' S256x128.size hi', q⟩]) y := by
  have hy1 : (y 1).val < 256 := (y 1).isLt
  rw [View.read_writes_cons_unit v _ _ _ _ y ho, View.read_writes_cons_unit v _ _ _ _ y ho, View.read_writes_cons_unit v _ _ _ _ y ho',
    View.read_writes_cons_unit v _ _ _ _ y ho', View.writes_nil, View.writes_nil]
  split
  · rfl
  · split
    · rfl
    · rename_i h1 h2
      refine h (Nat.lt_of_not_le fun hle => ?_)
      rcases Nat.lt_or_ge (y 1).val 128 with hlt | hge
      · refine h2 fun a => ?_
        fin_cases a
        · exact ⟨hle, by show (y 0).val < 256 * k + 256; omega⟩
        · exact ⟨Nat.zero_le _, by show (y 1).val < 0 + 128; omega⟩
      · refine h1 fun a => ?_
        fin_cases a
        · exact ⟨hle, by show (y 0).val < 256 * k + 256; omega⟩
        · exact ⟨hge, by show (y 1).val < 128 + 128; omega⟩

variable (c : Dev nD) (i : grid0.Coords)
  (arg2 : Memref sig .tc .vmem S2048x256 .bf16) (harg2 : arg2.IsWhole) (arg3 : Memref sig .tc .vmem S2048x256 .bf16) (harg3 : arg3.IsWhole)
  (arg4 : Memref sig .tc .vmem S2048x512 .bf16) (harg4 : arg4.IsWhole) (arg5 : Memref sig .tc .vmem S2048x512 .bf16) (harg5 : arg5.IsWhole)
  (arg6 : Memref sig .tc .vmem S1x2048x4 .f32) (harg6 : arg6.IsWhole)
  (X2 : BufTy.Contents (Elt F) arg2.view.ty) (X3 : BufTy.Contents (Elt F) arg3.view.ty) (X4 : BufTy.Contents (Elt F) arg4.view.ty)
  (X5 : BufTy.Contents (Elt F) arg5.view.ty) (X6 : BufTy.Contents (Elt F) arg6.view.ty)

set_option quotPrecheck false in
local notation:max "⟪" f "⟫" => f c i arg2 harg2 arg3 harg3 arg4 harg4 arg5 harg5 arg6 harg6 X2 X3 X4 X5 X6

/-- One trip of the outer loop on the kernel's scratches. -/
abbrev tripAt (k : Fin k0_t1_loop.trips) :=
  trip1 (F := F) c i arg2 harg2 arg3 harg3 arg4 harg4 arg5 harg5 arg6 harg6 out (Memref.isWhole_whole _) out (Memref.isWhole_whole _)
    sc0 (Memref.isWhole_whole _) sc1 (Memref.isWhole_whole _) sc2 (Memref.isWhole_whole _) sc3 (Memref.isWhole_whole _) sc4 (Memref.isWhole_whole _) cc0_scratch5
    k0_pay204 k0_pay205 k0_pay206 0#32 X2 X3 X4 X5 X6 k

/-- The outer loop's state on the kernel's scratches. -/
abbrev stAt (G : S1' (F := F) sc0 sc1 sc2) (k : ℕ) : S1' (F := F) sc0 sc1 sc2 :=
  st1 c i arg2 harg2 arg3 harg3 arg4 harg4 arg5 harg5 arg6 harg6 out (Memref.isWhole_whole _) out (Memref.isWhole_whole _)
    sc0 (Memref.isWhole_whole _) sc1 (Memref.isWhole_whole _) sc2 (Memref.isWhole_whole _) sc3 (Memref.isWhole_whole _) sc4 (Memref.isWhole_whole _) cc0_scratch5
    k0_pay204 k0_pay205 k0_pay206 0#32 X2 X3 X4 X5 X6 G k

theorem stAt_succ (G : S1' (F := F) sc0 sc1 sc2) (k : Fin k0_t1_loop.trips) :
    ⟪stAt⟫ G (k.val + 1)
      = (let t := ⟪tripAt⟫ k
         let u := ⟪stAt⟫ G k.val
         (sc0.view.writes (Elt F) u.1 (t.1 u.2.1 u.2.2), t.2.1 u.2.1 u.2.2, t.2.2.1 u.2.1 u.2.2)) := by
  unfold stAt; rw [st1, dif_pos k.isLt]

/-- The two sums do not see what `dq`'s scratch held. -/
theorem stAt_sums (f f' g h) (k : ℕ) (hk : k ≤ 8) :
    (⟪stAt⟫ (f, g, h) k).2
      = (⟪stAt⟫ (f', g, h) k).2 := by
  induction k with
  | zero => rfl
  | succ k ih =>
    rw [⟪stAt_succ⟫ _ (⟨k, hk⟩ : Fin 8),
      ⟪stAt_succ⟫ (f', g, h) (⟨k, hk⟩ : Fin 8)]
    simp only [ih (by omega)]

/-- The two pieces a trip stores of `dq`: the two halves of its rows. -/
theorem trip_pieces (k : Fin k0_t1_loop.trips) (g h) : ∃ p q,
    (⟪tripAt⟫ k).1 g h
      = [⟨Rect.unit (s := S2048x256) (k0_off28 k) S256x128.size (k0_off28_inb k), p⟩,
         ⟨Rect.unit (s := S2048x256) (k0_off27 k) S256x128.size (k0_off27_inb k), q⟩] := ⟨_, _, rfl⟩

/-- After `k` trips the first `256 k` rows of `dq`'s scratch are stored. -/
theorem stAt_rows (f f' g h) (k : ℕ) (hk : k ≤ 8) (y : S2048x256.Idx) (hy : (y 0).val < 256 * k) :
    sc0.view.read (Elt F) (⟪stAt⟫ (f, g, h) k).1 y
      = sc0.view.read (Elt F) (⟪stAt⟫ (f', g, h) k).1 y := by
  induction k with
  | zero => omega
  | succ k ih =>
    rw [⟪stAt_succ⟫ _ (⟨k, hk⟩ : Fin 8),
      ⟪stAt_succ⟫ (f', g, h) (⟨k, hk⟩ : Fin 8)]
    simp only [⟪stAt_sums⟫ f f' g h k (by omega)]
    obtain ⟨p, q, e⟩ := ⟪trip_pieces⟫ (⟨k, hk⟩ : Fin 8)
      (⟪stAt⟫ (f', g, h) k).2.1
      (⟪stAt⟫ (f', g, h) k).2.2
    rw [e]
    exact halves_agree sc0.view _ _ k (off28 _) (off27 _) _ _ p q y hy (ih (by omega))

/-- The scratches after the body, whatever `dq`'s held before. -/
theorem left_det {f9 s0 s1 s2 s3 s4} (h : ⟪Left⟫ f9 s0 s1 s2 s3 s4) (f) :
    sc0.view.read (Elt F) s0 = sc0.view.read (Elt F) (⟪after1⟫ f).1
    ∧ sc3.view.read (Elt F) s3 = k0_pay3 (sc1.view.read (Elt F) (⟪after1⟫ f).2.1)
    ∧ sc4.view.read (Elt F) s4 = k0_pay4 (sc2.view.read (Elt F) (⟪after1⟫ f).2.2) := by
  obtain ⟨h, h3, h4⟩ := h
  have e0 : s0 = _ := congrArg Prod.fst h
  have e1 : (s1, s2) = _ := (congrArg Prod.snd h).trans (⟪stAt_sums⟫ f9 f _ _ 8 le_rfl)
  refine ⟨funext fun y => ?_, ?_, ?_⟩
  · rw [e0]
    exact ⟪stAt_rows⟫ f9 f _ _ 8 le_rfl y (y 0).isLt
  · rw [h3, show s1 = _ from congrArg Prod.fst e1]; rfl
  · rw [h4, show s2 = _ from congrArg Prod.snd e1]; rfl

end Cert.SbGradIdeal.Hand

end
-- ==== Proof.SbGrad.Windows.lean ====
/-
  The windows of the result that the points' copies write, and the contents that the copies leave in them.
-/
module

public import proofs.«01_k».proof.Proof.SbGrad.Det
public import proofs.«01_k».proof.Proof.Gen.SbGradIdeal.Frame
public import Idealize.ShloMosaic.Lib.Pipeline.Routed
public import Idealize.ShloMosaic.Lib.Pointwise

@[expose] public section

set_option maxRecDepth 16384
set_option maxHeartbeats 1000000

noncomputable section

namespace Cert.SbGradIdeal.Hand

open Cert.SbGradIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC Dat Cfg Window BodyObligation)

variable {F : FTy → Type} [FloatOps F] [Named F]

local notation "𝕄" => MT nD τ sig Unit (Elt F) ℕ (UC sig nD τ) ℕ

/-! ## The windows -/

/-- The grid point whose copies write an element of the result; 8 where none does. -/
def step (y : S4096x6144.Idx) : ℕ :=
  if (y 1).val < 4096 then
    (y 0).val / 2048 * 4 + (if (y 1).val < 1024 then (y 1).val / 256 else if (y 1).val < 2048 then ((y 1).val - 1024) / 256 else ((y 1).val - 2048) / 512)
  else 8

theorem offs (t : Fin cfg0.N) :
    (k0_off29 (grid0.coords t) 0 = t.val / 4 * 2048 ∧ k0_off29 (grid0.coords t) 1 = t.val % 4 * 256)
    ∧ (k0_off30 (grid0.coords t) 0 = t.val / 4 * 2048 ∧ k0_off30 (grid0.coords t) 1 = 1024 + t.val % 4 * 256)
    ∧ (k0_off31 (grid0.coords t) 0 = t.val / 4 * 2048 ∧ k0_off31 (grid0.coords t) 1 = 2048 + t.val % 4 * 512) :=
  (by decide +kernel : ∀ t : Fin grid0.N,
    (k0_off29 (grid0.coords t) 0 = t.val / 4 * 2048 ∧ k0_off29 (grid0.coords t) 1 = t.val % 4 * 256)
    ∧ (k0_off30 (grid0.coords t) 0 = t.val / 4 * 2048 ∧ k0_off30 (grid0.coords t) 1 = 1024 + t.val % 4 * 256)
    ∧ (k0_off31 (grid0.coords t) 0 = t.val / 4 * 2048 ∧ k0_off31 (grid0.coords t) 1 = 2048 + t.val % 4 * 512)) t

theorem conds (t : Fin cfg0.N) : (k0_cond1 (grid0.coords t) = 1#1 ↔ t.val ≠ 0) ∧ (k0_cond2 (grid0.coords t) = 1#1 ↔ t.val = 7) :=
  (by decide +kernel : ∀ t : Fin grid0.N, (k0_cond1 (grid0.coords t) = 1#1 ↔ t.val ≠ 0) ∧ (k0_cond2 (grid0.coords t) = 1#1 ↔ t.val = 7)) t

theorem t_lt (t : Fin cfg0.N) : t.val < 8 := t.isLt

theorem mem_winQ (t : Fin cfg0.N) (y : S4096x6144.Idx) : y ∈ (winQ (grid0.coords t)).view.set ↔ step y = t.val ∧ (y 1).val < 1024 := by
  refine ValueKit.mem_set_slice_whole_iff main_v28 _ _ ?_
  rw [Rect.mem_set_unit]
  refine Iff.trans Fin.forall_fin_two ?_
  rw [(offs t).1.1, (offs t).1.2]
  have h0 : (y 0).val < 4096 := (y 0).isLt
  have h1 : (y 1).val < 6144 := (y 1).isLt
  have := t_lt t
  show ((t.val / 4 * 2048 ≤ (y 0).val ∧ (y 0).val < t.val / 4 * 2048 + 2048) ∧ t.val % 4 * 256 ≤ (y 1).val ∧ (y 1).val < t.val % 4 * 256 + 256) ↔ _
  unfold step
  split_ifs <;> omega

theorem mem_winK (t : Fin cfg0.N) (y : S4096x6144.Idx) : y ∈ (winK (grid0.coords t)).view.set ↔ step y = t.val ∧ 1024 ≤ (y 1).val ∧ (y 1).val < 2048 := by
  refine ValueKit.mem_set_slice_whole_iff main_v28 _ _ ?_
  rw [Rect.mem_set_unit]
  refine Iff.trans Fin.forall_fin_two ?_
  rw [(offs t).2.1.1, (offs t).2.1.2]
  have h0 : (y 0).val < 4096 := (y 0).isLt
  have h1 : (y 1).val < 6144 := (y 1).isLt
  have := t_lt t
  show ((t.val / 4 * 2048 ≤ (y 0).val ∧ (y 0).val < t.val / 4 * 2048 + 2048) ∧ 1024 + t.val % 4 * 256 ≤ (y 1).val ∧ (y 1).val < 1024 + t.val % 4 * 256 + 256) ↔ _
  unfold step
  split_ifs <;> omega

theorem mem_winV (t : Fin cfg0.N) (y : S4096x6144.Idx) : y ∈ (winV (grid0.coords t)).view.set ↔ step y = t.val ∧ 2048 ≤ (y 1).val := by
  refine ValueKit.mem_set_slice_whole_iff main_v28 _ _ ?_
  rw [Rect.mem_set_unit]
  refine Iff.trans Fin.forall_fin_two ?_
  rw [(offs t).2.2.1, (offs t).2.2.2]
  have h0 : (y 0).val < 4096 := (y 0).isLt
  have h1 : (y 1).val < 6144 := (y 1).isLt
  have := t_lt t
  show ((t.val / 4 * 2048 ≤ (y 0).val ∧ (y 0).val < t.val / 4 * 2048 + 2048) ∧ 2048 + t.val % 4 * 512 ≤ (y 1).val ∧ (y 1).val < 2048 + t.val % 4 * 512 + 512) ↔ _
  unfold step
  split_ifs <;> omega

/-- The elements that point `n` writes, and those that it does not. -/
def wrote (n : ℕ) : Finset S4096x6144.Idx := Finset.univ.filter fun y => step y = n
def others (n : ℕ) : Finset S4096x6144.Idx := Finset.univ.filter fun y => step y ≠ n

theorem wrote_eq (t : Fin cfg0.N) : wrote t.val = (winQ (grid0.coords t)).view.set ∪ ((winK (grid0.coords t)).view.set ∪ (winV (grid0.coords t)).view.set) := by
  ext y
  rw [Finset.mem_union, Finset.mem_union, mem_winQ, mem_winK, mem_winV, wrote, Finset.mem_filter]
  have := Finset.mem_univ y
  constructor
  · rintro ⟨-, h⟩; omega
  · intro h; exact ⟨this, by omega⟩

/-- The elements that a point writes, held as its three windows. -/
theorem wrote_split (c : Dev nD) (t : Fin cfg0.N) (f : Buf (Elt F) ((c : Thread nD τ).loc main_v28)) :
    (((c : Thread nD τ).loc main_v28) ↦[wrote t.val]{fullShare} f : sProp 𝕄)
      ⊣⊢ iprop(own c (winQ (grid0.coords t)) f ∗ own c (winK (grid0.coords t)) f ∗ own c (winV (grid0.coords t)) f) := by
  have d1 : Disjoint (winQ (grid0.coords t)).view.set ((winK (grid0.coords t)).view.set ∪ (winV (grid0.coords t)).view.set) :=
    Finset.disjoint_left.mpr fun y hy hy' => by
      rw [mem_winQ] at hy; rw [Finset.mem_union, mem_winK, mem_winV] at hy'; omega
  have d2 : Disjoint (winK (grid0.coords t)).view.set (winV (grid0.coords t)).view.set :=
    Finset.disjoint_left.mpr fun y hy hy' => by
      rw [mem_winK] at hy; rw [mem_winV] at hy'; omega
  rw [wrote_eq]
  have e1 := pointsTo_union (Ix := Unit) (Name := ℕ) (U := UC sig nD τ) (Lvl := ℕ) (ℓ := (c : Thread nD τ).loc main_v28) (q := fullShare) (f := f) d1
  have e2 := pointsTo_union (Ix := Unit) (Name := ℕ) (U := UC sig nD τ) (Lvl := ℕ) (ℓ := (c : Thread nD τ).loc main_v28) (q := fullShare) (f := f) d2
  constructor
  · refine e1.1.trans ?_
    iintro ⟨HQ, H⟩
    ihave H' := e2.1 $$ H
    icases H' with ⟨HK, HV⟩
    iframe HQ HK HV
  · refine BIBase.Entails.trans ?_ e1.2
    iintro ⟨HQ, HK, HV⟩
    isplitl [HQ]; · iexact HQ
    iapply e2.2
    iframe HK HV

/-- The element of the result at rows and columns `y`, as an element of a point's block of `q`, `k` or `v` columns. -/
def finalOf {α : Type} (fq fk : Fin 8 → S2048x256.Idx → α) (fv : Fin 8 → S2048x512.Idx → α) (u : S4096x6144.Idx → α) (y : S4096x6144.Idx) : α :=
  have h0 : (y 0).val < 4096 := (y 0).isLt
  if h1 : (y 1).val < 1024 then
    fq ⟨(y 0).val / 2048 * 4 + (y 1).val / 256, by omega⟩ (ix2 ⟨(y 0).val % 2048, by omega⟩ ⟨(y 1).val % 256, by omega⟩)
  else if h2 : (y 1).val < 2048 then
    fk ⟨(y 0).val / 2048 * 4 + ((y 1).val - 1024) / 256, by omega⟩ (ix2 ⟨(y 0).val % 2048, by omega⟩ ⟨(y 1).val % 256, by omega⟩)
  else if h3 : (y 1).val < 4096 then
    fv ⟨(y 0).val / 2048 * 4 + ((y 1).val - 2048) / 512, by omega⟩ (ix2 ⟨(y 0).val % 2048, by omega⟩ ⟨(y 1).val % 512, by omega⟩)
  else u y

theorem finalOf_q {α : Type} (fq fk : Fin 8 → S2048x256.Idx → α) (fv : Fin 8 → S2048x512.Idx → α) (u : S4096x6144.Idx → α) (t : Fin 8) (x : S2048x256.Idx) (y : S4096x6144.Idx)
    (e0 : (y 0).val = t.val / 4 * 2048 + (x 0).val) (e1 : (y 1).val = t.val % 4 * 256 + (x 1).val) : finalOf fq fk fv u y = fq t x := by
  have hx0 : (x 0).val < 2048 := (x 0).isLt
  have hx1 : (x 1).val < 256 := (x 1).isLt
  unfold finalOf
  rw [dif_pos (by omega)]
  refine congrArg₂ fq (Fin.ext ?_) (funext fun a => ?_)
  · show _ / 2048 * 4 + _ / 256 = t.val; omega
  · fin_cases a
    · exact Fin.ext (by show _ % 2048 = (x 0).val; omega)
    · exact Fin.ext (by show _ % 256 = (x 1).val; omega)

theorem finalOf_k {α : Type} (fq fk : Fin 8 → S2048x256.Idx → α) (fv : Fin 8 → S2048x512.Idx → α) (u : S4096x6144.Idx → α) (t : Fin 8) (x : S2048x256.Idx) (y : S4096x6144.Idx)
    (e0 : (y 0).val = t.val / 4 * 2048 + (x 0).val) (e1 : (y 1).val = 1024 + t.val % 4 * 256 + (x 1).val) : finalOf fq fk fv u y = fk t x := by
  have hx0 : (x 0).val < 2048 := (x 0).isLt
  have hx1 : (x 1).val < 256 := (x 1).isLt
  unfold finalOf
  rw [dif_neg (by omega), dif_pos (by omega)]
  refine congrArg₂ fk (Fin.ext ?_) (funext fun a => ?_)
  · show _ / 2048 * 4 + (_ - 1024) / 256 = t.val; omega
  · fin_cases a
    · exact Fin.ext (by show _ % 2048 = (x 0).val; omega)
    · exact Fin.ext (by show _ % 256 = (x 1).val; omega)

theorem finalOf_v {α : Type} (fq fk : Fin 8 → S2048x256.Idx → α) (fv : Fin 8 → S2048x512.Idx → α) (u : S4096x6144.Idx → α) (t : Fin 8) (x : S2048x512.Idx) (y : S4096x6144.Idx)
    (e0 : (y 0).val = t.val / 4 * 2048 + (x 0).val) (e1 : (y 1).val = 2048 + t.val % 4 * 512 + (x 1).val) : finalOf fq fk fv u y = fv t x := by
  have hx0 : (x 0).val < 2048 := (x 0).isLt
  have hx1 : (x 1).val < 512 := (x 1).isLt
  unfold finalOf
  rw [dif_neg (by omega), dif_neg (by omega), dif_pos (by omega)]
  refine congrArg₂ fv (Fin.ext ?_) (funext fun a => ?_)
  · show _ / 2048 * 4 + (_ - 2048) / 512 = t.val; omega
  · fin_cases a
    · exact Fin.ext (by show _ % 2048 = (x 0).val; omega)
    · exact Fin.ext (by show _ % 512 = (x 1).val; omega)

/-- Where no point writes, the result keeps what the region found. -/
theorem finalOf_rest {α : Type} (fq fk : Fin 8 → S2048x256.Idx → α) (fv : Fin 8 → S2048x512.Idx → α) (u : S4096x6144.Idx → α) (y : S4096x6144.Idx)
    (h : ¬ (y 1).val < 4096) : finalOf fq fk fv u y = u y := by
  unfold finalOf
  rw [dif_neg (by omega), dif_neg (by omega), dif_neg h]

/-- The copy to `winQ`'s window leaves there what the result array ends with. -/
theorem landed_winQ (fq fk : Fin 8 → S2048x256.Idx → Elt F .bf16) (fv : Fin 8 → S2048x512.Idx → Elt F .bf16) (u : S4096x6144.Idx → Elt F .bf16) (t : Fin cfg0.N) (s : BufTy.Contents (Elt F) sc0.view.ty) (hs : sc0.view.read (Elt F) s = fq t)
    (g : BufTy.Contents (Elt F) (winQ (grid0.coords t)).view.ty) :
    ∀ y ∈ (winQ (grid0.coords t)).view.set, landed sc0 (winQ (grid0.coords t)) s g y = finalOf fq fk fv u y := by
  intro y hy
  obtain ⟨x, -, rfl⟩ := Finset.mem_map.mp hy
  have e0 : (((winQ (grid0.coords t)).view.emb x) 0).val = t.val / 4 * 2048 + (x 0).val :=
    (ValueKit.view_emb_slice_whole_unit_val main_v28 _ _ _ x 0).trans (congrArg (· + (x 0).val) (offs t).1.1)
  have e1 : (((winQ (grid0.coords t)).view.emb x) 1).val = t.val % 4 * 256 + (x 1).val :=
    (ValueKit.view_emb_slice_whole_unit_val main_v28 _ _ _ x 1).trans (congrArg (· + (x 1).val) (offs t).1.2)
  have key : ∀ L : BufTy.Contents (Elt F) (winQ (grid0.coords t)).view.ty, L ((winQ (grid0.coords t)).view.emb x) = (winQ (grid0.coords t)).view.read (Elt F) L x := fun L => rfl
  refine (key _).trans ?_
  rw [View.read_writes_whole]
  refine (congrFun hs x).trans ?_
  exact (finalOf_q fq fk fv u t x _ e0 e1).symm

/-- The copy to `winK`'s window leaves there what the result array ends with. -/
theorem landed_winK (fq fk : Fin 8 → S2048x256.Idx → Elt F .bf16) (fv : Fin 8 → S2048x512.Idx → Elt F .bf16) (u : S4096x6144.Idx → Elt F .bf16) (t : Fin cfg0.N) (s : BufTy.Contents (Elt F) sc3.view.ty) (hs : sc3.view.read (Elt F) s = fk t)
    (g : BufTy.Contents (Elt F) (winK (grid0.coords t)).view.ty) :
    ∀ y ∈ (winK (grid0.coords t)).view.set, landed sc3 (winK (grid0.coords t)) s g y = finalOf fq fk fv u y := by
  intro y hy
  obtain ⟨x, -, rfl⟩ := Finset.mem_map.mp hy
  have e0 : (((winK (grid0.coords t)).view.emb x) 0).val = t.val / 4 * 2048 + (x 0).val :=
    (ValueKit.view_emb_slice_whole_unit_val main_v28 _ _ _ x 0).trans (congrArg (· + (x 0).val) (offs t).2.1.1)
  have e1 : (((winK (grid0.coords t)).view.emb x) 1).val = 1024 + t.val % 4 * 256 + (x 1).val :=
    (ValueKit.view_emb_slice_whole_unit_val main_v28 _ _ _ x 1).trans (congrArg (· + (x 1).val) (offs t).2.1.2)
  have key : ∀ L : BufTy.Contents (Elt F) (winK (grid0.coords t)).view.ty, L ((winK (grid0.coords t)).view.emb x) = (winK (grid0.coords t)).view.read (Elt F) L x := fun L => rfl
  refine (key _).trans ?_
  rw [View.read_writes_whole]
  refine (congrFun hs x).trans ?_
  exact (finalOf_k fq fk fv u t x _ e0 e1).symm

/-- The copy to `winV`'s window leaves there what the result array ends with. -/
theorem landed_winV (fq fk : Fin 8 → S2048x256.Idx → Elt F .bf16) (fv : Fin 8 → S2048x512.Idx → Elt F .bf16) (u : S4096x6144.Idx → Elt F .bf16) (t : Fin cfg0.N) (s : BufTy.Contents (Elt F) sc4.view.ty) (hs : sc4.view.read (Elt F) s = fv t)
    (g : BufTy.Contents (Elt F) (winV (grid0.coords t)).view.ty) :
    ∀ y ∈ (winV (grid0.coords t)).view.set, landed sc4 (winV (grid0.coords t)) s g y = finalOf fq fk fv u y := by
  intro y hy
  obtain ⟨x, -, rfl⟩ := Finset.mem_map.mp hy
  have e0 : (((winV (grid0.coords t)).view.emb x) 0).val = t.val / 4 * 2048 + (x 0).val :=
    (ValueKit.view_emb_slice_whole_unit_val main_v28 _ _ _ x 0).trans (congrArg (· + (x 0).val) (offs t).2.2.1)
  have e1 : (((winV (grid0.coords t)).view.emb x) 1).val = 2048 + t.val % 4 * 512 + (x 1).val :=
    (ValueKit.view_emb_slice_whole_unit_val main_v28 _ _ _ x 1).trans (congrArg (· + (x 1).val) (offs t).2.2.2)
  have key : ∀ L : BufTy.Contents (Elt F) (winV (grid0.coords t)).view.ty, L ((winV (grid0.coords t)).view.emb x) = (winV (grid0.coords t)).view.read (Elt F) L x := fun L => rfl
  refine (key _).trans ?_
  rw [View.read_writes_whole]
  refine (congrFun hs x).trans ?_
  exact (finalOf_v fq fk fv u t x _ e0 e1).symm

variable (m : (ℓ : Loc nD τ sig) → Buf (Elt F) ℓ) (ρ : Dev nD → PrngReg)

/-! ## The contents -/

/-- A staging buffer's contents, of the block it holds. -/
abbrev X2 (c : Dev nD) (t : Fin cfg0.N) := (st0_0 t).view.rep (iblk m c 0 t)
abbrev X3 (c : Dev nD) (t : Fin cfg0.N) := (st0_1 t).view.rep (iblk m c 1 t)
abbrev X4 (c : Dev nD) (t : Fin cfg0.N) := (st0_2 t).view.rep (iblk m c 2 t)
abbrev X5 (c : Dev nD) (t : Fin cfg0.N) := (st0_3 t).view.rep (iblk m c 3 t)
abbrev X6 (c : Dev nD) (t : Fin cfg0.N) := (st0_4 t).view.rep (iblk m c 4 t)

/-- The three scratches after the outer loop of a point. -/
def done (c : Dev nD) (t : Fin cfg0.N) : S1' (F := F) sc0 sc1 sc2 :=
  after1 c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3)) (st0_4 t) (hstage0_4 ((cfg0.slots t 4).cast nbuf0_4))
    (X2 m c t) (X3 m c t) (X4 m c t) (X5 m c t) (X6 m c t) sc0.view.junk

/-- What a point sends: `dq`, `dk` and `dv` of its heads. -/
def dqOf (c : Dev nD) (t : Fin cfg0.N) : S2048x256.Idx → Elt F .bf16 := sc0.view.read (Elt F) (done m c t).1
def dkOf (c : Dev nD) (t : Fin cfg0.N) : S2048x256.Idx → Elt F .bf16 := k0_pay3 (sc1.view.read (Elt F) (done m c t).2.1)
def dvOf (c : Dev nD) (t : Fin cfg0.N) : S2048x512.Idx → Elt F .bf16 := k0_pay4 (sc2.view.read (Elt F) (done m c t).2.2)

/-- The result array at the end. -/
def final (c : Dev nD) : Buf (Elt F) ((c : Thread nD τ).loc main_v28) := finalOf (dqOf m c) (dkOf m c) (dvOf m c) (V m c main_v28)

/-- The result array when the copies of the points before `n` have landed. -/
def sofar (c : Dev nD) (n : ℕ) : Buf (Elt F) ((c : Thread nD τ).loc main_v28) := fun (y : S4096x6144.Idx) =>
  if step y < n then final m c y else V m c main_v28 y

end Cert.SbGradIdeal.Hand

end
-- ==== Proof.SbGrad.Frame.lean ====
/-
  The frame of the attention's backward call, over any numbers: every point's three copies land in its own windows of the result, so that
  the result ends at contents fixed by the arguments, and the arguments end as they began.
-/
module

public import proofs.«01_k».proof.Proof.SbGrad.Windows
public import Idealize.ShloMosaic.Lib.Pipeline.FrameValue

@[expose] public section

set_option maxRecDepth 16384
set_option maxHeartbeats 1000000

noncomputable section

namespace Cert.SbGradIdeal.Hand

open Cert.SbGradIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC Dat Cfg Window BodyObligation)

variable {F : FTy → Type} [FloatOps F] [Named F]

local notation "𝕄" => MT nD τ sig Unit (Elt F) ℕ (UC sig nD τ) ℕ

variable (m : (ℓ : Loc nD τ sig) → Buf (Elt F) ℓ) (ρ : Dev nD → PrngReg)

/-! ## The invariant between two points -/

/-- The semaphores of the three copies. -/
abbrev osem0 : Fin 3 → SemLoc sig := fun j => (![SemLoc.dma 10, SemLoc.dma 11, SemLoc.dma 12] : Fin 3 → SemLoc sig) j
theorem ownSemFacts0 : Pipeline.OwnSemFacts spec0 osem0 := by decide
theorem ownSems00_eq (c : Dev nD) :
    (Pipeline.ownSems0 (Ix := Unit) (Name := ℕ) (U := UC sig nD τ) (Lvl := ℕ) (Val := Elt F) (τ := τ) osem0 c : sProp 𝕄)
      = iprop(semVal (c, SemLoc.dma 10) 0 ∗ semVal (c, SemLoc.dma 11) 0 ∗ semVal (c, SemLoc.dma 12) 0) := by
  rw [Pipeline.ownSems0_eq_of_list c osem0 [0, 1, 2] (by decide) (by decide)]; rfl

/-- No copy in flight: the result at `f`, the three semaphores at zero, the five scratches at some contents. -/
def quiet (c : Dev nD) (f : Buf (Elt F) ((c : Thread nD τ).loc main_v28)) : sProp 𝕄 :=
  iprop((((c : Thread nD τ).loc main_v28) ↦{fullShare} f)
    ∗ (semVal (c, SemLoc.dma 10) 0 ∗ semVal (c, SemLoc.dma 11) 0 ∗ semVal (c, SemLoc.dma 12) 0)
    ∗ ((∃ f, own c sc0 f) ∗ (∃ f, own c sc1 f) ∗ (∃ f, own c sc2 f) ∗ (∃ f, own c sc3 f) ∗ (∃ f, own c sc4 f))
    ∗ ∃ r, prngReg c r)

/-- Point `t`'s three copies in flight: their windows will hold what the result ends with, the rest of the result is as the points before left it. -/
def inflight (c : Dev nD) (t : Fin cfg0.N) : sProp 𝕄 :=
  iprop((((c : Thread nD τ).loc main_v28) ↦[others t.val]{fullShare} sofar m c t.val)
    ∗ (∃ s g, ⌜∀ y ∈ (winQ (grid0.coords t)).view.set, g y = final m c y⌝ ∗ flight c 10 sc0 (winQ (grid0.coords t)) s g)
    ∗ (∃ s g, ⌜∀ y ∈ (winK (grid0.coords t)).view.set, g y = final m c y⌝ ∗ flight c 11 sc3 (winK (grid0.coords t)) s g)
    ∗ (∃ s g, ⌜∀ y ∈ (winV (grid0.coords t)).view.set, g y = final m c y⌝ ∗ flight c 12 sc4 (winV (grid0.coords t)) s g)
    ∗ ((∃ f, own c sc1 f) ∗ (∃ f, own c sc2 f))
    ∗ ∃ r, prngReg c r)

/-- The invariant before point `n`. -/
def inv (c : Dev nD) : ℕ → sProp 𝕄
  | 0 => quiet c (V m c main_v28)
  | n + 1 => if h : n < 7 then inflight m c ⟨n, Nat.lt_trans h (by decide : 7 < 8)⟩ else quiet c (final m c)

/-- The proof's data: the arrays as the region finds them, every input block in place after the body, and the invariant. -/
def dats (_ : Fin 1) (c : Dev nD) : Dat τ (Elt F) Unit ℕ (UC sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
  Φ n := inv m c n.val
  q w := Pipeline.shareOf spec0 w
  owed _ := 0

theorem A_eq (c : Dev nD) (w : Fin cfg0.W) : (dats m 0 c).A w = V m c (Pipeline.arrRef spec0 w) := by dsimp only [dats]

theorem before0 (c : Dev nD) (t : Fin cfg0.N) (d) : (dats m 0 c).before 0 t d = iblk m c 0 t :=
  ((dats m 0 c).before_in_eq_fetched 0 rfl (fun _ => rfl) (fun _ _ _ => rfl) (fun t => by dsimp only [dats]; unfold Dat.blockOf iblk; rfl) t d).trans (by unfold Dat.fetched Dat.blockOf iblk; rfl)
theorem before1 (c : Dev nD) (t : Fin cfg0.N) (d) : (dats m 0 c).before 1 t d = iblk m c 1 t :=
  ((dats m 0 c).before_in_eq_fetched 1 rfl (fun _ => rfl) (fun _ _ _ => rfl) (fun t => by dsimp only [dats]; unfold Dat.blockOf iblk; rfl) t d).trans (by unfold Dat.fetched Dat.blockOf iblk; rfl)
theorem before2 (c : Dev nD) (t : Fin cfg0.N) (d) : (dats m 0 c).before 2 t d = iblk m c 2 t :=
  ((dats m 0 c).before_in_eq_fetched 2 rfl (fun _ => rfl) (fun _ _ _ => rfl) (fun t => by dsimp only [dats]; unfold Dat.blockOf iblk; rfl) t d).trans (by unfold Dat.fetched Dat.blockOf iblk; rfl)
theorem before3 (c : Dev nD) (t : Fin cfg0.N) (d) : (dats m 0 c).before 3 t d = iblk m c 3 t :=
  ((dats m 0 c).before_in_eq_fetched 3 rfl (fun _ => rfl) (fun _ _ _ => rfl) (fun t => by dsimp only [dats]; unfold Dat.blockOf iblk; rfl) t d).trans (by unfold Dat.fetched Dat.blockOf iblk; rfl)
theorem before4 (c : Dev nD) (t : Fin cfg0.N) (d) : (dats m 0 c).before 4 t d = iblk m c 4 t :=
  ((dats m 0 c).before_in_eq_fetched 4 rfl (fun _ => rfl) (fun _ _ _ => rfl) (fun t => by dsimp only [dats]; unfold Dat.blockOf iblk; rfl) t d).trans (by unfold Dat.fetched Dat.blockOf iblk; rfl)

/-! ## The result's elements taken and put back -/

/-- Before its first copy a point takes its three windows out of the result. -/
theorem take_first (c : Dev nD) (t : Fin cfg0.N) (f : Buf (Elt F) ((c : Thread nD τ).loc main_v28)) :
    (((c : Thread nD τ).loc main_v28) ↦{fullShare} f : sProp 𝕄)
      ⊢ iprop((own c (winQ (grid0.coords t)) f ∗ own c (winK (grid0.coords t)) f ∗ own c (winV (grid0.coords t)) f)
          ∗ (((c : Thread nD τ).loc main_v28) ↦[others t.val]{fullShare} f)) := by
  have hs : (Finset.univ : Finset S4096x6144.Idx) \ wrote t.val = others t.val := by
    ext y; simp [wrote, others]
  refine (pointsTo_split_subset (I := wrote t.val) (Finset.subset_univ _)).1.trans ?_
  iintro ⟨H, HR⟩
  isplitl [H]
  · iapply (wrote_split c t f).1; iexact H
  · rw [← hs]; iexact HR

/-- The elements that neither of two points writes. -/
theorem others_sdiff {a b : ℕ} : others a \ wrote b = others b \ wrote a := by
  ext y; simp only [others, wrote, Finset.mem_sdiff, Finset.mem_filter, Finset.mem_univ, true_and]; tauto

theorem wrote_sub {a b : ℕ} (h : a ≠ b) : wrote a ⊆ others b := by
  intro y; simp only [others, wrote, Finset.mem_filter, Finset.mem_univ, true_and]; omega

/-- A later point takes its three windows out of the elements that the point before does not write. -/
theorem take_next (c : Dev nD) (t t' : Fin cfg0.N) (h : t.val ≠ t'.val) (f : Buf (Elt F) ((c : Thread nD τ).loc main_v28)) :
    (((c : Thread nD τ).loc main_v28) ↦[others t'.val]{fullShare} f : sProp 𝕄)
      ⊢ iprop((own c (winQ (grid0.coords t)) f ∗ own c (winK (grid0.coords t)) f ∗ own c (winV (grid0.coords t)) f)
          ∗ (((c : Thread nD τ).loc main_v28) ↦[others t'.val \ wrote t.val]{fullShare} f)) := by
  refine (pointsTo_split_subset (wrote_sub h)).1.trans ?_
  iintro ⟨H, HR⟩
  isplitl [H]
  · iapply (wrote_split c t f).1; iexact H
  · iexact HR

/-- The landed windows of a point, put back with the elements that it and the point after do not write. -/
theorem put_back (c : Dev nD) (t t' : Fin cfg0.N) (h : t'.val ≠ t.val) (f gQ gK gV) (f' : Buf (Elt F) ((c : Thread nD τ).loc main_v28))
    (hQ : ∀ y ∈ (winQ (grid0.coords t')).view.set, gQ y = f' y) (hK : ∀ y ∈ (winK (grid0.coords t')).view.set, gK y = f' y)
    (hV : ∀ y ∈ (winV (grid0.coords t')).view.set, gV y = f' y) (hr : ∀ y ∈ others t'.val \ wrote t.val, f y = f' y) :
    iprop((own c (winQ (grid0.coords t')) gQ ∗ own c (winK (grid0.coords t')) gK ∗ own c (winV (grid0.coords t')) gV)
        ∗ (((c : Thread nD τ).loc main_v28) ↦[others t'.val \ wrote t.val]{fullShare} f))
      ⊢ (((c : Thread nD τ).loc main_v28) ↦[others t.val]{fullShare} f' : sProp 𝕄) := by
  refine BIBase.Entails.trans ?_ (pointsTo_split_subset (wrote_sub h)).2
  have eQ := pointsTo_congr (Ix := Unit) (Name := ℕ) (U := UC sig nD τ) (Lvl := ℕ) (ℓ := (c : Thread nD τ).loc main_v28) (q := fullShare) hQ
  have eK := pointsTo_congr (Ix := Unit) (Name := ℕ) (U := UC sig nD τ) (Lvl := ℕ) (ℓ := (c : Thread nD τ).loc main_v28) (q := fullShare) hK
  have eV := pointsTo_congr (Ix := Unit) (Name := ℕ) (U := UC sig nD τ) (Lvl := ℕ) (ℓ := (c : Thread nD τ).loc main_v28) (q := fullShare) hV
  have er := pointsTo_congr (Ix := Unit) (Name := ℕ) (U := UC sig nD τ) (Lvl := ℕ) (ℓ := (c : Thread nD τ).loc main_v28) (q := fullShare) hr
  iintro ⟨⟨HQ, HK, HV⟩, HR⟩
  isplitr [HR]
  · iapply (wrote_split c t' f').2
    isplitl [HQ]; · iapply (Entails.of_eq eQ); iexact HQ
    isplitl [HK]; · iapply (Entails.of_eq eK); iexact HK
    iapply (Entails.of_eq eV); iexact HV
  · rw [others_sdiff (a := t.val) (b := t'.val)]; iapply (Entails.of_eq er); iexact HR

/-- The last point's windows, put back into the whole result. -/
theorem put_last (c : Dev nD) (t : Fin cfg0.N) (f gQ gK gV) (f' : Buf (Elt F) ((c : Thread nD τ).loc main_v28))
    (hQ : ∀ y ∈ (winQ (grid0.coords t)).view.set, gQ y = f' y) (hK : ∀ y ∈ (winK (grid0.coords t)).view.set, gK y = f' y)
    (hV : ∀ y ∈ (winV (grid0.coords t)).view.set, gV y = f' y) (hr : ∀ y ∈ others t.val, f y = f' y) :
    iprop((own c (winQ (grid0.coords t)) gQ ∗ own c (winK (grid0.coords t)) gK ∗ own c (winV (grid0.coords t)) gV)
        ∗ (((c : Thread nD τ).loc main_v28) ↦[others t.val]{fullShare} f))
      ⊢ (((c : Thread nD τ).loc main_v28) ↦{fullShare} f' : sProp 𝕄) := by
  have hs : (Finset.univ : Finset S4096x6144.Idx) \ wrote t.val = others t.val := by
    ext y; simp [wrote, others]
  refine BIBase.Entails.trans ?_ (pointsTo_split_subset (I := wrote t.val) (Finset.subset_univ _)).2
  have eQ := pointsTo_congr (Ix := Unit) (Name := ℕ) (U := UC sig nD τ) (Lvl := ℕ) (ℓ := (c : Thread nD τ).loc main_v28) (q := fullShare) hQ
  have eK := pointsTo_congr (Ix := Unit) (Name := ℕ) (U := UC sig nD τ) (Lvl := ℕ) (ℓ := (c : Thread nD τ).loc main_v28) (q := fullShare) hK
  have eV := pointsTo_congr (Ix := Unit) (Name := ℕ) (U := UC sig nD τ) (Lvl := ℕ) (ℓ := (c : Thread nD τ).loc main_v28) (q := fullShare) hV
  have er := pointsTo_congr (Ix := Unit) (Name := ℕ) (U := UC sig nD τ) (Lvl := ℕ) (ℓ := (c : Thread nD τ).loc main_v28) (q := fullShare) hr
  iintro ⟨⟨HQ, HK, HV⟩, HR⟩
  isplitr [HR]
  · iapply (wrote_split c t f').2
    isplitl [HQ]; · iapply (Entails.of_eq eQ); iexact HQ
    isplitl [HK]; · iapply (Entails.of_eq eK); iexact HK
    iapply (Entails.of_eq eV); iexact HV
  · rw [hs]; iapply (Entails.of_eq er); iexact HR

/-! ## What the array holds between the points -/

theorem sofar_zero (c : Dev nD) (y : S4096x6144.Idx) : V m c main_v28 y = sofar m c 0 y := by
  unfold sofar; rw [if_neg (Nat.not_lt_zero _)]

theorem sofar_step (c : Dev nD) (n : ℕ) (k : ℕ) (y : S4096x6144.Idx) (hy : y ∈ others n \ wrote k) : sofar m c n y = sofar m c (n + 1) y := by
  have h : step y ≠ n := (Finset.mem_filter.mp (Finset.mem_sdiff.mp hy).1).2
  unfold sofar
  by_cases h' : step y < n
  · rw [if_pos h', if_pos (by omega)]
  · rw [if_neg h', if_neg (by omega)]

theorem sofar_of_lt (c : Dev nD) (n : ℕ) (y : S4096x6144.Idx) (h : step y < n) : sofar m c n y = final m c y := by
  unfold sofar; rw [if_pos h]

theorem sofar_last (c : Dev nD) (y : S4096x6144.Idx) (hy : y ∈ others 7) : sofar m c 7 y = final m c y := by
  have h : step y ≠ 7 := (Finset.mem_filter.mp hy).2
  by_cases h' : step y < 7
  · exact sofar_of_lt m c 7 y h'
  · unfold sofar final
    rw [if_neg h']
    refine (finalOf_rest _ _ _ _ y fun h1 => h' ?_).symm
    have h0 : (y 0).val < 4096 := (y 0).isLt
    unfold step at h ⊢
    rw [if_pos h1] at h ⊢
    split_ifs at h ⊢ <;> omega

/-- What a point sends, of what its run leaves. -/
theorem sent (c : Dev nD) (t : Fin cfg0.N) {f9 s0 s1 s2 s3 s4} (h : Left c (grid0.coords t) (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3)) (st0_4 t) (hstage0_4 ((cfg0.slots t 4).cast nbuf0_4))
      (X2 m c t) (X3 m c t) (X4 m c t) (X5 m c t) (X6 m c t) f9 s0 s1 s2 s3 s4) :
    (∀ g, ∀ y ∈ (winQ (grid0.coords t)).view.set, landed sc0 (winQ (grid0.coords t)) s0 g y = final m c y)
    ∧ (∀ g, ∀ y ∈ (winK (grid0.coords t)).view.set, landed sc3 (winK (grid0.coords t)) s3 g y = final m c y)
    ∧ (∀ g, ∀ y ∈ (winV (grid0.coords t)).view.set, landed sc4 (winV (grid0.coords t)) s4 g y = final m c y) := by
  obtain ⟨e0, e3, e4⟩ := left_det _ _ _ _ _ _ _ _ _ _ _ _ _ _ _ _ _ h sc0.view.junk
  exact ⟨landed_winQ (dqOf m c) (dkOf m c) (dvOf m c) (V m c main_v28) t s0 e0, landed_winK (dqOf m c) (dkOf m c) (dvOf m c) (V m c main_v28) t s3 e3,
    landed_winV (dqOf m c) (dkOf m c) (dvOf m c) (V m c main_v28) t s4 e4⟩

/-! ## The body at a point -/

theorem own_of_owns (c : Dev nD) {sp : Space} {S : Shape} {e : EltTy} (M : Memref sig .tc sp S e) (x : S.Idx → Elt F e) :
    (owns c M fullShare x : sProp 𝕄) ⊢ own c M (M.view.rep x) := by
  unfold owns
  iintro ⟨%f, %h, H⟩
  subst h
  iapply (pointsTo_rep_entails c M f fullShare); iexact H

theorem owns_of_own (c : Dev nD) {sp : Space} {S : Shape} {e : EltTy} (M : Memref sig .tc sp S e) (x : S.Idx → Elt F e) :
    (own c M (M.view.rep x) : sProp 𝕄) ⊢ owns c M fullShare x := by
  unfold owns
  iintro H
  iexists _
  isplitr
  rotate_left
  · iexact H
  ipureintro; exact View.read_rep _ _

/-- The five input blocks at a point. -/
abbrev InsAt (c : Dev nD) (t : Fin cfg0.N) : sProp 𝕄 :=
  Ins c (st0_0 t) (st0_1 t) (st0_2 t) (st0_3 t) (st0_4 t) (X2 m c t) (X3 m c t) (X4 m c t) (X5 m c t) (X6 m c t)

theorem inv_zero (c : Dev nD) : inv m c 0 = quiet c (V m c main_v28) := rfl
theorem inv_mid (c : Dev nD) (t : Fin cfg0.N) (h : t.val < 7) : inv m c (t.val + 1) = inflight m c t := by
  exact dif_pos h
theorem inv_done (c : Dev nD) (n : ℕ) (h : ¬ n < 7) : inv m c (n + 1) = quiet c (final m c) := by
  exact dif_neg h
theorem inv_last (c : Dev nD) : inv m c 8 = quiet c (final m c) := inv_done m c 7 (by decide)

/-- A point's run, from the invariant before it to the invariant after it. -/
theorem body_run (c : Dev nD) (t : Fin cfg0.N) (W : Waits sig Unit) (K : PUnit → sProp 𝕄) :
    iprop(inv m c t.val ∗ InsAt m c t ∗ owes c 0 W
        ∗ (iprop(inv m c (t.val + 1) ∗ InsAt m c t ∗ ∃ W', owes c 0 W') -∗ K ⟨⟩))
      ⊢ wp frame (wpE (defs₀ (F := F)) Variants.none c none) Set.univ (bodyAt0 t) K := by
  obtain ⟨n, hn⟩ := t
  have hN : cfg0.N = 8 := N_0
  rcases n with _ | n
  · generalize ht : (⟨0, hn⟩ : Fin cfg0.N) = t
    have hv : t.val = 0 := by rw [← ht]
    rw [inv_mid m c t (by omega), hv, inv_zero]
    unfold quiet inflight
    iintro ⟨⟨HO, ⟨D0, D1, D2⟩, ⟨⟨%f9, H9⟩, ⟨%f10, H10⟩, ⟨%f11, H11⟩, ⟨%f12, H12⟩, ⟨%f13, H13⟩⟩, Hp⟩, HI, HW, Hk⟩
    ihave HO := (take_first c t _) $$ HO
    icases HO with ⟨⟨HQ, HK, HV⟩, HO⟩
    iapply (run_first c (grid0.coords t) _ _ _ _ _ _ _ _ _ _
      (X2 m c t) (X3 m c t) (X4 m c t) (X5 m c t) (X6 m c t) (fun h => (conds t).1.mp h hv) (fun h => by have := (conds t).2.mp h; omega) f9 f10 f11 f12 f13 _ _ _ W K)
    iframe HI H9 H10 H11 H12 H13 HQ HK HV D0 D1 D2 HW
    iintro ⟨HI, ⟨%s0, %s1, %s2, %s3, %s4, %hl, H10, H11, D0, D1, D2⟩, HW⟩
    obtain ⟨eQ, eK, eV⟩ := sent m c t hl
    iapply Hk
    isplitr [HI HW]
    · isplitl [HO]
      · rw [hv]
        iapply (Entails.of_eq (pointsTo_congr fun y _ => sofar_zero m c y)); iexact HO
      isplitl [D0]
      · iexists _, _; isplitr
        rotate_left
        · iexact D0
        ipureintro; exact eQ _
      isplitl [D1]
      · iexists _, _; isplitr
        rotate_left
        · iexact D1
        ipureintro; exact eK _
      isplitl [D2]
      · iexists _, _; isplitr
        rotate_left
        · iexact D2
        ipureintro; exact eV _
      isplitl [H10 H11]
      · isplitl [H10]
        · iexists _; iexact H10
        · iexists _; iexact H11
      iexact Hp
    iframe HI HW
  · generalize ht : (⟨n + 1, hn⟩ : Fin cfg0.N) = t
    have hv : t.val = n + 1 := by rw [← ht]
    have hlt : t.val < 8 := hN ▸ t.isLt
    generalize ht' : (⟨n, by omega⟩ : Fin cfg0.N) = t'
    have hv' : t'.val = n := by rw [← ht']
    have hne : t.val ≠ t'.val := by omega
    have hi : inv m c t.val = inflight m c t' := by rw [hv, ← hv']; exact inv_mid m c t' (by omega)
    have hc1 : k0_cond1 (grid0.coords t) = 1#1 := (conds t).1.mpr (by omega)
    have hsQ : ∀ y ∈ (winQ (grid0.coords t')).view.set, final m c y = sofar m c t.val y := fun y hy => (sofar_of_lt m c _ y (by have := (mem_winQ t' y).mp hy; omega)).symm
    have hsK : ∀ y ∈ (winK (grid0.coords t')).view.set, final m c y = sofar m c t.val y := fun y hy => (sofar_of_lt m c _ y (by have := (mem_winK t' y).mp hy; omega)).symm
    have hsV : ∀ y ∈ (winV (grid0.coords t')).view.set, final m c y = sofar m c t.val y := fun y hy => (sofar_of_lt m c _ y (by have := (mem_winV t' y).mp hy; omega)).symm
    have hsR : ∀ y ∈ others t'.val \ wrote t.val, sofar m c t'.val y = sofar m c t.val y := fun y hy => by
      rw [hv, ← hv']; exact sofar_step m c _ _ y hy
    rw [hi]
    by_cases h7 : t.val < 7
    · rw [inv_mid m c t h7]
      unfold inflight
      iintro ⟨⟨HO, ⟨%fa, %ga, %ea, D0⟩, ⟨%fb, %gb, %eb, D1⟩, ⟨%fc, %gc, %ec, D2⟩, ⟨⟨%f10, H10⟩, ⟨%f11, H11⟩⟩, Hp⟩, HI, HW, Hk⟩
      ihave HO := (take_next c t t' hne _) $$ HO
      icases HO with ⟨⟨HQ, HK, HV⟩, HO⟩
      iapply (run_mid c (grid0.coords t) _ _ _ _ _ _ _ _ _ _
      (X2 m c t) (X3 m c t) (X4 m c t) (X5 m c t) (X6 m c t) (grid0.coords t') hc1 (fun h => by have := (conds t).2.mp h; omega) fa f10 f11 fb fc ga gb gc _ _ _ W K)
      iframe HI H10 H11 HQ HK HV D0 D1 D2 HW
      iintro ⟨HI, WQ, WK, WV, ⟨%s0, %s1, %s2, %s3, %s4, %hl, H10, H11, D0, D1, D2⟩, HW⟩
      obtain ⟨eQ, eK, eV⟩ := sent m c t hl
      iapply Hk
      isplitr [HI HW]
      · isplitl [HO WQ WK WV]
        · iapply (put_back c t t' (Ne.symm hne) _ ga gb gc (sofar m c t.val) (fun y hy => (ea y hy).trans (hsQ y hy))
            (fun y hy => (eb y hy).trans (hsK y hy)) (fun y hy => (ec y hy).trans (hsV y hy)) hsR)
          isplitr [HO]
          · iframe WQ WK WV
          iexact HO
        isplitl [D0]
        · iexists _, _; isplitr
          rotate_left
          · iexact D0
          ipureintro; exact eQ _
        isplitl [D1]
        · iexists _, _; isplitr
          rotate_left
          · iexact D1
          ipureintro; exact eK _
        isplitl [D2]
        · iexists _, _; isplitr
          rotate_left
          · iexact D2
          ipureintro; exact eV _
        isplitl [H10 H11]
        · isplitl [H10]
          · iexists _; iexact H10
          · iexists _; iexact H11
        iexact Hp
      iframe HI HW
    · have h8 : t.val = 7 := by omega
      rw [show inv m c (t.val + 1) = quiet c (final m c) from by rw [h8]; exact inv_last m c]
      unfold inflight
      iintro ⟨⟨HO, ⟨%fa, %ga, %ea, D0⟩, ⟨%fb, %gb, %eb, D1⟩, ⟨%fc, %gc, %ec, D2⟩, ⟨⟨%f10, H10⟩, ⟨%f11, H11⟩⟩, Hp⟩, HI, HW, Hk⟩
      ihave HO := (take_next c t t' hne _) $$ HO
      icases HO with ⟨⟨HQ, HK, HV⟩, HO⟩
      iapply (run_last c (grid0.coords t) _ _ _ _ _ _ _ _ _ _
      (X2 m c t) (X3 m c t) (X4 m c t) (X5 m c t) (X6 m c t) (grid0.coords t') hc1 ((conds t).2.mpr h8) fa f10 f11 fb fc ga gb gc _ _ _ W K)
      iframe HI H10 H11 HQ HK HV D0 D1 D2 HW
      iintro ⟨HI, WQ, WK, WV, ⟨%s0, %s1, %s2, %s3, %s4, %hl, H9, H10, H11, H12, H13, HQ, HK, HV⟩, D0, D1, D2, HW⟩
      obtain ⟨eQ, eK, eV⟩ := sent m c t hl
      iapply Hk
      unfold quiet
      isplitr [HI HW]
      · isplitl [HO WQ WK WV HQ HK HV]
        · iapply (put_last c t (sofar m c t.val) _ _ _ (final m c) (eQ _) (eK _) (eV _) (fun y hy => by rw [h8] at hy ⊢; exact sofar_last m c y hy))
          isplitl [HQ HK HV]
          · iframe HQ HK HV
          iapply (put_back c t t' (Ne.symm hne) _ ga gb gc (sofar m c t.val) (fun y hy => (ea y hy).trans (hsQ y hy))
            (fun y hy => (eb y hy).trans (hsK y hy)) (fun y hy => (ec y hy).trans (hsV y hy)) hsR)
          isplitr [HO]
          · iframe WQ WK WV
          iexact HO
        isplitl [D0 D1 D2]
        · iframe D0 D1 D2
        isplitl [H9 H10 H11 H12 H13]
        · isplitl [H9]; · iexists _; iexact H9
          isplitl [H10]; · iexists _; iexact H10
          isplitl [H11]; · iexists _; iexact H11
          isplitl [H12]; · iexists _; iexact H12
          iexists _; iexact H13
        iexact Hp
      iframe HI HW

/-! ## The body's obligation -/

def bodyPre (c : Dev nD) (t : Fin cfg0.N) : sProp 𝕄 :=
  iprop((dats m 0 c).Φ t.castSucc ∗ (dats m 0 c).owesAt () t.castSucc
    ∗ (∃ d, owns c (st0_0 t) fullShare ((dats m 0 c).before 0 t d))
    ∗ (∃ d, owns c (st0_1 t) fullShare ((dats m 0 c).before 1 t d))
    ∗ (∃ d, owns c (st0_2 t) fullShare ((dats m 0 c).before 2 t d))
    ∗ (∃ d, owns c (st0_3 t) fullShare ((dats m 0 c).before 3 t d))
    ∗ (∃ d, owns c (st0_4 t) fullShare ((dats m 0 c).before 4 t d)))
def bodyPost (c : Dev nD) (t : Fin cfg0.N) : sProp 𝕄 :=
  iprop((dats m 0 c).Φ t.succ ∗ (dats m 0 c).owesAt () t.succ
    ∗ owns c (st0_0 t) fullShare ((dats m 0 c).after 0 t)
    ∗ owns c (st0_1 t) fullShare ((dats m 0 c).after 1 t)
    ∗ owns c (st0_2 t) fullShare ((dats m 0 c).after 2 t)
    ∗ owns c (st0_3 t) fullShare ((dats m 0 c).after 3 t)
    ∗ owns c (st0_4 t) fullShare ((dats m 0 c).after 4 t))

theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [show (dats m 0 c).Φ t.succ = inv m c (t.val + 1) from rfl, show (dats m 0 c).Φ t.castSucc = inv m c t.val from rfl]
  unfold Dat.owesAt Pipeline.owesWithin
  rw [show (dats m 0 c).owed t.castSucc = 0 from rfl, show (dats m 0 c).owed t.succ = 0 from rfl]
  iintro ⟨HΦ, ⟨%W, -, HW⟩, ⟨%d0, H0⟩, ⟨%d1, H1⟩, ⟨%d2, H2⟩, ⟨%d3, H3⟩, ⟨%d4, H4⟩⟩
  rw [before0, before1, before2, before3, before4]
  ihave H0 := (own_of_owns c (st0_0 t) _) $$ H0
  ihave H1 := (own_of_owns c (st0_1 t) _) $$ H1
  ihave H2 := (own_of_owns c (st0_2 t) _) $$ H2
  ihave H3 := (own_of_owns c (st0_3 t) _) $$ H3
  ihave H4 := (own_of_owns c (st0_4 t) _) $$ H4
  iapply (body_run m c t W _)
  isplitl [HΦ]; · iexact HΦ
  isplitl [H0 H1 H2 H3 H4]
  · iframe H0 H1 H2 H3 H4
  isplitl [HW]; · iexact HW
  iintro ⟨HΦ, ⟨H0, H1, H2, H3, H4⟩, ⟨%W', HW'⟩⟩
  isplitl [HΦ]; · iexact HΦ
  isplitl [HW']
  · iexists W'; isplitr; · ipureintro; exact fun _ _ => Or.inl trivial
    iexact HW'
  isplitl [H0]; · iapply (owns_of_own c (st0_0 t) _); iexact H0
  isplitl [H1]; · iapply (owns_of_own c (st0_1 t) _); iexact H1
  isplitl [H2]; · iapply (owns_of_own c (st0_2 t) _); iexact H2
  isplitl [H3]; · iapply (owns_of_own c (st0_3 t) _); iexact H3
  iapply (owns_of_own c (st0_4 t) _); iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option maxHeartbeats 800000 in
theorem hmain_copies (𝒱₀ : Variants) : Pipeline.HMain (Ix := Unit) (Name := ℕ) (U := UC sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- The one array that the copies write. -/
abbrev R0 : Finset (Ref sig .tc) := {main_v28}

theorem R0_sub : R0 ⊆ Pipeline.restRefs sig cfg0.spec \ ∅ := by
  rw [Finset.sdiff_empty]
  exact Finset.singleton_subset_iff.mpr (Pipeline.mem_restRefs_of main_v28 (by decide) (by decide))

/-- The unstaged arrays at the end. -/
def Yend (c : Dev nD) (b : Ref sig .tc) : Buf (Elt F) ((c : Thread nD τ).loc b) :=
  if h : b = main_v28 then h ▸ final m c else V m c b

theorem Yend_result (c : Dev nD) : Yend m c main_v28 = final m c := by unfold Yend; rw [dif_pos rfl]

theorem enter (c : Dev nD) : Pipeline.ΦDRG osem0 cfg0.spec ∅ R0 (V m) (V m) c ⊢ (dats m 0 c).Φ 0 := by
  rw [show (dats m 0 c).Φ 0 = quiet c (V m c main_v28) from rfl]
  unfold quiet
  rw [Pipeline.ΦDRG_eq, bigSep_empty, Pipeline.routed_singleton, ownSems00_eq, show (cfg0.spec) = spec0 from rfl, scopedRest0_eq]
  iintro ⟨⟨⟨%f0, A0⟩, ⟨%f1, A1⟩, ⟨%f2, A2⟩, ⟨%f3, A3⟩, ⟨%f4, A4⟩⟩, Hp, HS, -, HR⟩
  iframe HR HS
  isplitl [A0 A1 A2 A3 A4]
  · isplitl [A0]; · iexists f0; unfold own; simp only [Memref.view, View.set_whole]; iexact A0
    isplitl [A1]; · iexists f1; unfold own; simp only [Memref.view, View.set_whole]; iexact A1
    isplitl [A2]; · iexists f2; unfold own; simp only [Memref.view, View.set_whole]; iexact A2
    isplitl [A3]; · iexists f3; unfold own; simp only [Memref.view, View.set_whole]; iexact A3
    iexists f4; unfold own; simp only [Memref.view, View.set_whole]; iexact A4
  iexact Hp

theorem leave (c : Dev nD) : (dats m 0 c).Φ (Fin.last cfg0.N) ⊢ Pipeline.ΦDRG osem0 cfg0.spec ∅ R0 (V m) (Yend m) c := by
  rw [show (dats m 0 c).Φ (Fin.last cfg0.N) = inv m c cfg0.N from rfl, show cfg0.N = 8 from N_0, inv_last]
  unfold quiet
  rw [Pipeline.ΦDRG_eq, bigSep_empty, Pipeline.routed_singleton, Yend_result, ownSems00_eq, show (cfg0.spec) = spec0 from rfl, scopedRest0_eq]
  iintro ⟨HR, HS, ⟨⟨%f0, A0⟩, ⟨%f1, A1⟩, ⟨%f2, A2⟩, ⟨%f3, A3⟩, ⟨%f4, A4⟩⟩, Hp⟩
  isplitl [A0 A1 A2 A3 A4]
  · isplitl [A0]; · iexists f0; unfold own; simp only [Memref.view, View.set_whole]; iexact A0
    isplitl [A1]; · iexists f1; unfold own; simp only [Memref.view, View.set_whole]; iexact A1
    isplitl [A2]; · iexists f2; unfold own; simp only [Memref.view, View.set_whole]; iexact A2
    isplitl [A3]; · iexists f3; unfold own; simp only [Memref.view, View.set_whole]; iexact A3
    iexists f4; unfold own; simp only [Memref.view, View.set_whole]; iexact A4
  iframe Hp HS
  isplitr [HR]; · iempintro
  iexact HR

/-- Every run ends with the result at `final` and the arguments as they began, every semaphore at zero. -/
def Ends (r : PUnit × MemSt nD τ sig (Elt F)) : Prop :=
  (∀ c : Dev nD, r.2.mem ((c.tc : Thread nD τ).loc main_v28) = final m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2))
  ∧ r.2.sem = fun _ => 0

set_option backward.isDefEq.respectTransparency.types false in
theorem run_main : θ_run defs (onTc (τ := τ) (main (F := F))) (s₀ m ρ) (Ends m) :=
  Pipeline.θ_run_frame_dmaRG_shared (Q' := _) cfgs (dats m) (0 : Fin 1) launch₀0 osem0 defs₀ Variants.none ownSemFacts0 ∅ R0 (Finset.empty_subset _) R0_sub m ρ main
    (hbody := fun c => (body_obligation m c).loose) (hq := fun _ _ _ => rfl)
    (howed := fun _ _ => rfl) (V := V m) (hmain := hmain_copies m Variants.none) (hA := A_eq m)
    (G := Yend m) (hin := enter m) (hout := leave m)
    (hQ' := fun r h => ⟨fun c => ⟨(h.1.2 c main_v28 (Finset.mem_singleton_self _)).trans (Yend_result m c),
      ((h.1.1 c).1 2).trans (((dats m 0 c).arrAt_in 2 rfl _).trans ((A_eq m c 2).trans (V_main_arg0 m c))),
      ((h.1.1 c).1 3).trans (((dats m 0 c).arrAt_in 3 rfl _).trans ((A_eq m c 3).trans (V_main_arg1 m c))),
      ((h.1.1 c).2 main_arg2 (Finset.mem_sdiff.mpr ⟨Pipeline.mem_restRefs_of main_arg2 (by decide) (by decide), by decide⟩)).trans (V_main_arg2 m c)⟩, h.2⟩)

end Cert.SbGradIdeal.Hand

end
-- ==== Proof.SbGrad.Core.lean ====
module

public import Mathlib.Analysis.SpecialFunctions.Log.Basic

/-! The real numbers of one head: the weights, their gradients, and the sums that the blocks build up. -/

@[expose] public section

noncomputable section

namespace Cert.SbGradIdeal.Hand

open Finset

/-- The logarithm of the logistic function. -/
def LB (z : ℝ) : ℝ := min z 0 - Real.log (1 + Real.exp (-|z|))

section Row
variable (Z DA : ℕ → ℕ → ℝ) (T : ℕ → ℝ)

/-- The masked logarithms, and a row's sum of them before a column. -/
def mom (R S : ℕ) : ℝ := if S < R then LB (Z R S) - Z R S else 0
def cum (R n : ℕ) : ℝ := ∑ S ∈ range n, mom Z R S
/-- The weights. -/
def wt (R S : ℕ) : ℝ := if S < R then Real.exp (LB (Z R S) + (T R - cum Z R (S + 1))) else 0
/-- The weights' gradients times the weights, and a row's sum of them before a column. -/
def gr (R S : ℕ) : ℝ := wt Z T R S * DA R S
def gcum (R n : ℕ) : ℝ := ∑ S ∈ range n, gr Z DA T R S
/-- The gradients of the scores. -/
def dsc (R S : ℕ) : ℝ := gr Z DA T R S * (1 - Real.exp (LB (Z R S))) - (if S < R then gcum Z DA T R S * Real.exp (LB (Z R S)) else 0)

theorem wt_after {R S : ℕ} (h : R ≤ S) : wt Z T R S = 0 := if_neg (Nat.not_lt.mpr h)
theorem gr_after {R S : ℕ} (h : R ≤ S) : gr Z DA T R S = 0 := by rw [gr, wt_after Z T h, zero_mul]
theorem dsc_after {R S : ℕ} (h : R ≤ S) : dsc Z DA T R S = 0 := by
  rw [dsc, gr_after Z DA T h, if_neg (Nat.not_lt.mpr h), zero_mul, sub_zero]

theorem cum_add (R J n : ℕ) : cum Z R (J + n) = cum Z R J + ∑ l ∈ range n, mom Z R (J + l) := sum_range_add _ _ _
theorem gcum_add (R J n : ℕ) : gcum Z DA T R (J + n) = gcum Z DA T R J + ∑ l ∈ range n, gr Z DA T R (J + l) := sum_range_add _ _ _

end Row

/-- A block's sums against a matrix of zeros and ones are the sums up to, or before, a column. -/
theorem sum_upto (f : ℕ → ℝ) {s n : ℕ} (h : s < n) : (∑ l ∈ range n, f l * (if l ≤ s then 1 else 0)) = ∑ l ∈ range (s + 1), f l := by
  simp only [mul_ite, mul_one, mul_zero]
  rw [← sum_filter]
  refine sum_congr (ext fun l => ?_) fun _ _ => rfl
  rw [mem_filter, mem_range, mem_range]; omega
theorem sum_before (f : ℕ → ℝ) {s n : ℕ} (h : s < n) : (∑ l ∈ range n, f l * (if l < s then 1 else 0)) = ∑ l ∈ range s, f l := by
  simp only [mul_ite, mul_one, mul_zero]
  rw [← sum_filter]
  refine sum_congr (ext fun l => ?_) fun _ _ => rfl
  rw [mem_filter, mem_range, mem_range]; omega

/-- A sum over the rows that is built block by block: the rows before `Q`, and the block's rows for the columns before `J`. -/
def built (f : ℕ → ℕ → ℝ) (Q J s : ℕ) : ℝ := (∑ R ∈ range Q, f R s) + if s < J then ∑ r ∈ range 256, f (Q + r) s else 0

theorem built_in (f : ℕ → ℕ → ℝ) (Q J s : ℕ) (h : J ≤ s) (h' : s < J + 256) :
    built f Q (J + 256) s = built f Q J s + ∑ r ∈ range 256, f (Q + r) s := by
  rw [built, built, if_pos h', if_neg (by omega), add_zero]
theorem built_out (f : ℕ → ℕ → ℝ) (Q J s : ℕ) (h : ¬(J ≤ s ∧ s < J + 256)) : built f Q (J + 256) s = built f Q J s := by
  rw [built, built]
  by_cases h1 : s < J
  · rw [if_pos h1, if_pos (by omega)]
  · rw [if_neg h1, if_neg (by omega)]
theorem built_next (f : ℕ → ℕ → ℝ) (Q s : ℕ) (hf : ∀ R S, R ≤ S → f R S = 0) : built f Q (Q + 256) s = built f (Q + 256) 0 s := by
  rw [built, built, if_neg (Nat.not_lt_zero _), add_zero, sum_range_add]
  by_cases h : s < Q + 256
  · rw [if_pos h]
  · rw [if_neg h]
    congr 1
    exact (sum_eq_zero fun r hr => hf _ _ (by have := mem_range.mp hr; omega)).symm
theorem built_zero (f : ℕ → ℕ → ℝ) (s : ℕ) : built f 0 0 s = 0 := by simp [built]

/-- One head of a point: its queries (masked and scaled), keys, cotangent, values and totals. -/
structure Arrays where
  q : ℕ → ℕ → ℝ
  k : ℕ → ℕ → ℝ
  d : ℕ → ℕ → ℝ
  v : ℕ → ℕ → ℝ
  t : ℕ → ℝ

namespace Arrays
variable (A : Arrays)
def Z (R S : ℕ) : ℝ := ∑ l ∈ range 128, A.q R l * A.k S l
def DA (R S : ℕ) : ℝ := ∑ l ∈ range 128, A.d R l * A.v S l
def W (R S : ℕ) : ℝ := wt A.Z A.t R S
def D (R S : ℕ) : ℝ := dsc A.Z A.DA A.t R S
/-- What a row and a column of scores add to `dv`; what two heads add to `dk` and to `dq`. -/
def fv (l R S : ℕ) : ℝ := A.W R S * A.d R l
def fk (B : Arrays) (l R S : ℕ) : ℝ := A.D R S * A.q R l + B.D R S * B.q R l
def fq (B : Arrays) (l R S : ℕ) : ℝ := A.D R S * A.k S l + B.D R S * B.k S l
theorem fv_after (l R S : ℕ) (h : R ≤ S) : A.fv l R S = 0 := by rw [fv, W, wt_after _ _ h, zero_mul]
theorem fk_after (B : Arrays) (l R S : ℕ) (h : R ≤ S) : A.fk B l R S = 0 := by
  rw [fk, D, D, dsc_after _ _ _ h, dsc_after _ _ _ h, zero_mul, zero_mul, add_zero]
theorem fq_after (B : Arrays) (l R S : ℕ) (h : R ≤ S) : A.fq B l R S = 0 := by
  rw [fq, D, D, dsc_after _ _ _ h, dsc_after _ _ _ h, zero_mul, zero_mul, add_zero]
end Arrays

end Cert.SbGradIdeal.Hand

end
-- ==== Proof.SbGrad.Ops.lean ====
module

public import proofs.«01_k».proof.Proof.Gen.SbGradIdeal.Skeleton
public import Idealize.ShloMosaic.Lib.Pointwise
public import proofs.«01_k».proof.Proof.Finite
public import proofs.«01_k».proof.Proof.SbGrad.Core

/-! What one head's block of queries against one block of keys computes, operation by operation, on blocks of real numbers. -/

@[expose] public section

set_option maxRecDepth 16384

noncomputable section

namespace Cert.SbGradIdeal.Hand

open Cert.SbGradIdeal Cert.SbGradIdeal.Gen Idealize.ShloMosaic Idealize.ShloMosaic.TcCoe Idealize.SL.Sem
open Cert.Finite

/-- The array holds the real numbers `X r c`. -/
def IsR {m n : ℕ} (x : (⟨2, ![m, n]⟩ : Shape).Idx → EReal) (X : ℕ → ℕ → ℝ) : Prop :=
  ∀ (r : Fin m) (c : Fin n), x (ix2 r c) = ((X r.val c.val : ℝ) : EReal)

/-- The scores of a block of masked queries against a block of masked keys. -/
def zOf (q k : FVec Ideal S256x128 .bf16) : FVec Ideal S256x256 .f32 :=
  matmul dot_S256x128_S256x128_S256x256_1_1_0_0_n_n none q k (constant S256x256 .f32 0x00000000#32)
/-- The logarithms of the logistic function of the scores. -/
def lbOf (z : FVec Ideal S256x256 .f32) : FVec Ideal S256x256 .f32 :=
  subf (minimumf z (broadcast S256x256 (Scalar.ofBits .f32 0x00000000#32)))
    (log (addf (broadcast S256x256 (Scalar.ofBits .f32 0x3F800000#32))
      (exp2 (mulf (absf z) (broadcast S256x256 (Named.named κ "neg_log2e" 0xBFB8AA3B#32))))))
def lomOf (z : FVec Ideal S256x256 .f32) : FVec Ideal S256x256 .f32 := subf (lbOf z) z
/-- An array where the mask says so, zero elsewhere. -/
def keep (v2 : IVec S256x256 1) (x : FVec Ideal S256x256 .f32) : FVec Ideal S256x256 .f32 :=
  select v2 x (broadcast S256x256 (Scalar.ofBits .f32 0x00000000#32))
/-- A row's sums up to each column: a product with a matrix of zeros and ones, the left operand in two parts. -/
def preOf (v6 : FVec Ideal S256x256 .bf16) (x : FVec Ideal S256x256 .f32) : FVec Ideal S256x256 .f32 :=
  addf (matmul dot_S256x256_S256x256_S256x256_1_0_0_1_n_n none (truncf .bf16 x bitsLt_bf16_f32) v6 (constant S256x256 .f32 0x00000000#32))
    (matmul dot_S256x256_S256x256_S256x256_1_0_0_1_n_n none
      (truncf .bf16 (subf x (extf .f32 (truncf .bf16 x bitsLt_bf16_f32) bitsLt_bf16_f32)) bitsLt_bf16_f32) v6 (constant S256x256 .f32 0x00000000#32))
/-- The attention weights before the mask. -/
def aOf (v6 : FVec Ideal S256x256 .bf16) (tot M : FVec Ideal S256x1 .f32) (lb x : FVec Ideal S256x256 .f32) : FVec Ideal S256x256 .f32 :=
  exp (addf lb (subf (broadcastTo S256x256 (subf tot M) broadcasts_S256x1_S256x256) (preOf v6 x)))
/-- A row's sum so far with the block's columns added. -/
def sumOf (acc : FVec Ideal S256x1 .f32) (x : FVec Ideal S256x256 .f32) : FVec Ideal S256x1 .f32 :=
  addf acc (shapeCast S256x1 (multiReduction .add [1] S256 x 0x00000000#32 reduces_S256x256_S256 (.inl rfl) rfl) shapeCasts_S256_S256x1)
/-- A row's sums of `g` before each column, times the logistic function of the score. -/
def exclOf (v10 : FVec Ideal S256x256 .bf16) (G : FVec Ideal S256x1 .f32) (g lb : FVec Ideal S256x256 .f32) : FVec Ideal S256x256 .f32 :=
  mulf (addf (broadcastTo S256x256 G broadcasts_S256x1_S256x256)
    (matmul dot_S256x256_S256x256_S256x256_1_0_0_1_n_n none (truncf .bf16 g bitsLt_bf16_f32) v10 (constant S256x256 .f32 0x00000000#32))) (exp lb)
/-- The gradient of the scores. -/
def dzOf (g lb e : FVec Ideal S256x256 .f32) : FVec Ideal S256x256 .bf16 :=
  truncf .bf16 (subf (mulf g (subf (broadcast S256x256 (Scalar.ofBits .f32 0x3F800000#32)) (exp lb))) e) bitsLt_bf16_f32
/-- `dv` with the block's weights added. -/
def dvAdd (d : FVec Ideal S256x128 .bf16) (a : FVec Ideal S256x256 .f32) (old : FVec Ideal S256x128 .f32) : FVec Ideal S256x128 .f32 :=
  shapeCast S256x128 (addf old (matmul dot_S256x256_S256x128_S256x128_0_0_1_1_n_n none (truncf .bf16 a bitsLt_bf16_f32) d (constant S256x128 .f32 0x00000000#32)))
    shapeCasts_S256x128_S256x128
/-- `dq` of two heads with the block's keys added. -/
def dqOf2 (old : FVec Ideal S256x128 .f32) (k1 k2 : FVec Ideal S256x128 .bf16) (d1 d2 : FVec Ideal S256x256 .bf16) : FVec Ideal S256x128 .f32 :=
  addf old (matmul dot_S256x512_S512x128_S256x128_1_0_0_1_n_n none
    (concatenate S256x512 1 [⟨S256x256, d1⟩, ⟨S256x256, d2⟩] concatenates_S256x256_S256x256_S256x512_d1)
    (concatenate S512x128 0 [⟨S256x128, k1⟩, ⟨S256x128, k2⟩] concatenates_S256x128_S256x128_S512x128_d0) (constant S256x128 .f32 0x00000000#32))
/-- `dk` of two heads with the block's queries added. -/
def dkOf2 (q1 q2 : FVec Ideal S256x128 .bf16) (d1 d2 : FVec Ideal S256x256 .bf16) (old : FVec Ideal S256x128 .f32) : FVec Ideal S256x128 .f32 :=
  shapeCast S256x128 (addf old (matmul dot_S512x256_S512x128_S256x128_0_0_1_1_n_n none
    (concatenate S512x256 0 [⟨S256x256, d1⟩, ⟨S256x256, d2⟩] concatenates_S256x256_S256x256_S512x256_d0)
    (concatenate S512x128 0 [⟨S256x128, q1⟩, ⟨S256x128, q2⟩] concatenates_S256x128_S256x128_S512x128_d0) (constant S256x128 .f32 0x00000000#32)))
    shapeCasts_S256x128_S256x128

/-- One head's block: the masked queries (scaled) and keys, the rows of the cotangent, the values, the rows' totals. -/
structure Head where
  q : FVec Ideal S256x128 .bf16
  k : FVec Ideal S256x128 .bf16
  d : FVec Ideal S256x128 .bf16
  v : FVec Ideal S256x128 .bf16
  tot : FVec Ideal S256x1 .f32

/-- The scores, and the gradients of the weights. -/
def Head.z (H : Head) : FVec Ideal S256x256 .f32 := zOf H.q H.k
def Head.da (H : Head) : FVec Ideal S256x256 .f32 := zOf H.d H.v
/-- The weights: `kp` keeps what the block's mask lets through. -/
def Head.a (H : Head) (kp : FVec Ideal S256x256 .f32 → FVec Ideal S256x256 .f32) (v6 : FVec Ideal S256x256 .bf16) (M : FVec Ideal S256x1 .f32) :
    FVec Ideal S256x256 .f32 := kp (aOf v6 H.tot M (lbOf H.z) (kp (lomOf H.z)))
def Head.g (H : Head) (kp : FVec Ideal S256x256 .f32 → FVec Ideal S256x256 .f32) (v6 : FVec Ideal S256x256 .bf16) (M : FVec Ideal S256x1 .f32) :
    FVec Ideal S256x256 .f32 := mulf (H.a kp v6 M) H.da
/-- The gradients of the scores. -/
def Head.dz (H : Head) (kp : FVec Ideal S256x256 .f32 → FVec Ideal S256x256 .f32) (v6 v10 : FVec Ideal S256x256 .bf16) (G M : FVec Ideal S256x1 .f32) :
    FVec Ideal S256x256 .bf16 := dzOf (H.g kp v6 M) (lbOf H.z) (kp (exclOf v10 G (H.g kp v6 M) (lbOf H.z)))

theorem sum_fin (n : ℕ) (f : ℕ → ℝ) : (∑ k : Fin n, ((f k.val : ℝ) : EReal)) = ((∑ k ∈ Finset.range n, f k : ℝ) : EReal) := by
  rw [← coe_sum, Fin.sum_univ_eq_sum_range (fun k => f k)]

theorem IsR.congr {m n : ℕ} {x : (⟨2, ![m, n]⟩ : Shape).Idx → EReal} {X Y : ℕ → ℕ → ℝ} (h : IsR x X) (e : ∀ r c, r < m → c < n → X r c = Y r c) : IsR x Y :=
  fun r c => (h r c).trans (by rw [e r.val c.val r.isLt c.isLt])

theorem zOf_real {q k Q K} (hq : IsR q Q) (hk : IsR k K) : IsR (zOf q k) fun r s => ∑ l ∈ Finset.range 128, Q r l * K s l := by
  intro r s
  pointwise [zOf]
  simp only [hq r, hk s, ← EReal.coe_mul, sum_fin 128 fun l => Q r.val l * K s.val l]

theorem named_val : (Named.named (F := Ideal) κ "neg_log2e" (φ := .f32) 0xBFB8AA3B#32) = ((-((Real.log 2)⁻¹) : ℝ) : EReal) := by
  rfl

theorem exp2_scaled (z : ℝ) : (FloatOps.exp2 (F := Ideal) (φ := .f32) (((z * -(Real.log 2)⁻¹ : ℝ)) : EReal)) = ((Real.exp (-z) : ℝ) : EReal) := by
  show ((Real.rpow 2 (z * -(Real.log 2)⁻¹) : ℝ) : EReal) = _
  have h2 : Real.log 2 ≠ 0 := (Real.log_pos (by norm_num)).ne'
  rw [show Real.rpow 2 (z * -(Real.log 2)⁻¹) = (2 : ℝ) ^ (z * -(Real.log 2)⁻¹) from rfl, Real.rpow_def_of_pos (by norm_num)]
  congr 2; field_simp

theorem log_pos_coe (x : ℝ) (h : 0 < x) : Ideal.log (x : EReal) = ((Real.log x : ℝ) : EReal) := by
  show (if x ≤ 0 then ⊥ else ((Real.log x : ℝ) : EReal)) = _
  rw [if_neg (not_le.mpr h)]

theorem coe_max (x y : ℝ) : max (x : EReal) (y : EReal) = ((max x y : ℝ) : EReal) := (EReal.coe_strictMono.monotone.map_max).symm
theorem coe_min (x y : ℝ) : min (x : EReal) (y : EReal) = ((min x y : ℝ) : EReal) := (EReal.coe_strictMono.monotone.map_min).symm
theorem abs_coe (x : ℝ) : FloatOps.absf (F := Ideal) (φ := .f32) (x : EReal) = ((|x| : ℝ) : EReal) := by
  show max (x : EReal) (-(x : EReal)) = _
  rw [← EReal.coe_neg, coe_max]; rfl

theorem lbOf_real {z Z} (hz : IsR z Z) : IsR (lbOf z) fun r s => LB (Z r s) := by
  intro r s
  pointwise [lbOf]
  rw [hz r s, named_val, abs_coe, ← EReal.coe_mul, exp2_scaled, ← EReal.coe_one, ← EReal.coe_add,
    log_pos_coe _ (by positivity), ← EReal.coe_zero, coe_min, ← EReal.coe_sub]
  rfl
theorem lomOf_real {z Z} (hz : IsR z Z) : IsR (lomOf z) fun r s => LB (Z r s) - Z r s := by
  intro r s
  pointwise [lomOf]
  rw [lbOf_real hz r s, hz r s, ← EReal.coe_sub]
theorem preOf_real {v6 V x X} (hv : IsR v6 V) (hx : IsR x X) : IsR (preOf v6 x) fun r s => ∑ l ∈ Finset.range 256, X r l * V l s := by
  intro r s
  pointwise [preOf]
  simp only [hx r, fun l => hv l s, ← EReal.coe_mul, ← EReal.coe_sub, sub_self, zero_mul, EReal.coe_zero, Finset.sum_const_zero, add_zero,
    sum_fin 256 fun l => X r.val l * V l s.val]
theorem aOf_real {v6 tot M lb x V T MM L X} (hv : IsR v6 V) (ht : IsR tot T) (hm : IsR M MM) (hl : IsR lb L) (hx : IsR x X) :
    IsR (aOf v6 tot M lb x) fun r s => Real.exp (L r s + ((T r 0 - MM r 0) - ∑ l ∈ Finset.range 256, X r l * V l s)) := by
  intro r s
  have h := preOf_real hv hx r s
  pointwise [aOf]
  rw [h, hl r s, ht r 0, hm r 0]
  simp only [← EReal.coe_sub, ← EReal.coe_add]
  rfl
theorem mulf_real {x y X Y} (hx : IsR (m := 256) (n := 256) x X) (hy : IsR (m := 256) (n := 256) y Y) :
    IsR (mulf (F := Ideal) (φ := .f32) (s := S256x256) x y) fun r s => X r s * Y r s := by
  intro r s
  pointwise
  rw [hx r s, hy r s, ← EReal.coe_mul]
theorem sumOf_real {a A x X} (ha : IsR a A) (hx : IsR x X) : IsR (sumOf a x) fun r s => A r 0 + ∑ l ∈ Finset.range 256, X r l := by
  intro r s
  have h0 : s = 0 := Subsingleton.elim _ _
  subst h0
  pointwise [sumOf]
  simp only [ha r, hx r, sum_fin 256 fun l => X r.val l, ← EReal.coe_add]
  rfl
theorem exclOf_real {v10 G g lb V GG g' L} (hv : IsR v10 V) (hG : IsR G GG) (hg : IsR g g') (hl : IsR lb L) :
    IsR (exclOf v10 G g lb) fun r s => (GG r 0 + ∑ l ∈ Finset.range 256, g' r l * V l s) * Real.exp (L r s) := by
  intro r s
  pointwise [exclOf]
  rw [hG r 0, hl r s]
  simp only [hg r, fun l => hv l s, ← EReal.coe_mul, sum_fin 256 fun l => g' r.val l * V l s.val, exp_coe, ← EReal.coe_add]
  rfl
theorem dzOf_real {g lb e g' L E} (hg : IsR g g') (hl : IsR lb L) (he : IsR e E) :
    IsR (dzOf g lb e) fun r s => g' r s * (1 - Real.exp (L r s)) - E r s := by
  intro r s
  pointwise [dzOf]
  rw [hg r s, hl r s, he r s, exp_coe, ← EReal.coe_one]
  simp only [← EReal.coe_mul, ← EReal.coe_sub]
theorem dvOf_real {d a o D A O} (hd : IsR d D) (ha : IsR a A) (ho : IsR o O) :
    IsR (dvAdd d a o) fun s l => O s l + ∑ r ∈ Finset.range 256, A r s * D r l := by
  intro r s
  pointwise [dvAdd]
  simp only [ho r, fun l => ha l r, fun l => hd l s, ← EReal.coe_mul, ← EReal.coe_add, sum_fin 256 fun l => A l r.val * D l s.val]
theorem lt_word (a b : Fin 256) : IntOp.cmpi .slt (BitVec.ofNat 32 a.val) (BitVec.ofNat 32 b.val) = if a.val < b.val then 1#1 else 0#1 := by
  have ha := a.isLt; have hb := b.isLt
  rw [show (IntOp.cmpi .slt (BitVec.ofNat 32 a.val) (BitVec.ofNat 32 b.val)) = BitVec.ofBool ((BitVec.ofNat 32 a.val).slt (BitVec.ofNat 32 b.val)) from rfl,
    BitVec.slt_eq_decide, BitVec.toInt_ofNat', BitVec.toInt_ofNat', Int.bmod_eq_of_le (by omega) (by omega), Int.bmod_eq_of_le (by omega) (by omega)]
  by_cases h : a.val < b.val
  · rw [if_pos h, decide_eq_true (by omega)]; rfl
  · rw [if_neg h, decide_eq_false (by omega)]; rfl
theorem le_word (a b : Fin 256) : IntOp.cmpi .sle (BitVec.ofNat 32 a.val) (BitVec.ofNat 32 b.val) = if a.val ≤ b.val then 1#1 else 0#1 := by
  have ha := a.isLt; have hb := b.isLt
  rw [show (IntOp.cmpi .sle (BitVec.ofNat 32 a.val) (BitVec.ofNat 32 b.val)) = BitVec.ofBool ((BitVec.ofNat 32 a.val).sle (BitVec.ofNat 32 b.val)) from rfl,
    BitVec.sle_eq_decide, BitVec.toInt_ofNat', BitVec.toInt_ofNat', Int.bmod_eq_of_le (by omega) (by omega), Int.bmod_eq_of_le (by omega) (by omega)]
  by_cases h : a.val ≤ b.val
  · rw [if_pos h, decide_eq_true (by omega)]; rfl
  · rw [if_neg h, decide_eq_false (by omega)]; rfl
theorem keep_real {x X} (hx : IsR x X) : IsR (keep k0_pay204 x) fun r s => if s < r then X r s else 0 := by
  intro r s
  pointwise [keep, k0_pay204]
  rw [lt_word, hx r s]
  by_cases h : s.val < r.val
  · rw [if_pos h, if_pos h]; rfl
  · rw [if_neg h, if_neg h]; rfl
theorem sit_one : (FloatOps.sitofp (F := Ideal) FTy.f32 (BitVec.setWidth 32 1#1)) = ((1 : ℝ) : EReal) := by
  show (((BitVec.setWidth 32 1#1).toInt : ℝ) : EReal) = _
  norm_num [show (BitVec.setWidth 32 1#1).toInt = 1 by decide]
theorem sit_zero : (FloatOps.sitofp (F := Ideal) FTy.f32 (BitVec.setWidth 32 0#1)) = ((0 : ℝ) : EReal) := by
  show (((BitVec.setWidth 32 0#1).toInt : ℝ) : EReal) = _
  norm_num [show (BitVec.setWidth 32 0#1).toInt = 0 by decide]
theorem upto_real : IsR (k0_pay205 (F := Ideal)) fun r s => if r ≤ s then 1 else 0 := by
  intro r s
  pointwise [k0_pay205]
  rw [le_word]
  by_cases h : r.val ≤ s.val
  · rw [if_pos h, if_pos h]; exact sit_one
  · rw [if_neg h, if_neg h]; exact sit_zero
theorem before_real : IsR (k0_pay206 (F := Ideal)) fun r s => if r < s then 1 else 0 := by
  intro r s
  pointwise [k0_pay206]
  rw [lt_word]
  by_cases h : r.val < s.val
  · rw [if_pos h, if_pos h]; exact sit_one
  · rw [if_neg h, if_neg h]; exact sit_zero
theorem dqOf2_real {o O k1 k2 d1 d2 K1 K2 D1 D2} (h0 : IsR o O) (h1 : IsR k1 K1) (h2 : IsR k2 K2) (h3 : IsR d1 D1) (h4 : IsR d2 D2) :
    IsR (dqOf2 o k1 k2 d1 d2) fun r l => O r l + ∑ s ∈ Finset.range 256, (D1 r s * K1 s l + D2 r s * K2 s l) := by
  intro r s
  pointwise [dqOf2]
  simp only [h0 r, h3 r, h4 r, fun l => h1 l s, fun l => h2 l s, ← EReal.coe_mul, sum_fin 256 fun l => D1 r.val l * K1 l s.val,
    sum_fin 256 fun l => D2 r.val l * K2 l s.val, ← EReal.coe_add, Finset.sum_add_distrib]
theorem dkOf2_real {o O k1 k2 d1 d2 K1 K2 D1 D2} (h0 : IsR o O) (h1 : IsR k1 K1) (h2 : IsR k2 K2) (h3 : IsR d1 D1) (h4 : IsR d2 D2) :
    IsR (dkOf2 k1 k2 d1 d2 o) fun s l => O s l + ∑ r ∈ Finset.range 256, (D1 r s * K1 r l + D2 r s * K2 r l) := by
  intro r s
  pointwise [dkOf2]
  simp only [h0 r, fun l => h3 l r, fun l => h4 l r, fun l => h1 l s, fun l => h2 l s, ← EReal.coe_mul, sum_fin 256 fun l => D1 l r.val * K1 l s.val,
    sum_fin 256 fun l => D2 l r.val * K2 l s.val, ← EReal.coe_add, Finset.sum_add_distrib]

end Cert.SbGradIdeal.Hand

end
-- ==== Proof.SbGrad.TripEq.lean ====
module

public import proofs.«01_k».proof.Proof.SbGrad.Trips
public import proofs.«01_k».proof.Proof.SbGrad.Ops

/-! One trip of the inner loop over the operations of Ops. -/

@[expose] public section

set_option maxRecDepth 16384
set_option maxHeartbeats 1000000

noncomputable section

namespace Cert.SbGradIdeal.Hand

open Cert.SbGradIdeal.Gen
open Idealize.ShloMosaic Idealize.ShloMosaic.TcCoe
open Idealize.SL.Sem

variable (c : Dev nD) (i : grid0.Coords)
  (arg2 : Memref sig .tc .vmem S2048x256 .bf16) (harg2 : arg2.IsWhole) (arg3 : Memref sig .tc .vmem S2048x256 .bf16) (harg3 : arg3.IsWhole)
  (arg4 : Memref sig .tc .vmem S2048x512 .bf16) (harg4 : arg4.IsWhole) (arg5 : Memref sig .tc .vmem S2048x512 .bf16) (harg5 : arg5.IsWhole)
  (arg6 : Memref sig .tc .vmem S1x2048x4 .f32) (harg6 : arg6.IsWhole) (arg7 : Memref sig .tc .hbm S4096x6144 .bf16) (harg7 : arg7.IsWhole)
  (arg8 : Memref sig .tc .hbm S4096x6144 .bf16) (harg8 : arg8.IsWhole) (arg9 : Memref sig .tc .vmem S2048x256 .bf16) (harg9 : arg9.IsWhole)
  (arg10 : Memref sig .tc .vmem S2048x256 .f32) (harg10 : arg10.IsWhole) (arg11 : Memref sig .tc .vmem S2048x512 .f32) (harg11 : arg11.IsWhole)
  (arg12 : Memref sig .tc .vmem S2048x256 .bf16) (harg12 : arg12.IsWhole) (arg13 : Memref sig .tc .vmem S2048x512 .bf16) (harg13 : arg13.IsWhole)
  (arg14 : DmaSems sig S3)
  (v6 v10 : FVec Ideal S256x256 .bf16) (q : Fin k0_t1_loop.trips) (arg15 v58 : BitVec 32)
  (v187 v189 v191 v193 : FVec Ideal S256x128 .bf16) (v195 v197 v199 v201 : Vec Ideal S256x128 .bf16) (v203 v206 v209 v212 : Vec Ideal S1x256x1 .f32)
  (X3 : BufTy.Contents (Elt Ideal) arg3.view.ty) (X4 : BufTy.Contents (Elt Ideal) arg4.view.ty)

set_option quotPrecheck false in
local notation:max "⟪" f "⟫" => f c i arg2 harg2 arg3 harg3 arg4 harg4 arg5 harg5 arg6 harg6 arg7 harg7 arg8 harg8 arg9 harg9 arg10 harg10 arg11 harg11 arg12 harg12 arg13 harg13 arg14

/-- The blocks of the keys and the values that a trip reads. -/
abbrev kBlk (k : Fin (k0_t2_loop q).trips) : FVec Ideal S256x256 .bf16 :=
  View.readAt (Elt Ideal) arg3.view (Rect.unit (s := S2048x256) (k0_off13 q k) S256x256.size (k0_off13_inb q k)).toLoadRect X3
abbrev vBlk0 (k : Fin (k0_t2_loop q).trips) : FVec Ideal S256x128 .bf16 :=
  View.readAt (Elt Ideal) arg4.view (Rect.unit (s := S2048x512) (k0_off14 q k) S256x128.size (k0_off14_inb q k)).toLoadRect X4
abbrev vBlk1 (k : Fin (k0_t2_loop q).trips) : FVec Ideal S256x128 .bf16 :=
  View.readAt (Elt Ideal) arg4.view (Rect.unit (s := S2048x512) (k0_off15 q k) S256x128.size (k0_off15_inb q k)).toLoadRect X4
abbrev vBlk2 (k : Fin (k0_t2_loop q).trips) : FVec Ideal S256x128 .bf16 :=
  View.readAt (Elt Ideal) arg4.view (Rect.unit (s := S2048x512) (k0_off16 q k) S256x128.size (k0_off16_inb q k)).toLoadRect X4
abbrev vBlk3 (k : Fin (k0_t2_loop q).trips) : FVec Ideal S256x128 .bf16 :=
  View.readAt (Elt Ideal) arg4.view (Rect.unit (s := S2048x512) (k0_off17 q k) S256x128.size (k0_off17_inb q k)).toLoadRect X4

/-- The four heads of a trip. -/
abbrev hd0 (k : Fin (k0_t2_loop q).trips) : Head := ⟨v187, trip2.sl.v645 arg3 q X3 k, v195, vBlk0 arg4 q X4 k, k0_pay139 v203⟩
abbrev hd1 (k : Fin (k0_t2_loop q).trips) : Head := ⟨v189, trip2.sl.v676 arg3 q X3 k, v197, vBlk1 arg4 q X4 k, k0_pay140 v206⟩
abbrev hd2 (k : Fin (k0_t2_loop q).trips) : Head := ⟨v191, trip2.sl.v707 arg3 q X3 k, v199, vBlk2 arg4 q X4 k, k0_pay141 v209⟩
abbrev hd3 (k : Fin (k0_t2_loop q).trips) : Head := ⟨v193, trip2.sl.v738 arg3 q X3 k, v201, vBlk3 arg4 q X4 k, k0_pay142 v212⟩

theorem trip2_carry (k : Fin (k0_t2_loop q).trips) (acc : Carry Ideal) (f10 : BufTy.Contents (Elt Ideal) arg10.view.ty) (f11 : BufTy.Contents (Elt Ideal) arg11.view.ty) :
    (⟪trip2 (F := Ideal)⟫ v6 v10 q arg15 v58 v187 v189 v191 v193 v195 v197 v199 v201 v203 v206 v209 v212 X3 X4 k).1 acc f10 f11
      = (let (G0, M0, G1, M1, G2, M2, G3, M3, o0, o1) := acc
         let H0 := hd0 arg3 arg4 q v187 v195 v203 X3 X4 k
         let H1 := hd1 arg3 arg4 q v189 v197 v206 X3 X4 k
         let H2 := hd2 arg3 arg4 q v191 v199 v209 X3 X4 k
         let H3 := hd3 arg3 arg4 q v193 v201 v212 X3 X4 k
         (sumOf G0 (H0.g id v6 M0), sumOf M0 (lomOf H0.z), sumOf G1 (H1.g id v6 M1), sumOf M1 (lomOf H1.z),
          sumOf G2 (H2.g id v6 M2), sumOf M2 (lomOf H2.z), sumOf G3 (H3.g id v6 M3), sumOf M3 (lomOf H3.z),
          dqOf2 o0 H0.k H1.k (H0.dz id v6 v10 G0 M0) (H1.dz id v6 v10 G1 M1), dqOf2 o1 H2.k H3.k (H2.dz id v6 v10 G2 M2) (H3.dz id v6 v10 G3 M3))) := rfl

theorem trip2_ten (k : Fin (k0_t2_loop q).trips) (acc : Carry Ideal) (f10 : BufTy.Contents (Elt Ideal) arg10.view.ty) (f11 : BufTy.Contents (Elt Ideal) arg11.view.ty) :
    (⟪trip2 (F := Ideal)⟫ v6 v10 q arg15 v58 v187 v189 v191 v193 v195 v197 v199 v201 v203 v206 v209 v212 X3 X4 k).2.1 acc f10 f11
      = (let (G0, M0, G1, M1, G2, M2, G3, M3, o0, o1) := acc
         let H0 := hd0 arg3 arg4 q v187 v195 v203 X3 X4 k
         let H1 := hd1 arg3 arg4 q v189 v197 v206 X3 X4 k
         let H2 := hd2 arg3 arg4 q v191 v199 v209 X3 X4 k
         let H3 := hd3 arg3 arg4 q v193 v201 v212 X3 X4 k
         [⟨Rect.unit (s := S2048x256) (k0_off19 q k) S256x128.size (k0_off19_inb q k), dkOf2 H2.q H3.q (H2.dz id v6 v10 G2 M2) (H3.dz id v6 v10 G3 M3)
            (View.readAt (Elt Ideal) arg10.view (Rect.unit (s := S2048x256) (k0_off19 q k) S256x128.size (k0_off19_inb q k)).toLoadRect f10)⟩,
          ⟨Rect.unit (s := S2048x256) (k0_off18 q k) S256x128.size (k0_off18_inb q k), dkOf2 H0.q H1.q (H0.dz id v6 v10 G0 M0) (H1.dz id v6 v10 G1 M1)
            (View.readAt (Elt Ideal) arg10.view (Rect.unit (s := S2048x256) (k0_off18 q k) S256x128.size (k0_off18_inb q k)).toLoadRect f10)⟩]) := rfl

theorem trip2_eleven (k : Fin (k0_t2_loop q).trips) (acc : Carry Ideal) (f10 : BufTy.Contents (Elt Ideal) arg10.view.ty) (f11 : BufTy.Contents (Elt Ideal) arg11.view.ty) :
    (⟪trip2 (F := Ideal)⟫ v6 v10 q arg15 v58 v187 v189 v191 v193 v195 v197 v199 v201 v203 v206 v209 v212 X3 X4 k).2.2.1 acc f10 f11
      = (let (G0, M0, G1, M1, G2, M2, G3, M3, o0, o1) := acc
         let H0 := hd0 arg3 arg4 q v187 v195 v203 X3 X4 k
         let H1 := hd1 arg3 arg4 q v189 v197 v206 X3 X4 k
         let H2 := hd2 arg3 arg4 q v191 v199 v209 X3 X4 k
         let H3 := hd3 arg3 arg4 q v193 v201 v212 X3 X4 k
         [⟨Rect.unit (s := S2048x512) (k0_off17 q k) S256x128.size (k0_off17_inb q k), dvAdd H3.d (H3.a id v6 M3)
            (View.readAt (Elt Ideal) arg11.view (Rect.unit (s := S2048x512) (k0_off17 q k) S256x128.size (k0_off17_inb q k)).toLoadRect f11)⟩,
          ⟨Rect.unit (s := S2048x512) (k0_off16 q k) S256x128.size (k0_off16_inb q k), dvAdd H2.d (H2.a id v6 M2)
            (View.readAt (Elt Ideal) arg11.view (Rect.unit (s := S2048x512) (k0_off16 q k) S256x128.size (k0_off16_inb q k)).toLoadRect f11)⟩,
          ⟨Rect.unit (s := S2048x512) (k0_off15 q k) S256x128.size (k0_off15_inb q k), dvAdd H1.d (H1.a id v6 M1)
            (View.readAt (Elt Ideal) arg11.view (Rect.unit (s := S2048x512) (k0_off15 q k) S256x128.size (k0_off15_inb q k)).toLoadRect f11)⟩,
          ⟨Rect.unit (s := S2048x512) (k0_off14 q k) S256x128.size (k0_off14_inb q k), dvAdd H0.d (H0.a id v6 M0)
            (View.readAt (Elt Ideal) arg11.view (Rect.unit (s := S2048x512) (k0_off14 q k) S256x128.size (k0_off14_inb q k)).toLoadRect f11)⟩]) := rfl

end Cert.SbGradIdeal.Hand

end
-- ==== Proof.SbGrad.TripEq1.lean ====
module

public import proofs.«01_k».proof.Proof.SbGrad.TripEq

/-! One trip of the outer loop over the operations of Ops. -/

@[expose] public section

set_option maxRecDepth 16384
set_option maxHeartbeats 300000

noncomputable section

namespace Cert.SbGradIdeal.Hand

open Cert.SbGradIdeal.Gen
open Idealize.ShloMosaic Idealize.ShloMosaic.TcCoe
open Idealize.SL.Sem

variable (c : Dev nD) (i : grid0.Coords)
  (arg2 : Memref sig .tc .vmem S2048x256 .bf16) (harg2 : arg2.IsWhole) (arg3 : Memref sig .tc .vmem S2048x256 .bf16) (harg3 : arg3.IsWhole)
  (arg4 : Memref sig .tc .vmem S2048x512 .bf16) (harg4 : arg4.IsWhole) (arg5 : Memref sig .tc .vmem S2048x512 .bf16) (harg5 : arg5.IsWhole)
  (arg6 : Memref sig .tc .vmem S1x2048x4 .f32) (harg6 : arg6.IsWhole) (arg7 : Memref sig .tc .hbm S4096x6144 .bf16) (harg7 : arg7.IsWhole)
  (arg8 : Memref sig .tc .hbm S4096x6144 .bf16) (harg8 : arg8.IsWhole) (arg9 : Memref sig .tc .vmem S2048x256 .bf16) (harg9 : arg9.IsWhole)
  (arg10 : Memref sig .tc .vmem S2048x256 .f32) (harg10 : arg10.IsWhole) (arg11 : Memref sig .tc .vmem S2048x512 .f32) (harg11 : arg11.IsWhole)
  (arg12 : Memref sig .tc .vmem S2048x256 .bf16) (harg12 : arg12.IsWhole) (arg13 : Memref sig .tc .vmem S2048x512 .bf16) (harg13 : arg13.IsWhole)
  (arg14 : DmaSems sig S3)
  (v6 v10 : FVec Ideal S256x256 .bf16) (q : Fin k0_t1_loop.trips) (arg15 v58 : BitVec 32)
  (v187 v189 v191 v193 : FVec Ideal S256x128 .bf16) (v195 v197 v199 v201 : Vec Ideal S256x128 .bf16) (v203 v206 v209 v212 : Vec Ideal S1x256x1 .f32)
  (X3 : BufTy.Contents (Elt Ideal) arg3.view.ty) (X4 : BufTy.Contents (Elt Ideal) arg4.view.ty)

set_option quotPrecheck false in
local notation:max "⟪" f "⟫" => f c i arg2 harg2 arg3 harg3 arg4 harg4 arg5 harg5 arg6 harg6 arg7 harg7 arg8 harg8 arg9 harg9 arg10 harg10 arg11 harg11 arg12 harg12 arg13 harg13 arg14

variable (v2 : IVec S256x256 1) (lb : BitVec 32)
  (X2 : BufTy.Contents (Elt Ideal) arg2.view.ty) (X5 : BufTy.Contents (Elt Ideal) arg5.view.ty) (X6 : BufTy.Contents (Elt Ideal) arg6.view.ty)

attribute [local irreducible] st2 View.readAt

/-- The rows of the cotangent, the values and the totals that a trip reads. -/
abbrev dRow0 : FVec Ideal S256x128 .bf16 :=
  View.readAt (Elt Ideal) arg5.view (Rect.unit (s := S2048x512) (k0_off5 q) S256x128.size (k0_off5_inb q)).toLoadRect X5
abbrev vRow0 : FVec Ideal S256x128 .bf16 :=
  View.readAt (Elt Ideal) arg4.view (Rect.unit (s := S2048x512) (k0_off5 q) S256x128.size (k0_off5_inb q)).toLoadRect X4
abbrev tRow0 : FVec Ideal S1x256x1 .f32 :=
  View.readAt (Elt Ideal) arg6.view (Rect.unit (s := S1x2048x4) (k0_off9 q) S1x256x1.size (k0_off9_inb q)).toLoadRect X6
abbrev dRow1 : FVec Ideal S256x128 .bf16 :=
  View.readAt (Elt Ideal) arg5.view (Rect.unit (s := S2048x512) (k0_off6 q) S256x128.size (k0_off6_inb q)).toLoadRect X5
abbrev vRow1 : FVec Ideal S256x128 .bf16 :=
  View.readAt (Elt Ideal) arg4.view (Rect.unit (s := S2048x512) (k0_off6 q) S256x128.size (k0_off6_inb q)).toLoadRect X4
abbrev tRow1 : FVec Ideal S1x256x1 .f32 :=
  View.readAt (Elt Ideal) arg6.view (Rect.unit (s := S1x2048x4) (k0_off10 q) S1x256x1.size (k0_off10_inb q)).toLoadRect X6
abbrev dRow2 : FVec Ideal S256x128 .bf16 :=
  View.readAt (Elt Ideal) arg5.view (Rect.unit (s := S2048x512) (k0_off7 q) S256x128.size (k0_off7_inb q)).toLoadRect X5
abbrev vRow2 : FVec Ideal S256x128 .bf16 :=
  View.readAt (Elt Ideal) arg4.view (Rect.unit (s := S2048x512) (k0_off7 q) S256x128.size (k0_off7_inb q)).toLoadRect X4
abbrev tRow2 : FVec Ideal S1x256x1 .f32 :=
  View.readAt (Elt Ideal) arg6.view (Rect.unit (s := S1x2048x4) (k0_off11 q) S1x256x1.size (k0_off11_inb q)).toLoadRect X6
abbrev dRow3 : FVec Ideal S256x128 .bf16 :=
  View.readAt (Elt Ideal) arg5.view (Rect.unit (s := S2048x512) (k0_off8 q) S256x128.size (k0_off8_inb q)).toLoadRect X5
abbrev vRow3 : FVec Ideal S256x128 .bf16 :=
  View.readAt (Elt Ideal) arg4.view (Rect.unit (s := S2048x512) (k0_off8 q) S256x128.size (k0_off8_inb q)).toLoadRect X4
abbrev tRow3 : FVec Ideal S1x256x1 .f32 :=
  View.readAt (Elt Ideal) arg6.view (Rect.unit (s := S1x2048x4) (k0_off12 q) S1x256x1.size (k0_off12_inb q)).toLoadRect X6

/-- The four heads of a block on the diagonal. -/
abbrev dg0 : Head := ⟨trip1.sl.v187 arg2 X2 q, trip1.sl.v258 arg3 X3 q, dRow0 arg5 q X5, vRow0 arg4 q X4, k0_pay139 (tRow0 arg6 q X6)⟩
abbrev dg1 : Head := ⟨trip1.sl.v189 arg2 X2 q, trip1.sl.v289 arg3 X3 q, dRow1 arg5 q X5, vRow1 arg4 q X4, k0_pay140 (tRow1 arg6 q X6)⟩
abbrev dg2 : Head := ⟨trip1.sl.v191 arg2 X2 q, trip1.sl.v320 arg3 X3 q, dRow2 arg5 q X5, vRow2 arg4 q X4, k0_pay141 (tRow2 arg6 q X6)⟩
abbrev dg3 : Head := ⟨trip1.sl.v193 arg2 X2 q, trip1.sl.v351 arg3 X3 q, dRow3 arg5 q X5, vRow3 arg4 q X4, k0_pay142 (tRow3 arg6 q X6)⟩

/-- The inner loop's state inside a trip of the outer one. -/
abbrev inn (f10 : BufTy.Contents (Elt Ideal) arg10.view.ty) (f11 : BufTy.Contents (Elt Ideal) arg11.view.ty) (n : ℕ) : S2 (F := Ideal) arg10 arg11 :=
  ⟪st2⟫ v6 v10 q (trip1.sl.arg15 lb q) (trip1.sl.v57 lb q)
    (trip1.sl.v187 arg2 X2 q) (trip1.sl.v189 arg2 X2 q) (trip1.sl.v191 arg2 X2 q) (trip1.sl.v193 arg2 X2 q)
    (dRow0 arg5 q X5) (dRow1 arg5 q X5) (dRow2 arg5 q X5) (dRow3 arg5 q X5)
    (tRow0 arg6 q X6) (tRow1 arg6 q X6) (tRow2 arg6 q X6) (tRow3 arg6 q X6) X3 X4
    ((k0_pay143, k0_pay143, k0_pay143, k0_pay143, k0_pay143, k0_pay143, k0_pay143, k0_pay143, k0_pay144, k0_pay144), f10, f11) n

theorem trip1_nine (f10 : BufTy.Contents (Elt Ideal) arg10.view.ty) (f11 : BufTy.Contents (Elt Ideal) arg11.view.ty) :
    (⟪trip1 (F := Ideal)⟫ v2 v6 v10 lb X2 X3 X4 X5 X6 q).1 f10 f11
      = (let s : S2 (F := Ideal) arg10 arg11 := ⟪inn⟫ v6 v10 q X3 X4 lb X2 X5 X6 f10 f11 (k0_t2_loop q).trips
         let H0 := dg0 arg2 arg3 arg4 arg5 arg6 q X3 X4 X2 X5 X6
         let H1 := dg1 arg2 arg3 arg4 arg5 arg6 q X3 X4 X2 X5 X6
         let H2 := dg2 arg2 arg3 arg4 arg5 arg6 q X3 X4 X2 X5 X6
         let H3 := dg3 arg2 arg3 arg4 arg5 arg6 q X3 X4 X2 X5 X6
         [⟨Rect.unit (s := S2048x256) (k0_off28 q) S256x128.size (k0_off28_inb q), k0_pay2 (dqOf2 s.1.2.2.2.2.2.2.2.2.2 H2.k H3.k (H2.dz (keep v2) v6 v10 s.1.2.2.2.2.1 s.1.2.2.2.2.2.1) (H3.dz (keep v2) v6 v10 s.1.2.2.2.2.2.2.1 s.1.2.2.2.2.2.2.2.1))⟩,
          ⟨Rect.unit (s := S2048x256) (k0_off27 q) S256x128.size (k0_off27_inb q), k0_pay1 (k0_pay203 s.1.2.2.2.2.2.2.2.2.1 H0.k H1.k (H0.dz (keep v2) v6 v10 s.1.1 s.1.2.1) (H1.dz (keep v2) v6 v10 s.1.2.2.1 s.1.2.2.2.1))⟩]) := rfl

theorem trip1_ten (f10 : BufTy.Contents (Elt Ideal) arg10.view.ty) (f11 : BufTy.Contents (Elt Ideal) arg11.view.ty) :
    (⟪trip1 (F := Ideal)⟫ v2 v6 v10 lb X2 X3 X4 X5 X6 q).2.1 f10 f11
      = (let s : S2 (F := Ideal) arg10 arg11 := ⟪inn⟫ v6 v10 q X3 X4 lb X2 X5 X6 f10 f11 (k0_t2_loop q).trips
         let H0 := dg0 arg2 arg3 arg4 arg5 arg6 q X3 X4 X2 X5 X6
         let H1 := dg1 arg2 arg3 arg4 arg5 arg6 q X3 X4 X2 X5 X6
         let H2 := dg2 arg2 arg3 arg4 arg5 arg6 q X3 X4 X2 X5 X6
         let H3 := dg3 arg2 arg3 arg4 arg5 arg6 q X3 X4 X2 X5 X6
         arg10.view.writes (Elt Ideal) s.2.1
         [⟨Rect.unit (s := S2048x256) (k0_off28 q) S256x128.size (k0_off28_inb q), dkOf2 H2.q H3.q (H2.dz (keep v2) v6 v10 s.1.2.2.2.2.1 s.1.2.2.2.2.2.1) (H3.dz (keep v2) v6 v10 s.1.2.2.2.2.2.2.1 s.1.2.2.2.2.2.2.2.1)
            (View.readAt (Elt Ideal) arg10.view (Rect.unit (s := S2048x256) (k0_off28 q) S256x128.size (k0_off28_inb q)).toLoadRect s.2.1)⟩,
          ⟨Rect.unit (s := S2048x256) (k0_off27 q) S256x128.size (k0_off27_inb q), dkOf2 H0.q H1.q (H0.dz (keep v2) v6 v10 s.1.1 s.1.2.1) (H1.dz (keep v2) v6 v10 s.1.2.2.1 s.1.2.2.2.1)
            (View.readAt (Elt Ideal) arg10.view (Rect.unit (s := S2048x256) (k0_off27 q) S256x128.size (k0_off27_inb q)).toLoadRect s.2.1)⟩]) := rfl

theorem trip1_eleven (f10 : BufTy.Contents (Elt Ideal) arg10.view.ty) (f11 : BufTy.Contents (Elt Ideal) arg11.view.ty) :
    (⟪trip1 (F := Ideal)⟫ v2 v6 v10 lb X2 X3 X4 X5 X6 q).2.2.1 f10 f11
      = (let s : S2 (F := Ideal) arg10 arg11 := ⟪inn⟫ v6 v10 q X3 X4 lb X2 X5 X6 f10 f11 (k0_t2_loop q).trips
         let H0 := dg0 arg2 arg3 arg4 arg5 arg6 q X3 X4 X2 X5 X6
         let H1 := dg1 arg2 arg3 arg4 arg5 arg6 q X3 X4 X2 X5 X6
         let H2 := dg2 arg2 arg3 arg4 arg5 arg6 q X3 X4 X2 X5 X6
         let H3 := dg3 arg2 arg3 arg4 arg5 arg6 q X3 X4 X2 X5 X6
         arg11.view.writes (Elt Ideal) s.2.2
         [⟨Rect.unit (s := S2048x512) (k0_off8 q) S256x128.size (k0_off8_inb q), dvAdd H3.d (H3.a (keep v2) v6 s.1.2.2.2.2.2.2.2.1)
            (View.readAt (Elt Ideal) arg11.view (Rect.unit (s := S2048x512) (k0_off8 q) S256x128.size (k0_off8_inb q)).toLoadRect s.2.2)⟩,
          ⟨Rect.unit (s := S2048x512) (k0_off7 q) S256x128.size (k0_off7_inb q), dvAdd H2.d (H2.a (keep v2) v6 s.1.2.2.2.2.2.1)
            (View.readAt (Elt Ideal) arg11.view (Rect.unit (s := S2048x512) (k0_off7 q) S256x128.size (k0_off7_inb q)).toLoadRect s.2.2)⟩,
          ⟨Rect.unit (s := S2048x512) (k0_off6 q) S256x128.size (k0_off6_inb q), dvAdd H1.d (H1.a (keep v2) v6 s.1.2.2.2.1)
            (View.readAt (Elt Ideal) arg11.view (Rect.unit (s := S2048x512) (k0_off6 q) S256x128.size (k0_off6_inb q)).toLoadRect s.2.2)⟩,
          ⟨Rect.unit (s := S2048x512) (k0_off5 q) S256x128.size (k0_off5_inb q), dvAdd H0.d (H0.a (keep v2) v6 s.1.2.1)
            (View.readAt (Elt Ideal) arg11.view (Rect.unit (s := S2048x512) (k0_off5 q) S256x128.size (k0_off5_inb q)).toLoadRect s.2.2)⟩]) := rfl

end Cert.SbGradIdeal.Hand

end
-- ==== Proof.SbGrad.Places.lean ====
module

public import proofs.«01_k».proof.Proof.SbGrad.Ops
public import proofs.«01_k».proof.Proof.SbGrad.Det

/-! Where the body's loads and stores lie, and what a load or a store of a block reads or leaves. -/

@[expose] public section

set_option maxRecDepth 16384

noncomputable section

namespace Cert.SbGradIdeal.Hand

open Cert.SbGradIdeal Cert.SbGradIdeal.Gen Idealize.ShloMosaic Idealize.ShloMosaic.TcCoe Idealize.SL.Sem
open Cert.Finite Finset

/-! ## Offsets -/

theorem trips2 (q : Fin k0_t1_loop.trips) : (k0_t2_loop q).trips = q.val :=
  (by decide +kernel : ∀ q : Fin 8, (k0_t2_loop q).trips = q.val) q
theorem off4 (q : Fin k0_t1_loop.trips) : k0_off4 q 0 = 256 * q.val ∧ k0_off4 q 1 = 0 :=
  (by decide +kernel : ∀ q : Fin 8, k0_off4 q 0 = 256 * q.val ∧ k0_off4 q 1 = 0) q
theorem off5 (q : Fin k0_t1_loop.trips) : k0_off5 q 0 = 256 * q.val ∧ k0_off5 q 1 = 0 :=
  (by decide +kernel : ∀ q : Fin 8, k0_off5 q 0 = 256 * q.val ∧ k0_off5 q 1 = 0) q
theorem off6 (q : Fin k0_t1_loop.trips) : k0_off6 q 0 = 256 * q.val ∧ k0_off6 q 1 = 128 :=
  (by decide +kernel : ∀ q : Fin 8, k0_off6 q 0 = 256 * q.val ∧ k0_off6 q 1 = 128) q
theorem off7 (q : Fin k0_t1_loop.trips) : k0_off7 q 0 = 256 * q.val ∧ k0_off7 q 1 = 256 :=
  (by decide +kernel : ∀ q : Fin 8, k0_off7 q 0 = 256 * q.val ∧ k0_off7 q 1 = 256) q
theorem off8 (q : Fin k0_t1_loop.trips) : k0_off8 q 0 = 256 * q.val ∧ k0_off8 q 1 = 384 :=
  (by decide +kernel : ∀ q : Fin 8, k0_off8 q 0 = 256 * q.val ∧ k0_off8 q 1 = 384) q
theorem off9 (q : Fin k0_t1_loop.trips) : k0_off9 q 0 = 0 ∧ k0_off9 q 1 = 256 * q.val ∧ k0_off9 q 2 = 0 :=
  (by decide +kernel : ∀ q : Fin 8, k0_off9 q 0 = 0 ∧ k0_off9 q 1 = 256 * q.val ∧ k0_off9 q 2 = 0) q
theorem off10 (q : Fin k0_t1_loop.trips) : k0_off10 q 0 = 0 ∧ k0_off10 q 1 = 256 * q.val ∧ k0_off10 q 2 = 1 :=
  (by decide +kernel : ∀ q : Fin 8, k0_off10 q 0 = 0 ∧ k0_off10 q 1 = 256 * q.val ∧ k0_off10 q 2 = 1) q
theorem off11 (q : Fin k0_t1_loop.trips) : k0_off11 q 0 = 0 ∧ k0_off11 q 1 = 256 * q.val ∧ k0_off11 q 2 = 2 :=
  (by decide +kernel : ∀ q : Fin 8, k0_off11 q 0 = 0 ∧ k0_off11 q 1 = 256 * q.val ∧ k0_off11 q 2 = 2) q
theorem off12 (q : Fin k0_t1_loop.trips) : k0_off12 q 0 = 0 ∧ k0_off12 q 1 = 256 * q.val ∧ k0_off12 q 2 = 3 :=
  (by decide +kernel : ∀ q : Fin 8, k0_off12 q 0 = 0 ∧ k0_off12 q 1 = 256 * q.val ∧ k0_off12 q 2 = 3) q
theorem off13 (q : Fin k0_t1_loop.trips) (k : Fin (k0_t2_loop q).trips) : k0_off13 q k 0 = 256 * k.val ∧ k0_off13 q k 1 = 0 :=
  (by decide +kernel : ∀ q : Fin 8, ∀ k : Fin (k0_t2_loop q).trips, k0_off13 q k 0 = 256 * k.val ∧ k0_off13 q k 1 = 0) q k
theorem off14 (q : Fin k0_t1_loop.trips) (k : Fin (k0_t2_loop q).trips) : k0_off14 q k 0 = 256 * k.val ∧ k0_off14 q k 1 = 0 :=
  (by decide +kernel : ∀ q : Fin 8, ∀ k : Fin (k0_t2_loop q).trips, k0_off14 q k 0 = 256 * k.val ∧ k0_off14 q k 1 = 0) q k
theorem off15 (q : Fin k0_t1_loop.trips) (k : Fin (k0_t2_loop q).trips) : k0_off15 q k 0 = 256 * k.val ∧ k0_off15 q k 1 = 128 :=
  (by decide +kernel : ∀ q : Fin 8, ∀ k : Fin (k0_t2_loop q).trips, k0_off15 q k 0 = 256 * k.val ∧ k0_off15 q k 1 = 128) q k
theorem off16 (q : Fin k0_t1_loop.trips) (k : Fin (k0_t2_loop q).trips) : k0_off16 q k 0 = 256 * k.val ∧ k0_off16 q k 1 = 256 :=
  (by decide +kernel : ∀ q : Fin 8, ∀ k : Fin (k0_t2_loop q).trips, k0_off16 q k 0 = 256 * k.val ∧ k0_off16 q k 1 = 256) q k
theorem off17 (q : Fin k0_t1_loop.trips) (k : Fin (k0_t2_loop q).trips) : k0_off17 q k 0 = 256 * k.val ∧ k0_off17 q k 1 = 384 :=
  (by decide +kernel : ∀ q : Fin 8, ∀ k : Fin (k0_t2_loop q).trips, k0_off17 q k 0 = 256 * k.val ∧ k0_off17 q k 1 = 384) q k
theorem off18 (q : Fin k0_t1_loop.trips) (k : Fin (k0_t2_loop q).trips) : k0_off18 q k 0 = 256 * k.val ∧ k0_off18 q k 1 = 0 :=
  (by decide +kernel : ∀ q : Fin 8, ∀ k : Fin (k0_t2_loop q).trips, k0_off18 q k 0 = 256 * k.val ∧ k0_off18 q k 1 = 0) q k
theorem off19 (q : Fin k0_t1_loop.trips) (k : Fin (k0_t2_loop q).trips) : k0_off19 q k 0 = 256 * k.val ∧ k0_off19 q k 1 = 128 :=
  (by decide +kernel : ∀ q : Fin 8, ∀ k : Fin (k0_t2_loop q).trips, k0_off19 q k 0 = 256 * k.val ∧ k0_off19 q k 1 = 128) q k
/-! ## Blocks -/

/-- A load of a block reads the array there. -/
theorem readAt_blk {κ : Kind} {sp : Space} {e : EltTy} {Val : EltTy → Type} {m n p w J C : ℕ} (v : View sig κ sp ⟨2, ![m, n]⟩ e) (off : Fin 2 → ℕ)
    (inb) (f : v.ty.Contents Val) (e0 : off 0 = J) (e1 : off 1 = C) (r : Fin p) (l : Fin w) (hr : J + r.val < m) (hl : C + l.val < n) :
    View.readAt Val v (Rect.unit (s := ⟨2, ![m, n]⟩) off ![p, w] inb).toLoadRect f (ix2 r l) = v.read Val f (ix2 ⟨J + r.val, hr⟩ ⟨C + l.val, hl⟩) := by
  rw [View.readAt_apply]
  refine congrArg (v.read Val f) (funext fun a => Fin.ext ?_)
  refine (Rect.idx_unit_val off ![p, w] inb (ix2 r l) a).trans ?_
  fin_cases a
  · exact congrArg (· + r.val) e0
  · exact congrArg (· + l.val) e1

/-- A store of a block of 256 rows and 128 columns leaves it there, and the rest as it was. -/
theorem writes_blk {κ : Kind} {sp : Space} {e : EltTy} {Val : EltTy → Type} {n J C : ℕ} (v : View sig κ sp ⟨2, ![2048, n]⟩ e) (off : Fin 2 → ℕ)
    (inb) (f : v.ty.Contents Val) (w) (L : List (View.Piece Val ⟨2, ![2048, n]⟩ e)) (e0 : off 0 = J) (e1 : off 1 = C) (s : Fin 2048) (l : Fin n) :
    v.read Val (v.writes Val f (⟨Rect.unit (s := ⟨2, ![2048, n]⟩) off ![256, 128] inb, w⟩ :: L)) (ix2 s l)
      = if h : (J ≤ s.val ∧ s.val < J + 256) ∧ C ≤ l.val ∧ l.val < C + 128 then w (ix2 (⟨s.val - J, by omega⟩ : Fin 256) (⟨l.val - C, by omega⟩ : Fin 128))
        else v.read Val (v.writes Val f L) (ix2 s l) := by
  subst e0 e1
  refine (View.read_writes_cons_unit v f inb w L (ix2 s l) rfl).trans ?_
  by_cases h : (off 0 ≤ s.val ∧ s.val < off 0 + 256) ∧ off 1 ≤ l.val ∧ l.val < off 1 + 128
  · rw [dif_pos h, dif_pos (fun a => by fin_cases a; exacts [h.1, h.2])]
    refine congrArg w (funext fun a => ?_)
    fin_cases a <;> rfl
  · rw [dif_neg h, dif_neg (fun h' => h ⟨h' 0, h' 1⟩)]

section Held
variable {κ : Kind} {sp : Space} {e : EltTy} {Val : EltTy → Type} (ofReal : ℝ → Val e)

theorem held_blk {m n p w J C : ℕ} {v : View sig κ sp ⟨2, ![m, n]⟩ e} {f : v.ty.Contents Val} {X : ℕ → ℕ → ℝ}
    (h : ∀ (r : Fin m) (c : Fin n), v.read Val f (ix2 r c) = ofReal (X r.val c.val)) (off : Fin 2 → ℕ) (inb) (e0 : off 0 = J) (e1 : off 1 = C)
    (hm : J + p ≤ m) (hn : C + w ≤ n) (r : Fin p) (l : Fin w) :
    View.readAt Val v (Rect.unit (s := ⟨2, ![m, n]⟩) off ![p, w] inb).toLoadRect f (ix2 r l) = ofReal (X (J + r.val) (C + l.val)) :=
  (readAt_blk v off inb f e0 e1 r l (by have := r.isLt; omega) (by have := l.isLt; omega)).trans (h _ _)

theorem held_stored {n J C : ℕ} {v : View sig κ sp ⟨2, ![2048, n]⟩ e} {f : v.ty.Contents Val} {X P : ℕ → ℕ → ℝ} {L}
    {w : (⟨2, ![256, 128]⟩ : Shape).Idx → Val e}
    (h : ∀ (r : Fin 2048) (c : Fin n), v.read Val (v.writes Val f L) (ix2 r c) = ofReal (X r.val c.val))
    (hw : ∀ (r : Fin 256) (c : Fin 128), w (ix2 r c) = ofReal (P r.val c.val)) (off : Fin 2 → ℕ) (inb) (e0 : off 0 = J) (e1 : off 1 = C)
    (s : Fin 2048) (l : Fin n) :
    v.read Val (v.writes Val f (⟨Rect.unit (s := ⟨2, ![2048, n]⟩) off ![256, 128] inb, w⟩ :: L)) (ix2 s l)
      = ofReal (if (J ≤ s.val ∧ s.val < J + 256) ∧ C ≤ l.val ∧ l.val < C + 128 then P (s.val - J) (l.val - C) else X s.val l.val) := by
  rw [writes_blk v off inb f w L e0 e1 s l]
  by_cases hc : (J ≤ s.val ∧ s.val < J + 256) ∧ C ≤ l.val ∧ l.val < C + 128
  · rw [dif_pos hc, if_pos hc]; exact hw _ _
  · rw [dif_neg hc, if_neg hc]; exact h s l

end Held

theorem IsR.blk {sp : Space} {m n p w J C : ℕ} {v : View sig .tc sp ⟨2, ![m, n]⟩ .bf16} {f : v.ty.Contents (Elt Ideal)} {X : ℕ → ℕ → ℝ}
    (h : IsR (v.read (Elt Ideal) f) X) (off : Fin 2 → ℕ) (inb) (e0 : off 0 = J) (e1 : off 1 = C) (hm : J + p ≤ m) (hn : C + w ≤ n) :
    IsR (View.readAt (Elt Ideal) v (Rect.unit (s := ⟨2, ![m, n]⟩) off ![p, w] inb).toLoadRect f) fun r l => X (J + r) (C + l) :=
  held_blk (e := .bf16) (Val := Elt Ideal) (v := v) (f := f) (X := X) Real.toEReal h off inb e0 e1 hm hn
theorem IsR.blk32 {sp : Space} {m n p w J C : ℕ} {v : View sig .tc sp ⟨2, ![m, n]⟩ .f32} {f : v.ty.Contents (Elt Ideal)} {X : ℕ → ℕ → ℝ}
    (h : IsR (v.read (Elt Ideal) f) X) (off : Fin 2 → ℕ) (inb) (e0 : off 0 = J) (e1 : off 1 = C) (hm : J + p ≤ m) (hn : C + w ≤ n) :
    IsR (View.readAt (Elt Ideal) v (Rect.unit (s := ⟨2, ![m, n]⟩) off ![p, w] inb).toLoadRect f) fun r l => X (J + r) (C + l) :=
  held_blk (e := .f32) (Val := Elt Ideal) (v := v) (f := f) (X := X) Real.toEReal h off inb e0 e1 hm hn
theorem IsR.stored {sp : Space} {n J C : ℕ} {v : View sig .tc sp ⟨2, ![2048, n]⟩ .bf16} {f : v.ty.Contents (Elt Ideal)} {X P : ℕ → ℕ → ℝ} {L}
    {w : (⟨2, ![256, 128]⟩ : Shape).Idx → EReal}
    (h : IsR (v.read (Elt Ideal) (v.writes (Elt Ideal) f L)) X) (hw : IsR w P) (off : Fin 2 → ℕ) (inb) (e0 : off 0 = J) (e1 : off 1 = C) :
    IsR (v.read (Elt Ideal) (v.writes (Elt Ideal) f (⟨Rect.unit (s := ⟨2, ![2048, n]⟩) off ![256, 128] inb, w⟩ :: L)))
      fun s l => if (J ≤ s ∧ s < J + 256) ∧ C ≤ l ∧ l < C + 128 then P (s - J) (l - C) else X s l :=
  held_stored (e := .bf16) (Val := Elt Ideal) (v := v) (f := f) (X := X) (P := P) Real.toEReal h hw off inb e0 e1
theorem IsR.stored32 {sp : Space} {n J C : ℕ} {v : View sig .tc sp ⟨2, ![2048, n]⟩ .f32} {f : v.ty.Contents (Elt Ideal)} {X P : ℕ → ℕ → ℝ} {L}
    {w : (⟨2, ![256, 128]⟩ : Shape).Idx → EReal}
    (h : IsR (v.read (Elt Ideal) (v.writes (Elt Ideal) f L)) X) (hw : IsR w P) (off : Fin 2 → ℕ) (inb) (e0 : off 0 = J) (e1 : off 1 = C) :
    IsR (v.read (Elt Ideal) (v.writes (Elt Ideal) f (⟨Rect.unit (s := ⟨2, ![2048, n]⟩) off ![256, 128] inb, w⟩ :: L)))
      fun s l => if (J ≤ s ∧ s < J + 256) ∧ C ≤ l ∧ l < C + 128 then P (s - J) (l - C) else X s l :=
  held_stored (e := .f32) (Val := Elt Ideal) (v := v) (f := f) (X := X) (P := P) Real.toEReal h hw off inb e0 e1

end Cert.SbGradIdeal.Hand

end
-- ==== Proof.SbGrad.Masks.lean ====
module

public import proofs.«01_k».proof.Proof.SbGrad.TripEq1
public import proofs.«01_k».proof.Proof.SbGrad.Places

/-! The masked heads: a column half of a block, its other head's lanes zeroed. -/

@[expose] public section

set_option maxRecDepth 16384

noncomputable section

namespace Cert.SbGradIdeal.Hand

open Cert.SbGradIdeal Cert.SbGradIdeal.Gen Idealize.ShloMosaic Idealize.ShloMosaic.TcCoe Idealize.SL.Sem
open Cert.Finite Finset

/-! ## A lane's mask: whether it is one of the lower or of the upper 64 -/

theorem lane_1_v90 (l : Fin 128) : trip1.sl.v90 (ix2 0 l) = if l.val / 64 = 0 then 1#1 else 0#1 := by
  revert l; decide +kernel
theorem lane_1_v121 (l : Fin 128) : trip1.sl.v121 (ix2 0 l) = if l.val / 64 = 1 then 1#1 else 0#1 := by
  revert l; decide +kernel
theorem lane_1_v256 (l : Fin 128) : trip1.sl.v256 (ix2 0 l) = if l.val / 64 = 0 then 1#1 else 0#1 := by
  revert l; decide +kernel
theorem lane_1_v287 (l : Fin 128) : trip1.sl.v287 (ix2 0 l) = if l.val / 64 = 1 then 1#1 else 0#1 := by
  revert l; decide +kernel
theorem lane_1_v318 (l : Fin 128) : trip1.sl.v318 (ix2 0 l) = if l.val / 64 = 0 then 1#1 else 0#1 := by
  revert l; decide +kernel
theorem lane_2_v643 (l : Fin 128) : trip2.sl.v643 (ix2 0 l) = if l.val / 64 = 0 then 1#1 else 0#1 := by
  revert l; decide +kernel
theorem lane_2_v674 (l : Fin 128) : trip2.sl.v674 (ix2 0 l) = if l.val / 64 = 1 then 1#1 else 0#1 := by
  revert l; decide +kernel

theorem select_if (p : Prop) [Decidable p] (x : EReal) (X : ℝ) (h : x = ((X : ℝ) : EReal)) :
    Scalar.select (if p then 1#1 else 0#1) x (0 : EReal) = ((if p then X else 0 : ℝ) : EReal) := by
  by_cases hp : p
  · rw [if_pos hp, if_pos hp, h]; rfl
  · rw [if_neg hp, if_neg hp]; rfl

theorem eighth : Ideal.ofBits FTy.bf16 15872#16 = (((1 / 8 : ℝ)) : EReal) := by
  simp [Ideal.ofBits, Ideal.ieee, -EReal.coe_mul]; norm_num

/-- A head of the queries (scaled) and of the keys, as real numbers. -/
def qHead (X : ℕ → ℕ → ℝ) (h R l : ℕ) : ℝ := if l / 64 = h % 2 then X R (128 * (h / 2) + l) * (1 / 8) else 0
def kHead (X : ℕ → ℕ → ℝ) (h R l : ℕ) : ℝ := if l / 64 = h % 2 then X R (128 * (h / 2) + l) else 0

variable (arg2 : Memref sig .tc .vmem S2048x256 .bf16) (X2 : BufTy.Contents (Elt Ideal) arg2.view.ty)
  (arg3 : Memref sig .tc .vmem S2048x256 .bf16) (X3 : BufTy.Contents (Elt Ideal) arg3.view.ty) (q : Fin k0_t1_loop.trips)

theorem q_lt : q.val < 8 := q.isLt
theorem k_lt (k : Fin (k0_t2_loop q).trips) : k.val < q.val := by exact lt_of_lt_of_eq k.isLt (trips2 q)

theorem q_real0 {X} (h : IsR (arg2.view.read (Elt Ideal) X2) X) : IsR (trip1.sl.v187 arg2 X2 q) fun r l => qHead X 0 (256 * q.val + r) l := by
  intro r l
  have h' := IsR.blk (p := 256) (w := 256) h (k0_off4 q) (k0_off4_inb q) (off4 q).1 (off4 q).2 (by have := q_lt q; omega) (by omega)
  pointwise [trip1.sl.v187, trip1.sl.v92, trip1.sl.v62, trip1.sl.v89, trip1.sl.v186, trip1.sl.cst_63, trip1.sl.cst_35]
  rw [lane_1_v90, eighth]
  refine select_if _ _ _ ?_
  rw [EReal.coe_mul]
  refine congrArg (· * _) ((h' r ⟨_, _⟩).trans ?_)
  (simp only [Nat.zero_add]) <;> (congr 2 <;> omega)

theorem q_real1 {X} (h : IsR (arg2.view.read (Elt Ideal) X2) X) : IsR (trip1.sl.v189 arg2 X2 q) fun r l => qHead X 1 (256 * q.val + r) l := by
  intro r l
  have h' := IsR.blk (p := 256) (w := 256) h (k0_off4 q) (k0_off4_inb q) (off4 q).1 (off4 q).2 (by have := q_lt q; omega) (by omega)
  pointwise [trip1.sl.v189, trip1.sl.v123, trip1.sl.v62, trip1.sl.v89, trip1.sl.v186, trip1.sl.cst_63, trip1.sl.cst_35]
  rw [lane_1_v121, eighth]
  refine select_if _ _ _ ?_
  rw [EReal.coe_mul]
  refine congrArg (· * _) ((h' r ⟨_, _⟩).trans ?_)
  (simp only [Nat.zero_add]) <;> (congr 2 <;> omega)

theorem q_real2 {X} (h : IsR (arg2.view.read (Elt Ideal) X2) X) : IsR (trip1.sl.v191 arg2 X2 q) fun r l => qHead X 2 (256 * q.val + r) l := by
  intro r l
  have h' := IsR.blk (p := 256) (w := 256) h (k0_off4 q) (k0_off4_inb q) (off4 q).1 (off4 q).2 (by have := q_lt q; omega) (by omega)
  pointwise [trip1.sl.v191, trip1.sl.v154, trip1.sl.v124, trip1.sl.r, trip1.sl.v89, trip1.sl.v186, trip1.sl.cst_63, trip1.sl.cst_35]
  rw [lane_1_v90, eighth]
  refine select_if _ _ _ ?_
  rw [EReal.coe_mul]
  refine congrArg (· * _) ((h' r ⟨_, _⟩).trans ?_)
  (simp only [Nat.zero_add]) <;> (congr 2 <;> omega)

theorem q_real3 {X} (h : IsR (arg2.view.read (Elt Ideal) X2) X) : IsR (trip1.sl.v193 arg2 X2 q) fun r l => qHead X 3 (256 * q.val + r) l := by
  intro r l
  have h' := IsR.blk (p := 256) (w := 256) h (k0_off4 q) (k0_off4_inb q) (off4 q).1 (off4 q).2 (by have := q_lt q; omega) (by omega)
  pointwise [trip1.sl.v193, trip1.sl.v185, trip1.sl.v124, trip1.sl.r, trip1.sl.v89, trip1.sl.v186, trip1.sl.cst_63, trip1.sl.cst_35]
  rw [lane_1_v121, eighth]
  refine select_if _ _ _ ?_
  rw [EReal.coe_mul]
  refine congrArg (· * _) ((h' r ⟨_, _⟩).trans ?_)
  (simp only [Nat.zero_add]) <;> (congr 2 <;> omega)

theorem kd_real0 {X} (h : IsR (arg3.view.read (Elt Ideal) X3) X) : IsR (trip1.sl.v258 arg3 X3 q) fun s l => kHead X 0 (256 * q.val + s) l := by
  intro r l
  have h' := IsR.blk (p := 256) (w := 256) h (k0_off4 q) (k0_off4_inb q) (off4 q).1 (off4 q).2 (by have := q_lt q; omega) (by omega)
  pointwise [trip1.sl.v258, trip1.sl.r_20, k0_pay147, trip1.sl.v255, trip1.sl.cst_89]
  rw [lane_1_v256]
  refine select_if _ _ _ ((h' r ⟨_, _⟩).trans ?_)
  (simp only [Nat.zero_add]) <;> (congr 2 <;> omega)

theorem kd_real1 {X} (h : IsR (arg3.view.read (Elt Ideal) X3) X) : IsR (trip1.sl.v289 arg3 X3 q) fun s l => kHead X 1 (256 * q.val + s) l := by
  intro r l
  have h' := IsR.blk (p := 256) (w := 256) h (k0_off4 q) (k0_off4_inb q) (off4 q).1 (off4 q).2 (by have := q_lt q; omega) (by omega)
  pointwise [trip1.sl.v289, trip1.sl.v259, trip1.sl.r_19, trip1.sl.v255, trip1.sl.cst_89]
  rw [lane_1_v287]
  refine select_if _ _ _ ((h' r ⟨_, _⟩).trans ?_)
  (simp only [Nat.zero_add]) <;> (congr 2 <;> omega)

theorem kd_real2 {X} (h : IsR (arg3.view.read (Elt Ideal) X3) X) : IsR (trip1.sl.v320 arg3 X3 q) fun s l => kHead X 2 (256 * q.val + s) l := by
  intro r l
  have h' := IsR.blk (p := 256) (w := 256) h (k0_off4 q) (k0_off4_inb q) (off4 q).1 (off4 q).2 (by have := q_lt q; omega) (by omega)
  pointwise [trip1.sl.v320, trip1.sl.v290, trip1.sl.r_19, trip1.sl.v255, trip1.sl.cst_89]
  rw [lane_1_v318]
  refine select_if _ _ _ ((h' r ⟨_, _⟩).trans ?_)
  (simp only [Nat.zero_add]) <;> (congr 2 <;> omega)

theorem kd_real3 {X} (h : IsR (arg3.view.read (Elt Ideal) X3) X) : IsR (trip1.sl.v351 arg3 X3 q) fun s l => kHead X 3 (256 * q.val + s) l := by
  intro r l
  have h' := IsR.blk (p := 256) (w := 256) h (k0_off4 q) (k0_off4_inb q) (off4 q).1 (off4 q).2 (by have := q_lt q; omega) (by omega)
  pointwise [trip1.sl.v351, trip1.sl.v290, trip1.sl.r_19, trip1.sl.v255, trip1.sl.cst_89]
  rw [lane_1_v287]
  refine select_if _ _ _ ((h' r ⟨_, _⟩).trans ?_)
  (simp only [Nat.zero_add]) <;> (congr 2 <;> omega)

theorem k_real0 {X} (h : IsR (arg3.view.read (Elt Ideal) X3) X) (k : Fin (k0_t2_loop q).trips) :
    IsR (trip2.sl.v645 arg3 q X3 k) fun s l => kHead X 0 (256 * k.val + s) l := by
  intro r l
  have h' := IsR.blk (p := 256) (w := 256) h (k0_off13 q k) (k0_off13_inb q k) (off13 q k).1 (off13 q k).2 (by have := q_lt q; have := k_lt q k; omega) (by omega)
  pointwise [trip2.sl.v645, trip2.sl.v615, trip2.sl.v642, trip2.sl.cst_203, trip2.sl.r]
  rw [lane_2_v643]
  refine select_if _ _ _ ((h' r ⟨_, _⟩).trans ?_)
  (simp only [Nat.zero_add]) <;> (congr 2 <;> omega)

theorem k_real1 {X} (h : IsR (arg3.view.read (Elt Ideal) X3) X) (k : Fin (k0_t2_loop q).trips) :
    IsR (trip2.sl.v676 arg3 q X3 k) fun s l => kHead X 1 (256 * k.val + s) l := by
  intro r l
  have h' := IsR.blk (p := 256) (w := 256) h (k0_off13 q k) (k0_off13_inb q k) (off13 q k).1 (off13 q k).2 (by have := q_lt q; have := k_lt q k; omega) (by omega)
  pointwise [trip2.sl.v676, trip2.sl.v615, trip2.sl.v642, trip2.sl.cst_203, trip2.sl.r]
  rw [lane_2_v674]
  refine select_if _ _ _ ((h' r ⟨_, _⟩).trans ?_)
  (simp only [Nat.zero_add]) <;> (congr 2 <;> omega)

theorem k_real2 {X} (h : IsR (arg3.view.read (Elt Ideal) X3) X) (k : Fin (k0_t2_loop q).trips) :
    IsR (trip2.sl.v707 arg3 q X3 k) fun s l => kHead X 2 (256 * k.val + s) l := by
  intro r l
  have h' := IsR.blk (p := 256) (w := 256) h (k0_off13 q k) (k0_off13_inb q k) (off13 q k).1 (off13 q k).2 (by have := q_lt q; have := k_lt q k; omega) (by omega)
  pointwise [trip2.sl.v707, trip2.sl.v677, trip2.sl.v642, trip2.sl.cst_203, trip2.sl.r]
  rw [lane_2_v643]
  refine select_if _ _ _ ((h' r ⟨_, _⟩).trans ?_)
  (simp only [Nat.zero_add]) <;> (congr 2 <;> omega)

theorem k_real3 {X} (h : IsR (arg3.view.read (Elt Ideal) X3) X) (k : Fin (k0_t2_loop q).trips) :
    IsR (trip2.sl.v738 arg3 q X3 k) fun s l => kHead X 3 (256 * k.val + s) l := by
  intro r l
  have h' := IsR.blk (p := 256) (w := 256) h (k0_off13 q k) (k0_off13_inb q k) (off13 q k).1 (off13 q k).2 (by have := q_lt q; have := k_lt q k; omega) (by omega)
  pointwise [trip2.sl.v738, trip2.sl.v677, trip2.sl.v642, trip2.sl.cst_203, trip2.sl.r]
  rw [lane_2_v674]
  refine select_if _ _ _ ((h' r ⟨_, _⟩).trans ?_)
  (simp only [Nat.zero_add]) <;> (congr 2 <;> omega)

end Cert.SbGradIdeal.Hand

end
-- ==== Proof.SbGrad.Head.lean ====
module

public import proofs.«01_k».proof.Proof.SbGrad.Ops

/-! One head of a block, on real numbers: the weights and the gradients of the scores are those of the whole rows. -/

@[expose] public section

set_option maxRecDepth 16384

noncomputable section

namespace Cert.SbGradIdeal.Hand

open Cert.SbGradIdeal Cert.SbGradIdeal.Gen Idealize.ShloMosaic Idealize.ShloMosaic.TcCoe Idealize.SL.Sem
open Cert.Finite Finset

/-- A head's block holds the rows from `Q` and the columns from `J` of a head's arrays. -/
structure Head.Is (H : Head) (A : Arrays) (Q J : ℕ) : Prop where
  q : IsR H.q fun r l => A.q (Q + r) l
  k : IsR H.k fun s l => A.k (J + s) l
  d : IsR H.d fun r l => A.d (Q + r) l
  v : IsR H.v fun s l => A.v (J + s) l
  tot : IsR H.tot fun r _ => A.t (Q + r)

/-- What keeps the part of a block under the mask. -/
def Keeps (kp : FVec Ideal S256x256 .f32 → FVec Ideal S256x256 .f32) (Q J : ℕ) : Prop :=
  ∀ x X, IsR x X → IsR (kp x) fun r s => if J + s < Q + r then X r s else 0

theorem keeps_id {Q J : ℕ} (h : J + 256 ≤ Q) : Keeps id Q J := fun x X hx =>
  IsR.congr hx fun r s hr hs => (if_pos (by omega)).symm
theorem keeps_keep {Q : ℕ} : Keeps (keep k0_pay204) Q Q := fun x X hx =>
  IsR.congr (keep_real hx) fun r s hr hs => if_congr (by omega) rfl rfl

variable {H : Head} {A : Arrays} {Q J : ℕ} {kp : FVec Ideal S256x256 .f32 → FVec Ideal S256x256 .f32} {G M : FVec Ideal S256x1 .f32}

theorem Head.z_real (h : H.Is A Q J) : IsR H.z fun r s => A.Z (Q + r) (J + s) := zOf_real h.q h.k
theorem Head.da_real (h : H.Is A Q J) : IsR H.da fun r s => A.DA (Q + r) (J + s) := zOf_real h.d h.v

theorem Head.a_real (h : H.Is A Q J) (hk : Keeps kp Q J) (hM : IsR M fun r _ => cum A.Z (Q + r) J) :
    IsR (H.a kp k0_pay205 M) fun r s => A.W (Q + r) (J + s) := by
  refine IsR.congr (hk _ _ (aOf_real upto_real h.tot hM (lbOf_real (Head.z_real h)) (hk _ _ (lomOf_real (Head.z_real h))))) fun r s hr hs => ?_
  show (if J + s < Q + r then _ else 0) = wt A.Z A.t (Q + r) (J + s)
  rw [wt]
  refine if_congr Iff.rfl ?_ rfl
  rw [sum_upto _ hs, show J + s + 1 = J + (s + 1) by omega, cum_add, sub_sub]
  rfl

theorem Head.g_real (h : H.Is A Q J) (hk : Keeps kp Q J) (hM : IsR M fun r _ => cum A.Z (Q + r) J) :
    IsR (H.g kp k0_pay205 M) fun r s => gr A.Z A.DA A.t (Q + r) (J + s) :=
  mulf_real (Head.a_real h hk hM) (Head.da_real h)

theorem Head.dz_real (h : H.Is A Q J) (hk : Keeps kp Q J) (hM : IsR M fun r _ => cum A.Z (Q + r) J)
    (hG : IsR G fun r _ => gcum A.Z A.DA A.t (Q + r) J) :
    IsR (H.dz kp k0_pay205 k0_pay206 G M) fun r s => A.D (Q + r) (J + s) := by
  refine IsR.congr (dzOf_real (Head.g_real h hk hM) (lbOf_real (Head.z_real h))
    (hk _ _ (exclOf_real before_real hG (Head.g_real h hk hM) (lbOf_real (Head.z_real h))))) fun r s hr hs => ?_
  show _ = dsc A.Z A.DA A.t (Q + r) (J + s)
  rw [dsc]
  refine congrArg₂ _ rfl (if_congr Iff.rfl ?_ rfl)
  rw [sum_before _ hs, gcum_add]

theorem Head.gsum_real (h : H.Is A Q J) (hk : Keeps kp Q J) (hM : IsR M fun r _ => cum A.Z (Q + r) J)
    (hG : IsR G fun r _ => gcum A.Z A.DA A.t (Q + r) J) :
    IsR (sumOf G (H.g kp k0_pay205 M)) fun r _ => gcum A.Z A.DA A.t (Q + r) (J + 256) :=
  IsR.congr (sumOf_real hG (Head.g_real h hk hM)) fun r s hr hs => (gcum_add _ _ _ _ _ _).symm

theorem Head.msum_real (h : H.Is A Q J) (hJ : J + 256 ≤ Q) (hM : IsR M fun r _ => cum A.Z (Q + r) J) :
    IsR (sumOf M (lomOf H.z)) fun r _ => cum A.Z (Q + r) (J + 256) :=
  IsR.congr (sumOf_real hM (lomOf_real (Head.z_real h))) fun r s hr hs => by
    rw [cum_add]
    refine congrArg₂ _ rfl (sum_congr rfl fun l hl => ?_)
    exact (if_pos (by have := mem_range.mp hl; omega)).symm

/-- Two heads' part of `dq`, of `dk`, and a head's part of `dv`. -/
theorem dq_real {H' : Head} {A' : Arrays} {G' M' o} (h : H.Is A Q J) (h' : H'.Is A' Q J) (hk : Keeps kp Q J)
    (hM : IsR M fun r _ => cum A.Z (Q + r) J) (hG : IsR G fun r _ => gcum A.Z A.DA A.t (Q + r) J)
    (hM' : IsR M' fun r _ => cum A'.Z (Q + r) J) (hG' : IsR G' fun r _ => gcum A'.Z A'.DA A'.t (Q + r) J)
    (ho : IsR o fun r l => ∑ S ∈ range J, A.fq A' l (Q + r) S) :
    IsR (dqOf2 o H.k H'.k (H.dz kp k0_pay205 k0_pay206 G M) (H'.dz kp k0_pay205 k0_pay206 G' M'))
      fun r l => ∑ S ∈ range (J + 256), A.fq A' l (Q + r) S :=
  IsR.congr (dqOf2_real ho h.k h'.k (Head.dz_real h hk hM hG) (Head.dz_real h' hk hM' hG')) fun r l hr hl => (sum_range_add _ _ _).symm

theorem dk_real {H' : Head} {A' : Arrays} {G' M' o O} (h : H.Is A Q J) (h' : H'.Is A' Q J) (hk : Keeps kp Q J)
    (hM : IsR M fun r _ => cum A.Z (Q + r) J) (hG : IsR G fun r _ => gcum A.Z A.DA A.t (Q + r) J)
    (hM' : IsR M' fun r _ => cum A'.Z (Q + r) J) (hG' : IsR G' fun r _ => gcum A'.Z A'.DA A'.t (Q + r) J) (ho : IsR o O) :
    IsR (dkOf2 H.q H'.q (H.dz kp k0_pay205 k0_pay206 G M) (H'.dz kp k0_pay205 k0_pay206 G' M') o)
      fun s l => O s l + ∑ r ∈ range 256, A.fk A' l (Q + r) (J + s) :=
  dkOf2_real ho h.q h'.q (Head.dz_real h hk hM hG) (Head.dz_real h' hk hM' hG')

theorem dv_real {o O} (h : H.Is A Q J) (hk : Keeps kp Q J) (hM : IsR M fun r _ => cum A.Z (Q + r) J) (ho : IsR o O) :
    IsR (dvAdd H.d (H.a kp k0_pay205 M) o) fun s l => O s l + ∑ r ∈ range 256, A.fv l (Q + r) (J + s) :=
  dvOf_real h.d (Head.a_real h hk hM) ho

end Cert.SbGradIdeal.Hand

end
-- ==== Proof.SbGrad.State.lean ====
module

public import proofs.«01_k».proof.Proof.SbGrad.Head
public import proofs.«01_k».proof.Proof.SbGrad.Places

/-! What the loops carry and what the scratches hold between two blocks, as real numbers, and how a block changes them. -/

@[expose] public section

set_option maxRecDepth 16384

noncomputable section

namespace Cert.SbGradIdeal.Hand

open Cert.SbGradIdeal Cert.SbGradIdeal.Gen Idealize.ShloMosaic Idealize.ShloMosaic.TcCoe Idealize.SL.Sem
open Cert.Finite Finset

/-- What a row and a column of scores add to a lane of `dk`, of `dv` and of `dq`, from the four heads of a point. -/
def FK (A B C D : Arrays) (l : ℕ) : ℕ → ℕ → ℝ := if l < 128 then A.fk B l else C.fk D (l - 128)
def FQ (A B C D : Arrays) (l : ℕ) : ℕ → ℕ → ℝ := if l < 128 then A.fq B l else C.fq D (l - 128)
def FV (A B C D : Arrays) (l : ℕ) : ℕ → ℕ → ℝ :=
  if l < 128 then A.fv l else if l < 256 then B.fv (l - 128) else if l < 384 then C.fv (l - 256) else D.fv (l - 384)

/-- A head's two sums before column `J`. -/
structure Sums (A : Arrays) (Q J : ℕ) (G M : FVec Ideal S256x1 .f32) : Prop where
  g : IsR G fun r _ => gcum A.Z A.DA A.t (Q + r) J
  m : IsR M fun r _ => cum A.Z (Q + r) J

/-- What the inner loop carries before the columns from `J`. -/
structure Carried (A B C D : Arrays) (Q J : ℕ) (x : Carry Ideal) : Prop where
  a : Sums A Q J x.1 x.2.1
  b : Sums B Q J x.2.2.1 x.2.2.2.1
  c : Sums C Q J x.2.2.2.2.1 x.2.2.2.2.2.1
  d : Sums D Q J x.2.2.2.2.2.2.1 x.2.2.2.2.2.2.2.1
  o : IsR x.2.2.2.2.2.2.2.2.1 fun r l => ∑ S ∈ range J, A.fq B l (Q + r) S
  p : IsR x.2.2.2.2.2.2.2.2.2 fun r l => ∑ S ∈ range J, C.fq D l (Q + r) S

variable {A B C D : Arrays} {Q J : ℕ} {HA HB HC HD : Head} {kp : FVec Ideal S256x256 .f32 → FVec Ideal S256x256 .f32} {x : Carry Ideal}

theorem Sums.step {G M} (s : Sums A Q J G M) (h : HA.Is A Q J) (hJ : J + 256 ≤ Q) :
    Sums A Q (J + 256) (sumOf G (HA.g id k0_pay205 M)) (sumOf M (lomOf HA.z)) :=
  ⟨Head.gsum_real h (keeps_id hJ) s.m s.g, Head.msum_real h hJ s.m⟩

/-- A block before the diagonal. -/
theorem Carried.step (s : Carried A B C D Q J x) (ha : HA.Is A Q J) (hb : HB.Is B Q J) (hc : HC.Is C Q J) (hd : HD.Is D Q J) (hJ : J + 256 ≤ Q) :
    Carried A B C D Q (J + 256) (let (G0, M0, G1, M1, G2, M2, G3, M3, o0, o1) := x
      (sumOf G0 (HA.g id k0_pay205 M0), sumOf M0 (lomOf HA.z), sumOf G1 (HB.g id k0_pay205 M1), sumOf M1 (lomOf HB.z),
       sumOf G2 (HC.g id k0_pay205 M2), sumOf M2 (lomOf HC.z), sumOf G3 (HD.g id k0_pay205 M3), sumOf M3 (lomOf HD.z),
       dqOf2 o0 HA.k HB.k (HA.dz id k0_pay205 k0_pay206 G0 M0) (HB.dz id k0_pay205 k0_pay206 G1 M1),
       dqOf2 o1 HC.k HD.k (HC.dz id k0_pay205 k0_pay206 G2 M2) (HD.dz id k0_pay205 k0_pay206 G3 M3))) :=
  ⟨s.a.step ha hJ, s.b.step hb hJ, s.c.step hc hJ, s.d.step hd hJ,
   dq_real ha hb (keeps_id hJ) s.a.m s.a.g s.b.m s.b.g s.o, dq_real hc hd (keeps_id hJ) s.c.m s.c.g s.d.m s.d.g s.p⟩

/-- A block's two stores to the sum of `dk`. -/
theorem dk_step {sp : Space} {v : View sig .tc sp S2048x256 .f32} {f : v.ty.Contents (Elt Ideal)} (s : Carried A B C D Q J x)
    (ha : HA.Is A Q J) (hb : HB.Is B Q J) (hc : HC.Is C Q J) (hd : HD.Is D Q J) (hk : Keeps kp Q J) (hJ : J + 256 ≤ 2048)
    (h : IsR (v.read (Elt Ideal) f) fun s l => built (FK A B C D l) Q J s)
    (o1 o0 : Fin 2 → ℕ) (i1 i0) (e1 : o1 0 = J ∧ o1 1 = 128) (e0 : o0 0 = J ∧ o0 1 = 0) :
    IsR (v.read (Elt Ideal) (v.writes (Elt Ideal) f
      [⟨Rect.unit (s := S2048x256) o1 S256x128.size i1, dkOf2 HC.q HD.q (HC.dz kp k0_pay205 k0_pay206 x.2.2.2.2.1 x.2.2.2.2.2.1) (HD.dz kp k0_pay205 k0_pay206 x.2.2.2.2.2.2.1 x.2.2.2.2.2.2.2.1)
          (View.readAt (Elt Ideal) v (Rect.unit (s := S2048x256) o1 S256x128.size i1).toLoadRect f)⟩,
       ⟨Rect.unit (s := S2048x256) o0 S256x128.size i0, dkOf2 HA.q HB.q (HA.dz kp k0_pay205 k0_pay206 x.1 x.2.1) (HB.dz kp k0_pay205 k0_pay206 x.2.2.1 x.2.2.2.1)
          (View.readAt (Elt Ideal) v (Rect.unit (s := S2048x256) o0 S256x128.size i0).toLoadRect f)⟩]))
      fun s l => built (FK A B C D l) Q (J + 256) s := by
  have r1 := IsR.blk32 (p := 256) (w := 128) h o1 i1 e1.1 e1.2 hJ (by omega)
  have r0 := IsR.blk32 (p := 256) (w := 128) h o0 i0 e0.1 e0.2 hJ (by omega)
  have w1 := dk_real hc hd hk s.c.m s.c.g s.d.m s.d.g r1
  have w0 := dk_real ha hb hk s.a.m s.a.g s.b.m s.b.g r0
  refine IsR.congr (IsR.stored32 (IsR.stored32 (by rw [View.writes_nil]; exact h) w0 o0 i0 e0.1 e0.2) w1 o1 i1 e1.1 e1.2) fun s l hs hl => ?_
  by_cases hin : J ≤ s ∧ s < J + 256
  · rw [built_in _ _ _ _ hin.1 hin.2]
    by_cases hl' : l < 128
    · rw [if_neg (by omega), if_pos ⟨hin, by omega⟩, Nat.zero_add, Nat.sub_zero, show J + (s - J) = s by omega]
      simp only [FK, if_pos hl']
    · rw [if_pos ⟨hin, by omega⟩, show J + (s - J) = s by omega, show 128 + (l - 128) = l by omega]
      simp only [FK, if_neg hl']
  · rw [if_neg (fun h => hin h.1), if_neg (fun h => hin h.1), built_out _ _ _ _ hin]

/-- A block's four stores to the sum of `dv`. -/
theorem dv_step {sp : Space} {v : View sig .tc sp S2048x512 .f32} {f : v.ty.Contents (Elt Ideal)} (s : Carried A B C D Q J x)
    (ha : HA.Is A Q J) (hb : HB.Is B Q J) (hc : HC.Is C Q J) (hd : HD.Is D Q J) (hk : Keeps kp Q J) (hJ : J + 256 ≤ 2048)
    (h : IsR (v.read (Elt Ideal) f) fun s l => built (FV A B C D l) Q J s)
    (o3 o2 o1 o0 : Fin 2 → ℕ) (i3 i2 i1 i0) (e3 : o3 0 = J ∧ o3 1 = 384) (e2 : o2 0 = J ∧ o2 1 = 256) (e1 : o1 0 = J ∧ o1 1 = 128) (e0 : o0 0 = J ∧ o0 1 = 0) :
    IsR (v.read (Elt Ideal) (v.writes (Elt Ideal) f
      [⟨Rect.unit (s := S2048x512) o3 S256x128.size i3, dvAdd HD.d (HD.a kp k0_pay205 x.2.2.2.2.2.2.2.1)
          (View.readAt (Elt Ideal) v (Rect.unit (s := S2048x512) o3 S256x128.size i3).toLoadRect f)⟩,
       ⟨Rect.unit (s := S2048x512) o2 S256x128.size i2, dvAdd HC.d (HC.a kp k0_pay205 x.2.2.2.2.2.1)
          (View.readAt (Elt Ideal) v (Rect.unit (s := S2048x512) o2 S256x128.size i2).toLoadRect f)⟩,
       ⟨Rect.unit (s := S2048x512) o1 S256x128.size i1, dvAdd HB.d (HB.a kp k0_pay205 x.2.2.2.1)
          (View.readAt (Elt Ideal) v (Rect.unit (s := S2048x512) o1 S256x128.size i1).toLoadRect f)⟩,
       ⟨Rect.unit (s := S2048x512) o0 S256x128.size i0, dvAdd HA.d (HA.a kp k0_pay205 x.2.1)
          (View.readAt (Elt Ideal) v (Rect.unit (s := S2048x512) o0 S256x128.size i0).toLoadRect f)⟩]))
      fun s l => built (FV A B C D l) Q (J + 256) s := by
  have r3 := dv_real hd hk s.d.m (IsR.blk32 (p := 256) (w := 128) h o3 i3 e3.1 e3.2 hJ (by omega))
  have r2 := dv_real hc hk s.c.m (IsR.blk32 (p := 256) (w := 128) h o2 i2 e2.1 e2.2 hJ (by omega))
  have r1 := dv_real hb hk s.b.m (IsR.blk32 (p := 256) (w := 128) h o1 i1 e1.1 e1.2 hJ (by omega))
  have r0 := dv_real ha hk s.a.m (IsR.blk32 (p := 256) (w := 128) h o0 i0 e0.1 e0.2 hJ (by omega))
  refine IsR.congr (IsR.stored32 (IsR.stored32 (IsR.stored32 (IsR.stored32 (by rw [View.writes_nil]; exact h) r0 o0 i0 e0.1 e0.2) r1 o1 i1 e1.1 e1.2)
    r2 o2 i2 e2.1 e2.2) r3 o3 i3 e3.1 e3.2) fun s l hs hl => ?_
  by_cases hin : J ≤ s ∧ s < J + 256
  · rw [built_in _ _ _ _ hin.1 hin.2]
    rcases (by omega : l < 128 ∨ (128 ≤ l ∧ l < 256) ∨ (256 ≤ l ∧ l < 384) ∨ 384 ≤ l) with h | h | h | h
    · rw [if_neg (by omega), if_neg (by omega), if_neg (by omega), if_pos ⟨hin, by omega⟩, Nat.zero_add, Nat.sub_zero, show J + (s - J) = s by omega]
      simp only [FV, if_pos h]
    · rw [if_neg (by omega), if_neg (by omega), if_pos ⟨hin, by omega⟩, show J + (s - J) = s by omega, show 128 + (l - 128) = l by omega]
      simp only [FV, if_neg (show ¬ l < 128 by omega), if_pos h.2]
    · rw [if_neg (by omega), if_pos ⟨hin, by omega⟩, show J + (s - J) = s by omega, show 256 + (l - 256) = l by omega]
      simp only [FV, if_neg (show ¬ l < 128 by omega), if_neg (show ¬ l < 256 by omega), if_pos h.2]
    · rw [if_pos ⟨hin, by omega⟩, show J + (s - J) = s by omega, show 384 + (l - 384) = l by omega]
      simp only [FV, if_neg (show ¬ l < 128 by omega), if_neg (show ¬ l < 256 by omega), if_neg (show ¬ l < 384 by omega)]
  · rw [if_neg (fun h => hin h.1), if_neg (fun h => hin h.1), if_neg (fun h => hin h.1), if_neg (fun h => hin h.1), built_out _ _ _ _ hin]

/-- A query block's two stores of `dq`: the rows' whole sums. -/
theorem dq_step {sp : Space} {v : View sig .tc sp S2048x256 .bf16} {f : v.ty.Contents (Elt Ideal)} (s : Carried A B C D Q Q x)
    (ha : HA.Is A Q Q) (hb : HB.Is B Q Q) (hc : HC.Is C Q Q) (hd : HD.Is D Q Q) (hk : Keeps kp Q Q) (hJ : Q + 256 ≤ 2048)
    (h : ∀ (r : Fin 2048) (l : Fin 256), r.val < Q → v.read (Elt Ideal) f (ix2 r l) = (((∑ S ∈ range 2048, FQ A B C D l r S) * (1 / 8) : ℝ) : EReal))
    (o1 o0 : Fin 2 → ℕ) (i1 i0) (e1 : o1 0 = Q ∧ o1 1 = 128) (e0 : o0 0 = Q ∧ o0 1 = 0) (r : Fin 2048) (l : Fin 256) (hr : r.val < Q + 256) :
    v.read (Elt Ideal) (v.writes (Elt Ideal) f
      [⟨Rect.unit (s := S2048x256) o1 S256x128.size i1,
          k0_pay2 (dqOf2 x.2.2.2.2.2.2.2.2.2 HC.k HD.k (HC.dz kp k0_pay205 k0_pay206 x.2.2.2.2.1 x.2.2.2.2.2.1) (HD.dz kp k0_pay205 k0_pay206 x.2.2.2.2.2.2.1 x.2.2.2.2.2.2.2.1))⟩,
       ⟨Rect.unit (s := S2048x256) o0 S256x128.size i0,
          k0_pay1 (k0_pay203 x.2.2.2.2.2.2.2.2.1 HA.k HB.k (HA.dz kp k0_pay205 k0_pay206 x.1 x.2.1) (HB.dz kp k0_pay205 k0_pay206 x.2.2.1 x.2.2.2.1))⟩]) (ix2 r l)
      = (((∑ S ∈ range 2048, FQ A B C D l r S) * (1 / 8) : ℝ) : EReal) := by
  have cast : ∀ {y : FVec Ideal S256x128 .f32} {Y}, IsR y Y → IsR (k0_pay2 y) fun r l => Y r l * (1 / 8) := by
    intro y Y hy r l
    pointwise [k0_pay2]
    rw [hy r l, show Ideal.ofBits FTy.f32 1040187392#32 = (((1 / 8 : ℝ)) : EReal) by simp [Ideal.ofBits, Ideal.ieee, -EReal.coe_mul]; norm_num, ← EReal.coe_mul]
  have w1 := cast (dq_real hc hd hk s.c.m s.c.g s.d.m s.d.g s.p)
  have w0 : IsR (k0_pay1 (k0_pay203 x.2.2.2.2.2.2.2.2.1 HA.k HB.k (HA.dz kp k0_pay205 k0_pay206 x.1 x.2.1) (HB.dz kp k0_pay205 k0_pay206 x.2.2.1 x.2.2.2.1))) _ :=
    cast (dq_real ha hb hk s.a.m s.a.g s.b.m s.b.g s.o)
  have all : ∀ F : ℕ → ℕ → ℝ, (∀ R S, R ≤ S → F R S = 0) → ∑ S ∈ range (Q + 256), F r S = ∑ S ∈ range 2048, F r S := fun F hF =>
    sum_subset (range_subset_range.mpr hJ) fun S _ hS => hF _ _ (by have := mt mem_range.mpr hS; omega)
  have hl := l.isLt
  refine (writes_blk (e := .bf16) v o1 i1 f _ _ e1.1 e1.2 r l).trans ?_
  by_cases h1 : (Q ≤ r.val ∧ r.val < Q + 256) ∧ 128 ≤ l.val ∧ l.val < 128 + 128
  · rw [dif_pos h1]
    refine (w1 _ _).trans (congrArg _ ?_)
    show (∑ S ∈ range (Q + 256), C.fq D (l.val - 128) (Q + (r.val - Q)) S) * _ = _
    rw [show Q + (r.val - Q) = r.val by omega, all _ (C.fq_after D _)]
    simp only [FQ, if_neg (show ¬ l.val < 128 by omega)]
  · rw [dif_neg h1]
    refine (writes_blk (e := .bf16) v o0 i0 f _ _ e0.1 e0.2 r l).trans ?_
    by_cases h0 : (Q ≤ r.val ∧ r.val < Q + 256) ∧ 0 ≤ l.val ∧ l.val < 0 + 128
    · rw [dif_pos h0]
      refine (w0 _ _).trans (congrArg _ ?_)
      show (∑ S ∈ range (Q + 256), A.fq B (l.val - 0) (Q + (r.val - Q)) S) * _ = _
      rw [show Q + (r.val - Q) = r.val by omega, Nat.sub_zero, all _ (A.fq_after B _)]
      simp only [FQ, if_pos (show l.val < 128 by omega)]
    · rw [dif_neg h0]
      exact h r l (by omega)

end Cert.SbGradIdeal.Hand

end
-- ==== Proof.SbGrad.Loops.lean ====
module

public import proofs.«01_k».proof.Proof.SbGrad.Masks
public import proofs.«01_k».proof.Proof.SbGrad.State

/-! The two loops on real numbers: what the scratches hold after each query block. -/

@[expose] public section

set_option maxRecDepth 16384
set_option maxHeartbeats 400000

noncomputable section

namespace Cert.SbGradIdeal.Hand

open Cert.SbGradIdeal.Gen
open Idealize.ShloMosaic Idealize.ShloMosaic.TcCoe
open Idealize.SL.Sem
open Finset

/-- A load of 256 rows of one column of the totals. -/
theorem totals_blk {v : View sig .tc .vmem S1x2048x4 .f32} {f : v.ty.Contents (Elt Ideal)} {X : ℕ → ℕ → ℝ} {J C : ℕ}
    (h : ∀ (r : Fin 2048) (c : Fin 4), v.read (Elt Ideal) f (ix3 0 r c) = ((X r.val c.val : ℝ) : EReal)) (off : Fin 3 → ℕ) (inb)
    (e : off 0 = 0 ∧ off 1 = J ∧ off 2 = C) (hJ : J + 256 ≤ 2048) (hC : C < 4) (r : Fin 256) :
    View.readAt (Elt Ideal) v (Rect.unit (s := S1x2048x4) off S1x256x1.size inb).toLoadRect f (ix3 0 r 0) = ((X (J + r.val) C : ℝ) : EReal) := by
  refine Eq.trans ?_ (h ⟨J + r.val, by have := r.isLt; omega⟩ ⟨C, hC⟩)
  rw [View.readAt_apply]
  refine congrArg (v.read (Elt Ideal) f) (funext fun a => Fin.ext ?_)
  refine (Rect.idx_unit_val (s := S1x2048x4) off S1x256x1.size inb (ix3 0 r 0) a).trans ?_
  fin_cases a
  · exact congrArg (· + 0) e.1
  · exact congrArg (· + r.val) e.2.1
  · exact congrArg (· + 0) e.2.2

/-- The arrays of head `h` of a point, from the point's blocks. -/
abbrev arr (Xq Xk Xv Xd Xt : ℕ → ℕ → ℝ) (h : ℕ) : Arrays :=
  ⟨qHead Xq h, kHead Xk h, fun R l => Xd R (128 * h + l), fun S l => Xv S (128 * h + l), fun R => Xt R h⟩

variable (c : Dev nD) (i : grid0.Coords)
  (arg2 : Memref sig .tc .vmem S2048x256 .bf16) (harg2 : arg2.IsWhole) (arg3 : Memref sig .tc .vmem S2048x256 .bf16) (harg3 : arg3.IsWhole)
  (arg4 : Memref sig .tc .vmem S2048x512 .bf16) (harg4 : arg4.IsWhole) (arg5 : Memref sig .tc .vmem S2048x512 .bf16) (harg5 : arg5.IsWhole)
  (arg6 : Memref sig .tc .vmem S1x2048x4 .f32) (harg6 : arg6.IsWhole) (arg7 : Memref sig .tc .hbm S4096x6144 .bf16) (harg7 : arg7.IsWhole)
  (arg8 : Memref sig .tc .hbm S4096x6144 .bf16) (harg8 : arg8.IsWhole) (arg9 : Memref sig .tc .vmem S2048x256 .bf16) (harg9 : arg9.IsWhole)
  (arg10 : Memref sig .tc .vmem S2048x256 .f32) (harg10 : arg10.IsWhole) (arg11 : Memref sig .tc .vmem S2048x512 .f32) (harg11 : arg11.IsWhole)
  (arg12 : Memref sig .tc .vmem S2048x256 .bf16) (harg12 : arg12.IsWhole) (arg13 : Memref sig .tc .vmem S2048x512 .bf16) (harg13 : arg13.IsWhole)
  (arg14 : DmaSems sig S3)
  (q : Fin k0_t1_loop.trips) (lb : BitVec 32)
  (X2 : BufTy.Contents (Elt Ideal) arg2.view.ty) (X3 : BufTy.Contents (Elt Ideal) arg3.view.ty) (X4 : BufTy.Contents (Elt Ideal) arg4.view.ty)
  (X5 : BufTy.Contents (Elt Ideal) arg5.view.ty) (X6 : BufTy.Contents (Elt Ideal) arg6.view.ty)
  {Xq Xk Xv Xd Xt : ℕ → ℕ → ℝ}

set_option quotPrecheck false in
local notation:max "⟪" f "⟫" => f c i arg2 harg2 arg3 harg3 arg4 harg4 arg5 harg5 arg6 harg6 arg7 harg7 arg8 harg8 arg9 harg9 arg10 harg10 arg11 harg11 arg12 harg12 arg13 harg13 arg14
set_option quotPrecheck false in
local notation:max "heads(" f ")" => f (arr Xq Xk Xv Xd Xt 0) (arr Xq Xk Xv Xd Xt 1) (arr Xq Xk Xv Xd Xt 2) (arr Xq Xk Xv Xd Xt 3)

/-- The point's five blocks hold real numbers. -/
structure Reads (Xq Xk Xv Xd Xt : ℕ → ℕ → ℝ) : Prop where
  q : IsR (arg2.view.read (Elt Ideal) X2) Xq
  k : IsR (arg3.view.read (Elt Ideal) X3) Xk
  v : IsR (arg4.view.read (Elt Ideal) X4) Xv
  d : IsR (arg5.view.read (Elt Ideal) X5) Xd
  t : ∀ (r : Fin 2048) (h : Fin 4), arg6.view.read (Elt Ideal) X6 (ix3 0 r h) = ((Xt r.val h.val : ℝ) : EReal)

variable (hX : Reads arg2 arg3 arg4 arg5 arg6 X2 X3 X4 X5 X6 Xq Xk Xv Xd Xt)
include hX

theorem tot_real0 : IsR (m := 256) (n := 1) (k0_pay139 (F := Ideal) (tRow0 arg6 q X6)) fun r _ => Xt (256 * q.val + r) 0 := by
  intro r s
  have := totals_blk hX.t (k0_off9 q) (k0_off9_inb q) (off9 q) (by have := q_lt q; omega) (by omega) r
  pointwise [k0_pay139]
  exact this
theorem hd_is0 (k : Fin (k0_t2_loop q).trips) :
    (hd0 arg3 arg4 q (trip1.sl.v187 arg2 X2 q) (dRow0 arg5 q X5) (tRow0 arg6 q X6) X3 X4 k).Is (arr Xq Xk Xv Xd Xt 0) (256 * q.val) (256 * k.val) where
  q := q_real0 arg2 X2 q hX.q
  k := k_real0 arg3 X3 q hX.k k
  d := IsR.blk (p := 256) (w := 128) hX.d _ _ (off5 q).1 (off5 q).2 (by have := q_lt q; omega) (by omega)
  v := IsR.blk (p := 256) (w := 128) hX.v _ _ (off14 q k).1 (off14 q k).2 (by have := q_lt q; have := k_lt q k; omega) (by omega)
  tot := tot_real0 arg2 arg3 arg4 arg5 arg6 q X2 X3 X4 X5 X6 hX
theorem dg_is0 : (dg0 arg2 arg3 arg4 arg5 arg6 q X3 X4 X2 X5 X6).Is (arr Xq Xk Xv Xd Xt 0) (256 * q.val) (256 * q.val) where
  q := q_real0 arg2 X2 q hX.q
  k := kd_real0 arg3 X3 q hX.k
  d := IsR.blk (p := 256) (w := 128) hX.d _ _ (off5 q).1 (off5 q).2 (by have := q_lt q; omega) (by omega)
  v := IsR.blk (p := 256) (w := 128) hX.v _ _ (off5 q).1 (off5 q).2 (by have := q_lt q; omega) (by omega)
  tot := tot_real0 arg2 arg3 arg4 arg5 arg6 q X2 X3 X4 X5 X6 hX
theorem tot_real1 : IsR (m := 256) (n := 1) (k0_pay140 (F := Ideal) (tRow1 arg6 q X6)) fun r _ => Xt (256 * q.val + r) 1 := by
  intro r s
  have := totals_blk hX.t (k0_off10 q) (k0_off10_inb q) (off10 q) (by have := q_lt q; omega) (by omega) r
  pointwise [k0_pay140]
  exact this
theorem hd_is1 (k : Fin (k0_t2_loop q).trips) :
    (hd1 arg3 arg4 q (trip1.sl.v189 arg2 X2 q) (dRow1 arg5 q X5) (tRow1 arg6 q X6) X3 X4 k).Is (arr Xq Xk Xv Xd Xt 1) (256 * q.val) (256 * k.val) where
  q := q_real1 arg2 X2 q hX.q
  k := k_real1 arg3 X3 q hX.k k
  d := IsR.blk (p := 256) (w := 128) hX.d _ _ (off6 q).1 (off6 q).2 (by have := q_lt q; omega) (by omega)
  v := IsR.blk (p := 256) (w := 128) hX.v _ _ (off15 q k).1 (off15 q k).2 (by have := q_lt q; have := k_lt q k; omega) (by omega)
  tot := tot_real1 arg2 arg3 arg4 arg5 arg6 q X2 X3 X4 X5 X6 hX
theorem dg_is1 : (dg1 arg2 arg3 arg4 arg5 arg6 q X3 X4 X2 X5 X6).Is (arr Xq Xk Xv Xd Xt 1) (256 * q.val) (256 * q.val) where
  q := q_real1 arg2 X2 q hX.q
  k := kd_real1 arg3 X3 q hX.k
  d := IsR.blk (p := 256) (w := 128) hX.d _ _ (off6 q).1 (off6 q).2 (by have := q_lt q; omega) (by omega)
  v := IsR.blk (p := 256) (w := 128) hX.v _ _ (off6 q).1 (off6 q).2 (by have := q_lt q; omega) (by omega)
  tot := tot_real1 arg2 arg3 arg4 arg5 arg6 q X2 X3 X4 X5 X6 hX
theorem tot_real2 : IsR (m := 256) (n := 1) (k0_pay141 (F := Ideal) (tRow2 arg6 q X6)) fun r _ => Xt (256 * q.val + r) 2 := by
  intro r s
  have := totals_blk hX.t (k0_off11 q) (k0_off11_inb q) (off11 q) (by have := q_lt q; omega) (by omega) r
  pointwise [k0_pay141]
  exact this
theorem hd_is2 (k : Fin (k0_t2_loop q).trips) :
    (hd2 arg3 arg4 q (trip1.sl.v191 arg2 X2 q) (dRow2 arg5 q X5) (tRow2 arg6 q X6) X3 X4 k).Is (arr Xq Xk Xv Xd Xt 2) (256 * q.val) (256 * k.val) where
  q := q_real2 arg2 X2 q hX.q
  k := k_real2 arg3 X3 q hX.k k
  d := IsR.blk (p := 256) (w := 128) hX.d _ _ (off7 q).1 (off7 q).2 (by have := q_lt q; omega) (by omega)
  v := IsR.blk (p := 256) (w := 128) hX.v _ _ (off16 q k).1 (off16 q k).2 (by have := q_lt q; have := k_lt q k; omega) (by omega)
  tot := tot_real2 arg2 arg3 arg4 arg5 arg6 q X2 X3 X4 X5 X6 hX
theorem dg_is2 : (dg2 arg2 arg3 arg4 arg5 arg6 q X3 X4 X2 X5 X6).Is (arr Xq Xk Xv Xd Xt 2) (256 * q.val) (256 * q.val) where
  q := q_real2 arg2 X2 q hX.q
  k := kd_real2 arg3 X3 q hX.k
  d := IsR.blk (p := 256) (w := 128) hX.d _ _ (off7 q).1 (off7 q).2 (by have := q_lt q; omega) (by omega)
  v := IsR.blk (p := 256) (w := 128) hX.v _ _ (off7 q).1 (off7 q).2 (by have := q_lt q; omega) (by omega)
  tot := tot_real2 arg2 arg3 arg4 arg5 arg6 q X2 X3 X4 X5 X6 hX
theorem tot_real3 : IsR (m := 256) (n := 1) (k0_pay142 (F := Ideal) (tRow3 arg6 q X6)) fun r _ => Xt (256 * q.val + r) 3 := by
  intro r s
  have := totals_blk hX.t (k0_off12 q) (k0_off12_inb q) (off12 q) (by have := q_lt q; omega) (by omega) r
  pointwise [k0_pay142]
  exact this
theorem hd_is3 (k : Fin (k0_t2_loop q).trips) :
    (hd3 arg3 arg4 q (trip1.sl.v193 arg2 X2 q) (dRow3 arg5 q X5) (tRow3 arg6 q X6) X3 X4 k).Is (arr Xq Xk Xv Xd Xt 3) (256 * q.val) (256 * k.val) where
  q := q_real3 arg2 X2 q hX.q
  k := k_real3 arg3 X3 q hX.k k
  d := IsR.blk (p := 256) (w := 128) hX.d _ _ (off8 q).1 (off8 q).2 (by have := q_lt q; omega) (by omega)
  v := IsR.blk (p := 256) (w := 128) hX.v _ _ (off17 q k).1 (off17 q k).2 (by have := q_lt q; have := k_lt q k; omega) (by omega)
  tot := tot_real3 arg2 arg3 arg4 arg5 arg6 q X2 X3 X4 X5 X6 hX
theorem dg_is3 : (dg3 arg2 arg3 arg4 arg5 arg6 q X3 X4 X2 X5 X6).Is (arr Xq Xk Xv Xd Xt 3) (256 * q.val) (256 * q.val) where
  q := q_real3 arg2 X2 q hX.q
  k := kd_real3 arg3 X3 q hX.k
  d := IsR.blk (p := 256) (w := 128) hX.d _ _ (off8 q).1 (off8 q).2 (by have := q_lt q; omega) (by omega)
  v := IsR.blk (p := 256) (w := 128) hX.v _ _ (off8 q).1 (off8 q).2 (by have := q_lt q; omega) (by omega)
  tot := tot_real3 arg2 arg3 arg4 arg5 arg6 q X2 X3 X4 X5 X6 hX

/-- What the inner loop carries, and what the two sums hold, before its trip `n`. -/
structure Inner (f10 : BufTy.Contents (Elt Ideal) arg10.view.ty) (f11 : BufTy.Contents (Elt Ideal) arg11.view.ty) (n : ℕ) : Prop where
  carry : heads(Carried) (256 * q.val) (256 * n)
    (⟪inn⟫ k0_pay205 k0_pay206 q X3 X4 lb X2 X5 X6 f10 f11 n).1
  k : IsR (arg10.view.read (Elt Ideal) (⟪inn⟫ k0_pay205 k0_pay206 q X3 X4 lb X2 X5 X6 f10 f11 n).2.1)
    fun s l => built (heads(FK) l) (256 * q.val) (256 * n) s
  v : IsR (arg11.view.read (Elt Ideal) (⟪inn⟫ k0_pay205 k0_pay206 q X3 X4 lb X2 X5 X6 f10 f11 n).2.2)
    fun s l => built (heads(FV) l) (256 * q.val) (256 * n) s

omit hX in
theorem zero_sums (A : Arrays) (Q : ℕ) : Sums A Q 0 (k0_pay143 (F := Ideal)) k0_pay143 :=
  ⟨fun r s => by pointwise [k0_pay143]; simp [gcum], fun r s => by pointwise [k0_pay143]; simp [cum]⟩
omit hX in
theorem zero_dq (f : ℕ → ℕ → ℕ → ℝ) (Q : ℕ) : IsR (k0_pay144 (F := Ideal)) fun r l => ∑ S ∈ range 0, f l (Q + r) S :=
  fun r s => by pointwise [k0_pay144]; rw [range_zero, sum_empty]; rfl

omit hX in
theorem inn_succ (f10 : BufTy.Contents (Elt Ideal) arg10.view.ty) (f11 : BufTy.Contents (Elt Ideal) arg11.view.ty) (k : Fin (k0_t2_loop q).trips) :
    ⟪inn⟫ k0_pay205 k0_pay206 q X3 X4 lb X2 X5 X6 f10 f11 (k.val + 1) = (let s := ⟪inn⟫ k0_pay205 k0_pay206 q X3 X4 lb X2 X5 X6 f10 f11 k.val
      let t := ⟪trip2 (F := Ideal)⟫ k0_pay205 k0_pay206 q (trip1.sl.arg15 lb q) (trip1.sl.v57 lb q)
          (trip1.sl.v187 arg2 X2 q) (trip1.sl.v189 arg2 X2 q) (trip1.sl.v191 arg2 X2 q) (trip1.sl.v193 arg2 X2 q)
          (dRow0 arg5 q X5) (dRow1 arg5 q X5) (dRow2 arg5 q X5) (dRow3 arg5 q X5)
          (tRow0 arg6 q X6) (tRow1 arg6 q X6) (tRow2 arg6 q X6) (tRow3 arg6 q X6) X3 X4 k
      (t.1 s.1 s.2.1 s.2.2, arg10.view.writes (Elt Ideal) s.2.1 (t.2.1 s.1 s.2.1 s.2.2), arg11.view.writes (Elt Ideal) s.2.2 (t.2.2.1 s.1 s.2.1 s.2.2))) := by
  unfold inn
  rw [st2]
  unfold step2
  rw [dif_pos k.isLt]

theorem inner_zero (f10 : BufTy.Contents (Elt Ideal) arg10.view.ty) (f11 : BufTy.Contents (Elt Ideal) arg11.view.ty)
    (h10 : IsR (arg10.view.read (Elt Ideal) f10) fun s l => built (heads(FK) l) (256 * q.val) 0 s)
    (h11 : IsR (arg11.view.read (Elt Ideal) f11) fun s l => built (heads(FV) l) (256 * q.val) 0 s) :
    ⟪Inner (Xq := Xq) (Xk := Xk) (Xv := Xv) (Xd := Xd) (Xt := Xt)⟫ q lb X2 X3 X4 X5 X6 f10 f11 0 where
  carry := ⟨zero_sums _ _, zero_sums _ _, zero_sums _ _, zero_sums _ _, zero_dq (fun l => (arr Xq Xk Xv Xd Xt 0).fq (arr Xq Xk Xv Xd Xt 1) l) _, zero_dq (fun l => (arr Xq Xk Xv Xd Xt 2).fq (arr Xq Xk Xv Xd Xt 3) l) _⟩
  k := h10
  v := h11

theorem inner_succ (f10 : BufTy.Contents (Elt Ideal) arg10.view.ty) (f11 : BufTy.Contents (Elt Ideal) arg11.view.ty) (k : Fin (k0_t2_loop q).trips)
    (s : ⟪Inner (Xq := Xq) (Xk := Xk) (Xv := Xv) (Xd := Xd) (Xt := Xt)⟫ q lb X2 X3 X4 X5 X6 f10 f11 k.val) :
    ⟪Inner (Xq := Xq) (Xk := Xk) (Xv := Xv) (Xd := Xd) (Xt := Xt)⟫ q lb X2 X3 X4 X5 X6 f10 f11 (k.val + 1) := by
  have hq := q_lt q
  have hk := k_lt q k
  have hJ : 256 * k.val + 256 ≤ 256 * q.val := by omega
  have h0 := hd_is0 arg2 arg3 arg4 arg5 arg6 q X2 X3 X4 X5 X6 hX k
  have h1 := hd_is1 arg2 arg3 arg4 arg5 arg6 q X2 X3 X4 X5 X6 hX k
  have h2 := hd_is2 arg2 arg3 arg4 arg5 arg6 q X2 X3 X4 X5 X6 hX k
  have h3 := hd_is3 arg2 arg3 arg4 arg5 arg6 q X2 X3 X4 X5 X6 hX k
  constructor
  · rw [inn_succ]
    dsimp only
    rw [trip2_carry, Nat.mul_succ]
    exact s.carry.step h0 h1 h2 h3 hJ
  · rw [inn_succ]
    dsimp only
    rw [trip2_ten, Nat.mul_succ]
    exact dk_step s.carry h0 h1 h2 h3 (keeps_id hJ) (by omega) s.k _ _ _ _ (off19 q k) (off18 q k)
  · rw [inn_succ]
    dsimp only
    rw [trip2_eleven, Nat.mul_succ]
    exact dv_step s.carry h0 h1 h2 h3 (keeps_id hJ) (by omega) s.v _ _ _ _ _ _ _ _ (off17 q k) (off16 q k) (off15 q k) (off14 q k)

theorem inner_last (f10 : BufTy.Contents (Elt Ideal) arg10.view.ty) (f11 : BufTy.Contents (Elt Ideal) arg11.view.ty)
    (h10 : IsR (arg10.view.read (Elt Ideal) f10) fun s l => built (heads(FK) l) (256 * q.val) 0 s)
    (h11 : IsR (arg11.view.read (Elt Ideal) f11) fun s l => built (heads(FV) l) (256 * q.val) 0 s) :
    ⟪Inner (Xq := Xq) (Xk := Xk) (Xv := Xv) (Xd := Xd) (Xt := Xt)⟫ q lb X2 X3 X4 X5 X6 f10 f11 q.val := by
  have h : ∀ n, n ≤ q.val → ⟪Inner (Xq := Xq) (Xk := Xk) (Xv := Xv) (Xd := Xd) (Xt := Xt)⟫ q lb X2 X3 X4 X5 X6 f10 f11 n := by
    intro n
    induction n with
    | zero => intro _; exact ⟪inner_zero⟫ q lb X2 X3 X4 X5 X6 hX f10 f11 h10 h11
    | succ n ih =>
      intro hn
      exact ⟪inner_succ⟫ q lb X2 X3 X4 X5 X6 hX f10 f11 ⟨n, by rw [trips2]; omega⟩ (ih (by omega))
  exact h _ le_rfl

attribute [local irreducible] st2 View.readAt

omit hX in
theorem next_k {A B C D : Arrays} {n Q : ℕ} {x : (⟨2, ![2048, n]⟩ : Shape).Idx → EReal} (h : IsR x fun s l => built (FK A B C D l) Q (Q + 256) s) :
    IsR x fun s l => built (FK A B C D l) (Q + 256) 0 s := by
  refine IsR.congr h fun s l _ _ => built_next _ _ _ fun R S h => ?_
  unfold FK
  split
  · exact Arrays.fk_after _ _ _ _ _ h
  · exact Arrays.fk_after _ _ _ _ _ h

omit hX in
theorem next_v {A B C D : Arrays} {n Q : ℕ} {x : (⟨2, ![2048, n]⟩ : Shape).Idx → EReal} (h : IsR x fun s l => built (FV A B C D l) Q (Q + 256) s) :
    IsR x fun s l => built (FV A B C D l) (Q + 256) 0 s := by
  refine IsR.congr h fun s l _ _ => built_next _ _ _ fun R S h => ?_
  unfold FV
  split_ifs <;> exact Arrays.fv_after _ _ _ _ h

/-- A trip of the outer loop leaves the sums of the rows before the next query block. -/
theorem outer_ten (f10 : BufTy.Contents (Elt Ideal) arg10.view.ty) (f11 : BufTy.Contents (Elt Ideal) arg11.view.ty)
    (h10 : IsR (arg10.view.read (Elt Ideal) f10) fun s l => built (heads(FK) l) (256 * q.val) 0 s)
    (h11 : IsR (arg11.view.read (Elt Ideal) f11) fun s l => built (heads(FV) l) (256 * q.val) 0 s) :
    IsR (arg10.view.read (Elt Ideal) ((⟪trip1 (F := Ideal)⟫ k0_pay204 k0_pay205 k0_pay206 lb X2 X3 X4 X5 X6 q).2.1 f10 f11)) fun s l => built (heads(FK) l) (256 * q.val + 256) 0 s := by
  have hq := q_lt q
  have s := ⟪inner_last⟫ q lb X2 X3 X4 X5 X6 hX f10 f11 h10 h11
  rw [trip1_ten, trips2]
  have e28 : k0_off28 q 0 = 256 * q.val ∧ k0_off28 q 1 = 128 := by rw [off28]; exact ⟨rfl, rfl⟩
  have e27 : k0_off27 q 0 = 256 * q.val ∧ k0_off27 q 1 = 0 := by rw [off27]; exact ⟨rfl, rfl⟩
  have h := dk_step s.carry (dg_is0 arg2 arg3 arg4 arg5 arg6 q X2 X3 X4 X5 X6 hX) (dg_is1 arg2 arg3 arg4 arg5 arg6 q X2 X3 X4 X5 X6 hX) (dg_is2 arg2 arg3 arg4 arg5 arg6 q X2 X3 X4 X5 X6 hX) (dg_is3 arg2 arg3 arg4 arg5 arg6 q X2 X3 X4 X5 X6 hX) keeps_keep (by omega) s.k _ _ (k0_off28_inb q) (k0_off27_inb q) e28 e27
  exact next_k h

theorem outer_eleven (f10 : BufTy.Contents (Elt Ideal) arg10.view.ty) (f11 : BufTy.Contents (Elt Ideal) arg11.view.ty)
    (h10 : IsR (arg10.view.read (Elt Ideal) f10) fun s l => built (heads(FK) l) (256 * q.val) 0 s)
    (h11 : IsR (arg11.view.read (Elt Ideal) f11) fun s l => built (heads(FV) l) (256 * q.val) 0 s) :
    IsR (arg11.view.read (Elt Ideal) ((⟪trip1 (F := Ideal)⟫ k0_pay204 k0_pay205 k0_pay206 lb X2 X3 X4 X5 X6 q).2.2.1 f10 f11)) fun s l => built (heads(FV) l) (256 * q.val + 256) 0 s := by
  have hq := q_lt q
  have s := ⟪inner_last⟫ q lb X2 X3 X4 X5 X6 hX f10 f11 h10 h11
  rw [trip1_eleven, trips2]
  exact next_v (dv_step s.carry (dg_is0 arg2 arg3 arg4 arg5 arg6 q X2 X3 X4 X5 X6 hX) (dg_is1 arg2 arg3 arg4 arg5 arg6 q X2 X3 X4 X5 X6 hX) (dg_is2 arg2 arg3 arg4 arg5 arg6 q X2 X3 X4 X5 X6 hX) (dg_is3 arg2 arg3 arg4 arg5 arg6 q X2 X3 X4 X5 X6 hX) keeps_keep (by omega) s.v _ _ _ _ _ _ _ _
    (off8 q) (off7 q) (off6 q) (off5 q))

theorem outer_nine (f10 : BufTy.Contents (Elt Ideal) arg10.view.ty) (f11 : BufTy.Contents (Elt Ideal) arg11.view.ty)
    (h10 : IsR (arg10.view.read (Elt Ideal) f10) fun s l => built (heads(FK) l) (256 * q.val) 0 s)
    (h11 : IsR (arg11.view.read (Elt Ideal) f11) fun s l => built (heads(FV) l) (256 * q.val) 0 s) (f9 : BufTy.Contents (Elt Ideal) arg9.view.ty)
    (h : ∀ (r : Fin 2048) (l : Fin 256), r.val < 256 * q.val →
      arg9.view.read (Elt Ideal) f9 (ix2 r l) = (((∑ S ∈ range 2048, heads(FQ) l r S) * (1 / 8) : ℝ) : EReal))
    (r : Fin 2048) (l : Fin 256) (hr : r.val < 256 * q.val + 256) :
    arg9.view.read (Elt Ideal) (arg9.view.writes (Elt Ideal) f9 ((⟪trip1 (F := Ideal)⟫ k0_pay204 k0_pay205 k0_pay206 lb X2 X3 X4 X5 X6 q).1 f10 f11)) (ix2 r l)
      = (((∑ S ∈ range 2048, heads(FQ) l r S) * (1 / 8) : ℝ) : EReal) := by
  have hq := q_lt q
  have s := ⟪inner_last⟫ q lb X2 X3 X4 X5 X6 hX f10 f11 h10 h11
  rw [trip1_nine, trips2]
  exact dq_step s.carry (dg_is0 arg2 arg3 arg4 arg5 arg6 q X2 X3 X4 X5 X6 hX) (dg_is1 arg2 arg3 arg4 arg5 arg6 q X2 X3 X4 X5 X6 hX) (dg_is2 arg2 arg3 arg4 arg5 arg6 q X2 X3 X4 X5 X6 hX) (dg_is3 arg2 arg3 arg4 arg5 arg6 q X2 X3 X4 X5 X6 hX) keeps_keep (by omega) h _ _ _ _
    (by rw [off28]; exact ⟨rfl, rfl⟩) (by rw [off27]; exact ⟨rfl, rfl⟩) r l hr

end Cert.SbGradIdeal.Hand

end
-- ==== Proof.SbGrad.Outer.lean ====
/-
  The outer loop: after `k` trips the first `256 k` rows of `dq` are stored, and the two sums hold what those rows add to `dk` and `dv`.
-/
module

public import proofs.«01_k».proof.Proof.SbGrad.Loops
public import proofs.«01_k».proof.Proof.SbGrad.Det

@[expose] public section

set_option maxRecDepth 16384
set_option maxHeartbeats 400000

noncomputable section

namespace Cert.SbGradIdeal.Hand

open Cert.SbGradIdeal.Gen
open Idealize.ShloMosaic Idealize.ShloMosaic.TcCoe Idealize.ShloMosaic.Tactic
open Idealize.SL Idealize.SL.Sem
open Finset (sum_congr range)

/-- What the scratches hold after `k` trips. -/
structure Outer (A B C D : Arrays) (u : S1' (F := Ideal) sc0 sc1 sc2) (n : ℕ) : Prop where
  q : ∀ (r : Fin 2048) (l : Fin 256), r.val < 256 * n →
    sc0.view.read (Elt Ideal) u.1 (ix2 r l) = (((∑ S ∈ range 2048, FQ A B C D l r S) * (1 / 8) : ℝ) : EReal)
  k : IsR (sc1.view.read (Elt Ideal) u.2.1) fun s l => built (FK A B C D l) (256 * n) 0 s
  v : IsR (sc2.view.read (Elt Ideal) u.2.2) fun s l => built (FV A B C D l) (256 * n) 0 s

variable (c : Dev nD) (i : grid0.Coords)
  (arg2 : Memref sig .tc .vmem S2048x256 .bf16) (harg2 : arg2.IsWhole) (arg3 : Memref sig .tc .vmem S2048x256 .bf16) (harg3 : arg3.IsWhole)
  (arg4 : Memref sig .tc .vmem S2048x512 .bf16) (harg4 : arg4.IsWhole) (arg5 : Memref sig .tc .vmem S2048x512 .bf16) (harg5 : arg5.IsWhole)
  (arg6 : Memref sig .tc .vmem S1x2048x4 .f32) (harg6 : arg6.IsWhole)
  (X2 : BufTy.Contents (Elt Ideal) arg2.view.ty) (X3 : BufTy.Contents (Elt Ideal) arg3.view.ty) (X4 : BufTy.Contents (Elt Ideal) arg4.view.ty)
  (X5 : BufTy.Contents (Elt Ideal) arg5.view.ty) (X6 : BufTy.Contents (Elt Ideal) arg6.view.ty)
  {Xq Xk Xv Xd Xt : ℕ → ℕ → ℝ}
  (hX : Reads arg2 arg3 arg4 arg5 arg6 X2 X3 X4 X5 X6 Xq Xk Xv Xd Xt)

set_option quotPrecheck false in
local notation:max "⟪" f "⟫" => f c i arg2 harg2 arg3 harg3 arg4 harg4 arg5 harg5 arg6 harg6

include hX

/-- One trip. -/
theorem outer_step (u : S1' (F := Ideal) sc0 sc1 sc2) (k : Fin k0_t1_loop.trips)
    (h : Outer (arr Xq Xk Xv Xd Xt 0) (arr Xq Xk Xv Xd Xt 1) (arr Xq Xk Xv Xd Xt 2) (arr Xq Xk Xv Xd Xt 3) u k.val) :
    Outer (arr Xq Xk Xv Xd Xt 0) (arr Xq Xk Xv Xd Xt 1) (arr Xq Xk Xv Xd Xt 2) (arr Xq Xk Xv Xd Xt 3)
      (sc0.view.writes (Elt Ideal) u.1 ((⟪tripAt⟫ X2 X3 X4 X5 X6 k).1 u.2.1 u.2.2),
        (⟪tripAt⟫ X2 X3 X4 X5 X6 k).2.1 u.2.1 u.2.2,
        (⟪tripAt⟫ X2 X3 X4 X5 X6 k).2.2.1 u.2.1 u.2.2) (k.val + 1) := by
  refine ⟨fun r l hr => ?_, ?_, ?_⟩
  · exact ⟪outer_nine⟫ out (Memref.isWhole_whole _) out (Memref.isWhole_whole _)
      sc0 (Memref.isWhole_whole _) sc1 (Memref.isWhole_whole _) sc2 (Memref.isWhole_whole _) sc3 (Memref.isWhole_whole _) sc4 (Memref.isWhole_whole _) cc0_scratch5
      k 0#32 X2 X3 X4 X5 X6 hX u.2.1 u.2.2 h.k h.v u.1 h.q r l (by omega)
  · rw [Nat.mul_succ]
    exact ⟪outer_ten⟫ out (Memref.isWhole_whole _) out (Memref.isWhole_whole _)
      sc0 (Memref.isWhole_whole _) sc1 (Memref.isWhole_whole _) sc2 (Memref.isWhole_whole _) sc3 (Memref.isWhole_whole _) sc4 (Memref.isWhole_whole _) cc0_scratch5
      k 0#32 X2 X3 X4 X5 X6 hX u.2.1 u.2.2 h.k h.v
  · rw [Nat.mul_succ]
    exact ⟪outer_eleven⟫ out (Memref.isWhole_whole _) out (Memref.isWhole_whole _)
      sc0 (Memref.isWhole_whole _) sc1 (Memref.isWhole_whole _) sc2 (Memref.isWhole_whole _) sc3 (Memref.isWhole_whole _) sc4 (Memref.isWhole_whole _) cc0_scratch5
      k 0#32 X2 X3 X4 X5 X6 hX u.2.1 u.2.2 h.k h.v

omit hX in
theorem outer_start (f9 : BufTy.Contents (Elt Ideal) sc0.view.ty) :
    Outer (arr Xq Xk Xv Xd Xt 0) (arr Xq Xk Xv Xd Xt 1) (arr Xq Xk Xv Xd Xt 2) (arr Xq Xk Xv Xd Xt 3)
      (f9, sc1.view.writes (Elt Ideal) sc1.view.junk [⟨Rect.unit (s := S2048x256) ![0, 0] S2048x256.size inb_S2048x256_S2048x256_0_0, k0_pay207 (F := Ideal)⟩],
        sc2.view.writes (Elt Ideal) sc2.view.junk [⟨Rect.unit (s := S2048x512) ![0, 0] S2048x512.size inb_S2048x512_S2048x512_0_0, k0_pay208 (F := Ideal)⟩]) 0 := by
  refine ⟨fun r l hr => absurd hr (by omega), fun s l => ?_, fun s l => ?_⟩
  · rw [Nat.mul_zero]
    dsimp only
    rw [built_zero, View.read_writes_full]
    pointwise [k0_pay207]
    exact EReal.coe_zero.symm
  · rw [Nat.mul_zero]
    dsimp only
    rw [built_zero, View.read_writes_full]
    pointwise [k0_pay208]
    exact EReal.coe_zero.symm

theorem outer_all (f9 : BufTy.Contents (Elt Ideal) sc0.view.ty) (k : ℕ) (hk : k ≤ 8) :
    Outer (arr Xq Xk Xv Xd Xt 0) (arr Xq Xk Xv Xd Xt 1) (arr Xq Xk Xv Xd Xt 2) (arr Xq Xk Xv Xd Xt 3)
      (⟪stAt⟫ X2 X3 X4 X5 X6
        (f9, sc1.view.writes (Elt Ideal) sc1.view.junk [⟨Rect.unit (s := S2048x256) ![0, 0] S2048x256.size inb_S2048x256_S2048x256_0_0, k0_pay207 (F := Ideal)⟩],
          sc2.view.writes (Elt Ideal) sc2.view.junk [⟨Rect.unit (s := S2048x512) ![0, 0] S2048x512.size inb_S2048x512_S2048x512_0_0, k0_pay208 (F := Ideal)⟩]) k) k := by
  induction k with
  | zero => exact outer_start f9
  | succ k ih =>
    rw [⟪stAt_succ⟫ X2 X3 X4 X5 X6 _ (⟨k, hk⟩ : Fin 8)]
    exact ⟪outer_step⟫ X2 X3 X4 X5 X6 hX _ ⟨k, hk⟩ (ih (by omega))

/-- The three scratches after the loop. -/
theorem outer_done (f9 : BufTy.Contents (Elt Ideal) sc0.view.ty) :
    Outer (arr Xq Xk Xv Xd Xt 0) (arr Xq Xk Xv Xd Xt 1) (arr Xq Xk Xv Xd Xt 2) (arr Xq Xk Xv Xd Xt 3)
      (⟪after1⟫ X2 X3 X4 X5 X6 f9) 8 :=
  ⟪outer_all⟫ X2 X3 X4 X5 X6 hX f9 8 le_rfl

end Cert.SbGradIdeal.Hand

end
-- ==== Proof.SbGrad.Logs.lean ====
/-
  The host's `log_sigmoid` and its derivative, of a real.
-/
module

public import proofs.«01_k».proof.Proof.SbGrad.Core
public import Idealize.ShloMosaic.Lib.Pipeline.ValueKit

@[expose] public section

noncomputable section

namespace Cert.SbGradIdeal.Hand

open Idealize.ShloMosaic

/-- The logarithm of `1 + exp x`. -/
def sp (x : ℝ) : ℝ := max x 0 + Real.log (1 + Real.exp (-|x|))

theorem LB_neg (z : ℝ) : LB (-z) = LB z - z := by
  rw [LB, LB, abs_neg]
  rcases le_total z 0 with h | h
  · rw [min_eq_right (by linarith), min_eq_left h]; ring
  · rw [min_eq_left (by linarith), min_eq_right h]; ring

theorem neg_sp (z : ℝ) : -sp z = LB (-z) := by
  rw [LB, sp, abs_neg]
  rcases le_total z 0 with h | h
  · rw [max_eq_right h, min_eq_right (by linarith)]; ring
  · rw [max_eq_left h, min_eq_left (by linarith)]; ring

theorem sub_sp (z : ℝ) : z - sp z = LB z := by
  have h := neg_sp z
  rw [LB_neg] at h
  linarith

/-- The logistic functions of a number and of its opposite add up to one. -/
theorem exp_LB (z : ℝ) : Real.exp (LB (-z)) = 1 - Real.exp (LB z) := by
  have key : ∀ x : ℝ, 0 ≤ x → Real.exp (LB (-x)) = 1 - Real.exp (LB x) := by
    intro x h
    have h1 : 0 < 1 + Real.exp (-x) := by positivity
    rw [LB_neg, LB, abs_of_nonneg h, min_eq_right h, zero_sub, sub_eq_add_neg, Real.exp_add, Real.exp_neg, Real.exp_log h1]
    field_simp
    ring
  rcases le_total 0 z with h | h
  · exact key z h
  · have := key (-z) (by linarith)
    rw [neg_neg] at this
    rw [this]; ring

section Host
variable {x y : EReal} {r : ℝ}

theorem zero_val : FloatOps.ofBits (F := Ideal) .f32 0x00000000#32 = ((0 : ℝ) : EReal) := by
  simp [Ideal.ofBits, Ideal.ieee, -EReal.coe_mul]
theorem top_val : FloatOps.ofBits (F := Ideal) .f32 0x7F800000#32 = (⊤ : EReal) := by
  simp [Ideal.ofBits, Ideal.ieee, -EReal.coe_mul]

/-- `softplus` as the host writes it. -/
def hostSp (x : Ideal .f32) : Ideal .f32 :=
  let z := FloatOps.ofBits (F := Ideal) .f32 0x00000000#32
  let d := FloatOps.subf x z
  Scalar.select (FloatOps.cmpf .une d d) (FloatOps.addf x z)
    (FloatOps.addf (FloatOps.maximumf x z) (FloatOps.hostUnary .log1p (FloatOps.hostUnary .exp (FloatOps.hostNegf (FloatOps.hostAbsf d)))))

/-- Its derivative as the host writes it, from the argument and the result. -/
def hostDsp (x y : Ideal .f32) : Ideal .f32 :=
  let z := FloatOps.ofBits (F := Ideal) .f32 0x00000000#32
  let t := FloatOps.ofBits (F := Ideal) .f32 0x7F800000#32
  FloatOps.hostUnary .exp (FloatOps.subf (Scalar.select (FloatOps.cmpf .oeq x t) z x) (Scalar.select (FloatOps.cmpf .oeq y t) z y))

theorem hostSp_coe (r : ℝ) : hostSp ((r : ℝ) : EReal) = ((sp r : ℝ) : EReal) := by
  unfold hostSp
  simp only [zero_val]
  have hd : FloatOps.subf (F := Ideal) (φ := .f32) ((r : ℝ) : EReal) ((0 : ℝ) : EReal) = ((r : ℝ) : EReal) := by
    show ((r : ℝ) : EReal) - ((0 : ℝ) : EReal) = _
    rw [← EReal.coe_sub, sub_zero]
  rw [hd]
  have hc : FloatOps.cmpf (F := Ideal) (φ := .f32) .une ((r : ℝ) : EReal) ((r : ℝ) : EReal) = 0#1 := by
    show BitVec.ofBool (decide (((r : ℝ) : EReal) ≠ ((r : ℝ) : EReal))) = 0#1
    rw [decide_eq_false (fun h => h rfl)]
    rfl
  rw [hc]
  have hs : ∀ a b : Ideal .f32, Scalar.select (0#1) a b = b := fun a b => rfl
  rw [hs]
  have ha : FloatOps.hostAbsf (F := Ideal) (φ := .f32) ((r : ℝ) : EReal) = ((|r| : ℝ) : EReal) := by
    show ((max r (-r) : ℝ) : EReal) = _
    rw [abs_eq_max_neg]
  rw [ha]
  have hn : FloatOps.hostNegf (F := Ideal) (φ := .f32) ((|r| : ℝ) : EReal) = ((-|r| : ℝ) : EReal) := rfl
  rw [hn]
  show max ((r : ℝ) : EReal) ((0 : ℝ) : EReal) + Ideal.log (1 + Ideal.exp ((-|r| : ℝ) : EReal)) = _
  rw [Ideal.exp_coe, ← EReal.coe_one, ← EReal.coe_add, Ideal.log_coe, if_neg (by have := Real.exp_pos (-|r|); linarith),
    sp, EReal.coe_add]
  congr 1

theorem hostDsp_coe (r s : ℝ) : hostDsp ((r : ℝ) : EReal) ((s : ℝ) : EReal) = ((Real.exp (r - s) : ℝ) : EReal) := by
  unfold hostDsp
  simp only [zero_val, top_val]
  have hc : ∀ a : ℝ, FloatOps.cmpf (F := Ideal) (φ := .f32) .oeq ((a : ℝ) : EReal) (⊤ : EReal) = 0#1 := fun a => by
    show BitVec.ofBool (decide (((a : ℝ) : EReal) = ⊤)) = 0#1
    rw [decide_eq_false (EReal.coe_ne_top a)]
    rfl
  rw [hc, hc]
  rfl

end Host

end Cert.SbGradIdeal.Hand
-- ==== Proof.WindowSum.lean ====
module

public import Idealize.ShloMosaic.Lib.Pipeline.ValueKit
public import Idealize.ShloMosaic.Lib.Pointwise

/-!
The host's running sums along one axis, at exact numbers. A cumulative sum prints as a sum over a
window as long as the axis, of the operand padded at one end: here such a window sum is read as a
plain sum, along the last axis of a rank-four array and along the middle axis of a rank-three one.
-/

@[expose] public section

open Idealize.ShloMosaic

namespace Cert.WindowSum

/-- A left fold of additions is the starting value plus the sum. -/
theorem foldl_add {α : Type} (l : List α) (f : α → EReal) (v : EReal) :
    l.foldl (fun r n => r + f n) v = v + (l.map f).sum := by
  induction l generalizing v with
  | nil => simp
  | cons a l ih => rw [List.foldl_cons, ih, List.map_cons, List.sum_cons, add_assoc]

/-- A window sum from zero, as a sum over the window's positions. -/
theorem window_sum {s t u : Shape} {φ : FTy} (window strides lo hi : Fin s.rank → Nat)
    (x : FVec Ideal s φ) (init : u.Idx → Ideal φ) (h : s.ReduceWindows window strides lo hi t) (hu : 0 < u.numel)
    (h0 : init (Shape.Idx.first hu) = (0 : EReal)) (j : t.Idx) :
    Host.reduceWindowAdd (F := Ideal) window strides lo hi x init h hu j
      = (∑ w : (⟨s.rank, window⟩ : Shape).Idx,
          if hin : ∀ a, lo a ≤ (j (a.cast h.1.symm)).val * strides a + (w a).val
              ∧ (j (a.cast h.1.symm)).val * strides a + (w a).val - lo a < s.size a
          then (x (fun a => ⟨(j (a.cast h.1.symm)).val * strides a + (w a).val - lo a, (hin a).2⟩) : EReal) else 0 : EReal) := by
  rw [← Equiv.sum_comp (⟨s.rank, window⟩ : Shape).rowMajor.symm, Fin.sum_univ_def]
  show Host.reduceWindow (fun a b : EReal => a + b) window strides lo hi x (fun _ : (⟨0, ![]⟩ : Shape).Idx => init (Shape.Idx.first hu)) h (by decide) j = _
  unfold Host.reduceWindow
  dsimp only
  rw [foldl_add, h0, zero_add]
  refine congrArg List.sum (List.map_congr_left fun n _ => ?_)
  congr

/-- The positions of a window that is longer than one along the last of four axes only. -/
def last4 (N : ℕ) : (⟨4, ![1, 1, 1, N]⟩ : Shape).Idx ≃ Fin N where
  toFun w := w 3
  invFun k := ix4 (0 : Fin 1) (0 : Fin 1) (0 : Fin 1) k
  left_inv w := by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl
  right_inv k := rfl

/-- The positions of a window that is longer than one along the middle of three axes only. -/
def middle3 (N : ℕ) : (⟨3, ![1, N, 1]⟩ : Shape).Idx ≃ Fin N where
  toFun w := w 1
  invFun k := ix3 (0 : Fin 1) k (0 : Fin 1)
  left_inv w := by
    funext a
    match a with
    | ⟨0, _⟩ => exact Subsingleton.elim (α := Fin 1) _ _
    | ⟨1, _⟩ => rfl
    | ⟨2, _⟩ => exact Subsingleton.elim (α := Fin 1) _ _
  right_inv k := rfl

/-- The tail of a sum, as a sum over a window that runs past the end. -/
theorem tail_sum (f : ℕ → ℝ) (N s : ℕ) (hs : s ≤ N) :
    (∑ k ∈ Finset.range N, if s + k < N then f (s + k) else 0)
      = (∑ S ∈ Finset.range N, f S) - ∑ S ∈ Finset.range s, f S := by
  obtain ⟨m, rfl⟩ := Nat.exists_eq_add_of_le hs
  rw [Finset.sum_range_add f s m, add_comm s m, Finset.sum_range_add _ m s]
  have e1 : ∀ k ∈ Finset.range m, (if s + k < m + s then f (s + k) else 0) = f (s + k) := fun k hk => by
    rw [if_pos (by have := Finset.mem_range.mp hk; omega)]
  have e2 : ∀ k ∈ Finset.range s, (if s + (m + k) < m + s then f (s + (m + k)) else 0) = 0 := fun k _ => by
    rw [if_neg (by omega)]
  rw [Finset.sum_congr rfl e1, Finset.sum_congr rfl e2]
  simp

/-- The head of a sum, as a sum over a window that begins before the start. -/
theorem head_sum (f : ℕ → ℝ) (M s : ℕ) (hs : s ≤ M) :
    (∑ k ∈ Finset.range (M + 1), if M ≤ s + k then f (s + k - M) else 0) = ∑ S ∈ Finset.range (s + 1), f S := by
  obtain ⟨m, rfl⟩ := Nat.exists_eq_add_of_le hs
  rw [show s + m + 1 = m + (s + 1) from by omega, Finset.sum_range_add _ m (s + 1)]
  have e1 : ∀ k ∈ Finset.range m, (if s + m ≤ s + k then f (s + k - (s + m)) else 0) = 0 := fun k hk => by
    rw [if_neg (by have := Finset.mem_range.mp hk; omega)]
  have e2 : ∀ k ∈ Finset.range (s + 1), (if s + m ≤ s + (m + k) then f (s + (m + k) - (s + m)) else 0) = f k := fun k _ => by
    rw [if_pos (by omega)]
    congr 1
    omega
  rw [Finset.sum_congr rfl e1, Finset.sum_congr rfl e2]
  simp

/-- A sum of embedded reals over the first `N` numbers. -/
theorem sum_fin_coe {N : ℕ} (f : ℕ → ℝ) : (∑ k : Fin N, ((f k.val : ℝ) : EReal)) = ((∑ k ∈ Finset.range N, f k : ℝ) : EReal) := by
  rw [← Fin.sum_univ_eq_sum_range]
  exact (map_sum (⟨⟨Real.toEReal, EReal.coe_zero⟩, EReal.coe_add⟩ : ℝ →+ EReal) _ _).symm

section Rank4
variable {A B C N M : ℕ} {u : Shape} {φ : FTy}

/-- A reverse running sum along the last of four axes, of reals: the whole sum less the part before. -/
theorem suffix4 (hN : M + 1 = N) (x : FVec Ideal ⟨4, ![A, B, C, N]⟩ φ) (init : u.Idx → Ideal φ)
    (h : (⟨4, ![A, B, C, N]⟩ : Shape).ReduceWindows ![1, 1, 1, N] ![1, 1, 1, 1] ![0, 0, 0, 0] ![0, 0, 0, M] ⟨4, ![A, B, C, N]⟩)
    (hu : 0 < u.numel) (h0 : init (Shape.Idx.first hu) = (0 : EReal)) (a : Fin A) (b : Fin B) (c : Fin C) (s : Fin N)
    (f : ℕ → ℝ) (hf : ∀ S : Fin N, x (ix4 a b c S) = ((f S.val : ℝ) : EReal)) :
    Host.reduceWindowAdd (F := Ideal) ![1, 1, 1, N] ![1, 1, 1, 1] ![0, 0, 0, 0] ![0, 0, 0, M] x init h hu (ix4 a b c s)
      = (((∑ S ∈ Finset.range N, f S) - ∑ S ∈ Finset.range s.val, f S : ℝ) : EReal) := by
  rw [window_sum _ _ _ _ x init h hu h0, ← tail_sum f N s.val s.isLt.le, ← sum_fin_coe (fun k => if s.val + k < N then f (s.val + k) else 0),
    ← Equiv.sum_comp (last4 N).symm]
  refine Finset.sum_congr rfl fun k _ => ?_
  have ha := a.isLt
  have hb := b.isLt
  have hc := c.isLt
  by_cases hk : s.val + k.val < N
  · rw [dif_pos (fun i => by
      match i with
      | ⟨0, _⟩ => show 0 ≤ a.val * 1 + 0 ∧ a.val * 1 + 0 - 0 < A; omega
      | ⟨1, _⟩ => show 0 ≤ b.val * 1 + 0 ∧ b.val * 1 + 0 - 0 < B; omega
      | ⟨2, _⟩ => show 0 ≤ c.val * 1 + 0 ∧ c.val * 1 + 0 - 0 < C; omega
      | ⟨3, _⟩ => show 0 ≤ s.val * 1 + k.val ∧ s.val * 1 + k.val - 0 < N; omega)]
    dsimp only
    rw [if_pos hk]
    refine (congrArg x (funext fun i => Fin.ext ?_)).trans (hf ⟨s.val + k.val, hk⟩)
    match i with
    | ⟨0, _⟩ => show a.val * 1 + 0 - 0 = a.val; omega
    | ⟨1, _⟩ => show b.val * 1 + 0 - 0 = b.val; omega
    | ⟨2, _⟩ => show c.val * 1 + 0 - 0 = c.val; omega
    | ⟨3, _⟩ => show s.val * 1 + k.val - 0 = s.val + k.val; omega
  · rw [dif_neg (fun hin => hk (by
      have h3 : s.val * 1 + k.val - 0 < N := (hin (3 : Fin 4)).2
      omega))]
    rw [if_neg hk]
    exact EReal.coe_zero.symm

/-- A running sum along the last of four axes, of reals. -/
theorem prefix4 (hN : M + 1 = N) (x : FVec Ideal ⟨4, ![A, B, C, N]⟩ φ) (init : u.Idx → Ideal φ)
    (h : (⟨4, ![A, B, C, N]⟩ : Shape).ReduceWindows ![1, 1, 1, N] ![1, 1, 1, 1] ![0, 0, 0, M] ![0, 0, 0, 0] ⟨4, ![A, B, C, N]⟩)
    (hu : 0 < u.numel) (h0 : init (Shape.Idx.first hu) = (0 : EReal)) (a : Fin A) (b : Fin B) (c : Fin C) (s : Fin N)
    (f : ℕ → ℝ) (hf : ∀ S : Fin N, x (ix4 a b c S) = ((f S.val : ℝ) : EReal)) :
    Host.reduceWindowAdd (F := Ideal) ![1, 1, 1, N] ![1, 1, 1, 1] ![0, 0, 0, M] ![0, 0, 0, 0] x init h hu (ix4 a b c s)
      = ((∑ S ∈ Finset.range (s.val + 1), f S : ℝ) : EReal) := by
  have hs := s.isLt
  rw [window_sum _ _ _ _ x init h hu h0, ← head_sum f M s.val (by omega), ← sum_fin_coe (fun k => if M ≤ s.val + k then f (s.val + k - M) else 0)]
  subst hN
  rw [← Equiv.sum_comp (last4 (M + 1)).symm]
  refine Finset.sum_congr rfl fun k _ => ?_
  have ha := a.isLt
  have hb := b.isLt
  have hc := c.isLt
  have hkl := k.isLt
  by_cases hk : M ≤ s.val + k.val
  · rw [dif_pos (fun i => by
      match i with
      | ⟨0, _⟩ => show 0 ≤ a.val * 1 + 0 ∧ a.val * 1 + 0 - 0 < A; omega
      | ⟨1, _⟩ => show 0 ≤ b.val * 1 + 0 ∧ b.val * 1 + 0 - 0 < B; omega
      | ⟨2, _⟩ => show 0 ≤ c.val * 1 + 0 ∧ c.val * 1 + 0 - 0 < C; omega
      | ⟨3, _⟩ => show M ≤ s.val * 1 + k.val ∧ s.val * 1 + k.val - M < M + 1; omega)]
    dsimp only
    rw [if_pos hk]
    refine (congrArg x (funext fun i => Fin.ext ?_)).trans (hf ⟨s.val + k.val - M, by omega⟩)
    match i with
    | ⟨0, _⟩ => show a.val * 1 + 0 - 0 = a.val; omega
    | ⟨1, _⟩ => show b.val * 1 + 0 - 0 = b.val; omega
    | ⟨2, _⟩ => show c.val * 1 + 0 - 0 = c.val; omega
    | ⟨3, _⟩ => show s.val * 1 + k.val - M = s.val + k.val - M; omega
  · rw [dif_neg (fun hin => hk (by
      have h3 : M ≤ s.val * 1 + k.val := (hin (3 : Fin 4)).1
      omega))]
    rw [if_neg hk]
    exact EReal.coe_zero.symm

end Rank4

/-- A reverse running sum along the middle of three axes, of reals: the whole sum less the part before. -/
theorem suffix3 {A C N M : ℕ} {u : Shape} {φ : FTy} (hN : M + 1 = N) (x : FVec Ideal ⟨3, ![A, N, C]⟩ φ) (init : u.Idx → Ideal φ)
    (h : (⟨3, ![A, N, C]⟩ : Shape).ReduceWindows ![1, N, 1] ![1, 1, 1] ![0, 0, 0] ![0, M, 0] ⟨3, ![A, N, C]⟩)
    (hu : 0 < u.numel) (h0 : init (Shape.Idx.first hu) = (0 : EReal)) (a : Fin A) (s : Fin N) (c : Fin C)
    (f : ℕ → ℝ) (hf : ∀ S : Fin N, x (ix3 a S c) = ((f S.val : ℝ) : EReal)) :
    Host.reduceWindowAdd (F := Ideal) ![1, N, 1] ![1, 1, 1] ![0, 0, 0] ![0, M, 0] x init h hu (ix3 a s c)
      = (((∑ S ∈ Finset.range N, f S) - ∑ S ∈ Finset.range s.val, f S : ℝ) : EReal) := by
  rw [window_sum _ _ _ _ x init h hu h0, ← tail_sum f N s.val s.isLt.le, ← sum_fin_coe (fun k => if s.val + k < N then f (s.val + k) else 0),
    ← Equiv.sum_comp (middle3 N).symm]
  refine Finset.sum_congr rfl fun k _ => ?_
  have ha := a.isLt
  have hc := c.isLt
  by_cases hk : s.val + k.val < N
  · rw [dif_pos (fun i => by
      match i with
      | ⟨0, _⟩ => show 0 ≤ a.val * 1 + 0 ∧ a.val * 1 + 0 - 0 < A; omega
      | ⟨1, _⟩ => show 0 ≤ s.val * 1 + k.val ∧ s.val * 1 + k.val - 0 < N; omega
      | ⟨2, _⟩ => show 0 ≤ c.val * 1 + 0 ∧ c.val * 1 + 0 - 0 < C; omega)]
    dsimp only
    rw [if_pos hk]
    refine (congrArg x (funext fun i => Fin.ext ?_)).trans (hf ⟨s.val + k.val, hk⟩)
    match i with
    | ⟨0, _⟩ => show a.val * 1 + 0 - 0 = a.val; omega
    | ⟨1, _⟩ => show s.val * 1 + k.val - 0 = s.val + k.val; omega
    | ⟨2, _⟩ => show c.val * 1 + 0 - 0 = c.val; omega
  · rw [dif_neg (fun hin => hk (by
      have h3 : s.val * 1 + k.val - 0 < N := (hin (1 : Fin 3)).2
      omega))]
    rw [if_neg hk]
    exact EReal.coe_zero.symm

/-- A running sum along the middle of three axes, of reals. -/
theorem prefix3 {A C N M : ℕ} {u : Shape} {φ : FTy} (hN : M + 1 = N) (x : FVec Ideal ⟨3, ![A, N, C]⟩ φ) (init : u.Idx → Ideal φ)
    (h : (⟨3, ![A, N, C]⟩ : Shape).ReduceWindows ![1, N, 1] ![1, 1, 1] ![0, M, 0] ![0, 0, 0] ⟨3, ![A, N, C]⟩)
    (hu : 0 < u.numel) (h0 : init (Shape.Idx.first hu) = (0 : EReal)) (a : Fin A) (s : Fin N) (c : Fin C)
    (f : ℕ → ℝ) (hf : ∀ S : Fin N, x (ix3 a S c) = ((f S.val : ℝ) : EReal)) :
    Host.reduceWindowAdd (F := Ideal) ![1, N, 1] ![1, 1, 1] ![0, M, 0] ![0, 0, 0] x init h hu (ix3 a s c)
      = ((∑ S ∈ Finset.range (s.val + 1), f S : ℝ) : EReal) := by
  have hs := s.isLt
  rw [window_sum _ _ _ _ x init h hu h0, ← head_sum f M s.val (by omega), ← sum_fin_coe (fun k => if M ≤ s.val + k then f (s.val + k - M) else 0)]
  subst hN
  rw [← Equiv.sum_comp (middle3 (M + 1)).symm]
  refine Finset.sum_congr rfl fun k _ => ?_
  have ha := a.isLt
  have hc := c.isLt
  have hkl := k.isLt
  by_cases hk : M ≤ s.val + k.val
  · rw [dif_pos (fun i => by
      match i with
      | ⟨0, _⟩ => show 0 ≤ a.val * 1 + 0 ∧ a.val * 1 + 0 - 0 < A; omega
      | ⟨1, _⟩ => show M ≤ s.val * 1 + k.val ∧ s.val * 1 + k.val - M < M + 1; omega
      | ⟨2, _⟩ => show 0 ≤ c.val * 1 + 0 ∧ c.val * 1 + 0 - 0 < C; omega)]
    dsimp only
    rw [if_pos hk]
    refine (congrArg x (funext fun i => Fin.ext ?_)).trans (hf ⟨s.val + k.val - M, by omega⟩)
    match i with
    | ⟨0, _⟩ => show a.val * 1 + 0 - 0 = a.val; omega
    | ⟨1, _⟩ => show s.val * 1 + k.val - M = s.val + k.val - M; omega
    | ⟨2, _⟩ => show c.val * 1 + 0 - 0 = c.val; omega
  · rw [dif_neg (fun hin => hk (by
      have h3 : M ≤ s.val * 1 + k.val := (hin (1 : Fin 3)).1
      omega))]
    rw [if_neg hk]
    exact EReal.coe_zero.symm

end Cert.WindowSum
-- ==== Proof.SbGrad.Ref.lean ====
/-
  The reference, one operation after the other, as real numbers: the scores, the weights, the gradients of the scores and
  the three gradients of one sequence and head.
-/
module

public import proofs.«01_k».proof.Proof.Gen.SbGradRefIdeal.Read
public import proofs.«01_k».proof.Proof.SbGrad.Logs
public import proofs.«01_k».proof.Proof.WindowSum
public import Idealize.ShloMosaic.Lib.Pointwise

@[expose] public section

set_option maxRecDepth 16384

noncomputable section

namespace Cert.SbGradIdeal.Hand

open Idealize.ShloMosaic
open Cert.SbGradRefIdeal Cert.SbGradRefIdeal.Read
open Cert.WindowSum
open Finset (range)

section Reals
variable (g o : ℕ → ℕ → ℝ) (b h : ℕ)

/-- One sequence and head of the arguments: queries, keys, values and the cotangent. -/
def rq (R d : ℕ) : ℝ := g (b * 2048 + R) (h * 64 + d)
def rk (S d : ℕ) : ℝ := g (b * 2048 + S) (1024 + (h * 64 + d))
def rv (S l : ℕ) : ℝ := g (b * 2048 + S) (2048 + (h * 128 + l))
def rd (R l : ℕ) : ℝ := o (b * 2048 + R) (h * 128 + l)
/-- The scores, the products of the cotangent and the values, and a row's sum of logarithms. -/
def rZ (R S : ℕ) : ℝ := (∑ d ∈ range 64, rq g b h R d * rk g b h S d) * (1 / 8)
def rA (R S : ℕ) : ℝ := ∑ l ∈ range 128, rd o b h R l * rv g b h S l
def rT (R : ℕ) : ℝ := cum (rZ g b h) R 2048
def rW (R S : ℕ) : ℝ := wt (rZ g b h) (rT g b h) R S
def rD (R S : ℕ) : ℝ := dsc (rZ g b h) (rA g o b h) (rT g b h) R S
end Reals

theorem eighth_val : FloatOps.ofBits (F := Ideal) .f32 0x3E000000#32 = ((1 / 8 : ℝ) : EReal) := by
  simp [Ideal.ofBits, Ideal.ieee, -EReal.coe_mul]; norm_num

variable {g o : ℕ → ℕ → ℝ}
  {x0 : (⟨S4096x6144, .bf16⟩ : BufTy).Contents (Elt Ideal)} {x1 : (⟨S4096x2048, .bf16⟩ : BufTy).Contents (Elt Ideal)}
  (hG : ∀ (r : Fin 4096) (c : Fin 6144), c.val < 4096 → x0 (ix2 r c) = ((g r.val c.val : ℝ) : EReal))
  (hO : ∀ (r : Fin 4096) (c : Fin 2048), x1 (ix2 r c) = ((o r.val c.val : ℝ) : EReal))

section Args
include hG

theorem v2_val (b : Fin 2) (R : Fin 2048) (c : Fin 4096) :
    val_main_v2 (F := Ideal) x0 (ix3 b R c) = ((g (b.val * 2048 + R.val) c.val : ℝ) : EReal) := by
  have hb := b.isLt; have hR := R.isLt; have hc := c.isLt
  rw [val_main_v2_apply, val_main_v1_apply, val_main_v0_apply]
  refine (congrArg x0 ?_ : _ = x0 (ix2 (⟨b.val * 2048 + R.val, by omega⟩ : Fin 4096) (⟨c.val, by omega⟩ : Fin 6144))).trans (hG _ _ hc)
  funext a
  match a with
  | ⟨0, _⟩ => exact Fin.ext (by show ((b.val * 2048 + R.val) * 4096 + c.val) / 4096 = b.val * 2048 + R.val; omega)
  | ⟨1, _⟩ => exact Fin.ext (by show ((b.val * 2048 + R.val) * 4096 + c.val) % 4096 = c.val; omega)

theorem q_val (b : Fin 2) (h : Fin 16) (R : Fin 2048) (d : Fin 64) :
    val_main_v7 (F := Ideal) x0 (ix4 b h R d) = ((rq g b h R d : ℝ) : EReal) := by
  have hb := b.isLt; have hR := R.isLt; have hh := h.isLt; have hd := d.isLt
  rw [val_main_v7_apply, val_main_v6_apply, val_main_v3_apply]
  refine (congrArg (val_main_v2 (F := Ideal) x0) ?_ :
    _ = val_main_v2 (F := Ideal) x0 (ix3 b R (⟨h.val * 64 + d.val, by omega⟩ : Fin 4096))).trans (v2_val hG b R _)
  funext a
  match a with
  | ⟨0, _⟩ => exact Fin.ext (by show (((b.val * 2048 + R.val) * 16 + h.val) * 64 + d.val) / 2097152 = b.val; omega)
  | ⟨1, _⟩ => exact Fin.ext (by show (((b.val * 2048 + R.val) * 16 + h.val) * 64 + d.val) / 1024 % 2048 = R.val; omega)
  | ⟨2, _⟩ => exact Fin.ext (by show (((b.val * 2048 + R.val) * 16 + h.val) * 64 + d.val) % 1024 = h.val * 64 + d.val; omega)

theorem k_val (b : Fin 2) (h : Fin 16) (S : Fin 2048) (d : Fin 64) :
    val_main_v9 (F := Ideal) x0 (ix4 b h S d) = ((rk g b h S d : ℝ) : EReal) := by
  have hb := b.isLt; have hR := S.isLt; have hh := h.isLt; have hd := d.isLt
  rw [val_main_v9_apply, val_main_v8_apply, val_main_v4_apply]
  refine (congrArg (val_main_v2 (F := Ideal) x0) ?_ :
    _ = val_main_v2 (F := Ideal) x0 (ix3 b S (⟨1024 + (h.val * 64 + d.val), by omega⟩ : Fin 4096))).trans (v2_val hG b S _)
  funext a
  match a with
  | ⟨0, _⟩ => exact Fin.ext (by show (((b.val * 2048 + S.val) * 16 + h.val) * 64 + d.val) / 2097152 = b.val; omega)
  | ⟨1, _⟩ => exact Fin.ext (by show (((b.val * 2048 + S.val) * 16 + h.val) * 64 + d.val) / 1024 % 2048 = S.val; omega)
  | ⟨2, _⟩ => exact Fin.ext (by show 1024 + (((b.val * 2048 + S.val) * 16 + h.val) * 64 + d.val) % 1024 = 1024 + (h.val * 64 + d.val); omega)

theorem v_val (b : Fin 2) (h : Fin 16) (S : Fin 2048) (l : Fin 128) :
    val_main_v11 (F := Ideal) x0 (ix4 b h S l) = ((rv g b h S l : ℝ) : EReal) := by
  have hb := b.isLt; have hR := S.isLt; have hh := h.isLt; have hd := l.isLt
  rw [val_main_v11_apply, val_main_v10_apply, val_main_v5_apply]
  refine (congrArg (val_main_v2 (F := Ideal) x0) ?_ :
    _ = val_main_v2 (F := Ideal) x0 (ix3 b S (⟨2048 + (h.val * 128 + l.val), by omega⟩ : Fin 4096))).trans (v2_val hG b S _)
  funext a
  match a with
  | ⟨0, _⟩ => exact Fin.ext (by show (((b.val * 2048 + S.val) * 16 + h.val) * 128 + l.val) / 4194304 = b.val; omega)
  | ⟨1, _⟩ => exact Fin.ext (by show (((b.val * 2048 + S.val) * 16 + h.val) * 128 + l.val) / 2048 % 2048 = S.val; omega)
  | ⟨2, _⟩ => exact Fin.ext (by show 2048 + (((b.val * 2048 + S.val) * 16 + h.val) * 128 + l.val) % 2048 = 2048 + (h.val * 128 + l.val); omega)
end Args

include hO in
theorem d_val (b : Fin 2) (h : Fin 16) (R : Fin 2048) (l : Fin 128) :
    val_main_v36 (F := Ideal) x1 (ix4 b h R l) = ((rd o b h R l : ℝ) : EReal) := by
  have hb := b.isLt; have hR := R.isLt; have hh := h.isLt; have hd := l.isLt
  rw [val_main_v36_apply, val_main_v35_apply]
  refine (congrArg (val_main_v34 (F := Ideal) x1) ?_ :
    _ = val_main_v34 (F := Ideal) x1 (ix3 b R (⟨h.val * 128 + l.val, by omega⟩ : Fin 2048))).trans ?_
  · funext a
    match a with
    | ⟨0, _⟩ => exact Fin.ext (by show (((b.val * 2048 + R.val) * 16 + h.val) * 128 + l.val) / 4194304 = b.val; omega)
    | ⟨1, _⟩ => exact Fin.ext (by show (((b.val * 2048 + R.val) * 16 + h.val) * 128 + l.val) / 2048 % 2048 = R.val; omega)
    | ⟨2, _⟩ => exact Fin.ext (by show (((b.val * 2048 + R.val) * 16 + h.val) * 128 + l.val) % 2048 = h.val * 128 + l.val; omega)
  rw [val_main_v34_apply, val_main_v33_apply]
  refine (congrArg x1 ?_ : _ = x1 (ix2 (⟨b.val * 2048 + R.val, by omega⟩ : Fin 4096) (⟨h.val * 128 + l.val, by omega⟩ : Fin 2048))).trans (hO _ _)
  funext a
  match a with
  | ⟨0, _⟩ => exact Fin.ext (by show ((b.val * 2048 + R.val) * 2048 + (h.val * 128 + l.val)) / 2048 = b.val * 2048 + R.val; omega)
  | ⟨1, _⟩ => exact Fin.ext (by show ((b.val * 2048 + R.val) * 2048 + (h.val * 128 + l.val)) % 2048 = h.val * 128 + l.val; omega)

section Scores
include hG

theorem z_val (b : Fin 2) (h : Fin 16) (R S : Fin 2048) :
    val_main_v14 (F := Ideal) x0 (ix4 b h R S) = ((rZ g b h R S : ℝ) : EReal) := by
  rw [val_main_v14_apply, val_main_v12_apply, val_main_v13_apply, val_main_cst_apply, eighth_val, rZ, EReal.coe_mul, ← sum_fin_coe]
  show _ * _ = _ * _
  congr 1
  refine Finset.sum_congr rfl fun k _ => ?_
  rw [EReal.coe_mul, ← q_val hG b h R k, ← k_val hG b h S k]
  congr 1

theorem neg_arg_val (b : Fin 2) (h : Fin 16) (R S : Fin 2048) :
    val_main_call0_v0 (F := Ideal) x0 (ix4 b h R S) = ((rZ g b h R S : ℝ) : EReal) := by
  rw [val_main_call0_v0_apply, val_main_v21_apply, z_val hG b h R S]
  exact neg_neg _

theorem arg_val (b : Fin 2) (h : Fin 16) (R S : Fin 2048) :
    val_main_call3_v0 (F := Ideal) x0 (ix4 b h R S) = ((-rZ g b h R S : ℝ) : EReal) := by
  rw [val_main_call3_v0_apply, z_val hG b h R S]
  rfl

theorem sp0_val (b : Fin 2) (h : Fin 16) (R S : Fin 2048) :
    val_main_call0_v1_0 (F := Ideal) x0 (ix4 b h R S) = ((sp (rZ g b h R S) : ℝ) : EReal) := by
  rw [← hostSp_coe, ← neg_arg_val hG b h R S]
  rfl

theorem sp3_val (b : Fin 2) (h : Fin 16) (R S : Fin 2048) :
    val_main_call3_v1_0 (F := Ideal) x0 (ix4 b h R S) = ((sp (-rZ g b h R S) : ℝ) : EReal) := by
  rw [← hostSp_coe, ← arg_val hG b h R S]
  rfl

theorem m_val (b : Fin 2) (h : Fin 16) (R S : Fin 2048) :
    val_main_v22_0 (F := Ideal) x0 (ix4 b h R S) = ((LB (rZ g b h R S) - rZ g b h R S : ℝ) : EReal) := by
  rw [val_main_v22_0_apply, sp0_val hG b h R S, ← LB_neg, ← neg_sp]
  rfl

theorem dm_val (b : Fin 2) (h : Fin 16) (R S : Fin 2048) :
    val_main_v22_1 (F := Ideal) x0 (ix4 b h R S) = ((Real.exp (LB (rZ g b h R S)) : ℝ) : EReal) := by
  rw [← sub_sp, ← hostDsp_coe, ← sp0_val hG b h R S, ← neg_arg_val hG b h R S]
  rfl

theorem lb_val (b : Fin 2) (h : Fin 16) (R S : Fin 2048) :
    val_main_v26_0 (F := Ideal) x0 (ix4 b h R S) = ((LB (rZ g b h R S) : ℝ) : EReal) := by
  rw [val_main_v26_0_apply, sp3_val hG b h R S, ← neg_neg (rZ g b h R S), ← neg_sp, neg_neg]
  rfl

theorem dlb_val (b : Fin 2) (h : Fin 16) (R S : Fin 2048) :
    val_main_v26_1 (F := Ideal) x0 (ix4 b h R S) = ((1 - Real.exp (LB (rZ g b h R S)) : ℝ) : EReal) := by
  rw [← exp_LB, ← sub_sp, ← hostDsp_coe, ← sp3_val hG b h R S, ← arg_val hG b h R S]
  rfl
end Scores

theorem mask_val (b : Fin 2) (h : Fin 16) (R S : Fin 2048) :
    val_main_v23_1 (F := Ideal) (ix4 b h R S) = if S.val < R.val then 1#1 else 0#1 := by
  have hR := R.isLt; have hS := S.isLt
  pointwise [val_main_v23_1, val_main_v20, val_main_v19, val_main_v18, val_main_v17, val_main_v16, val_main_v15]
  have e : ∀ n : ℕ, n < 2048 → (BitVec.ofNat 32 n).toInt = (n : ℤ) := fun n hn => by
    rw [BitVec.toInt_ofNat', Int.bmod_eq_of_le (by omega) (by omega)]
  show BitVec.ofBool (decide ((BitVec.ofNat 32 S.val).toInt < (BitVec.ofNat 32 R.val).toInt)) = _
  rw [e _ hS, e _ hR]
  by_cases h : S.val < R.val
  · rw [if_pos h, decide_eq_true (by omega)]; rfl
  · rw [if_neg h, decide_eq_false (by omega)]; rfl

theorem mask_eq : val_main_v29_1 (F := Ideal) = val_main_v23_1 := rfl

theorem sel_val (P : Prop) [Decidable P] (x y : EReal) : Scalar.select (if P then 1#1 else 0#1) x y = if P then x else y := by
  by_cases h : P
  · rw [if_pos h, if_pos h]; rfl
  · rw [if_neg h, if_neg h]; rfl
theorem ite_coe (P : Prop) [Decidable P] (x y : ℝ) : (if P then (x : EReal) else (y : EReal)) = ((if P then x else y : ℝ) : EReal) := by
  split <;> rfl

theorem ds_arith (a e m f c : ℝ) :
    FloatOps.mulf (F := Ideal) (φ := .f32)
      (FloatOps.addf (FloatOps.hostNegf (FloatOps.mulf (FloatOps.hostNegf ((a : ℝ) : EReal)) ((e : ℝ) : EReal)))
        (FloatOps.hostNegf (FloatOps.hostNegf (FloatOps.mulf (FloatOps.hostNegf ((m : ℝ) : EReal)) ((f : ℝ) : EReal))))) ((c : ℝ) : EReal)
      = (((a * e - m * f) * c : ℝ) : EReal) := by
  show (-(((-a : ℝ) : EReal) * ((e : ℝ) : EReal)) + - -(((-m : ℝ) : EReal) * ((f : ℝ) : EReal))) * ((c : ℝ) : EReal) = _
  rw [← EReal.coe_mul, ← EReal.coe_mul, ← EReal.coe_neg, ← EReal.coe_neg, ← EReal.coe_neg, ← EReal.coe_add, ← EReal.coe_mul]
  congr 1
  ring

section Weights
include hG

theorem mom_val (b : Fin 2) (h : Fin 16) (R S : Fin 2048) :
    val_main_v23_0 (F := Ideal) x0 (ix4 b h R S) = ((mom (rZ g b h) R S : ℝ) : EReal) := by
  rw [val_main_v23_0_apply, mask_val, m_val hG b h R S, val_main_call1_v2_apply, val_main_call1_v0_apply, val_main_cst_0_apply, zero_val, sel_val, ite_coe]
  rfl

theorem later_val (b : Fin 2) (h : Fin 16) (R S : Fin 2048) :
    val_main_v25 (F := Ideal) x0 (ix4 b h R S) = ((rT g b h R - cum (rZ g b h) R (S + 1) : ℝ) : EReal) := by
  rw [val_main_v25_apply, mom_val hG b h R S]
  have e : val_main_v24 (F := Ideal) x0 (ix4 b h R S)
      = (((∑ T ∈ range 2048, mom (rZ g b h) R T) - ∑ T ∈ range S.val, mom (rZ g b h) R T : ℝ) : EReal) := by
    unfold val_main_v24
    exact suffix4 (M := 2047) (by norm_num) _ _ _ _ (by rw [val_main_call2_v0_apply, val_main_call2_cst_apply, zero_val]; exact EReal.coe_zero) b h R S
      (mom (rZ g b h) R) fun T => mom_val hG b h R T
  rw [e]
  show ((_ : ℝ) : EReal) - ((_ : ℝ) : EReal) = _
  rw [← EReal.coe_sub, EReal.coe_eq_coe_iff]
  rw [rT, cum, cum, Finset.sum_range_succ _ S.val]
  exact sub_sub _ _ _

theorem pre_val (b : Fin 2) (h : Fin 16) (R S : Fin 2048) :
    val_main_v28 (F := Ideal) x0 (ix4 b h R S)
      = ((Real.exp (LB (rZ g b h R S) + (rT g b h R - cum (rZ g b h) R (S + 1))) : ℝ) : EReal) := by
  rw [val_main_v28_apply, val_main_v27_apply, lb_val hG b h R S, later_val hG b h R S]
  rfl

theorem w_val (b : Fin 2) (h : Fin 16) (R S : Fin 2048) :
    val_main_v29_0 (F := Ideal) x0 (ix4 b h R S) = ((rW g b h R S : ℝ) : EReal) := by
  rw [val_main_v29_0_apply, mask_eq, mask_val, pre_val hG b h R S, val_main_call4_v2_apply, val_main_call4_v0_apply, val_main_cst_1_apply, zero_val, sel_val, ite_coe]
  rfl

include hO

theorem da_val (b : Fin 2) (h : Fin 16) (R S : Fin 2048) :
    val_main_v39 (F := Ideal) x0 x1 (ix4 b h R S) = ((rA g o b h R S : ℝ) : EReal) := by
  rw [val_main_v39_apply, rA, ← sum_fin_coe]
  refine Finset.sum_congr rfl fun k _ => ?_
  rw [EReal.coe_mul, ← d_val hO b h R k, ← v_val hG b h S k]
  congr 1

theorem gr_val (b : Fin 2) (h : Fin 16) (R S : Fin 2048) :
    val_main_v41 (F := Ideal) x0 x1 (ix4 b h R S) = ((gr (rZ g b h) (rA g o b h) (rT g b h) R S : ℝ) : EReal) := by
  rw [val_main_v41_apply, val_main_v40_apply, mask_eq, mask_val, da_val hG hO b h R S, pre_val hG b h R S, val_main_call5_v0_apply, val_main_call5_cst_apply,
    zero_val, sel_val, ite_coe]
  show ((_ : ℝ) : EReal) * ((_ : ℝ) : EReal) = _
  rw [← EReal.coe_mul, gr, wt]
  split
  · rw [mul_comm]
  · rw [zero_mul, zero_mul]

theorem before_val (b : Fin 2) (h : Fin 16) (R S : Fin 2048) :
    val_main_v45 (F := Ideal) x0 x1 (ix4 b h R S) = ((gcum (rZ g b h) (rA g o b h) (rT g b h) R S : ℝ) : EReal) := by
  rw [val_main_v45_apply, val_main_v43_apply, gr_val hG hO b h R S]
  have e : val_main_v44 (F := Ideal) x0 x1 (ix4 b h R S)
      = ((∑ T ∈ range (S.val + 1), gr (rZ g b h) (rA g o b h) (rT g b h) R T : ℝ) : EReal) := by
    unfold val_main_v44
    exact prefix4 (M := 2047) (by norm_num) _ _ _ _ (by rw [val_main_call7_v0_apply, val_main_call7_cst_apply, zero_val]; exact EReal.coe_zero) b h R S
      (gr (rZ g b h) (rA g o b h) (rT g b h) R) fun T => gr_val hG hO b h R T
  rw [e]
  refine (EReal.coe_add _ _).symm.trans ?_
  rw [EReal.coe_eq_coe_iff, Finset.sum_range_succ _ S.val, gcum]
  ring

theorem ds_val (b : Fin 2) (h : Fin 16) (R S : Fin 2048) :
    val_main_v51 (F := Ideal) x0 x1 (ix4 b h R S) = ((rD g o b h R S * (1 / 8) : ℝ) : EReal) := by
  rw [val_main_v51_apply, val_main_v50_apply, val_main_cst_2_apply, eighth_val, val_main_v49_apply, val_main_v48_apply, val_main_v47_apply,
    val_main_call9_v1_apply, val_main_call9_v0_apply, val_main_v46_apply, mask_val, before_val hG hO b h R S, dm_val hG b h R S,
    val_main_call8_v0_apply, val_main_call8_cst_apply, zero_val, sel_val, ite_coe,
    val_main_v42_apply, val_main_call6_v1_apply, val_main_call6_v0_apply, gr_val hG hO b h R S, dlb_val hG b h R S]
  refine (ds_arith _ _ _ _ _).trans ?_
  rw [EReal.coe_eq_coe_iff, rD, dsc]
  split
  · ring
  · ring

/-- The three gradients of one sequence and head. -/
theorem dq_val (b : Fin 2) (h : Fin 16) (R : Fin 2048) (d : Fin 64) :
    val_main_v53 (F := Ideal) x0 x1 (ix4 b h R d) = ((∑ S ∈ range 2048, rD g o b h R S * (1 / 8) * rk g b h S d : ℝ) : EReal) := by
  rw [val_main_v53_apply, ← sum_fin_coe (fun S => rD g o b h R S * (1 / 8) * rk g b h S d)]
  refine Finset.sum_congr rfl fun k _ => ?_
  have el : lidx_main_v53 (ix4 b h R d) k = ix4 b h R k := (by funext a; match a with | ⟨0, _⟩ => rfl | ⟨1, _⟩ => rfl | ⟨2, _⟩ => rfl | ⟨3, _⟩ => rfl)
  have er : ridx_main_v53 (ix4 b h R d) k = ix4 b h k d := (by funext a; match a with | ⟨0, _⟩ => rfl | ⟨1, _⟩ => rfl | ⟨2, _⟩ => rfl | ⟨3, _⟩ => rfl)
  rw [EReal.coe_mul, el, er, ds_val hG hO b h R k, k_val hG b h k d]

theorem dk_val (b : Fin 2) (h : Fin 16) (S : Fin 2048) (d : Fin 64) :
    val_main_v52 (F := Ideal) x0 x1 (ix4 b h S d) = ((∑ R ∈ range 2048, rD g o b h R S * (1 / 8) * rq g b h R d : ℝ) : EReal) := by
  rw [val_main_v52_apply, ← sum_fin_coe (fun R => rD g o b h R S * (1 / 8) * rq g b h R d)]
  refine Finset.sum_congr rfl fun k _ => ?_
  have el : lidx_main_v52 (ix4 b h S d) k = ix4 b h k S := (by funext a; match a with | ⟨0, _⟩ => rfl | ⟨1, _⟩ => rfl | ⟨2, _⟩ => rfl | ⟨3, _⟩ => rfl)
  have er : ridx_main_v52 (ix4 b h S d) k = ix4 b h k d := (by funext a; match a with | ⟨0, _⟩ => rfl | ⟨1, _⟩ => rfl | ⟨2, _⟩ => rfl | ⟨3, _⟩ => rfl)
  rw [EReal.coe_mul, el, er, ds_val hG hO b h k S, q_val hG b h k d]

theorem dv_val (b : Fin 2) (h : Fin 16) (S : Fin 2048) (l : Fin 128) :
    val_main_v38 (F := Ideal) x0 x1 (ix4 b h S l) = ((∑ R ∈ range 2048, rd o b h R l * rW g b h R S : ℝ) : EReal) := by
  have e : idx_main_v38 (ix4 b h S l) = ix4 b h l S := (by funext a; match a with | ⟨0, _⟩ => rfl | ⟨1, _⟩ => rfl | ⟨2, _⟩ => rfl | ⟨3, _⟩ => rfl)
  rw [val_main_v38_apply, e, val_main_v37_apply, ← sum_fin_coe (fun R => rd o b h R l * rW g b h R S)]
  refine Finset.sum_congr rfl fun k _ => ?_
  have el : lidx_main_v37 (ix4 b h l S) k = ix4 b h k l := (by funext a; match a with | ⟨0, _⟩ => rfl | ⟨1, _⟩ => rfl | ⟨2, _⟩ => rfl | ⟨3, _⟩ => rfl)
  have er : ridx_main_v37 (ix4 b h l S) k = ix4 b h k S := (by funext a; match a with | ⟨0, _⟩ => rfl | ⟨1, _⟩ => rfl | ⟨2, _⟩ => rfl | ⟨3, _⟩ => rfl)
  rw [EReal.coe_mul, el, er, d_val hO b h k l, w_val hG b h k S]
end Weights

end Cert.SbGradIdeal.Hand
-- ==== Proof.SbGrad.Heads.lean ====
/-
  The four heads of a grid point, in the real numbers: what the kernel's masked products over two heads say of each head.
-/
module

public import proofs.«01_k».proof.Proof.SbGrad.Outer
public import proofs.«01_k».proof.Proof.SbGrad.Ref

@[expose] public section

set_option maxRecDepth 16384

noncomputable section

namespace Cert.SbGradIdeal.Hand

open Finset

variable (g o : ℕ → ℕ → ℝ) (b p : ℕ)

/-- The blocks of the point of sequence `b` and heads `4 p`, …, `4 p + 3`. -/
def Bq (R l : ℕ) : ℝ := g (b * 2048 + R) (p * 256 + l)
def Bk (S l : ℕ) : ℝ := g (b * 2048 + S) (1024 + (p * 256 + l))
def Bv (S l : ℕ) : ℝ := g (b * 2048 + S) (2048 + (p * 512 + l))
def Bd (R l : ℕ) : ℝ := o (b * 2048 + R) (p * 512 + l)
def Bt (R h : ℕ) : ℝ := rT g b (4 * p + h) R

/-- One head of the point. -/
def one (h : ℕ) : Arrays := arr (Bq g b p) (Bk g b p) (Bv g b p) (Bd o b p) (Bt g b p) h

theorem lane_sum (F : ℕ → ℝ) (e : ℕ) (he : e < 2) : (∑ l ∈ range 128, if l / 64 = e then F l else 0) = ∑ d ∈ range 64, F (64 * e + d) := by
  rw [show (128 : ℕ) = 64 + 64 from rfl, sum_range_add]
  obtain rfl | rfl : e = 0 ∨ e = 1 := by omega
  · rw [sum_congr rfl fun l hl => if_pos (show l / 64 = 0 by have := mem_range.mp hl; omega),
      sum_congr (g := fun _ => (0 : ℝ)) rfl fun l hl => if_neg (show ¬ (64 + l) / 64 = 0 by omega), sum_const_zero, add_zero]
    exact sum_congr rfl fun l _ => congrArg F (by omega)
  · rw [sum_congr (g := fun _ => (0 : ℝ)) rfl fun l hl => if_neg (show ¬ l / 64 = 1 by have := mem_range.mp hl; omega),
      sum_congr (s₁ := range 64) (g := fun d => F (64 * 1 + d)) rfl fun l hl => (if_pos (show (64 + l) / 64 = 1 by have := mem_range.mp hl; omega)).trans (congrArg F (by omega)),
      sum_const_zero, zero_add]

theorem q_at (h R l : ℕ) : (one g o b p h).q R l = if l / 64 = h % 2 then rq g b (4 * p + h) R (l % 64) * (1 / 8) else 0 := by
  show (if l / 64 = h % 2 then Bq g b p R (128 * (h / 2) + l) * (1 / 8) else 0) = _
  split
  · rw [Bq, rq, show p * 256 + (128 * (h / 2) + l) = (4 * p + h) * 64 + l % 64 by omega]
  · rfl
theorem k_at (h S l : ℕ) : (one g o b p h).k S l = if l / 64 = h % 2 then rk g b (4 * p + h) S (l % 64) else 0 := by
  show (if l / 64 = h % 2 then Bk g b p S (128 * (h / 2) + l) else 0) = _
  split
  · rw [Bk, rk, show p * 256 + (128 * (h / 2) + l) = (4 * p + h) * 64 + l % 64 by omega]
  · rfl
theorem d_at (h R l : ℕ) : (one g o b p h).d R l = rd o b (4 * p + h) R l := by
  show Bd o b p R (128 * h + l) = _
  rw [Bd, rd, show p * 512 + (128 * h + l) = (4 * p + h) * 128 + l by omega]
theorem v_at (h S l : ℕ) : (one g o b p h).v S l = rv g b (4 * p + h) S l := by
  show Bv g b p S (128 * h + l) = _
  rw [Bv, rv, show p * 512 + (128 * h + l) = (4 * p + h) * 128 + l by omega]
theorem t_at (h : ℕ) : (one g o b p h).t = rT g b (4 * p + h) := rfl

theorem Z_at (h : ℕ) : (one g o b p h).Z = rZ g b (4 * p + h) := by
  funext R S
  show (∑ l ∈ range 128, (one g o b p h).q R l * (one g o b p h).k S l) = _
  rw [rZ, sum_mul, sum_congr (g := fun l => if l / 64 = h % 2 then rq g b (4 * p + h) R (l % 64) * rk g b (4 * p + h) S (l % 64) * (1 / 8) else 0) rfl
    fun l _ => by rw [q_at, k_at]; split; · ring
                  · ring, lane_sum _ _ (Nat.mod_lt _ (by omega))]
  exact sum_congr rfl fun d hd => by rw [show (64 * (h % 2) + d) % 64 = d by have := mem_range.mp hd; omega]
theorem DA_at (h : ℕ) : (one g o b p h).DA = rA g o b (4 * p + h) := by
  funext R S
  show (∑ l ∈ range 128, (one g o b p h).d R l * (one g o b p h).v S l) = _
  exact sum_congr rfl fun l _ => by rw [d_at, v_at]
theorem W_at (h : ℕ) : (one g o b p h).W = rW g b (4 * p + h) := by
  funext R S
  rw [Arrays.W, Z_at, t_at]; rfl
theorem D_at (h : ℕ) : (one g o b p h).D = rD g o b (4 * p + h) := by
  funext R S
  rw [Arrays.D, Z_at, DA_at, t_at]; rfl

/-- What a row and a column add to a lane of the three gradients: the lane's own head's term. -/
theorem fq_at (l R S : ℕ) (hl : l < 256) : FQ (one g o b p 0) (one g o b p 1) (one g o b p 2) (one g o b p 3) l R S
    = rD g o b (4 * p + l / 64) R S * rk g b (4 * p + l / 64) S (l % 64) := by
  rw [FQ]
  split
  · rw [Arrays.fq, D_at, D_at, k_at, k_at]
    obtain e | e : l / 64 = 0 ∨ l / 64 = 1 := by omega
    · rw [if_pos (by omega), if_neg (by omega), mul_zero, add_zero, e]
    · rw [if_neg (by omega), if_pos (by omega), mul_zero, zero_add, e]
  · rw [Arrays.fq, D_at, D_at, k_at, k_at, show (l - 128) % 64 = l % 64 by omega]
    obtain e | e : l / 64 = 2 ∨ l / 64 = 3 := by omega
    · rw [if_pos (by omega), if_neg (by omega), mul_zero, add_zero, e]
    · rw [if_neg (by omega), if_pos (by omega), mul_zero, zero_add, e]
theorem fk_at (l R S : ℕ) (hl : l < 256) : FK (one g o b p 0) (one g o b p 1) (one g o b p 2) (one g o b p 3) l R S
    = rD g o b (4 * p + l / 64) R S * (1 / 8) * rq g b (4 * p + l / 64) R (l % 64) := by
  rw [FK]
  split
  · rw [Arrays.fk, D_at, D_at, q_at, q_at]
    obtain e | e : l / 64 = 0 ∨ l / 64 = 1 := by omega
    · rw [if_pos (by omega), if_neg (by omega), mul_zero, add_zero, e]; ring
    · rw [if_neg (by omega), if_pos (by omega), mul_zero, zero_add, e]; ring
  · rw [Arrays.fk, D_at, D_at, q_at, q_at, show (l - 128) % 64 = l % 64 by omega]
    obtain e | e : l / 64 = 2 ∨ l / 64 = 3 := by omega
    · rw [if_pos (by omega), if_neg (by omega), mul_zero, add_zero, e]; ring
    · rw [if_neg (by omega), if_pos (by omega), mul_zero, zero_add, e]; ring
theorem fv_at (l R S : ℕ) (hl : l < 512) : FV (one g o b p 0) (one g o b p 1) (one g o b p 2) (one g o b p 3) l R S
    = rd o b (4 * p + l / 128) R (l % 128) * rW g b (4 * p + l / 128) R S := by
  rw [FV]
  split
  · rw [Arrays.fv, W_at, d_at, show l / 128 = 0 by omega, show l % 128 = l by omega, mul_comm]
  · split
    · rw [Arrays.fv, W_at, d_at, show l / 128 = 1 by omega, show l % 128 = l - 128 by omega, mul_comm]
    · split
      · rw [Arrays.fv, W_at, d_at, show l / 128 = 2 by omega, show l % 128 = l - 256 by omega, mul_comm]
      · rw [Arrays.fv, W_at, d_at, show l / 128 = 3 by omega, show l % 128 = l - 384 by omega, mul_comm]

end Cert.SbGradIdeal.Hand

end
-- ==== Proof.SbGrad.Point.lean ====
/-
  What a grid point reads: its blocks of the arguments, and the rows' sums of logarithms computed before the launch.
-/
module

public import proofs.«01_k».proof.Proof.SbGrad.Heads
public import proofs.«01_k».proof.Proof.SbGrad.Windows
public import Idealize.ShloMosaic.Lib.Pipeline.ValueKit

@[expose] public section

set_option maxRecDepth 16384

noncomputable section

namespace Cert.SbGradIdeal.Hand

open Cert.SbGradIdeal Cert.SbGradIdeal.Gen
open Idealize.ShloMosaic Idealize.ShloMosaic.TcCoe Idealize.SL.Sem
open Cert.WindowSum
open Finset (range)

variable (m : (ℓ : Loc nD τ sig) → Buf (Elt Ideal) ℓ) (c : Dev nD)

/-- Which block each window takes at each grid point. -/
theorem idx : ∀ t : Fin cfg0.N, win0_0.index t = ![t.val / 4, t.val % 4] ∧ win0_1.index t = ![t.val / 4, 4 + t.val % 4]
   ∧ win0_2.index t = ![t.val / 4, 4 + t.val % 4] ∧ win0_3.index t = ![t.val / 4, t.val % 4] ∧ win0_4.index t = ![t.val % 4, t.val / 4, 0] :=
  (by decide +kernel : ∀ t : Fin grid0.N, _)

/-- The rows' sums of an array of logarithms, the heads in groups of four, as the launch takes them. -/
def totOf (x : FVec Ideal S2x16x2048x2048 .f32) : FVec Ideal S4x4096x4 .f32 :=
  shapeCast S4x4096x4 (transpose S4x2x2048x4 [1, 0, 3, 2] (shapeCast S2x4x4x2048
    (Host.reduceAdd x (constant S_ .f32 0x00000000#32) reducesTo_S2x16x2048x2048_S2x16x2048_d3 h_S_)
    shapeCasts_S2x16x2048_S2x4x4x2048) transposes_S2x4x4x2048_S4x2x2048x4_1_0_3_2) shapeCasts_S4x2x2048x4_S4x4096x4

theorem totOf_apply (x : FVec Ideal S2x16x2048x2048 .f32) (b : Fin 2) (p h : Fin 4) (R : Fin 2048) (r : Fin 4096) (hr : r.val = b.val * 2048 + R.val)
    (e : Fin 16) (he : e.val = 4 * p.val + h.val) : totOf x (ix3 p r h) = ∑ S : Fin 2048, x (ix4 b e R S) := by
  pointwise [totOf]
  refine Finset.sum_congr rfl fun S _ => ?_
  rw [show (⟨r.val / 2048, by omega⟩ : Fin 2) = b from Fin.ext (by simp only []; omega),
    show (⟨p.val * 4 + h.val, by omega⟩ : Fin 16) = e from Fin.ext (by simp only []; omega),
    show (⟨r.val % 2048, by omega⟩ : Fin 2048) = R from Fin.ext (by simp only []; omega)]

/-- The rows' sums of logarithms, as the launch finds them. -/
theorem tot_entry : (V m c main_v27 : FVec Ideal S4x4096x4 .f32)
    = totOf (Cert.SbGradRefIdeal.Read.val_main_v23_0 (F := Ideal) (m ((c : Thread nD τ).loc main_arg0))) := by
  unfold V
  simp only [hostOps0, hostOps0_1, hostOps0_2, hostOps0_3, hostOps0_4, List.flatten_cons, List.flatten_nil, List.append_nil, List.cons_append, List.nil_append]
  after_results
  rfl

/-- The result array starts as the third argument. -/
theorem out_entry : V m c main_v28 = m ((c : Thread nD τ).loc main_arg2) := by
  unfold V
  simp only [hostOps0, hostOps0_1, hostOps0_2, hostOps0_3, hostOps0_4, List.flatten_cons, List.flatten_nil, List.append_nil, List.cons_append, List.nil_append]
  after_results
  try rfl

/-- A point's blocks in the arrays. -/
theorem blk0 (t : Fin cfg0.N) (R : Fin 2048) (l : Fin 256) (r : Fin 4096) (s : Fin 6144) (hr : r.val = t.val / 4 * 2048 + R.val)
    (hs : s.val = t.val % 4 * 256 + l.val) : (iblk m c 0 t (ix2 R l) : EReal) = m ((c : Thread nD τ).loc main_arg0) (ix2 r s) := by
  rw [← V_main_arg0 m c]
  blk_ext [iblk, idx t]
theorem blk1 (t : Fin cfg0.N) (R : Fin 2048) (l : Fin 256) (r : Fin 4096) (s : Fin 6144) (hr : r.val = t.val / 4 * 2048 + R.val)
    (hs : s.val = 1024 + (t.val % 4 * 256 + l.val)) : (iblk m c 1 t (ix2 R l) : EReal) = m ((c : Thread nD τ).loc main_arg0) (ix2 r s) := by
  rw [← V_main_arg0 m c]
  blk_ext [iblk, idx t]
theorem blk2 (t : Fin cfg0.N) (R : Fin 2048) (l : Fin 512) (r : Fin 4096) (s : Fin 6144) (hr : r.val = t.val / 4 * 2048 + R.val)
    (hs : s.val = 2048 + (t.val % 4 * 512 + l.val)) : (iblk m c 2 t (ix2 R l) : EReal) = m ((c : Thread nD τ).loc main_arg0) (ix2 r s) := by
  rw [← V_main_arg0 m c]
  blk_ext [iblk, idx t]
theorem blk3 (t : Fin cfg0.N) (R : Fin 2048) (l : Fin 512) (r : Fin 4096) (s : Fin 2048) (hr : r.val = t.val / 4 * 2048 + R.val)
    (hs : s.val = t.val % 4 * 512 + l.val) : (iblk m c 3 t (ix2 R l) : EReal) = m ((c : Thread nD τ).loc main_arg1) (ix2 r s) := by
  rw [← V_main_arg1 m c]
  blk_ext [iblk, idx t]
theorem blk4 (t : Fin cfg0.N) (z : Fin 1) (R : Fin 2048) (h : Fin 4) (p : Fin 4) (r : Fin 4096) (hr : r.val = t.val / 4 * 2048 + R.val)
    (hp : p.val = t.val % 4) : (iblk m c 4 t (ix3 z R h) : EReal) = V m c main_v27 (ix3 p r h) := by
  blk_ext [iblk, idx t]

end Cert.SbGradIdeal.Hand

end
-- ==== Proof.SbGrad.Sends.lean ====
/-
  What a grid point sends, as real numbers: the gradients of its four heads' queries, keys and values.
-/
module

public import proofs.«01_k».proof.Proof.SbGrad.Point

@[expose] public section

set_option maxRecDepth 16384

noncomputable section

namespace Cert.SbGradIdeal.Hand

open Cert.SbGradIdeal Cert.SbGradIdeal.Gen
open Idealize.ShloMosaic Idealize.ShloMosaic.TcCoe Idealize.SL.Sem
open Cert.WindowSum
open Finset (range)

variable (m : (ℓ : Loc nD τ sig) → Buf (Elt Ideal) ℓ) (c : Dev nD) {g o : ℕ → ℕ → ℝ}
  (hG : ∀ (r : Fin 4096) (s : Fin 6144), s.val < 4096 →
    (m ((c : Thread nD τ).loc main_arg0) : FVec Ideal S4096x6144 .bf16) (ix2 r s) = ((g r.val s.val : ℝ) : EReal))
  (hO : ∀ (r : Fin 4096) (s : Fin 2048),
    (m ((c : Thread nD τ).loc main_arg1) : FVec Ideal S4096x2048 .bf16) (ix2 r s) = ((o r.val s.val : ℝ) : EReal))

/-- Narrowing a real number's format is the identity. -/
theorem narrow_k (x : FVec Ideal S2048x256 .f32) : k0_pay3 (F := Ideal) x = x := by
  funext i
  pointwise [k0_pay3]
theorem narrow_v (x : FVec Ideal S2048x512 .f32) : k0_pay4 (F := Ideal) x = x := by
  funext i
  pointwise [k0_pay4]

include hG hO

/-- The point's blocks are real, and the totals are the rows' sums of logarithms. -/
theorem reads (t : Fin cfg0.N) (b p : ℕ) (hb : t.val / 4 = b) (hp : t.val % 4 = p) :
    Reads (st0_0 t) (st0_1 t) (st0_2 t) (st0_3 t) (st0_4 t) (X2 m c t) (X3 m c t) (X4 m c t) (X5 m c t) (X6 m c t)
      (Bq g b p) (Bk g b p) (Bv g b p) (Bd o b p) (Bt g b p) where
  q := fun R l => by
    have ht := t_lt t; have hR := R.isLt; have hl := l.isLt
    rw [X2, View.read_rep]
    refine (blk0 m c t R l ⟨b * 2048 + R.val, by omega⟩ ⟨p * 256 + l.val, by omega⟩ (by rw [hb]) (by rw [hp])).trans (hG _ _ ?_)
    show p * 256 + l.val < 4096
    omega
  k := fun R l => by
    have ht := t_lt t; have hR := R.isLt; have hl := l.isLt
    rw [X3, View.read_rep]
    refine (blk1 m c t R l ⟨b * 2048 + R.val, by omega⟩ ⟨1024 + (p * 256 + l.val), by omega⟩ (by rw [hb]) (by rw [hp])).trans (hG _ _ ?_)
    show 1024 + (p * 256 + l.val) < 4096
    omega
  v := fun R l => by
    have ht := t_lt t; have hR := R.isLt; have hl := l.isLt
    rw [X4, View.read_rep]
    refine (blk2 m c t R l ⟨b * 2048 + R.val, by omega⟩ ⟨2048 + (p * 512 + l.val), by omega⟩ (by rw [hb]) (by rw [hp])).trans (hG _ _ ?_)
    show 2048 + (p * 512 + l.val) < 4096
    omega
  d := fun R l => by
    have ht := t_lt t; have hR := R.isLt; have hl := l.isLt
    rw [X5, View.read_rep]
    exact (blk3 m c t R l ⟨b * 2048 + R.val, by omega⟩ ⟨p * 512 + l.val, by omega⟩ (by rw [hb]) (by rw [hp])).trans (hO _ _)
  t := fun R h => by
    have ht := t_lt t; have hR := R.isLt; have hh := h.isLt
    rw [X6, View.read_rep]
    refine (blk4 m c t 0 R h ⟨p, by omega⟩ ⟨b * 2048 + R.val, by omega⟩ (by rw [hb]) hp.symm).trans ?_
    refine ((congrFun (tot_entry m c) _).trans (totOf_apply _ ⟨b, by omega⟩ ⟨p, by omega⟩ h R _ rfl ⟨4 * p + h.val, by omega⟩ rfl)).trans ?_
    rw [Finset.sum_congr rfl fun S _ => mom_val hG _ _ R S]
    exact sum_fin_coe (N := 2048) fun S => mom (rZ g b (4 * p + h.val)) R.val S

/-- What the scratches hold when the point's loops are done. -/
theorem outer (t : Fin cfg0.N) (b p : ℕ) (hb : t.val / 4 = b) (hp : t.val % 4 = p) :
    Outer (one g o b p 0) (one g o b p 1) (one g o b p 2) (one g o b p 3) (done m c t) 8 :=
  outer_done c (grid0.coords t) _ _ _ _ _ _ _ _ _ _ _ _ _ _ _ (reads m c hG hO t b p hb hp) _

theorem dq_sent (t : Fin cfg0.N) (b p : ℕ) (hb : t.val / 4 = b) (hp : t.val % 4 = p) (R : Fin 2048) (l : Fin 256) :
    dqOf m c t (ix2 R l) = ((∑ S ∈ range 2048, rD g o b (4 * p + l.val / 64) R S * (1 / 8) * rk g b (4 * p + l.val / 64) S (l.val % 64) : ℝ) : EReal) := by
  refine ((outer m c hG hO t b p hb hp).q R l (by have := R.isLt; omega)).trans (congrArg _ ?_)
  rw [Finset.sum_mul]
  refine Finset.sum_congr rfl fun S _ => ?_
  rw [fq_at _ _ _ _ _ _ _ l.isLt]
  ring

theorem dk_sent (t : Fin cfg0.N) (b p : ℕ) (hb : t.val / 4 = b) (hp : t.val % 4 = p) (S : Fin 2048) (l : Fin 256) :
    dkOf m c t (ix2 S l) = ((∑ R ∈ range 2048, rD g o b (4 * p + l.val / 64) R S * (1 / 8) * rq g b (4 * p + l.val / 64) R (l.val % 64) : ℝ) : EReal) := by
  rw [dkOf, narrow_k]
  refine ((outer m c hG hO t b p hb hp).k S l).trans (congrArg _ ?_)
  beta_reduce
  rw [built, if_neg (Nat.not_lt_zero _), add_zero]
  exact Finset.sum_congr rfl fun R _ => fk_at _ _ _ _ _ _ _ l.isLt

theorem dv_sent (t : Fin cfg0.N) (b p : ℕ) (hb : t.val / 4 = b) (hp : t.val % 4 = p) (S : Fin 2048) (l : Fin 512) :
    dvOf m c t (ix2 S l) = ((∑ R ∈ range 2048, rd o b (4 * p + l.val / 128) R (l.val % 128) * rW g b (4 * p + l.val / 128) R S : ℝ) : EReal) := by
  rw [dvOf, narrow_v]
  refine ((outer m c hG hO t b p hb hp).v S l).trans (congrArg _ ?_)
  beta_reduce
  rw [built, if_neg (Nat.not_lt_zero _), add_zero]
  exact Finset.sum_congr rfl fun R _ => fv_at _ _ _ _ _ _ _ l.isLt

end Cert.SbGradIdeal.Hand

end
-- ==== Proof.SbGrad.RefOut.lean ====
/-
  The reference's result, read at an entry: the three gradients side by side, then what the third argument holds.
-/
module

public import proofs.«01_k».proof.Proof.SbGrad.Ref

@[expose] public section

set_option maxRecDepth 16384

noncomputable section

namespace Cert.SbGradIdeal.Hand

open Idealize.ShloMosaic
open Cert.SbGradRefIdeal Cert.SbGradRefIdeal.Read

variable (x0 : (⟨S4096x6144, .bf16⟩ : BufTy).Contents (Elt Ideal)) (x1 : (⟨S4096x2048, .bf16⟩ : BufTy).Contents (Elt Ideal))
  (x2 : (⟨S4096x6144, .bf16⟩ : BufTy).Contents (Elt Ideal))

theorem out_main (r : Fin 4096) (c : Fin 6144) (hc : c.val < 4096) :
    val_main_v64 (F := Ideal) x0 x1 x2 (ix2 r c) = val_main_v61 (F := Ideal) x0 x1 (ix2 r (⟨c.val, hc⟩ : Fin 4096)) := by
  pointwise [val_main_v64, val_main_v62, val_main_v63]
  rw [dif_pos hc]

theorem out_rest (r : Fin 4096) (c : Fin 6144) (hc : ¬ c.val < 4096) :
    val_main_v64 (F := Ideal) x0 x1 x2 (ix2 r c) = x2 (ix2 r c) := by
  pointwise [val_main_v64, val_main_v62, val_main_v63]
  rw [dif_neg hc]
  refine congrArg x2 (congrArg (ix2 r) (Fin.ext ?_))
  show 4096 + (c.val - 4096) = c.val
  omega

theorem mid_main (b : Fin 2) (R : Fin 2048) (c : Fin 4096) :
    val_main_v61 (F := Ideal) x0 x1 (ix2 (⟨b.val * 2048 + R.val, by omega⟩ : Fin 4096) c) = val_main_v60 (F := Ideal) x0 x1 (ix3 b R c) := by
  rw [val_main_v61_apply]
  refine congrArg _ ?_
  have hb := b.isLt; have hR := R.isLt; have hc := c.isLt
  funext a
  match a with
  | ⟨0, _⟩ => exact Fin.ext (by show ((b.val * 2048 + R.val) * 4096 + c.val) / 8388608 = b.val; omega)
  | ⟨1, _⟩ => exact Fin.ext (by show ((b.val * 2048 + R.val) * 4096 + c.val) / 4096 % 2048 = R.val; omega)
  | ⟨2, _⟩ => exact Fin.ext (by show ((b.val * 2048 + R.val) * 4096 + c.val) % 4096 = c.val; omega)

theorem cat_q (b : Fin 2) (R : Fin 2048) (c : Fin 4096) (hc : c.val < 1024) :
    val_main_v60 (F := Ideal) x0 x1 (ix3 b R c) = val_main_v59 (F := Ideal) x0 x1 (ix3 b R (⟨c.val, hc⟩ : Fin 1024)) := by
  pointwise [val_main_v60]
  rw [dif_pos hc]
theorem cat_k (b : Fin 2) (R : Fin 2048) (c : Fin 4096) (h0 : ¬ c.val < 1024) (hc : c.val - 1024 < 1024) :
    val_main_v60 (F := Ideal) x0 x1 (ix3 b R c) = val_main_v57 (F := Ideal) x0 x1 (ix3 b R (⟨c.val - 1024, hc⟩ : Fin 1024)) := by
  pointwise [val_main_v60]
  rw [dif_neg h0, dif_pos hc]
theorem cat_v (b : Fin 2) (R : Fin 2048) (c : Fin 4096) (h0 : ¬ c.val < 1024) (h1 : ¬ c.val - 1024 < 1024) :
    val_main_v60 (F := Ideal) x0 x1 (ix3 b R c) = val_main_v55 (F := Ideal) x0 x1 (ix3 b R (⟨c.val - 1024 - 1024, by omega⟩ : Fin 2048)) := by
  pointwise [val_main_v60]
  rw [dif_neg h0, dif_neg h1]

section
variable (b : Fin 2) (h : Fin 16) (R : Fin 2048) (r : Fin 4096) (c : Fin 6144) (hr : r.val = b.val * 2048 + R.val)
include hr

theorem out_q (d : Fin 64) (hc : c.val = h.val * 64 + d.val) :
    val_main_v64 (F := Ideal) x0 x1 x2 (ix2 r c) = val_main_v53 (F := Ideal) x0 x1 (ix4 b h R d) := by
  have hb := b.isLt; have hR := R.isLt; have hh := h.isLt; have hd := d.isLt
  have er : r = ⟨b.val * 2048 + R.val, by omega⟩ := Fin.ext hr
  rw [er]
  rw [out_main x0 x1 x2 _ c (by omega), mid_main, cat_q x0 x1 b R _ (by show c.val < 1024; omega), val_main_v59_apply, val_main_v58_apply]
  refine congrArg _ ?_
  funext a
  match a with
  | ⟨0, _⟩ => exact Fin.ext (by show ((b.val * 2048 + R.val) * 1024 + c.val) / 2097152 = b.val; omega)
  | ⟨1, _⟩ => exact Fin.ext (by show ((b.val * 2048 + R.val) * 1024 + c.val) / 64 % 16 = h.val; omega)
  | ⟨2, _⟩ => exact Fin.ext (by show ((b.val * 2048 + R.val) * 1024 + c.val) / 1024 % 2048 = R.val; omega)
  | ⟨3, _⟩ => exact Fin.ext (by show ((b.val * 2048 + R.val) * 1024 + c.val) % 64 = d.val; omega)

theorem out_k (d : Fin 64) (hc : c.val = 1024 + (h.val * 64 + d.val)) :
    val_main_v64 (F := Ideal) x0 x1 x2 (ix2 r c) = val_main_v52 (F := Ideal) x0 x1 (ix4 b h R d) := by
  have hb := b.isLt; have hR := R.isLt; have hh := h.isLt; have hd := d.isLt
  have er : r = ⟨b.val * 2048 + R.val, by omega⟩ := Fin.ext hr
  rw [er]
  rw [out_main x0 x1 x2 _ c (by omega), mid_main, cat_k x0 x1 b R _ (by show ¬ c.val < 1024; omega) (by show c.val - 1024 < 1024; omega),
    val_main_v57_apply, val_main_v56_apply]
  refine congrArg _ ?_
  funext a
  match a with
  | ⟨0, _⟩ => exact Fin.ext (by show ((b.val * 2048 + R.val) * 1024 + (c.val - 1024)) / 2097152 = b.val; omega)
  | ⟨1, _⟩ => exact Fin.ext (by show ((b.val * 2048 + R.val) * 1024 + (c.val - 1024)) / 64 % 16 = h.val; omega)
  | ⟨2, _⟩ => exact Fin.ext (by show ((b.val * 2048 + R.val) * 1024 + (c.val - 1024)) / 1024 % 2048 = R.val; omega)
  | ⟨3, _⟩ => exact Fin.ext (by show ((b.val * 2048 + R.val) * 1024 + (c.val - 1024)) % 64 = d.val; omega)

theorem out_v (l : Fin 128) (hc : c.val = 2048 + (h.val * 128 + l.val)) :
    val_main_v64 (F := Ideal) x0 x1 x2 (ix2 r c) = val_main_v38 (F := Ideal) x0 x1 (ix4 b h R l) := by
  have hb := b.isLt; have hR := R.isLt; have hh := h.isLt; have hd := l.isLt
  have er : r = ⟨b.val * 2048 + R.val, by omega⟩ := Fin.ext hr
  rw [er]
  rw [out_main x0 x1 x2 _ c (by omega), mid_main, cat_v x0 x1 b R _ (by show ¬ c.val < 1024; omega) (by show ¬ c.val - 1024 < 1024; omega),
    val_main_v55_apply, val_main_v54_apply]
  refine congrArg _ ?_
  funext a
  match a with
  | ⟨0, _⟩ => exact Fin.ext (by show ((b.val * 2048 + R.val) * 2048 + (c.val - 1024 - 1024)) / 4194304 = b.val; omega)
  | ⟨1, _⟩ => exact Fin.ext (by show ((b.val * 2048 + R.val) * 2048 + (c.val - 1024 - 1024)) / 128 % 16 = h.val; omega)
  | ⟨2, _⟩ => exact Fin.ext (by show ((b.val * 2048 + R.val) * 2048 + (c.val - 1024 - 1024)) / 2048 % 2048 = R.val; omega)
  | ⟨3, _⟩ => exact Fin.ext (by show ((b.val * 2048 + R.val) * 2048 + (c.val - 1024 - 1024)) % 128 = l.val; omega)
end

end Cert.SbGradIdeal.Hand
-- ==== Proof.SbGrad.Equal.lean ====
/-
  The kernel's result array is the reference's, entry by entry: the columns of `dq`, of `dk`, of `dv`, and the rest.
-/
module

public import proofs.«01_k».proof.Proof.SbGrad.Sends
public import proofs.«01_k».proof.Proof.SbGrad.RefOut

@[expose] public section

set_option maxRecDepth 16384

noncomputable section

namespace Cert.SbGradIdeal.Hand

open Cert.SbGradIdeal Cert.SbGradIdeal.Gen
open Idealize.ShloMosaic Idealize.ShloMosaic.TcCoe Idealize.SL.Sem
open Cert.SbGradRefIdeal.Read (val_main_v64)

variable (m : (ℓ : Loc nD τ sig) → Buf (Elt Ideal) ℓ) (c : Dev nD) {g o : ℕ → ℕ → ℝ}
  (hG : ∀ (r : Fin 4096) (s : Fin 6144), s.val < 4096 →
    (m ((c : Thread nD τ).loc main_arg0) : FVec Ideal S4096x6144 .bf16) (ix2 r s) = ((g r.val s.val : ℝ) : EReal))
  (hO : ∀ (r : Fin 4096) (s : Fin 2048),
    (m ((c : Thread nD τ).loc main_arg1) : FVec Ideal S4096x2048 .bf16) (ix2 r s) = ((o r.val s.val : ℝ) : EReal))
include hG hO

theorem final_at (r : Fin 4096) (s : Fin 6144) : (final m c : FVec Ideal S4096x6144 .bf16) (ix2 r s)
    = val_main_v64 (F := Ideal) (m ((c : Thread nD τ).loc main_arg0)) (m ((c : Thread nD τ).loc main_arg1)) (m ((c : Thread nD τ).loc main_arg2)) (ix2 r s) := by
  have hr := r.isLt; have hs := s.isLt
  rw [final]
  by_cases h1 : s.val < 1024
  · have hl : s.val % 256 < 256 := by omega
    have eh : 4 * (s.val / 256) + s.val % 256 / 64 = s.val / 64 := by omega
    have ed : s.val % 256 % 64 = s.val % 64 := by omega
    refine (finalOf_q _ _ _ _ (⟨r.val / 2048 * 4 + s.val / 256, by omega⟩ : Fin 8) (ix2 ⟨r.val % 2048, by omega⟩ ⟨s.val % 256, hl⟩) _
      (by show r.val = (r.val / 2048 * 4 + s.val / 256) / 4 * 2048 + r.val % 2048; omega)
      (by show s.val = (r.val / 2048 * 4 + s.val / 256) % 4 * 256 + s.val % 256; omega)).trans ?_
    refine (dq_sent m c hG hO _ (r.val / 2048) (s.val / 256) (by show (r.val / 2048 * 4 + s.val / 256) / 4 = _; omega)
      (by show (r.val / 2048 * 4 + s.val / 256) % 4 = _; omega) _ _).trans ?_
    refine Eq.trans ?_ ((out_q _ _ _ (⟨r.val / 2048, by omega⟩ : Fin 2) (⟨s.val / 64, by omega⟩ : Fin 16) (⟨r.val % 2048, by omega⟩ : Fin 2048) r s
      (by show r.val = r.val / 2048 * 2048 + r.val % 2048; omega) (⟨s.val % 64, by omega⟩ : Fin 64) (by show s.val = s.val / 64 * 64 + s.val % 64; omega)).trans (dq_val hG hO _ _ _ _)).symm
    simp only [eh, ed]
  by_cases h2 : s.val < 2048
  · have hl : s.val % 256 < 256 := by omega
    have eh : 4 * ((s.val - 1024) / 256) + s.val % 256 / 64 = (s.val - 1024) / 64 := by omega
    have ed : s.val % 256 % 64 = s.val % 64 := by omega
    refine (finalOf_k _ _ _ _ (⟨r.val / 2048 * 4 + (s.val - 1024) / 256, by omega⟩ : Fin 8) (ix2 ⟨r.val % 2048, by omega⟩ ⟨s.val % 256, hl⟩) _
      (by show r.val = (r.val / 2048 * 4 + (s.val - 1024) / 256) / 4 * 2048 + r.val % 2048; omega)
      (by show s.val = 1024 + (r.val / 2048 * 4 + (s.val - 1024) / 256) % 4 * 256 + s.val % 256; omega)).trans ?_
    refine (dk_sent m c hG hO _ (r.val / 2048) ((s.val - 1024) / 256) (by show (r.val / 2048 * 4 + (s.val - 1024) / 256) / 4 = _; omega)
      (by show (r.val / 2048 * 4 + (s.val - 1024) / 256) % 4 = _; omega) _ _).trans ?_
    refine Eq.trans ?_ ((out_k _ _ _ (⟨r.val / 2048, by omega⟩ : Fin 2) (⟨(s.val - 1024) / 64, by omega⟩ : Fin 16) (⟨r.val % 2048, by omega⟩ : Fin 2048) r s
      (by show r.val = r.val / 2048 * 2048 + r.val % 2048; omega) (⟨s.val % 64, by omega⟩ : Fin 64)
      (by show s.val = 1024 + ((s.val - 1024) / 64 * 64 + s.val % 64); omega)).trans (dk_val hG hO _ _ _ _)).symm
    simp only [eh, ed]
  by_cases h3 : s.val < 4096
  · have hl : s.val % 512 < 512 := by omega
    have eh : 4 * ((s.val - 2048) / 512) + s.val % 512 / 128 = (s.val - 2048) / 128 := by omega
    have ed : s.val % 512 % 128 = s.val % 128 := by omega
    refine (finalOf_v _ _ _ _ (⟨r.val / 2048 * 4 + (s.val - 2048) / 512, by omega⟩ : Fin 8) (ix2 ⟨r.val % 2048, by omega⟩ ⟨s.val % 512, hl⟩) _
      (by show r.val = (r.val / 2048 * 4 + (s.val - 2048) / 512) / 4 * 2048 + r.val % 2048; omega)
      (by show s.val = 2048 + (r.val / 2048 * 4 + (s.val - 2048) / 512) % 4 * 512 + s.val % 512; omega)).trans ?_
    refine (dv_sent m c hG hO _ (r.val / 2048) ((s.val - 2048) / 512) (by show (r.val / 2048 * 4 + (s.val - 2048) / 512) / 4 = _; omega)
      (by show (r.val / 2048 * 4 + (s.val - 2048) / 512) % 4 = _; omega) _ _).trans ?_
    refine Eq.trans ?_ ((out_v _ _ _ (⟨r.val / 2048, by omega⟩ : Fin 2) (⟨(s.val - 2048) / 128, by omega⟩ : Fin 16) (⟨r.val % 2048, by omega⟩ : Fin 2048) r s
      (by show r.val = r.val / 2048 * 2048 + r.val % 2048; omega) (⟨s.val % 128, by omega⟩ : Fin 128)
      (by show s.val = 2048 + ((s.val - 2048) / 128 * 128 + s.val % 128); omega)).trans (dv_val hG hO _ _ _ _)).symm
    simp only [eh, ed]
  · refine (finalOf_rest _ _ _ _ _ (by show ¬ s.val < 4096; omega)).trans ?_
    rw [out_entry]
    exact (out_rest _ _ _ r s h3).symm

theorem final_eq : (final m c : FVec Ideal S4096x6144 .bf16)
    = val_main_v64 (F := Ideal) (m ((c : Thread nD τ).loc main_arg0)) (m ((c : Thread nD τ).loc main_arg1)) (m ((c : Thread nD τ).loc main_arg2)) :=
  funext fun y => by
    obtain ⟨r, s, rfl⟩ : ∃ (r : Fin 4096) (s : Fin 6144), y = ix2 r s :=
      ⟨y 0, y 1, funext fun a => match a with | ⟨0, _⟩ => rfl | ⟨1, _⟩ => rfl⟩
    exact final_at m c hG hO r s

end Cert.SbGradIdeal.Hand

end
-- ==== Proof.SbGrad.Equation.lean ====
module

public import proofs.«01_k».proof.Defs
public import proofs.«01_k».proof.Proof.Gen.SbGradRefIdeal.Run
public import proofs.«01_k».proof.Proof.Gen.Pre_attn_finite
public import proofs.«01_k».proof.Proof.SbGrad.Frame
public import proofs.«01_k».proof.Proof.SbGrad.Equal
public import proofs.«01_k».proof.Proof.Finite
public import Idealize.ShloMosaic.Lib.Claim

/-! The attention's gradient: the precondition read, and the equation of the two programs. -/

@[expose] public section

set_option maxRecDepth 16384

noncomputable section

namespace Cert.SbGradIdeal.Hand

open Idealize.ShloMosaic Idealize.ShloMosaic.TcCoe

/-- What the precondition says: the first 4096 columns of the projections and the cotangent are real numbers. -/
theorem real_of_pre [Cert.Pre_attn_finite.Facts] (x0 : FVec Ideal S4096x6144 .bf16) (x1 : FVec Ideal S4096x2048 .bf16) (x2 : FVec Ideal S4096x6144 .bf16)
    (h : Cert.Pre_attn_finite.fn (F := Ideal) x0 x1 x2 = fun _ => 1#1) :
    (∃ g : ℕ → ℕ → ℝ, ∀ (r : Fin 4096) (s : Fin 6144), s.val < 4096 → x0 (ix2 r s) = ((g r.val s.val : ℝ) : EReal))
    ∧ ∃ o : ℕ → ℕ → ℝ, ∀ (r : Fin 4096) (s : Fin 2048), x1 (ix2 r s) = ((o r.val s.val : ℝ) : EReal) := by
  have h' := congrFun h (Shape.Idx.first (by decide))
  unfold Cert.Pre_attn_finite.fn at h'
  obtain ⟨h0, h1⟩ := Cert.Finite.andi_eq_one h'
  constructor
  · have key : ∀ (r : Fin 4096) (s : Fin 4096), ∃ a : ℝ, x0 (ix2 r ⟨s.val, by omega⟩) = (a : EReal) := fun r s => by
      have e := Cert.Finite.all_of_reduce _ _ _ _ _ rfl h0 (ix2 r s)
      obtain ⟨a, ha⟩ := Cert.Finite.real_of_olt _ e
      refine ⟨a, Eq.trans ?_ ha⟩
      refine congrArg x0 (funext fun a => ?_)
      match a with
      | ⟨0, _⟩ => exact Fin.ext (by show r.val = 0 + r.val; omega)
      | ⟨1, _⟩ => exact Fin.ext (by show s.val = 0 + s.val; omega)
    refine ⟨fun r s => if h : r < 4096 ∧ s < 4096 then (key ⟨r, h.1⟩ ⟨s, h.2⟩).choose else 0, fun r s hs => ?_⟩
    beta_reduce
    rw [dif_pos ⟨r.isLt, hs⟩]
    exact (key r ⟨s.val, hs⟩).choose_spec
  · have key : ∀ (r : Fin 4096) (s : Fin 2048), ∃ a : ℝ, x1 (ix2 r s) = (a : EReal) := fun r s =>
      Cert.Finite.real_of_olt _ (Cert.Finite.all_of_reduce _ _ _ _ _ rfl h1 (ix2 r s))
    refine ⟨fun r s => if h : r < 4096 ∧ s < 2048 then (key ⟨r, h.1⟩ ⟨s, h.2⟩).choose else 0, fun r s => ?_⟩
    beta_reduce
    rw [dif_pos ⟨r.isLt, s.isLt⟩]
    exact (key r s).choose_spec

/-- The kernel's result is the reference's, at every entry. -/
theorem algebraic : Cert.algebraic_SbGradIdeal_SbGradRefIdeal_pre_attn_finite
    (hSbGradIdeal := Cert.SbGradIdeal.Gen.facts) (hSbGradRefIdeal := Cert.SbGradRefIdeal.Gen.facts)
    (hPre_attn_finite := Cert.Pre_attn_finite.Gen.facts) := by
  letI := Cert.Pre_attn_finite.Gen.facts
  intro m g m' g' hpre hagree
  refine ⟨fun c => final m c, θ_run_mono (run_main m g) fun r h c => h.1 c, θ_run_mono (Cert.SbGradRefIdeal.Value.run m' g') fun r h c => ⟨(h c).1.trans ?_, (h c).2⟩⟩
  obtain ⟨a0, a1, a2⟩ := hagree c
  obtain ⟨⟨x, hx⟩, o, ho⟩ := real_of_pre _ _ _ (hpre c)
  refine Eq.trans (Cert.SbGradRefIdeal.Read.val_main_v64_eq (F := Ideal) (StableHlo.launchContents m' c)) ?_
  rw [StableHlo.launchContents_devRef, StableHlo.launchContents_devRef, StableHlo.launchContents_devRef, a0, a1, a2]
  exact (final_eq m c hx ho).symm

end Cert.SbGradIdeal.Hand
-- ==== Proof.SbGrad.Claim.lean ====
module

public import proofs.«01_k».proof.Defs
public import proofs.«01_k».proof.Proof.Gen.SbGrad
public import proofs.«01_k».proof.Proof.Gen.SbGradRefIdeal.Run
public import proofs.«01_k».proof.Proof.SbGrad.Equation
public import Idealize.ShloMosaic.Lib.Claim

/-! The attention's gradient: the frames of its three programs, and that the ideal reading keeps the text. -/

@[expose] public section

set_option maxRecDepth 16384
set_option maxHeartbeats 4000000

noncomputable section

namespace Cert.SbGradIdeal.Hand

open Idealize.ShloMosaic Idealize.ShloMosaic.TcCoe

/-- The frame of the ideal reading, over any numbers. -/
theorem frame_of_run {F : FTy → Type} [FloatOps F] [Named F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  θ_run_mono (run_main m ρ) fun r h => ⟨fun c => (h.1 c).2, h.2⟩

theorem frame_ideal : Cert.quiescent_SbGradIdeal (hSbGradIdeal := Cert.SbGradIdeal.Gen.facts) := fun m ρ _ => frame_of_run m ρ

/-- At the bit patterns a named constant is its literal. -/
local instance literal : Named Bits where
  named _ _ {φ} b := Scalar.ofBits (F := Bits) φ b

/-- The program as compiled and its ideal reading have one body table: their texts agree, the named constant being its literal at the bit patterns. -/
theorem defs_eq : Cert.SbGrad.defs (F := Bits) = Cert.SbGradIdeal.defs (F := Bits) := by sl_kernel_rfl

/-- The frame of the program as compiled is the ideal program's run, at the bit patterns. -/
theorem frame_kernel : Cert.quiescent_SbGrad (hSbGrad := Cert.SbGrad.Gen.facts) := fun m ρ _ => by
  have h := frame_of_run (F := Bits) m ρ
  rw [← defs_eq] at h
  exact h

/-- The reference's frame: host operations only, none of which writes an argument, and no semaphore. -/
theorem frame_reference : Cert.quiescent_SbGradRefIdeal (hSbGradRefIdeal := Cert.SbGradRefIdeal.Gen.facts) := fun m ρ _ =>
  θ_run_mono (Cert.SbGradRefIdeal.Value.run m ρ) fun r h => ⟨fun c => (h c).2, sem_eq_zero_of_no_sems (by decide) r.2⟩

end Cert.SbGradIdeal.Hand
-- ==== Proof.PoolGate.Blocks.lean ====
module

public import proofs.«01_k».proof.Proof.Gen.PoolGateIdeal.Value
public import Idealize.ShloMosaic.Lib.Pipeline.ValueKit
public import Idealize.ShloMosaic.Lib.Pointwise
public import proofs.«01_k».proof.Proof.Finite

/-! What the pooling gate's gradient kernel stores at each grid point, and what its first two result arrays hold after the grid. -/

@[expose] public section

set_option maxRecDepth 16384

noncomputable section

namespace Cert.PoolGateIdeal.Hand

open Cert.PoolGateIdeal Cert.PoolGateIdeal.Gen Idealize.ShloMosaic Idealize.ShloMosaic.TcCoe Idealize.SL.Sem
open Idealize.ShloMosaic.Pipeline (Dat)
open Cert.Finite (sigm)

variable (m : (ℓ : Loc nD τ sig) → Buf (Elt Ideal) ℓ)

/-- The gate `silu z` and the cotangent of `y`. -/
def gate (q : FVec Ideal S4096x4096 .bf16) (r : Fin 4096) (s : Fin 2048) : EReal :=
  q (ix2 r ⟨2048 + s, by omega⟩) * sigm (q (ix2 r ⟨2048 + s, by omega⟩))
def dY (dh : FVec Ideal S4096x1024 .bf16) (w : FVec Ideal S2048x1024 .f32) (r : Fin 4096) (s : Fin 2048) : EReal :=
  ∑ k : Fin 1024, dh (ix2 r k) * w (ix2 s k)

/-- The gradient of the mixed values: the cotangent of `y` times the scale, times the gate. -/
def dM (dh : FVec Ideal S4096x1024 .bf16) (w : FVec Ideal S2048x1024 .f32) (q : FVec Ideal S4096x4096 .bf16) (a : FVec Ideal S1x2048 .f32)
    (r : Fin 4096) (s : Fin 2048) : EReal :=
  (dY dh w r s * a (ix2 0 s)) * gate q r s

/-- The gradient of the gate's pre-activation: the cotangent of `y` times the scaled mixed values, times the derivative of `silu`. -/
def dZ (dh : FVec Ideal S4096x1024 .bf16) (w : FVec Ideal S2048x1024 .f32) (q : FVec Ideal S4096x4096 .bf16)
    (x : FVec Ideal S4096x2048 .bf16) (a : FVec Ideal S1x2048 .f32) (r : Fin 4096) (s : Fin 2048) : EReal :=
  ((dY dh w r s * x (ix2 r s)) * a (ix2 0 s))
    * (sigm (q (ix2 r ⟨2048 + s, by omega⟩)) * (1 + q (ix2 r ⟨2048 + s, by omega⟩) * (1 - sigm (q (ix2 r ⟨2048 + s, by omega⟩)))))

/-- What a row adds to the gradient of the scale. -/
def dS (dh : FVec Ideal S4096x1024 .bf16) (w : FVec Ideal S2048x1024 .f32) (q : FVec Ideal S4096x4096 .bf16)
    (x : FVec Ideal S4096x2048 .bf16) (r : Fin 4096) (s : Fin 2048) : EReal :=
  (dY dh w r s * x (ix2 r s)) * gate q r s

/-- Which block each window takes at each grid point. -/
theorem idx : ∀ t : Fin cfg0.N, win0_0.index t = ![t.val / 2, 0] ∧ win0_1.index t = ![t.val % 2, 0] ∧ win0_2.index t = ![t.val / 2, 2 + t.val % 2]
   ∧ win0_3.index t = ![t.val / 2, t.val % 2] ∧ win0_4.index t = ![0, t.val % 2] ∧ win0_5.index t = ![t.val / 2, t.val % 2]
   ∧ win0_6.index t = ![t.val / 2, 2 + t.val % 2] ∧ win0_7.index t = ![0, 0] :=
  (by decide +kernel : ∀ t : Fin grid0.N, _)

/-- The block of the first result at one grid point. -/
theorem point5 (c : Dev nD) (t : Fin cfg0.N) (y : S1024x1024.Idx) (r : Fin 4096) (s : Fin 2048)
    (hr : r.val = t.val / 2 * 1024 + y 0) (hs : s.val = t.val % 2 * 1024 + y 1) :
    (outsAt0 m c t.val t.isLt).1 y
      = dM (m ((c : Thread nD τ).loc main_arg0)) (m ((c : Thread nD τ).loc main_arg1)) (m ((c : Thread nD τ).loc main_arg2)) (m ((c : Thread nD τ).loc main_arg4)) r s := by
  by_cases h : t.val % 8 = 0
  · rw [outsAt0_A m c t h]
    frame_out
    canon_tiles x h'
    all_goals (open_payloads; pointwise [dM, dY, gate, sigm]; blk_point [iblk, V, idx t])
  · rw [outsAt0_B m c t h]
    frame_out
    canon_tiles x h'
    all_goals (open_payloads; pointwise [dM, dY, gate, sigm]; blk_point [iblk, V, idx t])

/-- The block of the second result at one grid point. -/
theorem point6 (c : Dev nD) (t : Fin cfg0.N) (y : S1024x1024.Idx) (r : Fin 4096) (s : Fin 2048)
    (hr : r.val = t.val / 2 * 1024 + y 0) (hs : s.val = t.val % 2 * 1024 + y 1) :
    (outsAt0 m c t.val t.isLt).2.1 y
      = dZ (m ((c : Thread nD τ).loc main_arg0)) (m ((c : Thread nD τ).loc main_arg1)) (m ((c : Thread nD τ).loc main_arg2)) (m ((c : Thread nD τ).loc main_arg3)) (m ((c : Thread nD τ).loc main_arg4)) r s := by
  by_cases h : t.val % 8 = 0
  · rw [outsAt0_A m c t h]
    frame_out
    canon_tiles x h'
    all_goals (open_payloads; pointwise [dZ, dY, gate, sigm]; blk_point [iblk, V, idx t])
  · rw [outsAt0_B m c t h]
    frame_out
    canon_tiles x h'
    all_goals (open_payloads; pointwise [dZ, dY, gate, sigm]; blk_point [iblk, V, idx t])

/-- The first result after the grid, everywhere. -/
theorem final5 (c : Dev nD) : (dats m 0 c).arrAt 5 (cfgs 0).N
    = fun i => dM (m ((c : Thread nD τ).loc main_arg0)) (m ((c : Thread nD τ).loc main_arg1)) (m ((c : Thread nD τ).loc main_arg2)) (m ((c : Thread nD τ).loc main_arg4)) (i 0) (i 1) := by
  refine (dats m 0 c).arrAt_eq_of_covers 5 _ (by decide +kernel) fun t _ y => ?_
  blk_simp
  rw [after0_5]
  refine point5 m c t _ _ _ ?_ ?_ <;> (blk_simp [idx t]; try omega)

/-- The second result after the grid, in the gate's columns. -/
theorem final6 (c : Dev nD) (i : S4096x4096.Idx) (s : Fin 2048) (h : (i 1 : ℕ) = 2048 + s) : (dats m 0 c).arrAt 6 (cfgs 0).N i
    = dZ (m ((c : Thread nD τ).loc main_arg0)) (m ((c : Thread nD τ).loc main_arg1)) (m ((c : Thread nD τ).loc main_arg2)) (m ((c : Thread nD τ).loc main_arg3)) (m ((c : Thread nD τ).loc main_arg4)) (i 0) s := by
  have key : (dats m 0 c).arrAt 6 (cfgs 0).N = fun i : S4096x4096.Idx => if 2048 ≤ (i 1 : ℕ) then
      dZ (m ((c : Thread nD τ).loc main_arg0)) (m ((c : Thread nD τ).loc main_arg1)) (m ((c : Thread nD τ).loc main_arg2)) (m ((c : Thread nD τ).loc main_arg3)) (m ((c : Thread nD τ).loc main_arg4)) (i 0)
        ⟨(i 1 : ℕ) - 2048, by have : (i 1 : ℕ) < 4096 := (i 1).isLt; omega⟩ else V m c main_v1_1 i := by
    refine (dats m 0 c).arrAt_eq_of_coversWhere 6 _ (fun β => 2 ≤ β 1) (by decide +kernel) (fun t hf y => ?_)
      (fun j => by blk_simp [Pipeline.Window.cell_apply]; omega)
    blk_simp
    rw [after0_6]
    refine point6 m c t _ _ _ ?_ ?_ <;> (blk_simp [idx t]; try simp only []; try omega)
  rw [key]
  have hs : (⟨(i 1 : ℕ) - 2048, by have : (i 1 : ℕ) < 4096 := (i 1).isLt; omega⟩ : Fin 2048) = s := Fin.ext (by simp; omega)
  simp only [show 2048 ≤ (i 1 : ℕ) by omega, if_true, hs]

end Cert.PoolGateIdeal.Hand
-- ==== Proof.PoolGate.Ref.lean ====
module

public import proofs.«01_k».proof.Proof.Gen.PoolGateRefIdeal.Read
public import proofs.«01_k».proof.Proof.PoolGate.Blocks

/-! What the reference of the pooling layer's gate computes at each index, and that it is the kernel's value. -/

@[expose] public section

set_option maxRecDepth 16384

noncomputable section

namespace Cert.PoolGateRefIdeal.Hand

open Cert.PoolGateRefIdeal Cert.PoolGateRefIdeal.Gen Cert.PoolGateRefIdeal.Read Idealize.ShloMosaic
open Cert.Finite
open Cert.PoolGateIdeal.Hand (dY dM dZ dS gate)

/-- The reference multiplies by the gate before the scale, the kernel after it. -/
theorem swap (y a g : EReal) : y * g * a = y * a * g := by rw [mul_assoc, mul_comm g a, ← mul_assoc]

/-- The gradient of the pooled columns, whatever the arguments hold. -/
theorem ref0 (x0 : FVec Ideal S4096x1024 .bf16) (x1 : FVec Ideal S2048x1024 .f32) (x2 : FVec Ideal S4096x4096 .bf16) (x4 : FVec Ideal S1x2048 .f32) (i : S4096x2048.Idx) :
    val_main_v19 (F := Ideal) x0 x1 x2 x4 i = dM x0 x1 x2 x4 (i 0) (i 1) := by
  refine Eq.trans ?_ (swap (dY x0 x1 (i 0) (i 1)) (x4 (ix2 0 (i 1))) (gate x2 (i 0) (i 1)))
  pointwise [val_main_v19, val_main_v17, val_main_v16, val_main_v11, val_main_v9, val_main_v8, val_main_v5_0, val_main_v5_2, val_main_v2, val_main_v1,
    val_main_call0_v4, val_main_call0_cst_0, val_main_call0_v3, val_main_call0_v2, val_main_call0_v1, val_main_call0_cst, val_main_call0_v0, dY, gate, sigm, zero_sub]

/-- One row's share of the gradient of the scale. -/
theorem ref2_at (x0 : FVec Ideal S4096x1024 .bf16) (x1 : FVec Ideal S2048x1024 .f32) (x2 : FVec Ideal S4096x4096 .bf16) (x3 : FVec Ideal S4096x2048 .bf16) (r : Fin 4096) (s : Fin 2048) :
    val_main_v13 (F := Ideal) x0 x1 x2 x3 (ix2 r s) = dS x0 x1 x2 x3 r s := by
  refine Eq.trans ?_ ((mul_comm _ _).trans (swap (dY x0 x1 r s) (x3 (ix2 r s)) (gate x2 r s)))
  pointwise [val_main_v13, val_main_v0, val_main_v11, val_main_v9, val_main_v8, val_main_v5_0, val_main_v5_2, val_main_v2, val_main_v1,
    val_main_call0_v4, val_main_call0_cst_0, val_main_call0_v3, val_main_call0_v2, val_main_call0_v1, val_main_call0_cst, val_main_call0_v0, dY, gate, sigm, zero_sub]

/-- The gradient of the scale: the sum over the rows. -/
theorem ref2 (x0 : FVec Ideal S4096x1024 .bf16) (x1 : FVec Ideal S2048x1024 .f32) (x2 : FVec Ideal S4096x4096 .bf16) (x3 : FVec Ideal S4096x2048 .bf16) (i : S1x2048.Idx) :
    val_main_v15 (F := Ideal) x0 x1 x2 x3 i = ∑ r : Fin 4096, dS x0 x1 x2 x3 r (i 1) := by
  refine Eq.trans ?_ (Finset.sum_congr rfl fun r _ => ref2_at x0 x1 x2 x3 r (i 1))
  unfold val_main_v15 val_main_v14
  generalize val_main_v13 (F := Ideal) x0 x1 x2 x3 = v
  pointwise [val_main_cst]

/-- The derivative of the gate, as the reference adds its two parts and as the kernel factors them. -/
theorem silu_deriv (y x a z : ℝ) :
    (x : EReal) * a * y * sigm z + z * ((x : EReal) * a * y) * (sigm z * (1 - sigm z)) = (y : EReal) * x * a * (sigm z * (1 + z * (1 - sigm z))) := by
  rw [sigm_coe]
  simp only [← EReal.coe_mul, ← EReal.coe_add, ← EReal.coe_sub, ← EReal.coe_one]
  congr 1
  ring

/-- The gradient of the gate before it is placed in the projection's columns. -/
theorem ref1_at (x0 : FVec Ideal S4096x1024 .bf16) (x1 : FVec Ideal S2048x1024 .f32) (x2 : FVec Ideal S4096x4096 .bf16) (x3 : FVec Ideal S4096x2048 .bf16) (x4 : FVec Ideal S1x2048 .f32)
    (h0 : AllReal x0) (h1 : AllReal x1) (h2 : AllReal x2) (h3 : AllReal x3) (h4 : AllReal x4) (r : Fin 4096) (s : Fin 2048) :
    val_main_v12 (F := Ideal) x0 x1 x2 x3 x4 (ix2 r s) = dZ x0 x1 x2 x3 x4 r s := by
  obtain ⟨f0, rfl⟩ := h0.exists
  obtain ⟨f1, rfl⟩ := h1.exists
  obtain ⟨f2, rfl⟩ := h2.exists
  obtain ⟨f3, rfl⟩ := h3.exists
  obtain ⟨f4, rfl⟩ := h4.exists
  refine Eq.trans ?_ ((silu_deriv (∑ k : Fin 1024, f0 (ix2 r k) * f1 (ix2 s k)) (f3 (ix2 r s)) (f4 (ix2 0 s)) (f2 (ix2 r ⟨2048 + s, by omega⟩))).trans ?_)
  · pointwise [val_main_v12, val_main_call1_v2, val_main_call1_v1, val_main_call1_v0, val_main_v10, val_main_v9, val_main_v8, val_main_v4, val_main_v3, val_main_v0, val_main_v5_1,
      val_main_call0_v7, val_main_call0_v6, val_main_call0_cst_1, val_main_v5_2, val_main_v2, val_main_v1,
      val_main_call0_v4, val_main_call0_cst_0, val_main_call0_v3, val_main_call0_v2, val_main_call0_v1, val_main_call0_cst, val_main_call0_v0, sigm,
      zero_sub, coe_sum, EReal.coe_mul]
  · simp only [dZ, dY, coe_sum, EReal.coe_mul]

/-- The gradient of the projection in the gate's columns, at real arguments. -/
theorem ref1 (x0 : FVec Ideal S4096x1024 .bf16) (x1 : FVec Ideal S2048x1024 .f32) (x2 : FVec Ideal S4096x4096 .bf16) (x3 : FVec Ideal S4096x2048 .bf16) (x4 : FVec Ideal S1x2048 .f32)
    (h0 : AllReal x0) (h1 : AllReal x1) (h2 : AllReal x2) (h3 : AllReal x3) (h4 : AllReal x4) (i : S4096x4096.Idx) (s : Fin 2048) (hi : (i 1 : ℕ) = 2048 + s) :
    val_main_v20 (F := Ideal) x0 x1 x2 x3 x4 i = dZ x0 x1 x2 x3 x4 (i 0) s := by
  refine Eq.trans ?_ (ref1_at x0 x1 x2 x3 x4 h0 h1 h2 h3 h4 (i 0) s)
  unfold val_main_v20 val_main_v18
  generalize val_main_v12 (F := Ideal) x0 x1 x2 x3 x4 = v
  pointwise
  rw [dif_pos ⟨by omega, by have := s.isLt; omega⟩]
  exact congrArg v (congrArg (ix2 (i 0)) (Fin.ext (by simp only []; omega)))

end Cert.PoolGateRefIdeal.Hand
-- ==== Proof.PoolGate.Scale.lean ====
module

public import proofs.«01_k».proof.Proof.PoolGate.Blocks
public import Idealize.ShloMosaic.Lib.WritesUnit

/-! The gradient of the scale: what a grid point adds to the running sums of its columns, and the sums after the grid. -/

@[expose] public section

set_option maxRecDepth 16384

noncomputable section

namespace Cert.PoolGateIdeal.Hand

open Cert.PoolGateIdeal Cert.PoolGateIdeal.Gen Idealize.ShloMosaic Idealize.ShloMosaic.TcCoe Idealize.SL.Sem
open Idealize.ShloMosaic.Pipeline (Dat)
open Cert.Finite (sigm)

variable (m : (ℓ : Loc nD τ sig) → Buf (Elt Ideal) ℓ)

/-- A point's column block starts at 1024 times its second coordinate. -/
theorem off_at : ∀ t : Fin cfg0.N, k0_off1 (grid0.coords t) = ![0, t.val % 2 * 1024] := (by decide +kernel : ∀ t : Fin grid0.N, _)

/-- The running sums of a point's columns after its four blocks of rows. -/
def stored (c : Dev nD) (t : Fin cfg0.N) (acc : FVec Ideal S1x1024 .f32) : FVec Ideal S1x1024 .f32 :=
  k0_pay2
    (k0_pay32
      (k0_pay22
        (k0_pay13 (k0_pay4 acc)
          (k0_pay5 (View.ld (iblk m c 0 t) (Rect.unit ![0, 0] ![256, 1024] inb_S1024x1024_S256x1024_0_0)) (iblk m c 1 t))
          (k0_pay8 (View.ld (iblk m c 2 t) (Rect.unit ![0, 0] ![256, 1024] inb_S1024x1024_S256x1024_0_0)))
          (k0_pay9 (View.ld (iblk m c 3 t) (Rect.unit ![0, 0] ![256, 1024] inb_S1024x1024_S256x1024_0_0))))
        (k0_pay14 (View.ld (iblk m c 0 t) (Rect.unit ![256, 0] ![256, 1024] inb_S1024x1024_S256x1024_256_0)) (iblk m c 1 t))
        (k0_pay17 (View.ld (iblk m c 2 t) (Rect.unit ![256, 0] ![256, 1024] inb_S1024x1024_S256x1024_256_0)))
        (k0_pay18 (View.ld (iblk m c 3 t) (Rect.unit ![256, 0] ![256, 1024] inb_S1024x1024_S256x1024_256_0))))
      (k0_pay23 (View.ld (iblk m c 0 t) (Rect.unit ![512, 0] ![256, 1024] inb_S1024x1024_S256x1024_512_0)) (iblk m c 1 t))
      (k0_pay26 (View.ld (iblk m c 2 t) (Rect.unit ![512, 0] ![256, 1024] inb_S1024x1024_S256x1024_512_0)))
      (k0_pay27 (View.ld (iblk m c 3 t) (Rect.unit ![512, 0] ![256, 1024] inb_S1024x1024_S256x1024_512_0))))
    (k0_pay33 (View.ld (iblk m c 0 t) (Rect.unit ![768, 0] ![256, 1024] inb_S1024x1024_S256x1024_768_0)) (iblk m c 1 t))
    (k0_pay36 (View.ld (iblk m c 2 t) (Rect.unit ![768, 0] ![256, 1024] inb_S1024x1024_S256x1024_768_0)))
    (k0_pay37 (View.ld (iblk m c 3 t) (Rect.unit ![768, 0] ![256, 1024] inb_S1024x1024_S256x1024_768_0)))

/-- What one row adds to the gradient of the scale, over the launch's arguments. -/
def row (c : Dev nD) (r : Fin 4096) (s : Fin 2048) : EReal :=
  dS (m ((c : Thread nD τ).loc main_arg0)) (m ((c : Thread nD τ).loc main_arg1)) (m ((c : Thread nD τ).loc main_arg2)) (m ((c : Thread nD τ).loc main_arg3)) r s

theorem t_lt (t : Fin cfg0.N) : t.val < 8 := lt_of_lt_of_eq t.isLt (show cfg0.N = 8 from N_0)

/-- A point's block `q` of 256 rows. -/
def rows (c : Dev nD) (t : Fin cfg0.N) (q : Fin 4) (s : Fin 2048) : EReal :=
  ∑ x : Fin 256, row m c ⟨t.val / 2 * 1024 + (q.val * 256 + x.val), by have := t_lt t; omega⟩ s

theorem stored_at (c : Dev nD) (t : Fin cfg0.N) (acc : FVec Ideal S1x1024 .f32) (l : Fin 1024) (s : Fin 2048) (hs : s.val = t.val % 2 * 1024 + l.val) :
    stored m c t acc (ix2 0 l) = acc (ix2 0 l) + rows m c t 0 s + rows m c t 1 s + rows m c t 2 s + rows m c t 3 s := by
  have ht := t_lt t
  unfold stored
  open_payloads
  pointwise [rows, row, dS, dY, gate, sigm]
  blk_point [iblk, V, idx t]

/-- A store of a point's columns over what its buffer held, read back. -/
theorem over_read {sp : Space} (v : View sig .tc sp S1x2048 .f32) (f : v.ty.Contents (Elt Ideal)) (t : Fin cfg0.N) (w : S1x1024.Idx → EReal) (inb)
    (L : List (View.Piece (Elt Ideal) S1x2048 .f32)) (s : Fin 2048) :
    v.read (Elt Ideal) (v.writes (Elt Ideal) f ((⟨Rect.unit (k0_off1 (grid0.coords t)) ![1, 1024] inb, w⟩ : View.Piece (Elt Ideal) S1x2048 .f32) :: L)) (ix2 0 s)
      = if s.val / 1024 = t.val % 2 then w (ix2 0 ⟨s.val % 1024, Nat.mod_lt _ (by omega)⟩) else v.read (Elt Ideal) (v.writes (Elt Ideal) f L) (ix2 0 s) := by
  have hs := s.isLt
  split
  · exact View.read_writes_cons_unit_of_mem v f inb w L (ix2 0 s) (ix2 0 ⟨s.val % 1024, Nat.mod_lt _ (by omega)⟩) (off_at t) fun a => by
      match a with
      | ⟨0, _⟩ => show 0 = 0 + 0; omega
      | ⟨1, _⟩ => show s.val = t.val % 2 * 1024 + s.val % 1024; omega
  · exact View.read_writes_cons_unit_of_not_mem v f inb w L (ix2 0 s) (off_at t) 1 (by
      show s.val < t.val % 2 * 1024 ∨ t.val % 2 * 1024 + 1024 ≤ s.val
      omega)

theorem over_canon (t : Fin cfg0.N) (w : S1x1024.Idx → EReal) (inb) (L : List (View.Piece (Elt Ideal) S1x2048 .f32)) (s : Fin 2048) :
    View.canon ((⟨Rect.unit (k0_off1 (grid0.coords t)) ![1, 1024] inb, w⟩ : View.Piece (Elt Ideal) S1x2048 .f32) :: L) (ix2 0 s)
      = if s.val / 1024 = t.val % 2 then w (ix2 0 ⟨s.val % 1024, Nat.mod_lt _ (by omega)⟩) else View.canon L (ix2 0 s) := by
  have hs := s.isLt
  have off0 : k0_off1 (grid0.coords t) 0 = 0 := congrFun (off_at t) 0
  have off1 : k0_off1 (grid0.coords t) 1 = t.val % 2 * 1024 := congrFun (off_at t) 1
  split
  · rename_i h
    have e : (ix2 0 s : S1x2048.Idx) = (Rect.unit (k0_off1 (grid0.coords t)) ![1, 1024] inb).emb (ix2 0 ⟨s.val % 1024, Nat.mod_lt _ (by omega)⟩) := funext fun a => Fin.ext (by
      match a with
      | ⟨0, _⟩ => show 0 = k0_off1 (grid0.coords t) 0 + 1 * 0; omega
      | ⟨1, _⟩ => show s.val = k0_off1 (grid0.coords t) 1 + 1 * (s.val % 1024); omega)
    exact (congrArg _ e).trans (View.canon_cons_emb _ _ _ _)
  · rename_i h
    refine View.canon_cons_of_not_mem _ _ ?_
    rw [Rect.mem_set_unit]
    intro hall
    have := hall 1
    rw [off1] at this
    have h1 : t.val % 2 * 1024 ≤ s.val ∧ s.val < t.val % 2 * 1024 + 1024 := this
    omega

/-- What a point adds to the sum of a column: its four blocks of rows, in its own columns. -/
def adds (c : Dev nD) (t : Fin cfg0.N) (s : Fin 2048) : EReal :=
  if s.val / 1024 = t.val % 2 then rows m c t 0 s + rows m c t 1 s + rows m c t 2 s + rows m c t 3 s else 0

/-- Loading a point's columns. -/
theorem ld_at (u : S1x2048.Idx → EReal) (t : Fin cfg0.N) (inb) (s : Fin 2048) (h : s.val / 1024 = t.val % 2) :
    View.ld (Val := Elt Ideal) (S := S1x2048) (e' := .f32) u (Rect.unit (k0_off1 (grid0.coords t)) ![1, 1024] inb) (ix2 0 ⟨s.val % 1024, Nat.mod_lt _ (by omega)⟩) = u (ix2 0 s) := by
  have hs := s.isLt
  have off0 : k0_off1 (grid0.coords t) 0 = 0 := congrFun (off_at t) 0
  have off1 : k0_off1 (grid0.coords t) 1 = t.val % 2 * 1024 := congrFun (off_at t) 1
  refine (View.ld_apply _ _ _).trans (congrArg u (funext fun a => Fin.ext ?_))
  match a with
  | ⟨0, _⟩ => show k0_off1 (grid0.coords t) 0 + 1 * 0 = 0; omega
  | ⟨1, _⟩ => show k0_off1 (grid0.coords t) 1 + 1 * (s.val % 1024) = s.val; omega

theorem added (c : Dev nD) (t : Fin cfg0.N) (u : S1x2048.Idx → EReal) (inb) (s : Fin 2048) :
    (if s.val / 1024 = t.val % 2 then stored m c t (View.ld (Val := Elt Ideal) (S := S1x2048) (e' := .f32) u (Rect.unit (k0_off1 (grid0.coords t)) ![1, 1024] inb))
        (ix2 0 ⟨s.val % 1024, Nat.mod_lt _ (by omega)⟩) else u (ix2 0 s)) = u (ix2 0 s) + adds m c t s := by
  have hs := s.isLt
  rw [adds]
  split
  · rename_i h
    rw [stored_at m c t _ _ s (by show s.val = t.val % 2 * 1024 + s.val % 1024; omega), ld_at u t inb s h, add_assoc, add_assoc, add_assoc, ← add_assoc, ← add_assoc]
    simp only [add_assoc]
  · rw [add_zero]

theorem reset7 (c : Dev nD) (t : Fin cfg0.N) (h : t.val % 8 = 0) (s : Fin 2048) : (outsAt0 m c t.val t.isLt).2.2 (ix2 0 s) = 0 + adds m c t s := by
  rw [outsAt0_A m c t h]
  frame_out
  rw [over_canon]
  have z : ∀ s : Fin 2048, (k0_pay3 (F := Ideal)) (ix2 0 s) = 0 := fun s => by pointwise [k0_pay3]
  refine Eq.trans ?_ ((added m c t (k0_pay3 (F := Ideal)) (k0_off1_inb (grid0.coords t)) s).trans (congrArg (· + adds m c t s) (z s)))
  rw [View.canon_cons_unit_lit _ _ _ (by decide)]
  rfl

theorem step7 (c : Dev nD) (t : Fin cfg0.N) (h : ¬ t.val % 8 = 0) (s : Fin 2048) : (outsAt0 m c t.val t.isLt).2.2 (ix2 0 s)
    = (outsAt0 m c (t.val - 1) (Nat.lt_of_le_of_lt (Nat.sub_le _ _) t.isLt)).2.2 (ix2 0 s) + adds m c t s := by
  rw [outsAt0_B m c t h]
  frame_out
  rw [over_read]
  refine Eq.trans ?_ (added m c t _ (k0_off1_inb (grid0.coords t)) s)
  rw [View.writes_nil, Memref.IsWhole.read_unread]
  rfl

/-- Two hundred and fifty-six rows of a column, from a multiple of 256 on. -/
def chunk (c : Dev nD) (s : Fin 2048) (a : Fin 16) : EReal := ∑ x : Fin 256, row m c ⟨a.val * 256 + x.val, by omega⟩ s

theorem rows_chunk (c : Dev nD) (t : Fin cfg0.N) (q : Fin 4) (s : Fin 2048) (a : Fin 16) (h : a.val = t.val / 2 * 4 + q.val) : rows m c t q s = chunk m c s a := by
  refine Finset.sum_congr rfl fun x _ => congrArg (fun r => row m c r s) (Fin.ext ?_)
  show t.val / 2 * 1024 + (q.val * 256 + x.val) = a.val * 256 + x.val
  omega

/-- The eight points of the grid together add every row once. -/
theorem adds_all (c : Dev nD) (s : Fin 2048) : ∑ p : Fin cfg0.N, adds m c p s = ∑ r : Fin 4096, row m c r s := by
  have hs := s.isLt
  have e : ∑ r : Fin 4096, row m c r s = ∑ a : Fin 16, chunk m c s a := by
    unfold chunk
    exact (Fin.sum_mul_add_fin 16 256 (fun r : Fin 4096 => row m c r s)).symm
  rw [e, ← (finCongr (N_0 : cfg0.N = 8)).symm.sum_comp, Fin.sum_univ_eight]
  have point : ∀ (j : Fin 8), adds m c ((finCongr (N_0 : cfg0.N = 8)).symm j) s
      = if s.val / 1024 = j.val % 2 then chunk m c s ⟨j.val / 2 * 4 + 0, by omega⟩ + chunk m c s ⟨j.val / 2 * 4 + 1, by omega⟩
          + chunk m c s ⟨j.val / 2 * 4 + 2, by omega⟩ + chunk m c s ⟨j.val / 2 * 4 + 3, by omega⟩ else 0 := fun j => by
    have hv : ((finCongr (N_0 : cfg0.N = 8)).symm j).val = j.val := rfl
    unfold adds
    rw [rows_chunk m c ((finCongr (N_0 : cfg0.N = 8)).symm j) 0 s ⟨j.val / 2 * 4 + 0, by omega⟩ rfl, rows_chunk m c ((finCongr (N_0 : cfg0.N = 8)).symm j) 1 s ⟨j.val / 2 * 4 + 1, by omega⟩ rfl,
      rows_chunk m c ((finCongr (N_0 : cfg0.N = 8)).symm j) 2 s ⟨j.val / 2 * 4 + 2, by omega⟩ rfl, rows_chunk m c ((finCongr (N_0 : cfg0.N = 8)).symm j) 3 s ⟨j.val / 2 * 4 + 3, by omega⟩ rfl]
    rfl
  simp only [point]
  have h01 : s.val / 1024 = 0 ∨ s.val / 1024 = 1 := by omega
  simp only [Fin.sum_univ_succ, Fin.sum_univ_zero]
  rcases h01 with h | h <;> (rw [h]; simp [add_assoc])

/-- The third result after the grid: every column's sum over all rows. -/
theorem final7 (c : Dev nD) : (dats m 0 c).arrAt 7 (cfgs 0).N = fun i => ∑ r : Fin 4096, row m c r (i 1) := by
  refine (dats m 0 c).arrAt_eq_of_after_last 7 t0_7 (by decide +kernel) _ fun j => ?_
  rw [after0_7]
  have e : (fun a => ⟨j a, by exact (j a).isLt⟩ : S1x2048.Idx) = ix2 0 (j 1) := funext fun a => by
    match a with
    | ⟨0, _⟩ => exact Fin.ext (by have : (j 0 : ℕ) < 1 := (j 0).isLt
                                  show (j 0 : ℕ) = 0
                                  omega)
    | ⟨1, _⟩ => rfl
  refine Eq.trans (congrArg (outsAt0 m c t0_7.val t0_7.isLt).2.2 e) ?_
  refine (Pipeline.eq_sum_fin_of_reset_step_apply_last (fun n h s => (outsAt0 m c n h).2.2 (ix2 0 s)) 8 (fun _ => 0) (adds m c)
    (reset7 m c) (step7 m c) (le_of_eq N_0) t0_7 rfl (j 1)).trans ?_
  exact (zero_add _).trans (adds_all m c (j 1))

end Cert.PoolGateIdeal.Hand
-- ==== Proof.PoolGate.Claim.lean ====
module

public import proofs.«01_k».proof.Defs
public import proofs.«01_k».proof.Proof.Gen.PoolGate
public import proofs.«01_k».proof.Proof.Gen.Pre_pgate_finite
public import proofs.«01_k».proof.Proof.Gen.On_pgate_written
public import proofs.«01_k».proof.Proof.PoolGate.Ref
public import proofs.«01_k».proof.Proof.PoolGate.Scale
public import Idealize.ShloMosaic.Lib.Claim

/-! The pooling layer's gate: the precondition and the written columns read, the equation of the two programs, the frames. -/

@[expose] public section

set_option maxRecDepth 16384

noncomputable section

namespace Cert.PoolGateIdeal.Hand

open Idealize.ShloMosaic Idealize.ShloMosaic.TcCoe
open Cert.Finite

/-- What the precondition says: all five arguments are arrays of real numbers. -/
theorem real_of_pre [Cert.Pre_pgate_finite.Facts] (x0 : FVec Ideal S4096x1024 .bf16) (x1 : FVec Ideal S2048x1024 .f32) (x2 : FVec Ideal S4096x4096 .bf16) (x3 : FVec Ideal S4096x2048 .bf16) (x4 : FVec Ideal S1x2048 .f32)
    (h : Cert.Pre_pgate_finite.fn (F := Ideal) x0 x1 x2 x3 x4 = fun _ => 1#1) :
    AllReal x0 ∧ AllReal x1 ∧ AllReal x2 ∧ AllReal x3 ∧ AllReal x4 := by
  have h' := congrFun h (Shape.Idx.first (by decide))
  unfold Cert.Pre_pgate_finite.fn Cert.Pre_pgate_finite.fn_part1 at h'
  obtain ⟨h', h4⟩ := andi_eq_one h'
  obtain ⟨h', h3⟩ := andi_eq_one h'
  obtain ⟨h', h2⟩ := andi_eq_one h'
  obtain ⟨h0, h1⟩ := andi_eq_one h'
  exact ⟨fun i => real_of_olt _ (all_of_reduce _ _ _ _ _ rfl h0 i), fun i => real_of_olt _ (all_of_reduce _ _ _ _ _ rfl h1 i),
    fun i => real_of_olt _ (all_of_reduce _ _ _ _ _ rfl h2 i), fun i => real_of_olt _ (all_of_reduce _ _ _ _ _ rfl h3 i),
    fun i => real_of_olt _ (all_of_reduce _ _ _ _ _ rfl h4 i)⟩

/-- A column the kernel writes is one of the gate's: the columns from 2048 on. -/
theorem column_of_written (n : ℕ) (hn : n < 4096) (h : IntOp.cmpi .sge (BitVec.ofNat 32 n) 2048#32 = 1#1) : 2048 ≤ n := by
  by_contra hlt
  have h1 : (BitVec.ofNat 32 n).toInt = n := by
    rw [BitVec.toInt_eq_toNat_of_lt] <;> simp only [BitVec.toNat_ofNat] <;> omega
  have h2 : (2048#32).sle (BitVec.ofNat 32 n) = false := by
    rw [BitVec.sle_eq_decide, h1]
    exact decide_eq_false (by have : (2048#32 : BitVec 32).toInt = 2048 := by decide
                              omega)
  simp [IntOp.cmpi, h2] at h

/-- The kernel's three results are the reference's: everywhere the gradients of the pooled columns and of the scale, and in
    the gate's columns the gradient of the projection. -/
theorem algebraic : Cert.algebraic_PoolGateIdeal_PoolGateRefIdeal_on_pgate_written_pre_pgate_finite
    (hPoolGateIdeal := Cert.PoolGateIdeal.Gen.facts) (hPoolGateRefIdeal := Cert.PoolGateRefIdeal.Gen.facts)
    (hPre_pgate_finite := Cert.Pre_pgate_finite.Gen.facts) (hOn_pgate_written := Cert.On_pgate_written.Gen.facts) := by
  letI := Cert.Pre_pgate_finite.Gen.facts
  intro m g m' g' hpre hagree
  refine ⟨_, _, _, ?_, θ_run_mono (Cert.PoolGateRefIdeal.Value.run m' g') fun r h c =>
    ⟨fun i _ => congrFun (h c).1 i, fun i _ => congrFun (h c).2.1 i, fun i _ => congrFun (h c).2.2.1 i, (h c).2.2.2⟩⟩
  refine θ_run_mono (Cert.PoolGateIdeal.Value.run_blocks m g) fun r h c => ?_
  obtain ⟨e0, e1, e2, kept⟩ := h c
  obtain ⟨a0, a1, a2, a3, a4⟩ := hagree c
  obtain ⟨p0, p1, p2, p3, p4⟩ := real_of_pre _ _ _ _ _ (hpre c)
  refine ⟨fun i _ => ?_, fun i hi => ?_, fun i _ => ?_, kept⟩
  · rw [e0, final5, a0, a1, a2, a4]
    exact (Cert.PoolGateRefIdeal.Hand.ref0 _ _ _ _ i).symm
  · have hn : (i 1 : ℕ) < 4096 := (i 1).isLt
    have hi := column_of_written (i 1) hn hi
    rw [e1, final6 m c i ⟨(i 1 : ℕ) - 2048, by omega⟩ (by simp only []; omega), a0, a1, a2, a3, a4]
    exact (Cert.PoolGateRefIdeal.Hand.ref1 _ _ _ _ _ p0 p1 p2 p3 p4 i _ (by simp only []; omega)).symm
  · rw [e2, final7]
    unfold row
    rw [a0, a1, a2, a3]
    exact (Cert.PoolGateRefIdeal.Hand.ref2 _ _ _ _ i).symm

/-- The program as compiled and its ideal reading have one body table: their texts agree. -/
theorem defs_eq : Cert.PoolGate.defs (F := Bits) = Cert.PoolGateIdeal.defs (F := Bits) := by sl_kernel_rfl

/-- The frame of the program as compiled is the ideal program's run, at the bit patterns. -/
theorem frame_kernel : Cert.quiescent_PoolGate (hPoolGate := Cert.PoolGate.Gen.facts) := fun m ρ _ => by
  have h := Cert.PoolGateIdeal.Gen.frame (F := Bits) m ρ
  rw [← defs_eq] at h
  exact h

/-- The reference's frame: host operations only, none of which writes an argument, and no semaphore. -/
theorem frame_reference : Cert.quiescent_PoolGateRefIdeal (hPoolGateRefIdeal := Cert.PoolGateRefIdeal.Gen.facts) := fun m ρ _ =>
  θ_run_mono (Cert.PoolGateRefIdeal.Value.run m ρ) fun r h => ⟨fun c => (h c).2.2.2, sem_eq_zero_of_no_sems (by decide) r.2⟩

end Cert.PoolGateIdeal.Hand
-- ==== Proof.LossHead.Blocks.lean ====
module

public import proofs.«01_k».proof.Proof.Gen.LossHeadIdeal.Value
public import Idealize.ShloMosaic.Lib.Pipeline.ValueKit
public import Idealize.ShloMosaic.Lib.Pointwise
public import proofs.«01_k».proof.Proof.Finite

/-! What the loss kernel stores at each grid point, and what its arrays of gradients by rows hold after the grid. -/

@[expose] public section

set_option maxRecDepth 16384

noncomputable section

namespace Cert.LossHeadIdeal.Hand

open Cert.LossHeadIdeal Cert.LossHeadIdeal.Gen Idealize.ShloMosaic Idealize.ShloMosaic.TcCoe Idealize.SL.Sem
open Idealize.ShloMosaic.Pipeline (Dat)

variable (m : (ℓ : Loc nD τ sig) → Buf (Elt Ideal) ℓ)

/-- The layer's output: the residual plus the projection. -/
def X (y : FVec Ideal S4096x2048 .bf16) (w : FVec Ideal S2048x1024 .f32) (h : FVec Ideal S4096x1024 .f32) (r : Fin 4096) (s : Fin 1024) : EReal :=
  h (ix2 r s) + ∑ k : Fin 2048, y (ix2 r k) * w (ix2 k s)

/-- The reciprocal root mean square of a row, and the row scaled by it. -/
def N (y : FVec Ideal S4096x2048 .bf16) (w : FVec Ideal S2048x1024 .f32) (h : FVec Ideal S4096x1024 .f32) (r : Fin 4096) : EReal :=
  Ideal.rsqrt (Ideal.div (∑ s : Fin 1024, X y w h r s * X y w h r s) (Ideal.ofBits .f32 0x44800000#32) + Ideal.ofBits .f32 0x358637BD#32)
def Xh (y : FVec Ideal S4096x2048 .bf16) (w : FVec Ideal S2048x1024 .f32) (h : FVec Ideal S4096x1024 .f32) (r : Fin 4096) (s : Fin 1024) : EReal :=
  X y w h r s * N y w h r

/-- The error against the target, and its mean square over a row. -/
def E (y : FVec Ideal S4096x2048 .bf16) (w : FVec Ideal S2048x1024 .f32) (h : FVec Ideal S4096x1024 .f32) (g : FVec Ideal S1x1024 .f32) (u : FVec Ideal S4096x1024 .f32)
    (r : Fin 4096) (s : Fin 1024) : EReal :=
  Xh y w h r s * g (ix2 0 s) - u (ix2 r s)
def PT (y : FVec Ideal S4096x2048 .bf16) (w : FVec Ideal S2048x1024 .f32) (h : FVec Ideal S4096x1024 .f32) (g : FVec Ideal S1x1024 .f32) (u : FVec Ideal S4096x1024 .f32)
    (r : Fin 4096) : EReal :=
  Ideal.div (∑ s : Fin 1024, E y w h g u r s * E y w h g u r s) (Ideal.ofBits .f32 0x44800000#32)

/-- The gradient for the norm's output. -/
def DY (y : FVec Ideal S4096x2048 .bf16) (w : FVec Ideal S2048x1024 .f32) (h : FVec Ideal S4096x1024 .f32) (g : FVec Ideal S1x1024 .f32) (u : FVec Ideal S4096x1024 .f32)
    (r : Fin 4096) (s : Fin 1024) : EReal :=
  E y w h g u r s * Ideal.ofBits .f32 0x3A800000#32

/-- The gradient for the layer's output. -/
def dH (y : FVec Ideal S4096x2048 .bf16) (w : FVec Ideal S2048x1024 .f32) (h : FVec Ideal S4096x1024 .f32) (g : FVec Ideal S1x1024 .f32) (u : FVec Ideal S4096x1024 .f32)
    (r : Fin 4096) (s : Fin 1024) : EReal :=
  N y w h r * (DY y w h g u r s * g (ix2 0 s)
    - Xh y w h r s * Ideal.div (∑ k : Fin 1024, DY y w h g u r k * g (ix2 0 k) * Xh y w h r k) (Ideal.ofBits .f32 0x44800000#32))

/-- Which block each window takes at each grid point. -/
theorem idx : ∀ t : Fin cfg0.N, win0_0.index t = ![t.val, 0] ∧ win0_1.index t = ![0, 0] ∧ win0_2.index t = ![t.val, 0]
   ∧ win0_3.index t = ![0, 0] ∧ win0_4.index t = ![t.val, 0] ∧ win0_5.index t = ![t.val, 0]
   ∧ win0_6.index t = ![0, 0] ∧ win0_7.index t = ![0, 0] ∧ win0_8.index t = ![t.val, 0] :=
  (by decide +kernel : ∀ t : Fin grid0.N, _)

/-- The block of the layer's gradient at one grid point. -/
theorem point5 (c : Dev nD) (t : Fin cfg0.N) (y : S512x1024.Idx) (r : Fin 4096) (s : Fin 1024)
    (hr : r.val = t.val * 512 + y 0) (hs : s.val = y 1) :
    (outsAt0 m c t.val t.isLt).1 y
      = dH (m ((c : Thread nD τ).loc main_arg0)) (m ((c : Thread nD τ).loc main_arg1)) (m ((c : Thread nD τ).loc main_arg2)) (m ((c : Thread nD τ).loc main_arg3)) (m ((c : Thread nD τ).loc main_arg4)) r s := by
  by_cases h : t.val % 8 = 0
  · rw [outsAt0_A m c t h]
    frame_out
    canon_tiles x h'
    all_goals (open_payloads; pointwise [dH, DY, E, Xh, N, X]; blk_point [iblk, V, idx t])
  · rw [outsAt0_B m c t h]
    frame_out
    canon_tiles x h'
    all_goals (open_payloads; pointwise [dH, DY, E, Xh, N, X]; blk_point [iblk, V, idx t])

/-- Its copy at the shorter type. -/
theorem point8 (c : Dev nD) (t : Fin cfg0.N) (y : S512x1024.Idx) (r : Fin 4096) (s : Fin 1024)
    (hr : r.val = t.val * 512 + y 0) (hs : s.val = y 1) :
    (outsAt0 m c t.val t.isLt).2.2.2 y
      = dH (m ((c : Thread nD τ).loc main_arg0)) (m ((c : Thread nD τ).loc main_arg1)) (m ((c : Thread nD τ).loc main_arg2)) (m ((c : Thread nD τ).loc main_arg3)) (m ((c : Thread nD τ).loc main_arg4)) r s := by
  by_cases h : t.val % 8 = 0
  · rw [outsAt0_A m c t h]
    frame_out
    canon_tiles x h'
    all_goals (open_payloads; pointwise [dH, DY, E, Xh, N, X]; blk_point [iblk, V, idx t])
  · rw [outsAt0_B m c t h]
    frame_out
    canon_tiles x h'
    all_goals (open_payloads; pointwise [dH, DY, E, Xh, N, X]; blk_point [iblk, V, idx t])

theorem final5 (c : Dev nD) : (dats m 0 c).arrAt 5 (cfgs 0).N
    = fun i => dH (m ((c : Thread nD τ).loc main_arg0)) (m ((c : Thread nD τ).loc main_arg1)) (m ((c : Thread nD τ).loc main_arg2)) (m ((c : Thread nD τ).loc main_arg3)) (m ((c : Thread nD τ).loc main_arg4)) (i 0) (i 1) := by
  refine (dats m 0 c).arrAt_eq_of_covers 5 _ (by decide +kernel) fun t _ y => ?_
  blk_simp
  rw [after0_5]
  refine point5 m c t _ _ _ ?_ ?_ <;> (blk_simp [idx t]; try omega)

theorem final8 (c : Dev nD) : (dats m 0 c).arrAt 8 (cfgs 0).N
    = fun i => dH (m ((c : Thread nD τ).loc main_arg0)) (m ((c : Thread nD τ).loc main_arg1)) (m ((c : Thread nD τ).loc main_arg2)) (m ((c : Thread nD τ).loc main_arg3)) (m ((c : Thread nD τ).loc main_arg4)) (i 0) (i 1) := by
  refine (dats m 0 c).arrAt_eq_of_covers 8 _ (by decide +kernel) fun t _ y => ?_
  blk_simp
  rw [after0_8]
  refine point8 m c t _ _ _ ?_ ?_ <;> (blk_simp [idx t]; try omega)

end Cert.LossHeadIdeal.Hand
-- ==== Proof.Norm.lean ====
module

public import proofs.«01_k».proof.Proof.Finite

/-! The root-mean-square norm over reals: its reciprocal root, and its gradient as the kernels and as the references write it. -/

@[expose] public section

noncomputable section

namespace Cert.Norm

open Idealize.ShloMosaic
open Cert.Finite

/-- The numbers the programs write: the row length, the norm's small addend, one over the row length, minus a half, a half, two. -/
theorem lit_1024 : Ideal.ofBits .f32 0x44800000#32 = ((1024 : ℝ) : EReal) := by
  simp [Ideal.ofBits, Ideal.ieee, -EReal.coe_mul]; norm_num
def eps : ℝ := 8796093 * 2 ^ (-43 : ℤ)
theorem lit_eps : Ideal.ofBits .f32 0x358637BD#32 = ((eps : ℝ) : EReal) := by
  simp [Ideal.ofBits, Ideal.ieee, -EReal.coe_mul, eps]; try norm_num
theorem lit_inv : Ideal.ofBits .f32 0x3A800000#32 = ((1 / 1024 : ℝ) : EReal) := by
  simp [Ideal.ofBits, Ideal.ieee, -EReal.coe_mul]; norm_num
theorem lit_half : Ideal.ofBits .f32 0x3F000000#32 = ((1 / 2 : ℝ) : EReal) := by
  simp [Ideal.ofBits, Ideal.ieee, -EReal.coe_mul]; norm_num
theorem lit_neg_half : Ideal.ofBits .f32 0xBF000000#32 = ((-1 / 2 : ℝ) : EReal) := by
  simp [Ideal.ofBits, Ideal.ieee, -EReal.coe_mul]; norm_num
theorem lit_two : Ideal.ofBits .f32 0x40000000#32 = ((2 : ℝ) : EReal) := by
  simp [Ideal.ofBits, Ideal.ieee, -EReal.coe_mul]; norm_num

theorem eps_pos : 0 < eps := by unfold eps; positivity

/-- The mean square of a row plus the small addend. -/
def ms (x : Fin 1024 → ℝ) : ℝ := (∑ s : Fin 1024, x s * x s) / 1024 + eps

theorem ms_pos (x : Fin 1024 → ℝ) : 0 < ms x :=
  add_pos_of_nonneg_of_pos (div_nonneg (Finset.sum_nonneg fun s _ => mul_self_nonneg _) (by norm_num)) eps_pos

theorem rsqrt_pos (v : ℝ) (h : 0 < v) : Ideal.rsqrt (v : EReal) = (((Real.sqrt v)⁻¹ : ℝ) : EReal) := by
  rw [Ideal.rsqrt_coe, if_neg (by linarith), if_neg (by linarith)]

/-- The mean square and its reciprocal root, from extended reals to reals. -/
theorem ms_coe (x : Fin 1024 → ℝ) :
    Ideal.div (∑ s : Fin 1024, (x s : EReal) * (x s : EReal)) ((1024 : ℝ) : EReal) + ((eps : ℝ) : EReal) = ((ms x : ℝ) : EReal) := by
  simp only [← EReal.coe_mul]
  rw [← coe_sum, div_coe _ _ (by norm_num), ← EReal.coe_add, ms]
def nrm (x : Fin 1024 → ℝ) : ℝ := (Real.sqrt (ms x))⁻¹
theorem nrm_coe (x : Fin 1024 → ℝ) : Ideal.rsqrt ((ms x : ℝ) : EReal) = ((nrm x : ℝ) : EReal) := rsqrt_pos _ (ms_pos x)

/-- The gradient through the norm: as the kernels factor it, and as its parts are added by the chain rule. -/
theorem back (x d : Fin 1024 → ℝ) (k : Fin 1024) :
    nrm x * (d k - x k * nrm x * ((∑ j : Fin 1024, d j * (x j * nrm x)) / 1024))
      = d k * nrm x + x k * ((∑ j : Fin 1024, x j * d j) * (-1 / 2 * (nrm x / ms x)) / 1024)
        + (∑ j : Fin 1024, x j * d j) * (-1 / 2 * (nrm x / ms x)) / 1024 * x k := by
  have hv := ms_pos x
  have hs : (∑ j : Fin 1024, d j * (x j * nrm x)) = (∑ j : Fin 1024, x j * d j) * nrm x := by
    rw [Finset.sum_mul]; exact Finset.sum_congr rfl fun j _ => by ring
  have hn : nrm x / ms x = nrm x * nrm x * nrm x := by
    have h2 : nrm x * nrm x = (ms x)⁻¹ := by
      unfold nrm; rw [← mul_inv, Real.mul_self_sqrt hv.le]
    rw [h2]; rw [div_eq_mul_inv]; ring
  rw [hs, hn]
  ring

end Cert.Norm
-- ==== Proof.LossHead.Ref.lean ====
module

public import proofs.«01_k».proof.Proof.Gen.LossHeadRefIdeal.Read
public import proofs.«01_k».proof.Proof.LossHead.Blocks
public import proofs.«01_k».proof.Proof.Norm

/-! The loss and its gradients over real arguments: what the kernel's terms and the reference's arrays are. -/

@[expose] public section

set_option maxRecDepth 16384

noncomputable section

namespace Cert.LossHeadRefIdeal.Hand

open Cert.LossHeadRefIdeal Cert.LossHeadRefIdeal.Gen Cert.LossHeadRefIdeal.Read Idealize.ShloMosaic
open Cert.Finite Cert.Norm
open Cert.LossHeadIdeal.Hand (X N Xh E PT DY dH)

/-- An array of reals as an array of extended reals. -/
abbrev C {ι : Type} (f : ι → ℝ) : ι → EReal := fun i => (f i : EReal)

variable (f0 : S4096x2048.Idx → ℝ) (f1 : S2048x1024.Idx → ℝ) (f2 : S4096x1024.Idx → ℝ) (f3 : S1x1024.Idx → ℝ) (f4 : S4096x1024.Idx → ℝ)

/-- The layer's output, the scaled row, the error, the gradient for the norm's output, over reals. -/
def xr (r : Fin 4096) (s : Fin 1024) : ℝ := f2 (ix2 r s) + ∑ k : Fin 2048, f0 (ix2 r k) * f1 (ix2 k s)
def er (r : Fin 4096) (s : Fin 1024) : ℝ := xr f0 f1 f2 r s * nrm (xr f0 f1 f2 r) * f3 (ix2 0 s) - f4 (ix2 r s)
def dr (r : Fin 4096) (s : Fin 1024) : ℝ := er f0 f1 f2 f3 f4 r s * (1 / 1024)
def pr (r : Fin 4096) : ℝ := (∑ s : Fin 1024, er f0 f1 f2 f3 f4 r s * er f0 f1 f2 f3 f4 r s) / 1024

/-! The kernel's terms. -/

theorem X_coe (r : Fin 4096) (s : Fin 1024) : X (C f0) (C f1) (C f2) r s = ((xr f0 f1 f2 r s : ℝ) : EReal) := by
  simp only [X, xr, EReal.coe_add, coe_sum, EReal.coe_mul]

theorem N_coe (r : Fin 4096) : N (C f0) (C f1) (C f2) r = ((nrm (xr f0 f1 f2 r) : ℝ) : EReal) := by
  simp only [N, X_coe, lit_1024, lit_eps, ms_coe, nrm_coe]

theorem Xh_coe (r : Fin 4096) (s : Fin 1024) : Xh (C f0) (C f1) (C f2) r s = ((xr f0 f1 f2 r s * nrm (xr f0 f1 f2 r) : ℝ) : EReal) := by
  simp only [Xh, X_coe, N_coe, EReal.coe_mul]

theorem E_coe (r : Fin 4096) (s : Fin 1024) : E (C f0) (C f1) (C f2) (C f3) (C f4) r s = ((er f0 f1 f2 f3 f4 r s : ℝ) : EReal) := by
  simp only [E, Xh_coe, er, EReal.coe_sub, EReal.coe_mul]

theorem DY_coe (r : Fin 4096) (s : Fin 1024) : DY (C f0) (C f1) (C f2) (C f3) (C f4) r s = ((dr f0 f1 f2 f3 f4 r s : ℝ) : EReal) := by
  simp only [DY, E_coe, lit_inv, dr, EReal.coe_mul]

theorem PT_coe (r : Fin 4096) : PT (C f0) (C f1) (C f2) (C f3) (C f4) r = ((pr f0 f1 f2 f3 f4 r : ℝ) : EReal) := by
  simp only [PT, E_coe, lit_1024, ← EReal.coe_mul]
  rw [← coe_sum, div_coe _ _ (by norm_num), pr]

/-- The gradient for the layer's output, through the norm. -/
def hr (r : Fin 4096) (s : Fin 1024) : ℝ :=
  nrm (xr f0 f1 f2 r) * (dr f0 f1 f2 f3 f4 r s * f3 (ix2 0 s) - xr f0 f1 f2 r s * nrm (xr f0 f1 f2 r)
    * ((∑ k : Fin 1024, dr f0 f1 f2 f3 f4 r k * f3 (ix2 0 k) * (xr f0 f1 f2 r k * nrm (xr f0 f1 f2 r))) / 1024))

theorem dH_coe (r : Fin 4096) (s : Fin 1024) : dH (C f0) (C f1) (C f2) (C f3) (C f4) r s = ((hr f0 f1 f2 f3 f4 r s : ℝ) : EReal) := by
  simp only [dH, DY_coe, Xh_coe, N_coe, lit_1024, ← EReal.coe_mul]
  rw [← coe_sum, div_coe _ _ (by norm_num)]
  simp only [← EReal.coe_mul, ← EReal.coe_sub, hr]

/-! The reference's arrays. -/

theorem v2_at (r : Fin 4096) (s : Fin 1024) : val_main_v2 (F := Ideal) (C f0) (C f1) (C f2) (ix2 r s) = ((xr f0 f1 f2 r s : ℝ) : EReal) := by
  pointwise [val_main_v2, val_main_v1, val_main_v0, xr, EReal.coe_add, coe_sum, EReal.coe_mul]

theorem v9_at (r : Fin 4096) : val_main_v9 (F := Ideal) (C f0) (C f1) (C f2) (ix2 r 0) = ((ms (xr f0 f1 f2 r) : ℝ) : EReal) := by
  pointwise [val_main_v9, val_main_v8, val_main_cst_1, val_main_v7, val_main_v6, val_main_cst_0, val_main_v5, val_main_v4, val_main_cst, val_main_v3]
  simp only [v2_at, lit_1024, lit_eps, ms_coe]

theorem v10_at (r : Fin 4096) : val_main_v10 (F := Ideal) (C f0) (C f1) (C f2) (ix2 r 0) = ((nrm (xr f0 f1 f2 r) : ℝ) : EReal) := by
  pointwise [val_main_v10]
  simp only [v9_at, nrm_coe]

theorem v13_at (r : Fin 4096) : val_main_v13 (F := Ideal) (C f0) (C f1) (C f2) (ix2 r 0)
    = ((-1 / 2 * (nrm (xr f0 f1 f2 r) / ms (xr f0 f1 f2 r)) : ℝ) : EReal) := by
  pointwise [val_main_v13, val_main_v12, val_main_cst_2, val_main_v11]
  rw [v9_at, v10_at, lit_neg_half, div_coe _ _ (ms_pos _).ne', ← EReal.coe_mul]

theorem v15_at (r : Fin 4096) (s : Fin 1024) : val_main_v15 (F := Ideal) (C f0) (C f1) (C f2) (ix2 r s) = ((xr f0 f1 f2 r s * nrm (xr f0 f1 f2 r) : ℝ) : EReal) := by
  pointwise [val_main_v15, val_main_v14]
  simp only [v2_at, v10_at, EReal.coe_mul]

theorem v18_at (r : Fin 4096) (s : Fin 1024) : val_main_v18 (F := Ideal) (C f0) (C f1) (C f2) (C f3) (C f4) (ix2 r s) = ((er f0 f1 f2 f3 f4 r s : ℝ) : EReal) := by
  pointwise [val_main_v18, val_main_v17, val_main_v16]
  simp only [v15_at, er, EReal.coe_sub, EReal.coe_mul]

theorem v32_at (r : Fin 4096) (s : Fin 1024) : val_main_v32 (F := Ideal) (C f0) (C f1) (C f2) (C f3) (C f4) (ix2 r s) = ((dr f0 f1 f2 f3 f4 r s : ℝ) : EReal) := by
  pointwise [val_main_v32, val_main_v31, val_main_v30, val_main_v29, val_main_cst_10, val_main_v28, val_main_v27, val_main_cst_8, val_main_cst_9,
    val_main_v21, val_main_v20, val_main_cst_3]
  simp only [v18_at, lit_1024, lit_half, lit_two]
  rw [div_coe _ _ (by norm_num), ← EReal.coe_mul, ← EReal.coe_mul, dr]
  congr 1
  ring

theorem v37_at (r : Fin 4096) (s : Fin 1024) : val_main_v37 (F := Ideal) (C f0) (C f1) (C f2) (C f3) (C f4) (ix2 r s) = ((dr f0 f1 f2 f3 f4 r s * f3 (ix2 0 s) : ℝ) : EReal) := by
  pointwise [val_main_v37, val_main_v36]
  simp only [v32_at, EReal.coe_mul]

/-- The row's sum that the reciprocal root passes back. -/
def sr (r : Fin 4096) : ℝ :=
  (∑ j : Fin 1024, xr f0 f1 f2 r j * (dr f0 f1 f2 f3 f4 r j * f3 (ix2 0 j))) * (-1 / 2 * (nrm (xr f0 f1 f2 r) / ms (xr f0 f1 f2 r))) / 1024

theorem v45_at (r : Fin 4096) : val_main_v45 (F := Ideal) (C f0) (C f1) (C f2) (C f3) (C f4) (ix2 r 0) = ((sr f0 f1 f2 f3 f4 r : ℝ) : EReal) := by
  pointwise [val_main_v45, val_main_v44, val_main_cst_13, val_main_v43, val_main_v40, val_main_v39, val_main_cst_12, val_main_v38]
  simp only [v2_at, v37_at, v13_at, lit_1024, ← EReal.coe_mul]
  rw [← coe_sum, ← EReal.coe_mul, div_coe _ _ (by norm_num), sr]

theorem v51_at (r : Fin 4096) (s : Fin 1024) : val_main_v51 (F := Ideal) (C f0) (C f1) (C f2) (C f3) (C f4) (ix2 r s) = ((hr f0 f1 f2 f3 f4 r s : ℝ) : EReal) := by
  pointwise [val_main_v51, val_main_v50, val_main_v49, val_main_v48, val_main_v47, val_main_v46, val_main_cst_14, val_main_v42, val_main_v41]
  simp only [v45_at, v2_at, v37_at, v10_at, Finset.univ_unique, Finset.sum_singleton, Fin.default_eq_zero, ← EReal.coe_mul, ← EReal.coe_add]
  exact congrArg _ (back (xr f0 f1 f2 r) (fun j => dr f0 f1 f2 f3 f4 r j * f3 (ix2 0 j)) s).symm

/-! The two, at real arguments. -/

variable (x0 : FVec Ideal S4096x2048 .bf16) (x1 : FVec Ideal S2048x1024 .f32) (x2 : FVec Ideal S4096x1024 .f32) (x3 : FVec Ideal S1x1024 .f32) (x4 : FVec Ideal S4096x1024 .f32)
  (h0 : AllReal x0) (h1 : AllReal x1) (h2 : AllReal x2) (h3 : AllReal x3) (h4 : AllReal x4)

include h0 h1 h2 h3 h4

theorem ref0 (i : S4096x1024.Idx) : val_main_v51 (F := Ideal) x0 x1 x2 x3 x4 i = dH x0 x1 x2 x3 x4 (i 0) (i 1) := by
  obtain ⟨f0, rfl⟩ := h0.exists
  obtain ⟨f1, rfl⟩ := h1.exists
  obtain ⟨f2, rfl⟩ := h2.exists
  obtain ⟨f3, rfl⟩ := h3.exists
  obtain ⟨f4, rfl⟩ := h4.exists
  refine (congrArg _ (eq_ix2 i)).trans ((v51_at f0 f1 f2 f3 f4 (i 0) (i 1)).trans (dH_coe f0 f1 f2 f3 f4 (i 0) (i 1)).symm)

theorem ref3 (i : S4096x1024.Idx) : val_main_v53 (F := Ideal) x0 x1 x2 x3 x4 i = dH x0 x1 x2 x3 x4 (i 0) (i 1) :=
  Eq.trans (by pointwise [val_main_v53]) (ref0 x0 x1 x2 x3 x4 h0 h1 h2 h3 h4 i)

theorem ref1 (i : S1x1024.Idx) : val_main_v35 (F := Ideal) x0 x1 x2 x3 x4 i = ∑ r : Fin 4096, DY x0 x1 x2 x3 x4 r (i 1) * Xh x0 x1 x2 r (i 1) := by
  obtain ⟨f0, rfl⟩ := h0.exists
  obtain ⟨f1, rfl⟩ := h1.exists
  obtain ⟨f2, rfl⟩ := h2.exists
  obtain ⟨f3, rfl⟩ := h3.exists
  obtain ⟨f4, rfl⟩ := h4.exists
  refine Eq.trans ?_ (Finset.sum_congr rfl fun r _ => (congrArg₂ (· * ·) (DY_coe f0 f1 f2 f3 f4 r (i 1)) (Xh_coe f0 f1 f2 r (i 1))).symm)
  pointwise [val_main_v35, val_main_v34, val_main_cst_11, val_main_v33]
  refine Finset.sum_congr rfl fun r _ => ?_
  exact (congrArg₂ (· * ·) (v15_at f0 f1 f2 r (i 1)) (v32_at f0 f1 f2 f3 f4 r (i 1))).trans (mul_comm _ _)

/-- The loss: half the mean square errors' sum, taken over all rows or block by block. -/
theorem ref2 (i : S1x128.Idx) : val_main_v52 (F := Ideal) x0 x1 x2 x3 x4 i
    = ∑ a : Fin 16, Ideal.ofBits .f32 0x3F000000#32 * ∑ x : Fin 256, PT x0 x1 x2 x3 x4 ⟨a.val * 256 + x.val, by omega⟩ := by
  obtain ⟨f0, rfl⟩ := h0.exists
  obtain ⟨f1, rfl⟩ := h1.exists
  obtain ⟨f2, rfl⟩ := h2.exists
  obtain ⟨f3, rfl⟩ := h3.exists
  obtain ⟨f4, rfl⟩ := h4.exists
  have e : ∑ a : Fin 16, Ideal.ofBits .f32 0x3F000000#32 * ∑ x : Fin 256, PT (C f0) (C f1) (C f2) (C f3) (C f4) ⟨a.val * 256 + x.val, by omega⟩
      = ((1 / 2 * ∑ r : Fin 4096, pr f0 f1 f2 f3 f4 r : ℝ) : EReal) := by
    simp only [PT_coe, lit_half]
    rw [← Fin.sum_mul_add_fin 16 256 (pr f0 f1 f2 f3 f4), Finset.mul_sum, coe_sum]
    exact Finset.sum_congr rfl fun a _ => by rw [EReal.coe_mul, coe_sum]
  refine Eq.trans ?_ e.symm
  rw [EReal.coe_mul, coe_sum]
  pointwise [val_main_v52, val_main_v26, val_main_cst_7, val_main_v25, val_main_cst_6, val_main_v24, val_main_v23, val_main_cst_5, val_main_v22, val_main_cst_4, val_main_v19]
  simp only [v18_at, lit_half, lit_1024, ← EReal.coe_mul]
  refine congrArg _ (Finset.sum_congr rfl fun r _ => ?_)
  rw [← coe_sum, div_coe _ _ (by norm_num), pr]

end Cert.LossHeadRefIdeal.Hand
-- ==== Proof.LossHead.Sums.lean ====
module

public import proofs.«01_k».proof.Proof.LossHead.Blocks

/-! The loss and the gradient of the gain: what a grid point adds to them, and what they hold after the grid. -/

@[expose] public section

set_option maxRecDepth 16384

noncomputable section

namespace Cert.LossHeadIdeal.Hand

open Cert.LossHeadIdeal Cert.LossHeadIdeal.Gen Idealize.ShloMosaic Idealize.ShloMosaic.TcCoe Idealize.SL.Sem
open Idealize.ShloMosaic.Pipeline (Dat)

variable (m : (ℓ : Loc nD τ sig) → Buf (Elt Ideal) ℓ)

/-- What one row adds to the gradient of the gain, and its mean square error, over the launch's arguments. -/
def rowG (c : Dev nD) (s : Fin 1024) (r : Fin 4096) : EReal :=
  DY (m ((c : Thread nD τ).loc main_arg0)) (m ((c : Thread nD τ).loc main_arg1)) (m ((c : Thread nD τ).loc main_arg2)) (m ((c : Thread nD τ).loc main_arg3)) (m ((c : Thread nD τ).loc main_arg4)) r s
    * Xh (m ((c : Thread nD τ).loc main_arg0)) (m ((c : Thread nD τ).loc main_arg1)) (m ((c : Thread nD τ).loc main_arg2)) r s
def rowL (c : Dev nD) (r : Fin 4096) : EReal :=
  PT (m ((c : Thread nD τ).loc main_arg0)) (m ((c : Thread nD τ).loc main_arg1)) (m ((c : Thread nD τ).loc main_arg2)) (m ((c : Thread nD τ).loc main_arg3)) (m ((c : Thread nD τ).loc main_arg4)) r

/-- The sum of 256 rows. -/
def chunk (f : Fin 4096 → EReal) (a : Fin 16) : EReal := ∑ x : Fin 256, f ⟨a.val * 256 + x.val, by omega⟩

theorem t_lt (t : Fin cfg0.N) : t.val < 8 := lt_of_lt_of_eq t.isLt (show cfg0.N = 8 from N_0)

/-- A point's two blocks of rows. -/
def first (t : Fin cfg0.N) : Fin 16 := ⟨2 * t.val, by have := t_lt t; omega⟩
def second (t : Fin cfg0.N) : Fin 16 := ⟨2 * t.val + 1, by have := t_lt t; omega⟩

/-- The gain's gradient after a point's two blocks of rows. -/
theorem gain_step (c : Dev nD) (t : Fin cfg0.N) (acc : FVec Ideal S1x1024 .f32) (s : Fin 1024) :
    k0_pay21 (iblk m c 3 t)
      (k0_pay12 (k0_pay3 acc)
        (k0_pay7 (View.ld (iblk m c 2 t) (Rect.unit ![0, 0] ![256, 1024] inb_S512x1024_S256x1024_0_0))
          (View.ld (iblk m c 0 t) (Rect.unit ![0, 0] ![256, 2048] inb_S512x2048_S256x2048_0_0)) (iblk m c 1 t))
        (k0_pay8 (iblk m c 3 t) (View.ld (iblk m c 2 t) (Rect.unit ![0, 0] ![256, 1024] inb_S512x1024_S256x1024_0_0))
          (View.ld (iblk m c 0 t) (Rect.unit ![0, 0] ![256, 2048] inb_S512x2048_S256x2048_0_0)) (iblk m c 1 t)
          (View.ld (iblk m c 4 t) (Rect.unit ![0, 0] ![256, 1024] inb_S512x1024_S256x1024_0_0))))
      (k0_pay15 (View.ld (iblk m c 2 t) (Rect.unit ![256, 0] ![256, 1024] inb_S512x1024_S256x1024_256_0))
        (View.ld (iblk m c 0 t) (Rect.unit ![256, 0] ![256, 2048] inb_S512x2048_S256x2048_256_0)) (iblk m c 1 t))
      (k0_pay16 (View.ld (iblk m c 2 t) (Rect.unit ![256, 0] ![256, 1024] inb_S512x1024_S256x1024_256_0))
        (View.ld (iblk m c 0 t) (Rect.unit ![256, 0] ![256, 2048] inb_S512x2048_S256x2048_256_0)) (iblk m c 1 t))
      (View.ld (iblk m c 4 t) (Rect.unit ![256, 0] ![256, 1024] inb_S512x1024_S256x1024_256_0)) (ix2 0 s)
      = acc (ix2 0 s) + chunk (rowG m c s) (first t) + chunk (rowG m c s) (second t) := by
  have ht := t_lt t
  open_payloads
  pointwise [chunk, first, second, rowG, DY, E, Xh, N, X]
  blk_point [iblk, V, idx t]

/-- The loss after a point's two blocks of rows. -/
theorem loss_step (c : Dev nD) (t : Fin cfg0.N) (acc : FVec Ideal S1x128 .f32) (s : Fin 128) :
    k0_pay19 (iblk m c 3 t)
      (k0_pay10 (k0_pay4 acc)
        (k0_pay9 (iblk m c 3 t) (View.ld (iblk m c 2 t) (Rect.unit ![0, 0] ![256, 1024] inb_S512x1024_S256x1024_0_0))
          (View.ld (iblk m c 0 t) (Rect.unit ![0, 0] ![256, 2048] inb_S512x2048_S256x2048_0_0)) (iblk m c 1 t)
          (View.ld (iblk m c 4 t) (Rect.unit ![0, 0] ![256, 1024] inb_S512x1024_S256x1024_0_0))))
      (k0_pay15 (View.ld (iblk m c 2 t) (Rect.unit ![256, 0] ![256, 1024] inb_S512x1024_S256x1024_256_0))
        (View.ld (iblk m c 0 t) (Rect.unit ![256, 0] ![256, 2048] inb_S512x2048_S256x2048_256_0)) (iblk m c 1 t))
      (k0_pay16 (View.ld (iblk m c 2 t) (Rect.unit ![256, 0] ![256, 1024] inb_S512x1024_S256x1024_256_0))
        (View.ld (iblk m c 0 t) (Rect.unit ![256, 0] ![256, 2048] inb_S512x2048_S256x2048_256_0)) (iblk m c 1 t))
      (View.ld (iblk m c 4 t) (Rect.unit ![256, 0] ![256, 1024] inb_S512x1024_S256x1024_256_0)) (ix2 0 s)
      = acc (ix2 0 s) + Ideal.ofBits .f32 0x3F000000#32 * chunk (rowL m c) (first t) + Ideal.ofBits .f32 0x3F000000#32 * chunk (rowL m c) (second t) := by
  have ht := t_lt t
  open_payloads
  pointwise [chunk, first, second, rowL, PT, E, Xh, N, X]
  blk_point [iblk, V, idx t]

/-- The sum over the eight points of their two blocks is the sum over the sixteen blocks. -/
theorem points_blocks (f : Fin 16 → EReal) : ∑ p : Fin cfg0.N, (f (first p) + f (second p)) = ∑ a : Fin 16, f a := by
  rw [← (finCongr (N_0 : cfg0.N = 8)).symm.sum_comp]
  exact Eq.trans (by simp only [Fin.sum_univ_succ, Fin.sum_univ_zero, add_zero]; rfl) (Fin.sum_mul_add_fin (L := 16) 8 2 f)

theorem blocks_rows (f : Fin 4096 → EReal) : ∑ a : Fin 16, chunk f a = ∑ r : Fin 4096, f r := by
  unfold chunk
  exact Fin.sum_mul_add_fin 16 256 f

/-- The gradient of the gain after the grid. -/
theorem final6 (c : Dev nD) : (dats m 0 c).arrAt 6 (cfgs 0).N = fun i => ∑ r : Fin 4096, rowG m c (i 1) r := by
  refine (dats m 0 c).arrAt_eq_of_after_last 6 t0_7 (by decide +kernel) _ fun j => ?_
  rw [after0_6]
  have e : (fun a => ⟨j a, by exact (j a).isLt⟩ : S1x1024.Idx) = ix2 0 (j 1) := funext fun a => by
    match a with
    | ⟨0, _⟩ => exact Fin.ext (by have : (j 0 : ℕ) < 1 := (j 0).isLt
                                  show (j 0 : ℕ) = 0
                                  omega)
    | ⟨1, _⟩ => rfl
  refine Eq.trans (congrArg (outsAt0 m c t0_7.val t0_7.isLt).2.1 e) ?_
  refine (Pipeline.eq_sum_fin_of_reset_step_apply_last (fun n h s => (outsAt0 m c n h).2.1 (ix2 0 s)) 8 (fun _ => 0)
    (fun t s => chunk (rowG m c s) (first t) + chunk (rowG m c s) (second t)) (fun t h s => ?_) (fun t h s => ?_) (le_of_eq N_0) t0_7 rfl (j 1)).trans ?_
  · rw [outsAt0_A m c t h]
    frame_out
    refine (gain_step m c t k0_pay1 s).trans ((add_assoc _ _ _).trans (congrArg (· + _) ?_))
    pointwise [k0_pay1]
  · beta_reduce
    rw [outsAt0_B m c t h]
    frame_out
    exact (gain_step m c t _ s).trans (add_assoc _ _ _)
  · exact (zero_add _).trans ((points_blocks _).trans (blocks_rows _))

/-- The loss after the grid, in every lane. -/
theorem final7 (c : Dev nD) : (dats m 0 c).arrAt 7 (cfgs 0).N = fun i => ∑ a : Fin 16, Ideal.ofBits .f32 0x3F000000#32 * chunk (rowL m c) a := by
  refine (dats m 0 c).arrAt_eq_of_after_last 7 t0_7 (by decide +kernel) _ fun j => ?_
  rw [after0_7]
  have e : (fun a => ⟨j a, by exact (j a).isLt⟩ : S1x128.Idx) = ix2 0 (j 1) := funext fun a => by
    match a with
    | ⟨0, _⟩ => exact Fin.ext (by have : (j 0 : ℕ) < 1 := (j 0).isLt
                                  show (j 0 : ℕ) = 0
                                  omega)
    | ⟨1, _⟩ => rfl
  refine Eq.trans (congrArg (outsAt0 m c t0_7.val t0_7.isLt).2.2.1 e) ?_
  refine (Pipeline.eq_sum_fin_of_reset_step_apply_last (fun n h s => (outsAt0 m c n h).2.2.1 (ix2 0 s)) 8 (fun _ => 0)
    (fun t s => Ideal.ofBits .f32 0x3F000000#32 * chunk (rowL m c) (first t) + Ideal.ofBits .f32 0x3F000000#32 * chunk (rowL m c) (second t))
    (fun t h s => ?_) (fun t h s => ?_) (le_of_eq N_0) t0_7 rfl (j 1)).trans ?_
  · rw [outsAt0_A m c t h]
    frame_out
    refine (loss_step m c t k0_pay2 s).trans ((add_assoc _ _ _).trans (congrArg (· + _) ?_))
    pointwise [k0_pay2]
  · beta_reduce
    rw [outsAt0_B m c t h]
    frame_out
    exact (loss_step m c t _ s).trans (add_assoc _ _ _)
  · exact (zero_add _).trans (points_blocks fun a => Ideal.ofBits .f32 0x3F000000#32 * chunk (rowL m c) a)

end Cert.LossHeadIdeal.Hand
-- ==== Proof.LossHead.Claim.lean ====
module

public import proofs.«01_k».proof.Defs
public import proofs.«01_k».proof.Proof.Gen.LossHead
public import proofs.«01_k».proof.Proof.Gen.Pre_loss_finite
public import proofs.«01_k».proof.Proof.LossHead.Ref
public import proofs.«01_k».proof.Proof.LossHead.Sums
public import Idealize.ShloMosaic.Lib.Claim

/-! The loss and its gradients: the precondition read, the equation of the two programs, the frames. -/

@[expose] public section

set_option maxRecDepth 16384

noncomputable section

namespace Cert.LossHeadIdeal.Hand

open Idealize.ShloMosaic Idealize.ShloMosaic.TcCoe
open Cert.Finite

/-- What the precondition says: all five arguments are arrays of real numbers. -/
theorem real_of_pre [Cert.Pre_loss_finite.Facts] (x0 : FVec Ideal S4096x2048 .bf16) (x1 : FVec Ideal S2048x1024 .f32) (x2 : FVec Ideal S4096x1024 .f32) (x3 : FVec Ideal S1x1024 .f32) (x4 : FVec Ideal S4096x1024 .f32)
    (h : Cert.Pre_loss_finite.fn (F := Ideal) x0 x1 x2 x3 x4 = fun _ => 1#1) :
    AllReal x0 ∧ AllReal x1 ∧ AllReal x2 ∧ AllReal x3 ∧ AllReal x4 := by
  have h' := congrFun h (Shape.Idx.first (by decide))
  unfold Cert.Pre_loss_finite.fn Cert.Pre_loss_finite.fn_part1 at h'
  obtain ⟨h', h4⟩ := andi_eq_one h'
  obtain ⟨h', h3⟩ := andi_eq_one h'
  obtain ⟨h', h2⟩ := andi_eq_one h'
  obtain ⟨h0, h1⟩ := andi_eq_one h'
  exact ⟨fun i => real_of_olt _ (all_of_reduce _ _ _ _ _ rfl h0 i), fun i => real_of_olt _ (all_of_reduce _ _ _ _ _ rfl h1 i),
    fun i => real_of_olt _ (all_of_reduce _ _ _ _ _ rfl h2 i), fun i => real_of_olt _ (all_of_reduce _ _ _ _ _ rfl h3 i),
    fun i => real_of_olt _ (all_of_reduce _ _ _ _ _ rfl h4 i)⟩

/-- The kernel's four results are the reference's. -/
theorem algebraic : Cert.algebraic_LossHeadIdeal_LossHeadRefIdeal_pre_loss_finite
    (hLossHeadIdeal := Cert.LossHeadIdeal.Gen.facts) (hLossHeadRefIdeal := Cert.LossHeadRefIdeal.Gen.facts)
    (hPre_loss_finite := Cert.Pre_loss_finite.Gen.facts) := by
  letI := Cert.Pre_loss_finite.Gen.facts
  intro m g m' g' hpre hagree
  refine ⟨_, _, _, _, ?_, θ_run_mono (Cert.LossHeadRefIdeal.Value.run m' g') fun r h c => h c⟩
  refine θ_run_mono (Cert.LossHeadIdeal.Value.run_blocks m g) fun r h c => ?_
  obtain ⟨e0, e1, e2, e3, kept⟩ := h c
  obtain ⟨a0, a1, a2, a3, a4⟩ := hagree c
  obtain ⟨p0, p1, p2, p3, p4⟩ := real_of_pre _ _ _ _ _ (hpre c)
  refine ⟨e0.trans (funext fun i => ?_), e1.trans (funext fun i => ?_), e2.trans (funext fun i => ?_), e3.trans (funext fun i => ?_), kept⟩
  · rw [Cert.LossHeadRefIdeal.Read.val_main_v51_eq, final5, a0, a1, a2, a3, a4]
    exact (Cert.LossHeadRefIdeal.Hand.ref0 _ _ _ _ _ p0 p1 p2 p3 p4 i).symm
  · rw [final6]
    unfold rowG
    rw [a0, a1, a2, a3, a4]
    exact (Cert.LossHeadRefIdeal.Hand.ref1 _ _ _ _ _ p0 p1 p2 p3 p4 i).symm
  · rw [final7]
    unfold chunk rowL
    rw [a0, a1, a2, a3, a4]
    exact (Cert.LossHeadRefIdeal.Hand.ref2 _ _ _ _ _ p0 p1 p2 p3 p4 i).symm
  · rw [Cert.LossHeadRefIdeal.Read.val_main_v53_eq, final8, a0, a1, a2, a3, a4]
    exact (Cert.LossHeadRefIdeal.Hand.ref3 _ _ _ _ _ p0 p1 p2 p3 p4 i).symm

/-- The program as compiled and its ideal reading have one body table: their texts agree. -/
theorem defs_eq : Cert.LossHead.defs (F := Bits) = Cert.LossHeadIdeal.defs (F := Bits) := by sl_kernel_rfl

/-- The frame of the program as compiled is the ideal program's run, at the bit patterns. -/
theorem frame_kernel : Cert.quiescent_LossHead (hLossHead := Cert.LossHead.Gen.facts) := fun m ρ _ => by
  have h := Cert.LossHeadIdeal.Gen.frame (F := Bits) m ρ
  rw [← defs_eq] at h
  exact h

/-- The reference's frame: host operations only, none of which writes an argument, and no semaphore. -/
theorem frame_reference : Cert.quiescent_LossHeadRefIdeal (hLossHeadRefIdeal := Cert.LossHeadRefIdeal.Gen.facts) := fun m ρ _ =>
  θ_run_mono (Cert.LossHeadRefIdeal.Value.run m ρ) fun r h => ⟨fun c => (h c).2.2.2.2, sem_eq_zero_of_no_sems (by decide) r.2⟩

end Cert.LossHeadIdeal.Hand
-- ==== Proof.PoolGrad.Blocks.lean ====
module

public import proofs.«01_k».proof.Proof.Gen.PoolGradIdeal.Value
public import Idealize.ShloMosaic.Lib.Pipeline.ValueKit
public import Idealize.ShloMosaic.Lib.Pointwise
public import proofs.«01_k».proof.Proof.Finite

/-! What the pooling's gradient kernel stores at each grid point, and what its array holds after the grid. -/

@[expose] public section

set_option maxRecDepth 16384

noncomputable section

namespace Cert.PoolGradIdeal.Hand

open Cert.PoolGradIdeal Cert.PoolGradIdeal.Gen Idealize.ShloMosaic Idealize.ShloMosaic.TcCoe Idealize.SL.Sem
open Idealize.ShloMosaic.Pipeline (Dat)

/-- The product with the group's weights, in the rows of the block itself. -/
theorem pay2_apply (v0 : FVec Ideal S2048x512 .bf16) (v1 : FVec Ideal S16x512 .bf16) (v3 : FVec Ideal S4x128x512 .bf16)
    (q : Fin 2064) (e : Fin 512) (hq : q.val < 2048) :
    k0_pay2 (F := Ideal) v0 v1 v3 (ix2 q e) = ∑ k : Fin 512, v0 (ix2 (⟨q.val, hq⟩ : Fin 2048) k) * v3 (ix3 (⟨e.val / 128, by omega⟩ : Fin 4) (⟨e.val % 128, by omega⟩ : Fin 128) k) := by
  pointwise [k0_pay2]
  exact Finset.sum_congr rfl fun k _ => by rw [dif_pos hq]

/-- How many rows a window of `2 ^ (g + 1)` rows that ends at row `q` has. -/
def rowsIn (g q : ℕ) : ℝ := ((min (q + 1) (2 ^ (g + 1)) : ℕ) : ℝ)

/-- A row's share of the mean over its window: nothing past the end of the sequence. -/
def share (g : ℕ) (f : ℕ → EReal) (q : ℕ) : EReal := if q < 2048 then Ideal.div (f q) ((rowsIn g q : ℝ) : EReal) else 0

/-- The kernel's counter of rows starts anew with each sequence. -/
theorem start_eq : ∀ a : Fin 2, Scalar.muli
              (Scalar.select
                (Scalar.andi
                  (Scalar.xori (Scalar.cmpi CmpIPredicate.slt (Scalar.remsi (BitVec.ofNat 32 a.val) 1#32) 0#32)
                    (Scalar.cmpi CmpIPredicate.slt 1#32 0#32))
                  (Scalar.cmpi CmpIPredicate.ne (Scalar.remsi (BitVec.ofNat 32 a.val) 1#32) 0#32))
                (Scalar.addi (Scalar.remsi (BitVec.ofNat 32 a.val) 1#32) 1#32)
                (Scalar.remsi (BitVec.ofNat 32 a.val) 1#32))
              2048#32 = 0#32 := by decide

theorem inside_eq : ∀ q : Fin 2064, IntOp.cmpi CmpIPredicate.slt (IntOp.addi 0#32 (BitVec.ofNat 32 q.val)) 2048#32 = if q.val < 2048 then 1#1 else 0#1 := by
  decide +kernel

theorem count_bits : ∀ (g : Fin 4) (q : Fin 2064), (IntOp.minsi (IntOp.addi (IntOp.addi 0#32 (BitVec.ofNat 32 q.val)) 1#32)
      (Scalar.shli 2#32 (BitVec.ofNat 32 g.val))).toInt = ((min (q.val + 1) (2 ^ (g.val + 1)) : ℕ) : ℤ) := by
  decide +kernel

/-- One row's share, in the kernel's own counters. -/
theorem share_eq (a : Fin 2) (g : Fin 4) (q : Fin 2064) (f : ℕ → EReal) (x : EReal) (hx : q.val < 2048 → x = f q.val) (z : EReal) (hz : z = 0) :
    Scalar.select (IntOp.cmpi CmpIPredicate.slt (IntOp.addi 0#32 (BitVec.ofNat 32 q.val)) 2048#32)
      (Ideal.div x (FloatOps.sitofp (F := Ideal) FTy.f32 (IntOp.minsi (IntOp.addi (IntOp.addi 0#32 (BitVec.ofNat 32 q.val)) 1#32)
        (Scalar.shli 2#32 (BitVec.ofNat 32 g.val))))) z = share g.val f q.val := by
  rw [inside_eq, share, hz]
  by_cases h : q.val < 2048
  · rw [if_pos h, if_pos h, hx h]
    show Ideal.div _ (((IntOp.minsi (IntOp.addi (IntOp.addi 0#32 (BitVec.ofNat 32 q.val)) 1#32)
        (Scalar.shli 2#32 (BitVec.ofNat 32 g.val))).toInt : ℝ) : EReal) = _
    rw [count_bits g q, rowsIn]
    norm_cast
  · rw [if_neg h, if_neg h]
    rfl

theorem pay3_apply (i : grid0.Coords) (v0 : FVec Ideal S2048x512 .bf16) (v1 : FVec Ideal S16x512 .bf16) (v3 : FVec Ideal S4x128x512 .bf16)
    (f : ℕ → EReal) (e : Fin 512) (hf : ∀ q : Fin 2064, q.val < 2048 → k0_pay2 (F := Ideal) v0 v1 v3 (ix2 q e) = f q.val)
    (q : Fin 2064) (hq : q.val + 1 < 2064) :
    k0_pay3 (F := Ideal) i v0 v1 v3 (ix2 q e) = share (i 1).val f q.val + share (i 1).val f (q.val + 1) := by
  have e1 : (q.val + 2064 - 2063) % 2064 = q.val + 1 := by omega
  pointwise [k0_pay3]
  rw [start_eq (i 0)]
  simp only [e1]
  refine congrArg₂ (fun a b : EReal => a + b) (share_eq (i 0) (i 1) q f _ (hf q) _ rfl) ?_
  exact share_eq (i 0) (i 1) ⟨q.val + 1, hq⟩ f _ (hf _) _ rfl

/-- The sum of a row's window of `2 ^ (g + 1)` rows, by doubling. -/
def two (c : ℕ → EReal) (p : ℕ) : EReal := c p + c (p + 1)
def four (c : ℕ → EReal) (p : ℕ) : EReal := two c p + two c (p + 2)
def eight (c : ℕ → EReal) (p : ℕ) : EReal := four c p + four c (p + 4)
def sixteen (c : ℕ → EReal) (p : ℕ) : EReal := eight c p + eight c (p + 8)
def window (g : ℕ) (c : ℕ → EReal) (p : ℕ) : EReal :=
  if g = 0 then two c p else if g = 1 then four c p else if g = 2 then eight c p else sixteen c p

theorem pick (g : Fin 4) (x0 x1 x2 x3 : EReal) :
    Scalar.select (Scalar.cmpi CmpIPredicate.sge (BitVec.ofNat 32 g.val) 3#32) x3
      (Scalar.select (Scalar.cmpi CmpIPredicate.sge (BitVec.ofNat 32 g.val) 2#32) x2
        (Scalar.select (Scalar.cmpi CmpIPredicate.sge (BitVec.ofNat 32 g.val) 1#32) x1 x0))
      = if g.val = 0 then x0 else if g.val = 1 then x1 else if g.val = 2 then x2 else x3 := by
  match g with
  | ⟨0, _⟩ => rfl
  | ⟨1, _⟩ => rfl
  | ⟨2, _⟩ => rfl
  | ⟨3, _⟩ => rfl

set_option maxHeartbeats 1000000 in
theorem pay1_apply (g : Fin 4) (v6 v36 : FVec Ideal S2064x512 .f32) (v37 : FVec Ideal S2048x512 .f32) (e : Fin 512) (c : ℕ → EReal)
    (h36 : ∀ q : Fin 2064, q.val + 1 < 2064 → v36 (ix2 q e) = two c q.val) (p : Fin 2048) (h37 : v37 (ix2 p e) = two c p.val) :
    k0_pay1 (F := Ideal) (BitVec.ofNat 32 g.val) v6 v36 v37 (ix2 p e) = window g.val c p.val - v6 (ix2 (⟨p.val, by omega⟩ : Fin 2064) e) := by
  have hp := p.isLt
  have a2 : (p.val + 2064 - 2062) % 2064 = p.val + 2 := by omega
  have a4 : (p.val + 2064 - 2060) % 2064 = p.val + 4 := by omega
  have a8 : (p.val + 2064 - 2056) % 2064 = p.val + 8 := by omega
  have b4 : (p.val + 4 + 2064 - 2062) % 2064 = p.val + 4 + 2 := by omega
  have b8 : (p.val + 8 + 2064 - 2062) % 2064 = p.val + 8 + 2 := by omega
  have d8 : (p.val + 8 + 2064 - 2060) % 2064 = p.val + 8 + 4 := by omega
  have f8 : (p.val + 8 + 4 + 2064 - 2062) % 2064 = p.val + 8 + 4 + 2 := by omega
  have H : ∀ (n : ℕ) (h : n < 2064), n + 1 < 2064 → v36 (ix2 (⟨n, h⟩ : Fin 2064) e) = two c n := fun n h h' => h36 ⟨n, h⟩ h'
  pointwise [k0_pay1]
  have z4 := pick g (two c p.val) (four c p.val) (eight c p.val) (sixteen c p.val)
  simp only [four, eight, sixteen] at z4
  unfold window
  simp only [four, eight, sixteen]
  rw [← z4]
  simp only [a2, a4, a8, b4, b8, d8, f8]
  rw [h37, H p.val _ (by omega), H (p.val + 2) _ (by omega), H (p.val + 4) _ (by omega), H (p.val + 4 + 2) _ (by omega), H (p.val + 8) _ (by omega),
    H (p.val + 8 + 2) _ (by omega), H (p.val + 8 + 4) _ (by omega), H (p.val + 8 + 4 + 2) _ (by omega)]

variable (m : (ℓ : Loc nD τ sig) → Buf (Elt Ideal) ℓ)

/-- The gradient for the pooled rows: the product with the group's weights, at row `q` of sequence `b`. -/
def dP (d : FVec Ideal S4096x2048 .bf16) (w : FVec Ideal S4x512x512 .f32) (b : Fin 2) (g : Fin 4) (e : Fin 512) (q : ℕ) : EReal :=
  if h : q < 2048 then ∑ k : Fin 512, d (ix2 (⟨b.val * 2048 + q, by omega⟩ : Fin 4096) (⟨g.val * 512 + k.val, by omega⟩ : Fin 2048)) * w (ix3 g e k) else 0

/-- Which block each window takes at each grid point. -/
theorem idx : ∀ t : Fin cfg0.N, win0_0.index t = ![t.val / 4, t.val % 4] ∧ win0_2.index t = ![0, t.val % 4, 0] ∧ win0_3.index t = ![t.val / 4, t.val % 4]
   ∧ (grid0.coords t 1).val = t.val % 4 :=
  (by decide +kernel : ∀ t : Fin grid0.N, _)

theorem split (w : FVec Ideal S4x512x512 .f32) (a : Fin 4) (n : Fin 512) (k : Fin 512) (g : Fin 4) (e : Fin 512) (hg : g.val = n.val / 128) (he : e.val = a.val * 128 + n.val % 128) :
    (truncf .bf16 (shapeCast S4x512x512 (transpose S4x4x128x512 [1, 0, 2, 3] (shapeCast S4x4x128x512 w shapeCasts_S4x512x512_S4x4x128x512)
        transposes_S4x4x128x512_S4x4x128x512_1_0_2_3) shapeCasts_S4x4x128x512_S4x512x512) bitsLt_bf16_f32 : FVec Ideal S4x512x512 .bf16) (ix3 a n k) = w (ix3 g e k) := by
  show shapeCast S4x512x512 (transpose S4x4x128x512 [1, 0, 2, 3] (shapeCast S4x4x128x512 w shapeCasts_S4x512x512_S4x4x128x512)
        transposes_S4x4x128x512_S4x4x128x512_1_0_2_3) shapeCasts_S4x4x128x512_S4x512x512 (ix3 a n k) = _
  have hn := n.isLt
  have hk := k.isLt
  have ha := a.isLt
  refine (shapeCast_apply _ _ _ (ix4 a g (⟨n.val % 128, by omega⟩ : Fin 128) k) (by
    rw [Shape.rowMajor_val_four, Shape.rowMajor_val_three]
    show ((a.val * 4 + g.val) * 128 + n.val % 128) * 512 + k.val = (a.val * 512 + n.val) * 512 + k.val
    omega)).trans ?_
  show shapeCast S4x4x128x512 w shapeCasts_S4x512x512_S4x4x128x512 (ix4 g a (⟨n.val % 128, by omega⟩ : Fin 128) k) = _
  exact shapeCast_apply _ _ _ (ix3 g e k) (by
    rw [Shape.rowMajor_val_four, Shape.rowMajor_val_three]
    show (g.val * 512 + e.val) * 512 + k.val = ((g.val * 4 + a.val) * 128 + n.val % 128) * 512 + k.val
    omega)

/-- The group weights, as the launch finds them: split over the chips, read back by row. -/
theorem weights (c : Dev nD) (a : Fin 4) (n : Fin 512) (k : Fin 512) (g : Fin 4) (e : Fin 512) (hg : g.val = n.val / 128) (he : e.val = a.val * 128 + n.val % 128) :
    (V m c main_v3 : FVec Ideal S4x512x512 .bf16) (ix3 a n k) = m ((c : Thread nD τ).loc main_arg1) (ix3 g e k) := by
  have hv : V m c main_v3 = (truncf .bf16 (shapeCast S4x512x512 (transpose S4x4x128x512 [1, 0, 2, 3]
      (shapeCast S4x4x128x512 (m ((c : Thread nD τ).loc main_arg1) : FVec Ideal S4x512x512 .f32) shapeCasts_S4x512x512_S4x4x128x512)
        transposes_S4x4x128x512_S4x4x128x512_1_0_2_3) shapeCasts_S4x4x128x512_S4x512x512) bitsLt_bf16_f32 : FVec Ideal S4x512x512 .bf16) := by
    unfold V
    simp only [hostOps0, List.flatten_cons, List.flatten_nil, List.append_nil, List.cons_append, List.nil_append]
    after_results
    rfl
  rw [hv]
  exact split _ a n k g e hg he

theorem pay4_apply (i : grid0.Coords) (v0 : FVec Ideal S2048x512 .bf16) (v1 : FVec Ideal S16x512 .bf16) (v3 : FVec Ideal S4x128x512 .bf16) (p : Fin 2048) (e : Fin 512) :
    k0_pay4 (F := Ideal) i v0 v1 v3 (ix2 p e) = k0_pay3 (F := Ideal) i v0 v1 v3 (ix2 (⟨p.val, by omega⟩ : Fin 2064) e) := by
  pointwise [k0_pay4]

theorem point (c : Dev nD) (t : Fin cfg0.N) (p : Fin 2048) (e : Fin 512) (b : Fin 2) (g : Fin 4) (hb : b.val = t.val / 4) (hg : g.val = t.val % 4) :
    outsAt0 m c t (ix2 p e)
      = window g.val (share g.val (dP (m ((c : Thread nD τ).loc main_arg0)) (m ((c : Thread nD τ).loc main_arg1)) b g e)) p.val
        - dP (m ((c : Thread nD τ).loc main_arg0)) (m ((c : Thread nD τ).loc main_arg1)) b g e p.val := by
  obtain ⟨i0, i2, i3, i1⟩ := idx t
  have E : ∀ q : Fin 2064, q.val < 2048 → k0_pay2 (F := Ideal) (iblk m c 0 t) (iblk m c 1 t) (iblk m c 2 t) (ix2 q e)
      = dP (m ((c : Thread nD τ).loc main_arg0)) (m ((c : Thread nD τ).loc main_arg1)) b g e q.val := by
    intro q hq
    refine (pay2_apply _ _ _ q e hq).trans ?_
    rw [dP, dif_pos hq]
    refine Finset.sum_congr rfl fun k _ => congrArg₂ (fun a b : EReal => a * b) ?_ ?_
    · rw [← V_main_arg0 m c]
      blk_ext [iblk, i0]
    · refine Eq.trans ?_ (weights m c (⟨e.val / 128, by omega⟩ : Fin 4) (⟨g.val * 128 + e.val % 128, by omega⟩ : Fin 512) k g e (by simp only []; omega) (by simp only []; omega))
      blk_ext [iblk, i2]
  unfold outsAt0
  frame_out
  have hi : grid0.coords t 1 = g := Fin.ext (i1.trans hg.symm)
  rw [hi]
  have T : ∀ q : Fin 2064, q.val + 1 < 2064 → k0_pay3 (F := Ideal) (grid0.coords t) (iblk m c 0 t) (iblk m c 1 t) (iblk m c 2 t) (ix2 q e)
      = two (share g.val (dP (m ((c : Thread nD τ).loc main_arg0)) (m ((c : Thread nD τ).loc main_arg1)) b g e)) q.val := by
    intro q hq
    refine (pay3_apply _ _ _ _ _ e E q hq).trans ?_
    rw [hi, two]
  refine (pay1_apply g _ _ _ e _ T p ((pay4_apply _ _ _ _ p e).trans (T _ (by simp only []; omega)))).trans ?_
  rw [E _ p.isLt]

/-- The result array starts as the third argument. -/
theorem out_entry (c : Dev nD) : V m c main_v4 = m ((c : Thread nD τ).loc main_arg2) := by
  unfold V
  simp only [hostOps0, List.flatten_cons, List.flatten_nil, List.append_nil, List.cons_append, List.nil_append]
  after_results
  try rfl

/-- What the result array holds after the grid: in the first half of the columns the gradient, in the others what it held. -/
def after (d : FVec Ideal S4096x2048 .bf16) (w : FVec Ideal S4x512x512 .f32) (o : FVec Ideal S4096x4096 .bf16) (r n : ℕ) (hr : r < 4096) (hn : n < 4096) : EReal :=
  if h : n < 2048 then
    window (n / 512) (share (n / 512) (dP d w (⟨r / 2048, by omega⟩ : Fin 2) (⟨n / 512, by omega⟩ : Fin 4) (⟨n % 512, by omega⟩ : Fin 512))) (r % 2048)
      - dP d w (⟨r / 2048, by omega⟩ : Fin 2) (⟨n / 512, by omega⟩ : Fin 4) (⟨n % 512, by omega⟩ : Fin 512) (r % 2048)
  else o (ix2 (⟨r, hr⟩ : Fin 4096) (⟨n, hn⟩ : Fin 4096))

theorem after_inside (d : FVec Ideal S4096x2048 .bf16) (w : FVec Ideal S4x512x512 .f32) (o : FVec Ideal S4096x4096 .bf16) (r n : ℕ) (hr : r < 4096) (hn : n < 4096)
    (b : Fin 2) (p : Fin 2048) (g : Fin 4) (e : Fin 512) (h0 : r = b.val * 2048 + p.val) (h1 : n = g.val * 512 + e.val) :
    after d w o r n hr hn = window g.val (share g.val (dP d w b g e)) p.val - dP d w b g e p.val := by
  have hp := p.isLt
  have he := e.isLt
  have hg := g.isLt
  unfold after
  rw [dif_pos (by omega), show (⟨r / 2048, by omega⟩ : Fin 2) = b from Fin.ext (by simp only []; omega),
    show (⟨n / 512, by omega⟩ : Fin 4) = g from Fin.ext (by simp only []; omega), show (⟨n % 512, by omega⟩ : Fin 512) = e from Fin.ext (by simp only []; omega),
    show r % 2048 = p.val by omega, show n / 512 = g.val by omega]

theorem after_outside (d : FVec Ideal S4096x2048 .bf16) (w : FVec Ideal S4x512x512 .f32) (o : FVec Ideal S4096x4096 .bf16) (i : S4096x4096.Idx) (h : ¬ (i 1).val < 2048) :
    after d w o (i 0).val (i 1).val (i 0).isLt (i 1).isLt = o i := by
  unfold after
  rw [dif_neg h]
  exact congrArg o (eq_ix2 i).symm

theorem final (c : Dev nD) : (dats m 0 c).arrAt 3 (cfgs 0).N
    = fun i : S4096x4096.Idx => after (m ((c : Thread nD τ).loc main_arg0)) (m ((c : Thread nD τ).loc main_arg1)) (m ((c : Thread nD τ).loc main_arg2))
        (i 0).val (i 1).val (i 0).isLt (i 1).isLt := by
  have key : (dats m 0 c).arrAt 3 (cfgs 0).N = fun i : S4096x4096.Idx => if (i 1).val < 2048 then
      after (m ((c : Thread nD τ).loc main_arg0)) (m ((c : Thread nD τ).loc main_arg1)) (m ((c : Thread nD τ).loc main_arg2))
        (i 0).val (i 1).val (i 0).isLt (i 1).isLt else V m c main_v4 i := by
    refine (dats m 0 c).arrAt_eq_of_coversWhere 3 _ (fun β => β 1 < 4) (by decide +kernel) (fun t hf y => ?_)
      (fun j => by blk_simp [Pipeline.Window.cell_apply]; omega)
    blk_simp
    rw [after0_3]
    obtain ⟨i0, i2, i3, i1⟩ := idx t
    have ht : t.val < 8 := t.isLt.trans_eq N_0
    refine (congrArg (outsAt0 m c t) (eq_ix2 (n0 := 2048) (n1 := 512) y)).trans ((point m c t (y 0) (y 1) (⟨t.val / 4, by omega⟩ : Fin 2) (⟨t.val % 4, by omega⟩ : Fin 4) rfl rfl).trans (after_inside _ _ _ _ _ _ _ _ _ _ _ ?_ ?_).symm)
    · rw [i3]; rfl
    · rw [i3]; rfl
  rw [key]
  funext i
  by_cases h : (i 1).val < 2048
  · rw [if_pos h]
  · rw [if_neg h, out_entry]
    exact (after_outside _ _ _ i h).symm

end Cert.PoolGradIdeal.Hand
-- ==== Proof.PoolGrad.Ref.lean ====
module

public import proofs.«01_k».proof.Proof.Gen.PoolGradRefIdeal.Read
public import proofs.«01_k».proof.Proof.PoolGrad.Blocks
public import proofs.«01_k».proof.Proof.WindowSum
public import proofs.«01_k».proof.Proof.Finite

/-! The pooling's gradient as jax differentiates it, read on finite arguments. -/

@[expose] public section

set_option maxRecDepth 16384

noncomputable section

namespace Cert.PoolGradRefIdeal.Hand

open Cert.PoolGradRefIdeal Cert.PoolGradRefIdeal.Gen Cert.PoolGradRefIdeal.Read Idealize.ShloMosaic Idealize.ShloMosaic.TcCoe Idealize.SL.Sem
open Cert.Finite Cert.PoolGradIdeal.Hand

variable (d : FVec Ideal S4096x2048 .bf16) (w : FVec Ideal S4x512x512 .f32)

/-- The gradient for the pooled rows. -/
theorem pooled (b : Fin 2) (q : Fin 2048) (g : Fin 4) (e : Fin 512) :
    (val_main_v91 (F := Ideal) d w (ix4 b q g e) : EReal) = dP d w b g e q.val := by
  rw [dP, dif_pos q.isLt]
  pointwise [val_main_v91, val_main_v90, val_main_v89, val_main_v88, val_main_v1, val_main_v0]

theorem pooled_real (hd : AllReal d) (hw : AllReal w) (b : Fin 2) (g : Fin 4) (e : Fin 512) : ∃ f : ℕ → ℝ, ∀ q, dP d w b g e q = ((f q : ℝ) : EReal) := by
  obtain ⟨d', rfl⟩ := hd.exists
  obtain ⟨w', rfl⟩ := hw.exists
  refine ⟨fun q => if h : q < 2048 then ∑ k : Fin 512, d' (ix2 (⟨b.val * 2048 + q, by omega⟩ : Fin 4096) (⟨g.val * 512 + k.val, by omega⟩ : Fin 2048)) * w' (ix3 g e k) else 0, fun q => ?_⟩
  unfold dP
  by_cases h : q < 2048
  · simp only [dif_pos h]
    rw [coe_sum]
    exact Finset.sum_congr rfl fun k _ => (EReal.coe_mul _ _).symm
  · simp only [dif_neg h, EReal.coe_zero]

/-- A row's share of its window's mean, in the reals. -/
def part (g : ℕ) (f : ℕ → ℝ) (q : ℕ) : ℝ := if q < 2048 then f q / rowsIn g q else 0

theorem rowsIn_ne_zero (g q : ℕ) : rowsIn g q ≠ 0 := by
  have : 0 < min (q + 1) (2 ^ (g + 1)) := lt_min (Nat.succ_pos _) (by positivity)
  unfold rowsIn
  exact_mod_cast this.ne'

theorem share_coe (g : ℕ) (F : ℕ → EReal) (f : ℕ → ℝ) (h : ∀ q, F q = ((f q : ℝ) : EReal)) (q : ℕ) : share g F q = ((part g f q : ℝ) : EReal) := by
  unfold share part
  by_cases hq : q < 2048
  · rw [if_pos hq, if_pos hq, h, div_coe _ _ (rowsIn_ne_zero g q)]
  · rw [if_neg hq, if_neg hq, EReal.coe_zero]

/-- The sums by doubling are the sums over the windows. -/
theorem window_coe (g : ℕ) (hg : g < 4) (C : ℕ → EReal) (c : ℕ → ℝ) (h : ∀ q, C q = ((c q : ℝ) : EReal)) (p : ℕ) :
    window g C p = ((∑ k ∈ Finset.range (2 ^ (g + 1)), c (p + k) : ℝ) : EReal) := by
  obtain rfl : C = fun q => ((c q : ℝ) : EReal) := funext h
  have add : ∀ x y : ℝ, (x : EReal) + (y : EReal) = ((x + y : ℝ) : EReal) := fun x y => (EReal.coe_add x y).symm
  interval_cases g
  · rw [window, if_pos rfl]
    simp only [two, add]
    refine congrArg _ ?_
    simp [Finset.sum_range_succ]
  · rw [window, if_neg (by decide), if_pos rfl]
    simp only [two, four, add]
    refine congrArg _ ?_
    simp [Finset.sum_range_succ, add_assoc]
  · rw [window, if_neg (by decide), if_neg (by decide), if_pos rfl]
    simp only [two, four, eight, add]
    refine congrArg _ ?_
    simp [Finset.sum_range_succ, add_assoc]
  · rw [window, if_neg (by decide), if_neg (by decide), if_neg (by decide)]
    simp only [two, four, eight, sixteen, add]
    refine congrArg _ ?_
    simp [Finset.sum_range_succ, add_assoc]

/-- The tail of a sum of differences at distance `W` is a window's sum. -/
theorem tail_window (c : ℕ → ℝ) (W N p : ℕ) (hp : p ≤ N) (hc : ∀ q, N ≤ q → c q = 0) :
    (∑ s ∈ Finset.range N, (c s - if s + W < N then c (s + W) else 0)) - ∑ s ∈ Finset.range p, (c s - if s + W < N then c (s + W) else 0)
      = ∑ k ∈ Finset.range W, c (p + k) := by
  have e : ∀ s, (c s - if s + W < N then c (s + W) else 0) = c s - c (s + W) := fun s => by
    by_cases h : s + W < N
    · rw [if_pos h]
    · rw [if_neg h, hc (s + W) (by omega)]
  simp only [e, Finset.sum_sub_distrib]
  have key : ∀ n, (∑ s ∈ Finset.range n, c s) - ∑ s ∈ Finset.range n, c (s + W) = (∑ k ∈ Finset.range W, c k) - ∑ k ∈ Finset.range W, c (n + k) := fun n => by
    have h1 := Finset.sum_range_add c n W
    have h2 := Finset.sum_range_add c W n
    rw [add_comm W n] at h2
    have h3 : (∑ s ∈ Finset.range n, c (s + W)) = ∑ s ∈ Finset.range n, c (W + s) := Finset.sum_congr rfl fun s _ => by rw [add_comm]
    rw [h3]
    linarith
  rw [key N, key p]
  have z : (∑ k ∈ Finset.range W, c (N + k)) = 0 := Finset.sum_eq_zero fun k _ => hc _ (by omega)
  rw [z]
  ring

theorem rowsIn0 : ∀ q : Fin 2048, (IntOp.minsi (IntOp.addi (BitVec.ofNat 32 q.val) 1#32) 2#32).toInt = ((min (q.val + 1) (2 ^ (0 + 1)) : ℕ) : ℤ) := by
  decide +kernel

/-- The shares of the windows of 2 rows, less those of the windows that do not reach so far. -/
theorem shares0 (b : Fin 2) (e : Fin 512) (f : ℕ → ℝ) (hf : ∀ q, dP d w b 0 e q = ((f q : ℝ) : EReal)) (q : Fin 2048) :
    (val_main_v145 (F := Ideal) d w (ix3 b q e) : EReal) = ((part 0 f q.val - (if q.val + 2 < 2048 then part 0 f (q.val + 2) else 0) : ℝ) : EReal) := by
  have hq := q.isLt
  have C : ∀ n : Fin 2048, (FloatOps.sitofp (F := Ideal) FTy.f32 (IntOp.minsi (IntOp.addi (BitVec.ofNat 32 n.val) 1#32) 2#32) : EReal) = ((rowsIn 0 n.val : ℝ) : EReal) := by
    intro n
    show (((IntOp.minsi (IntOp.addi (BitVec.ofNat 32 n.val) 1#32) 2#32).toInt : ℝ) : EReal) = _
    rw [rowsIn0 n, rowsIn]
    norm_cast
  have V : ∀ n : Fin 2048, (Ideal.div (val_main_v91 (F := Ideal) d w (ix4 b n 0 e)) (FloatOps.sitofp (F := Ideal) FTy.f32 (IntOp.minsi (IntOp.addi (BitVec.ofNat 32 n.val) 1#32) 2#32)) : EReal)
      = ((part 0 f n.val : ℝ) : EReal) := by
    intro n
    rw [pooled, hf, C, div_coe _ _ (rowsIn_ne_zero 0 n.val), part, if_pos n.isLt]
  pointwise [val_main_v145, val_main_v144, val_main_v143, val_main_v141, val_main_v140, val_main_v139, val_main_v93, val_main_v92, val_main_v19, val_main_v17, val_main_v16, val_main_v14, val_main_v15, val_main_v13, val_main_v12, val_main_c, val_main_c_2]
  refine (congrArg₂ (fun x y : EReal => x + y) (V q) (?_ : _ = ((-(if q.val + 2 < 2048 then part 0 f (q.val + 2) else 0) : ℝ) : EReal))).trans ?_
  · by_cases h : q.val < 2046
    · rw [dif_pos h, if_pos (by omega), EReal.coe_neg]
      refine congrArg (fun x : EReal => -x) ((V ⟨2 + q.val, by omega⟩).trans ?_)
      rw [add_comm q.val]
    · rw [dif_neg h, if_neg (by omega), neg_zero, EReal.coe_zero]
      exact Ideal.ofBits_zero_f32
  · beta_reduce
    rw [← EReal.coe_add, sub_eq_add_neg]

/-- The gradient of the pooling with windows of 2 rows. -/
theorem group0 (b : Fin 2) (e : Fin 512) (f : ℕ → ℝ) (hf : ∀ q, dP d w b 0 e q = ((f q : ℝ) : EReal)) (p : Fin 2048) :
    (val_main_v147 (F := Ideal) d w (ix3 b p e) : EReal) = window 0 (share 0 (dP d w b 0 e)) p.val - dP d w b 0 e p.val := by
  have R : (val_main_v146 (F := Ideal) d w (ix3 b p e) : EReal) = window 0 (share 0 (dP d w b 0 e)) p.val := by
    refine (Cert.WindowSum.suffix3 (by rfl) _ _ _ _ ?_ b p e (fun s => part 0 f s - if s + 2 < 2048 then part 0 f (s + 2) else 0) (shares0 d w b e f hf)).trans ?_
    · exact Ideal.ofBits_zero_f32
    · rw [window_coe 0 (by omega) _ _ (share_coe 0 _ f hf) p.val]
      exact congrArg _ (tail_window (part 0 f) 2 2048 p.val p.isLt.le fun q hq => if_neg (by omega))
  have N : (val_main_v138 (F := Ideal) d w (ix3 b p e) : EReal) = -dP d w b 0 e p.val := by
    pointwise [val_main_v138, val_main_v93, val_main_v92]
    exact congrArg (fun x : EReal => -x) (pooled d w b p 0 e)
  refine (congrArg₂ (fun x y : EReal => x + y) N R).trans ?_
  rw [hf, window_coe 0 (by omega) _ _ (share_coe 0 _ f hf) p.val]
  beta_reduce
  rw [← EReal.coe_neg, ← EReal.coe_add, ← EReal.coe_sub, neg_add_eq_sub]

theorem rowsIn1 : ∀ q : Fin 2048, (IntOp.minsi (IntOp.addi (BitVec.ofNat 32 q.val) 1#32) 4#32).toInt = ((min (q.val + 1) (2 ^ (1 + 1)) : ℕ) : ℤ) := by
  decide +kernel

/-- The shares of the windows of 4 rows, less those of the windows that do not reach so far. -/
theorem shares1 (b : Fin 2) (e : Fin 512) (f : ℕ → ℝ) (hf : ∀ q, dP d w b 1 e q = ((f q : ℝ) : EReal)) (q : Fin 2048) :
    (val_main_v132 (F := Ideal) d w (ix3 b q e) : EReal) = ((part 1 f q.val - (if q.val + 4 < 2048 then part 1 f (q.val + 4) else 0) : ℝ) : EReal) := by
  have hq := q.isLt
  have C : ∀ n : Fin 2048, (FloatOps.sitofp (F := Ideal) FTy.f32 (IntOp.minsi (IntOp.addi (BitVec.ofNat 32 n.val) 1#32) 4#32) : EReal) = ((rowsIn 1 n.val : ℝ) : EReal) := by
    intro n
    show (((IntOp.minsi (IntOp.addi (BitVec.ofNat 32 n.val) 1#32) 4#32).toInt : ℝ) : EReal) = _
    rw [rowsIn1 n, rowsIn]
    norm_cast
  have V : ∀ n : Fin 2048, (Ideal.div (val_main_v91 (F := Ideal) d w (ix4 b n 1 e)) (FloatOps.sitofp (F := Ideal) FTy.f32 (IntOp.minsi (IntOp.addi (BitVec.ofNat 32 n.val) 1#32) 4#32)) : EReal)
      = ((part 1 f n.val : ℝ) : EReal) := by
    intro n
    rw [pooled, hf, C, div_coe _ _ (rowsIn_ne_zero 1 n.val), part, if_pos n.isLt]
  pointwise [val_main_v132, val_main_v131, val_main_v130, val_main_v128, val_main_v127, val_main_v126, val_main_v95, val_main_v94, val_main_v38, val_main_v36, val_main_v35, val_main_v33, val_main_v34, val_main_v32, val_main_v31, val_main_c_5, val_main_c_6]
  refine (congrArg₂ (fun x y : EReal => x + y) (V q) (?_ : _ = ((-(if q.val + 4 < 2048 then part 1 f (q.val + 4) else 0) : ℝ) : EReal))).trans ?_
  · by_cases h : q.val < 2044
    · rw [dif_pos h, if_pos (by omega), EReal.coe_neg]
      refine congrArg (fun x : EReal => -x) ((V ⟨4 + q.val, by omega⟩).trans ?_)
      rw [add_comm q.val]
    · rw [dif_neg h, if_neg (by omega), neg_zero, EReal.coe_zero]
      exact Ideal.ofBits_zero_f32
  · beta_reduce
    rw [← EReal.coe_add, sub_eq_add_neg]

/-- The gradient of the pooling with windows of 4 rows. -/
theorem group1 (b : Fin 2) (e : Fin 512) (f : ℕ → ℝ) (hf : ∀ q, dP d w b 1 e q = ((f q : ℝ) : EReal)) (p : Fin 2048) :
    (val_main_v134 (F := Ideal) d w (ix3 b p e) : EReal) = window 1 (share 1 (dP d w b 1 e)) p.val - dP d w b 1 e p.val := by
  have R : (val_main_v133 (F := Ideal) d w (ix3 b p e) : EReal) = window 1 (share 1 (dP d w b 1 e)) p.val := by
    refine (Cert.WindowSum.suffix3 (by rfl) _ _ _ _ ?_ b p e (fun s => part 1 f s - if s + 4 < 2048 then part 1 f (s + 4) else 0) (shares1 d w b e f hf)).trans ?_
    · exact Ideal.ofBits_zero_f32
    · rw [window_coe 1 (by omega) _ _ (share_coe 1 _ f hf) p.val]
      exact congrArg _ (tail_window (part 1 f) 4 2048 p.val p.isLt.le fun q hq => if_neg (by omega))
  have N : (val_main_v125 (F := Ideal) d w (ix3 b p e) : EReal) = -dP d w b 1 e p.val := by
    pointwise [val_main_v125, val_main_v95, val_main_v94]
    exact congrArg (fun x : EReal => -x) (pooled d w b p 1 e)
  refine (congrArg₂ (fun x y : EReal => x + y) N R).trans ?_
  rw [hf, window_coe 1 (by omega) _ _ (share_coe 1 _ f hf) p.val]
  beta_reduce
  rw [← EReal.coe_neg, ← EReal.coe_add, ← EReal.coe_sub, neg_add_eq_sub]

theorem rowsIn2 : ∀ q : Fin 2048, (IntOp.minsi (IntOp.addi (BitVec.ofNat 32 q.val) 1#32) 8#32).toInt = ((min (q.val + 1) (2 ^ (2 + 1)) : ℕ) : ℤ) := by
  decide +kernel

/-- The shares of the windows of 8 rows, less those of the windows that do not reach so far. -/
theorem shares2 (b : Fin 2) (e : Fin 512) (f : ℕ → ℝ) (hf : ∀ q, dP d w b 2 e q = ((f q : ℝ) : EReal)) (q : Fin 2048) :
    (val_main_v119 (F := Ideal) d w (ix3 b q e) : EReal) = ((part 2 f q.val - (if q.val + 8 < 2048 then part 2 f (q.val + 8) else 0) : ℝ) : EReal) := by
  have hq := q.isLt
  have C : ∀ n : Fin 2048, (FloatOps.sitofp (F := Ideal) FTy.f32 (IntOp.minsi (IntOp.addi (BitVec.ofNat 32 n.val) 1#32) 8#32) : EReal) = ((rowsIn 2 n.val : ℝ) : EReal) := by
    intro n
    show (((IntOp.minsi (IntOp.addi (BitVec.ofNat 32 n.val) 1#32) 8#32).toInt : ℝ) : EReal) = _
    rw [rowsIn2 n, rowsIn]
    norm_cast
  have V : ∀ n : Fin 2048, (Ideal.div (val_main_v91 (F := Ideal) d w (ix4 b n 2 e)) (FloatOps.sitofp (F := Ideal) FTy.f32 (IntOp.minsi (IntOp.addi (BitVec.ofNat 32 n.val) 1#32) 8#32)) : EReal)
      = ((part 2 f n.val : ℝ) : EReal) := by
    intro n
    rw [pooled, hf, C, div_coe _ _ (rowsIn_ne_zero 2 n.val), part, if_pos n.isLt]
  pointwise [val_main_v119, val_main_v118, val_main_v117, val_main_v115, val_main_v114, val_main_v113, val_main_v97, val_main_v96, val_main_v57, val_main_v55, val_main_v54, val_main_v52, val_main_v53, val_main_v51, val_main_v50, val_main_c_9, val_main_c_10]
  refine (congrArg₂ (fun x y : EReal => x + y) (V q) (?_ : _ = ((-(if q.val + 8 < 2048 then part 2 f (q.val + 8) else 0) : ℝ) : EReal))).trans ?_
  · by_cases h : q.val < 2040
    · rw [dif_pos h, if_pos (by omega), EReal.coe_neg]
      refine congrArg (fun x : EReal => -x) ((V ⟨8 + q.val, by omega⟩).trans ?_)
      rw [add_comm q.val]
    · rw [dif_neg h, if_neg (by omega), neg_zero, EReal.coe_zero]
      exact Ideal.ofBits_zero_f32
  · beta_reduce
    rw [← EReal.coe_add, sub_eq_add_neg]

/-- The gradient of the pooling with windows of 8 rows. -/
theorem group2 (b : Fin 2) (e : Fin 512) (f : ℕ → ℝ) (hf : ∀ q, dP d w b 2 e q = ((f q : ℝ) : EReal)) (p : Fin 2048) :
    (val_main_v121 (F := Ideal) d w (ix3 b p e) : EReal) = window 2 (share 2 (dP d w b 2 e)) p.val - dP d w b 2 e p.val := by
  have R : (val_main_v120 (F := Ideal) d w (ix3 b p e) : EReal) = window 2 (share 2 (dP d w b 2 e)) p.val := by
    refine (Cert.WindowSum.suffix3 (by rfl) _ _ _ _ ?_ b p e (fun s => part 2 f s - if s + 8 < 2048 then part 2 f (s + 8) else 0) (shares2 d w b e f hf)).trans ?_
    · exact Ideal.ofBits_zero_f32
    · rw [window_coe 2 (by omega) _ _ (share_coe 2 _ f hf) p.val]
      exact congrArg _ (tail_window (part 2 f) 8 2048 p.val p.isLt.le fun q hq => if_neg (by omega))
  have N : (val_main_v112 (F := Ideal) d w (ix3 b p e) : EReal) = -dP d w b 2 e p.val := by
    pointwise [val_main_v112, val_main_v97, val_main_v96]
    exact congrArg (fun x : EReal => -x) (pooled d w b p 2 e)
  refine (congrArg₂ (fun x y : EReal => x + y) N R).trans ?_
  rw [hf, window_coe 2 (by omega) _ _ (share_coe 2 _ f hf) p.val]
  beta_reduce
  rw [← EReal.coe_neg, ← EReal.coe_add, ← EReal.coe_sub, neg_add_eq_sub]

theorem rowsIn3 : ∀ q : Fin 2048, (IntOp.minsi (IntOp.addi (BitVec.ofNat 32 q.val) 1#32) 16#32).toInt = ((min (q.val + 1) (2 ^ (3 + 1)) : ℕ) : ℤ) := by
  decide +kernel

/-- The shares of the windows of 16 rows, less those of the windows that do not reach so far. -/
theorem shares3 (b : Fin 2) (e : Fin 512) (f : ℕ → ℝ) (hf : ∀ q, dP d w b 3 e q = ((f q : ℝ) : EReal)) (q : Fin 2048) :
    (val_main_v107 (F := Ideal) d w (ix3 b q e) : EReal) = ((part 3 f q.val - (if q.val + 16 < 2048 then part 3 f (q.val + 16) else 0) : ℝ) : EReal) := by
  have hq := q.isLt
  have C : ∀ n : Fin 2048, (FloatOps.sitofp (F := Ideal) FTy.f32 (IntOp.minsi (IntOp.addi (BitVec.ofNat 32 n.val) 1#32) 16#32) : EReal) = ((rowsIn 3 n.val : ℝ) : EReal) := by
    intro n
    show (((IntOp.minsi (IntOp.addi (BitVec.ofNat 32 n.val) 1#32) 16#32).toInt : ℝ) : EReal) = _
    rw [rowsIn3 n, rowsIn]
    norm_cast
  have V : ∀ n : Fin 2048, (Ideal.div (val_main_v91 (F := Ideal) d w (ix4 b n 3 e)) (FloatOps.sitofp (F := Ideal) FTy.f32 (IntOp.minsi (IntOp.addi (BitVec.ofNat 32 n.val) 1#32) 16#32)) : EReal)
      = ((part 3 f n.val : ℝ) : EReal) := by
    intro n
    rw [pooled, hf, C, div_coe _ _ (rowsIn_ne_zero 3 n.val), part, if_pos n.isLt]
  pointwise [val_main_v107, val_main_v106, val_main_v105, val_main_v103, val_main_v102, val_main_v101, val_main_v99, val_main_v98, val_main_v76, val_main_v74, val_main_v73, val_main_v71, val_main_v72, val_main_v70, val_main_v69, val_main_c_13, val_main_c_14]
  refine (congrArg₂ (fun x y : EReal => x + y) (V q) (?_ : _ = ((-(if q.val + 16 < 2048 then part 3 f (q.val + 16) else 0) : ℝ) : EReal))).trans ?_
  · by_cases h : q.val < 2032
    · rw [dif_pos h, if_pos (by omega), EReal.coe_neg]
      refine congrArg (fun x : EReal => -x) ((V ⟨16 + q.val, by omega⟩).trans ?_)
      rw [add_comm q.val]
    · rw [dif_neg h, if_neg (by omega), neg_zero, EReal.coe_zero]
      exact Ideal.ofBits_zero_f32
  · beta_reduce
    rw [← EReal.coe_add, sub_eq_add_neg]

/-- The gradient of the pooling with windows of 16 rows. -/
theorem group3 (b : Fin 2) (e : Fin 512) (f : ℕ → ℝ) (hf : ∀ q, dP d w b 3 e q = ((f q : ℝ) : EReal)) (p : Fin 2048) :
    (val_main_v109 (F := Ideal) d w (ix3 b p e) : EReal) = window 3 (share 3 (dP d w b 3 e)) p.val - dP d w b 3 e p.val := by
  have R : (val_main_v108 (F := Ideal) d w (ix3 b p e) : EReal) = window 3 (share 3 (dP d w b 3 e)) p.val := by
    refine (Cert.WindowSum.suffix3 (by rfl) _ _ _ _ ?_ b p e (fun s => part 3 f s - if s + 16 < 2048 then part 3 f (s + 16) else 0) (shares3 d w b e f hf)).trans ?_
    · exact Ideal.ofBits_zero_f32
    · rw [window_coe 3 (by omega) _ _ (share_coe 3 _ f hf) p.val]
      exact congrArg _ (tail_window (part 3 f) 16 2048 p.val p.isLt.le fun q hq => if_neg (by omega))
  have N : (val_main_v100 (F := Ideal) d w (ix3 b p e) : EReal) = -dP d w b 3 e p.val := by
    pointwise [val_main_v100, val_main_v99, val_main_v98]
    exact congrArg (fun x : EReal => -x) (pooled d w b p 3 e)
  refine (congrArg₂ (fun x y : EReal => x + y) N R).trans ?_
  rw [hf, window_coe 3 (by omega) _ _ (share_coe 3 _ f hf) p.val]
  beta_reduce
  rw [← EReal.coe_neg, ← EReal.coe_add, ← EReal.coe_sub, neg_add_eq_sub]

theorem zero16 : (val_main_cst_16 (F := Ideal) (Shape.Idx.first h_S_) : EReal) = 0 := Ideal.ofBits_zero_f32
theorem zero18 : (val_main_cst_18 (F := Ideal) (Shape.Idx.first h_S_) : EReal) = 0 := Ideal.ofBits_zero_f32
theorem zero20 : (val_main_cst_20 (F := Ideal) (Shape.Idx.first h_S_) : EReal) = 0 := Ideal.ofBits_zero_f32
theorem zero22 : (val_main_cst_22 (F := Ideal) (Shape.Idx.first h_S_) : EReal) = 0 := Ideal.ofBits_zero_f32

theorem placed0 (b : Fin 2) (p : Fin 2048) (e : Fin 512) : (val_main_v150 (F := Ideal) d w (ix4 b p 0 e) : EReal) = val_main_v147 (F := Ideal) d w (ix3 b p e) := by
  pointwise [val_main_v150, val_main_v149, val_main_v137, val_main_v136, val_main_v124, val_main_v123, val_main_v111, val_main_v148]
  rw [zero16, zero18, zero20]
  simp only [zero_add, add_zero]

theorem placed1 (b : Fin 2) (p : Fin 2048) (e : Fin 512) : (val_main_v150 (F := Ideal) d w (ix4 b p 1 e) : EReal) = val_main_v134 (F := Ideal) d w (ix3 b p e) := by
  pointwise [val_main_v150, val_main_v149, val_main_v137, val_main_v136, val_main_v124, val_main_v123, val_main_v111, val_main_v135]
  rw [zero16, zero18, zero22]
  simp only [zero_add, add_zero]

theorem placed2 (b : Fin 2) (p : Fin 2048) (e : Fin 512) : (val_main_v150 (F := Ideal) d w (ix4 b p 2 e) : EReal) = val_main_v121 (F := Ideal) d w (ix3 b p e) := by
  pointwise [val_main_v150, val_main_v149, val_main_v137, val_main_v136, val_main_v124, val_main_v123, val_main_v111, val_main_v122]
  rw [zero16, zero20, zero22]
  simp only [zero_add, add_zero]

theorem placed3 (b : Fin 2) (p : Fin 2048) (e : Fin 512) : (val_main_v150 (F := Ideal) d w (ix4 b p 3 e) : EReal) = val_main_v109 (F := Ideal) d w (ix3 b p e) := by
  pointwise [val_main_v150, val_main_v149, val_main_v137, val_main_v136, val_main_v124, val_main_v123, val_main_v111, val_main_v110]
  rw [zero18, zero20, zero22]
  simp only [zero_add, add_zero]

theorem grouped (hd : AllReal d) (hw : AllReal w) (b : Fin 2) (p : Fin 2048) (g : Fin 4) (e : Fin 512) :
    (val_main_v150 (F := Ideal) d w (ix4 b p g e) : EReal) = window g.val (share g.val (dP d w b g e)) p.val - dP d w b g e p.val := by
  obtain ⟨f, hf⟩ := pooled_real d w hd hw b g e
  revert f
  refine Fin.cases ?_ (fun g => Fin.cases ?_ (fun g => Fin.cases ?_ (fun g => ?_) g) g) g
  · exact fun f hf => (placed0 d w b p e).trans (group0 d w b e f hf p)
  · exact fun f hf => (placed1 d w b p e).trans (group1 d w b e f hf p)
  · exact fun f hf => (placed2 d w b p e).trans (group2 d w b e f hf p)
  · obtain rfl : g = 0 := Subsingleton.elim (α := Fin 1) _ _
    exact fun f hf => (placed3 d w b p e).trans (group3 d w b e f hf p)

variable (o : FVec Ideal S4096x4096 .bf16)

/-- The reference's result, over finite arguments. -/
theorem ref (hd : AllReal d) (hw : AllReal w) (i : S4096x4096.Idx) :
    (val_main_v155 (F := Ideal) d w o i : EReal) = after d w o (i 0).val (i 1).val (i 0).isLt (i 1).isLt := by
  have h0 : (i 0).val < 4096 := (i 0).isLt
  have h1 : (i 1).val < 4096 := (i 1).isLt
  by_cases h : (i 1).val < 2048
  · refine Eq.trans ?_ ((grouped d w hd hw (⟨(i 0).val / 2048, by omega⟩ : Fin 2) (⟨(i 0).val % 2048, by omega⟩ : Fin 2048)
      (⟨(i 1).val / 512, by omega⟩ : Fin 4) (⟨(i 1).val % 512, by omega⟩ : Fin 512)).trans (after_inside _ _ _ _ _ _ _ _ _ _ _ (by simp only []; omega) (by simp only []; omega)).symm)
    pointwise [val_main_v155, val_main_v154, val_main_v153, val_main_v152, val_main_v151]
    rw [dif_pos h]
  · rw [after_outside _ _ _ i h]
    pointwise [val_main_v155, val_main_v154, val_main_v153, val_main_v152, val_main_v151]
    rw [dif_neg h]
    exact (congrArg o (funext fun a => by
      match a with
      | ⟨0, _⟩ => rfl
      | ⟨1, _⟩ => exact Fin.ext (by show 2048 + ((i 1).val - 2048) = (i 1).val; omega)))

end Cert.PoolGradRefIdeal.Hand
-- ==== Proof.PoolGrad.Claim.lean ====
module

public import proofs.«01_k».proof.Defs
public import proofs.«01_k».proof.Proof.Gen.PoolGrad
public import proofs.«01_k».proof.Proof.Gen.Pre_poolb_finite
public import proofs.«01_k».proof.Proof.PoolGrad.Ref
public import proofs.«01_k».proof.Proof.PoolGrad.Blocks
public import Idealize.ShloMosaic.Lib.Claim

/-! The pooling's gradient: the precondition read, the equation of the two programs, the frames. -/

@[expose] public section

set_option maxRecDepth 16384

noncomputable section

namespace Cert.PoolGradIdeal.Hand

open Idealize.ShloMosaic Idealize.ShloMosaic.TcCoe
open Cert.Finite

/-- What the precondition says: the gradient and the weights are arrays of real numbers. -/
theorem real_of_pre [Cert.Pre_poolb_finite.Facts] (x0 : FVec Ideal S4096x2048 .bf16) (x1 : FVec Ideal S4x512x512 .f32) (x2 : FVec Ideal S4096x4096 .bf16) (x3 : FVec Ideal S1x1 .f32)
    (h : Cert.Pre_poolb_finite.fn (F := Ideal) x0 x1 x2 x3 = fun _ => 1#1) : AllReal x0 ∧ AllReal x1 := by
  have h' := congrFun h (Shape.Idx.first (by decide))
  unfold Cert.Pre_poolb_finite.fn at h'
  obtain ⟨h0, h1⟩ := andi_eq_one h'
  exact ⟨fun i => real_of_olt _ (all_of_reduce _ _ _ _ _ rfl h0 i), fun i => real_of_olt _ (all_of_reduce _ _ _ _ _ rfl h1 i)⟩

/-- The two results, over equal arguments. -/
theorem equal (x0 y0 : FVec Ideal S4096x2048 .bf16) (x1 y1 : FVec Ideal S4x512x512 .f32) (x2 y2 : FVec Ideal S4096x4096 .bf16)
    (a0 : y0 = x0) (a1 : y1 = x1) (a2 : y2 = x2) (p0 : AllReal x0) (p1 : AllReal x1) (i : S4096x4096.Idx) :
    after x0 x1 x2 (i 0).val (i 1).val (i 0).isLt (i 1).isLt = Cert.PoolGradRefIdeal.Read.val_main_v155 (F := Ideal) y0 y1 y2 i := by
  subst a0 a1 a2
  exact (Cert.PoolGradRefIdeal.Hand.ref _ _ _ p0 p1 i).symm

/-- The kernel's result is the reference's. -/
theorem algebraic : Cert.algebraic_PoolGradIdeal_PoolGradRefIdeal_pre_poolb_finite
    (hPoolGradIdeal := Cert.PoolGradIdeal.Gen.facts) (hPoolGradRefIdeal := Cert.PoolGradRefIdeal.Gen.facts)
    (hPre_poolb_finite := Cert.Pre_poolb_finite.Gen.facts) := by
  letI := Cert.Pre_poolb_finite.Gen.facts
  intro m g m' g' hpre hagree
  refine ⟨_, ?_, θ_run_mono (Cert.PoolGradRefIdeal.Value.run m' g') fun r h c => h c⟩
  refine θ_run_mono (Cert.PoolGradIdeal.Value.run_blocks m g) fun r h c => ?_
  obtain ⟨e0, kept⟩ := h c
  obtain ⟨a0, a1, a2, a3⟩ := hagree c
  obtain ⟨p0, p1⟩ := real_of_pre _ _ _ _ (hpre c)
  refine ⟨e0.trans (funext fun i => ?_), kept⟩
  rw [Cert.PoolGradRefIdeal.Read.val_main_v155_eq]
  exact (congrFun (final m c) i).trans (equal _ _ _ _ _ _ a0 a1 a2 p0 p1 i)

/-- The program as compiled and its ideal reading have one body table: their texts agree. -/
theorem defs_eq : Cert.PoolGrad.defs (F := Bits) = Cert.PoolGradIdeal.defs (F := Bits) := by sl_kernel_rfl

/-- The frame of the program as compiled is the ideal program's run, at the bit patterns. -/
theorem frame_kernel : Cert.quiescent_PoolGrad (hPoolGrad := Cert.PoolGrad.Gen.facts) := fun m ρ _ => by
  have h := Cert.PoolGradIdeal.Gen.frame (F := Bits) m ρ
  rw [← defs_eq] at h
  exact h

/-- The reference's frame: host operations only, none of which writes an argument, and no semaphore. -/
theorem frame_reference : Cert.quiescent_PoolGradRefIdeal (hPoolGradRefIdeal := Cert.PoolGradRefIdeal.Gen.facts) := fun m ρ _ =>
  θ_run_mono (Cert.PoolGradRefIdeal.Value.run m ρ) fun r h => ⟨fun c => (h c).2, sem_eq_zero_of_no_sems (by decide) r.2⟩

end Cert.PoolGradIdeal.Hand
-- ==== Proof.Rows.lean ====
module

public import Idealize.ShloMosaic.Lib.WritesUnit
public import Idealize.ShloMosaic.Lib.Pipeline.ValueKit

/-! A buffer of rows read and written a block of rows at a time. -/

@[expose] public section

noncomputable section

namespace Cert.Rows

open Idealize.ShloMosaic

variable {α : Type} {n B R C : ℕ} (hR : n * B ≤ R)

theorem row_lt {R : ℕ} (hR : n * B ≤ R) (b : Fin n) (j : Fin B) : B * b.val + j.val < R :=
  Nat.lt_of_lt_of_le (by rw [Nat.mul_comm n B]; exact Nat.lt_of_lt_of_le (Nat.add_lt_add_left j.isLt _) (Nat.mul_le_mul_left B b.isLt)) hR

/-- Row block `b`. -/
def rows (b : Fin n) (g : (⟨2, ![R, C]⟩ : Shape).Idx → α) : (⟨2, ![B, C]⟩ : Shape).Idx → α := fun j =>
  g (ix2 (⟨B * b.val + (j 0).val, row_lt hR b (j 0)⟩ : Fin R) (⟨(j 1).val, (j 1).isLt⟩ : Fin C))

/-- The contents with row block `b` replaced. -/
def put (b : Fin n) (g : (⟨2, ![R, C]⟩ : Shape).Idx → α) (x : (⟨2, ![B, C]⟩ : Shape).Idx → α) : (⟨2, ![R, C]⟩ : Shape).Idx → α := fun j =>
  if h : B * b.val ≤ (j 0).val ∧ (j 0).val < B * b.val + B
  then x (ix2 (⟨(j 0).val - B * b.val, by omega⟩ : Fin B) (⟨(j 1).val, (j 1).isLt⟩ : Fin C)) else g j

theorem rows_put_same (b : Fin n) (g : (⟨2, ![R, C]⟩ : Shape).Idx → α) (x : (⟨2, ![B, C]⟩ : Shape).Idx → α) : rows hR b (put b g x) = x := by
  funext j
  have hj : (j 0).val < B := (j 0).isLt
  unfold rows put
  refine (dif_pos (show B * b.val ≤ B * b.val + (j 0).val ∧ B * b.val + (j 0).val < B * b.val + B from by omega)).trans ?_
  congr 1
  funext a
  match a with
  | ⟨0, _⟩ => exact Fin.ext (by show B * b.val + (j 0).val - B * b.val = _; exact Nat.add_sub_cancel_left ..)
  | ⟨1, _⟩ => rfl

theorem rows_put_other {b b' : Fin n} (h : b' ≠ b) (g : (⟨2, ![R, C]⟩ : Shape).Idx → α) (x : (⟨2, ![B, C]⟩ : Shape).Idx → α) :
    rows hR b' (put b g x) = rows hR b' g := by
  funext j
  have hj : (j 0).val < B := (j 0).isLt
  unfold rows put
  rw [dif_neg]
  intro hc
  have h1 : B * b.val ≤ B * b'.val + (j 0).val := hc.1
  have h2 : B * b'.val + (j 0).val < B * b.val + B := hc.2
  rcases Nat.lt_or_gt_of_ne (fun e => h (Fin.ext e)) with h | h
  · have := Nat.mul_le_mul_left B (show b'.val + 1 ≤ b.val from h)
    rw [Nat.mul_succ] at this; omega
  · have := Nat.mul_le_mul_left B (show b.val + 1 ≤ b'.val from h)
    rw [Nat.mul_succ] at this; omega

theorem put_put (b : Fin n) (g : (⟨2, ![R, C]⟩ : Shape).Idx → α) (x y : (⟨2, ![B, C]⟩ : Shape).Idx → α) : put b (put b g x) y = put b g y := by
  funext j; unfold put; split <;> rfl

variable {sig : RefSig} {κ : Kind} {sp : Space} {e : EltTy} {Val : EltTy → Type} (v : View sig κ sp (⟨2, ![R, C]⟩ : Shape) e)
  (f : v.ty.Contents Val) (b : Fin n) {off off' : Fin 2 → ℕ} (inb : ∀ a, off a + (![B, C] : Fin 2 → ℕ) a ≤ (![R, C] : Fin 2 → ℕ) a)
  (inb' : ∀ a, off' a + (![B, C] : Fin 2 → ℕ) a ≤ (![R, C] : Fin 2 → ℕ) a) (ho : off = ![B * b.val, 0]) (ho' : off' = ![B * b.val, 0])

include ho in
theorem load : v.readAt Val (Rect.unit (s := (⟨2, ![R, C]⟩ : Shape)) off ![B, C] inb).toLoadRect f = rows hR b (v.read Val f) := by
  subst ho
  funext j
  rw [View.readAt_apply]
  unfold rows
  congr 1
  funext a
  match a with
  | ⟨0, _⟩ => exact Fin.ext (by show B * b.val + 1 * (j 0).val = _; rw [Nat.one_mul]; rfl)
  | ⟨1, _⟩ => exact Fin.ext (by show 0 + 1 * (j 1).val = _; rw [Nat.one_mul, Nat.zero_add]; rfl)

variable (L : List (View.Piece Val (⟨2, ![R, C]⟩ : Shape) e)) (x : (⟨2, ![B, C]⟩ : Shape).Idx → Val e)

include ho in
theorem store_cons : v.read Val (v.writes Val f (⟨Rect.unit (s := (⟨2, ![R, C]⟩ : Shape)) off ![B, C] inb, x⟩ :: L)) = put b (v.read Val (v.writes Val f L)) x := by
  funext j
  unfold put
  split
  · next h =>
    refine View.read_writes_cons_unit_of_mem _ _ inb _ _ _ _ ho ?_
    intro a
    match a with
    | ⟨0, _⟩ => show (j 0).val = B * b.val + ((j 0).val - B * b.val); omega
    | ⟨1, _⟩ => show (j 1).val = 0 + (j 1).val; omega
  · next h =>
    refine (View.read_writes_cons_unit_of_not_mem _ _ inb _ _ _ ho 0 ?_)
    show (j 0).val < B * b.val ∨ B * b.val + B ≤ (j 0).val
    omega

include ho in
theorem store : v.read Val (v.writes Val f [⟨Rect.unit (s := (⟨2, ![R, C]⟩ : Shape)) off ![B, C] inb, x⟩]) = put b (v.read Val f) x :=
  (store_cons v f b inb ho [] x).trans (by rw [View.writes_nil])

include ho ho' hR in
theorem cov [∀ e, Nonempty (Val e)] : v.readCov (⟨Rect.unit (s := (⟨2, ![R, C]⟩ : Shape)) off ![B, C] inb, x⟩ :: L) (Rect.unit (s := (⟨2, ![R, C]⟩ : Shape)) off' ![B, C] inb').toLoadRect = x :=
  (load hR v _ b inb' ho').trans ((congrArg (rows hR b) (store_cons v _ b inb ho L x)).trans (rows_put_same hR b _ x))

end Cert.Rows

end
-- ==== Proof.NormGrad.Run.lean ====
/-
  One run of the body of the gradient of a projection behind a norm, in its four cases: the first grid point, the other points of the
  first slab of the contracted axis, the points of the slabs between, and the points of the last slab.
  The scratch holds the product's partial sums, eight blocks of 512 rows; a point reads and replaces one block.
-/
module

public import proofs.«01_k».proof.Proof.Gen.NormGradIdeal.Skeleton
public import proofs.«01_k».proof.Proof.Gen.NormGradIdeal.Frame
public import proofs.«01_k».proof.Proof.Rows
public import Idealize.ShloMosaic.Lib.VecWindow

@[expose] public section

set_option maxRecDepth 16384
set_option maxHeartbeats 1000000

noncomputable section

namespace Cert.NormGradIdeal.Hand

open Cert.NormGradIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The scratch. -/
abbrev sc : Memref sig .tc .vmem S4096x1024 .f32 := Memref.whole cc0_scratch0

/-- A block of the scratch's rows. -/
theorem hR : 8 * 512 ≤ 4096 := by decide
abbrev rows (b : Fin 8) (g : S4096x1024.Idx → Elt F .f32) : Vec F S512x1024 .f32 := Rows.rows hR b g
abbrev put (b : Fin 8) (g : S4096x1024.Idx → Elt F .f32) (x : Vec F S512x1024 .f32) : S4096x1024.Idx → Elt F .f32 := Rows.put b g x

/-! ## The runs -/

variable (c : Dev nD) (i : grid0.Coords) (b : Fin 8)
  (arg2 : Memref sig .tc .vmem S512x1536 .bf16) (harg2 : arg2.IsWhole) (arg3 : Memref sig .tc .vmem S1x1024x1536 .bf16) (harg3 : arg3.IsWhole)
  (arg4 : Memref sig .tc .vmem S512x1024 .f32) (harg4 : arg4.IsWhole) (arg5 : Memref sig .tc .vmem S1x1024 .f32) (harg5 : arg5.IsWhole)
  (arg6 : Memref sig .tc .vmem S512x1024 .f32) (harg6 : arg6.IsWhole) (arg7 : Memref sig .tc .vmem S512x1024 .f32) (harg7 : arg7.IsWhole)
  (arg8 : Memref sig .tc .vmem S1x1024 .f32) (harg8 : arg8.IsWhole) (arg9 : Memref sig .tc .vmem S512x1024 .bf16) (harg9 : arg9.IsWhole)
  (x0 : Vec F S512x1536 .bf16) (x1 : Vec F S1x1024x1536 .bf16) (x2 : Vec F S512x1024 .f32) (x3 : Vec F S1x1024 .f32) (x4 : Vec F S512x1024 .f32)
  (y5 : Vec F S512x1024 .f32) (y6 : Vec F S1x1024 .f32) (y7 : Vec F S512x1024 .bf16) (g : S4096x1024.Idx → Elt F .f32)

/-- The eight staging buffers and the scratch at given contents. -/
abbrev Held (y5 : Vec F S512x1024 .f32) (y6 : Vec F S1x1024 .f32) (y7 : Vec F S512x1024 .bf16) (g : S4096x1024.Idx → Elt F .f32) : sProp 𝕄 :=
  iprop(owns c arg2 fullShare x0 ∗ owns c arg3 fullShare x1 ∗ owns c arg4 fullShare x2
    ∗ owns c arg5 fullShare x3 ∗ owns c arg6 fullShare x4 ∗ owns c arg7 fullShare y5
    ∗ owns c arg8 fullShare y6 ∗ owns c arg9 fullShare y7 ∗ owns c sc fullShare g)

-- The buffers' contents, and a run of the body.
set_option quotPrecheck false in
local notation "held" => Held c arg2 arg3 arg4 arg5 arg6 arg7 arg8 arg9 x0 x1 x2 x3 x4
set_option quotPrecheck false in
local notation "ran(" K ")" => wp frame (wpE (defs₀ (F := F)) Variants.none c none) Set.univ
          (cc0_sb_in_bwd i arg2 harg2 arg3 harg3 arg4 harg4 arg5 harg5 arg6 harg6 arg7 harg7 arg8 harg8 arg9 harg9 sc (Memref.isWhole_whole _)) K

/-- A point of a slab between: the product's next partial sum. -/
theorem run_mid (h2 : k0_off2 i = ![512 * b.val, 0]) (hc1 : ¬ k0_cond1 i = 1#1) (hc2 : ¬ k0_cond2 i = 1#1) (hc3 : ¬ k0_cond3 i = 1#1) (K : PUnit → sProp 𝕄) :
    iprop(held y5 y6 y7 g
        ∗ (held y5 y6 y7 (put b g (k0_pay3 (rows b g) x0 x1)) -∗ K ⟨⟩))
      ⊢ ran(K) := by
  simp only [cc0_sb_in_bwd_eq_skeleton]; unfold cc0_sb_in_bwd_skel
  simp only [k0_part1_eq_skeleton]
  unfold Held owns
  iintro ⟨⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩⟩, Hk⟩
  sl_exec (disch := first | sl_exact hc1 | sl_exact hc2 | sl_exact hc3)
  sl_step
  iapply Hk
  isplitl [H0]
  · iexists _; iframe H0; ipureintro; exact e0
  isplitl [H1]
  · iexists _; iframe H1; ipureintro; exact e1
  isplitl [H2]
  · iexists _; iframe H2; ipureintro; exact e2
  isplitl [H3]
  · iexists _; iframe H3; ipureintro; exact e3
  isplitl [H4]
  · iexists _; iframe H4; ipureintro; exact e4
  isplitl [H5]
  · iexists _; iframe H5; ipureintro; exact e5
  isplitl [H6]
  · iexists _; iframe H6; ipureintro; exact e6
  isplitl [H7]
  · iexists _; iframe H7; ipureintro; exact e7
  iexists _; isplitr; rotate_left; · iexact H8
  ipureintro; exact (Rows.store sc.view _ b _ h2 _).trans (congr (congrArg (put b) e8) (congr (congr (congrArg k0_pay3 ((Rows.load hR sc.view _ b _ h2).trans (congrArg (rows b) e8))) ((View.readAt_full _ _ _).trans e0)) ((View.readAt_full _ _ _).trans e1)))

/-- A later point of the first slab: the sum starts at zero. -/
theorem run_fst (h2 : k0_off2 i = ![512 * b.val, 0]) (h1 : k0_off1 i = ![512 * b.val, 0]) (hc1 : k0_cond1 i = 1#1) (hc2 : ¬ k0_cond2 i = 1#1) (hc3 : ¬ k0_cond3 i = 1#1) (K : PUnit → sProp 𝕄) :
    iprop(held y5 y6 y7 g
        ∗ (held y5 y6 y7 (put b g (k0_pay3 (k0_pay1 (F := F)) x0 x1)) -∗ K ⟨⟩))
      ⊢ ran(K) := by
  simp only [cc0_sb_in_bwd_eq_skeleton]; unfold cc0_sb_in_bwd_skel
  simp only [k0_part1_eq_skeleton]
  unfold Held owns
  iintro ⟨⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩⟩, Hk⟩
  sl_exec (disch := first | sl_exact hc1 | sl_exact hc2 | sl_exact hc3)
  sl_step
  iapply Hk
  isplitl [H0]
  · iexists _; iframe H0; ipureintro; exact e0
  isplitl [H1]
  · iexists _; iframe H1; ipureintro; exact e1
  isplitl [H2]
  · iexists _; iframe H2; ipureintro; exact e2
  isplitl [H3]
  · iexists _; iframe H3; ipureintro; exact e3
  isplitl [H4]
  · iexists _; iframe H4; ipureintro; exact e4
  isplitl [H5]
  · iexists _; iframe H5; ipureintro; exact e5
  isplitl [H6]
  · iexists _; iframe H6; ipureintro; exact e6
  isplitl [H7]
  · iexists _; iframe H7; ipureintro; exact e7
  iexists _; isplitr; rotate_left; · iexact H8
  ipureintro; exact (Rows.store_cons sc.view _ b _ h2 _ _).trans ((congr (congrArg (put b) ((Rows.store sc.view _ b _ h1 _).trans (congrArg (fun q => put b q _) e8))) (congr (congr (congrArg k0_pay3
      (Rows.cov hR sc.view b _ _ h1 h2 [] _)) ((View.readAt_full _ _ _).trans e0)) ((View.readAt_full _ _ _).trans e1))).trans (Rows.put_put b _ _ _))

/-- The first point: the gain's gradient starts at zero too. -/
theorem run_zero (h2 : k0_off2 i = ![512 * b.val, 0]) (h1 : k0_off1 i = ![512 * b.val, 0]) (hc1 : k0_cond1 i = 1#1) (hc2 : k0_cond2 i = 1#1) (hc3 : ¬ k0_cond3 i = 1#1) (K : PUnit → sProp 𝕄) :
    iprop(held y5 y6 y7 g
        ∗ (held y5 (k0_pay2 (F := F)) y7 (put b g (k0_pay3 (k0_pay1 (F := F)) x0 x1)) -∗ K ⟨⟩))
      ⊢ ran(K) := by
  simp only [cc0_sb_in_bwd_eq_skeleton]; unfold cc0_sb_in_bwd_skel
  simp only [k0_part1_eq_skeleton]
  unfold Held owns
  iintro ⟨⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩⟩, Hk⟩
  sl_exec (disch := first | sl_exact hc1 | sl_exact hc2 | sl_exact hc3)
  sl_step
  iapply Hk
  isplitl [H0]
  · iexists _; iframe H0; ipureintro; exact e0
  isplitl [H1]
  · iexists _; iframe H1; ipureintro; exact e1
  isplitl [H2]
  · iexists _; iframe H2; ipureintro; exact e2
  isplitl [H3]
  · iexists _; iframe H3; ipureintro; exact e3
  isplitl [H4]
  · iexists _; iframe H4; ipureintro; exact e4
  isplitl [H5]
  · iexists _; iframe H5; ipureintro; exact e5
  isplitl [H6]
  · iexists _; isplitr; rotate_left; · iexact H6
    ipureintro; exact View.read_writes_full _ _ _ _ _
  isplitl [H7]
  · iexists _; iframe H7; ipureintro; exact e7
  iexists _; isplitr; rotate_left; · iexact H8
  ipureintro; exact (Rows.store_cons sc.view _ b _ h2 _ _).trans ((congr (congrArg (put b) ((Rows.store sc.view _ b _ h1 _).trans (congrArg (fun q => put b q _) e8))) (congr (congr (congrArg k0_pay3
      (Rows.cov hR sc.view b _ _ h1 h2 [] _)) ((View.readAt_full _ _ _).trans e0)) ((View.readAt_full _ _ _).trans e1))).trans (Rows.put_put b _ _ _))

/-- A point of the last slab: the sum is whole, and the block's gradients are written. -/
theorem run_last (h2 : k0_off2 i = ![512 * b.val, 0]) (h3 : k0_off3 i = ![512 * b.val, 0]) (hc1 : ¬ k0_cond1 i = 1#1) (hc2 : ¬ k0_cond2 i = 1#1) (hc3 : k0_cond3 i = 1#1) (K : PUnit → sProp 𝕄) :
    iprop(held y5 y6 y7 g
        ∗ (held (k0_pay7 (k0_pay3 (rows b g) x0 x1) x2 x3 x4) (k0_pay6 (k0_pay3 (rows b g) x0 x1) x2 y6) (k0_pay8 (k0_pay3 (rows b g) x0 x1) x2 x3 x4) (put b g (k0_pay3 (rows b g) x0 x1)) -∗ K ⟨⟩))
      ⊢ ran(K) := by
  simp only [cc0_sb_in_bwd_eq_skeleton]; unfold cc0_sb_in_bwd_skel
  simp only [k0_part1_eq_skeleton]
  unfold Held owns
  iintro ⟨⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩⟩, Hk⟩
  sl_exec (disch := first | sl_exact hc1 | sl_exact hc2 | sl_exact hc3)
  sl_step
  iapply Hk
  isplitl [H0]
  · iexists _; iframe H0; ipureintro; exact e0
  isplitl [H1]
  · iexists _; iframe H1; ipureintro; exact e1
  isplitl [H2]
  · iexists _; iframe H2; ipureintro; exact e2
  isplitl [H3]
  · iexists _; iframe H3; ipureintro; exact e3
  isplitl [H4]
  · iexists _; iframe H4; ipureintro; exact e4
  isplitl [H5]
  · iexists _; isplitr; rotate_left; · iexact H5
    ipureintro; refine (View.read_writes_full _ _ _ _ _).trans (congr (congr (congr (congrArg k0_pay7 ?_) ((View.readAt_full _ _ _).trans e2)) ((View.readAt_full _ _ _).trans e3)) ((View.readAt_full _ _ _).trans e4))
    unfold run_last.sl.v25
    unfold run_last.sl.H8_1
    refine (Rows.cov hR _ b _ _ h2 h3 _ _).trans ?_
    exact congr (congr (congrArg k0_pay3 ((Rows.load hR sc.view _ b _ h2).trans (congrArg (rows b) e8))) ((View.readAt_full _ _ _).trans e0)) ((View.readAt_full _ _ _).trans e1)
  isplitl [H6]
  · iexists _; isplitr; rotate_left; · iexact H6
    ipureintro; refine (View.read_writes_full _ _ _ _ _).trans (congr (congr (congrArg k0_pay6 ?_) ((View.readAt_full _ _ _).trans e2)) ((View.readAt_full _ _ _).trans e6))
    unfold run_last.sl.v25
    unfold run_last.sl.H8_1
    refine (Rows.cov hR _ b _ _ h2 h3 _ _).trans ?_
    exact congr (congr (congrArg k0_pay3 ((Rows.load hR sc.view _ b _ h2).trans (congrArg (rows b) e8))) ((View.readAt_full _ _ _).trans e0)) ((View.readAt_full _ _ _).trans e1)
  isplitl [H7]
  · iexists _; isplitr; rotate_left; · iexact H7
    ipureintro; refine (View.read_writes_full _ _ _ _ _).trans (congr (congr (congr (congrArg k0_pay8 ?_) ((View.readAt_full _ _ _).trans e2)) ((View.readAt_full _ _ _).trans e3)) ((View.readAt_full _ _ _).trans e4))
    unfold run_last.sl.v25
    unfold run_last.sl.H8_1
    refine (Rows.cov hR _ b _ _ h2 h3 _ _).trans ?_
    exact congr (congr (congrArg k0_pay3 ((Rows.load hR sc.view _ b _ h2).trans (congrArg (rows b) e8))) ((View.readAt_full _ _ _).trans e0)) ((View.readAt_full _ _ _).trans e1)
  iexists _; isplitr; rotate_left; · iexact H8
  ipureintro; exact (Rows.store sc.view _ b _ h2 _).trans (congr (congrArg (put b) e8) (congr (congr (congrArg k0_pay3 ((Rows.load hR sc.view _ b _ h2).trans (congrArg (rows b) e8))) ((View.readAt_full _ _ _).trans e0)) ((View.readAt_full _ _ _).trans e1)))

end Cert.NormGradIdeal.Hand

end
-- ==== Proof.NormGrad.Frame.lean ====
/-
  The frame of the gradient of a projection behind a norm, over any numbers. The grid is four slabs of the contracted axis by eight blocks
  of rows, slab after slab. The scratch keeps one partial sum for each block of rows from one slab to the next; in the last slab every
  block's sum is whole and its gradients are written.
-/
module

public import proofs.«01_k».proof.Proof.NormGrad.Run

@[expose] public section

set_option maxRecDepth 16384
set_option maxHeartbeats 1000000

noncomputable section

namespace Cert.NormGradIdeal.Hand

open Cert.NormGradIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points -/

/-- Point `n`. -/
def pt (n : ℕ) : Fin cfg0.N := ⟨n % 32, Nat.lt_of_lt_of_eq (Nat.mod_lt _ (by decide)) N_0.symm⟩

theorem pt_val (t : Fin cfg0.N) : pt t.val = t := Fin.ext (Nat.mod_eq_of_lt (Nat.lt_of_lt_of_eq t.isLt N_0))

/-- Point `n`'s block of rows. -/
def blk (n : ℕ) : Fin 8 := ⟨n % 8, Nat.mod_lt _ (by decide)⟩

theorem conds : ∀ t : Fin cfg0.N, (k0_cond1 (grid0.coords t) = 1#1 ↔ t.val < 8) ∧ (k0_cond2 (grid0.coords t) = 1#1 ↔ t.val = 0) ∧ (k0_cond3 (grid0.coords t) = 1#1 ↔ 24 ≤ t.val) :=
  (by decide +kernel : ∀ t : Fin grid0.N, _)

theorem offs : ∀ t : Fin cfg0.N, k0_off1 (grid0.coords t) = ![512 * (blk t.val).val, 0] ∧ k0_off2 (grid0.coords t) = ![512 * (blk t.val).val, 0]
    ∧ k0_off3 (grid0.coords t) = ![512 * (blk t.val).val, 0] :=
  (by decide +kernel : ∀ t : Fin grid0.N, _)

theorem flushes : ∀ t : Fin cfg0.N, ((cfg0.win 5).flush t = decide (24 ≤ t.val)) ∧ ((cfg0.win 7).flush t = decide (24 ≤ t.val)) ∧ ((cfg0.win 6).flush t = decide (t.val = 31)) :=
  (by decide +kernel : ∀ t : Fin grid0.N, (win0_5.flush t = decide (24 ≤ t.val)) ∧ (win0_7.flush t = decide (24 ≤ t.val)) ∧ (win0_6.flush t = decide (t.val = 31)))

theorem idles : ∀ t : Fin cfg0.N, (cfg0.idle 5 (cfg0.grid.coords t) = decide (t.val < 24)) ∧ (cfg0.idle 7 (cfg0.grid.coords t) = decide (t.val < 24))
    ∧ (cfg0.idle 6 (cfg0.grid.coords t) = decide (t.val ≠ 0 ∧ t.val < 24)) :=
  (by decide +kernel : ∀ t : Fin grid0.N, (idle0 5 (grid0.coords t) = decide (t.val < 24)) ∧ (idle0 7 (grid0.coords t) = decide (t.val < 24))
    ∧ (idle0 6 (grid0.coords t) = decide (t.val ≠ 0 ∧ t.val < 24)))

/-! ## What the points compute -/

/-- Input window contents at point `t`. -/
abbrev B0 (c : Dev nD) (t : Fin cfg0.N) : Vec F S512x1536 .bf16 := iblk m c 0 t
abbrev B1 (c : Dev nD) (t : Fin cfg0.N) : Vec F S1x1024x1536 .bf16 := iblk m c 1 t
abbrev B2 (c : Dev nD) (t : Fin cfg0.N) : Vec F S512x1024 .f32 := iblk m c 2 t
abbrev B3 (c : Dev nD) (t : Fin cfg0.N) : Vec F S1x1024 .f32 := iblk m c 3 t
abbrev B4 (c : Dev nD) (t : Fin cfg0.N) : Vec F S512x1024 .f32 := iblk m c 4 t

/-- Row block `b`'s partial sum after slab `k`. -/
def part (c : Dev nD) : ℕ → Fin 8 → Vec F S512x1024 .f32
  | 0, b => k0_pay3 (k0_pay1 (F := F)) (B0 m c (pt b.val)) (B1 m c (pt b.val))
  | k + 1, b => k0_pay3 (part c k b) (B0 m c (pt (8 * (k + 1) + b.val))) (B1 m c (pt (8 * (k + 1) + b.val)))

/-- The gain's gradient after point `n`. -/
def dgain (c : Dev nD) : ℕ → Vec F S1x1024 .f32
  | 0 => k0_pay2 (F := F)
  | n + 1 => if n + 1 < 24 then k0_pay2 (F := F) else k0_pay6 (part m c 3 (blk (n + 1))) (B2 m c (pt (n + 1))) (dgain c n)

theorem dgain_early (c : Dev nD) : ∀ n, n < 24 → dgain m c n = k0_pay2 (F := F)
  | 0, _ => rfl
  | n + 1, h => by unfold dgain; exact if_pos h
theorem dgain_late (c : Dev nD) (n : ℕ) (h : 24 ≤ n) : dgain m c n = k0_pay6 (part m c 3 (blk n)) (B2 m c (pt n)) (dgain m c (n - 1)) := by
  obtain ⟨n, rfl⟩ : ∃ n', n = n' + 1 := ⟨n - 1, by omega⟩
  rw [dgain]
  exact if_neg (by omega)

/-- What the scratch holds before point `n`: each block's partial sum from its last point on. -/
def Ok (c : Dev nD) (n : ℕ) (g : S4096x1024.Idx → Elt F .f32) : Prop :=
  ∀ (k : ℕ) (b : Fin 8), 8 * k + b.val < n → n ≤ 8 * (k + 1) + b.val → rows b g = part m c k b

theorem ok_step (c : Dev nD) (n k : ℕ) (b : Fin 8) (hn : n = 8 * k + b.val) (g : S4096x1024.Idx → Elt F .f32) (h : Ok m c n g)
    (x : Vec F S512x1024 .f32) (hx : x = part m c k b) : Ok m c (n + 1) (put b g x) := by
  intro k' b' h1 h2
  have hb : b.val < 8 := b.isLt
  have hb' : b'.val < 8 := b'.isLt
  by_cases e : b' = b
  · subst e
    have : k' = k := by omega
    subst this
    exact (Rows.rows_put_same hR _ _ _).trans hx
  · have he : b'.val ≠ b.val := fun h => e (Fin.ext h)
    exact (Rows.rows_put_other hR e _ _).trans (h k' b' (by omega) (by omega))

theorem part_zero (c : Dev nD) (t : Fin cfg0.N) (h : t.val < 8) : part m c 0 (blk t.val) = k0_pay3 (k0_pay1 (F := F)) (B0 m c t) (B1 m c t) := by
  have e : pt (blk t.val).val = t := by rw [show (blk t.val).val = t.val from Nat.mod_eq_of_lt h]; exact pt_val t
  unfold part; rw [e]

theorem part_next (c : Dev nD) (t : Fin cfg0.N) (k : ℕ) (h : t.val = 8 * (k + 1) + (blk t.val).val) : part m c (k + 1) (blk t.val) = k0_pay3 (part m c k (blk t.val)) (B0 m c t) (B1 m c t) := by
  have e : pt (8 * (k + 1) + (blk t.val).val) = t := by rw [← h]; exact pt_val t
  rw [part, e]

/-! ## The proof's data -/

/-- Before point `n`: the scratch, and the register of the random numbers. -/
def inv (c : Dev nD) (n : ℕ) : sProp 𝕄 :=
  iprop((∃ g, ⌜Ok m c n g⌝ ∗ owns c sc fullShare g) ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay7 (part m c 3 (blk t.val)) (B2 m c t) (B3 m c t) (B4 m c t)
    | ⟨6, _⟩ => dgain m c t.val
    | ⟨7, _⟩ => k0_pay8 (part m c 3 (blk t.val)) (B2 m c t) (B3 m c t) (B4 m c t)
  Φ n := inv m c n.val
  q _ := fullShare
  owed _ := 0

theorem A_eq (c : Dev nD) (w : Fin cfg0.W) : (dats m 0 c).A w = V m c (Pipeline.arrRef spec0 w) := by dsimp only [dats]
theorem before0 (c : Dev nD) (t : Fin cfg0.N) (d) : (dats m 0 c).before 0 t d = iblk m c 0 t := before0_0_of m _ (A_eq m c 0) (fun t => by dsimp only [dats]) t d
theorem before1 (c : Dev nD) (t : Fin cfg0.N) (d) : (dats m 0 c).before 1 t d = iblk m c 1 t := before0_1_of m _ (A_eq m c 1) (fun t => by dsimp only [dats]) t d
theorem before2 (c : Dev nD) (t : Fin cfg0.N) (d) : (dats m 0 c).before 2 t d = iblk m c 2 t := before0_2_of m _ (A_eq m c 2) (fun t => by dsimp only [dats]) t d
theorem before3 (c : Dev nD) (t : Fin cfg0.N) (d) : (dats m 0 c).before 3 t d = iblk m c 3 t := before0_3_of m _ (A_eq m c 3) (fun t => by dsimp only [dats]) t d
theorem before4 (c : Dev nD) (t : Fin cfg0.N) (d) : (dats m 0 c).before 4 t d = iblk m c 4 t := before0_4_of m _ (A_eq m c 4) (fun t => by dsimp only [dats]) t d
theorem after6 (c : Dev nD) (t : Fin cfg0.N) : (dats m 0 c).after 6 t = dgain m c t.val := by dsimp only [dats]

/-- The gain's gradient as a point finds it. -/
theorem before6 (c : Dev nD) : ∀ (n : ℕ) (h : n + 1 < cfg0.N) (d), (dats m 0 c).before 6 ⟨n + 1, h⟩ d = dgain m c n := by
  intro n
  induction n with
  | zero =>
    intro h d
    rw [(dats m 0 c).before_of_pos 6 ⟨1, h⟩ (Nat.succ_ne_zero 0) rfl d, if_neg (by rw [(flushes _).2.2]; exact of_decide_eq_false rfl)]
    unfold Dat.left
    rw [(idles _).2.2]
    show (dats m 0 c).kept 6 _ d = _
    unfold Dat.kept
    rw [Pipeline.fill_of_clip_none _ _ (fun _ => rfl) d ((dats m 0 c).after 6 _), Window.fill_cut, after6]
    rfl
  | succ n ih =>
    intro h d
    have hN : cfg0.N = 32 := N_0
    rw [(dats m 0 c).before_of_pos 6 ⟨n + 1 + 1, h⟩ (Nat.succ_ne_zero _) rfl d, if_neg (by rw [(flushes _).2.2]; simp only [decide_eq_true_eq]; omega)]
    unfold Dat.left
    rw [(idles _).2.2]
    by_cases hl : n + 1 < 24
    · rw [show decide (((⟨n + 1 + 1 - 1, Nat.lt_of_le_of_lt (Nat.sub_le _ _) h⟩ : Fin cfg0.N).val) ≠ 0 ∧ ((⟨n + 1 + 1 - 1, Nat.lt_of_le_of_lt (Nat.sub_le _ _) h⟩ : Fin cfg0.N).val) < 24) = true from decide_eq_true ⟨Nat.succ_ne_zero _, hl⟩]
      exact (ih (by omega) d).trans ((dgain_early m c n (by omega)).trans (dgain_early m c (n + 1) hl).symm)
    · rw [show decide (((⟨n + 1 + 1 - 1, Nat.lt_of_le_of_lt (Nat.sub_le _ _) h⟩ : Fin cfg0.N).val) ≠ 0 ∧ ((⟨n + 1 + 1 - 1, Nat.lt_of_le_of_lt (Nat.sub_le _ _) h⟩ : Fin cfg0.N).val) < 24) = false from decide_eq_false fun h => hl h.2]
      show (dats m 0 c).kept 6 _ d = _
      unfold Dat.kept
      rw [Pipeline.fill_of_clip_none _ _ (fun _ => rfl) d ((dats m 0 c).after 6 _), Window.fill_cut, after6]
      rfl

/-! ## What a point leaves in the outputs' buffers -/

theorem leaves5_idle (c : Dev nD) (t : Fin cfg0.N) (h : t.val < 24) : (dats m 0 c).leavesExact 5 t = iprop(∃ d, owns c (st0_5 t) fullShare ((dats m 0 c).before 5 t d)) :=
  (dats m 0 c).leavesExact_idle 5 t ((idles t).1.trans (decide_eq_true h)) ((flushes t).1.trans (decide_eq_false (by omega)))
theorem leaves7_idle (c : Dev nD) (t : Fin cfg0.N) (h : t.val < 24) : (dats m 0 c).leavesExact 7 t = iprop(∃ d, owns c (st0_7 t) fullShare ((dats m 0 c).before 7 t d)) :=
  (dats m 0 c).leavesExact_idle 7 t ((idles t).2.1.trans (decide_eq_true h)) ((flushes t).2.1.trans (decide_eq_false (by omega)))
theorem leaves6_idle (c : Dev nD) (t : Fin cfg0.N) (h0 : t.val ≠ 0) (h : t.val < 24) : (dats m 0 c).leavesExact 6 t = iprop(∃ d, owns c (st0_6 t) fullShare ((dats m 0 c).before 6 t d)) :=
  (dats m 0 c).leavesExact_idle 6 t ((idles t).2.2.trans (decide_eq_true ⟨h0, h⟩)) ((flushes t).2.2.trans (decide_eq_false (by omega)))
theorem leaves_live (c : Dev nD) (w : Fin cfg0.W) (t : Fin cfg0.N) (h : cfg0.idle w (cfg0.grid.coords t) = false) :
    (dats m 0 c).leavesExact w t = owns c ((cfg0.win w).stage (cfg0.slots t w)) fullShare ((dats m 0 c).after w t) := by
  unfold Dat.leavesExact; rw [h]

/-! ## The body's obligation -/

def bodyPre (c : Dev nD) (t : Fin cfg0.N) : sProp 𝕄 :=
  iprop((dats m 0 c).Φ t.castSucc ∗ (dats m 0 c).owesAt () t.castSucc
    ∗ (∃ d, owns c (st0_0 t) fullShare ((dats m 0 c).before 0 t d))
    ∗ (∃ d, owns c (st0_1 t) fullShare ((dats m 0 c).before 1 t d))
    ∗ (∃ d, owns c (st0_2 t) fullShare ((dats m 0 c).before 2 t d))
    ∗ (∃ d, owns c (st0_3 t) fullShare ((dats m 0 c).before 3 t d))
    ∗ (∃ d, owns c (st0_4 t) fullShare ((dats m 0 c).before 4 t d))
    ∗ (∃ d, owns c (st0_5 t) fullShare ((dats m 0 c).before 5 t d))
    ∗ (∃ d, owns c (st0_6 t) fullShare ((dats m 0 c).before 6 t d))
    ∗ (∃ d, owns c (st0_7 t) fullShare ((dats m 0 c).before 7 t d)))
def bodyPost (c : Dev nD) (t : Fin cfg0.N) : sProp 𝕄 :=
  iprop((dats m 0 c).Φ t.succ ∗ (dats m 0 c).owesAt () t.succ
    ∗ owns c (st0_0 t) fullShare ((dats m 0 c).after 0 t)
    ∗ owns c (st0_1 t) fullShare ((dats m 0 c).after 1 t)
    ∗ owns c (st0_2 t) fullShare ((dats m 0 c).after 2 t)
    ∗ owns c (st0_3 t) fullShare ((dats m 0 c).after 3 t)
    ∗ owns c (st0_4 t) fullShare ((dats m 0 c).after 4 t)
    ∗ (dats m 0 c).leavesExact 5 t ∗ (dats m 0 c).leavesExact 6 t ∗ (dats m 0 c).leavesExact 7 t)

/-- A point's run from its staging buffers to its staging buffers, at any point. -/
abbrev HeldAt (c : Dev nD) (t : Fin cfg0.N) (y5 : Vec F S512x1024 .f32) (y6 : Vec F S1x1024 .f32) (y7 : Vec F S512x1024 .bf16) (g : S4096x1024.Idx → Elt F .f32) : sProp 𝕄 :=
  Held c (st0_0 t) (st0_1 t) (st0_2 t) (st0_3 t) (st0_4 t) (st0_5 t) (st0_6 t) (st0_7 t) (B0 m c t) (B1 m c t) (B2 m c t) (B3 m c t) (B4 m c t) y5 y6 y7 g

/-- What a point before the last slab leaves: the outputs as they were, but the gain's gradient at zero after the first. -/
theorem point_early (c : Dev nD) (t : Fin cfg0.N) (h : t.val < 24) (y5 : Vec F S512x1024 .f32) (y6 : Vec F S1x1024 .f32) (y7 : Vec F S512x1024 .bf16)
    (g : S4096x1024.Idx → Elt F .f32) (hg : Ok m c t.val g) (R : sProp 𝕄) (K : PUnit → sProp 𝕄)
    (hK : ∀ g' y6', Ok m c (t.val + 1) g' → y6' = (if t.val = 0 then k0_pay2 (F := F) else y6) → iprop(HeldAt m c t y5 y6' y7 g' ∗ R) ⊢ K ⟨⟩) :
    iprop(HeldAt m c t y5 y6 y7 g ∗ R)
      ⊢ wp frame (wpE (defs₀ (F := F)) Variants.none c none) Set.univ (bodyAt0 t) K := by
  have hN : t.val < 32 := Nat.lt_of_lt_of_eq t.isLt N_0
  have hb : (blk t.val).val = t.val % 8 := rfl
  obtain ⟨o1, o2, o3⟩ := offs t
  obtain ⟨c1, c2, c3⟩ := conds t
  have n3 : ¬ k0_cond3 (grid0.coords t) = 1#1 := fun hc => by have := c3.mp hc; omega
  iintro ⟨H, Hk⟩
  by_cases h8 : t.val < 8
  · have hok := ok_step m c t.val 0 (blk t.val) (by omega) g hg _ (part_zero m c t h8).symm
    by_cases h0 : t.val = 0
    · iapply (run_zero c (grid0.coords t) (blk t.val) _ _ _ _ _ _ _ _ _ _ _ _ _ _ _ _ (B0 m c t) (B1 m c t) (B2 m c t) (B3 m c t) (B4 m c t) y5 y6 y7 g o2 o1 (c1.mpr h8) (c2.mpr h0) n3 K)
      isplitl [H]; · iexact H
      iintro H
      iapply (hK _ _ hok (if_pos h0).symm)
      iframe H Hk
    · iapply (run_fst c (grid0.coords t) (blk t.val) _ _ _ _ _ _ _ _ _ _ _ _ _ _ _ _ (B0 m c t) (B1 m c t) (B2 m c t) (B3 m c t) (B4 m c t) y5 y6 y7 g o2 o1 (c1.mpr h8) (fun hc => h0 (c2.mp hc)) n3 K)
      isplitl [H]; · iexact H
      iintro H
      iapply (hK _ _ hok (if_neg h0).symm)
      iframe H Hk
  · obtain ⟨k, hk⟩ : ∃ k, t.val = 8 * (k + 1) + (blk t.val).val := ⟨t.val / 8 - 1, by omega⟩
    have hr : rows (blk t.val) g = part m c k (blk t.val) := hg k (blk t.val) (by omega) (by omega)
    have hok := ok_step m c t.val (k + 1) (blk t.val) hk g hg (k0_pay3 (rows (blk t.val) g) (B0 m c t) (B1 m c t)) (by rw [hr]; exact (part_next m c t k hk).symm)
    iapply (run_mid c (grid0.coords t) (blk t.val) _ _ _ _ _ _ _ _ _ _ _ _ _ _ _ _ (B0 m c t) (B1 m c t) (B2 m c t) (B3 m c t) (B4 m c t) y5 y6 y7 g o2 (fun hc => h8 (c1.mp hc)) (fun hc => by have := c2.mp hc; omega) n3 K)
    isplitl [H]; · iexact H
    iintro H
    iapply (hK _ _ hok (if_neg (by omega)).symm)
    iframe H Hk

/-- What a point of the last slab leaves. -/
theorem point_late (c : Dev nD) (t : Fin cfg0.N) (h : 24 ≤ t.val) (y5 : Vec F S512x1024 .f32) (y7 : Vec F S512x1024 .bf16)
    (g : S4096x1024.Idx → Elt F .f32) (hg : Ok m c t.val g) (R : sProp 𝕄) (K : PUnit → sProp 𝕄)
    (hK : ∀ g', Ok m c (t.val + 1) g' → iprop(HeldAt m c t ((dats m 0 c).after 5 t) ((dats m 0 c).after 6 t) ((dats m 0 c).after 7 t) g' ∗ R) ⊢ K ⟨⟩) :
    iprop(HeldAt m c t y5 (dgain m c (t.val - 1)) y7 g ∗ R)
      ⊢ wp frame (wpE (defs₀ (F := F)) Variants.none c none) Set.univ (bodyAt0 t) K := by
  have hN : t.val < 32 := Nat.lt_of_lt_of_eq t.isLt N_0
  have hb : (blk t.val).val = t.val % 8 := rfl
  obtain ⟨o1, o2, o3⟩ := offs t
  obtain ⟨c1, c2, c3⟩ := conds t
  have hk : t.val = 8 * (2 + 1) + (blk t.val).val := by omega
  have hr : rows (blk t.val) g = part m c 2 (blk t.val) := hg 2 (blk t.val) (by omega) (by omega)
  have hp : k0_pay3 (rows (blk t.val) g) (B0 m c t) (B1 m c t) = part m c 3 (blk t.val) := by rw [hr]; exact (part_next m c t 2 hk).symm
  have hok := ok_step m c t.val 3 (blk t.val) hk g hg _ hp
  have e5 : (dats m 0 c).after 5 t = k0_pay7 (k0_pay3 (rows (blk t.val) g) (B0 m c t) (B1 m c t)) (B2 m c t) (B3 m c t) (B4 m c t) := by rw [hp]; dsimp only [dats]
  have e7 : (dats m 0 c).after 7 t = k0_pay8 (k0_pay3 (rows (blk t.val) g) (B0 m c t) (B1 m c t)) (B2 m c t) (B3 m c t) (B4 m c t) := by rw [hp]; dsimp only [dats]
  have e6 : (dats m 0 c).after 6 t = k0_pay6 (k0_pay3 (rows (blk t.val) g) (B0 m c t) (B1 m c t)) (B2 m c t) (dgain m c (t.val - 1)) := by
    rw [hp, after6, dgain_late m c t.val h, pt_val]
  rw [e5, e6, e7] at hK
  iintro ⟨H, Hk⟩
  iapply (run_last c (grid0.coords t) (blk t.val) _ _ _ _ _ _ _ _ _ _ _ _ _ _ _ _ (B0 m c t) (B1 m c t) (B2 m c t) (B3 m c t) (B4 m c t) y5 (dgain m c (t.val - 1)) y7 g o2 o3 (fun hc => by have := c1.mp hc; omega) (fun hc => by have := c2.mp hc; omega) (c3.mpr h) K)
  isplitl [H]; · iexact H
  iintro H
  iapply (hK _ hok)
  iframe H Hk

/-- A point's post before the last slab. -/
theorem post_early (c : Dev nD) (t : Fin cfg0.N) (h : t.val < 24) (d5 d6 d7) (y6 : Vec F S1x1024 .f32) (g' : S4096x1024.Idx → Elt F .f32) (hg : Ok m c (t.val + 1) g')
    (hy : y6 = if t.val = 0 then k0_pay2 (F := F) else (dats m 0 c).before 6 t d6) :
    iprop(HeldAt m c t ((dats m 0 c).before 5 t d5) y6 ((dats m 0 c).before 7 t d7) g' ∗ (∃ r, prngReg c r) ∗ (dats m 0 c).owesAt () t.castSucc) ⊢ bodyPost m c t := by
  unfold bodyPost
  rw [show (dats m 0 c).Φ t.succ = inv m c (t.val + 1) from rfl, leaves5_idle m c t h, leaves7_idle m c t h]
  unfold inv
  iintro ⟨⟨H0, H1, H2, H3, H4, H5, H6, H7, HS⟩, Hp, HW⟩
  isplitl [HS Hp]
  · isplitl [HS]
    · iexists g'; isplitr; · ipureintro; exact hg
      iexact HS
    iexact Hp
  iframe HW H0 H1 H2 H3 H4
  isplitl [H5]; · iexists d5; iexact H5
  isplitl [H6]
  · by_cases h0 : t.val = 0
    · rw [leaves_live m c 6 t ((idles t).2.2.trans (decide_eq_false fun hc => hc.1 h0)), after6, dgain_early m c _ h, hy, if_pos h0]
      iexact H6
    · rw [leaves6_idle m c t h0 h, hy, if_neg h0]
      iexists d6; iexact H6
  iexists d7; iexact H7

/-- A point's post in the last slab. -/
theorem post_late (c : Dev nD) (t : Fin cfg0.N) (h : 24 ≤ t.val) (g' : S4096x1024.Idx → Elt F .f32) (hg : Ok m c (t.val + 1) g') :
    iprop(HeldAt m c t ((dats m 0 c).after 5 t) ((dats m 0 c).after 6 t) ((dats m 0 c).after 7 t) g' ∗ (∃ r, prngReg c r) ∗ (dats m 0 c).owesAt () t.castSucc) ⊢ bodyPost m c t := by
  unfold bodyPost
  rw [show (dats m 0 c).Φ t.succ = inv m c (t.val + 1) from rfl, leaves_live m c 5 t ((idles t).1.trans (decide_eq_false (by omega))),
    leaves_live m c 6 t ((idles t).2.2.trans (decide_eq_false fun hc => by omega)), leaves_live m c 7 t ((idles t).2.1.trans (decide_eq_false (by omega)))]
  unfold inv
  iintro ⟨⟨H0, H1, H2, H3, H4, H5, H6, H7, HS⟩, Hp, HW⟩
  isplitl [HS Hp]
  · isplitl [HS]
    · iexists g'; isplitr; · ipureintro; exact hg
      iexact HS
    iexact Hp
  iframe HW H0 H1 H2 H3 H4 H5 H6 H7

theorem sound_body (c : Dev nD) (t : Fin cfg0.N) :
    bodyPre m c t ⊢ wp frame (wpE (defs₀ (F := F)) Variants.none c none) Set.univ (bodyAt0 t) (fun _ => bodyPost m c t) := by
  unfold bodyPre
  rw [show (dats m 0 c).Φ t.castSucc = inv m c t.val from rfl]
  unfold inv
  iintro ⟨⟨⟨%g, %hg, HS⟩, Hp⟩, HW, ⟨%d0, H0⟩, ⟨%d1, H1⟩, ⟨%d2, H2⟩, ⟨%d3, H3⟩, ⟨%d4, H4⟩, ⟨%d5, H5⟩, ⟨%d6, H6⟩, ⟨%d7, H7⟩⟩
  rw [before0, before1, before2, before3, before4]
  by_cases h : t.val < 24
  · iapply (point_early m c t h ((dats m 0 c).before 5 t d5) ((dats m 0 c).before 6 t d6) ((dats m 0 c).before 7 t d7) g hg
      iprop((∃ r, prngReg c r) ∗ (dats m 0 c).owesAt () t.castSucc) _ (fun g' y6 hg' hy => post_early m c t h d5 d6 d7 y6 g' hg' hy))
    isplitl [HS H0 H1 H2 H3 H4 H5 H6 H7]
    · iframe H0 H1 H2 H3 H4 H5 H6 H7 HS
    iframe Hp HW
  · have hl : 24 ≤ t.val := by omega
    have e6 : (dats m 0 c).before 6 t d6 = dgain m c (t.val - 1) := by
      obtain ⟨n, hn⟩ := t
      obtain ⟨n, rfl⟩ : ∃ n', n = n' + 1 := ⟨n - 1, by simp only [] at hl; omega⟩
      exact before6 m c n hn d6
    rw [e6]
    iapply (point_late m c t hl ((dats m 0 c).before 5 t d5) ((dats m 0 c).before 7 t d7) g hg
      iprop((∃ r, prngReg c r) ∗ (dats m 0 c).owesAt () t.castSucc) _ (fun g' hg' => post_late m c t hl g' hg'))
    isplitl [HS H0 H1 H2 H3 H4 H5 H6 H7]
    · iframe H0 H1 H2 H3 H4 H5 H6 H7 HS
    iframe Hp HW

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem enter (c : Dev nD) : Pipeline.ΦA spec0 c ⊢ (dats m 0 c).Φ 0 := by
  rw [show (dats m 0 c).Φ 0 = inv m c 0 from rfl]
  unfold Pipeline.ΦA inv owns
  rw [scopedRest0_eq]
  iintro ⟨⟨%f, H⟩, Hp⟩
  isplitl [H]
  · iexists (sc.view.read (Elt F) f)
    isplitr; · ipureintro; exact fun k b h _ => absurd h (Nat.not_lt_zero _)
    iexists f
    isplitr; · ipureintro; rfl
    simp only [Memref.view, View.set_whole]; iexact H
  iexact Hp

theorem leave (c : Dev nD) : (dats m 0 c).Φ (Fin.last cfg0.N) ⊢ Pipeline.ΦA spec0 c := by
  rw [show (dats m 0 c).Φ (Fin.last cfg0.N) = inv m c cfg0.N from rfl]
  unfold Pipeline.ΦA inv owns
  rw [scopedRest0_eq]
  iintro ⟨⟨%g, -, %f, -, H⟩, Hp⟩
  isplitl [H]
  · iexists f; simp only [Memref.view, View.set_whole]; iexact H
  iexact Hp

set_option backward.isDefEq.respectTransparency.types false in
theorem run_main_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := enter m) (hout := leave m)

theorem run_main : θ_run defs (onTc (τ := τ) (main (F := F))) (s₀ m ρ) (Pipeline.FramePost cfgs (dats m) 0 (V m)) :=
  (θ_run defs _ _).mono (fun _ h => h.1) (run_main_quiescent m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.NormGradIdeal.Hand

end
-- ==== Proof.NormGrad.Blocks.lean ====
module

public import proofs.«01_k».proof.Proof.NormGrad.Frame
public import Idealize.ShloMosaic.Lib.Pipeline.ValueKit
public import Idealize.ShloMosaic.Lib.Pointwise

/-! The gradient of a projection behind a norm: what the arrays hold after the grid. -/

@[expose] public section

set_option maxRecDepth 16384

noncomputable section

namespace Cert.NormGradIdeal.Hand

open Cert.NormGradIdeal Cert.NormGradIdeal.Gen Idealize.ShloMosaic Idealize.ShloMosaic.TcCoe Idealize.SL.Sem
open Idealize.ShloMosaic.Pipeline (Dat)

variable (m : (ℓ : Loc nD τ sig) → Buf (Elt Ideal) ℓ)

/-- The gradient for the norm's output: the projection's gradient times the transposed weights, a quarter of the contracted axis and all of it. -/
def slab (d : FVec Ideal S4096x6144 .bf16) (w : FVec Ideal S1024x6144 .f32) (r : Fin 4096) (s : Fin 1024) (k : Fin 4) : EReal :=
  ∑ a : Fin 1536, d (ix2 r ⟨k.val * 1536 + a.val, by omega⟩) * w (ix2 s ⟨k.val * 1536 + a.val, by omega⟩)
def D (d : FVec Ideal S4096x6144 .bf16) (w : FVec Ideal S1024x6144 .f32) (r : Fin 4096) (s : Fin 1024) : EReal :=
  ∑ k : Fin 6144, d (ix2 r k) * w (ix2 s k)

/-- The reciprocal root mean square of a row, and the row scaled by it. -/
def N (h : FVec Ideal S4096x1024 .f32) (r : Fin 4096) : EReal :=
  Ideal.rsqrt (Ideal.div (∑ s : Fin 1024, h (ix2 r s) * h (ix2 r s)) (Ideal.ofBits .f32 0x44800000#32) + Ideal.ofBits .f32 0x358637BD#32)
def Xh (h : FVec Ideal S4096x1024 .f32) (r : Fin 4096) (s : Fin 1024) : EReal := h (ix2 r s) * N h r

/-- The gradient for the row, of `p` for the norm's output. -/
def back (p : Fin 1024 → EReal) (h : FVec Ideal S4096x1024 .f32) (g : FVec Ideal S1x1024 .f32) (e : FVec Ideal S4096x1024 .f32) (r : Fin 4096) (s : Fin 1024) : EReal :=
  e (ix2 r s) + N h r * (p s * g (ix2 0 s)
    - Xh h r s * Ideal.div (∑ k : Fin 1024, p k * g (ix2 0 k) * Xh h r k) (Ideal.ofBits .f32 0x44800000#32))
def dH (d : FVec Ideal S4096x6144 .bf16) (w : FVec Ideal S1024x6144 .f32) (h : FVec Ideal S4096x1024 .f32) (g : FVec Ideal S1x1024 .f32) (e : FVec Ideal S4096x1024 .f32)
    (r : Fin 4096) (s : Fin 1024) : EReal :=
  back (D d w r) h g e r s

theorem slabs (d : FVec Ideal S4096x6144 .bf16) (w : FVec Ideal S1024x6144 .f32) (r : Fin 4096) (s : Fin 1024) :
    slab d w r s 0 + slab d w r s 1 + slab d w r s 2 + slab d w r s 3 = D d w r s := by
  have h := Fin.sum_mul_add_fin (L := 6144) 4 1536 (fun k => d (ix2 r k) * w (ix2 s k))
  unfold D
  rw [← h]
  simp only [Fin.sum_univ_four]
  rfl

/-- Which block each window takes at each grid point. -/
theorem idx : ∀ t : Fin cfg0.N, win0_0.index t = ![t.val % 8, t.val / 8] ∧ win0_1.index t = ![t.val / 8, 0, 0]
   ∧ win0_2.index t = ![if 24 ≤ t.val then t.val % 8 else 0, 0]
   ∧ win0_3.index t = ![0, 0] ∧ win0_4.index t = ![if 24 ≤ t.val then t.val % 8 else 0, 0] ∧ win0_6.index t = ![0, 0] :=
  (by decide +kernel : ∀ t : Fin grid0.N, _)
theorem idxOut : ∀ t : Fin cfg0.N, 24 ≤ t.val → win0_5.index t = ![t.val % 8, 0] ∧ win0_7.index t = ![t.val % 8, 0] :=
  (by decide +kernel : ∀ t : Fin grid0.N, _)

/-- The weights as the grid finds them: four slabs. -/
theorem V_w (c : Dev nD) : V m c main_v2 = fun i : S4x1024x1536.Idx =>
    m ((c : Thread nD τ).loc main_arg1) (ix2 (i 1) ⟨(i 0 : ℕ) * 1536 + (i 2 : ℕ), by
      have h0 : (i 0 : ℕ) < 4 := (i 0).isLt
      have h2 : (i 2 : ℕ) < 1536 := (i 2).isLt
      omega⟩) := by
  unfold V
  simp only [hostOps0, List.flatten_cons, List.flatten_nil, List.append_nil, List.cons_append, List.nil_append]
  after_results
  funext i
  pointwise

/-- A point adds its slab to the partial sum. -/
theorem slab_step (c : Dev nD) (t : Fin cfg0.N) (acc : FVec Ideal S512x1024 .f32) (x : Fin 512) (s : Fin 1024) (k : Fin 4) (hk : k.val = t.val / 8)
    (r : Fin 4096) (hr : r.val = (t.val % 8) * 512 + x.val) :
    k0_pay3 acc (B0 m c t) (B1 m c t) (ix2 x s)
      = acc (ix2 x s) + slab (m ((c : Thread nD τ).loc main_arg0)) (m ((c : Thread nD τ).loc main_arg1)) r s k := by
  obtain ⟨k, hk'⟩ := k
  obtain ⟨r, hr'⟩ := r
  simp only [] at hk hr
  subst hk hr
  rw [← V_main_arg0 m c]
  have hw := V_w m c
  have ht : t.val < 32 := Nat.lt_of_lt_of_eq t.isLt N_0
  unfold B0 B1
  pointwise [k0_pay3, slab]
  congr 1
  refine Finset.sum_congr rfl fun a _ => congrArg₂ (· * ·) ?_ ?_
  · blk_ext [iblk, idx t]
  · refine Eq.trans ?_ (congrFun hw (ix3 (⟨t.val / 8, hk'⟩ : Fin 4) s a))
    blk_ext [iblk, idx t]

/-- A row block's sum after the last slab. -/
theorem part_at (c : Dev nD) (b : Fin 8) (x : Fin 512) (s : Fin 1024) (r : Fin 4096) (hr : r.val = b.val * 512 + x.val) :
    part m c 3 b (ix2 x s) = D (m ((c : Thread nD τ).loc main_arg0)) (m ((c : Thread nD τ).loc main_arg1)) r s := by
  have hb : b.val < 8 := b.isLt
  have v : ∀ k : ℕ, k < 4 → (pt (8 * k + b.val)).val = 8 * k + b.val := fun k hk => Nat.mod_eq_of_lt (by omega)
  have st := fun (k : ℕ) (hk : k < 4) acc => slab_step m c (pt (8 * k + b.val)) acc x s ⟨k, hk⟩ (by rw [v k hk]; show k = _; omega) r (by rw [v k hk]; omega)
  rw [← slabs]
  refine (st 3 (by decide) _).trans (congrArg (· + _) ?_)
  refine (st 2 (by decide) _).trans (congrArg (· + _) ?_)
  refine (st 1 (by decide) _).trans (congrArg (· + _) ?_)
  have h0 := st 0 (by decide) (k0_pay1 (F := Ideal))
  rw [show 8 * 0 + b.val = b.val by omega] at h0
  refine h0.trans ?_
  refine (congrArg (· + _) (?_ : k0_pay1 (F := Ideal) (ix2 x s) = 0)).trans (zero_add _)
  pointwise [k0_pay1]

/-- A block of the row's gradient, of the sums `p`. -/
theorem point5 (c : Dev nD) (t : Fin cfg0.N) (ht : 24 ≤ t.val) (p : FVec Ideal S512x1024 .f32) (y : S512x1024.Idx) (r : Fin 4096) (s : Fin 1024)
    (hr : r.val = (t.val % 8) * 512 + y 0) (hs : s.val = y 1) :
    k0_pay7 p (B2 m c t) (B3 m c t) (B4 m c t) y
      = back (fun k => p (ix2 (y 0) k)) (m ((c : Thread nD τ).loc main_arg2)) (m ((c : Thread nD τ).loc main_arg3)) (m ((c : Thread nD τ).loc main_arg4)) r s := by
  obtain ⟨i0, i1, i2, i3, i4, i6⟩ := idx t
  rw [if_pos ht] at i2 i4
  unfold B2 B3 B4
  open_payloads
  pointwise [back, Xh, N]
  blk_point [iblk, V, i2, i3, i4]

/-- What a point adds to the gain's gradient, of the sums `p`. -/
theorem gain_step (c : Dev nD) (t : Fin cfg0.N) (ht : 24 ≤ t.val) (p : FVec Ideal S512x1024 .f32) (acc : FVec Ideal S1x1024 .f32) (s : Fin 1024) :
    k0_pay6 p (B2 m c t) acc (ix2 0 s)
      = acc (ix2 0 s) + ∑ x : Fin 512, p (ix2 x s) * Xh (m ((c : Thread nD τ).loc main_arg2)) ⟨(t.val % 8) * 512 + x.val, by omega⟩ s := by
  obtain ⟨i0, i1, i2, i3, i4, i6⟩ := idx t
  rw [if_pos ht] at i2 i4
  unfold B2
  open_payloads
  pointwise [Xh, N]
  blk_point [iblk, V, i2]

/-- A block of the row's gradient. -/
theorem block5 (c : Dev nD) (t : Fin cfg0.N) (ht : 24 ≤ t.val) (y : S512x1024.Idx) (r : Fin 4096) (s : Fin 1024)
    (hr : r.val = (t.val % 8) * 512 + y 0) (hs : s.val = y 1) :
    k0_pay7 (part m c 3 (blk t.val)) (B2 m c t) (B3 m c t) (B4 m c t) y
      = dH (m ((c : Thread nD τ).loc main_arg0)) (m ((c : Thread nD τ).loc main_arg1)) (m ((c : Thread nD τ).loc main_arg2)) (m ((c : Thread nD τ).loc main_arg3)) (m ((c : Thread nD τ).loc main_arg4)) r s := by
  refine (point5 m c t ht _ y r s hr hs).trans ?_
  unfold dH
  refine congrArg (fun p => back p _ _ _ r s) (funext fun k => part_at m c (blk t.val) (y 0) k r hr)

/-- The row's gradient after the grid, and its copy at the shorter type. -/
theorem final5 (c : Dev nD) : (dats m 0 c).arrAt 5 (cfgs 0).N
    = fun i => dH (m ((c : Thread nD τ).loc main_arg0)) (m ((c : Thread nD τ).loc main_arg1)) (m ((c : Thread nD τ).loc main_arg2)) (m ((c : Thread nD τ).loc main_arg3)) (m ((c : Thread nD τ).loc main_arg4)) (i 0) (i 1) := by
  refine (dats m 0 c).arrAt_eq_of_covers 5 _ (by decide +kernel) fun t hf y => ?_
  have ht : 24 ≤ t.val := of_decide_eq_true ((flushes t).1.symm.trans hf)
  blk_simp
  refine block5 m c t ht _ _ _ ?_ ?_ <;> (blk_simp [idxOut t ht]; try omega)

theorem final7 (c : Dev nD) : (dats m 0 c).arrAt 7 (cfgs 0).N
    = fun i => dH (m ((c : Thread nD τ).loc main_arg0)) (m ((c : Thread nD τ).loc main_arg1)) (m ((c : Thread nD τ).loc main_arg2)) (m ((c : Thread nD τ).loc main_arg3)) (m ((c : Thread nD τ).loc main_arg4)) (i 0) (i 1) := by
  refine (dats m 0 c).arrAt_eq_of_covers 7 _ (by decide +kernel) fun t hf y => ?_
  have ht : 24 ≤ t.val := of_decide_eq_true ((flushes t).2.1.symm.trans hf)
  blk_simp
  refine block5 m c t ht _ _ _ ?_ ?_ <;> (blk_simp [idxOut t ht]; try omega)

/-- What one row adds to the gain's gradient, and the sum of a block of rows. -/
def rowG (c : Dev nD) (s : Fin 1024) (r : Fin 4096) : EReal :=
  D (m ((c : Thread nD τ).loc main_arg0)) (m ((c : Thread nD τ).loc main_arg1)) r s * Xh (m ((c : Thread nD τ).loc main_arg2)) r s
def chunk (f : Fin 4096 → EReal) (a : Fin 8) : EReal := ∑ x : Fin 512, f ⟨a.val * 512 + x.val, by omega⟩

theorem dgain_step (c : Dev nD) (s : Fin 1024) (b : ℕ) (hb : b < 8) :
    dgain m c (24 + b) (ix2 0 s) = dgain m c (24 + b - 1) (ix2 0 s) + chunk (rowG m c s) ⟨b, hb⟩ := by
  have v : (pt (24 + b)).val = 24 + b := Nat.mod_eq_of_lt (by omega)
  have e : (24 + b) % 8 = b := by omega
  rw [dgain_late m c (24 + b) (by omega)]
  refine (gain_step m c (pt (24 + b)) (by omega) _ _ s).trans (congrArg (_ + ·) ?_)
  unfold chunk rowG
  refine Finset.sum_congr rfl fun x _ => ?_
  have er : (⟨((pt (24 + b)).val % 8) * 512 + x.val, by omega⟩ : Fin 4096) = ⟨b * 512 + x.val, by omega⟩ := Fin.ext (by simp only [v, e])
  rw [er, part_at m c (blk (24 + b)) x s ⟨b * 512 + x.val, by omega⟩ (by show _ = (24 + b) % 8 * 512 + _; rw [e])]

/-- The gain's gradient after the grid. -/
theorem final6 (c : Dev nD) : (dats m 0 c).arrAt 6 (cfgs 0).N = fun i => ∑ r : Fin 4096, rowG m c (i 1) r := by
  refine (dats m 0 c).arrAt_eq_of_after_last 6 (⟨31, by rw [show cfg0.N = 32 from N_0]; decide⟩ : Fin cfg0.N) (by decide +kernel) _ fun j => ?_
  rw [after6]
  have e : (fun a => ⟨j a, by exact (j a).isLt⟩ : S1x1024.Idx) = ix2 0 (j 1) := funext fun a => by
    match a with
    | ⟨0, _⟩ => exact Fin.ext (by have : (j 0 : ℕ) < 1 := (j 0).isLt
                                  show (j 0 : ℕ) = 0
                                  omega)
    | ⟨1, _⟩ => rfl
  refine Eq.trans (congrArg (dgain m c 31) e) ?_
  have h := dgain_step m c (j 1)
  refine ((h 7 (by decide)).trans (congrArg (· + _) ((h 6 (by decide)).trans (congrArg (· + _) ((h 5 (by decide)).trans (congrArg (· + _) ((h 4 (by decide)).trans
    (congrArg (· + _) ((h 3 (by decide)).trans (congrArg (· + _) ((h 2 (by decide)).trans (congrArg (· + _) ((h 1 (by decide)).trans (congrArg (· + _) (h 0 (by decide)))))))))))))))).trans ?_
  have z : dgain m c (24 + 0 - 1) (ix2 0 (j 1)) = 0 := by
    rw [dgain_early m c _ (by decide)]
    pointwise [k0_pay2]
  rw [z, zero_add]
  have k := Fin.sum_mul_add_fin (L := 4096) 8 512 (rowG m c (j 1))
  refine Eq.trans ?_ k
  simp only [Fin.sum_univ_eight]
  rfl

end Cert.NormGradIdeal.Hand
-- ==== Proof.NormGrad.Ref.lean ====
module

public import proofs.«01_k».proof.Proof.Gen.NormGradRefIdeal.Read
public import proofs.«01_k».proof.Proof.NormGrad.Blocks
public import proofs.«01_k».proof.Proof.Norm

/-! The gradient of a projection behind a norm over real arguments: what the kernel's terms and the reference's arrays are. -/

@[expose] public section

set_option maxRecDepth 16384

noncomputable section

namespace Cert.NormGradRefIdeal.Hand

open Cert.NormGradRefIdeal Cert.NormGradRefIdeal.Gen Cert.NormGradRefIdeal.Read Idealize.ShloMosaic
open Cert.Finite Cert.Norm
open Cert.NormGradIdeal.Hand (D N Xh dH)

/-- An array of reals as an array of extended reals. -/
abbrev C {ι : Type} (f : ι → ℝ) : ι → EReal := fun i => (f i : EReal)

variable (f0 : S4096x6144.Idx → ℝ) (f1 : S1024x6144.Idx → ℝ) (f2 : S4096x1024.Idx → ℝ) (f3 : S1x1024.Idx → ℝ) (f4 : S4096x1024.Idx → ℝ)

/-- The row, and the gradient for the norm's output, over reals. -/
def xr (r : Fin 4096) (s : Fin 1024) : ℝ := f2 (ix2 r s)
def dr (r : Fin 4096) (s : Fin 1024) : ℝ := ∑ k : Fin 6144, f0 (ix2 r k) * f1 (ix2 s k)

/-! The kernel's terms. -/

theorem D_coe (r : Fin 4096) (s : Fin 1024) : D (C f0) (C f1) r s = ((dr f0 f1 r s : ℝ) : EReal) := by
  simp only [D, dr, coe_sum, EReal.coe_mul]

theorem N_coe (r : Fin 4096) : N (C f2) r = ((nrm (xr f2 r) : ℝ) : EReal) := by
  rw [← nrm_coe, ← ms_coe, ← lit_1024, ← lit_eps]
  rfl

theorem Xh_coe (r : Fin 4096) (s : Fin 1024) : Xh (C f2) r s = ((xr f2 r s * nrm (xr f2 r) : ℝ) : EReal) := by
  simp only [Xh, N_coe, EReal.coe_mul, xr]

/-- The gradient for the row. -/
def hr (r : Fin 4096) (s : Fin 1024) : ℝ :=
  f4 (ix2 r s) + nrm (xr f2 r) * (dr f0 f1 r s * f3 (ix2 0 s) - xr f2 r s * nrm (xr f2 r)
    * ((∑ k : Fin 1024, dr f0 f1 r k * f3 (ix2 0 k) * (xr f2 r k * nrm (xr f2 r))) / 1024))

theorem dH_coe (r : Fin 4096) (s : Fin 1024) : dH (C f0) (C f1) (C f2) (C f3) (C f4) r s = ((hr f0 f1 f2 f3 f4 r s : ℝ) : EReal) := by
  simp only [dH, Cert.NormGradIdeal.Hand.back, D_coe, Xh_coe, N_coe, lit_1024, ← EReal.coe_mul]
  rw [← coe_sum, div_coe _ _ (by norm_num)]
  simp only [← EReal.coe_mul, ← EReal.coe_sub, ← EReal.coe_add, hr]

/-! The reference's arrays. -/

theorem v6_at (r : Fin 4096) : val_main_v6 (F := Ideal) (C f2) (ix2 r 0) = ((ms (xr f2 r) : ℝ) : EReal) := by
  pointwise [val_main_v6, val_main_v5, val_main_cst_1, val_main_v4, val_main_v3, val_main_cst_0, val_main_v2, val_main_v1, val_main_cst, val_main_v0]
  rw [lit_1024, lit_eps, ← ms_coe]
  rfl

theorem v7_at (r : Fin 4096) : val_main_v7 (F := Ideal) (C f2) (ix2 r 0) = ((nrm (xr f2 r) : ℝ) : EReal) := by
  pointwise [val_main_v7]
  simp only [v6_at, nrm_coe]

theorem v10_at (r : Fin 4096) : val_main_v10 (F := Ideal) (C f2) (ix2 r 0) = ((-1 / 2 * (nrm (xr f2 r) / ms (xr f2 r)) : ℝ) : EReal) := by
  pointwise [val_main_v10, val_main_v9, val_main_cst_2, val_main_v8]
  rw [v6_at, v7_at, lit_neg_half, div_coe _ _ (ms_pos _).ne', ← EReal.coe_mul]

theorem v12_at (r : Fin 4096) (s : Fin 1024) : val_main_v12 (F := Ideal) (C f2) (ix2 r s) = ((xr f2 r s * nrm (xr f2 r) : ℝ) : EReal) := by
  pointwise [val_main_v12, val_main_v11]
  simp only [v7_at, EReal.coe_mul, xr]

theorem v17_at (r : Fin 4096) (s : Fin 1024) : val_main_v17 (F := Ideal) (C f0) (C f1) (ix2 r s) = ((dr f0 f1 r s : ℝ) : EReal) := by
  pointwise [val_main_v17, val_main_v16, dr, coe_sum, EReal.coe_mul]

theorem v22_at (r : Fin 4096) (s : Fin 1024) : val_main_v22 (F := Ideal) (C f0) (C f1) (C f3) (ix2 r s) = ((dr f0 f1 r s * f3 (ix2 0 s) : ℝ) : EReal) := by
  pointwise [val_main_v22, val_main_v21]
  simp only [v17_at, EReal.coe_mul]

/-- The row's sum that the reciprocal root passes back. -/
def sr (r : Fin 4096) : ℝ :=
  (∑ j : Fin 1024, xr f2 r j * (dr f0 f1 r j * f3 (ix2 0 j))) * (-1 / 2 * (nrm (xr f2 r) / ms (xr f2 r))) / 1024

theorem v31_at (r : Fin 4096) : val_main_v31 (F := Ideal) (C f0) (C f1) (C f2) (C f3) (ix2 r 0) = ((sr f0 f1 f2 f3 r : ℝ) : EReal) := by
  pointwise [val_main_v31, val_main_v30, val_main_cst_5, val_main_v29, val_main_v25, val_main_v24, val_main_cst_4, val_main_v23]
  simp only [v22_at, v10_at, lit_1024, ← EReal.coe_mul]
  rw [← coe_sum, ← EReal.coe_mul, div_coe _ _ (by norm_num), sr]
  rfl

theorem v37_at (r : Fin 4096) (s : Fin 1024) : val_main_v37 (F := Ideal) (C f0) (C f1) (C f2) (C f3) (C f4) (ix2 r s) = ((hr f0 f1 f2 f3 f4 r s : ℝ) : EReal) := by
  pointwise [val_main_v37, val_main_v36, val_main_v35, val_main_v34, val_main_v33, val_main_v32, val_main_cst_6, val_main_v28, val_main_v27, val_main_v26]
  simp only [v31_at, v22_at, v7_at, Finset.univ_unique, Finset.sum_singleton, Fin.default_eq_zero, ← EReal.coe_mul, ← EReal.coe_add]
  refine congrArg _ ?_
  rw [hr, back (xr f2 r) (fun j => dr f0 f1 r j * f3 (ix2 0 j)) s]
  simp only [sr, xr]
  ring

/-! The two, at real arguments. -/

variable (x0 : FVec Ideal S4096x6144 .bf16) (x1 : FVec Ideal S1024x6144 .f32) (x2 : FVec Ideal S4096x1024 .f32) (x3 : FVec Ideal S1x1024 .f32) (x4 : FVec Ideal S4096x1024 .f32)
  (h0 : AllReal x0) (h1 : AllReal x1) (h2 : AllReal x2) (h3 : AllReal x3) (h4 : AllReal x4)

include h0 h1 h2 h3 h4 in
theorem ref0 (i : S4096x1024.Idx) : val_main_v37 (F := Ideal) x0 x1 x2 x3 x4 i = dH x0 x1 x2 x3 x4 (i 0) (i 1) := by
  obtain ⟨f0, rfl⟩ := h0.exists
  obtain ⟨f1, rfl⟩ := h1.exists
  obtain ⟨f2, rfl⟩ := h2.exists
  obtain ⟨f3, rfl⟩ := h3.exists
  obtain ⟨f4, rfl⟩ := h4.exists
  refine (congrArg _ (eq_ix2 i)).trans ((v37_at f0 f1 f2 f3 f4 (i 0) (i 1)).trans (dH_coe f0 f1 f2 f3 f4 (i 0) (i 1)).symm)

include h0 h1 h2 h3 h4 in
theorem ref2 (i : S4096x1024.Idx) : val_main_v38 (F := Ideal) x0 x1 x2 x3 x4 i = dH x0 x1 x2 x3 x4 (i 0) (i 1) :=
  Eq.trans (by pointwise [val_main_v38]) (ref0 x0 x1 x2 x3 x4 h0 h1 h2 h3 h4 i)

include h0 h1 h2 in
theorem ref1 (i : S1x1024.Idx) : val_main_v20 (F := Ideal) x0 x1 x2 i = ∑ r : Fin 4096, D x0 x1 r (i 1) * Xh x2 r (i 1) := by
  obtain ⟨f0, rfl⟩ := h0.exists
  obtain ⟨f1, rfl⟩ := h1.exists
  obtain ⟨f2, rfl⟩ := h2.exists
  refine Eq.trans ?_ (Finset.sum_congr rfl fun r _ => (congrArg₂ (· * ·) (D_coe f0 f1 r (i 1)) (Xh_coe f2 r (i 1))).symm)
  pointwise [val_main_v20, val_main_v19, val_main_cst_3, val_main_v18]
  refine Finset.sum_congr rfl fun r _ => ?_
  exact (congrArg₂ (· * ·) (v12_at f2 r (i 1)) (v17_at f0 f1 r (i 1))).trans (mul_comm _ _)

end Cert.NormGradRefIdeal.Hand
-- ==== Proof.NormGrad.Claim.lean ====
module

public import proofs.«01_k».proof.Defs
public import proofs.«01_k».proof.Proof.Gen.NormGrad
public import proofs.«01_k».proof.Proof.Gen.NormGradRefIdeal.Run
public import proofs.«01_k».proof.Proof.Gen.Pre_rmsb_finite
public import proofs.«01_k».proof.Proof.NormGrad.Ref
public import Idealize.ShloMosaic.Lib.Claim

/-! The gradient of a projection behind a norm: the precondition read, the equation of the two programs, the frames. -/

@[expose] public section

set_option maxRecDepth 16384

noncomputable section

namespace Cert.NormGradIdeal.Hand

open Idealize.ShloMosaic Idealize.ShloMosaic.TcCoe
open Idealize.SL.Sem Cert.Finite

/-- What the precondition says: all five arguments are arrays of real numbers. -/
theorem real_of_pre [Cert.Pre_rmsb_finite.Facts] (x0 : FVec Ideal S4096x6144 .bf16) (x1 : FVec Ideal S1024x6144 .f32) (x2 : FVec Ideal S4096x1024 .f32) (x3 : FVec Ideal S1x1024 .f32) (x4 : FVec Ideal S4096x1024 .f32)
    (h : Cert.Pre_rmsb_finite.fn (F := Ideal) x0 x1 x2 x3 x4 = fun _ => 1#1) :
    AllReal x0 ∧ AllReal x1 ∧ AllReal x2 ∧ AllReal x3 ∧ AllReal x4 := by
  have h' := congrFun h (Shape.Idx.first (by decide))
  unfold Cert.Pre_rmsb_finite.fn Cert.Pre_rmsb_finite.fn_part1 at h'
  obtain ⟨h', h4⟩ := andi_eq_one h'
  obtain ⟨h', h3⟩ := andi_eq_one h'
  obtain ⟨h', h2⟩ := andi_eq_one h'
  obtain ⟨h0, h1⟩ := andi_eq_one h'
  exact ⟨fun i => real_of_olt _ (all_of_reduce _ _ _ _ _ rfl h0 i), fun i => real_of_olt _ (all_of_reduce _ _ _ _ _ rfl h1 i),
    fun i => real_of_olt _ (all_of_reduce _ _ _ _ _ rfl h2 i), fun i => real_of_olt _ (all_of_reduce _ _ _ _ _ rfl h3 i),
    fun i => real_of_olt _ (all_of_reduce _ _ _ _ _ rfl h4 i)⟩

/-- The kernel's three results are the reference's. -/
theorem algebraic : Cert.algebraic_NormGradIdeal_NormGradRefIdeal_pre_rmsb_finite
    (hNormGradIdeal := Cert.NormGradIdeal.Gen.facts) (hNormGradRefIdeal := Cert.NormGradRefIdeal.Gen.facts)
    (hPre_rmsb_finite := Cert.Pre_rmsb_finite.Gen.facts) := by
  letI := Cert.Pre_rmsb_finite.Gen.facts
  intro m g m' g' hpre hagree
  refine ⟨_, _, _, ?_, θ_run_mono (Cert.NormGradRefIdeal.Value.run m' g') fun r h c => h c⟩
  refine θ_run_mono (θ_run_and (run_main m g) (frame m g)) fun r h c => ?_
  obtain ⟨hr, hk⟩ := h
  obtain ⟨a0, a1, a2, a3, a4⟩ := hagree c
  obtain ⟨p0, p1, p2, p3, p4⟩ := real_of_pre _ _ _ _ _ (hpre c)
  refine ⟨((hr c).1 5).trans (funext fun i => ?_), ((hr c).1 6).trans (funext fun i => ?_), ((hr c).1 7).trans (funext fun i => ?_), hk.1 c⟩
  · rw [Cert.NormGradRefIdeal.Read.val_main_v37_eq, final5, a0, a1, a2, a3, a4]
    exact (Cert.NormGradRefIdeal.Hand.ref0 _ _ _ _ _ p0 p1 p2 p3 p4 i).symm
  · rw [final6]
    unfold rowG
    rw [a0, a1, a2]
    exact (Cert.NormGradRefIdeal.Hand.ref1 _ _ _ p0 p1 p2 i).symm
  · rw [Cert.NormGradRefIdeal.Read.val_main_v38_eq, final7, a0, a1, a2, a3, a4]
    exact (Cert.NormGradRefIdeal.Hand.ref2 _ _ _ _ _ p0 p1 p2 p3 p4 i).symm

/-- The program as compiled and its ideal reading have one body table: their texts agree. -/
theorem defs_eq : Cert.NormGrad.defs (F := Bits) = Cert.NormGradIdeal.defs (F := Bits) := by sl_kernel_rfl

/-- The frame of the program as compiled is the ideal program's run, at the bit patterns. -/
theorem frame_kernel : Cert.quiescent_NormGrad (hNormGrad := Cert.NormGrad.Gen.facts) := fun m ρ _ => by
  have h := Cert.NormGradIdeal.Hand.frame (F := Bits) m ρ
  rw [← defs_eq] at h
  exact h

/-- The reference's frame: host operations only, none of which writes an argument, and no semaphore. -/
theorem frame_reference : Cert.quiescent_NormGradRefIdeal (hNormGradRefIdeal := Cert.NormGradRefIdeal.Gen.facts) := fun m ρ _ =>
  θ_run_mono (Cert.NormGradRefIdeal.Value.run m ρ) fun r h => ⟨fun c => (h c).2.2.2, sem_eq_zero_of_no_sems (by decide) r.2⟩

end Cert.NormGradIdeal.Hand
-- ==== Proof.SbForward.Trips.lean ====
/-
  The loop over the query blocks that a run of the attention's forward kernel goes through: one trip (`trip1`), what the three results' blocks hold
  before trip `k` (`st1`), and the loop's invariant (`loop1`). A trip's stores do not read what they overwrite.
-/
module

public import proofs.«01_k».proof.Proof.Gen.SbForwardIdeal.Loops
public import Idealize.ShloMosaic.Lib.LoopRemainder

@[expose] public section

set_option maxRecDepth 16384
set_option maxHeartbeats 4000000

noncomputable section

namespace Cert.SbForwardIdeal.Hand

open Cert.SbForwardIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (c : Dev nD) (i : grid0.Coords)
  (arg2 : Memref sig .tc .vmem S2048x256 .bf16) (harg2 : arg2.IsWhole) (arg3 : Memref sig .tc .vmem S2048x256 .bf16) (harg3 : arg3.IsWhole)
  (arg4 : Memref sig .tc .vmem S2048x512 .bf16) (harg4 : arg4.IsWhole) (arg5 : Memref sig .tc .vmem S2048x512 .bf16) (harg5 : arg5.IsWhole)
  (arg6 : Memref sig .tc .vmem S2048x512 .bf16) (harg6 : arg6.IsWhole) (arg7 : Memref sig .tc .vmem S2048x512 .bf16) (harg7 : arg7.IsWhole)
  (arg8 : Memref sig .tc .vmem S1x2048x4 .f32) (harg8 : arg8.IsWhole)
  (X2 : BufTy.Contents (Elt F) arg2.view.ty) (X3 : BufTy.Contents (Elt F) arg3.view.ty) (X4 : BufTy.Contents (Elt F) arg4.view.ty)
  (X5 : BufTy.Contents (Elt F) arg5.view.ty)

set_option quotPrecheck false in
local notation:max "⟪" f "⟫" => f c i arg2 harg2 arg3 harg3 arg4 harg4 arg5 harg5 arg6 harg6 arg7 harg7 arg8 harg8

/-- A block held by its own elements. -/
abbrev own {sp : Space} {S : Shape} {e : EltTy} (M : Memref sig .tc sp S e) (f : BufTy.Contents (Elt F) M.view.ty) : sProp 𝕄 :=
  M.view.loc c ↦[M.view.set]{fullShare} f

/-- The four blocks that a trip reads and the three that it writes. -/
abbrev Held (f6 : BufTy.Contents (Elt F) arg6.view.ty) (f7 : BufTy.Contents (Elt F) arg7.view.ty) (f8 : BufTy.Contents (Elt F) arg8.view.ty) : sProp 𝕄 :=
  iprop(own c arg2 X2 ∗ own c arg3 X3 ∗ own c arg4 X4 ∗ own c arg5 X5 ∗ own c arg6 f6 ∗ own c arg7 f7 ∗ own c arg8 f8)

/-- One trip: the pieces that it stores of each result, as the run finds them. -/
def trip1 (k : Fin k0_t1_loop.trips) :
    Σ' (L6 : List (View.Piece (Elt F) S2048x512 .bf16)) (L7 : List (View.Piece (Elt F) S2048x512 .bf16)),
      { L8 : List (View.Piece (Elt F) S1x2048x4 .f32) // ∀ f6 f7 f8,
          Held c arg2 arg3 arg4 arg5 arg6 arg7 arg8 X2 X3 X4 X5 f6 f7 f8
          ⊢ wp frame (wpE (defs₀ (F := F)) Variants.none c none) Set.univ
              (k0_t1_body (F := F) i arg2 harg2 arg3 harg3 arg4 harg4 arg5 harg5 arg6 harg6 arg7 harg7 arg8 harg8 k ⟨⟩)
              (fun _ => Held c arg2 arg3 arg4 arg5 arg6 arg7 arg8 X2 X3 X4 X5
                (arg6.view.writes (Elt F) f6 L6) (arg7.view.writes (Elt F) f7 L7) (arg8.view.writes (Elt F) f8 L8)) } := by
  refine ⟨?_, ?_, ?_, fun f6 f7 f8 => ?run⟩
  case run =>
    unfold k0_t1_body
    iintro ⟨H2, H3, H4, H5, H6, H7, H8⟩
    sl_exec
    sl_step
    sl_close

/-- What the three results' blocks hold. -/
abbrev S1 : Type := BufTy.Contents (Elt F) arg6.view.ty × BufTy.Contents (Elt F) arg7.view.ty × BufTy.Contents (Elt F) arg8.view.ty

/-- What they hold before trip `k`, from what they hold at the loop's entry. -/
def st1 (s : S1 (F := F) arg6 arg7 arg8) : ℕ → S1 (F := F) arg6 arg7 arg8
  | 0 => s
  | k + 1 => if h : k < k0_t1_loop.trips then
      let t := ⟪trip1 (F := F)⟫ X2 X3 X4 X5 ⟨k, h⟩
      let u := st1 s k
      (arg6.view.writes (Elt F) u.1 t.1, arg7.view.writes (Elt F) u.2.1 t.2.1, arg8.view.writes (Elt F) u.2.2 t.2.2.1)
    else st1 s k

theorem st1_succ (s : S1 (F := F) arg6 arg7 arg8) (k : Fin k0_t1_loop.trips) :
    ⟪st1⟫ X2 X3 X4 X5 s (k.val + 1)
      = (let t := ⟪trip1 (F := F)⟫ X2 X3 X4 X5 k
         let u := ⟪st1⟫ X2 X3 X4 X5 s k.val
         (arg6.view.writes (Elt F) u.1 t.1, arg7.view.writes (Elt F) u.2.1 t.2.1, arg8.view.writes (Elt F) u.2.2 t.2.2.1)) := by
  rw [st1, dif_pos k.isLt]

/-- The loop's invariant. -/
abbrev inv1 (G : S1 (F := F) arg6 arg7 arg8) (k : ℕ) (_ : Unit) : sProp 𝕄 :=
  iprop(own c arg2 X2 ∗ own c arg3 X3 ∗ own c arg4 X4 ∗ own c arg5 X5
    ∗ (∃ f, own c arg6 f ∗ ⌜f = (⟪st1 (F := F)⟫ X2 X3 X4 X5 G k).1⌝)
    ∗ (∃ f, own c arg7 f ∗ ⌜f = (⟪st1 (F := F)⟫ X2 X3 X4 X5 G k).2.1⌝)
    ∗ (∃ f, own c arg8 f ∗ ⌜f = (⟪st1 (F := F)⟫ X2 X3 X4 X5 G k).2.2⌝))

set_option warn.classDefReducibility false in
/-- The loop by its invariant. -/
@[sl_loop] def loop1 (G6 : BufTy.Contents (Elt F) arg6.view.ty) (G7 : BufTy.Contents (Elt F) arg7.view.ty) (G8 : BufTy.Contents (Elt F) arg8.view.ty) :
    LoopInvTy_k0_t1 (F := F) Unit ℕ (UR sig nD τ) ℕ Variants.none c none Set.univ i arg2 harg2 arg3 harg3 arg4 harg4 arg5 harg5 arg6 harg6 arg7 harg7 arg8 harg8 where
  inv := ⟪inv1 (F := F)⟫ X2 X3 X4 X5 (G6, G7, G8)
  step k acc := by
    iintro ⟨H2, H3, H4, H5, ⟨%f6, H6, %h6⟩, ⟨%f7, H7, %h7⟩, ⟨%f8, H8, %h8⟩⟩
    have hs : ⟪st1 (F := F)⟫ X2 X3 X4 X5 (G6, G7, G8) (k.val + 1)
        = (let t := ⟪trip1 (F := F)⟫ X2 X3 X4 X5 k
           (arg6.view.writes (Elt F) f6 t.1, arg7.view.writes (Elt F) f7 t.2.1, arg8.view.writes (Elt F) f8 t.2.2.1)) := by
      rw [h6, h7, h8, st1_succ]
    iapply (wp_wand_r Idealize.ShloMosaic.frame (wpE (defs₀ (F := F)) Variants.none c none) Set.univ)
    isplitl [H2 H3 H4 H5 H6 H7 H8]
    · iapply ((⟪trip1 (F := F)⟫ X2 X3 X4 X5 k).2.2.2 f6 f7 f8)
      iframe H2 H3 H4 H5 H6 H7 H8
    · iintro %y ⟨H2, H3, H4, H5, H6, H7, H8⟩
      iframe H2 H3 H4 H5
      isplitl [H6]
      · iexists _; isplitl [H6]; · iexact H6
        ipureintro; rw [hs]
      isplitl [H7]
      · iexists _; isplitl [H7]; · iexact H7
        ipureintro; rw [hs]
      iexists _; isplitl [H8]; · iexact H8
      ipureintro; rw [hs]

end Cert.SbForwardIdeal.Hand

end
-- ==== Proof.SbForward.Pieces.lean ====
/-
  What the body of the attention's forward kernel leaves in its three blocks does not depend on what they held: each of the eight trips stores a
  block of rows of each, in four pieces, one for each head.
-/
module

public import proofs.«01_k».proof.Proof.SbForward.Trips
public import Idealize.ShloMosaic.Lib.Pipeline.ValueKit

@[expose] public section

set_option maxRecDepth 16384
set_option maxHeartbeats 2000000

noncomputable section

namespace Cert.SbForwardIdeal.Hand

open Cert.SbForwardIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

theorem off4 (k : Fin k0_t1_loop.trips) : k0_off4 k 0 = 256 * k.val ∧ k0_off4 k 1 = 0 :=
  (by decide +kernel : ∀ k : Fin 8, k0_off4 k 0 = 256 * k.val ∧ k0_off4 k 1 = 0) k
theorem off5 (k : Fin k0_t1_loop.trips) : k0_off5 k 0 = 256 * k.val ∧ k0_off5 k 1 = 128 :=
  (by decide +kernel : ∀ k : Fin 8, k0_off5 k 0 = 256 * k.val ∧ k0_off5 k 1 = 128) k
theorem off6 (k : Fin k0_t1_loop.trips) : k0_off6 k 0 = 256 * k.val ∧ k0_off6 k 1 = 256 :=
  (by decide +kernel : ∀ k : Fin 8, k0_off6 k 0 = 256 * k.val ∧ k0_off6 k 1 = 256) k
theorem off7 (k : Fin k0_t1_loop.trips) : k0_off7 k 0 = 256 * k.val ∧ k0_off7 k 1 = 384 :=
  (by decide +kernel : ∀ k : Fin 8, k0_off7 k 0 = 256 * k.val ∧ k0_off7 k 1 = 384) k
theorem off20 (k : Fin k0_t1_loop.trips) : k0_off20 k 0 = 0 ∧ k0_off20 k 1 = 256 * k.val ∧ k0_off20 k 2 = 0 :=
  (by decide +kernel : ∀ k : Fin 8, k0_off20 k 0 = 0 ∧ k0_off20 k 1 = 256 * k.val ∧ k0_off20 k 2 = 0) k
theorem off21 (k : Fin k0_t1_loop.trips) : k0_off21 k 0 = 0 ∧ k0_off21 k 1 = 256 * k.val ∧ k0_off21 k 2 = 1 :=
  (by decide +kernel : ∀ k : Fin 8, k0_off21 k 0 = 0 ∧ k0_off21 k 1 = 256 * k.val ∧ k0_off21 k 2 = 1) k
theorem off22 (k : Fin k0_t1_loop.trips) : k0_off22 k 0 = 0 ∧ k0_off22 k 1 = 256 * k.val ∧ k0_off22 k 2 = 2 :=
  (by decide +kernel : ∀ k : Fin 8, k0_off22 k 0 = 0 ∧ k0_off22 k 1 = 256 * k.val ∧ k0_off22 k 2 = 2) k
theorem off23 (k : Fin k0_t1_loop.trips) : k0_off23 k 0 = 0 ∧ k0_off23 k 1 = 256 * k.val ∧ k0_off23 k 2 = 3 :=
  (by decide +kernel : ∀ k : Fin 8, k0_off23 k 0 = 0 ∧ k0_off23 k 1 = 256 * k.val ∧ k0_off23 k 2 = 3) k

/-- The four pieces of a trip hold every element of the trip's rows. -/
theorem quarters (k : Fin k0_t1_loop.trips) (p4 p5 p6 p7) (y : S2048x512.Idx) (h : 256 * k.val ≤ (y 0).val) (h' : (y 0).val < 256 * k.val + 256) :
    ∃ pc ∈ ([⟨Rect.unit (s := S2048x512) (k0_off7 k) S256x128.size (k0_off7_inb k), p7⟩, ⟨Rect.unit (s := S2048x512) (k0_off6 k) S256x128.size (k0_off6_inb k), p6⟩, ⟨Rect.unit (s := S2048x512) (k0_off5 k) S256x128.size (k0_off5_inb k), p5⟩, ⟨Rect.unit (s := S2048x512) (k0_off4 k) S256x128.size (k0_off4_inb k), p4⟩] : List (View.Piece (Elt F) S2048x512 .bf16)), y ∈ pc.1.set := by
  have hy : (y 1).val < 512 := (y 1).isLt
  have key : ∀ n : Fin 2 → ℕ, ∀ hn, n 0 = 256 * k.val → n 1 ≤ (y 1).val → (y 1).val < n 1 + 128 →
      y ∈ (Rect.unit (s := S2048x512) n S256x128.size hn).set := fun n hn h0 h1 h2 => by
    rw [Rect.mem_set_unit]
    intro a
    fin_cases a
    · exact ⟨by show n 0 ≤ _; rw [h0]; exact h, by show (y 0).val < n 0 + 256; rw [h0]; exact h'⟩
    · exact ⟨h1, h2⟩
  rcases (by omega : (y 1).val < 128 ∨ (128 ≤ (y 1).val ∧ (y 1).val < 256) ∨ (256 ≤ (y 1).val ∧ (y 1).val < 384) ∨ 384 ≤ (y 1).val) with g | g | g | g
  · exact ⟨_, List.mem_cons_of_mem _ (List.mem_cons_of_mem _ (List.mem_cons_of_mem _ (List.mem_cons_self ..))), key _ (k0_off4_inb k) (off4 k).1 (by rw [(off4 k).2]; omega) (by rw [(off4 k).2]; omega)⟩
  · exact ⟨_, List.mem_cons_of_mem _ (List.mem_cons_of_mem _ (List.mem_cons_self ..)), key _ (k0_off5_inb k) (off5 k).1 (by rw [(off5 k).2]; omega) (by rw [(off5 k).2]; omega)⟩
  · exact ⟨_, List.mem_cons_of_mem _ (List.mem_cons_self ..), key _ (k0_off6_inb k) (off6 k).1 (by rw [(off6 k).2]; omega) (by rw [(off6 k).2]; omega)⟩
  · exact ⟨_, List.mem_cons_self .., key _ (k0_off7_inb k) (off7 k).1 (by rw [(off7 k).2]; omega) (by rw [(off7 k).2]; omega)⟩

theorem columns (k : Fin k0_t1_loop.trips) (p20 p21 p22 p23) (y : S1x2048x4.Idx) (h : 256 * k.val ≤ (y 1).val) (h' : (y 1).val < 256 * k.val + 256) :
    ∃ pc ∈ ([⟨Rect.unit (s := S1x2048x4) (k0_off23 k) S1x256x1.size (k0_off23_inb k), p23⟩, ⟨Rect.unit (s := S1x2048x4) (k0_off22 k) S1x256x1.size (k0_off22_inb k), p22⟩, ⟨Rect.unit (s := S1x2048x4) (k0_off21 k) S1x256x1.size (k0_off21_inb k), p21⟩, ⟨Rect.unit (s := S1x2048x4) (k0_off20 k) S1x256x1.size (k0_off20_inb k), p20⟩] : List (View.Piece (Elt F) S1x2048x4 .f32)), y ∈ pc.1.set := by
  have hy : (y 2).val < 4 := (y 2).isLt
  have hz : (y 0).val < 1 := (y 0).isLt
  have key : ∀ n : Fin 3 → ℕ, ∀ hn, n 0 = 0 → n 1 = 256 * k.val → n 2 = (y 2).val →
      y ∈ (Rect.unit (s := S1x2048x4) n S1x256x1.size hn).set := fun n hn h0 h1 h2 => by
    rw [Rect.mem_set_unit]
    intro a
    fin_cases a
    · exact ⟨by show n 0 ≤ _; rw [h0]; exact Nat.zero_le _, by show (y 0).val < n 0 + 1; rw [h0]; omega⟩
    · exact ⟨by show n 1 ≤ _; rw [h1]; exact h, by show (y 1).val < n 1 + 256; rw [h1]; exact h'⟩
    · exact ⟨h2.le, by show (y 2).val < n 2 + 1; rw [h2]; omega⟩
  rcases (by omega : (y 2).val = 0 ∨ (y 2).val = 1 ∨ (y 2).val = 2 ∨ (y 2).val = 3) with g | g | g | g
  · exact ⟨_, List.mem_cons_of_mem _ (List.mem_cons_of_mem _ (List.mem_cons_of_mem _ (List.mem_cons_self ..))), key _ (k0_off20_inb k) (off20 k).1 (off20 k).2.1 (by rw [(off20 k).2.2]; omega)⟩
  · exact ⟨_, List.mem_cons_of_mem _ (List.mem_cons_of_mem _ (List.mem_cons_self ..)), key _ (k0_off21_inb k) (off21 k).1 (off21 k).2.1 (by rw [(off21 k).2.2]; omega)⟩
  · exact ⟨_, List.mem_cons_of_mem _ (List.mem_cons_self ..), key _ (k0_off22_inb k) (off22 k).1 (off22 k).2.1 (by rw [(off22 k).2.2]; omega)⟩
  · exact ⟨_, List.mem_cons_self .., key _ (k0_off23_inb k) (off23 k).1 (off23 k).2.1 (by rw [(off23 k).2.2]; omega)⟩

variable (c : Dev nD) (i : grid0.Coords)
  (arg2 : Memref sig .tc .vmem S2048x256 .bf16) (harg2 : arg2.IsWhole) (arg3 : Memref sig .tc .vmem S2048x256 .bf16) (harg3 : arg3.IsWhole)
  (arg4 : Memref sig .tc .vmem S2048x512 .bf16) (harg4 : arg4.IsWhole) (arg5 : Memref sig .tc .vmem S2048x512 .bf16) (harg5 : arg5.IsWhole)
  (arg6 : Memref sig .tc .vmem S2048x512 .bf16) (harg6 : arg6.IsWhole) (arg7 : Memref sig .tc .vmem S2048x512 .bf16) (harg7 : arg7.IsWhole)
  (arg8 : Memref sig .tc .vmem S1x2048x4 .f32) (harg8 : arg8.IsWhole)
  (X2 : BufTy.Contents (Elt F) arg2.view.ty) (X3 : BufTy.Contents (Elt F) arg3.view.ty) (X4 : BufTy.Contents (Elt F) arg4.view.ty)
  (X5 : BufTy.Contents (Elt F) arg5.view.ty)

set_option quotPrecheck false in
local notation:max "⟪" f "⟫" => f c i arg2 harg2 arg3 harg3 arg4 harg4 arg5 harg5 arg6 harg6 arg7 harg7 arg8 harg8 X2 X3 X4 X5

/-- The pieces stored by the trips before `k`. -/
def pieces : ℕ → List (View.Piece (Elt F) S2048x512 .bf16) × List (View.Piece (Elt F) S2048x512 .bf16) × List (View.Piece (Elt F) S1x2048x4 .f32)
  | 0 => ([], [], [])
  | k + 1 => if h : k < k0_t1_loop.trips then
      let t := ⟪trip1 (F := F)⟫ ⟨k, h⟩
      (t.1 ++ (pieces k).1, t.2.1 ++ (pieces k).2.1, t.2.2.1 ++ (pieces k).2.2)
    else pieces k

theorem pieces_succ (k : Fin k0_t1_loop.trips) :
    ⟪pieces⟫ (k.val + 1)
      = (let t := ⟪trip1 (F := F)⟫ k
         (t.1 ++ (⟪pieces⟫ k.val).1, t.2.1 ++ (⟪pieces⟫ k.val).2.1, t.2.2.1 ++ (⟪pieces⟫ k.val).2.2)) := by
  rw [pieces, dif_pos k.isLt]

/-- The loop's state is those pieces written over what was there. -/
theorem st1_eq (s : S1 (F := F) arg6 arg7 arg8) (k : ℕ) (hk : k ≤ 8) :
    ⟪st1⟫ s k = (arg6.view.writes (Elt F) s.1 (⟪pieces⟫ k).1, arg7.view.writes (Elt F) s.2.1 (⟪pieces⟫ k).2.1,
      arg8.view.writes (Elt F) s.2.2 (⟪pieces⟫ k).2.2) := by
  induction k with
  | zero => rfl
  | succ k ih =>
    have e := ⟪st1_succ⟫ s (⟨k, hk⟩ : Fin 8)
    have e' := ⟪pieces_succ⟫ (⟨k, hk⟩ : Fin 8)
    dsimp only at e e'
    rw [e, e', ih (by omega)]
    simp only [View.writes_append]

theorem trip_pieces6 (k : Fin k0_t1_loop.trips) : ∃ p4 p5 p6 p7, (⟪trip1 (F := F)⟫ k).1 = [⟨Rect.unit (s := S2048x512) (k0_off7 k) S256x128.size (k0_off7_inb k), p7⟩, ⟨Rect.unit (s := S2048x512) (k0_off6 k) S256x128.size (k0_off6_inb k), p6⟩, ⟨Rect.unit (s := S2048x512) (k0_off5 k) S256x128.size (k0_off5_inb k), p5⟩, ⟨Rect.unit (s := S2048x512) (k0_off4 k) S256x128.size (k0_off4_inb k), p4⟩] := ⟨_, _, _, _, rfl⟩
theorem trip_pieces7 (k : Fin k0_t1_loop.trips) : ∃ p4 p5 p6 p7, (⟪trip1 (F := F)⟫ k).2.1 = [⟨Rect.unit (s := S2048x512) (k0_off7 k) S256x128.size (k0_off7_inb k), p7⟩, ⟨Rect.unit (s := S2048x512) (k0_off6 k) S256x128.size (k0_off6_inb k), p6⟩, ⟨Rect.unit (s := S2048x512) (k0_off5 k) S256x128.size (k0_off5_inb k), p5⟩, ⟨Rect.unit (s := S2048x512) (k0_off4 k) S256x128.size (k0_off4_inb k), p4⟩] := ⟨_, _, _, _, rfl⟩
theorem trip_pieces8 (k : Fin k0_t1_loop.trips) : ∃ p20 p21 p22 p23, (⟪trip1 (F := F)⟫ k).2.2.1 = [⟨Rect.unit (s := S1x2048x4) (k0_off23 k) S1x256x1.size (k0_off23_inb k), p23⟩, ⟨Rect.unit (s := S1x2048x4) (k0_off22 k) S1x256x1.size (k0_off22_inb k), p22⟩, ⟨Rect.unit (s := S1x2048x4) (k0_off21 k) S1x256x1.size (k0_off21_inb k), p21⟩, ⟨Rect.unit (s := S1x2048x4) (k0_off20 k) S1x256x1.size (k0_off20_inb k), p20⟩] := ⟨_, _, _, _, rfl⟩

/-- The trips' pieces hold every row before `256 k`. -/
theorem pieces_rows (k : ℕ) (hk : k ≤ 8) :
    (∀ y : S2048x512.Idx, (y 0).val < 256 * k → ∃ pc ∈ (⟪pieces⟫ k).1, y ∈ pc.1.set)
    ∧ (∀ y : S2048x512.Idx, (y 0).val < 256 * k → ∃ pc ∈ (⟪pieces⟫ k).2.1, y ∈ pc.1.set)
    ∧ (∀ y : S1x2048x4.Idx, (y 1).val < 256 * k → ∃ pc ∈ (⟪pieces⟫ k).2.2, y ∈ pc.1.set) := by
  induction k with
  | zero => exact ⟨fun y h => absurd h (Nat.not_lt_zero _), fun y h => absurd h (Nat.not_lt_zero _), fun y h => absurd h (Nat.not_lt_zero _)⟩
  | succ k ih =>
    have e' := ⟪pieces_succ⟫ (⟨k, hk⟩ : Fin 8)
    dsimp only at e'
    rw [e']
    obtain ⟨i6, i7, i8⟩ := ih (by omega)
    obtain ⟨_, _, _, _, e6⟩ := ⟪trip_pieces6⟫ (⟨k, hk⟩ : Fin 8)
    obtain ⟨_, _, _, _, e7⟩ := ⟪trip_pieces7⟫ (⟨k, hk⟩ : Fin 8)
    obtain ⟨_, _, _, _, e8⟩ := ⟪trip_pieces8⟫ (⟨k, hk⟩ : Fin 8)
    refine ⟨fun y hy => ?_, fun y hy => ?_, fun y hy => ?_⟩
    · rcases Nat.lt_or_ge (y 0).val (256 * k) with h | h
      · obtain ⟨pc, hp, hm⟩ := i6 y h
        exact ⟨pc, List.mem_append_right _ hp, hm⟩
      · obtain ⟨pc, hp, hm⟩ := quarters (F := F) (⟨k, hk⟩ : Fin 8) _ _ _ _ y h (by show (y 0).val < 256 * k + 256; omega)
        exact ⟨pc, List.mem_append_left _ (e6 ▸ hp), hm⟩
    · rcases Nat.lt_or_ge (y 0).val (256 * k) with h | h
      · obtain ⟨pc, hp, hm⟩ := i7 y h
        exact ⟨pc, List.mem_append_right _ hp, hm⟩
      · obtain ⟨pc, hp, hm⟩ := quarters (F := F) (⟨k, hk⟩ : Fin 8) _ _ _ _ y h (by show (y 0).val < 256 * k + 256; omega)
        exact ⟨pc, List.mem_append_left _ (e7 ▸ hp), hm⟩
    · rcases Nat.lt_or_ge (y 1).val (256 * k) with h | h
      · obtain ⟨pc, hp, hm⟩ := i8 y h
        exact ⟨pc, List.mem_append_right _ hp, hm⟩
      · obtain ⟨pc, hp, hm⟩ := columns (F := F) (⟨k, hk⟩ : Fin 8) _ _ _ _ y h (by show (y 1).val < 256 * k + 256; omega)
        exact ⟨pc, List.mem_append_left _ (e8 ▸ hp), hm⟩

/-- What the body leaves in the three blocks. -/
abbrev whole6 := arg6.view.read (Elt F) (arg6.view.writes (Elt F) arg6.view.junk (⟪pieces⟫ 8).1)
abbrev whole7 := arg7.view.read (Elt F) (arg7.view.writes (Elt F) arg7.view.junk (⟪pieces⟫ 8).2.1)
abbrev whole8 := arg8.view.read (Elt F) (arg8.view.writes (Elt F) arg8.view.junk (⟪pieces⟫ 8).2.2)

theorem read_st1 (s : S1 (F := F) arg6 arg7 arg8) :
    arg6.view.read (Elt F) (⟪st1⟫ s k0_t1_loop.trips).1 = ⟪whole6⟫
    ∧ arg7.view.read (Elt F) (⟪st1⟫ s k0_t1_loop.trips).2.1 = ⟪whole7⟫
    ∧ arg8.view.read (Elt F) (⟪st1⟫ s k0_t1_loop.trips).2.2 = ⟪whole8⟫ := by
  have e := ⟪st1_eq⟫ s 8 le_rfl
  obtain ⟨h6, h7, h8⟩ := ⟪pieces_rows⟫ 8 le_rfl
  rw [show k0_t1_loop.trips = 8 from rfl, e]
  refine ⟨?_, ?_, ?_⟩
  · exact View.read_writes_of_cover _ _ _ _ _ fun y => h6 y (y 0).isLt
  · exact View.read_writes_of_cover _ _ _ _ _ fun y => h7 y (y 0).isLt
  · exact View.read_writes_of_cover _ _ _ _ _ fun y => h8 y (y 1).isLt

end Cert.SbForwardIdeal.Hand

end
-- ==== Proof.SbForward.Ops.lean ====
/-
  What one head's block of queries against one block of keys adds, in the forward kernel, to the row sums of the logarithms and to the weighted
  sum of the values, on blocks of real numbers.
-/
module

public import proofs.«01_k».proof.Proof.Gen.SbForwardIdeal.Skeleton
public import proofs.«01_k».proof.Proof.SbGrad.Ops

@[expose] public section

set_option maxRecDepth 16384

noncomputable section

namespace Cert.SbForwardIdeal.Hand

open Cert.SbForwardIdeal Cert.SbForwardIdeal.Gen Idealize.ShloMosaic Idealize.ShloMosaic.TcCoe Idealize.SL.Sem
open Cert.Finite Finset
open Cert.SbGradIdeal.Hand (IsR IsR.congr zOf lbOf lomOf keep preOf sumOf zOf_real lbOf_real lomOf_real preOf_real sumOf_real sum_fin LB mom cum wt cum_add
  wt_after lt_word sit_one sit_zero)

/-- The weights before the mask: `run` holds the rows' sums over the later blocks. -/
def wOf (v6 : FVec Ideal S256x256 .bf16) (run : FVec Ideal S256x1 .f32) (lb x : FVec Ideal S256x256 .f32) : FVec Ideal S256x256 .f32 :=
  exp (addf lb (addf (broadcastTo S256x256 run broadcasts_S256x1_S256x256) (preOf v6 x)))
/-- The weighted values added to the sum so far. -/
def accOf (acc : FVec Ideal S256x128 .f32) (a : FVec Ideal S256x256 .f32) (v : FVec Ideal S256x128 .bf16) : FVec Ideal S256x128 .f32 :=
  addf acc (matmul dot_S256x256_S256x128_S256x128_1_0_0_1_n_n none (truncf .bf16 a bitsLt_bf16_f32) v (constant S256x128 .f32 0x00000000#32))

theorem wOf_real {v6 run lb x V T L X} (hv : IsR v6 V) (ht : IsR run T) (hl : IsR lb L) (hx : IsR x X) :
    IsR (wOf v6 run lb x) fun r s => Real.exp (L r s + (T r 0 + ∑ l ∈ range 256, X r l * V l s)) := by
  intro r s
  have h := preOf_real hv hx r s
  pointwise [wOf]
  rw [h, hl r s, ht r 0]
  simp only [← EReal.coe_add]
  rfl
theorem accOf_real {acc a v O A V} (ho : IsR acc O) (ha : IsR a A) (hv : IsR v V) :
    IsR (accOf acc a v) fun r l => O r l + ∑ s ∈ range 256, A r s * V s l := by
  intro r s
  pointwise [accOf]
  simp only [ho r, ha r, fun l => hv l s, ← EReal.coe_mul, ← EReal.coe_add, sum_fin 256 fun l => A r.val l * V l s.val]
theorem keep_real {x X} (hx : IsR x X) : IsR (keep k0_pay1 x) fun r s => if s < r then X r s else 0 := by
  intro r s
  pointwise [keep, k0_pay1]
  rw [lt_word, hx r s]
  by_cases h : s.val < r.val
  · rw [if_pos h, if_pos h]; rfl
  · rw [if_neg h, if_neg h]; rfl
theorem later_real : IsR (k0_pay2 (F := Ideal)) fun r s => if s < r then 1 else 0 := by
  intro r s
  pointwise [k0_pay2]
  rw [show IntOp.cmpi .sgt (BitVec.ofNat 32 r.val) (BitVec.ofNat 32 s.val) = if s.val < r.val then 1#1 else 0#1 from lt_word s r]
  by_cases h : s.val < r.val
  · rw [if_pos h, if_pos h]; exact sit_one
  · rw [if_neg h, if_neg h]; exact sit_zero

/-- A block's sums against that matrix are the sums after a column. -/
theorem sum_later (f : ℕ → ℝ) {s n : ℕ} (h : s < n) : (∑ l ∈ range n, f l * (if s < l then 1 else 0)) = (∑ l ∈ range n, f l) - ∑ l ∈ range (s + 1), f l := by
  rw [eq_sub_iff_add_eq, ← sum_range_add_sum_Ico f (show s + 1 ≤ n from h), add_comm]
  congr 1
  simp only [mul_ite, mul_one, mul_zero]
  rw [← sum_filter]
  refine sum_congr (ext fun l => ?_) fun _ _ => rfl
  rw [mem_filter, mem_range, mem_Ico]; omega

/-- A head: its scores and its values. -/
structure HeadOf where
  Z : ℕ → ℕ → ℝ
  v : ℕ → ℕ → ℝ

/-- A row's sum of the logarithms. -/
def HeadOf.T (A : HeadOf) (R : ℕ) : ℝ := cum A.Z R 2048
/-- What the kernel carries of a head before the columns before `J`: the sums over the columns from `J` on. -/
structure Sums (A : HeadOf) (Q J : ℕ) (run : FVec Ideal S256x1 .f32) (acc : FVec Ideal S256x128 .f32) : Prop where
  run : IsR run fun r _ => A.T (Q + r) - cum A.Z (Q + r) J
  acc : IsR acc fun r l => (∑ S ∈ range 2048, wt A.Z A.T (Q + r) S * A.v S l) - ∑ S ∈ range J, wt A.Z A.T (Q + r) S * A.v S l

/-- What keeps the part of a block under the mask. -/
def Keeps (kp : FVec Ideal S256x256 .f32 → FVec Ideal S256x256 .f32) (Q J : ℕ) : Prop :=
  ∀ x X, IsR x X → IsR (kp x) fun r s => if J + s < Q + r then X r s else 0
theorem keeps_id {Q J : ℕ} (h : J + 256 ≤ Q) : Keeps id Q J := fun x X hx =>
  IsR.congr hx fun r s hr hs => (if_pos (by omega)).symm
theorem keeps_keep {Q : ℕ} : Keeps (keep k0_pay1) Q Q := fun x X hx =>
  IsR.congr (keep_real hx) fun r s hr hs => if_congr (by omega) rfl rfl

/-- One block of keys: the two sums with its columns added. -/
def runOf (kp : FVec Ideal S256x256 .f32 → FVec Ideal S256x256 .f32) (z : FVec Ideal S256x256 .f32) (run : FVec Ideal S256x1 .f32) : FVec Ideal S256x1 .f32 :=
  sumOf run (kp (lomOf z))
def addOf (kp : FVec Ideal S256x256 .f32 → FVec Ideal S256x256 .f32) (z : FVec Ideal S256x256 .f32) (v : FVec Ideal S256x128 .bf16)
    (run : FVec Ideal S256x1 .f32) (acc : FVec Ideal S256x128 .f32) : FVec Ideal S256x128 .f32 :=
  accOf acc (kp (wOf k0_pay2 run (lbOf z) (kp (lomOf z)))) v

theorem Sums.step {A : HeadOf} {Q J : ℕ} {kp z v run acc} (h : Sums A Q (J + 256) run acc) (hk : Keeps kp Q J)
    (hz : IsR z fun r s => A.Z (Q + r) (J + s)) (hv : IsR v fun s l => A.v (J + s) l) :
    Sums A Q J (runOf kp z run) (addOf kp z v run acc) := by
  have hm : IsR (kp (lomOf z)) fun r s => mom A.Z (Q + r) (J + s) := hk _ _ (lomOf_real hz)
  refine ⟨IsR.congr (sumOf_real h.run hm) fun r s hr hs => ?_, ?_⟩
  · rw [cum_add]; ring
  · have hw : IsR (kp (wOf k0_pay2 run (lbOf z) (kp (lomOf z)))) fun r s => wt A.Z A.T (Q + r) (J + s) := by
      refine IsR.congr (hk _ _ (wOf_real later_real h.run (lbOf_real hz) hm)) fun r s hr hs => ?_
      rw [wt]
      refine if_congr Iff.rfl ?_ rfl
      rw [sum_later _ hs, show J + s + 1 = J + (s + 1) by omega, cum_add, cum_add]
      congr 2; ring
    refine IsR.congr (accOf_real h.acc hw hv) fun r l hr hl => ?_
    rw [sum_range_add (fun S => wt A.Z A.T (Q + r) S * A.v S l) J 256]; ring

/-- Before the first block nothing is summed: the columns from `Q + 256` on lie after every row. -/
theorem Sums.start {A : HeadOf} {Q : ℕ} (hQ : Q + 256 ≤ 2048) : Sums A Q (Q + 256) k0_pay55 k0_pay56 := by
  have tail : ∀ (f : ℕ → ℝ), (∀ S, Q + 256 ≤ S → f S = 0) → (∑ S ∈ range 2048, f S) - ∑ S ∈ range (Q + 256), f S = 0 := fun f hf => by
    rw [← sum_range_add_sum_Ico f hQ, add_sub_cancel_left]
    exact sum_eq_zero fun S hS => hf S (mem_Ico.mp hS).1
  refine ⟨IsR.congr (X := fun _ _ => 0) (fun r s => by pointwise [k0_pay55]; rfl) fun r s hr hs => ?_,
    IsR.congr (X := fun _ _ => 0) (fun r l => by pointwise [k0_pay56]; rfl) fun r l hr hl => ?_⟩
  · exact (tail (mom A.Z (Q + r)) fun S hS => if_neg (show ¬ S < Q + r by omega)).symm
  · exact (tail _ fun S hS => by rw [wt_after _ _ (show Q + r ≤ S by omega), zero_mul]).symm

/-- After the last block the sums are the rows' whole sums. -/
theorem Sums.whole {A : HeadOf} {Q : ℕ} {run acc} (h : Sums A Q 0 run acc) : IsR run (fun r _ => A.T (Q + r))
    ∧ IsR acc fun r l => ∑ S ∈ range 2048, wt A.Z A.T (Q + r) S * A.v S l :=
  ⟨IsR.congr h.run fun r s _ _ => by rw [cum, range_zero, sum_empty, sub_zero], IsR.congr h.acc fun r l _ _ => by rw [range_zero, sum_empty, sub_zero]⟩

end Cert.SbForwardIdeal.Hand

end
-- ==== Proof.SbForward.TripEq.lean ====
/-
  One trip of the inner loop, what the inner loop starts from, and what a trip of the outer loop stores, over the operations of Ops.
-/
module

public import proofs.«01_k».proof.Proof.SbForward.Pieces
public import proofs.«01_k».proof.Proof.SbForward.Ops

@[expose] public section

set_option maxRecDepth 16384
set_option maxHeartbeats 2000000

noncomputable section

namespace Cert.SbForwardIdeal.Hand

open Cert.SbForwardIdeal.Gen
open Idealize.ShloMosaic Idealize.ShloMosaic.TcCoe
open Idealize.SL.Sem
open Cert.SbGradIdeal.Hand (IsR zOf lbOf lomOf keep preOf sumOf)

variable (c : Dev nD) (i : grid0.Coords)
  (arg2 : Memref sig .tc .vmem S2048x256 .bf16) (harg2 : arg2.IsWhole) (arg3 : Memref sig .tc .vmem S2048x256 .bf16) (harg3 : arg3.IsWhole)
  (arg4 : Memref sig .tc .vmem S2048x512 .bf16) (harg4 : arg4.IsWhole) (arg5 : Memref sig .tc .vmem S2048x512 .bf16) (harg5 : arg5.IsWhole)
  (arg6 : Memref sig .tc .vmem S2048x512 .bf16) (harg6 : arg6.IsWhole) (arg7 : Memref sig .tc .vmem S2048x512 .bf16) (harg7 : arg7.IsWhole)
  (arg8 : Memref sig .tc .vmem S1x2048x4 .f32) (harg8 : arg8.IsWhole)
  (X2 : BufTy.Contents (Elt Ideal) arg2.view.ty) (X3 : BufTy.Contents (Elt Ideal) arg3.view.ty) (X4 : BufTy.Contents (Elt Ideal) arg4.view.ty)
  (X5 : BufTy.Contents (Elt Ideal) arg5.view.ty) (q : Fin k0_t1_loop.trips)

/-- What the inner loop carries: for each head the sum of the logarithms and the weighted sum of the values. -/
abbrev Carry : Type := FVec Ideal S256x1 .f32 × FVec Ideal S256x128 .f32 × FVec Ideal S256x1 .f32 × FVec Ideal S256x128 .f32
  × FVec Ideal S256x1 .f32 × FVec Ideal S256x128 .f32 × FVec Ideal S256x1 .f32 × FVec Ideal S256x128 .f32

/-- A block of keys added to what the four heads carry. -/
def stepOf (kp : FVec Ideal S256x256 .f32 → FVec Ideal S256x256 .f32) (z0 z1 z2 z3 : FVec Ideal S256x256 .f32) (v0 v1 v2 v3 : FVec Ideal S256x128 .bf16)
    (x : Carry) : Carry :=
  (runOf kp z0 x.1, addOf kp z0 v0 x.1 x.2.1, runOf kp z1 x.2.2.1, addOf kp z1 v1 x.2.2.1 x.2.2.2.1,
   runOf kp z2 x.2.2.2.2.1, addOf kp z2 v2 x.2.2.2.2.1 x.2.2.2.2.2.1, runOf kp z3 x.2.2.2.2.2.2.1, addOf kp z3 v3 x.2.2.2.2.2.2.1 x.2.2.2.2.2.2.2)

/-- The heads' queries (scaled, the pair's other head's lanes zero). -/
abbrev q0 : FVec Ideal S256x128 .bf16 := trip1.sl.v138 arg2 X2 q
abbrev q1 : FVec Ideal S256x128 .bf16 := trip1.sl.v140 arg2 X2 q
abbrev q2 : FVec Ideal S256x128 .bf16 := trip1.sl.v142 arg2 X2 q
abbrev q3 : FVec Ideal S256x128 .bf16 := trip1.sl.v144 arg2 X2 q
/-- A load of 256 rows and 128 columns. -/
abbrev ld2 (off : Fin 2 → ℕ) (inb : ∀ a, off a + S256x128.size a ≤ S2048x256.size a) : FVec Ideal S256x128 .bf16 :=
  View.readAt (Elt Ideal) arg3.view (Rect.unit (s := S2048x256) off S256x128.size inb).toLoadRect X3
abbrev ld4 (off : Fin 2 → ℕ) (inb : ∀ a, off a + S256x128.size a ≤ S2048x512.size a) : FVec Ideal S256x128 .bf16 :=
  View.readAt (Elt Ideal) arg4.view (Rect.unit (s := S2048x512) off S256x128.size inb).toLoadRect X4

/-- What the inner loop starts from: the diagonal block. -/
abbrev init : Carry :=
  (trip1.sl.v265 arg2 arg3 X2 X3 q, trip1.sl.v268 arg2 arg3 arg4 X2 X3 X4 q, trip1.sl.v273 arg2 arg3 X2 X3 q, trip1.sl.v276 arg2 arg3 arg4 X2 X3 X4 q,
   k0_pay85 k0_pay55 (trip1.sl.v279 arg2 arg3 X2 X3 q), k0_pay86 k0_pay56 (trip1.sl.v258 arg2 arg3 X2 X3 q) (trip1.sl.r_19 arg4 X4 q),
   k0_pay87 k0_pay55 (trip1.sl.r_13 arg2 arg3 X2 X3 q),
   k0_pay88 k0_pay56 (trip1.sl.v260 arg2 arg3 X2 X3 q) (View.readAt (Elt Ideal) arg4.view (Rect.unit (s := S2048x512) (k0_off7 q) S256x128.size (k0_off7_inb q)).toLoadRect X4))

/-- What it carries before trip `k`. -/
abbrev st (k : ℕ) : Carry :=
  st_k0_t2 (F := Ideal) Variants.none c none i arg2 harg2 arg3 harg3 arg4 harg4 arg5 harg5 arg6 harg6 arg7 harg7 arg8 harg8 k0_pay2 q (trip1.sl.arg9 q) (trip1.sl.v8 q)
    (trip1.sl.v138 arg2 X2 q) (trip1.sl.v140 arg2 X2 q) (trip1.sl.v142 arg2 X2 q) (trip1.sl.v144 arg2 X2 q) k0_pay55 k0_pay56 (trip1.sl.v8 q) (trip1.sl.r_13 arg2 arg3 X2 X3 q)
    (trip1.sl.v258 arg2 arg3 X2 X3 q) (trip1.sl.v260 arg2 arg3 X2 X3 q) (trip1.sl.v265 arg2 arg3 X2 X3 q) (trip1.sl.v268 arg2 arg3 arg4 X2 X3 X4 q) (trip1.sl.v273 arg2 arg3 X2 X3 q)
    (trip1.sl.v276 arg2 arg3 arg4 X2 X3 X4 q) (trip1.sl.r_19 arg4 X4 q) (trip1.sl.v279 arg2 arg3 X2 X3 q) X3 X4 (init arg2 arg3 arg4 X2 X3 X4 q) k

theorem init_eq : init arg2 arg3 arg4 X2 X3 X4 q
    = stepOf (keep k0_pay1)
        (zOf (q0 arg2 X2 q) (ld2 arg3 X3 (k0_off2 q) (k0_off2_inb q))) (zOf (q1 arg2 X2 q) (ld2 arg3 X3 (k0_off2 q) (k0_off2_inb q)))
        (zOf (q2 arg2 X2 q) (ld2 arg3 X3 (k0_off3 q) (k0_off3_inb q))) (zOf (q3 arg2 X2 q) (ld2 arg3 X3 (k0_off3 q) (k0_off3_inb q)))
        (ld4 arg4 X4 (k0_off4 q) (k0_off4_inb q)) (ld4 arg4 X4 (k0_off5 q) (k0_off5_inb q))
        (ld4 arg4 X4 (k0_off6 q) (k0_off6_inb q)) (ld4 arg4 X4 (k0_off7 q) (k0_off7_inb q))
        (k0_pay55, k0_pay56, k0_pay55, k0_pay56, k0_pay55, k0_pay56, k0_pay55, k0_pay56) := rfl

theorem st_step (k : Fin (k0_t2_loop q).trips) :
    st c i arg2 harg2 arg3 harg3 arg4 harg4 arg5 harg5 arg6 harg6 arg7 harg7 arg8 harg8 X2 X3 X4 q (k.val + 1)
      = stepOf id
        (zOf (q0 arg2 X2 q) (ld2 arg3 X3 (k0_off8 q k) (k0_off8_inb q k))) (zOf (q1 arg2 X2 q) (ld2 arg3 X3 (k0_off8 q k) (k0_off8_inb q k)))
        (zOf (q2 arg2 X2 q) (ld2 arg3 X3 (k0_off9 q k) (k0_off9_inb q k))) (zOf (q3 arg2 X2 q) (ld2 arg3 X3 (k0_off9 q k) (k0_off9_inb q k)))
        (ld4 arg4 X4 (k0_off10 q k) (k0_off10_inb q k)) (ld4 arg4 X4 (k0_off11 q k) (k0_off11_inb q k))
        (ld4 arg4 X4 (k0_off12 q k) (k0_off12_inb q k)) (ld4 arg4 X4 (k0_off13 q k) (k0_off13_inb q k))
        (st c i arg2 harg2 arg3 harg3 arg4 harg4 arg5 harg5 arg6 harg6 arg7 harg7 arg8 harg8 X2 X3 X4 q k.val) := by
  refine (st_k0_t2_succ ..).trans ?_
  unfold tripR_k0_t2 trip_k0_t2
  rfl

end Cert.SbForwardIdeal.Hand

end
-- ==== Proof.SbForward.Blocks.lean ====
/-
  Where the loads of the forward kernel lie, what they read, and its masked queries.
-/
module

public import proofs.«01_k».proof.Proof.SbForward.TripEq
public import proofs.«01_k».proof.Proof.SbGrad.Masks

@[expose] public section

set_option maxRecDepth 16384
set_option maxHeartbeats 1000000

noncomputable section

namespace Cert.SbForwardIdeal.Hand

open Cert.SbForwardIdeal Cert.SbForwardIdeal.Gen
open Idealize.ShloMosaic Idealize.ShloMosaic.TcCoe
open Idealize.SL.Sem
open Finset
open Cert.SbGradIdeal.Hand (IsR IsR.congr readAt_blk select_if eighth qHead zOf zOf_real)

theorem q_lt (q : Fin k0_t1_loop.trips) : q.val < 8 := q.isLt
theorem trips2 (q : Fin k0_t1_loop.trips) : (k0_t2_loop q).trips = q.val :=
  (by decide +kernel : ∀ q : Fin 8, (k0_t2_loop q).trips = q.val) q
theorem off1 (q : Fin k0_t1_loop.trips) : k0_off1 q 0 = 256 * q.val ∧ k0_off1 q 1 = 0 :=
  (by decide +kernel : ∀ q : Fin 8, k0_off1 q 0 = 256 * q.val ∧ k0_off1 q 1 = 0) q
theorem off2 (q : Fin k0_t1_loop.trips) : k0_off2 q 0 = 256 * q.val ∧ k0_off2 q 1 = 0 :=
  (by decide +kernel : ∀ q : Fin 8, k0_off2 q 0 = 256 * q.val ∧ k0_off2 q 1 = 0) q
theorem off3 (q : Fin k0_t1_loop.trips) : k0_off3 q 0 = 256 * q.val ∧ k0_off3 q 1 = 128 :=
  (by decide +kernel : ∀ q : Fin 8, k0_off3 q 0 = 256 * q.val ∧ k0_off3 q 1 = 128) q
theorem off8 (q : Fin k0_t1_loop.trips) (k : Fin (k0_t2_loop q).trips) : k0_off8 q k 0 = 256 * (q.val - 1 - k.val) ∧ k0_off8 q k 1 = 0 :=
  (by decide +kernel : ∀ q : Fin 8, ∀ k : Fin (k0_t2_loop q).trips, k0_off8 q k 0 = 256 * (q.val - 1 - k.val) ∧ k0_off8 q k 1 = 0) q k
theorem off9 (q : Fin k0_t1_loop.trips) (k : Fin (k0_t2_loop q).trips) : k0_off9 q k 0 = 256 * (q.val - 1 - k.val) ∧ k0_off9 q k 1 = 128 :=
  (by decide +kernel : ∀ q : Fin 8, ∀ k : Fin (k0_t2_loop q).trips, k0_off9 q k 0 = 256 * (q.val - 1 - k.val) ∧ k0_off9 q k 1 = 128) q k
theorem off10 (q : Fin k0_t1_loop.trips) (k : Fin (k0_t2_loop q).trips) : k0_off10 q k 0 = 256 * (q.val - 1 - k.val) ∧ k0_off10 q k 1 = 0 :=
  (by decide +kernel : ∀ q : Fin 8, ∀ k : Fin (k0_t2_loop q).trips, k0_off10 q k 0 = 256 * (q.val - 1 - k.val) ∧ k0_off10 q k 1 = 0) q k
theorem off11 (q : Fin k0_t1_loop.trips) (k : Fin (k0_t2_loop q).trips) : k0_off11 q k 0 = 256 * (q.val - 1 - k.val) ∧ k0_off11 q k 1 = 128 :=
  (by decide +kernel : ∀ q : Fin 8, ∀ k : Fin (k0_t2_loop q).trips, k0_off11 q k 0 = 256 * (q.val - 1 - k.val) ∧ k0_off11 q k 1 = 128) q k
theorem off12 (q : Fin k0_t1_loop.trips) (k : Fin (k0_t2_loop q).trips) : k0_off12 q k 0 = 256 * (q.val - 1 - k.val) ∧ k0_off12 q k 1 = 256 :=
  (by decide +kernel : ∀ q : Fin 8, ∀ k : Fin (k0_t2_loop q).trips, k0_off12 q k 0 = 256 * (q.val - 1 - k.val) ∧ k0_off12 q k 1 = 256) q k
theorem off13 (q : Fin k0_t1_loop.trips) (k : Fin (k0_t2_loop q).trips) : k0_off13 q k 0 = 256 * (q.val - 1 - k.val) ∧ k0_off13 q k 1 = 384 :=
  (by decide +kernel : ∀ q : Fin 8, ∀ k : Fin (k0_t2_loop q).trips, k0_off13 q k 0 = 256 * (q.val - 1 - k.val) ∧ k0_off13 q k 1 = 384) q k

theorem read_blk {sp : Space} {m n p w J C : ℕ} {v : View sig .tc sp ⟨2, ![m, n]⟩ .bf16} {f : v.ty.Contents (Elt Ideal)} {X : ℕ → ℕ → ℝ}
    (h : IsR (v.read (Elt Ideal) f) X) (off : Fin 2 → ℕ) (inb) (e0 : off 0 = J) (e1 : off 1 = C) (hm : J + p ≤ m) (hn : C + w ≤ n) :
    IsR (View.readAt (Elt Ideal) v (Rect.unit (s := ⟨2, ![m, n]⟩) off ![p, w] inb).toLoadRect f) fun r l => X (J + r) (C + l) := fun r l => by
  rw [View.readAt_apply]
  refine (congrArg (v.read (Elt Ideal) f) (?_ : _ = ix2 (⟨J + r.val, by have := r.isLt; omega⟩ : Fin m) (⟨C + l.val, by have := l.isLt; omega⟩ : Fin n))).trans (h _ _)
  refine funext fun a => Fin.ext ((Rect.idx_unit_val off ![p, w] inb (ix2 r l) a).trans ?_)
  fin_cases a
  · exact congrArg (· + r.val) e0
  · exact congrArg (· + l.val) e1

theorem lane_v41 (l : Fin 128) : trip1.sl.v41 (ix2 0 l) = if l.val / 64 = 0 then 1#1 else 0#1 := by
  revert l; decide +kernel
theorem lane_v72 (l : Fin 128) : trip1.sl.v72 (ix2 0 l) = if l.val / 64 = 1 then 1#1 else 0#1 := by
  revert l; decide +kernel

variable (arg2 : Memref sig .tc .vmem S2048x256 .bf16) (X2 : BufTy.Contents (Elt Ideal) arg2.view.ty) (q : Fin k0_t1_loop.trips)

theorem q_real0 {X} (h : IsR (arg2.view.read (Elt Ideal) X2) X) : IsR (q0 arg2 X2 q) fun r l => qHead X 0 (256 * q.val + r) l := by
  intro r l
  have h' := read_blk (p := 256) (w := 256) h (k0_off1 q) (k0_off1_inb q) (off1 q).1 (off1 q).2 (by have := q_lt q; omega) (by omega)
  pointwise [trip1.sl.v138, trip1.sl.v43, trip1.sl.v13, trip1.sl.v40, trip1.sl.v137, trip1.sl.cst_35, trip1.sl.cst]
  rw [lane_v41, eighth]
  refine select_if _ _ _ ?_
  rw [EReal.coe_mul]
  refine congrArg (· * _) ((h' r ⟨_, _⟩).trans ?_)
  (simp only [Nat.zero_add]) <;> (congr 2 <;> omega)

theorem q_real1 {X} (h : IsR (arg2.view.read (Elt Ideal) X2) X) : IsR (q1 arg2 X2 q) fun r l => qHead X 1 (256 * q.val + r) l := by
  intro r l
  have h' := read_blk (p := 256) (w := 256) h (k0_off1 q) (k0_off1_inb q) (off1 q).1 (off1 q).2 (by have := q_lt q; omega) (by omega)
  pointwise [trip1.sl.v140, trip1.sl.v74, trip1.sl.v13, trip1.sl.v40, trip1.sl.v137, trip1.sl.cst_35, trip1.sl.cst]
  rw [lane_v72, eighth]
  refine select_if _ _ _ ?_
  rw [EReal.coe_mul]
  refine congrArg (· * _) ((h' r ⟨_, _⟩).trans ?_)
  (simp only [Nat.zero_add]) <;> (congr 2 <;> omega)

theorem q_real2 {X} (h : IsR (arg2.view.read (Elt Ideal) X2) X) : IsR (q2 arg2 X2 q) fun r l => qHead X 2 (256 * q.val + r) l := by
  intro r l
  have h' := read_blk (p := 256) (w := 256) h (k0_off1 q) (k0_off1_inb q) (off1 q).1 (off1 q).2 (by have := q_lt q; omega) (by omega)
  pointwise [trip1.sl.v142, trip1.sl.v105, trip1.sl.v75, trip1.sl.r, trip1.sl.v40, trip1.sl.v137, trip1.sl.cst_35, trip1.sl.cst]
  rw [lane_v41, eighth]
  refine select_if _ _ _ ?_
  rw [EReal.coe_mul]
  refine congrArg (· * _) ((h' r ⟨_, _⟩).trans ?_)
  (simp only [Nat.zero_add]) <;> (congr 2 <;> omega)

theorem q_real3 {X} (h : IsR (arg2.view.read (Elt Ideal) X2) X) : IsR (q3 arg2 X2 q) fun r l => qHead X 3 (256 * q.val + r) l := by
  intro r l
  have h' := read_blk (p := 256) (w := 256) h (k0_off1 q) (k0_off1_inb q) (off1 q).1 (off1 q).2 (by have := q_lt q; omega) (by omega)
  pointwise [trip1.sl.v144, trip1.sl.v136, trip1.sl.v75, trip1.sl.r, trip1.sl.v40, trip1.sl.v137, trip1.sl.cst_35, trip1.sl.cst]
  rw [lane_v72, eighth]
  refine select_if _ _ _ ?_
  rw [EReal.coe_mul]
  refine congrArg (· * _) ((h' r ⟨_, _⟩).trans ?_)
  (simp only [Nat.zero_add]) <;> (congr 2 <;> omega)

/-- Head `h` of a point's blocks. -/
def headOf (Xq Xk Xv : ℕ → ℕ → ℝ) (h : ℕ) : HeadOf where
  Z R S := ∑ l ∈ range 128, qHead Xq h R l * Xk S (128 * (h / 2) + l)
  v S l := Xv S (128 * h + l)

end Cert.SbForwardIdeal.Hand

end
-- ==== Proof.SbForward.State.lean ====
/-
  What the inner loop carries: the sums over the columns from the current block on.
-/
module

public import proofs.«01_k».proof.Proof.SbForward.Blocks

@[expose] public section

set_option maxRecDepth 16384
set_option maxHeartbeats 1000000

noncomputable section

namespace Cert.SbForwardIdeal.Hand

open Cert.SbForwardIdeal Cert.SbForwardIdeal.Gen
open Idealize.ShloMosaic Idealize.ShloMosaic.TcCoe
open Idealize.SL.Sem
open Finset
open Cert.SbGradIdeal.Hand (IsR IsR.congr zOf zOf_real keep wt qHead)

variable (c : Dev nD) (i : grid0.Coords)
  (arg2 : Memref sig .tc .vmem S2048x256 .bf16) (harg2 : arg2.IsWhole) (arg3 : Memref sig .tc .vmem S2048x256 .bf16) (harg3 : arg3.IsWhole)
  (arg4 : Memref sig .tc .vmem S2048x512 .bf16) (harg4 : arg4.IsWhole) (arg5 : Memref sig .tc .vmem S2048x512 .bf16) (harg5 : arg5.IsWhole)
  (arg6 : Memref sig .tc .vmem S2048x512 .bf16) (harg6 : arg6.IsWhole) (arg7 : Memref sig .tc .vmem S2048x512 .bf16) (harg7 : arg7.IsWhole)
  (arg8 : Memref sig .tc .vmem S1x2048x4 .f32) (harg8 : arg8.IsWhole)
  (X2 : BufTy.Contents (Elt Ideal) arg2.view.ty) (X3 : BufTy.Contents (Elt Ideal) arg3.view.ty) (X4 : BufTy.Contents (Elt Ideal) arg4.view.ty)
  (X5 : BufTy.Contents (Elt Ideal) arg5.view.ty) (q : Fin k0_t1_loop.trips)

/-- The four heads' sums. -/
structure Carried (A B C D : HeadOf) (Q J : ℕ) (x : Carry) : Prop where
  a : Sums A Q J x.1 x.2.1
  b : Sums B Q J x.2.2.1 x.2.2.2.1
  c : Sums C Q J x.2.2.2.2.1 x.2.2.2.2.2.1
  d : Sums D Q J x.2.2.2.2.2.2.1 x.2.2.2.2.2.2.2

theorem Carried.step {A B C D : HeadOf} {Q J : ℕ} {kp z0 z1 z2 z3 v0 v1 v2 v3 x} (s : Carried A B C D Q (J + 256) x) (hk : Keeps kp Q J)
    (h0 : IsR z0 fun r s => A.Z (Q + r) (J + s)) (h1 : IsR z1 fun r s => B.Z (Q + r) (J + s))
    (h2 : IsR z2 fun r s => C.Z (Q + r) (J + s)) (h3 : IsR z3 fun r s => D.Z (Q + r) (J + s))
    (g0 : IsR v0 fun s l => A.v (J + s) l) (g1 : IsR v1 fun s l => B.v (J + s) l) (g2 : IsR v2 fun s l => C.v (J + s) l) (g3 : IsR v3 fun s l => D.v (J + s) l) :
    Carried A B C D Q J (stepOf kp z0 z1 z2 z3 v0 v1 v2 v3 x) :=
  ⟨s.a.step hk h0 g0, s.b.step hk h1 g1, s.c.step hk h2 g2, s.d.step hk h3 g3⟩

variable {Xq Xk Xv : ℕ → ℕ → ℝ} (hq : IsR (arg2.view.read (Elt Ideal) X2) Xq) (hk : IsR (arg3.view.read (Elt Ideal) X3) Xk)
  (hv : IsR (arg4.view.read (Elt Ideal) X4) Xv)

abbrev Held4 (Xq Xk Xv : ℕ → ℕ → ℝ) : ℕ → ℕ → Carry → Prop :=
  Carried (headOf Xq Xk Xv 0) (headOf Xq Xk Xv 1) (headOf Xq Xk Xv 2) (headOf Xq Xk Xv 3)

theorem z_held {h C Q J : ℕ} {z kv : FVec Ideal S256x128 .bf16} (h0 : IsR z fun r l => qHead Xq h (Q + r) l) (h1 : IsR kv fun s l => Xk (J + s) (C + l))
    (hC : C = 128 * (h / 2)) : IsR (zOf z kv) fun r s => (headOf Xq Xk Xv h).Z (Q + r) (J + s) := by
  subst hC; exact zOf_real h0 h1
theorem v_held {h C J : ℕ} {v : FVec Ideal S256x128 .bf16} (h0 : IsR v fun s l => Xv (J + s) (C + l)) (hC : C = 128 * h) :
    IsR v fun s l => (headOf Xq Xk Xv h).v (J + s) l := by
  subst hC; exact h0

include hq hk hv in
theorem init_held : Held4 Xq Xk Xv (256 * q.val) (256 * q.val) (init arg2 arg3 arg4 X2 X3 X4 q) := by
  have hq8 := q_lt q
  rw [init_eq]
  have s0 : ∀ A, Sums A (256 * q.val) (256 * q.val + 256) k0_pay55 k0_pay56 := fun A => Sums.start (by omega)
  refine Carried.step ⟨s0 _, s0 _, s0 _, s0 _⟩ keeps_keep
    (z_held (q_real0 arg2 X2 q hq) (read_blk (p := 256) (w := 128) hk _ _ (off2 q).1 (off2 q).2 (by omega) (by omega)) (by norm_num))
    (z_held (q_real1 arg2 X2 q hq) (read_blk (p := 256) (w := 128) hk _ _ (off2 q).1 (off2 q).2 (by omega) (by omega)) (by norm_num))
    (z_held (q_real2 arg2 X2 q hq) (read_blk (p := 256) (w := 128) hk _ _ (off3 q).1 (off3 q).2 (by omega) (by omega)) (by norm_num))
    (z_held (q_real3 arg2 X2 q hq) (read_blk (p := 256) (w := 128) hk _ _ (off3 q).1 (off3 q).2 (by omega) (by omega)) (by norm_num))
    (v_held (read_blk (p := 256) (w := 128) hv _ _ (off4 q).1 (off4 q).2 (by omega) (by omega)) (by norm_num)) (v_held (read_blk (p := 256) (w := 128) hv _ _ (off5 q).1 (off5 q).2 (by omega) (by omega)) (by norm_num))
    (v_held (read_blk (p := 256) (w := 128) hv _ _ (off6 q).1 (off6 q).2 (by omega) (by omega)) (by norm_num)) (v_held (read_blk (p := 256) (w := 128) hv _ _ (off7 q).1 (off7 q).2 (by omega) (by omega)) (by norm_num))

include hq hk hv in
theorem st_held (k : ℕ) (h : k ≤ q.val) : Held4 Xq Xk Xv (256 * q.val) (256 * (q.val - k)) (st c i arg2 harg2 arg3 harg3 arg4 harg4 arg5 harg5 arg6 harg6 arg7 harg7 arg8 harg8 X2 X3 X4 q k) := by
  have hq8 := q_lt q
  induction k with
  | zero => exact init_held arg2 arg3 arg4 X2 X3 X4 q hq hk hv
  | succ k ih =>
    have hlt : k < (k0_t2_loop q).trips := by rw [trips2]; omega
    have e := st_step c i arg2 harg2 arg3 harg3 arg4 harg4 arg5 harg5 arg6 harg6 arg7 harg7 arg8 harg8 X2 X3 X4 q ⟨k, hlt⟩
    dsimp only at e
    rw [e]
    have i := ih (by omega)
    rw [show 256 * (q.val - k) = 256 * (q.val - 1 - k) + 256 by omega] at i
    rw [show q.val - (k + 1) = q.val - 1 - k by omega]
    exact Carried.step i (keeps_id (by omega))
      (z_held (q_real0 arg2 X2 q hq) (read_blk (p := 256) (w := 128) hk _ _ (off8 q ⟨k, hlt⟩).1 (off8 q ⟨k, hlt⟩).2 (by (try simp only []); omega) (by omega)) (by norm_num))
      (z_held (q_real1 arg2 X2 q hq) (read_blk (p := 256) (w := 128) hk _ _ (off8 q ⟨k, hlt⟩).1 (off8 q ⟨k, hlt⟩).2 (by (try simp only []); omega) (by omega)) (by norm_num))
      (z_held (q_real2 arg2 X2 q hq) (read_blk (p := 256) (w := 128) hk _ _ (off9 q ⟨k, hlt⟩).1 (off9 q ⟨k, hlt⟩).2 (by (try simp only []); omega) (by omega)) (by norm_num))
      (z_held (q_real3 arg2 X2 q hq) (read_blk (p := 256) (w := 128) hk _ _ (off9 q ⟨k, hlt⟩).1 (off9 q ⟨k, hlt⟩).2 (by (try simp only []); omega) (by omega)) (by norm_num))
      (v_held (read_blk (p := 256) (w := 128) hv _ _ (off10 q ⟨k, hlt⟩).1 (off10 q ⟨k, hlt⟩).2 (by (try simp only []); omega) (by omega)) (by norm_num)) (v_held (read_blk (p := 256) (w := 128) hv _ _ (off11 q ⟨k, hlt⟩).1 (off11 q ⟨k, hlt⟩).2 (by (try simp only []); omega) (by omega)) (by norm_num))
      (v_held (read_blk (p := 256) (w := 128) hv _ _ (off12 q ⟨k, hlt⟩).1 (off12 q ⟨k, hlt⟩).2 (by (try simp only []); omega) (by omega)) (by norm_num)) (v_held (read_blk (p := 256) (w := 128) hv _ _ (off13 q ⟨k, hlt⟩).1 (off13 q ⟨k, hlt⟩).2 (by (try simp only []); omega) (by omega)) (by norm_num))

/-- What the inner loop ends with. -/
abbrev fin : Carry := st c i arg2 harg2 arg3 harg3 arg4 harg4 arg5 harg5 arg6 harg6 arg7 harg7 arg8 harg8 X2 X3 X4 q (k0_t2_loop q).trips

include hq hk hv in
theorem fin_held : Held4 Xq Xk Xv (256 * q.val) 0 (fin c i arg2 harg2 arg3 harg3 arg4 harg4 arg5 harg5 arg6 harg6 arg7 harg7 arg8 harg8 X2 X3 X4 q) := by
  have h := st_held c i arg2 harg2 arg3 harg3 arg4 harg4 arg5 harg5 arg6 harg6 arg7 harg7 arg8 harg8 X2 X3 X4 q hq hk hv q.val le_rfl
  rw [Nat.sub_self, Nat.mul_zero] at h
  rw [fin, trips2]
  exact h

end Cert.SbForwardIdeal.Hand

end
-- ==== Proof.SbForward.Stored.lean ====
/-
  What a trip stores, in the real numbers: an accumulator, an accumulator times the gate, a column of sums, each at its place of the block.
-/
module

public import proofs.«01_k».proof.Proof.SbForward.State
public import proofs.«01_k».proof.Proof.Finite

@[expose] public section

set_option maxRecDepth 16384
set_option maxHeartbeats 2000000

noncomputable section

namespace Cert.SbForwardIdeal.Hand

open Cert.SbForwardIdeal Cert.SbForwardIdeal.Gen
open Idealize.ShloMosaic Idealize.ShloMosaic.TcCoe
open Idealize.SL.Sem
open Finset
open Cert.SbGradIdeal.Hand (IsR IsR.congr wt)
open Cert.Finite (sg sigm sigm_coe)

section Payloads
variable {v : FVec Ideal S256x128 .f32} {w : FVec Ideal S256x128 .bf16} {x : FVec Ideal S256x1 .f32} {V W T : ℕ → ℕ → ℝ}

theorem o_pay (hv : IsR v V) : IsR (k0_pay4 v) V := fun r l => by pointwise [k0_pay4]; exact hv r l
theorem y_pay (hv : IsR v V) (hw : IsR w W) : IsR (k0_pay5 v w) fun r l => V r l * (W r l * sg (W r l)) := fun r l => by
  pointwise [k0_pay5]
  rw [hv r l, hw r l]
  refine (show _ = ((V r.val l.val : ℝ) : EReal) * (((W r.val l.val : ℝ) : EReal) * sigm ((W r.val l.val : ℝ) : EReal)) from rfl).trans ?_
  rw [sigm_coe, ← EReal.coe_mul, ← EReal.coe_mul]
theorem t_pay (hx : IsR x T) (i : S1x256x1.Idx) : (k0_pay6 x i : EReal) = ((T (i 1).val 0 : ℝ) : EReal) := by
  obtain ⟨a, r, b, rfl⟩ : ∃ (a : Fin 1) (r : Fin 256) (b : Fin 1), i = ix3 a r b :=
    ⟨i 0, i 1, i 2, by funext k; match k with | ⟨0, _⟩ => rfl | ⟨1, _⟩ => rfl | ⟨2, _⟩ => rfl⟩
  pointwise [k0_pay6]
  exact (congrArg x (by funext k; match k with | ⟨0, _⟩ => rfl | ⟨1, _⟩ => exact Fin.ext (by simp only [] <;> omega))).trans (hx r 0)

/-- A stored piece holds the numbers of its place. -/
theorem put {off : Fin 2 → ℕ} (inb) {w : FVec Ideal S256x128 .bf16} {Q C : ℕ} {O : ℕ → ℕ → ℝ} (hw : IsR w fun r l => O (Q + r) (C + l))
    (e0 : off 0 = Q) (e1 : off 1 = C) (x : (Rect.unit (s := S2048x512) off S256x128.size inb).shape.Idx) :
    (w x : EReal) = ((O ((Rect.unit (s := S2048x512) off S256x128.size inb).emb x 0).val ((Rect.unit (s := S2048x512) off S256x128.size inb).emb x 1).val : ℝ) : EReal) := by
  have h0 : ((Rect.unit (s := S2048x512) off S256x128.size inb).emb x 0).val = Q + (x 0).val := (Rect.idx_unit_val (s := S2048x512) off S256x128.size inb x 0).trans (by rw [e0])
  have h1 : ((Rect.unit (s := S2048x512) off S256x128.size inb).emb x 1).val = C + (x 1).val := (Rect.idx_unit_val (s := S2048x512) off S256x128.size inb x 1).trans (by rw [e1])
  rw [h0, h1]
  exact (congrArg w (show x = ix2 (x 0) (x 1) by funext k; match k with | ⟨0, _⟩ => rfl | ⟨1, _⟩ => rfl)).trans (hw (x 0) (x 1))
theorem put3 {off : Fin 3 → ℕ} (inb) {Q h : ℕ} {T : ℕ → ℕ → ℝ} {u : FVec Ideal S256x1 .f32} (hu : IsR u fun r _ => T (Q + r) h)
    (e1 : off 1 = Q) (e2 : off 2 = h) (x : (Rect.unit (s := S1x2048x4) off S1x256x1.size inb).shape.Idx) :
    (k0_pay6 u x : EReal) = ((T ((Rect.unit (s := S1x2048x4) off S1x256x1.size inb).emb x 1).val ((Rect.unit (s := S1x2048x4) off S1x256x1.size inb).emb x 2).val : ℝ) : EReal) := by
  have h1 : ((Rect.unit (s := S1x2048x4) off S1x256x1.size inb).emb x 1).val = Q + (x 1).val := (Rect.idx_unit_val (s := S1x2048x4) off S1x256x1.size inb x 1).trans (by rw [e1])
  have hx : (x 2).val < 1 := (x 2).isLt
  have h2 : ((Rect.unit (s := S1x2048x4) off S1x256x1.size inb).emb x 2).val = h := (Rect.idx_unit_val (s := S1x2048x4) off S1x256x1.size inb x 2).trans (by rw [e2]; omega)
  rw [h1, h2]
  exact t_pay hu x
/-- The four pieces of a trip. -/
theorem put_four {O : ℕ → ℕ → ℝ} (k : Fin k0_t1_loop.trips) {w4 w5 w6 w7 : FVec Ideal S256x128 .bf16}
    (h4 : IsR w4 fun r l => O (256 * k.val + r) (0 + l)) (h5 : IsR w5 fun r l => O (256 * k.val + r) (128 + l))
    (h6 : IsR w6 fun r l => O (256 * k.val + r) (256 + l)) (h7 : IsR w7 fun r l => O (256 * k.val + r) (384 + l)) :
    ∀ p ∈ ([⟨Rect.unit (s := S2048x512) (k0_off7 k) S256x128.size (k0_off7_inb k), w7⟩, ⟨Rect.unit (s := S2048x512) (k0_off6 k) S256x128.size (k0_off6_inb k), w6⟩, ⟨Rect.unit (s := S2048x512) (k0_off5 k) S256x128.size (k0_off5_inb k), w5⟩, ⟨Rect.unit (s := S2048x512) (k0_off4 k) S256x128.size (k0_off4_inb k), w4⟩] : List (View.Piece (Elt Ideal) S2048x512 .bf16)),
      ∀ x, (p.2 x : EReal) = ((O (p.1.emb x 0).val (p.1.emb x 1).val : ℝ) : EReal) := by
  intro p hp
  simp only [List.mem_cons, List.not_mem_nil, or_false] at hp
  obtain rfl | rfl | rfl | rfl := hp
  · exact put (k0_off7_inb k) h7 (off7 k).1 (off7 k).2
  · exact put (k0_off6_inb k) h6 (off6 k).1 (off6 k).2
  · exact put (k0_off5_inb k) h5 (off5 k).1 (off5 k).2
  · exact put (k0_off4_inb k) h4 (off4 k).1 (off4 k).2
theorem put_columns {T : ℕ → ℕ → ℝ} (k : Fin k0_t1_loop.trips) {u20 u21 u22 u23 : FVec Ideal S256x1 .f32}
    (h0 : IsR u20 fun r _ => T (256 * k.val + r) 0) (h1 : IsR u21 fun r _ => T (256 * k.val + r) 1)
    (h2 : IsR u22 fun r _ => T (256 * k.val + r) 2) (h3 : IsR u23 fun r _ => T (256 * k.val + r) 3) :
    ∀ p ∈ ([⟨Rect.unit (s := S1x2048x4) (k0_off23 k) S1x256x1.size (k0_off23_inb k), k0_pay6 u23⟩, ⟨Rect.unit (s := S1x2048x4) (k0_off22 k) S1x256x1.size (k0_off22_inb k), k0_pay6 u22⟩, ⟨Rect.unit (s := S1x2048x4) (k0_off21 k) S1x256x1.size (k0_off21_inb k), k0_pay6 u21⟩, ⟨Rect.unit (s := S1x2048x4) (k0_off20 k) S1x256x1.size (k0_off20_inb k), k0_pay6 u20⟩] : List (View.Piece (Elt Ideal) S1x2048x4 .f32)),
      ∀ x, (p.2 x : EReal) = ((T (p.1.emb x 1).val (p.1.emb x 2).val : ℝ) : EReal) := by
  intro p hp
  simp only [List.mem_cons, List.not_mem_nil, or_false] at hp
  obtain rfl | rfl | rfl | rfl := hp
  · exact put3 (k0_off23_inb k) h3 (off23 k).2.1 (off23 k).2.2
  · exact put3 (k0_off22_inb k) h2 (off22 k).2.1 (off22 k).2.2
  · exact put3 (k0_off21_inb k) h1 (off21 k).2.1 (off21 k).2.2
  · exact put3 (k0_off20_inb k) h0 (off20 k).2.1 (off20 k).2.2
end Payloads

/-- A lane's weighted sum of the values, and a row's sum of the logarithms, of a point's blocks. -/
def oReal (Xq Xk Xv : ℕ → ℕ → ℝ) (R l : ℕ) : ℝ :=
  ∑ S ∈ range 2048, wt (headOf Xq Xk Xv (l / 128)).Z (headOf Xq Xk Xv (l / 128)).T R S * (headOf Xq Xk Xv (l / 128)).v S (l % 128)
def yReal (Xq Xk Xv Xz : ℕ → ℕ → ℝ) (R l : ℕ) : ℝ := oReal Xq Xk Xv R l * (Xz R l * sg (Xz R l))
def tReal (Xq Xk Xv : ℕ → ℕ → ℝ) (R h : ℕ) : ℝ := (headOf Xq Xk Xv h).T R

theorem acc_held {Xq Xk Xv : ℕ → ℕ → ℝ} {Q C h : ℕ} {run acc} (s : Sums (headOf Xq Xk Xv h) Q 0 run acc) (hC : C = 128 * h) :
    IsR acc fun r l => oReal Xq Xk Xv (Q + r) (C + l) := by
  subst hC
  refine IsR.congr s.whole.2 fun r l hr hl => ?_
  rw [oReal, show (128 * h + l) / 128 = h by omega, show (128 * h + l) % 128 = l by omega]

end Cert.SbForwardIdeal.Hand

end
-- ==== Proof.SbForward.Lists.lean ====
/-
  The pieces that a trip stores, over what its inner loop ends with.
-/
module

public import proofs.«01_k».proof.Proof.SbForward.State
public import proofs.«01_k».proof.Proof.Finite

@[expose] public section

set_option maxRecDepth 16384
set_option maxHeartbeats 2000000

noncomputable section

namespace Cert.SbForwardIdeal.Hand

open Cert.SbForwardIdeal Cert.SbForwardIdeal.Gen
open Idealize.ShloMosaic Idealize.ShloMosaic.TcCoe
open Idealize.SL.Sem
open Finset
open Cert.SbGradIdeal.Hand (IsR IsR.congr wt)
open Cert.Finite (sg sigm sigm_coe)

variable (c : Dev nD) (i : grid0.Coords)
  (arg2 : Memref sig .tc .vmem S2048x256 .bf16) (harg2 : arg2.IsWhole) (arg3 : Memref sig .tc .vmem S2048x256 .bf16) (harg3 : arg3.IsWhole)
  (arg4 : Memref sig .tc .vmem S2048x512 .bf16) (harg4 : arg4.IsWhole) (arg5 : Memref sig .tc .vmem S2048x512 .bf16) (harg5 : arg5.IsWhole)
  (arg6 : Memref sig .tc .vmem S2048x512 .bf16) (harg6 : arg6.IsWhole) (arg7 : Memref sig .tc .vmem S2048x512 .bf16) (harg7 : arg7.IsWhole)
  (arg8 : Memref sig .tc .vmem S1x2048x4 .f32) (harg8 : arg8.IsWhole)
  (X2 : BufTy.Contents (Elt Ideal) arg2.view.ty) (X3 : BufTy.Contents (Elt Ideal) arg3.view.ty) (X4 : BufTy.Contents (Elt Ideal) arg4.view.ty)
  (X5 : BufTy.Contents (Elt Ideal) arg5.view.ty)

/-- A load of 256 rows and 128 columns of the gate's block. -/
abbrev ld5 (off : Fin 2 → ℕ) (inb : ∀ a, off a + S256x128.size a ≤ S2048x512.size a) : FVec Ideal S256x128 .bf16 :=
  View.readAt (Elt Ideal) arg5.view (Rect.unit (s := S2048x512) off S256x128.size inb).toLoadRect X5

theorem list6 (k : Fin k0_t1_loop.trips) : (trip1 (F := Ideal) c i arg2 harg2 arg3 harg3 arg4 harg4 arg5 harg5 arg6 harg6 arg7 harg7 arg8 harg8 X2 X3 X4 X5 k).1 = [⟨Rect.unit (s := S2048x512) (k0_off7 k) S256x128.size (k0_off7_inb k), k0_pay4 (fin c i arg2 harg2 arg3 harg3 arg4 harg4 arg5 harg5 arg6 harg6 arg7 harg7 arg8 harg8 X2 X3 X4 k).2.2.2.2.2.2.2⟩, ⟨Rect.unit (s := S2048x512) (k0_off6 k) S256x128.size (k0_off6_inb k), k0_pay4 (fin c i arg2 harg2 arg3 harg3 arg4 harg4 arg5 harg5 arg6 harg6 arg7 harg7 arg8 harg8 X2 X3 X4 k).2.2.2.2.2.1⟩, ⟨Rect.unit (s := S2048x512) (k0_off5 k) S256x128.size (k0_off5_inb k), k0_pay4 (fin c i arg2 harg2 arg3 harg3 arg4 harg4 arg5 harg5 arg6 harg6 arg7 harg7 arg8 harg8 X2 X3 X4 k).2.2.2.1⟩, ⟨Rect.unit (s := S2048x512) (k0_off4 k) S256x128.size (k0_off4_inb k), k0_pay4 (fin c i arg2 harg2 arg3 harg3 arg4 harg4 arg5 harg5 arg6 harg6 arg7 harg7 arg8 harg8 X2 X3 X4 k).2.1⟩] := rfl
theorem list7 (k : Fin k0_t1_loop.trips) : (trip1 (F := Ideal) c i arg2 harg2 arg3 harg3 arg4 harg4 arg5 harg5 arg6 harg6 arg7 harg7 arg8 harg8 X2 X3 X4 X5 k).2.1 = [⟨Rect.unit (s := S2048x512) (k0_off7 k) S256x128.size (k0_off7_inb k), k0_pay5 (fin c i arg2 harg2 arg3 harg3 arg4 harg4 arg5 harg5 arg6 harg6 arg7 harg7 arg8 harg8 X2 X3 X4 k).2.2.2.2.2.2.2 (ld5 arg5 X5 (k0_off7 k) (k0_off7_inb k))⟩, ⟨Rect.unit (s := S2048x512) (k0_off6 k) S256x128.size (k0_off6_inb k), k0_pay5 (fin c i arg2 harg2 arg3 harg3 arg4 harg4 arg5 harg5 arg6 harg6 arg7 harg7 arg8 harg8 X2 X3 X4 k).2.2.2.2.2.1 (ld5 arg5 X5 (k0_off6 k) (k0_off6_inb k))⟩, ⟨Rect.unit (s := S2048x512) (k0_off5 k) S256x128.size (k0_off5_inb k), k0_pay5 (fin c i arg2 harg2 arg3 harg3 arg4 harg4 arg5 harg5 arg6 harg6 arg7 harg7 arg8 harg8 X2 X3 X4 k).2.2.2.1 (ld5 arg5 X5 (k0_off5 k) (k0_off5_inb k))⟩, ⟨Rect.unit (s := S2048x512) (k0_off4 k) S256x128.size (k0_off4_inb k), k0_pay5 (fin c i arg2 harg2 arg3 harg3 arg4 harg4 arg5 harg5 arg6 harg6 arg7 harg7 arg8 harg8 X2 X3 X4 k).2.1 (ld5 arg5 X5 (k0_off4 k) (k0_off4_inb k))⟩] := rfl
theorem list8 (k : Fin k0_t1_loop.trips) : (trip1 (F := Ideal) c i arg2 harg2 arg3 harg3 arg4 harg4 arg5 harg5 arg6 harg6 arg7 harg7 arg8 harg8 X2 X3 X4 X5 k).2.2.1 = [⟨Rect.unit (s := S1x2048x4) (k0_off23 k) S1x256x1.size (k0_off23_inb k), k0_pay6 (fin c i arg2 harg2 arg3 harg3 arg4 harg4 arg5 harg5 arg6 harg6 arg7 harg7 arg8 harg8 X2 X3 X4 k).2.2.2.2.2.2.1⟩, ⟨Rect.unit (s := S1x2048x4) (k0_off22 k) S1x256x1.size (k0_off22_inb k), k0_pay6 (fin c i arg2 harg2 arg3 harg3 arg4 harg4 arg5 harg5 arg6 harg6 arg7 harg7 arg8 harg8 X2 X3 X4 k).2.2.2.2.1⟩, ⟨Rect.unit (s := S1x2048x4) (k0_off21 k) S1x256x1.size (k0_off21_inb k), k0_pay6 (fin c i arg2 harg2 arg3 harg3 arg4 harg4 arg5 harg5 arg6 harg6 arg7 harg7 arg8 harg8 X2 X3 X4 k).2.2.1⟩, ⟨Rect.unit (s := S1x2048x4) (k0_off20 k) S1x256x1.size (k0_off20_inb k), k0_pay6 (fin c i arg2 harg2 arg3 harg3 arg4 harg4 arg5 harg5 arg6 harg6 arg7 harg7 arg8 harg8 X2 X3 X4 k).1⟩] := rfl

end Cert.SbForwardIdeal.Hand

end
-- ==== Proof.SbForward.Left.lean ====
/-
  What the body leaves in its three blocks, in the real numbers: the weighted sums of the values, those times the gate, and the rows' sums of the
  logarithms.
-/
module

public import proofs.«01_k».proof.Proof.SbForward.Stored
public import proofs.«01_k».proof.Proof.SbForward.Lists

@[expose] public section

set_option maxRecDepth 16384
set_option maxHeartbeats 2000000

noncomputable section

namespace Cert.SbForwardIdeal.Hand

open Cert.SbForwardIdeal Cert.SbForwardIdeal.Gen
open Idealize.ShloMosaic Idealize.ShloMosaic.TcCoe
open Idealize.SL.Sem
open Finset
open Cert.SbGradIdeal.Hand (IsR IsR.congr wt)
open Cert.Finite (sg sigm sigm_coe)

variable (c : Dev nD) (i : grid0.Coords)
  (arg2 : Memref sig .tc .vmem S2048x256 .bf16) (harg2 : arg2.IsWhole) (arg3 : Memref sig .tc .vmem S2048x256 .bf16) (harg3 : arg3.IsWhole)
  (arg4 : Memref sig .tc .vmem S2048x512 .bf16) (harg4 : arg4.IsWhole) (arg5 : Memref sig .tc .vmem S2048x512 .bf16) (harg5 : arg5.IsWhole)
  (arg6 : Memref sig .tc .vmem S2048x512 .bf16) (harg6 : arg6.IsWhole) (arg7 : Memref sig .tc .vmem S2048x512 .bf16) (harg7 : arg7.IsWhole)
  (arg8 : Memref sig .tc .vmem S1x2048x4 .f32) (harg8 : arg8.IsWhole)
  (X2 : BufTy.Contents (Elt Ideal) arg2.view.ty) (X3 : BufTy.Contents (Elt Ideal) arg3.view.ty) (X4 : BufTy.Contents (Elt Ideal) arg4.view.ty)
  (X5 : BufTy.Contents (Elt Ideal) arg5.view.ty)

set_option quotPrecheck false in
local notation:max "⟪" f "⟫" => f c i arg2 harg2 arg3 harg3 arg4 harg4 arg5 harg5 arg6 harg6 arg7 harg7 arg8 harg8 X2 X3 X4 X5

variable {Xq Xk Xv Xz : ℕ → ℕ → ℝ} (hq : IsR (arg2.view.read (Elt Ideal) X2) Xq) (hk : IsR (arg3.view.read (Elt Ideal) X3) Xk)
  (hv : IsR (arg4.view.read (Elt Ideal) X4) Xv) (hz : IsR (arg5.view.read (Elt Ideal) X5) Xz)

/-- The three blocks as functions of the place. -/
abbrev G6 (Xq Xk Xv : ℕ → ℕ → ℝ) (y : S2048x512.Idx) : EReal := ((oReal Xq Xk Xv (y 0).val (y 1).val : ℝ) : EReal)
abbrev G7 (Xq Xk Xv Xz : ℕ → ℕ → ℝ) (y : S2048x512.Idx) : EReal := ((yReal Xq Xk Xv Xz (y 0).val (y 1).val : ℝ) : EReal)
abbrev G8 (Xq Xk Xv : ℕ → ℕ → ℝ) (y : S1x2048x4.Idx) : EReal := ((tReal Xq Xk Xv (y 1).val (y 2).val : ℝ) : EReal)

include hq hk hv in
theorem good6 (k : Fin k0_t1_loop.trips) : ∀ p ∈ (⟪trip1 (F := Ideal)⟫ k).1, ∀ x, p.2 x = G6 Xq Xk Xv (p.1.emb x) := by
  have f := fin_held c i arg2 harg2 arg3 harg3 arg4 harg4 arg5 harg5 arg6 harg6 arg7 harg7 arg8 harg8 X2 X3 X4 k hq hk hv
  rw [list6]
  exact put_four k (o_pay (acc_held f.a (by norm_num))) (o_pay (acc_held f.b (by norm_num))) (o_pay (acc_held f.c (by norm_num))) (o_pay (acc_held f.d (by norm_num)))

include hz in
theorem gate_blk (k : Fin k0_t1_loop.trips) {off : Fin 2 → ℕ} (inb : ∀ a, off a + S256x128.size a ≤ S2048x512.size a) {C : ℕ} (e0 : off 0 = 256 * k.val)
    (e1 : off 1 = C) (hC : C + 128 ≤ 512) : IsR (ld5 arg5 X5 off inb) fun r l => Xz (256 * k.val + r) (C + l) := by
  have hk8 := q_lt k
  exact read_blk (p := 256) (w := 128) hz off inb e0 e1 (by omega) hC

include hq hk hv hz in
theorem good7 (k : Fin k0_t1_loop.trips) : ∀ p ∈ (⟪trip1 (F := Ideal)⟫ k).2.1, ∀ x, p.2 x = G7 Xq Xk Xv Xz (p.1.emb x) := by
  have f := fin_held c i arg2 harg2 arg3 harg3 arg4 harg4 arg5 harg5 arg6 harg6 arg7 harg7 arg8 harg8 X2 X3 X4 k hq hk hv
  rw [list7]
  exact put_four (O := yReal Xq Xk Xv Xz) k
    (y_pay (acc_held f.a (by norm_num)) (gate_blk arg5 X5 hz k _ (off4 k).1 (off4 k).2 (by norm_num)))
    (y_pay (acc_held f.b (by norm_num)) (gate_blk arg5 X5 hz k _ (off5 k).1 (off5 k).2 (by norm_num)))
    (y_pay (acc_held f.c (by norm_num)) (gate_blk arg5 X5 hz k _ (off6 k).1 (off6 k).2 (by norm_num)))
    (y_pay (acc_held f.d (by norm_num)) (gate_blk arg5 X5 hz k _ (off7 k).1 (off7 k).2 (by norm_num)))

include hq hk hv in
theorem good8 (k : Fin k0_t1_loop.trips) : ∀ p ∈ (⟪trip1 (F := Ideal)⟫ k).2.2.1, ∀ x, p.2 x = G8 Xq Xk Xv (p.1.emb x) := by
  have f := fin_held c i arg2 harg2 arg3 harg3 arg4 harg4 arg5 harg5 arg6 harg6 arg7 harg7 arg8 harg8 X2 X3 X4 k hq hk hv
  rw [list8]
  exact put_columns (T := tReal Xq Xk Xv) k f.a.whole.1 f.b.whole.1 f.c.whole.1 f.d.whole.1

include hq hk hv hz in
theorem good (k : ℕ) (h : k ≤ 8) :
    (∀ p ∈ (⟪pieces⟫ k).1, ∀ x, p.2 x = G6 Xq Xk Xv (p.1.emb x))
    ∧ (∀ p ∈ (⟪pieces⟫ k).2.1, ∀ x, p.2 x = G7 Xq Xk Xv Xz (p.1.emb x))
    ∧ (∀ p ∈ (⟪pieces⟫ k).2.2, ∀ x, p.2 x = G8 Xq Xk Xv (p.1.emb x)) := by
  induction k with
  | zero => exact ⟨fun p hp => absurd hp List.not_mem_nil, fun p hp => absurd hp List.not_mem_nil, fun p hp => absurd hp List.not_mem_nil⟩
  | succ k ih =>
    have e := ⟪pieces_succ⟫ (⟨k, h⟩ : Fin 8)
    dsimp only at e
    rw [e]
    obtain ⟨i6, i7, i8⟩ := ih (by omega)
    exact ⟨fun p hp => (List.mem_append.mp hp).elim (⟪good6⟫ hq hk hv _ p) (i6 p),
      fun p hp => (List.mem_append.mp hp).elim (⟪good7⟫ hq hk hv hz _ p) (i7 p),
      fun p hp => (List.mem_append.mp hp).elim (⟪good8⟫ hq hk hv _ p) (i8 p)⟩

include hq hk hv hz in
/-- What the body leaves in its three blocks. -/
theorem left (y : S2048x512.Idx) (z : S1x2048x4.Idx) :
    ⟪whole6⟫ y = G6 Xq Xk Xv y ∧ ⟪whole7⟫ y = G7 Xq Xk Xv Xz y
    ∧ ⟪whole8⟫ z = G8 Xq Xk Xv z := by
  obtain ⟨g6, g7, g8⟩ := ⟪good⟫ hq hk hv hz 8 le_rfl
  obtain ⟨h6, h7, h8⟩ := ⟪pieces_rows⟫ 8 le_rfl
  exact ⟨View.read_writes_apply_of_pieces _ _ (G6 Xq Xk Xv) _ g6 y (h6 y (y 0).isLt), View.read_writes_apply_of_pieces _ _ (G7 Xq Xk Xv Xz) _ g7 y (h7 y (y 0).isLt),
    View.read_writes_apply_of_pieces _ _ (G8 Xq Xk Xv) _ g8 z (h8 z (z 1).isLt)⟩

end Cert.SbForwardIdeal.Hand

end
-- ==== Proof.SbForward.Frame.lean ====
/-
  The launch of the attention's forward kernel: the proof data, the body at a point, the run and the frame.
-/
module

public import proofs.«01_k».proof.Proof.SbForward.Pieces
public import proofs.«01_k».proof.Proof.Gen.SbForwardIdeal.Frame
public import Idealize.ShloMosaic.Lib.Claim

@[expose] public section

set_option maxRecDepth 16384
set_option maxHeartbeats 2000000

noncomputable section

namespace Cert.SbForwardIdeal.Hand

open Cert.SbForwardIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Pipeline (Dat Cfg Window BodyObligation cellOf)

variable {F : FTy → Type} [FloatOps F] [Named F]

local notation "𝕄" => MT nD τ sig Unit (Elt F) ℕ (UR sig nD τ) ℕ

section Run

variable (c : Dev nD) (i : grid0.Coords)
  (arg2 : Memref sig .tc .vmem S2048x256 .bf16) (harg2 : arg2.IsWhole) (arg3 : Memref sig .tc .vmem S2048x256 .bf16) (harg3 : arg3.IsWhole)
  (arg4 : Memref sig .tc .vmem S2048x512 .bf16) (harg4 : arg4.IsWhole) (arg5 : Memref sig .tc .vmem S2048x512 .bf16) (harg5 : arg5.IsWhole)
  (arg6 : Memref sig .tc .vmem S2048x512 .bf16) (harg6 : arg6.IsWhole) (arg7 : Memref sig .tc .vmem S2048x512 .bf16) (harg7 : arg7.IsWhole)
  (arg8 : Memref sig .tc .vmem S1x2048x4 .f32) (harg8 : arg8.IsWhole)
  (X2 : BufTy.Contents (Elt F) arg2.view.ty) (X3 : BufTy.Contents (Elt F) arg3.view.ty) (X4 : BufTy.Contents (Elt F) arg4.view.ty)
  (X5 : BufTy.Contents (Elt F) arg5.view.ty)

/-- One run of the body: the three blocks end at what the eight trips store. -/
theorem run_body (f6 f7 f8) (K : PUnit → sProp 𝕄) :
    iprop(Held c arg2 arg3 arg4 arg5 arg6 arg7 arg8 X2 X3 X4 X5 f6 f7 f8
        ∗ (iprop(own c arg2 X2 ∗ own c arg3 X3 ∗ own c arg4 X4 ∗ own c arg5 X5
            ∗ (∃ g, own c arg6 g ∗ ⌜g = (st1 (F := F) c i arg2 harg2 arg3 harg3 arg4 harg4 arg5 harg5 arg6 harg6 arg7 harg7 arg8 harg8 X2 X3 X4 X5 (f6, f7, f8) k0_t1_loop.trips).1⌝)
            ∗ (∃ g, own c arg7 g ∗ ⌜g = (st1 (F := F) c i arg2 harg2 arg3 harg3 arg4 harg4 arg5 harg5 arg6 harg6 arg7 harg7 arg8 harg8 X2 X3 X4 X5 (f6, f7, f8) k0_t1_loop.trips).2.1⌝)
            ∗ (∃ g, own c arg8 g ∗ ⌜g = (st1 (F := F) c i arg2 harg2 arg3 harg3 arg4 harg4 arg5 harg5 arg6 harg6 arg7 harg7 arg8 harg8 X2 X3 X4 X5 (f6, f7, f8) k0_t1_loop.trips).2.2⌝)) -∗ K ⟨⟩))
      ⊢ wp frame (wpE (defs₀ (F := F)) Variants.none c none) Set.univ (cc0_sb_attention_fwd (F := F) i arg2 harg2 arg3 harg3 arg4 harg4 arg5 harg5 arg6 harg6 arg7 harg7 arg8 harg8) K := by
  rw [cc0_sb_attention_fwd_eq_skeleton]
  unfold cc0_sb_attention_fwd_skel
  iintro ⟨⟨H2, H3, H4, H5, H6, H7, H8⟩, Hk⟩
  sl_exec
  sl_step
  iapply Hk
  iframe H2 H3 H4 H5
  isplitl [H6]
  · iexists _; isplitl [H6]; · iexact H6
    ipureintro; rfl
  isplitl [H7]
  · iexists _; isplitl [H7]; · iexact H7
    ipureintro; rfl
  iexists _; isplitl [H8]; · iexact H8
  ipureintro; rfl

end Run

variable (m : (ℓ : Loc nD τ sig) → Buf (Elt F) ℓ) (ρ : Dev nD → PrngReg)

/- A function of the operands of point `t`, applied to its staging buffers. -/
set_option quotPrecheck false in
local notation:max "staged(" f ", " c ", " t ")" => f c (grid0.coords t) (st0_0 t) (hstage0_0 ((cfg0.slots t 0).cast nbuf0_0)) (st0_1 t) (hstage0_1 ((cfg0.slots t 1).cast nbuf0_1))
  (st0_2 t) (hstage0_2 ((cfg0.slots t 2).cast nbuf0_2)) (st0_3 t) (hstage0_3 ((cfg0.slots t 3).cast nbuf0_3)) (st0_4 t) (hstage0_4 ((cfg0.slots t 4).cast nbuf0_4))
  (st0_5 t) (hstage0_5 ((cfg0.slots t 5).cast nbuf0_5)) (st0_6 t) (hstage0_6 ((cfg0.slots t 6).cast nbuf0_6))
  ((hstage0_0 ((cfg0.slots t 0).cast nbuf0_0)).unread (Val := Elt F) (iblk m c 0 t)) ((hstage0_1 ((cfg0.slots t 1).cast nbuf0_1)).unread (Val := Elt F) (iblk m c 1 t))
  ((hstage0_2 ((cfg0.slots t 2).cast nbuf0_2)).unread (Val := Elt F) (iblk m c 2 t)) ((hstage0_3 ((cfg0.slots t 3).cast nbuf0_3)).unread (Val := Elt F) (iblk m c 3 t))

/-- What the body leaves at point `t` in the three blocks. -/
def out4 (c : Dev nD) (t : Fin cfg0.N) : Vec F S2048x512 .bf16 := staged(whole6, c, t)
def out5 (c : Dev nD) (t : Fin cfg0.N) : Vec F S2048x512 .bf16 := staged(whole7, c, t)
def out6 (c : Dev nD) (t : Fin cfg0.N) : Vec F S1x2048x4 .f32 := staged(whole8, c, t)

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4 m c t
    | ⟨5, _⟩ => out5 m c t
    | ⟨6, _⟩ => out6 m c t
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = out4 m c t := by dsimp only [dats]
theorem after0_5 (c : Dev nD) (t : Fin cfg0.N) : (dats m 0 c).after 5 t = out5 m c t := by dsimp only [dats]
theorem after0_6 (c : Dev nD) (t : Fin cfg0.N) : (dats m 0 c).after 6 t = out6 m c t := by dsimp only [dats]
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns c (st0_0 t) fullShare ((dats m 0 c).before 0 t d))
    ∗ (∃ d, owns c (st0_1 t) fullShare ((dats m 0 c).before 1 t d))
    ∗ (∃ d, owns c (st0_2 t) fullShare ((dats m 0 c).before 2 t d))
    ∗ (∃ d, owns c (st0_3 t) fullShare ((dats m 0 c).before 3 t d))
    ∗ (∃ d, owns c (st0_4 t) fullShare ((dats m 0 c).before 4 t d))
    ∗ (∃ d, owns c (st0_5 t) fullShare ((dats m 0 c).before 5 t d))
    ∗ (∃ d, owns c (st0_6 t) fullShare ((dats m 0 c).before 6 t d)))
def bodyPost (c : Dev nD) (t : Fin cfg0.N) : sProp 𝕄 :=
  iprop((dats m 0 c).Φ t.succ ∗ (dats m 0 c).owesAt () t.succ
    ∗ owns c (st0_0 t) fullShare ((dats m 0 c).after 0 t)
    ∗ owns c (st0_1 t) fullShare ((dats m 0 c).after 1 t)
    ∗ owns c (st0_2 t) fullShare ((dats m 0 c).after 2 t)
    ∗ owns c (st0_3 t) fullShare ((dats m 0 c).after 3 t)
    ∗ owns c (st0_4 t) fullShare ((dats m 0 c).after 4 t)
    ∗ owns c (st0_5 t) fullShare ((dats m 0 c).after 5 t)
    ∗ owns c (st0_6 t) fullShare ((dats m 0 c).after 6 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  unfold owns
  iintro ⟨HΦ, Ho, ⟨%d0, %g0, %e0, H0⟩, ⟨%d1, %g1, %e1, H1⟩, ⟨%d2, %g2, %e2, H2⟩, ⟨%d3, %g3, %e3, H3⟩, ⟨%d4, %g4, %e4, H4⟩, ⟨%d5, %g5, %e5, H5⟩, ⟨%d6, %g6, %e6, H6⟩⟩
  obtain rfl := (hstage0_0 ((cfg0.slots t 0).cast nbuf0_0)).eq_unread e0
  obtain rfl := (hstage0_1 ((cfg0.slots t 1).cast nbuf0_1)).eq_unread e1
  obtain rfl := (hstage0_2 ((cfg0.slots t 2).cast nbuf0_2)).eq_unread e2
  obtain rfl := (hstage0_3 ((cfg0.slots t 3).cast nbuf0_3)).eq_unread e3
  have hr := staged(read_st1, c, t) (g4, g5, g6)
  iapply (staged(run_body, c, t) g4 g5 g6 _)
  isplitl [H0 H1 H2 H3 H4 H5 H6]
  · iframe H0 H1 H2 H3 H4 H5 H6
  iintro ⟨H0, H1, H2, H3, ⟨%h4, H4, %q4⟩, ⟨%h5, H5, %q5⟩, ⟨%h6, H6, %q6⟩⟩
  iframe HΦ Ho
  isplitl [H0]
  · iexists _; isplitr; swap; · iexact H0
    ipureintro; exact e0
  isplitl [H1]
  · iexists _; isplitr; swap; · iexact H1
    ipureintro; exact e1
  isplitl [H2]
  · iexists _; isplitr; swap; · iexact H2
    ipureintro; exact e2
  isplitl [H3]
  · iexists _; isplitr; swap; · iexact H3
    ipureintro; exact e3
  isplitl [H4]
  · iexists _; isplitr; swap; · iexact H4
    ipureintro; rw [q4]; exact hr.1
  isplitl [H5]
  · iexists _; isplitr; swap; · iexact H5
    ipureintro; rw [q5]; exact hr.2.1
  iexists _; isplitr; swap; · iexact H6
  ipureintro; rw [q6]; exact hr.2.2

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
theorem run_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- Every array of the launch ends at what the proof data says. -/
theorem run_main : θ_run defs (onTc (τ := τ) (main (F := F))) (s₀ m ρ) (Pipeline.FramePost cfgs (dats m) 0 (V m)) :=
  (θ_run defs _ _).mono (fun _ h => h.1) (run_quiescent m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  θ_run_and (frame_of m ρ (dats m) (A_eq m) (run_main m ρ)) ((θ_run defs _ _).mono (fun _ h => h.2) (run_quiescent m ρ))

end Cert.SbForwardIdeal.Hand

end
-- ==== Proof.SbForward.Point.lean ====
/-
  A grid point of the forward kernel: its blocks of the argument, and the blocks it leaves in the three result arrays.
-/
module

public import proofs.«01_k».proof.Proof.SbForward.Left
public import proofs.«01_k».proof.Proof.SbForward.Frame
public import proofs.«01_k».proof.Proof.SbGrad.Heads

@[expose] public section

set_option maxRecDepth 16384

noncomputable section

namespace Cert.SbForwardIdeal.Hand

open Cert.SbForwardIdeal Cert.SbForwardIdeal.Gen
open Idealize.ShloMosaic Idealize.ShloMosaic.TcCoe Idealize.SL.Sem
open Cert.SbGradIdeal.Hand (IsR rq rk rv rZ rT rW wt cum qHead Bq Bk Bv lane_sum)
open Cert.Finite (sg)
open Finset

/-- Which block each window takes at each grid point. -/
theorem idx : ∀ t : Fin cfg0.N, win0_0.index t = ![t.val / 4, t.val % 4] ∧ win0_1.index t = ![t.val / 4, 4 + t.val % 4]
   ∧ win0_2.index t = ![t.val / 4, 4 + t.val % 4] ∧ win0_3.index t = ![t.val / 4, 8 + t.val % 4] ∧ win0_4.index t = ![t.val / 4, t.val % 4]
   ∧ win0_5.index t = ![t.val / 4, t.val % 4] ∧ win0_6.index t = ![t.val % 4, t.val / 4, 0] :=
  (by decide +kernel : ∀ t : Fin grid0.N, _)

section Heads
variable (g : ℕ → ℕ → ℝ) (b p h : ℕ)

/-- The gate's block. -/
def Bz (R l : ℕ) : ℝ := g (b * 2048 + R) (4096 + (p * 512 + l))

theorem head_Z : (headOf (Bq g b p) (Bk g b p) (Bv g b p) h).Z = rZ g b (4 * p + h) := by
  funext R S
  show (∑ l ∈ range 128, qHead (Bq g b p) h R l * Bk g b p S (128 * (h / 2) + l)) = _
  rw [rZ, sum_mul, sum_congr (g := fun l => if l / 64 = h % 2 then rq g b (4 * p + h) R (l % 64) * rk g b (4 * p + h) S (l % 64) * (1 / 8) else 0) rfl
    fun l _ => ?_, lane_sum _ _ (Nat.mod_lt _ (by omega))]
  · exact sum_congr rfl fun d hd => by rw [show (64 * (h % 2) + d) % 64 = d by have := mem_range.mp hd; omega]
  · rw [qHead]
    split
    · rw [Bq, Bk, rq, rk, show p * 256 + (128 * (h / 2) + l) = (4 * p + h) * 64 + l % 64 by omega]; ring
    · rw [zero_mul]
theorem head_v (S l : ℕ) : (headOf (Bq g b p) (Bk g b p) (Bv g b p) h).v S l = rv g b (4 * p + h) S l := by
  show Bv g b p S (128 * h + l) = _
  rw [Bv, rv, show p * 512 + (128 * h + l) = (4 * p + h) * 128 + l by omega]
theorem head_T : (headOf (Bq g b p) (Bk g b p) (Bv g b p) h).T = rT g b (4 * p + h) := by
  funext R
  rw [HeadOf.T, head_Z, rT]

/-- The three results in the real numbers. -/
def oFin (r s : ℕ) : ℝ := ∑ S ∈ range 2048, rW g (r / 2048) (s / 128) (r % 2048) S * rv g (r / 2048) (s / 128) S (s % 128)
def yFin (r s : ℕ) : ℝ := oFin g r s * (g r (4096 + s) * sg (g r (4096 + s)))
def tFin (p r h : ℕ) : ℝ := rT g (r / 2048) (4 * p + h) (r % 2048)

theorem o_at (R l : ℕ) (hR : R < 2048) (hl : l < 512) : oReal (Bq g b p) (Bk g b p) (Bv g b p) R l = oFin g (b * 2048 + R) (p * 512 + l) := by
  rw [oReal, oFin, show (b * 2048 + R) / 2048 = b by omega, show (b * 2048 + R) % 2048 = R by omega, show (p * 512 + l) / 128 = 4 * p + l / 128 by omega,
    show (p * 512 + l) % 128 = l % 128 by omega]
  exact sum_congr rfl fun S _ => by rw [head_Z, head_T, head_v, rW]
theorem y_at (R l : ℕ) (hR : R < 2048) (hl : l < 512) :
    yReal (Bq g b p) (Bk g b p) (Bv g b p) (Bz g b p) R l = yFin g (b * 2048 + R) (p * 512 + l) := by
  rw [yReal, yFin, o_at g b p R l hR hl, Bz]
theorem t_at (R : ℕ) (hR : R < 2048) : tReal (Bq g b p) (Bk g b p) (Bv g b p) R h = tFin g p (b * 2048 + R) h := by
  rw [tReal, tFin, head_T, show (b * 2048 + R) / 2048 = b by omega, show (b * 2048 + R) % 2048 = R by omega]
end Heads

variable (m : (ℓ : Loc nD τ sig) → Buf (Elt Ideal) ℓ) (c : Dev nD)

/-- A point's blocks in the argument. -/
theorem blk0 (t : Fin cfg0.N) (R : Fin 2048) (l : Fin 256) (r : Fin 4096) (s : Fin 6144) (hr : r.val = t.val / 4 * 2048 + R.val)
    (hs : s.val = t.val % 4 * 256 + l.val) : (iblk m c 0 t (ix2 R l) : EReal) = m ((c : Thread nD τ).loc main_arg0) (ix2 r s) := by
  rw [← V_main_arg0 m c]
  blk_ext [iblk, idx t]
theorem blk1 (t : Fin cfg0.N) (R : Fin 2048) (l : Fin 256) (r : Fin 4096) (s : Fin 6144) (hr : r.val = t.val / 4 * 2048 + R.val)
    (hs : s.val = 1024 + (t.val % 4 * 256 + l.val)) : (iblk m c 1 t (ix2 R l) : EReal) = m ((c : Thread nD τ).loc main_arg0) (ix2 r s) := by
  rw [← V_main_arg0 m c]
  blk_ext [iblk, idx t]
theorem blk2 (t : Fin cfg0.N) (R : Fin 2048) (l : Fin 512) (r : Fin 4096) (s : Fin 6144) (hr : r.val = t.val / 4 * 2048 + R.val)
    (hs : s.val = 2048 + (t.val % 4 * 512 + l.val)) : (iblk m c 2 t (ix2 R l) : EReal) = m ((c : Thread nD τ).loc main_arg0) (ix2 r s) := by
  rw [← V_main_arg0 m c]
  blk_ext [iblk, idx t]
theorem blk3 (t : Fin cfg0.N) (R : Fin 2048) (l : Fin 512) (r : Fin 4096) (s : Fin 6144) (hr : r.val = t.val / 4 * 2048 + R.val)
    (hs : s.val = 4096 + (t.val % 4 * 512 + l.val)) : (iblk m c 3 t (ix2 R l) : EReal) = m ((c : Thread nD τ).loc main_arg0) (ix2 r s) := by
  rw [← V_main_arg0 m c]
  blk_ext [iblk, idx t]

variable {g : ℕ → ℕ → ℝ}
  (hG : ∀ (r : Fin 4096) (s : Fin 6144), (m ((c : Thread nD τ).loc main_arg0) : FVec Ideal S4096x6144 .bf16) (ix2 r s) = ((g r.val s.val : ℝ) : EReal))

theorem points (t : Fin cfg0.N) : t.val < 8 := lt_of_lt_of_eq t.isLt N_0

include hG in
theorem real0 (t : Fin cfg0.N) : IsR (iblk m c 0 t : FVec Ideal S2048x256 .bf16) (Bq g (t.val / 4) (t.val % 4)) := fun R l => by
  have ht := points t; have hR := R.isLt; have hl := l.isLt
  exact (blk0 m c t R l ⟨t.val / 4 * 2048 + R.val, by omega⟩ ⟨t.val % 4 * 256 + l.val, by omega⟩ rfl rfl).trans (hG _ _)
include hG in
theorem real1 (t : Fin cfg0.N) : IsR (iblk m c 1 t : FVec Ideal S2048x256 .bf16) (Bk g (t.val / 4) (t.val % 4)) := fun R l => by
  have ht := points t; have hR := R.isLt; have hl := l.isLt
  exact (blk1 m c t R l ⟨t.val / 4 * 2048 + R.val, by omega⟩ ⟨1024 + (t.val % 4 * 256 + l.val), by omega⟩ rfl rfl).trans (hG _ _)
include hG in
theorem real2 (t : Fin cfg0.N) : IsR (iblk m c 2 t : FVec Ideal S2048x512 .bf16) (Bv g (t.val / 4) (t.val % 4)) := fun R l => by
  have ht := points t; have hR := R.isLt; have hl := l.isLt
  exact (blk2 m c t R l ⟨t.val / 4 * 2048 + R.val, by omega⟩ ⟨2048 + (t.val % 4 * 512 + l.val), by omega⟩ rfl rfl).trans (hG _ _)
include hG in
theorem real3 (t : Fin cfg0.N) : IsR (iblk m c 3 t : FVec Ideal S2048x512 .bf16) (Bz g (t.val / 4) (t.val % 4)) := fun R l => by
  have ht := points t; have hR := R.isLt; have hl := l.isLt
  exact (blk3 m c t R l ⟨t.val / 4 * 2048 + R.val, by omega⟩ ⟨4096 + (t.val % 4 * 512 + l.val), by omega⟩ rfl rfl).trans (hG _ _)

include hG in
/-- What the body leaves at a point, by places of the blocks. -/
theorem left_at (t : Fin cfg0.N) (y : S2048x512.Idx) (z : S1x2048x4.Idx) :
    (out4 m c t y : EReal) = ((oReal (Bq g (t.val / 4) (t.val % 4)) (Bk g (t.val / 4) (t.val % 4)) (Bv g (t.val / 4) (t.val % 4)) (y 0).val (y 1).val : ℝ) : EReal)
    ∧ (out5 m c t y : EReal) = ((yReal (Bq g (t.val / 4) (t.val % 4)) (Bk g (t.val / 4) (t.val % 4)) (Bv g (t.val / 4) (t.val % 4)) (Bz g (t.val / 4) (t.val % 4)) (y 0).val (y 1).val : ℝ) : EReal)
    ∧ (out6 m c t z : EReal) = ((tReal (Bq g (t.val / 4) (t.val % 4)) (Bk g (t.val / 4) (t.val % 4)) (Bv g (t.val / 4) (t.val % 4)) (z 1).val (z 2).val : ℝ) : EReal) := by
  unfold out4 out5 out6
  exact left _ _ _ _ _ _ _ _ _ _ _ _ _ _ _ _ _ _ _ _
    (by rw [Memref.IsWhole.read_unread]; exact real0 m c hG t) (by rw [Memref.IsWhole.read_unread]; exact real1 m c hG t)
    (by rw [Memref.IsWhole.read_unread]; exact real2 m c hG t) (by rw [Memref.IsWhole.read_unread]; exact real3 m c hG t) y z

include hG in
theorem block4 (t : Fin cfg0.N) (y : S2048x512.Idx) (r s : ℕ) (hr : r = t.val / 4 * 2048 + (y 0).val) (hs : s = t.val % 4 * 512 + (y 1).val) :
    (out4 m c t y : EReal) = ((oFin g r s : ℝ) : EReal) := by
  rw [hr, hs, ← o_at g _ _ _ _ (y 0).isLt (y 1).isLt]
  exact (left_at m c hG t y (ix3 0 0 0)).1
include hG in
theorem block5 (t : Fin cfg0.N) (y : S2048x512.Idx) (r s : ℕ) (hr : r = t.val / 4 * 2048 + (y 0).val) (hs : s = t.val % 4 * 512 + (y 1).val) :
    (out5 m c t y : EReal) = ((yFin g r s : ℝ) : EReal) := by
  rw [hr, hs, ← y_at g _ _ _ _ (y 0).isLt (y 1).isLt]
  exact (left_at m c hG t y (ix3 0 0 0)).2.1
include hG in
theorem block6 (t : Fin cfg0.N) (z : S1x2048x4.Idx) (p r h : ℕ) (hp : p = t.val % 4) (hr : r = t.val / 4 * 2048 + (z 1).val) (hh : h = (z 2).val) :
    (out6 m c t z : EReal) = ((tFin g p r h : ℝ) : EReal) := by
  rw [hp, hr, hh, ← t_at g _ _ _ _ (z 1).isLt]
  exact (left_at m c hG t (ix2 0 0) z).2.2

include hG in
/-- The three result arrays after the grid. -/
theorem final4 : (dats m 0 c).arrAt 4 (cfgs 0).N = fun i => ((oFin g (i 0).val (i 1).val : ℝ) : EReal) := by
  refine (dats m 0 c).arrAt_eq_of_covers 4 _ (by decide +kernel) fun t hf y => ?_
  blk_simp
  refine block4 m c hG t y _ _ ?_ ?_ <;> (blk_simp [idx t]; try omega)
include hG in
theorem final5 : (dats m 0 c).arrAt 5 (cfgs 0).N = fun i => ((yFin g (i 0).val (i 1).val : ℝ) : EReal) := by
  refine (dats m 0 c).arrAt_eq_of_covers 5 _ (by decide +kernel) fun t hf y => ?_
  blk_simp
  refine block5 m c hG t y _ _ ?_ ?_ <;> (blk_simp [idx t]; try omega)
include hG in
theorem final6 : (dats m 0 c).arrAt 6 (cfgs 0).N = fun i => ((tFin g (i 0).val (i 1).val (i 2).val : ℝ) : EReal) := by
  refine (dats m 0 c).arrAt_eq_of_covers 6 _ (by decide +kernel) fun t hf y => ?_
  blk_simp
  refine block6 m c hG t y _ _ _ ?_ ?_ ?_ <;> (blk_simp [idx t]; try omega)

end Cert.SbForwardIdeal.Hand

end
-- ==== Proof.SbForward.Ref.lean ====
/-
  The forward reference, one operation after the other, as real numbers: the scores, the weights, the weighted sums of the values, the gate and the
  rows' sums of the logarithms.
-/
module

public import proofs.«01_k».proof.Proof.Gen.SbForwardRefIdeal.Read
public import proofs.«01_k».proof.Proof.SbGrad.Ref
public import proofs.«01_k».proof.Proof.SbGrad.Point
public import proofs.«01_k».proof.Proof.Finite

@[expose] public section

set_option maxRecDepth 16384

noncomputable section

namespace Cert.SbForwardIdeal.Hand

open Idealize.ShloMosaic
open Cert.SbForwardRefIdeal Cert.SbForwardRefIdeal.Read
open Cert.WindowSum
open Cert.SbGradIdeal.Hand (rq rk rv rZ rT rW eighth_val zero_val sel_val ite_coe hostSp_coe neg_sp LB_neg sp LB mom cum wt totOf totOf_apply)
open Cert.Finite (sg sigm sigm_coe)
open Finset (range)

variable {g : ℕ → ℕ → ℝ} {x0 : (⟨S4096x6144, .bf16⟩ : BufTy).Contents (Elt Ideal)}
  (hG : ∀ (r : Fin 4096) (c : Fin 6144), x0 (ix2 r c) = ((g r.val c.val : ℝ) : EReal))

section Args
include hG

theorem v1_val (b : Fin 2) (R : Fin 2048) (c : Fin 6144) :
    val_main_v1 (F := Ideal) x0 (ix3 b R c) = ((g (b.val * 2048 + R.val) c.val : ℝ) : EReal) := by
  have hb := b.isLt; have hR := R.isLt; have hc := c.isLt
  rw [val_main_v1_apply, val_main_v0_apply]
  refine (congrArg x0 ?_ : _ = x0 (ix2 (⟨b.val * 2048 + R.val, by omega⟩ : Fin 4096) c)).trans (hG _ _)
  funext a
  match a with
  | ⟨0, _⟩ => exact Fin.ext (by show ((b.val * 2048 + R.val) * 6144 + c.val) / 6144 = b.val * 2048 + R.val; omega)
  | ⟨1, _⟩ => exact Fin.ext (by show ((b.val * 2048 + R.val) * 6144 + c.val) % 6144 = c.val; omega)

theorem v2_val (b : Fin 2) (R : Fin 2048) (c : Fin 4096) :
    val_main_v2 (F := Ideal) x0 (ix3 b R c) = ((g (b.val * 2048 + R.val) c.val : ℝ) : EReal) := by
  have hc := c.isLt
  rw [val_main_v2_apply]
  refine (congrArg (val_main_v1 (F := Ideal) x0) ?_ : _ = val_main_v1 (F := Ideal) x0 (ix3 b R (⟨c.val, by omega⟩ : Fin 6144))).trans (v1_val hG b R _)
  funext a
  match a with
  | ⟨0, _⟩ => rfl
  | ⟨1, _⟩ => rfl
  | ⟨2, _⟩ => rfl

theorem q_val (b : Fin 2) (h : Fin 16) (R : Fin 2048) (d : Fin 64) :
    val_main_v7 (F := Ideal) x0 (ix4 b h R d) = ((rq g b h R d : ℝ) : EReal) := by
  have hb := b.isLt; have hR := R.isLt; have hh := h.isLt; have hd := d.isLt
  rw [val_main_v7_apply, val_main_v6_apply, val_main_v3_apply]
  refine (congrArg (val_main_v2 (F := Ideal) x0) ?_ :
    _ = val_main_v2 (F := Ideal) x0 (ix3 b R (⟨h.val * 64 + d.val, by omega⟩ : Fin 4096))).trans (v2_val hG b R _)
  funext a
  match a with
  | ⟨0, _⟩ => exact Fin.ext (by show (((b.val * 2048 + R.val) * 16 + h.val) * 64 + d.val) / 2097152 = b.val; omega)
  | ⟨1, _⟩ => exact Fin.ext (by show (((b.val * 2048 + R.val) * 16 + h.val) * 64 + d.val) / 1024 % 2048 = R.val; omega)
  | ⟨2, _⟩ => exact Fin.ext (by show (((b.val * 2048 + R.val) * 16 + h.val) * 64 + d.val) % 1024 = h.val * 64 + d.val; omega)

theorem k_val (b : Fin 2) (h : Fin 16) (S : Fin 2048) (d : Fin 64) :
    val_main_v9 (F := Ideal) x0 (ix4 b h S d) = ((rk g b h S d : ℝ) : EReal) := by
  have hb := b.isLt; have hR := S.isLt; have hh := h.isLt; have hd := d.isLt
  rw [val_main_v9_apply, val_main_v8_apply, val_main_v4_apply]
  refine (congrArg (val_main_v2 (F := Ideal) x0) ?_ :
    _ = val_main_v2 (F := Ideal) x0 (ix3 b S (⟨1024 + (h.val * 64 + d.val), by omega⟩ : Fin 4096))).trans (v2_val hG b S _)
  funext a
  match a with
  | ⟨0, _⟩ => exact Fin.ext (by show (((b.val * 2048 + S.val) * 16 + h.val) * 64 + d.val) / 2097152 = b.val; omega)
  | ⟨1, _⟩ => exact Fin.ext (by show (((b.val * 2048 + S.val) * 16 + h.val) * 64 + d.val) / 1024 % 2048 = S.val; omega)
  | ⟨2, _⟩ => exact Fin.ext (by show 1024 + (((b.val * 2048 + S.val) * 16 + h.val) * 64 + d.val) % 1024 = 1024 + (h.val * 64 + d.val); omega)

theorem val_val (b : Fin 2) (h : Fin 16) (S : Fin 2048) (l : Fin 128) :
    val_main_v11 (F := Ideal) x0 (ix4 b h S l) = ((rv g b h S l : ℝ) : EReal) := by
  have hb := b.isLt; have hR := S.isLt; have hh := h.isLt; have hd := l.isLt
  rw [val_main_v11_apply, val_main_v10_apply, val_main_v5_apply]
  refine (congrArg (val_main_v2 (F := Ideal) x0) ?_ :
    _ = val_main_v2 (F := Ideal) x0 (ix3 b S (⟨2048 + (h.val * 128 + l.val), by omega⟩ : Fin 4096))).trans (v2_val hG b S _)
  funext a
  match a with
  | ⟨0, _⟩ => exact Fin.ext (by show (((b.val * 2048 + S.val) * 16 + h.val) * 128 + l.val) / 4194304 = b.val; omega)
  | ⟨1, _⟩ => exact Fin.ext (by show (((b.val * 2048 + S.val) * 16 + h.val) * 128 + l.val) / 2048 % 2048 = S.val; omega)
  | ⟨2, _⟩ => exact Fin.ext (by show 2048 + (((b.val * 2048 + S.val) * 16 + h.val) * 128 + l.val) % 2048 = 2048 + (h.val * 128 + l.val); omega)

theorem z_val (b : Fin 2) (h : Fin 16) (R S : Fin 2048) :
    val_main_v14 (F := Ideal) x0 (ix4 b h R S) = ((rZ g b h R S : ℝ) : EReal) := by
  rw [val_main_v14_apply, val_main_v12_apply, val_main_v13_apply, val_main_cst_apply, eighth_val, rZ, EReal.coe_mul, ← sum_fin_coe]
  show _ * _ = _ * _
  congr 1
  refine Finset.sum_congr rfl fun k _ => ?_
  rw [EReal.coe_mul, ← q_val hG b h R k, ← k_val hG b h S k]
  congr 1
end Args

/-- The second copies of the queries, keys, values, scores and of the mask. -/
theorem v37_eq : val_main_v37 (F := Ideal) x0 = val_main_v11 (F := Ideal) x0 := rfl
theorem v40_eq : val_main_v40 (F := Ideal) x0 = val_main_v14 (F := Ideal) x0 := rfl
theorem v46_eq : val_main_v46 (F := Ideal) = val_main_v20 (F := Ideal) := rfl
theorem v49_eq : val_main_v49 (F := Ideal) x0 = val_main_v23 (F := Ideal) x0 := rfl

theorem mask_val (b : Fin 2) (h : Fin 16) (R S : Fin 2048) :
    val_main_call1_v1 (F := Ideal) (ix4 b h R S) = if S.val < R.val then 1#1 else 0#1 := Cert.SbGradIdeal.Hand.mask_val b h R S
theorem mask_eq : val_main_call6_v1 (F := Ideal) = val_main_call1_v1 (F := Ideal) := rfl

section Weights
include hG

theorem neg_arg_val (b : Fin 2) (h : Fin 16) (R S : Fin 2048) :
    val_main_call0_v0 (F := Ideal) x0 (ix4 b h R S) = ((rZ g b h R S : ℝ) : EReal) := by
  rw [val_main_call0_v0_apply, val_main_v21_apply, z_val hG b h R S]
  exact neg_neg _

theorem arg_val (b : Fin 2) (h : Fin 16) (R S : Fin 2048) :
    val_main_call5_v0 (F := Ideal) x0 (ix4 b h R S) = ((-rZ g b h R S : ℝ) : EReal) := by
  rw [val_main_call5_v0_apply, v40_eq, z_val hG b h R S]
  rfl

theorem sp0_val (b : Fin 2) (h : Fin 16) (R S : Fin 2048) :
    val_main_call0_v1 (F := Ideal) x0 (ix4 b h R S) = ((sp (rZ g b h R S) : ℝ) : EReal) := by
  rw [← hostSp_coe, ← neg_arg_val hG b h R S]
  rfl

theorem sp5_val (b : Fin 2) (h : Fin 16) (R S : Fin 2048) :
    val_main_call5_v1 (F := Ideal) x0 (ix4 b h R S) = ((sp (-rZ g b h R S) : ℝ) : EReal) := by
  rw [← hostSp_coe, ← arg_val hG b h R S]
  rfl

theorem m_val (b : Fin 2) (h : Fin 16) (R S : Fin 2048) :
    val_main_v22 (F := Ideal) x0 (ix4 b h R S) = ((LB (rZ g b h R S) - rZ g b h R S : ℝ) : EReal) := by
  rw [val_main_v22_apply, sp0_val hG b h R S, ← LB_neg, ← neg_sp]
  rfl

theorem lb_val (b : Fin 2) (h : Fin 16) (R S : Fin 2048) :
    val_main_v52 (F := Ideal) x0 (ix4 b h R S) = ((LB (rZ g b h R S) : ℝ) : EReal) := by
  rw [val_main_v52_apply, sp5_val hG b h R S, ← neg_neg (rZ g b h R S), ← neg_sp, neg_neg]
  rfl

theorem mom_val (b : Fin 2) (h : Fin 16) (R S : Fin 2048) :
    val_main_v23 (F := Ideal) x0 (ix4 b h R S) = ((mom (rZ g b h) R S : ℝ) : EReal) := by
  rw [val_main_v23_apply, mask_val, m_val hG b h R S, val_main_call1_v2_apply, val_main_call1_v0_apply, val_main_cst_0_apply, zero_val, sel_val, ite_coe]
  rfl

theorem later_val (b : Fin 2) (h : Fin 16) (R S : Fin 2048) :
    val_main_v51 (F := Ideal) x0 (ix4 b h R S) = ((rT g b h R - cum (rZ g b h) R (S + 1) : ℝ) : EReal) := by
  have e : val_main_v50 (F := Ideal) x0 (ix4 b h R S)
      = (((∑ T ∈ range 2048, mom (rZ g b h) R T) - ∑ T ∈ range S.val, mom (rZ g b h) R T : ℝ) : EReal) := by
    unfold val_main_v50
    rw [v49_eq]
    exact suffix4 (M := 2047) (by norm_num) _ _ _ _ (by rw [val_main_call4_v0_apply, val_main_call4_cst_apply, zero_val]; exact EReal.coe_zero) b h R S
      (mom (rZ g b h) R) fun T => mom_val hG b h R T
  rw [val_main_v51_apply, v49_eq, mom_val hG b h R S, e]
  show ((_ : ℝ) : EReal) - ((_ : ℝ) : EReal) = _
  rw [← EReal.coe_sub, EReal.coe_eq_coe_iff]
  rw [rT, cum, cum, Finset.sum_range_succ _ S.val]
  exact sub_sub _ _ _

theorem w_val (b : Fin 2) (h : Fin 16) (R S : Fin 2048) :
    val_main_v55 (F := Ideal) x0 (ix4 b h R S) = ((rW g b h R S : ℝ) : EReal) := by
  have pre : val_main_v54 (F := Ideal) x0 (ix4 b h R S)
      = ((Real.exp (LB (rZ g b h R S) + (rT g b h R - cum (rZ g b h) R (S + 1))) : ℝ) : EReal) := by
    rw [val_main_v54_apply, val_main_v53_apply, lb_val hG b h R S, later_val hG b h R S]
    rfl
  rw [val_main_v55_apply, mask_eq, mask_val, pre, val_main_call6_v2_apply, val_main_call6_v0_apply, val_main_cst_4_apply, zero_val, sel_val, ite_coe]
  rfl

/-- The weighted sum of the values of one sequence and head. -/
theorem wv_val (b : Fin 2) (h : Fin 16) (R : Fin 2048) (l : Fin 128) :
    val_main_v56 (F := Ideal) x0 (ix4 b h R l) = ((∑ S ∈ range 2048, rW g b h R S * rv g b h S l : ℝ) : EReal) := by
  rw [val_main_v56_apply, ← sum_fin_coe (fun S => rW g b h R S * rv g b h S l)]
  refine Finset.sum_congr rfl fun k _ => ?_
  have el : lidx_main_v56 (ix4 b h R l) k = ix4 b h R k := (by funext a; match a with | ⟨0, _⟩ => rfl | ⟨1, _⟩ => rfl | ⟨2, _⟩ => rfl | ⟨3, _⟩ => rfl)
  have er : ridx_main_v56 (ix4 b h R l) k = ix4 b h k l := (by funext a; match a with | ⟨0, _⟩ => rfl | ⟨1, _⟩ => rfl | ⟨2, _⟩ => rfl | ⟨3, _⟩ => rfl)
  rw [EReal.coe_mul, el, er, w_val hG b h R k, v37_eq, val_val hG b h k l]

theorem o3_val (b : Fin 2) (R : Fin 2048) (c : Fin 2048) (h : Fin 16) (l : Fin 128) (hc : c.val = h.val * 128 + l.val) :
    val_main_v58 (F := Ideal) x0 (ix3 b R c) = ((∑ S ∈ range 2048, rW g b h R S * rv g b h S l : ℝ) : EReal) := by
  have hb := b.isLt; have hR := R.isLt; have hh := h.isLt; have hd := l.isLt
  rw [val_main_v58_apply, val_main_v57_apply]
  refine (congrArg (val_main_v56 (F := Ideal) x0) ?_ : _ = val_main_v56 (F := Ideal) x0 (ix4 b h R l)).trans (wv_val hG b h R l)
  funext a
  match a with
  | ⟨0, _⟩ => exact Fin.ext (by show ((b.val * 2048 + R.val) * 2048 + c.val) / 4194304 = b.val; omega)
  | ⟨1, _⟩ => exact Fin.ext (by show ((b.val * 2048 + R.val) * 2048 + c.val) / 128 % 16 = h.val; omega)
  | ⟨2, _⟩ => exact Fin.ext (by show ((b.val * 2048 + R.val) * 2048 + c.val) / 2048 % 2048 = R.val; omega)
  | ⟨3, _⟩ => exact Fin.ext (by show ((b.val * 2048 + R.val) * 2048 + c.val) % 128 = l.val; omega)

theorem gate_val (b : Fin 2) (R : Fin 2048) (c : Fin 2048) :
    val_main_v60 (F := Ideal) x0 (ix3 b R c)
      = ((g (b.val * 2048 + R.val) (4096 + c.val) * sg (g (b.val * 2048 + R.val) (4096 + c.val)) : ℝ) : EReal) := by
  have hc := c.isLt
  have e : val_main_v59 (F := Ideal) x0 (ix3 b R c) = ((g (b.val * 2048 + R.val) (4096 + c.val) : ℝ) : EReal) := by
    rw [val_main_v59_apply]
    refine (congrArg (val_main_v1 (F := Ideal) x0) ?_ : _ = val_main_v1 (F := Ideal) x0 (ix3 b R (⟨4096 + c.val, by omega⟩ : Fin 6144))).trans (v1_val hG b R _)
    funext a
    match a with
    | ⟨0, _⟩ => rfl
    | ⟨1, _⟩ => rfl
    | ⟨2, _⟩ => rfl
  have s : val_main_call7_v5 (F := Ideal) x0 (ix3 b R c) = ((sg (g (b.val * 2048 + R.val) (4096 + c.val)) : ℝ) : EReal) := by
    pointwise [val_main_call7_v5, val_main_call7_v4, val_main_call7_v3, val_main_call7_v2, val_main_call7_v1, val_main_call7_v0, val_main_call7_cst, val_main_call7_cst_0]
    rw [e, ← sigm_coe, sigm, zero_sub]
  rw [val_main_v60_apply, e, s]
  exact (EReal.coe_mul _ _).symm

/-- The three results. -/
theorem o_val (b : Fin 2) (R : Fin 2048) (c : Fin 2048) (h : Fin 16) (l : Fin 128) (hc : c.val = h.val * 128 + l.val) (r : Fin 4096)
    (hr : r.val = b.val * 2048 + R.val) :
    val_main_v63 (F := Ideal) x0 (ix2 r c) = ((∑ S ∈ range 2048, rW g b h R S * rv g b h S l : ℝ) : EReal) := by
  have hb := b.isLt; have hR := R.isLt; have hc' := c.isLt
  rw [val_main_v63_apply, val_main_v62_apply]
  refine (congrArg (val_main_v58 (F := Ideal) x0) ?_ : _ = val_main_v58 (F := Ideal) x0 (ix3 b R c)).trans (o3_val hG b R c h l hc)
  funext a
  match a with
  | ⟨0, _⟩ => exact Fin.ext (by show (r.val * 2048 + c.val) / 4194304 = b.val; omega)
  | ⟨1, _⟩ => exact Fin.ext (by show (r.val * 2048 + c.val) / 2048 % 2048 = R.val; omega)
  | ⟨2, _⟩ => exact Fin.ext (by show (r.val * 2048 + c.val) % 2048 = c.val; omega)

theorem y_val (b : Fin 2) (R : Fin 2048) (c : Fin 2048) (h : Fin 16) (l : Fin 128) (hc : c.val = h.val * 128 + l.val) (r : Fin 4096)
    (hr : r.val = b.val * 2048 + R.val) :
    val_main_v65 (F := Ideal) x0 (ix2 r c) = (((∑ S ∈ range 2048, rW g b h R S * rv g b h S l)
      * (g (b.val * 2048 + R.val) (4096 + c.val) * sg (g (b.val * 2048 + R.val) (4096 + c.val))) : ℝ) : EReal) := by
  have hb := b.isLt; have hR := R.isLt; have hc' := c.isLt
  rw [val_main_v65_apply, val_main_v64_apply]
  refine (congrArg (val_main_v61 (F := Ideal) x0) ?_ : _ = val_main_v61 (F := Ideal) x0 (ix3 b R c)).trans ?_
  · funext a
    match a with
    | ⟨0, _⟩ => exact Fin.ext (by show (r.val * 2048 + c.val) / 4194304 = b.val; omega)
    | ⟨1, _⟩ => exact Fin.ext (by show (r.val * 2048 + c.val) / 2048 % 2048 = R.val; omega)
    | ⟨2, _⟩ => exact Fin.ext (by show (r.val * 2048 + c.val) % 2048 = c.val; omega)
  · rw [val_main_v61_apply, o3_val hG b R c h l hc, gate_val hG b R c]
    exact (EReal.coe_mul _ _).symm

theorem t_val (b : Fin 2) (p h : Fin 4) (R : Fin 2048) (r : Fin 4096) (hr : r.val = b.val * 2048 + R.val) :
    val_main_v27 (F := Ideal) x0 (ix3 p r h) = ((rT g b (4 * p.val + h.val) R : ℝ) : EReal) := by
  have e : val_main_v27 (F := Ideal) x0 = totOf (val_main_v23 (F := Ideal) x0) := rfl
  rw [e, totOf_apply _ b p h R r hr (⟨4 * p.val + h.val, by omega⟩ : Fin 16) rfl, rT, cum, ← sum_fin_coe]
  exact Finset.sum_congr rfl fun S _ => mom_val hG b _ R S
end Weights

end Cert.SbForwardIdeal.Hand

end
-- ==== Proof.SbForward.Claim.lean ====
module

public import proofs.«01_k».proof.Defs
public import proofs.«01_k».proof.Proof.Gen.SbForward
public import proofs.«01_k».proof.Proof.Gen.SbForwardRefIdeal.Run
public import proofs.«01_k».proof.Proof.Gen.Pre_afwd_finite
public import proofs.«01_k».proof.Proof.SbForward.Point
public import proofs.«01_k».proof.Proof.SbForward.Ref
public import Idealize.ShloMosaic.Lib.Claim

/-! The attention's forward call: the precondition read, the equation of the two programs, the frames. -/

@[expose] public section

set_option maxRecDepth 16384
set_option maxHeartbeats 4000000

noncomputable section

namespace Cert.SbForwardIdeal.Hand

open Idealize.ShloMosaic Idealize.ShloMosaic.TcCoe
open Idealize.SL.Sem
open Cert.SbForwardRefIdeal.Read (val_main_v63 val_main_v65 val_main_v27)

/-- What the precondition says: the projections are real numbers. -/
theorem real_of_pre [Cert.Pre_afwd_finite.Facts] (x0 : FVec Ideal S4096x6144 .bf16)
    (h : Cert.Pre_afwd_finite.fn (F := Ideal) x0 = fun _ => 1#1) :
    ∃ g : ℕ → ℕ → ℝ, ∀ (r : Fin 4096) (s : Fin 6144), x0 (ix2 r s) = ((g r.val s.val : ℝ) : EReal) := by
  have h' := congrFun h (Shape.Idx.first (by decide))
  unfold Cert.Pre_afwd_finite.fn at h'
  have key : ∀ (r : Fin 4096) (s : Fin 6144), ∃ a : ℝ, x0 (ix2 r s) = (a : EReal) := fun r s =>
    Cert.Finite.real_of_olt _ (Cert.Finite.all_of_reduce _ _ _ _ _ rfl h' (ix2 r s))
  refine ⟨fun r s => if h : r < 4096 ∧ s < 6144 then (key ⟨r, h.1⟩ ⟨s, h.2⟩).choose else 0, fun r s => ?_⟩
  beta_reduce
  rw [dif_pos ⟨r.isLt, s.isLt⟩]
  exact (key r s).choose_spec

section Reference
variable {g : ℕ → ℕ → ℝ} {x0 : FVec Ideal S4096x6144 .bf16} (hG : ∀ (r : Fin 4096) (s : Fin 6144), x0 (ix2 r s) = ((g r.val s.val : ℝ) : EReal))
include hG

/-- The reference's three results, by rows and columns. -/
theorem ref_o : val_main_v63 (F := Ideal) x0 = fun i => ((oFin g (i 0).val (i 1).val : ℝ) : EReal) := funext fun i => by
  obtain ⟨r, s, rfl⟩ : ∃ (r : Fin 4096) (s : Fin 2048), i = ix2 r s := ⟨i 0, i 1, funext fun a => match a with | ⟨0, _⟩ => rfl | ⟨1, _⟩ => rfl⟩
  have hr := r.isLt; have hs := s.isLt
  exact o_val hG (⟨r.val / 2048, by omega⟩ : Fin 2) (⟨r.val % 2048, by omega⟩ : Fin 2048) s (⟨s.val / 128, by omega⟩ : Fin 16) (⟨s.val % 128, by omega⟩ : Fin 128)
    (by show s.val = s.val / 128 * 128 + s.val % 128; omega) r (by show r.val = r.val / 2048 * 2048 + r.val % 2048; omega)
theorem ref_y : val_main_v65 (F := Ideal) x0 = fun i => ((yFin g (i 0).val (i 1).val : ℝ) : EReal) := funext fun i => by
  obtain ⟨r, s, rfl⟩ : ∃ (r : Fin 4096) (s : Fin 2048), i = ix2 r s := ⟨i 0, i 1, funext fun a => match a with | ⟨0, _⟩ => rfl | ⟨1, _⟩ => rfl⟩
  have hr := r.isLt; have hs := s.isLt
  have e : r.val / 2048 * 2048 + r.val % 2048 = r.val := by omega
  refine (y_val hG (⟨r.val / 2048, by omega⟩ : Fin 2) (⟨r.val % 2048, by omega⟩ : Fin 2048) s (⟨s.val / 128, by omega⟩ : Fin 16) (⟨s.val % 128, by omega⟩ : Fin 128)
    (by show s.val = s.val / 128 * 128 + s.val % 128; omega) r e.symm).trans ?_
  simp only [e]
  rfl
theorem ref_t : val_main_v27 (F := Ideal) x0 = fun i => ((tFin g (i 0).val (i 1).val (i 2).val : ℝ) : EReal) := funext fun i => by
  obtain ⟨p, r, h, rfl⟩ : ∃ (p : Fin 4) (r : Fin 4096) (h : Fin 4), i = ix3 p r h :=
    ⟨i 0, i 1, i 2, funext fun a => match a with | ⟨0, _⟩ => rfl | ⟨1, _⟩ => rfl | ⟨2, _⟩ => rfl⟩
  have hr := r.isLt
  exact t_val hG (⟨r.val / 2048, by omega⟩ : Fin 2) p h (⟨r.val % 2048, by omega⟩ : Fin 2048) r (by show r.val = r.val / 2048 * 2048 + r.val % 2048; omega)
end Reference

/-- The kernel's three results are the reference's. -/
theorem algebraic : Cert.algebraic_SbForwardIdeal_SbForwardRefIdeal_pre_afwd_finite
    (hSbForwardIdeal := Cert.SbForwardIdeal.Gen.facts) (hSbForwardRefIdeal := Cert.SbForwardRefIdeal.Gen.facts)
    (hPre_afwd_finite := Cert.Pre_afwd_finite.Gen.facts) := by
  letI := Cert.Pre_afwd_finite.Gen.facts
  intro m s m' s' hpre hagree
  refine ⟨_, _, _, ?_, θ_run_mono (Cert.SbForwardRefIdeal.Value.run m' s') fun r h c => h c⟩
  refine θ_run_mono (θ_run_and (run_main m s) (frame m s)) fun r h c => ?_
  obtain ⟨hr, hk⟩ := h
  have a0 := hagree c
  obtain ⟨g, hG⟩ := real_of_pre _ (hpre c)
  refine ⟨((hr c).1 4).trans ((final4 m c hG).trans ?_), ((hr c).1 5).trans ((final5 m c hG).trans ?_), ((hr c).1 6).trans ((final6 m c hG).trans ?_), hk.1 c⟩
  · rw [Cert.SbForwardRefIdeal.Read.val_main_v63_eq (F := Ideal) m' c, a0]
    exact (ref_o hG).symm
  · rw [Cert.SbForwardRefIdeal.Read.val_main_v65_eq (F := Ideal) m' c, a0]
    exact (ref_y hG).symm
  · rw [Cert.SbForwardRefIdeal.Read.val_main_v27_eq (F := Ideal) m' c, a0]
    exact (ref_t hG).symm

/-- At the bit patterns a named constant is its literal. -/
local instance literal : Named Bits where
  named _ _ {φ} b := Scalar.ofBits (F := Bits) φ b

/-- The program as compiled and its ideal reading have one body table: their texts agree, the named constant being its literal at the bit patterns. -/
theorem defs_eq : Cert.SbForward.defs (F := Bits) = Cert.SbForwardIdeal.defs (F := Bits) := by sl_kernel_rfl

/-- The frame of the program as compiled is the ideal program's run, at the bit patterns. -/
theorem frame_kernel : Cert.quiescent_SbForward (hSbForward := Cert.SbForward.Gen.facts) := fun m ρ _ => by
  have h := Cert.SbForwardIdeal.Hand.frame (F := Bits) m ρ
  rw [← defs_eq] at h
  exact h

/-- The reference's frame: host operations only, none of which writes an argument, and no semaphore. -/
theorem frame_reference : Cert.quiescent_SbForwardRefIdeal (hSbForwardRefIdeal := Cert.SbForwardRefIdeal.Gen.facts) := fun m ρ _ =>
  θ_run_mono (Cert.SbForwardRefIdeal.Value.run m ρ) fun r h => ⟨fun c => (h c).2.2.2, sem_eq_zero_of_no_sems (by decide) r.2⟩

end Cert.SbForwardIdeal.Hand
-- ==== Proof.PoolForward.Blocks.lean ====
module

public import proofs.«01_k».proof.Proof.Gen.PoolForwardIdeal.Value
public import Idealize.ShloMosaic.Lib.Pipeline.ValueKit
public import Idealize.ShloMosaic.Lib.Pointwise
public import Idealize.ShloMosaic.Lib.Pipeline.ReadBack
public import proofs.«01_k».proof.Proof.PoolGrad.Ref

/-! What the pooling's forward kernel stores at each grid point. -/

@[expose] public section

set_option maxRecDepth 16384

noncomputable section

namespace Cert.PoolForwardIdeal.Hand

open Cert.PoolForwardIdeal Cert.PoolForwardIdeal.Gen Idealize.ShloMosaic Idealize.ShloMosaic.TcCoe Idealize.SL.Sem
open Idealize.ShloMosaic.Pipeline (Dat)
open Cert.Finite (sigm)
open Cert.PoolGradIdeal.Hand (rowsIn count_bits start_eq pick)

/-- The sum of the `2 ^ (g + 1)` rows that end at a row, by doubling. -/
def two (c : ℕ → EReal) (p : ℕ) : EReal := c p + c (p - 1)
def four (c : ℕ → EReal) (p : ℕ) : EReal := two c p + two c (p - 2)
def eight (c : ℕ → EReal) (p : ℕ) : EReal := four c p + four c (p - 4)
def sixteen (c : ℕ → EReal) (p : ℕ) : EReal := eight c p + eight c (p - 8)
def trailing (g : ℕ) (c : ℕ → EReal) (p : ℕ) : EReal :=
  if g = 0 then two c p else if g = 1 then four c p else if g = 2 then eight c p else sixteen c p

/-- A sequence's rows with sixteen rows of zeros before them. -/
def padded (f : ℕ → EReal) (q : ℕ) : EReal := if q < 16 then 0 else f (q - 16)

/-- Whether block `n` of rows is the first of its sequence, as the kernel's scalars say it. -/
abbrev firstBlock (n : ℕ) : BitVec 1 :=
  Scalar.cmpi CmpIPredicate.eq (Scalar.select
                (Scalar.andi
                  (Scalar.xori (Scalar.cmpi CmpIPredicate.slt (Scalar.remsi (BitVec.ofNat 32 n) (Scalar.select (Scalar.cmpi CmpIPredicate.eq 1#32 0#32) 1#32 1#32)) 0#32)
                    (Scalar.cmpi CmpIPredicate.slt (Scalar.select (Scalar.cmpi CmpIPredicate.eq 1#32 0#32) 1#32 1#32) 0#32))
                  (Scalar.cmpi CmpIPredicate.ne (Scalar.remsi (BitVec.ofNat 32 n) (Scalar.select (Scalar.cmpi CmpIPredicate.eq 1#32 0#32) 1#32 1#32)) 0#32))
                (Scalar.addi (Scalar.remsi (BitVec.ofNat 32 n) (Scalar.select (Scalar.cmpi CmpIPredicate.eq 1#32 0#32) 1#32 1#32)) (Scalar.select (Scalar.cmpi CmpIPredicate.eq 1#32 0#32) 1#32 1#32))
                (Scalar.remsi (BitVec.ofNat 32 n) (Scalar.select (Scalar.cmpi CmpIPredicate.eq 1#32 0#32) 1#32 1#32))) 0#32

/-- A sequence is one block of rows, so that every block is. -/
theorem first_eq : ∀ a : Fin 2, firstBlock a.val = 1#1 := by decide

/-- The rows added to themselves, turned by some rows. -/
def turned (n : BitVec 32) (x : FVec Ideal S2064x512 .f32) : FVec Ideal S2064x512 .f32 := addf x (dynamicRotate 0 n none x rotates_S2064x512_d0)

/-- The rows after the first sixteen. -/
def inner (x : FVec Ideal S2064x512 .f32) : FVec Ideal S2048x512 .f32 := extractStridedSlice S2048x512 ![16, 0] x slices_S2064x512_o16_0_S2048x512

theorem turned_apply (n : BitVec 32) (x : FVec Ideal S2064x512 .f32) (q r : Fin 2064) (e : Fin 512) (h : r.val = (q.val + 2064 - n.toNat) % 2064) (hn : n.toNat < 2064) :
    (turned n x (ix2 q e) : EReal) = x (ix2 q e) + x (ix2 r e) := by
  pointwise [turned]
  refine congrArg (fun y : EReal => x (ix2 q e) + y) (congrArg x (congrArg (fun z => ix2 z e) (Fin.ext ?_)))
  simp only []
  rw [h, Nat.mod_eq_of_lt hn]

theorem inner_apply (x : FVec Ideal S2064x512 .f32) (p : Fin 2048) (e : Fin 512) : inner x (ix2 p e) = x (ix2 (⟨16 + p.val, by omega⟩ : Fin 2064) e) := by
  pointwise [inner]

/-- The block with its halo before it, which counts as zero. -/
def halo (i : grid0.Coords) (v11 : FVec Ideal S16x512 .bf16) (v15 : FVec Ideal S2048x512 .bf16) : FVec Ideal S2064x512 .f32 :=
  concatenate S2064x512 0 [⟨S16x512, Scalar.select (firstBlock (i 0).val)
      (broadcast S16x512 (Scalar.ofBits (F := Ideal) .f32 0x00000000#32)) (extf .f32 v11 bitsLt_bf16_f32)⟩, ⟨S2048x512, k0_pay4 (F := Ideal) v15⟩] concatenates_S16x512_S2048x512_S2064x512_d0

theorem halo_apply (i : grid0.Coords) (v11 : FVec Ideal S16x512 .bf16) (v15 : FVec Ideal S2048x512 .bf16) (f : ℕ → EReal) (e : Fin 512)
    (hf : ∀ q : Fin 2048, v15 (ix2 q e) = f q.val) (q : Fin 2064) : (halo i v11 v15 (ix2 q e) : EReal) = padded f q.val := by
  unfold halo
  rw [first_eq (i 0)]
  unfold padded
  by_cases h : q.val < 16
  · rw [if_pos h]
    pointwise [k0_pay4]
    rw [dif_pos h]
  · rw [if_neg h]
    pointwise [k0_pay4]
    rw [dif_neg h]
    exact hf ⟨q.val - 16, by omega⟩

/-- The kernel's sum over a window, in its steps. -/
theorem pay5_eq (i : grid0.Coords) (v11 : FVec Ideal S16x512 .bf16) (v15 : FVec Ideal S2048x512 .bf16) :
    k0_pay5 (F := Ideal) i v11 v15 = Scalar.select (Scalar.cmpi CmpIPredicate.sge (BitVec.ofNat 32 (i 1).val) 3#32)
        (inner (turned 8#32 (turned 4#32 (turned 2#32 (turned 1#32 (halo i v11 v15))))))
      (Scalar.select (Scalar.cmpi CmpIPredicate.sge (BitVec.ofNat 32 (i 1).val) 2#32) (inner (turned 4#32 (turned 2#32 (turned 1#32 (halo i v11 v15)))))
        (Scalar.select (Scalar.cmpi CmpIPredicate.sge (BitVec.ofNat 32 (i 1).val) 1#32) (inner (turned 2#32 (turned 1#32 (halo i v11 v15))))
          (inner (turned 1#32 (halo i v11 v15))))) := rfl

theorem turned_two (n : BitVec 32) (w : ℕ) (C D : ℕ → EReal) (x : FVec Ideal S2064x512 .f32) (e : Fin 512) (lo : ℕ) (hn : n.toNat = w) (hw : w ≤ 16)
    (hx : ∀ q : Fin 2064, lo ≤ q.val → x (ix2 q e) = C q.val) (hD : ∀ q, D q = C q + C (q - w)) (q : Fin 2064) (hq : lo + w ≤ q.val) :
    (turned n x (ix2 q e) : EReal) = D q.val := by
  have hq' := q.isLt
  rw [turned_apply n x q ⟨q.val - w, by omega⟩ e (by rw [hn]; simp only []; omega) (by omega), hx q (by omega), hx _ (by simp only []; omega), hD]

theorem pay5_apply (i : grid0.Coords) (v11 : FVec Ideal S16x512 .bf16) (v15 : FVec Ideal S2048x512 .bf16) (f : ℕ → EReal) (e : Fin 512)
    (hf : ∀ q : Fin 2048, v15 (ix2 q e) = f q.val) (p : Fin 2048) :
    k0_pay5 (F := Ideal) i v11 v15 (ix2 p e) = trailing (i 1).val (padded f) (16 + p.val) := by
  have h1 := turned_two 1#32 1 (padded f) (two (padded f)) (halo i v11 v15) e 0 rfl (by decide) (fun q _ => halo_apply i v11 v15 f e hf q) (fun q => rfl)
  have h2 := turned_two 2#32 2 _ (four (padded f)) _ e 1 rfl (by decide) (fun q hq => h1 q (by omega)) (fun q => rfl)
  have h4 := turned_two 4#32 4 _ (eight (padded f)) _ e 3 rfl (by decide) (fun q hq => h2 q (by omega)) (fun q => rfl)
  have h8 := turned_two 8#32 8 _ (sixteen (padded f)) _ e 7 rfl (by decide) (fun q hq => h4 q (by omega)) (fun q => rfl)
  have z := pick (i 1) (two (padded f) (16 + p.val)) (four (padded f) (16 + p.val)) (eight (padded f) (16 + p.val)) (sixteen (padded f) (16 + p.val))
  rw [pay5_eq]
  unfold trailing
  rw [← z, ← h1 ⟨16 + p.val, by omega⟩ (by simp only []; omega), ← h2 ⟨16 + p.val, by omega⟩ (by simp only []; omega),
    ← h4 ⟨16 + p.val, by omega⟩ (by simp only []; omega), ← h8 ⟨16 + p.val, by omega⟩ (by simp only []; omega)]
  simp only [← inner_apply]
  unfold Scalar.select
  split_ifs <;> rfl

variable (m : (ℓ : Loc nD τ sig) → Buf (Elt Ideal) ℓ)

/-- Which block each window takes at each grid point. -/
theorem idx : ∀ t : Fin cfg0.N, win0_0.index t = ![t.val / 4, t.val % 4] ∧ win0_2.index t = ![t.val / 4, 4 + t.val % 4] ∧ win0_3.index t = ![0, t.val % 4, 0]
   ∧ win0_4.index t = ![0, t.val % 4] ∧ win0_5.index t = ![t.val / 4, t.val % 4] ∧ win0_6.index t = ![t.val / 4, t.val % 4] ∧ win0_7.index t = ![t.val / 4, t.val % 4]
   ∧ (grid0.coords t 1).val = t.val % 4 :=
  (by decide +kernel : ∀ t : Fin grid0.N, _)

theorem pay6_apply (a : Fin 2) (g : Fin 4) (v16 v35 : FVec Ideal S2048x512 .f32) (p : Fin 2048) (e : Fin 512) :
    k0_pay6 (F := Ideal) (BitVec.ofNat 32 a.val) (BitVec.ofNat 32 g.val) v16 v35 1#32 (0#1) (ix2 p e)
      = Ideal.div (v35 (ix2 p e)) ((rowsIn g.val p.val : ℝ) : EReal) - v16 (ix2 p e) := by
  pointwise [k0_pay6]
  rw [start_eq a]
  refine congrArg (fun x : EReal => Ideal.div (v35 (ix2 p e)) x - v16 (ix2 p e)) ?_
  show (((IntOp.minsi (IntOp.addi (IntOp.addi 0#32 (BitVec.ofNat 32 p.val)) 1#32)
        (Scalar.shli 2#32 (BitVec.ofNat 32 g.val))).toInt : ℝ) : EReal) = _
  rw [count_bits g ⟨p.val, by omega⟩, rowsIn]
  norm_cast

/-- A column of a group's half, along the rows of one sequence. -/
def col (x : FVec Ideal S4096x4096 .bf16) (b : Fin 2) (g : Fin 4) (e : Fin 512) (q : ℕ) : EReal :=
  if h : q < 2048 then x (ix2 (⟨b.val * 2048 + q, by omega⟩ : Fin 4096) (⟨g.val * 512 + e.val, by omega⟩ : Fin 4096)) else 0

/-- The pooled row: the mean over the window that ends at the row, less the row. -/
def pooledV (x : FVec Ideal S4096x4096 .bf16) (b : Fin 2) (g : Fin 4) (e : Fin 512) (p : ℕ) : EReal :=
  Ideal.div (trailing g.val (padded (col x b g e)) (16 + p)) ((rowsIn g.val p : ℝ) : EReal) - col x b g e p

/-- The pooled block, at each grid point. -/
theorem pool_block (c : Dev nD) (t : Fin cfg0.N) (p : Fin 2048) (e : Fin 512) (b : Fin 2) (g : Fin 4) (hb : b.val = t.val / 4) (hg : g.val = t.val % 4) :
    k0_pay6 (F := Ideal) (BitVec.ofNat 32 (grid0.coords t 0).val) (BitVec.ofNat 32 (grid0.coords t 1).val) (k0_pay4 (iblk m c 0 t))
      (k0_pay5 (grid0.coords t) (iblk m c 1 t) (iblk m c 0 t)) 1#32 (0#1) (ix2 p e)
      = pooledV (m ((c : Thread nD τ).loc main_arg0)) b g e p.val := by
  obtain ⟨i0, i2, i3, i4, i5, i6, i7, i1⟩ := idx t
  have hi : grid0.coords t 1 = g := Fin.ext (i1.trans hg.symm)
  have X : ∀ q : Fin 2048, (iblk m c 0 t : FVec Ideal S2048x512 .bf16) (ix2 q e) = col (m ((c : Thread nD τ).loc main_arg0)) b g e q.val := by
    intro q
    rw [col, dif_pos q.isLt, ← V_main_arg0 m c]
    blk_ext [iblk, i0]
  refine (pay6_apply (grid0.coords t 0) (grid0.coords t 1) _ _ p e).trans ?_
  rw [pay5_apply _ _ _ _ e X p, hi]
  unfold pooledV
  refine congrArg (fun y : EReal => Ideal.div (trailing g.val (padded (col (m ((c : Thread nD τ).loc main_arg0)) b g e)) (16 + p.val)) ((rowsIn g.val p.val : ℝ) : EReal) - y) ?_
  rw [← X p]
  pointwise [k0_pay4]

theorem point6 (c : Dev nD) (t : Fin cfg0.N) (p : Fin 2048) (e : Fin 512) (b : Fin 2) (g : Fin 4) (hb : b.val = t.val / 4) (hg : g.val = t.val % 4) :
    (outsAt0 m c t).2.1 (ix2 p e) = pooledV (m ((c : Thread nD τ).loc main_arg0)) b g e p.val := by
  unfold outsAt0
  frame_out
  exact pool_block m c t p e b g hb hg

/-- The product with the group's weights. -/
def mixedV (x : FVec Ideal S4096x4096 .bf16) (w : FVec Ideal S4x512x512 .f32) (b : Fin 2) (g : Fin 4) (e : Fin 512) (p : ℕ) : EReal :=
  ∑ k : Fin 512, pooledV x b g k p * w (ix3 g k e)

/-- The product gated: times the scale and the other half's silu. -/
def gatedV (x : FVec Ideal S4096x4096 .bf16) (w : FVec Ideal S4x512x512 .f32) (s : FVec Ideal S1x2048 .f32) (b : Fin 2) (g : Fin 4) (e : Fin 512) (p : Fin 2048) : EReal :=
  mixedV x w b g e p.val * s (ix2 (0 : Fin 1) (⟨g.val * 512 + e.val, by omega⟩ : Fin 2048))
    * (x (ix2 (⟨b.val * 2048 + p.val, by omega⟩ : Fin 4096) (⟨2048 + (g.val * 512 + e.val), by omega⟩ : Fin 4096))
        * sigm (x (ix2 (⟨b.val * 2048 + p.val, by omega⟩ : Fin 4096) (⟨2048 + (g.val * 512 + e.val), by omega⟩ : Fin 4096))))

/-- The group weights, as the launch finds them: split over the chips, read back by row. -/
theorem weights (c : Dev nD) (a : Fin 4) (n : Fin 512) (k : Fin 512) (g : Fin 4) (e : Fin 512) (hg : g.val = n.val / 128) (he : e.val = a.val * 128 + n.val % 128) :
    (V m c main_v3 : FVec Ideal S4x512x512 .bf16) (ix3 a n k) = m ((c : Thread nD τ).loc main_arg1) (ix3 g e k) := by
  have hv : V m c main_v3 = (truncf .bf16 (shapeCast S4x512x512 (transpose S4x4x128x512 [1, 0, 2, 3]
      (shapeCast S4x4x128x512 (m ((c : Thread nD τ).loc main_arg1) : FVec Ideal S4x512x512 .f32) shapeCasts_S4x512x512_S4x4x128x512)
        transposes_S4x4x128x512_S4x4x128x512_1_0_2_3) shapeCasts_S4x4x128x512_S4x512x512) bitsLt_bf16_f32 : FVec Ideal S4x512x512 .bf16) := by
    unfold V
    simp only [hostOps0, List.flatten_cons, List.flatten_nil, List.append_nil, List.cons_append, List.nil_append]
    after_results
    rfl
  rw [hv]
  exact Cert.PoolGradIdeal.Hand.split _ a n k g e hg he

/-- 256 rows of the product. -/
theorem mixed_piece (c : Dev nD) (t : Fin cfg0.N) (b : Fin 2) (g : Fin 4) (hg : g.val = t.val % 4) (Z : FVec Ideal S2048x512 .bf16) (X : FVec Ideal S4096x4096 .bf16)
    (hZ : ∀ (p : Fin 2048) (k : Fin 512), Z (ix2 p k) = pooledV X b g k p.val) (o : ℕ)
    (inb : ∀ a, (![o, 0] : Fin S2048x512.rank → ℕ) a + (![256, 512] : Fin S2048x512.rank → ℕ) a ≤ S2048x512.size a) (x : S256x512.Idx)
    (p : Fin 2048) (e : Fin 512) (h0 : p.val = o + (x 0).val) (h1 : e.val = (x 1).val) :
    k0_pay3 (F := Ideal) (k0_pay7 (iblk m c 3 t)) (View.ld (Val := Elt Ideal) (e' := .bf16) Z (Rect.unit (s := S2048x512) ![o, 0] ![256, 512] inb)) x
      = mixedV X (m ((c : Thread nD τ).loc main_arg1)) b g e p.val := by
  obtain ⟨i0, i2, i3, i4, i5, i6, i7, i1⟩ := idx t
  unfold mixedV
  pointwise [k0_pay3, k0_pay1, k0_pay7]
  refine Finset.sum_congr rfl fun k _ => congrArg₂ (fun a b : EReal => a * b) ?_ ?_
  · rw [← hZ p k]
    exact congrArg (fun r => Z (ix2 r k)) (Fin.ext h0.symm)
  · refine Eq.trans ?_ (weights m c (⟨k.val / 128, by omega⟩ : Fin 4) (⟨g.val * 128 + k.val % 128, by omega⟩ : Fin 512) e g k (by simp only []; omega) (by simp only []; omega))
    blk_ext [iblk, i3]

theorem point7 (c : Dev nD) (t : Fin cfg0.N) (p : Fin 2048) (e : Fin 512) (b : Fin 2) (g : Fin 4) (hb : b.val = t.val / 4) (hg : g.val = t.val % 4) :
    (outsAt0 m c t).2.2 (ix2 p e) = mixedV (m ((c : Thread nD τ).loc main_arg0)) (m ((c : Thread nD τ).loc main_arg1)) b g e p.val := by
  unfold outsAt0
  frame_out
  canon_tiles x h'
  all_goals
    rw [View.readCov_fill _ inb_S2048x512_S2048x512_0_0 _ _ _ (by decide)]
    exact mixed_piece m c t b g hg _ _ (fun p k => pool_block m c t p k b g hb hg) _ _ x p e (by first | assumption | (rw [Nat.zero_add]; assumption)) (by assumption)

/-- 256 rows of the gated product. -/
theorem gated_piece (c : Dev nD) (t : Fin cfg0.N) (b : Fin 2) (g : Fin 4) (hb : b.val = t.val / 4) (hg : g.val = t.val % 4) (Z : FVec Ideal S2048x512 .bf16)
    (hZ : ∀ (p : Fin 2048) (k : Fin 512), Z (ix2 p k) = pooledV (m ((c : Thread nD τ).loc main_arg0)) b g k p.val) (o : ℕ)
    (inb : ∀ a, (![o, 0] : Fin S2048x512.rank → ℕ) a + (![256, 512] : Fin S2048x512.rank → ℕ) a ≤ S2048x512.size a) (x : S256x512.Idx)
    (p : Fin 2048) (e : Fin 512) (h0 : p.val = o + (x 0).val) (h1 : e.val = (x 1).val) :
    k0_pay2 (F := Ideal) (k0_pay7 (iblk m c 3 t)) (View.ld (Val := Elt Ideal) (e' := .bf16) Z (Rect.unit (s := S2048x512) ![o, 0] ![256, 512] inb))
        (View.ld (Val := Elt Ideal) (e' := .bf16) (iblk m c 2 t) (Rect.unit (s := S2048x512) ![o, 0] ![256, 512] inb)) (iblk m c 4 t) x
      = gatedV (m ((c : Thread nD τ).loc main_arg0)) (m ((c : Thread nD τ).loc main_arg1)) (m ((c : Thread nD τ).loc main_arg2)) b g e p := by
  obtain ⟨i0, i2, i3, i4, i5, i6, i7, i1⟩ := idx t
  have M := mixed_piece m c t b g hg Z _ hZ o inb x p e h0 h1
  unfold k0_pay3 at M
  unfold gatedV
  rw [← M]
  unfold sigm
  generalize hy : k0_pay1 (F := Ideal) (k0_pay7 (iblk m c 3 t)) (View.ld (Val := Elt Ideal) (e' := .bf16) Z (Rect.unit (s := S2048x512) ![o, 0] ![256, 512] inb)) = y
  unfold k0_pay2
  rw [hy]
  pointwise []
  have S : (iblk m c 4 t : FVec Ideal S1x512 .f32) (ix2 (0 : Fin 1) (x 1)) = m ((c : Thread nD τ).loc main_arg2) (ix2 (0 : Fin 1) (⟨g.val * 512 + e.val, by omega⟩ : Fin 2048)) := by
    rw [← V_main_arg2 m c]
    blk_ext [iblk, i4]
  have Y : (iblk m c 2 t : FVec Ideal S2048x512 .bf16) (ix2 (⟨o + (x 0).val, by omega⟩ : Fin 2048) (x 1))
      = m ((c : Thread nD τ).loc main_arg0) (ix2 (⟨b.val * 2048 + p.val, by omega⟩ : Fin 4096) (⟨2048 + (g.val * 512 + e.val), by omega⟩ : Fin 4096)) := by
    rw [← V_main_arg0 m c]
    blk_ext [iblk, i2]
  rw [← S, ← Y]

theorem point5 (c : Dev nD) (t : Fin cfg0.N) (p : Fin 2048) (e : Fin 512) (b : Fin 2) (g : Fin 4) (hb : b.val = t.val / 4) (hg : g.val = t.val % 4) :
    (outsAt0 m c t).1 (ix2 p e)
      = gatedV (m ((c : Thread nD τ).loc main_arg0)) (m ((c : Thread nD τ).loc main_arg1)) (m ((c : Thread nD τ).loc main_arg2)) b g e p := by
  unfold outsAt0
  frame_out
  canon_tiles x h'
  all_goals
    rw [View.readCov_fill _ inb_S2048x512_S2048x512_0_0 _ _ _ (by decide)]
    exact gated_piece m c t b g hb hg _ (fun p k => pool_block m c t p k b g hb hg) _ _ x p e (by first | assumption | (rw [Nat.zero_add]; assumption)) (by assumption)

/-- The arrays after the grid: each entry from its sequence, row, group and column. -/
def pooledArr (x : FVec Ideal S4096x4096 .bf16) : S4096x2048.Idx → EReal := fun i =>
  pooledV x (⟨(i 0).val / 2048, Nat.div_lt_of_lt_mul (i 0).isLt⟩ : Fin 2) (⟨(i 1).val / 512, Nat.div_lt_of_lt_mul (i 1).isLt⟩ : Fin 4)
    (⟨(i 1).val % 512, Nat.mod_lt _ (by decide)⟩ : Fin 512) ((i 0).val % 2048)
def mixedArr (x : FVec Ideal S4096x4096 .bf16) (w : FVec Ideal S4x512x512 .f32) : S4096x2048.Idx → EReal := fun i =>
  mixedV x w (⟨(i 0).val / 2048, Nat.div_lt_of_lt_mul (i 0).isLt⟩ : Fin 2) (⟨(i 1).val / 512, Nat.div_lt_of_lt_mul (i 1).isLt⟩ : Fin 4)
    (⟨(i 1).val % 512, Nat.mod_lt _ (by decide)⟩ : Fin 512) ((i 0).val % 2048)
def gatedArr (x : FVec Ideal S4096x4096 .bf16) (w : FVec Ideal S4x512x512 .f32) (s : FVec Ideal S1x2048 .f32) : S4096x2048.Idx → EReal := fun i =>
  gatedV x w s (⟨(i 0).val / 2048, Nat.div_lt_of_lt_mul (i 0).isLt⟩ : Fin 2) (⟨(i 1).val / 512, Nat.div_lt_of_lt_mul (i 1).isLt⟩ : Fin 4)
    (⟨(i 1).val % 512, Nat.mod_lt _ (by decide)⟩ : Fin 512) (⟨(i 0).val % 2048, Nat.mod_lt _ (by decide)⟩ : Fin 2048)

/-- An entry of block `(b, g)` at row `p` and column `e` has these for its parts. -/
theorem parts_eq {α : Type} (f : Fin 2 → Fin 4 → Fin 512 → Fin 2048 → α) (b : Fin 2) (g : Fin 4) (p : Fin 2048) (e : Fin 512) (r n : ℕ)
    (hr : r = b.val * 2048 + p.val) (hn : n = g.val * 512 + e.val) (h0 : r / 2048 < 2) (h1 : n / 512 < 4) (h2 : n % 512 < 512) :
    f b g e p = f ⟨r / 2048, h0⟩ ⟨n / 512, h1⟩ ⟨n % 512, h2⟩ ⟨r % 2048, Nat.mod_lt _ (by decide)⟩ := by
  have hp := p.isLt
  have he := e.isLt
  rw [show (⟨r / 2048, h0⟩ : Fin 2) = b from Fin.ext (by simp only []; omega), show (⟨n / 512, h1⟩ : Fin 4) = g from Fin.ext (by simp only []; omega),
    show (⟨n % 512, h2⟩ : Fin 512) = e from Fin.ext (by simp only []; omega), show (⟨r % 2048, Nat.mod_lt _ (by decide)⟩ : Fin 2048) = p from Fin.ext (by simp only []; omega)]

theorem final6 (c : Dev nD) : (dats m 0 c).arrAt 6 (cfgs 0).N = pooledArr (m ((c : Thread nD τ).loc main_arg0)) := by
  refine (dats m 0 c).arrAt_eq_of_covers 6 _ (by decide +kernel) fun t hf y => ?_
  unfold pooledArr
  blk_simp
  rw [after0_6]
  obtain ⟨i0, i2, i3, i4, i5, i6, i7, i1⟩ := idx t
  have ht : t.val < 8 := t.isLt.trans_eq N_0
  refine (congrArg (outsAt0 m c t).2.1 (eq_ix2 (n0 := 2048) (n1 := 512) y)).trans ((point6 m c t (y 0) (y 1) (⟨t.val / 4, by omega⟩ : Fin 2) (⟨t.val % 4, by omega⟩ : Fin 4) rfl rfl).trans
    (parts_eq (fun b g e p => pooledV (m ((c : Thread nD τ).loc main_arg0)) b g e p.val) _ _ _ _ _ _ ?_ ?_ _ _ _))
  · rw [i6]; rfl
  · rw [i6]; rfl

theorem final7 (c : Dev nD) : (dats m 0 c).arrAt 7 (cfgs 0).N = mixedArr (m ((c : Thread nD τ).loc main_arg0)) (m ((c : Thread nD τ).loc main_arg1)) := by
  refine (dats m 0 c).arrAt_eq_of_covers 7 _ (by decide +kernel) fun t hf y => ?_
  unfold mixedArr
  blk_simp
  rw [after0_7]
  obtain ⟨i0, i2, i3, i4, i5, i6, i7, i1⟩ := idx t
  have ht : t.val < 8 := t.isLt.trans_eq N_0
  refine (congrArg (outsAt0 m c t).2.2 (eq_ix2 (n0 := 2048) (n1 := 512) y)).trans ((point7 m c t (y 0) (y 1) (⟨t.val / 4, by omega⟩ : Fin 2) (⟨t.val % 4, by omega⟩ : Fin 4) rfl rfl).trans
    (parts_eq (fun b g e p => mixedV (m ((c : Thread nD τ).loc main_arg0)) (m ((c : Thread nD τ).loc main_arg1)) b g e p.val) _ _ _ _ _ _ ?_ ?_ _ _ _))
  · rw [i7]; rfl
  · rw [i7]; rfl

theorem final5 (c : Dev nD) : (dats m 0 c).arrAt 5 (cfgs 0).N
    = gatedArr (m ((c : Thread nD τ).loc main_arg0)) (m ((c : Thread nD τ).loc main_arg1)) (m ((c : Thread nD τ).loc main_arg2)) := by
  refine (dats m 0 c).arrAt_eq_of_covers 5 _ (by decide +kernel) fun t hf y => ?_
  unfold gatedArr
  blk_simp
  rw [after0_5]
  obtain ⟨i0, i2, i3, i4, i5, i6, i7, i1⟩ := idx t
  have ht : t.val < 8 := t.isLt.trans_eq N_0
  refine (congrArg (outsAt0 m c t).1 (eq_ix2 (n0 := 2048) (n1 := 512) y)).trans ((point5 m c t (y 0) (y 1) (⟨t.val / 4, by omega⟩ : Fin 2) (⟨t.val % 4, by omega⟩ : Fin 4) rfl rfl).trans
    (parts_eq (gatedV (m ((c : Thread nD τ).loc main_arg0)) (m ((c : Thread nD τ).loc main_arg1)) (m ((c : Thread nD τ).loc main_arg2))) _ _ _ _ _ _ ?_ ?_ _ _ _))
  · rw [i5]; rfl
  · rw [i5]; rfl

end Cert.PoolForwardIdeal.Hand
-- ==== Proof.PoolForward.Ref.lean ====
module

public import proofs.«01_k».proof.Proof.Gen.PoolForwardRefIdeal.Read
public import proofs.«01_k».proof.Proof.PoolForward.Blocks
public import proofs.«01_k».proof.Proof.WindowSum
public import proofs.«01_k».proof.Proof.Finite

/-! The pooling's forward lines as jax computes them, read where the pooled columns are finite. -/

@[expose] public section

set_option maxRecDepth 16384

noncomputable section

namespace Cert.PoolForwardRefIdeal.Hand

open Cert.PoolForwardRefIdeal Cert.PoolForwardRefIdeal.Gen Cert.PoolForwardRefIdeal.Read Idealize.ShloMosaic Idealize.ShloMosaic.TcCoe Idealize.SL.Sem
open Cert.Finite (sigm div_coe)
open Cert.PoolGradIdeal.Hand (rowsIn)
open Cert.PoolGradRefIdeal.Hand (rowsIn0 rowsIn1 rowsIn2 rowsIn3)
open Cert.PoolForwardIdeal.Hand

/-- The sums by doubling are the sums over the windows. -/
theorem trailing_coe (g : ℕ) (hg : g < 4) (C : ℕ → EReal) (c : ℕ → ℝ) (h : ∀ q, C q = ((c q : ℝ) : EReal)) (p : ℕ) :
    trailing g C p = ((∑ k ∈ Finset.range (2 ^ (g + 1)), c (p - k) : ℝ) : EReal) := by
  obtain rfl : C = fun q => ((c q : ℝ) : EReal) := funext h
  have add : ∀ x y : ℝ, (x : EReal) + (y : EReal) = ((x + y : ℝ) : EReal) := fun x y => (EReal.coe_add x y).symm
  unfold trailing
  interval_cases g
  · rw [if_pos rfl]
    simp only [two, add]
    refine congrArg _ ?_
    simp [Finset.sum_range_succ]
  · rw [if_neg (by decide), if_pos rfl]
    simp only [two, four, add]
    refine congrArg _ ?_
    simp [Finset.sum_range_succ, add_assoc, Nat.sub_sub]
  · rw [if_neg (by decide), if_neg (by decide), if_pos rfl]
    simp only [two, four, eight, add]
    refine congrArg _ ?_
    simp [Finset.sum_range_succ, add_assoc, Nat.sub_sub]
  · rw [if_neg (by decide), if_neg (by decide), if_neg (by decide)]
    simp only [two, four, eight, sixteen, add]
    refine congrArg _ ?_
    simp [Finset.sum_range_succ, add_assoc, Nat.sub_sub]

/-- The last terms of a sum, backwards, are the difference of two sums from the start. -/
theorem last_terms (c : ℕ → ℝ) (n W : ℕ) (h : W ≤ n + 1) :
    (∑ k ∈ Finset.range W, c (n - k)) = (∑ q ∈ Finset.range (n + 1), c q) - ∑ q ∈ Finset.range (n + 1 - W), c q := by
  induction W with
  | zero => simp
  | succ W ih =>
    rw [Finset.sum_range_succ, ih (by omega), show n + 1 - W = (n - W) + 1 by omega, show n + 1 - (W + 1) = n - W by omega, Finset.sum_range_succ c (n - W)]
    ring

/-- Sixteen zeros before a sum do not count. -/
theorem sum_padded (f : ℕ → ℝ) (n : ℕ) : (∑ q ∈ Finset.range (16 + n), if q < 16 then 0 else f (q - 16)) = ∑ q ∈ Finset.range n, f q := by
  rw [Finset.sum_range_add]
  have z : (∑ q ∈ Finset.range 16, if q < 16 then 0 else f (q - 16)) = 0 := Finset.sum_eq_zero fun q hq => if_pos (Finset.mem_range.mp hq)
  rw [z, zero_add]
  refine Finset.sum_congr rfl fun q _ => ?_
  rw [if_neg (by omega), Nat.add_sub_cancel_left]

/-- The difference of the two running sums is the window's sum. -/
theorem window_eq (g : ℕ) (hg : g < 4) (W : ℕ) (hW : W = 2 ^ (g + 1)) (hW' : W ≤ 16) (C : ℕ → EReal) (f : ℕ → ℝ) (hC : ∀ q, C q = ((f q : ℝ) : EReal)) (p : ℕ) (A B : EReal)
    (hA : A = ((∑ q ∈ Finset.range (p + 1), f q : ℝ) : EReal)) (hB : B = if p < W then 0 else ((∑ q ∈ Finset.range (p - W + 1), f q : ℝ) : EReal)) :
    A - B = trailing g (padded C) (16 + p) := by
  have P : ∀ q, padded C q = (((if q < 16 then 0 else f (q - 16) : ℝ)) : EReal) := fun q => by
    unfold padded
    by_cases h : q < 16
    · rw [if_pos h, if_pos h, EReal.coe_zero]
    · rw [if_neg h, if_neg h, hC]
  rw [trailing_coe g hg _ _ P, ← hW, last_terms (fun q => if q < 16 then 0 else f (q - 16)) (16 + p) W (by omega), show 16 + p + 1 = 16 + (p + 1) by omega, sum_padded, hA, hB]
  by_cases h : p < W
  · rw [if_pos h]
    have z : (∑ q ∈ Finset.range (16 + (p + 1) - W), if q < 16 then (0 : ℝ) else f (q - 16)) = 0 :=
      Finset.sum_eq_zero fun q hq => if_pos (by have := Finset.mem_range.mp hq; omega)
    rw [z, sub_zero, sub_zero]
  · rw [if_neg h, show 16 + (p + 1) - W = 16 + (p - W + 1) by omega, sum_padded, EReal.coe_sub]

variable (x : FVec Ideal S4096x4096 .bf16) (w : FVec Ideal S4x512x512 .f32) (s : FVec Ideal S1x2048 .f32)

/-- A group's pooled row: the difference of running sums over the number of rows, less the row. -/
theorem mean_eq (b : Fin 2) (g : Fin 4) (e : Fin 512) (W : ℕ) (hW : W = 2 ^ (g.val + 1)) (hW' : W ≤ 16) (f : ℕ → ℝ) (hf : ∀ q, col x b g e q = ((f q : ℝ) : EReal))
    (S : Fin 2048 → EReal) (hS : ∀ q, S q = ((∑ k ∈ Finset.range (q.val + 1), f k : ℝ) : EReal)) (z : EReal) (hz : z = 0) (p : Fin 2048) (n : BitVec 32)
    (hn : n.toInt = ((min (p.val + 1) (2 ^ (g.val + 1)) : ℕ) : ℤ)) (u : EReal) (hu : u = col x b g e p.val) :
    Ideal.div (S p - if h : p.val < W then z else S ⟨p.val - W, by omega⟩) (FloatOps.sitofp (F := Ideal) FTy.f32 n) - u = pooledV x b g e p.val := by
  have N : (FloatOps.sitofp (F := Ideal) FTy.f32 n : EReal) = ((rowsIn g.val p.val : ℝ) : EReal) := by
    show ((n.toInt : ℝ) : EReal) = _
    rw [hn, rowsIn]
    norm_cast
  unfold pooledV
  rw [hu, N, ← window_eq g.val g.isLt W hW hW' _ f hf p.val _ (if h : p.val < W then z else S ⟨p.val - W, by omega⟩) (hS p) ?_]
  by_cases h : p.val < W
  · rw [dif_pos h, if_pos h, hz]
  · rw [dif_neg h, if_neg h, hS]

theorem column0 (b : Fin 2) (q : Fin 2048) (e : Fin 512) : (val_main_v6 (F := Ideal) x (ix3 b q e) : EReal) = col x b 0 e q.val := by
  rw [col, dif_pos q.isLt]
  pointwise [val_main_v6, val_main_v5, val_main_v4, val_main_v2, val_main_v1, val_main_v0]

/-- The pooled rows of the windows of 2 rows. -/
theorem group0 (b : Fin 2) (e : Fin 512) (f : ℕ → ℝ) (hf : ∀ q, col x b 0 e q = ((f q : ℝ) : EReal)) (p : Fin 2048) :
    (val_main_v22 (F := Ideal) x (ix3 b p e) : EReal) = pooledV x b 0 e p.val := by
  have S : ∀ q : Fin 2048, (val_main_v7 (F := Ideal) x (ix3 b q e) : EReal) = ((∑ k ∈ Finset.range (q.val + 1), f k : ℝ) : EReal) := fun q =>
    Cert.WindowSum.prefix3 (by rfl) _ _ _ _ Ideal.ofBits_zero_f32 b q e f fun r => (column0 x b r e).trans (hf _)
  pointwise [val_main_v22, val_main_v21, val_main_v20, val_main_v19, val_main_v18, val_main_v17, val_main_v16, val_main_v15, val_main_v14, val_main_v13, val_main_v12, val_main_v11, val_main_v10, val_main_v9, val_main_c, val_main_c_0]
  exact mean_eq x b 0 e 2 rfl (by decide) f hf (fun q => val_main_v7 (F := Ideal) x (ix3 b q e)) S _ Ideal.ofBits_zero_f32 p _ (rowsIn0 p) _ (column0 x b p e)

theorem placed0 (b : Fin 2) (p : Fin 2048) (e : Fin 512) : (val_main_v81 (F := Ideal) x (ix4 b p 0 e) : EReal) = val_main_v22 (F := Ideal) x (ix3 b p e) := by
  pointwise [val_main_v81, val_main_v77, val_main_v78, val_main_v79, val_main_v80]

theorem column1 (b : Fin 2) (q : Fin 2048) (e : Fin 512) : (val_main_v24 (F := Ideal) x (ix3 b q e) : EReal) = col x b 1 e q.val := by
  rw [col, dif_pos q.isLt]
  pointwise [val_main_v24, val_main_v23, val_main_v4, val_main_v2, val_main_v1, val_main_v0]

/-- The pooled rows of the windows of 4 rows. -/
theorem group1 (b : Fin 2) (e : Fin 512) (f : ℕ → ℝ) (hf : ∀ q, col x b 1 e q = ((f q : ℝ) : EReal)) (p : Fin 2048) :
    (val_main_v40 (F := Ideal) x (ix3 b p e) : EReal) = pooledV x b 1 e p.val := by
  have S : ∀ q : Fin 2048, (val_main_v25 (F := Ideal) x (ix3 b q e) : EReal) = ((∑ k ∈ Finset.range (q.val + 1), f k : ℝ) : EReal) := fun q =>
    Cert.WindowSum.prefix3 (by rfl) _ _ _ _ Ideal.ofBits_zero_f32 b q e f fun r => (column1 x b r e).trans (hf _)
  pointwise [val_main_v40, val_main_v39, val_main_v38, val_main_v37, val_main_v36, val_main_v35, val_main_v34, val_main_v33, val_main_v32, val_main_v31, val_main_v30, val_main_v29, val_main_v28, val_main_v27, val_main_c_2, val_main_c_3]
  exact mean_eq x b 1 e 4 rfl (by decide) f hf (fun q => val_main_v25 (F := Ideal) x (ix3 b q e)) S _ Ideal.ofBits_zero_f32 p _ (rowsIn1 p) _ (column1 x b p e)

theorem placed1 (b : Fin 2) (p : Fin 2048) (e : Fin 512) : (val_main_v81 (F := Ideal) x (ix4 b p 1 e) : EReal) = val_main_v40 (F := Ideal) x (ix3 b p e) := by
  pointwise [val_main_v81, val_main_v77, val_main_v78, val_main_v79, val_main_v80]

theorem column2 (b : Fin 2) (q : Fin 2048) (e : Fin 512) : (val_main_v42 (F := Ideal) x (ix3 b q e) : EReal) = col x b 2 e q.val := by
  rw [col, dif_pos q.isLt]
  pointwise [val_main_v42, val_main_v41, val_main_v4, val_main_v2, val_main_v1, val_main_v0]

/-- The pooled rows of the windows of 8 rows. -/
theorem group2 (b : Fin 2) (e : Fin 512) (f : ℕ → ℝ) (hf : ∀ q, col x b 2 e q = ((f q : ℝ) : EReal)) (p : Fin 2048) :
    (val_main_v58 (F := Ideal) x (ix3 b p e) : EReal) = pooledV x b 2 e p.val := by
  have S : ∀ q : Fin 2048, (val_main_v43 (F := Ideal) x (ix3 b q e) : EReal) = ((∑ k ∈ Finset.range (q.val + 1), f k : ℝ) : EReal) := fun q =>
    Cert.WindowSum.prefix3 (by rfl) _ _ _ _ Ideal.ofBits_zero_f32 b q e f fun r => (column2 x b r e).trans (hf _)
  pointwise [val_main_v58, val_main_v57, val_main_v56, val_main_v55, val_main_v54, val_main_v53, val_main_v52, val_main_v51, val_main_v50, val_main_v49, val_main_v48, val_main_v47, val_main_v46, val_main_v45, val_main_c_5, val_main_c_6]
  exact mean_eq x b 2 e 8 rfl (by decide) f hf (fun q => val_main_v43 (F := Ideal) x (ix3 b q e)) S _ Ideal.ofBits_zero_f32 p _ (rowsIn2 p) _ (column2 x b p e)

theorem placed2 (b : Fin 2) (p : Fin 2048) (e : Fin 512) : (val_main_v81 (F := Ideal) x (ix4 b p 2 e) : EReal) = val_main_v58 (F := Ideal) x (ix3 b p e) := by
  pointwise [val_main_v81, val_main_v77, val_main_v78, val_main_v79, val_main_v80]

theorem column3 (b : Fin 2) (q : Fin 2048) (e : Fin 512) : (val_main_v60 (F := Ideal) x (ix3 b q e) : EReal) = col x b 3 e q.val := by
  rw [col, dif_pos q.isLt]
  pointwise [val_main_v60, val_main_v59, val_main_v4, val_main_v2, val_main_v1, val_main_v0]

/-- The pooled rows of the windows of 16 rows. -/
theorem group3 (b : Fin 2) (e : Fin 512) (f : ℕ → ℝ) (hf : ∀ q, col x b 3 e q = ((f q : ℝ) : EReal)) (p : Fin 2048) :
    (val_main_v76 (F := Ideal) x (ix3 b p e) : EReal) = pooledV x b 3 e p.val := by
  have S : ∀ q : Fin 2048, (val_main_v61 (F := Ideal) x (ix3 b q e) : EReal) = ((∑ k ∈ Finset.range (q.val + 1), f k : ℝ) : EReal) := fun q =>
    Cert.WindowSum.prefix3 (by rfl) _ _ _ _ Ideal.ofBits_zero_f32 b q e f fun r => (column3 x b r e).trans (hf _)
  pointwise [val_main_v76, val_main_v75, val_main_v74, val_main_v73, val_main_v72, val_main_v71, val_main_v70, val_main_v69, val_main_v68, val_main_v67, val_main_v66, val_main_v65, val_main_v64, val_main_v63, val_main_c_8, val_main_c_9]
  exact mean_eq x b 3 e 16 rfl (by decide) f hf (fun q => val_main_v61 (F := Ideal) x (ix3 b q e)) S _ Ideal.ofBits_zero_f32 p _ (rowsIn3 p) _ (column3 x b p e)

theorem placed3 (b : Fin 2) (p : Fin 2048) (e : Fin 512) : (val_main_v81 (F := Ideal) x (ix4 b p 3 e) : EReal) = val_main_v76 (F := Ideal) x (ix3 b p e) := by
  pointwise [val_main_v81, val_main_v77, val_main_v78, val_main_v79, val_main_v80]

/-- The pooled half of the projection is finite. -/
def Finite : Prop := ∀ (r : Fin 4096) (n : Fin 2048), ∃ v : ℝ, x (ix2 r (⟨n.val, by omega⟩ : Fin 4096)) = (v : EReal)

variable {x} in
theorem col_real (hx : Finite x) (b : Fin 2) (g : Fin 4) (e : Fin 512) : ∃ f : ℕ → ℝ, ∀ q, col x b g e q = ((f q : ℝ) : EReal) := by
  have h : ∀ q, ∃ r : ℝ, col x b g e q = (r : EReal) := fun q => by
    unfold col
    by_cases h : q < 2048
    · rw [dif_pos h]
      exact hx ⟨b.val * 2048 + q, by omega⟩ ⟨g.val * 512 + e.val, by omega⟩
    · rw [dif_neg h]
      exact ⟨0, EReal.coe_zero.symm⟩
  exact ⟨fun q => (h q).choose, fun q => (h q).choose_spec⟩

variable {x} in
theorem grouped (hx : Finite x) (b : Fin 2) (p : Fin 2048) (g : Fin 4) (e : Fin 512) : (val_main_v81 (F := Ideal) x (ix4 b p g e) : EReal) = pooledV x b g e p.val := by
  obtain ⟨f, hf⟩ := col_real hx b g e
  revert f
  refine Fin.cases ?_ (fun g => Fin.cases ?_ (fun g => Fin.cases ?_ (fun g => ?_) g) g) g
  · exact fun f hf => (placed0 x b p e).trans (group0 x b e f hf p)
  · exact fun f hf => (placed1 x b p e).trans (group1 x b e f hf p)
  · exact fun f hf => (placed2 x b p e).trans (group2 x b e f hf p)
  · obtain rfl : g = 0 := Subsingleton.elim (α := Fin 1) _ _
    exact fun f hf => (placed3 x b p e).trans (group3 x b e f hf p)

variable {x} in
theorem ref_pooled (hx : Finite x) (i : S4096x2048.Idx) : (val_main_v93 (F := Ideal) x i : EReal) = pooledArr x i := by
  have h0 : (i 0).val < 4096 := (i 0).isLt
  have h1 : (i 1).val < 2048 := (i 1).isLt
  refine Eq.trans ?_ (grouped hx (⟨(i 0).val / 2048, by omega⟩ : Fin 2) (⟨(i 0).val % 2048, by omega⟩ : Fin 2048) (⟨(i 1).val / 512, by omega⟩ : Fin 4) (⟨(i 1).val % 512, by omega⟩ : Fin 512))
  pointwise [val_main_v93, val_main_v92]

variable {x} in
theorem product (hx : Finite x) (b : Fin 2) (p : Fin 2048) (g : Fin 4) (e : Fin 512) : (val_main_v83 (F := Ideal) x w (ix4 b p g e) : EReal) = mixedV x w b g e p.val := by
  unfold mixedV
  pointwise [val_main_v83, val_main_v82]
  refine Finset.sum_congr rfl fun k _ => ?_
  rw [grouped hx b p g k]
  exact mul_comm _ _

variable {x} in
theorem ref_mixed (hx : Finite x) (i : S4096x2048.Idx) : (val_main_v95 (F := Ideal) x w i : EReal) = mixedArr x w i := by
  have h0 : (i 0).val < 4096 := (i 0).isLt
  have h1 : (i 1).val < 2048 := (i 1).isLt
  refine Eq.trans ?_ (product w hx (⟨(i 0).val / 2048, by omega⟩ : Fin 2) (⟨(i 0).val % 2048, by omega⟩ : Fin 2048) (⟨(i 1).val / 512, by omega⟩ : Fin 4) (⟨(i 1).val % 512, by omega⟩ : Fin 512))
  pointwise [val_main_v95, val_main_v94, val_main_v84]

variable {x} in
theorem ref_gated (hx : Finite x) (i : S4096x2048.Idx) : (val_main_v91 (F := Ideal) x w s i : EReal) = gatedArr x w s i := by
  have h0 : (i 0).val < 4096 := (i 0).isLt
  have h1 : (i 1).val < 2048 := (i 1).isLt
  have M := product w hx (⟨(i 0).val / 2048, by omega⟩ : Fin 2) (⟨(i 0).val % 2048, by omega⟩ : Fin 2048) (⟨(i 1).val / 512, by omega⟩ : Fin 4) (⟨(i 1).val % 512, by omega⟩ : Fin 512)
  unfold gatedArr gatedV
  simp only [] at M
  rw [← M]
  unfold sigm
  pointwise [val_main_v91, val_main_v90, val_main_v89, val_main_v88, val_main_v87, val_main_v86, val_main_v85, val_main_v84, val_main_call4_v5, val_main_call4_v4, val_main_call4_v3,
    val_main_call4_v2, val_main_call4_v1, val_main_call4_v0, val_main_call4_cst, val_main_call4_cst_0, val_main_v3, val_main_v1, val_main_v0]
  simp only [Nat.div_add_mod', zero_sub]
  try rfl

end Cert.PoolForwardRefIdeal.Hand
-- ==== Proof.PoolForward.Claim.lean ====
module

public import proofs.«01_k».proof.Defs
public import proofs.«01_k».proof.Proof.Gen.PoolForward
public import proofs.«01_k».proof.Proof.Gen.Pre_pfwd_finite
public import proofs.«01_k».proof.Proof.PoolForward.Ref
public import proofs.«01_k».proof.Proof.PoolForward.Blocks
public import Idealize.ShloMosaic.Lib.Claim

/-! The pooling forward: the precondition read, the equation of the two programs, the frames. -/

@[expose] public section

set_option maxRecDepth 16384

noncomputable section

namespace Cert.PoolForwardIdeal.Hand

open Idealize.ShloMosaic Idealize.ShloMosaic.TcCoe
open Cert.Finite

/-- What the precondition says: the half of the projection that is pooled is of real numbers. -/
theorem real_of_pre [Cert.Pre_pfwd_finite.Facts] (x0 : FVec Ideal S4096x4096 .bf16) (x1 : FVec Ideal S4x512x512 .f32) (x2 : FVec Ideal S1x2048 .f32)
    (h : Cert.Pre_pfwd_finite.fn (F := Ideal) x0 x1 x2 = fun _ => 1#1) : Cert.PoolForwardRefIdeal.Hand.Finite x0 := fun r n => by
  have h' := congrFun h (Shape.Idx.first (by decide))
  unfold Cert.Pre_pfwd_finite.fn at h'
  obtain ⟨v, hv⟩ := real_of_olt _ (all_of_reduce _ _ _ _ _ rfl h' (ix2 r n))
  refine ⟨v, Eq.trans ?_ hv⟩
  pointwise []

/-- The kernel's results are the reference's. -/
theorem algebraic : Cert.algebraic_PoolForwardIdeal_PoolForwardRefIdeal_pre_pfwd_finite
    (hPoolForwardIdeal := Cert.PoolForwardIdeal.Gen.facts) (hPoolForwardRefIdeal := Cert.PoolForwardRefIdeal.Gen.facts)
    (hPre_pfwd_finite := Cert.Pre_pfwd_finite.Gen.facts) := by
  letI := Cert.Pre_pfwd_finite.Gen.facts
  intro m g m' g' hpre hagree
  refine ⟨_, _, _, ?_, θ_run_mono (Cert.PoolForwardRefIdeal.Value.run m' g') fun r h c => h c⟩
  refine θ_run_mono (Cert.PoolForwardIdeal.Value.run_blocks m g) fun r h c => ?_
  obtain ⟨e0, e1, e2, kept⟩ := h c
  obtain ⟨a0, a1, a2⟩ := hagree c
  have p := real_of_pre _ _ _ (hpre c)
  refine ⟨e0.trans (funext fun i => ?_), e1.trans (funext fun i => ?_), e2.trans (funext fun i => ?_), kept⟩
  · rw [Cert.PoolForwardRefIdeal.Read.val_main_v91_eq, a0, a1, a2]
    exact (congrFun (final5 m c) i).trans (Cert.PoolForwardRefIdeal.Hand.ref_gated _ _ p i).symm
  · rw [Cert.PoolForwardRefIdeal.Read.val_main_v93_eq, a0]
    exact (congrFun (final6 m c) i).trans (Cert.PoolForwardRefIdeal.Hand.ref_pooled p i).symm
  · rw [Cert.PoolForwardRefIdeal.Read.val_main_v95_eq, a0, a1]
    exact (congrFun (final7 m c) i).trans (Cert.PoolForwardRefIdeal.Hand.ref_mixed _ p i).symm

/-- The program as compiled and its ideal reading have one body table: their texts agree. -/
theorem defs_eq : Cert.PoolForward.defs (F := Bits) = Cert.PoolForwardIdeal.defs (F := Bits) := by sl_kernel_rfl

/-- The frame of the program as compiled is the ideal program's run, at the bit patterns. -/
theorem frame_kernel : Cert.quiescent_PoolForward (hPoolForward := Cert.PoolForward.Gen.facts) := fun m ρ _ => by
  have h := Cert.PoolForwardIdeal.Gen.frame (F := Bits) m ρ
  rw [← defs_eq] at h
  exact h

/-- The reference's frame: host operations only, none of which writes an argument, and no semaphore. -/
theorem frame_reference : Cert.quiescent_PoolForwardRefIdeal (hPoolForwardRefIdeal := Cert.PoolForwardRefIdeal.Gen.facts) := fun m ρ _ =>
  θ_run_mono (Cert.PoolForwardRefIdeal.Value.run m ρ) fun r h => ⟨fun c => (h c).2.2.2, sem_eq_zero_of_no_sems (by decide) r.2⟩

end Cert.PoolForwardIdeal.Hand
-- ==== Proof.NormForward.Run.lean ====
/-
  One run of the body of a projection behind a norm: in the first slab of the projection's columns, which norms its block of rows and
  keeps it in the scratch, and in the later slabs, which read it there.
-/
module

public import proofs.«01_k».proof.Proof.Gen.NormForwardIdeal.Skeleton
public import proofs.«01_k».proof.Proof.Gen.NormForwardIdeal.Frame
public import proofs.«01_k».proof.Proof.Rows
public import Idealize.ShloMosaic.Lib.VecWindow

@[expose] public section

set_option maxRecDepth 16384
set_option maxHeartbeats 1000000

noncomputable section

namespace Cert.NormForwardIdeal.Hand

open Cert.NormForwardIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The scratch, and a block of its rows. -/
abbrev sc : Memref sig .tc .vmem S4096x1024 .bf16 := Memref.whole cc0_scratch0
theorem hR : 4 * 1024 ≤ 4096 := by decide
abbrev rows (b : Fin 4) (g : S4096x1024.Idx → Elt F .bf16) : Vec F S1024x1024 .bf16 := Rows.rows hR b g
abbrev put (b : Fin 4) (g : S4096x1024.Idx → Elt F .bf16) (x : Vec F S1024x1024 .bf16) : S4096x1024.Idx → Elt F .bf16 := Rows.put b g x

variable (c : Dev nD) (i : grid0.Coords) (b : Fin 4)
  (arg2 : Memref sig .tc .vmem S1024x1024 .f32) (harg2 : arg2.IsWhole) (arg3 : Memref sig .tc .vmem S1x1024 .f32) (harg3 : arg3.IsWhole)
  (arg4 : Memref sig .tc .vmem S1x1024x1536 .bf16) (harg4 : arg4.IsWhole) (arg5 : Memref sig .tc .vmem S1024x1536 .bf16) (harg5 : arg5.IsWhole)
  (arg6 : Memref sig .tc .vmem S1024x1024 .bf16) (harg6 : arg6.IsWhole)
  (x0 : Vec F S1024x1024 .f32) (x1 : Vec F S1x1024 .f32) (x2 : Vec F S1x1024x1536 .bf16)
  (y3 : Vec F S1024x1536 .bf16) (y4 : Vec F S1024x1024 .bf16) (g : S4096x1024.Idx → Elt F .bf16)

/-- The five staging buffers and the scratch at given contents. -/
abbrev Held (y3 : Vec F S1024x1536 .bf16) (y4 : Vec F S1024x1024 .bf16) (g : S4096x1024.Idx → Elt F .bf16) : sProp 𝕄 :=
  iprop(owns c arg2 fullShare x0 ∗ owns c arg3 fullShare x1 ∗ owns c arg4 fullShare x2
    ∗ owns c arg5 fullShare y3 ∗ owns c arg6 fullShare y4 ∗ owns c sc fullShare g)

/-- A point of a later slab. -/
theorem run_later (h2 : k0_off2 i = ![1024 * b.val, 0]) (hc : ¬ k0_cond1 i = 1#1) (K : PUnit → sProp 𝕄) :
    iprop(Held c arg2 arg3 arg4 arg5 arg6 x0 x1 x2 y3 y4 g
        ∗ (Held c arg2 arg3 arg4 arg5 arg6 x0 x1 x2 (k0_pay3 (rows b g) x2) y4 g -∗ K ⟨⟩))
      ⊢ wp frame (wpE (defs₀ (F := F)) Variants.none c none) Set.univ
          (cc0_sb_in_proj i arg2 harg2 arg3 harg3 arg4 harg4 arg5 harg5 arg6 harg6 sc (Memref.isWhole_whole _)) K := by
  simp only [cc0_sb_in_proj_eq_skeleton]; unfold cc0_sb_in_proj_skel
  unfold Held owns
  iintro ⟨⟨⟨%f0, %e0, H0⟩, ⟨%f1, %e1, H1⟩, ⟨%f2, %e2, H2⟩, ⟨%f3, %e3, H3⟩, ⟨%f4, %e4, H4⟩, ⟨%f5, %e5, H5⟩⟩, Hk⟩
  sl_exec (disch := first | sl_exact hc)
  sl_step
  iapply Hk
  isplitl [H0]
  · iexists _; isplitr; rotate_left; · iexact H0
    ipureintro; exact e0
  isplitl [H1]
  · iexists _; isplitr; rotate_left; · iexact H1
    ipureintro; exact e1
  isplitl [H2]
  · iexists _; isplitr; rotate_left; · iexact H2
    ipureintro; exact e2
  isplitl [H3]
  · iexists _; isplitr; rotate_left; · iexact H3
    ipureintro
    exact (View.read_writes_full _ _ _ _ _).trans (congr (congrArg k0_pay3 ((Rows.load hR _ _ b _ h2).trans (congrArg (rows b) e5))) ((View.readAt_full _ _ _).trans e2))
  isplitl [H4]
  · iexists _; isplitr; rotate_left; · iexact H4
    ipureintro; exact e4
  iexists _; isplitr; rotate_left; · iexact H5
  ipureintro; exact e5

/-- A point of the first slab. -/
theorem run_first (h1 : k0_off1 i = ![1024 * b.val, 0]) (h2 : k0_off2 i = ![1024 * b.val, 0]) (hc : k0_cond1 i = 1#1) (K : PUnit → sProp 𝕄) :
    iprop(Held c arg2 arg3 arg4 arg5 arg6 x0 x1 x2 y3 y4 g
        ∗ (Held c arg2 arg3 arg4 arg5 arg6 x0 x1 x2 (k0_pay3 (k0_pay2 x0 x1) x2) (k0_pay1 x0 x1) (put b g (k0_pay2 x0 x1)) -∗ K ⟨⟩))
      ⊢ wp frame (wpE (defs₀ (F := F)) Variants.none c none) Set.univ
          (cc0_sb_in_proj i arg2 harg2 arg3 harg3 arg4 harg4 arg5 harg5 arg6 harg6 sc (Memref.isWhole_whole _)) K := by
  simp only [cc0_sb_in_proj_eq_skeleton]; unfold cc0_sb_in_proj_skel
  unfold Held owns
  iintro ⟨⟨⟨%f0, %e0, H0⟩, ⟨%f1, %e1, H1⟩, ⟨%f2, %e2, H2⟩, ⟨%f3, %e3, H3⟩, ⟨%f4, %e4, H4⟩, ⟨%f5, %e5, H5⟩⟩, Hk⟩
  sl_exec (disch := first | sl_exact hc)
  sl_step
  iapply Hk
  isplitl [H0]
  · iexists _; isplitr; rotate_left; · iexact H0
    ipureintro; exact e0
  isplitl [H1]
  · iexists _; isplitr; rotate_left; · iexact H1
    ipureintro; exact e1
  isplitl [H2]
  · iexists _; isplitr; rotate_left; · iexact H2
    ipureintro; exact e2
  isplitl [H3]
  · iexists _; isplitr; rotate_left; · iexact H3
    ipureintro
    refine (View.read_writes_full _ _ _ _ _).trans (congr (congrArg k0_pay3 ?_) ((View.readAt_full _ _ _).trans e2))
    unfold run_first.sl.v6
    refine (Rows.cov hR _ b _ _ h1 h2 _ _).trans ?_
    exact congr (congrArg k0_pay2 ((View.readAt_full _ _ _).trans e0)) ((View.readAt_full _ _ _).trans e1)
  isplitl [H4]
  · iexists _; isplitr; rotate_left; · iexact H4
    ipureintro
    exact (View.read_writes_full _ _ _ _ _).trans (congr (congrArg k0_pay1 ((View.readAt_full _ _ _).trans e0)) ((View.readAt_full _ _ _).trans e1))
  iexists _; isplitr; rotate_left; · iexact H5
  ipureintro
  exact (Rows.store _ _ b _ h1 _).trans (congr (congrArg (put b) e5) (congr (congrArg k0_pay2 ((View.readAt_full _ _ _).trans e0)) ((View.readAt_full _ _ _).trans e1)))

end Cert.NormForwardIdeal.Hand

end
-- ==== Proof.NormForward.Frame.lean ====
/-
  The frame of a projection behind a norm, over any numbers. The grid is four slabs of the projection's columns by four blocks of rows,
  slab after slab. The scratch keeps the normed rows from the first slab on; their own buffer keeps the last block until the end.
-/
module

public import proofs.«01_k».proof.Proof.NormForward.Run

@[expose] public section

set_option maxRecDepth 16384
set_option maxHeartbeats 1000000

noncomputable section

namespace Cert.NormForwardIdeal.Hand

open Cert.NormForwardIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points -/

/-- Point `n`. -/
def pt (n : ℕ) : Fin cfg0.N := ⟨n % 16, Nat.lt_of_lt_of_eq (Nat.mod_lt _ (by decide)) N_0.symm⟩

theorem pt_val (t : Fin cfg0.N) : pt t.val = t := Fin.ext (Nat.mod_eq_of_lt (Nat.lt_of_lt_of_eq t.isLt N_0))

/-- Point `n`'s block of rows. -/
def blk (n : ℕ) : Fin 4 := ⟨n % 4, Nat.mod_lt _ (by decide)⟩

theorem conds : ∀ t : Fin cfg0.N, k0_cond1 (grid0.coords t) = 1#1 ↔ t.val < 4 :=
  (by decide +kernel : ∀ t : Fin grid0.N, _)

theorem offs : ∀ t : Fin cfg0.N, k0_off1 (grid0.coords t) = ![1024 * (blk t.val).val, 0] ∧ k0_off2 (grid0.coords t) = ![1024 * (blk t.val).val, 0] :=
  (by decide +kernel : ∀ t : Fin grid0.N, _)

theorem flushes : ∀ t : Fin cfg0.N, (cfg0.win 4).flush t = decide (t.val < 3 ∨ t.val = 15) :=
  (by decide +kernel : ∀ t : Fin grid0.N, win0_4.flush t = decide (t.val < 3 ∨ t.val = 15))

theorem idles : ∀ t : Fin cfg0.N, cfg0.idle 4 (cfg0.grid.coords t) = decide (4 ≤ t.val) :=
  (by decide +kernel : ∀ t : Fin grid0.N, idle0 4 (grid0.coords t) = decide (4 ≤ t.val))

/-! ## What the points compute -/

/-- Input window contents at point `t`. -/
abbrev B0 (c : Dev nD) (t : Fin cfg0.N) : Vec F S1024x1024 .f32 := iblk m c 0 t
abbrev B1 (c : Dev nD) (t : Fin cfg0.N) : Vec F S1x1024 .f32 := iblk m c 1 t
abbrev B2 (c : Dev nD) (t : Fin cfg0.N) : Vec F S1x1024x1536 .bf16 := iblk m c 2 t

/-- The normed rows' own buffer after point `n`. -/
def last (c : Dev nD) (n : ℕ) : Vec F S1024x1024 .bf16 := k0_pay1 (B0 m c (pt (min n 3))) (B1 m c (pt (min n 3)))

/-- Row block `b` normed, as the scratch has it. -/
def normed (c : Dev nD) (b : Fin 4) : Vec F S1024x1024 .bf16 := k0_pay2 (B0 m c (pt b.val)) (B1 m c (pt b.val))

/-- What the scratch holds before point `n`: the row blocks of the points so far. -/
def Ok (c : Dev nD) (n : ℕ) (g : S4096x1024.Idx → Elt F .bf16) : Prop := ∀ b : Fin 4, b.val < n → rows b g = normed m c b

theorem first_pt (t : Fin cfg0.N) (h : t.val < 4) : pt (blk t.val).val = t := by
  rw [show (blk t.val).val = t.val from Nat.mod_eq_of_lt h]; exact pt_val t

theorem ok_first (c : Dev nD) (t : Fin cfg0.N) (ht : t.val < 4) (g : S4096x1024.Idx → Elt F .bf16) (h : Ok m c t.val g) :
    Ok m c (t.val + 1) (put (blk t.val) g (k0_pay2 (B0 m c t) (B1 m c t))) := by
  intro b hb
  have e : (blk t.val).val = t.val := Nat.mod_eq_of_lt ht
  by_cases he : b = blk t.val
  · subst he
    refine (Rows.rows_put_same hR _ _ _).trans ?_
    unfold normed; rw [first_pt t ht]
  · exact (Rows.rows_put_other hR he _ _).trans (h b (by have := fun h => he (Fin.ext h); omega))

theorem ok_later (c : Dev nD) (t : Fin cfg0.N) (ht : 4 ≤ t.val) (g : S4096x1024.Idx → Elt F .bf16) (h : Ok m c t.val g) : Ok m c (t.val + 1) g :=
  fun b _ => h b (by omega)

/-! ## The proof's data -/

/-- Before point `n`: the scratch, and the register of the random numbers. -/
def inv (c : Dev nD) (n : ℕ) : sProp 𝕄 :=
  iprop((∃ g, ⌜Ok m c n g⌝ ∗ owns c sc fullShare g) ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay3 (normed m c (blk t.val)) (B2 m c t)
    | ⟨4, _⟩ => last m c t.val
  Φ n := inv m c n.val
  q _ := fullShare
  owed _ := 0

theorem A_eq (c : Dev nD) (w : Fin cfg0.W) : (dats m 0 c).A w = V m c (Pipeline.arrRef spec0 w) := by dsimp only [dats]
theorem before0 (c : Dev nD) (t : Fin cfg0.N) (d) : (dats m 0 c).before 0 t d = iblk m c 0 t := before0_0_of m _ (A_eq m c 0) (fun t => by dsimp only [dats]) t d
theorem before1 (c : Dev nD) (t : Fin cfg0.N) (d) : (dats m 0 c).before 1 t d = iblk m c 1 t := before0_1_of m _ (A_eq m c 1) (fun t => by dsimp only [dats]) t d
theorem before2 (c : Dev nD) (t : Fin cfg0.N) (d) : (dats m 0 c).before 2 t d = iblk m c 2 t := before0_2_of m _ (A_eq m c 2) (fun t => by dsimp only [dats]) t d
theorem after3 (c : Dev nD) (t : Fin cfg0.N) : (dats m 0 c).after 3 t = k0_pay3 (normed m c (blk t.val)) (B2 m c t) := by dsimp only [dats]
theorem after4 (c : Dev nD) (t : Fin cfg0.N) : (dats m 0 c).after 4 t = last m c t.val := by dsimp only [dats]

theorem last_later (c : Dev nD) (n : ℕ) (h : 3 ≤ n) : last m c n = last m c 3 := by unfold last; rw [Nat.min_eq_right h]; rfl

/-- The normed rows' buffer as a point of a later slab finds it. -/
theorem before4 (c : Dev nD) : ∀ (n : ℕ) (h : n + 4 < cfg0.N) (d), (dats m 0 c).before 4 ⟨n + 4, h⟩ d = last m c 3 := by
  intro n
  have hN : cfg0.N = 16 := N_0
  induction n with
  | zero =>
    intro h d
    rw [(dats m 0 c).before_of_pos 4 ⟨0 + 4, h⟩ (Nat.succ_ne_zero _) rfl d, if_neg (by rw [flushes]; exact of_decide_eq_false rfl)]
    unfold Dat.left
    rw [idles]
    show (dats m 0 c).kept 4 _ d = _
    unfold Dat.kept
    rw [Pipeline.fill_of_clip_none _ _ (fun _ => rfl) d ((dats m 0 c).after 4 _), Window.fill_cut, after4]
    rfl
  | succ n ih =>
    intro h d
    rw [(dats m 0 c).before_of_pos 4 ⟨n + 1 + 4, h⟩ (Nat.succ_ne_zero _) rfl d, if_neg (by rw [flushes]; simp only [decide_eq_true_eq]; omega)]
    unfold Dat.left
    rw [idles, show decide (4 ≤ (⟨n + 1 + 4 - 1, Nat.lt_of_le_of_lt (Nat.sub_le _ _) h⟩ : Fin cfg0.N).val) = true from decide_eq_true (by show 4 ≤ n + 1 + 4 - 1; omega)]
    exact ih (by omega) d

/-- What a point leaves in an output's buffer. -/
theorem leaves_live (c : Dev nD) (w : Fin cfg0.W) (t : Fin cfg0.N) (h : cfg0.idle w (cfg0.grid.coords t) = false) :
    (dats m 0 c).leavesExact w t = owns c ((cfg0.win w).stage (cfg0.slots t w)) fullShare ((dats m 0 c).after w t) := by
  unfold Dat.leavesExact; rw [h]

theorem leaves4 (c : Dev nD) (t : Fin cfg0.N) (h : 4 ≤ t.val) (d) :
    owns c (st0_4 t) fullShare ((dats m 0 c).before 4 t d) ⊢ (dats m 0 c).leavesExact 4 t := by
  have hi : cfg0.idle 4 (cfg0.grid.coords t) = true := (idles t).trans (decide_eq_true h)
  by_cases hf : (cfg0.win 4).flush t = true
  · have e : (dats m 0 c).before 4 t d = (dats m 0 c).after 4 t := by
      rw [after4, last_later m c _ (by omega)]
      obtain ⟨n, hn⟩ := t
      obtain ⟨n, rfl⟩ : ∃ n', n = n' + 4 := ⟨n - 4, by simp only [] at h; omega⟩
      exact before4 m c n hn d
    rw [e]; unfold Dat.leavesExact; rw [hi, hf]
  · rw [(dats m 0 c).leavesExact_idle 4 t hi (by simpa using hf)]
    iintro H; iexists d; iexact H

/-! ## The body's obligation -/

def bodyPre (c : Dev nD) (t : Fin cfg0.N) : sProp 𝕄 :=
  iprop((dats m 0 c).Φ t.castSucc ∗ (dats m 0 c).owesAt () t.castSucc
    ∗ (∃ d, owns c (st0_0 t) fullShare ((dats m 0 c).before 0 t d))
    ∗ (∃ d, owns c (st0_1 t) fullShare ((dats m 0 c).before 1 t d))
    ∗ (∃ d, owns c (st0_2 t) fullShare ((dats m 0 c).before 2 t d))
    ∗ (∃ d, owns c (st0_3 t) fullShare ((dats m 0 c).before 3 t d))
    ∗ (∃ d, owns c (st0_4 t) fullShare ((dats m 0 c).before 4 t d)))
def bodyPost (c : Dev nD) (t : Fin cfg0.N) : sProp 𝕄 :=
  iprop((dats m 0 c).Φ t.succ ∗ (dats m 0 c).owesAt () t.succ
    ∗ owns c (st0_0 t) fullShare ((dats m 0 c).after 0 t)
    ∗ owns c (st0_1 t) fullShare ((dats m 0 c).after 1 t)
    ∗ owns c (st0_2 t) fullShare ((dats m 0 c).after 2 t)
    ∗ owns c (st0_3 t) fullShare ((dats m 0 c).after 3 t)
    ∗ (dats m 0 c).leavesExact 4 t)

/-- The buffers and the scratch after a point, with the rest, are its post. -/
theorem post (c : Dev nD) (t : Fin cfg0.N) (y4 : Vec F S1024x1024 .bf16) (g : S4096x1024.Idx → Elt F .bf16) (hg : Ok m c (t.val + 1) g)
    (h4 : owns c (st0_4 t) fullShare y4 ⊢ (dats m 0 c).leavesExact 4 t) :
    iprop(Held c (st0_0 t) (st0_1 t) (st0_2 t) (st0_3 t) (st0_4 t) (B0 m c t) (B1 m c t) (B2 m c t) ((dats m 0 c).after 3 t) y4 g
      ∗ (∃ r, prngReg c r) ∗ (dats m 0 c).owesAt () t.castSucc) ⊢ bodyPost m c t := by
  unfold bodyPost
  rw [show (dats m 0 c).Φ t.succ = inv m c (t.val + 1) from rfl]
  unfold inv
  iintro ⟨⟨H0, H1, H2, H3, H4, HS⟩, Hp, HW⟩
  isplitl [HS Hp]
  · isplitl [HS]
    · iexists g; isplitr; · ipureintro; exact hg
      iexact HS
    iexact Hp
  iframe HW H0 H1 H2 H3
  iapply h4; iexact H4

theorem sound_body (c : Dev nD) (t : Fin cfg0.N) :
    bodyPre m c t ⊢ wp frame (wpE (defs₀ (F := F)) Variants.none c none) Set.univ (bodyAt0 t) (fun _ => bodyPost m c t) := by
  unfold bodyPre
  rw [show (dats m 0 c).Φ t.castSucc = inv m c t.val from rfl]
  unfold inv
  iintro ⟨⟨⟨%g, %hg, HS⟩, Hp⟩, HW, ⟨%d0, H0⟩, ⟨%d1, H1⟩, ⟨%d2, H2⟩, ⟨%d3, H3⟩, ⟨%d4, H4⟩⟩
  rw [before0, before1, before2]
  obtain ⟨o1, o2⟩ := offs t
  by_cases h : t.val < 4
  · have e3 : (dats m 0 c).after 3 t = k0_pay3 (k0_pay2 (B0 m c t) (B1 m c t)) (B2 m c t) := by rw [after3]; unfold normed; rw [first_pt t h]
    have e4 : (dats m 0 c).after 4 t = k0_pay1 (B0 m c t) (B1 m c t) := by rw [after4]; unfold last; rw [Nat.min_eq_left (by omega), pt_val]
    have hp := post m c t _ _ (ok_first m c t h g hg) (by rw [leaves_live m c 4 t ((idles t).trans (decide_eq_false (by omega)))])
    rw [e3, e4] at hp
    iapply (run_first c (grid0.coords t) (blk t.val) _ _ _ _ _ _ _ _ _ _ (B0 m c t) (B1 m c t) (B2 m c t) ((dats m 0 c).before 3 t d3) ((dats m 0 c).before 4 t d4) g o1 o2 ((conds t).mpr h) _)
    isplitl [HS H0 H1 H2 H3 H4]
    · iframe H0 H1 H2 H3 H4 HS
    iintro H
    iapply hp
    iframe H Hp HW
  · have e3 : (dats m 0 c).after 3 t = k0_pay3 (rows (blk t.val) g) (B2 m c t) := by rw [after3, hg (blk t.val) (by have := (blk t.val).isLt; omega)]
    have hp := post m c t _ _ (ok_later m c t (by omega) g hg) (leaves4 m c t (by omega) d4)
    rw [e3] at hp
    iapply (run_later c (grid0.coords t) (blk t.val) _ _ _ _ _ _ _ _ _ _ (B0 m c t) (B1 m c t) (B2 m c t) ((dats m 0 c).before 3 t d3) ((dats m 0 c).before 4 t d4) g o2 (fun hc => h ((conds t).mp hc)) _)
    isplitl [HS H0 H1 H2 H3 H4]
    · iframe H0 H1 H2 H3 H4 HS
    iintro H
    iapply hp
    iframe H Hp HW

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem enter (c : Dev nD) : Pipeline.ΦA spec0 c ⊢ (dats m 0 c).Φ 0 := by
  rw [show (dats m 0 c).Φ 0 = inv m c 0 from rfl]
  unfold Pipeline.ΦA inv owns
  rw [scopedRest0_eq]
  iintro ⟨⟨%f, H⟩, Hp⟩
  isplitl [H]
  · iexists (sc.view.read (Elt F) f)
    isplitr; · ipureintro; exact fun b h => absurd h (Nat.not_lt_zero _)
    iexists f
    isplitr; · ipureintro; rfl
    simp only [Memref.view, View.set_whole]; iexact H
  iexact Hp

theorem leave (c : Dev nD) : (dats m 0 c).Φ (Fin.last cfg0.N) ⊢ Pipeline.ΦA spec0 c := by
  rw [show (dats m 0 c).Φ (Fin.last cfg0.N) = inv m c cfg0.N from rfl]
  unfold Pipeline.ΦA inv owns
  rw [scopedRest0_eq]
  iintro ⟨⟨%g, -, %f, -, H⟩, Hp⟩
  isplitl [H]
  · iexists f; simp only [Memref.view, View.set_whole]; iexact H
  iexact Hp

set_option backward.isDefEq.respectTransparency.types false in
theorem run_main_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := enter m) (hout := leave m)

theorem run_main : θ_run defs (onTc (τ := τ) (main (F := F))) (s₀ m ρ) (Pipeline.FramePost cfgs (dats m) 0 (V m)) :=
  (θ_run defs _ _).mono (fun _ h => h.1) (run_main_quiescent m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.NormForwardIdeal.Hand

end
-- ==== Proof.NormForward.Blocks.lean ====
module

public import proofs.«01_k».proof.Proof.NormForward.Frame
public import Idealize.ShloMosaic.Lib.Pointwise

/-! A projection behind a norm: what the arrays hold after the grid. -/

@[expose] public section

set_option maxRecDepth 16384

noncomputable section

namespace Cert.NormForwardIdeal.Hand

open Cert.NormForwardIdeal Cert.NormForwardIdeal.Gen Idealize.ShloMosaic Idealize.ShloMosaic.TcCoe Idealize.SL.Sem
open Idealize.ShloMosaic.Pipeline (Dat)

variable (m : (ℓ : Loc nD τ sig) → Buf (Elt Ideal) ℓ)

/-- A normed element, and an element of its row's projection. -/
def U (h : FVec Ideal S4096x1024 .f32) (g : FVec Ideal S1x1024 .f32) (r : Fin 4096) (s : Fin 1024) : EReal :=
  h (ix2 r s) * Ideal.rsqrt (Ideal.div (∑ k : Fin 1024, h (ix2 r k) * h (ix2 r k)) (Ideal.ofBits .f32 0x44800000#32) + Ideal.ofBits .f32 0x358637BD#32)
    * g (ix2 0 s)
def O (h : FVec Ideal S4096x1024 .f32) (g : FVec Ideal S1x1024 .f32) (w : FVec Ideal S1024x6144 .f32) (r : Fin 4096) (s : Fin 6144) : EReal :=
  ∑ k : Fin 1024, U h g r k * w (ix2 k s)

/-- Which block each window takes at each grid point. -/
theorem idx : ∀ t : Fin cfg0.N, win0_0.index t = ![min t.val 3, 0] ∧ win0_1.index t = ![0, 0] ∧ win0_2.index t = ![t.val / 4, 0, 0]
   ∧ win0_3.index t = ![t.val % 4, t.val / 4] ∧ win0_4.index t = ![min t.val 3, 0] :=
  (by decide +kernel : ∀ t : Fin grid0.N, _)

/-- The weights as the grid finds them: four slabs. -/
theorem V_w (c : Dev nD) : V m c main_v2 = fun i : S4x1024x1536.Idx =>
    m ((c : Thread nD τ).loc main_arg2) (ix2 (i 1) ⟨(i 0 : ℕ) * 1536 + (i 2 : ℕ), by
      have h0 : (i 0 : ℕ) < 4 := (i 0).isLt
      have h2 : (i 2 : ℕ) < 1536 := (i 2).isLt
      omega⟩) := by
  unfold V
  simp only [hostOps0, List.flatten_cons, List.flatten_nil, List.append_nil, List.cons_append, List.nil_append]
  after_results
  funext i
  pointwise

/-- A block of normed rows. -/
theorem norm_at (c : Dev nD) (t : Fin cfg0.N) (y : S1024x1024.Idx) (r : Fin 4096) (s : Fin 1024) (hr : r.val = min t.val 3 * 1024 + y 0) (hs : s.val = y 1) :
    k0_pay1 (B0 m c t) (B1 m c t) y = U (m ((c : Thread nD τ).loc main_arg0)) (m ((c : Thread nD τ).loc main_arg1)) r s := by
  obtain ⟨i0, i1, i2, i3, i4⟩ := idx t
  unfold B0 B1
  open_payloads
  pointwise [U]
  blk_point [iblk, V, i0, i1]

theorem normed_at (c : Dev nD) (b : Fin 4) (x : Fin 1024) (s : Fin 1024) (r : Fin 4096) (hr : r.val = b.val * 1024 + x.val) :
    normed m c b (ix2 x s) = U (m ((c : Thread nD τ).loc main_arg0)) (m ((c : Thread nD τ).loc main_arg1)) r s := by
  have v : (pt b.val).val = b.val := Nat.mod_eq_of_lt (by omega)
  refine Eq.trans ?_ (norm_at m c (pt b.val) (ix2 x s) r s (by rw [v]; refine hr.trans ?_; rw [Nat.min_eq_left (by omega)]; rfl) rfl)
  unfold normed k0_pay2
  pointwise

/-- A block of their projection. -/
theorem block3 (c : Dev nD) (t : Fin cfg0.N) (y : S1024x1536.Idx) (r : Fin 4096) (s : Fin 6144)
    (hr : r.val = t.val % 4 * 1024 + y 0) (hs : s.val = t.val / 4 * 1536 + y 1) :
    k0_pay3 (normed m c (blk t.val)) (B2 m c t) y
      = O (m ((c : Thread nD τ).loc main_arg0)) (m ((c : Thread nD τ).loc main_arg1)) (m ((c : Thread nD τ).loc main_arg2)) r s := by
  obtain ⟨i0, i1, i2, i3, i4⟩ := idx t
  have ht : t.val < 16 := Nat.lt_of_lt_of_eq t.isLt N_0
  have hw := V_w m c
  unfold B2
  pointwise [k0_pay3, O]
  refine Finset.sum_congr rfl fun k _ => congrArg₂ (· * ·) (normed_at m c (blk t.val) (y 0) k r hr) ?_
  obtain ⟨s, hs'⟩ := s
  simp only [] at hs
  subst hs
  refine Eq.trans ?_ (congrFun hw (ix3 (⟨t.val / 4, by omega⟩ : Fin 4) k (y 1)))
  blk_ext [iblk, i2]

theorem final3 (c : Dev nD) : (dats m 0 c).arrAt 3 (cfgs 0).N
    = fun i => O (m ((c : Thread nD τ).loc main_arg0)) (m ((c : Thread nD τ).loc main_arg1)) (m ((c : Thread nD τ).loc main_arg2)) (i 0) (i 1) := by
  refine (dats m 0 c).arrAt_eq_of_covers 3 _ (by decide +kernel) fun t hf y => ?_
  blk_simp
  rw [after3]
  refine block3 m c t _ _ _ ?_ ?_ <;> (blk_simp [(idx t).2.2.2.1]; try omega)

theorem final4 (c : Dev nD) : (dats m 0 c).arrAt 4 (cfgs 0).N
    = fun i => U (m ((c : Thread nD τ).loc main_arg0)) (m ((c : Thread nD τ).loc main_arg1)) (i 0) (i 1) := by
  refine (dats m 0 c).arrAt_eq_of_covers 4 _ (by decide +kernel) fun t hf y => ?_
  have e : (pt (min t.val 3)).val = min t.val 3 := Nat.mod_eq_of_lt (by omega)
  blk_simp
  rw [after4]
  unfold last
  refine norm_at m c _ _ _ _ ?_ ?_ <;> (blk_simp [(idx t).2.2.2.2, e]; try omega)

end Cert.NormForwardIdeal.Hand

end
-- ==== Proof.NormForward.Claim.lean ====
module

public import proofs.«01_k».proof.Defs
public import proofs.«01_k».proof.Proof.Gen.NormForward
public import proofs.«01_k».proof.Proof.Gen.NormForwardRefIdeal.Run
public import proofs.«01_k».proof.Proof.Gen.NormForwardRefIdeal.Read
public import proofs.«01_k».proof.Proof.NormForward.Blocks
public import Idealize.ShloMosaic.Lib.Claim

/-! A projection behind a norm: what the reference's arrays are, the equation of the two programs, the frames. -/

@[expose] public section

set_option maxRecDepth 16384

noncomputable section

namespace Cert.NormForwardIdeal.Hand

open Idealize.ShloMosaic Idealize.ShloMosaic.TcCoe
open Idealize.SL.Sem
open Cert.NormForwardRefIdeal.Read

variable (h : FVec Ideal S4096x1024 .f32) (g : FVec Ideal S1x1024 .f32) (w : FVec Ideal S1024x6144 .f32)

theorem ref_u (r : Fin 4096) (s : Fin 1024) : val_main_v11 (F := Ideal) h g (ix2 r s) = U h g r s := by
  pointwise [U, val_main_v11, val_main_v10, val_main_v9, val_main_v8, val_main_v7, val_main_v6, val_main_v5, val_main_cst_1, val_main_v4, val_main_v3,
    val_main_cst_0, val_main_v2, val_main_v1, val_main_cst, val_main_v0]

theorem ref0 (i : S4096x6144.Idx) : val_main_v13 (F := Ideal) h g w i = O h g w (i 0) (i 1) := by
  pointwise [O, val_main_v13, val_main_v12]
  exact Finset.sum_congr rfl fun k _ => congrArg (· * _) (ref_u h g (i 0) k)

theorem ref1 (i : S4096x1024.Idx) : val_main_v14 (F := Ideal) h g i = U h g (i 0) (i 1) := by
  refine Eq.trans ?_ (ref_u h g (i 0) (i 1))
  pointwise [val_main_v14]

/-- The kernel's two results are the reference's. -/
theorem algebraic : Cert.algebraic_NormForwardIdeal_NormForwardRefIdeal
    (hNormForwardIdeal := Cert.NormForwardIdeal.Gen.facts) (hNormForwardRefIdeal := Cert.NormForwardRefIdeal.Gen.facts) := by
  intro m g m' g' hpre hagree
  refine ⟨_, _, ?_, θ_run_mono (Cert.NormForwardRefIdeal.Value.run m' g') fun r h c => h c⟩
  refine θ_run_mono (θ_run_and (run_main m g) (frame m g)) fun r h c => ?_
  obtain ⟨hr, hk⟩ := h
  obtain ⟨a0, a1, a2⟩ := hagree c
  refine ⟨((hr c).1 3).trans (funext fun i => ?_), ((hr c).1 4).trans (funext fun i => ?_), hk.1 c⟩
  · rw [Cert.NormForwardRefIdeal.Read.val_main_v13_eq, final3, a0, a1, a2]
    exact (ref0 _ _ _ i).symm
  · rw [Cert.NormForwardRefIdeal.Read.val_main_v14_eq, final4, a0, a1]
    exact (ref1 _ _ i).symm

/-- The program as compiled and its ideal reading have one body table: their texts agree. -/
theorem defs_eq : Cert.NormForward.defs (F := Bits) = Cert.NormForwardIdeal.defs (F := Bits) := by sl_kernel_rfl

/-- The frame of the program as compiled is the ideal program's run, at the bit patterns. -/
theorem frame_kernel : Cert.quiescent_NormForward (hNormForward := Cert.NormForward.Gen.facts) := fun m ρ _ => by
  have h := Cert.NormForwardIdeal.Hand.frame (F := Bits) m ρ
  rw [← defs_eq] at h
  exact h

/-- The reference's frame: host operations only, none of which writes an argument, and no semaphore. -/
theorem frame_reference : Cert.quiescent_NormForwardRefIdeal (hNormForwardRefIdeal := Cert.NormForwardRefIdeal.Gen.facts) := fun m ρ _ =>
  θ_run_mono (Cert.NormForwardRefIdeal.Value.run m ρ) fun r h => ⟨fun c => (h c).2.2, sem_eq_zero_of_no_sems (by decide) r.2⟩

end Cert.NormForwardIdeal.Hand

end
-- ==== Proof.lean ====
module

public import proofs.«01_k».proof.Defs
public import proofs.«01_k».proof.Proof.Gen.SbGate
public import proofs.«01_k».proof.Proof.Gen.SbGateIdeal
public import proofs.«01_k».proof.Proof.Gen.SbGateIdeal.Value
public import proofs.«01_k».proof.Proof.Gen.SbGateRefIdeal.Read
public import proofs.«01_k».proof.Proof.SbGate.Claim
public import proofs.«01_k».proof.Proof.Gen.Pre_gate_finite
public import proofs.«01_k».proof.Proof.Gen.On_gate_written
public import proofs.«01_k».proof.Proof.Gen.SbGrad
public import proofs.«01_k».proof.Proof.Gen.SbGradIdeal
public import proofs.«01_k».proof.Proof.Gen.SbGradIdeal.Skeleton
public import proofs.«01_k».proof.Proof.Gen.SbGradIdeal.Loops
public import proofs.«01_k».proof.Proof.Gen.SbGradIdeal.Launch
public import proofs.«01_k».proof.Proof.Gen.SbGradIdeal.Points
public import proofs.«01_k».proof.Proof.Gen.SbGradIdeal.Frame
public import proofs.«01_k».proof.Proof.Gen.SbGradRefIdeal.Run
public import proofs.«01_k».proof.Proof.Gen.SbGradRefIdeal.Read
public import proofs.«01_k».proof.Proof.SbGrad.Claim
public import proofs.«01_k».proof.Proof.Gen.Pre_attn_finite
public import proofs.«01_k».proof.Proof.Gen.PoolGate
public import proofs.«01_k».proof.Proof.Gen.PoolGateIdeal
public import proofs.«01_k».proof.Proof.Gen.PoolGateIdeal.Value
public import proofs.«01_k».proof.Proof.Gen.PoolGateRefIdeal.Read
public import proofs.«01_k».proof.Proof.PoolGate.Claim
public import proofs.«01_k».proof.Proof.Gen.Pre_pgate_finite
public import proofs.«01_k».proof.Proof.Gen.On_pgate_written
public import proofs.«01_k».proof.Proof.Gen.LossHead
public import proofs.«01_k».proof.Proof.Gen.LossHeadIdeal
public import proofs.«01_k».proof.Proof.Gen.LossHeadIdeal.Value
public import proofs.«01_k».proof.Proof.Gen.LossHeadRefIdeal.Read
public import proofs.«01_k».proof.Proof.LossHead.Claim
public import proofs.«01_k».proof.Proof.Gen.Pre_loss_finite
public import proofs.«01_k».proof.Proof.Gen.PoolGrad
public import proofs.«01_k».proof.Proof.Gen.PoolGradIdeal
public import proofs.«01_k».proof.Proof.Gen.PoolGradIdeal.Value
public import proofs.«01_k».proof.Proof.Gen.PoolGradRefIdeal.Read
public import proofs.«01_k».proof.Proof.PoolGrad.Claim
public import proofs.«01_k».proof.Proof.Gen.Pre_poolb_finite
public import proofs.«01_k».proof.Proof.Gen.NormGrad
public import proofs.«01_k».proof.Proof.Gen.NormGradIdeal
public import proofs.«01_k».proof.Proof.Gen.NormGradIdeal.Skeleton
public import proofs.«01_k».proof.Proof.Gen.NormGradIdeal.Launch
public import proofs.«01_k».proof.Proof.Gen.NormGradIdeal.Points
public import proofs.«01_k».proof.Proof.Gen.NormGradIdeal.Frame
public import proofs.«01_k».proof.Proof.Gen.NormGradRefIdeal.Run
public import proofs.«01_k».proof.Proof.Gen.NormGradRefIdeal.Read
public import proofs.«01_k».proof.Proof.NormGrad.Claim
public import proofs.«01_k».proof.Proof.Gen.Pre_rmsb_finite
public import proofs.«01_k».proof.Proof.Gen.SbForward
public import proofs.«01_k».proof.Proof.Gen.SbForwardIdeal
public import proofs.«01_k».proof.Proof.Gen.SbForwardIdeal.Skeleton
public import proofs.«01_k».proof.Proof.Gen.SbForwardIdeal.Loops
public import proofs.«01_k».proof.Proof.Gen.SbForwardIdeal.Launch
public import proofs.«01_k».proof.Proof.Gen.SbForwardIdeal.Points
public import proofs.«01_k».proof.Proof.Gen.SbForwardIdeal.Frame
public import proofs.«01_k».proof.Proof.Gen.SbForwardRefIdeal.Run
public import proofs.«01_k».proof.Proof.Gen.SbForwardRefIdeal.Read
public import proofs.«01_k».proof.Proof.SbForward.Claim
public import proofs.«01_k».proof.Proof.Gen.Pre_afwd_finite
public import proofs.«01_k».proof.Proof.Gen.PoolForward
public import proofs.«01_k».proof.Proof.Gen.PoolForwardIdeal
public import proofs.«01_k».proof.Proof.Gen.PoolForwardIdeal.Value
public import proofs.«01_k».proof.Proof.Gen.PoolForwardRefIdeal.Read
public import proofs.«01_k».proof.Proof.PoolForward.Claim
public import proofs.«01_k».proof.Proof.Gen.Pre_pfwd_finite
public import proofs.«01_k».proof.Proof.Gen.NormForward
public import proofs.«01_k».proof.Proof.Gen.NormForwardIdeal
public import proofs.«01_k».proof.Proof.Gen.NormForwardIdeal.Skeleton
public import proofs.«01_k».proof.Proof.Gen.NormForwardIdeal.Launch
public import proofs.«01_k».proof.Proof.Gen.NormForwardIdeal.Points
public import proofs.«01_k».proof.Proof.Gen.NormForwardIdeal.Frame
public import proofs.«01_k».proof.Proof.Gen.NormForwardRefIdeal.Run
public import proofs.«01_k».proof.Proof.Gen.NormForwardRefIdeal.Read
public import proofs.«01_k».proof.Proof.NormForward.Claim

/-! The certificate: for every kernel the frames of the program as compiled, of its ideal reading and of its reference, that
    the ideal reading keeps the text, and that it computes what the reference computes. -/

@[expose] public section

theorem Cert.Proof.claim : Cert.Claim :=
  ⟨Cert.SbGate.Gen.facts, Cert.SbGateIdeal.Gen.facts, Cert.SbGateRefIdeal.Gen.facts, Cert.SbGrad.Gen.facts, Cert.SbGradIdeal.Gen.facts, Cert.SbGradRefIdeal.Gen.facts, Cert.PoolGate.Gen.facts, Cert.PoolGateIdeal.Gen.facts, Cert.PoolGateRefIdeal.Gen.facts, Cert.LossHead.Gen.facts, Cert.LossHeadIdeal.Gen.facts, Cert.LossHeadRefIdeal.Gen.facts, Cert.PoolGrad.Gen.facts, Cert.PoolGradIdeal.Gen.facts, Cert.PoolGradRefIdeal.Gen.facts, Cert.NormGrad.Gen.facts, Cert.NormGradIdeal.Gen.facts, Cert.NormGradRefIdeal.Gen.facts, Cert.SbForward.Gen.facts, Cert.SbForwardIdeal.Gen.facts, Cert.SbForwardRefIdeal.Gen.facts, Cert.PoolForward.Gen.facts, Cert.PoolForwardIdeal.Gen.facts, Cert.PoolForwardRefIdeal.Gen.facts, Cert.NormForward.Gen.facts, Cert.NormForwardIdeal.Gen.facts, Cert.NormForwardRefIdeal.Gen.facts, Cert.Pre_gate_finite.Gen.facts, Cert.Pre_attn_finite.Gen.facts, Cert.Pre_pgate_finite.Gen.facts, Cert.Pre_loss_finite.Gen.facts, Cert.Pre_poolb_finite.Gen.facts, Cert.Pre_rmsb_finite.Gen.facts, Cert.Pre_afwd_finite.Gen.facts, Cert.Pre_pfwd_finite.Gen.facts, Cert.On_gate_written.Gen.facts, Cert.On_pgate_written.Gen.facts,
   Cert.SbGateIdeal.Hand.frame_kernel,
   fun m ρ _ => Cert.SbGateIdeal.Gen.frame m ρ,
   fun m ρ _ => Cert.SbGateIdeal.Gen.frame m ρ,
   Cert.SbGateIdeal.Hand.frame_reference,
   fun m ρ _ => Cert.SbGateIdeal.Hand.frame_reference m ρ trivial,
   Cert.SbGradIdeal.Hand.frame_kernel,
   fun m ρ _ => Cert.SbGradIdeal.Hand.frame_of_run m ρ,
   fun m ρ _ => Cert.SbGradIdeal.Hand.frame_of_run m ρ,
   Cert.SbGradIdeal.Hand.frame_reference,
   fun m ρ _ => Cert.SbGradIdeal.Hand.frame_reference m ρ trivial,
   Cert.PoolGateIdeal.Hand.frame_kernel,
   fun m ρ _ => Cert.PoolGateIdeal.Gen.frame m ρ,
   fun m ρ _ => Cert.PoolGateIdeal.Gen.frame m ρ,
   Cert.PoolGateIdeal.Hand.frame_reference,
   fun m ρ _ => Cert.PoolGateIdeal.Hand.frame_reference m ρ trivial,
   Cert.LossHeadIdeal.Hand.frame_kernel,
   fun m ρ _ => Cert.LossHeadIdeal.Gen.frame m ρ,
   fun m ρ _ => Cert.LossHeadIdeal.Gen.frame m ρ,
   Cert.LossHeadIdeal.Hand.frame_reference,
   fun m ρ _ => Cert.LossHeadIdeal.Hand.frame_reference m ρ trivial,
   Cert.PoolGradIdeal.Hand.frame_kernel,
   fun m ρ _ => Cert.PoolGradIdeal.Gen.frame m ρ,
   fun m ρ _ => Cert.PoolGradIdeal.Gen.frame m ρ,
   Cert.PoolGradIdeal.Hand.frame_reference,
   fun m ρ _ => Cert.PoolGradIdeal.Hand.frame_reference m ρ trivial,
   Cert.NormGradIdeal.Hand.frame_kernel,
   fun m ρ _ => Cert.NormGradIdeal.Hand.frame m ρ,
   fun m ρ _ => Cert.NormGradIdeal.Hand.frame m ρ,
   Cert.NormGradIdeal.Hand.frame_reference,
   fun m ρ _ => Cert.NormGradIdeal.Hand.frame_reference m ρ trivial,
   Cert.SbForwardIdeal.Hand.frame_kernel,
   fun m ρ _ => Cert.SbForwardIdeal.Hand.frame m ρ,
   fun m ρ _ => Cert.SbForwardIdeal.Hand.frame m ρ,
   Cert.SbForwardIdeal.Hand.frame_reference,
   fun m ρ _ => Cert.SbForwardIdeal.Hand.frame_reference m ρ trivial,
   Cert.PoolForwardIdeal.Hand.frame_kernel,
   fun m ρ _ => Cert.PoolForwardIdeal.Gen.frame m ρ,
   fun m ρ _ => Cert.PoolForwardIdeal.Gen.frame m ρ,
   Cert.PoolForwardIdeal.Hand.frame_reference,
   fun m ρ _ => Cert.PoolForwardIdeal.Hand.frame_reference m ρ trivial,
   Cert.NormForwardIdeal.Hand.frame_kernel,
   fun m ρ _ => Cert.NormForwardIdeal.Hand.frame m ρ,
   Cert.NormForwardIdeal.Hand.frame_reference,
   trivial,
   Cert.SbGateIdeal.Hand.algebraic,
   Idealize.ShloMosaic.IdealRules.named_const.statement Cert.SbGradIdeal.κ "neg_log2e" .f32 0xBFB8AA3B#32 ((-((Real.log 2)⁻¹) : ℝ) : EReal) rfl,
   Cert.SbGradIdeal.Hand.algebraic,
   trivial,
   Cert.PoolGateIdeal.Hand.algebraic,
   trivial,
   Cert.LossHeadIdeal.Hand.algebraic,
   trivial,
   Cert.PoolGradIdeal.Hand.algebraic,
   trivial,
   Cert.NormGradIdeal.Hand.algebraic,
   Idealize.ShloMosaic.IdealRules.named_const.statement Cert.SbForwardIdeal.κ "neg_log2e" .f32 0xBFB8AA3B#32 ((-((Real.log 2)⁻¹) : ℝ) : EReal) rfl,
   Cert.SbForwardIdeal.Hand.algebraic,
   trivial,
   Cert.PoolForwardIdeal.Hand.algebraic,
   trivial,
   Cert.NormForwardIdeal.Hand.algebraic⟩

end
